-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_MixerKernel (m : (ℓ : Loc Cert.MixerKernel.nD Cert.MixerKernel.τ Cert.MixerKernel.sig) → Buf (Elt Bits) ℓ) : Prop :=
  True

def Pre_MixerKernelIdeal (m : (ℓ : Loc Cert.MixerKernelIdeal.nD Cert.MixerKernelIdeal.τ Cert.MixerKernelIdeal.sig) → Buf (Elt Ideal) ℓ) : Prop :=
  True

def Pre_MixerKernelIdeal_finite_mixer [hPre_finite_mixer : Cert.Pre_finite_mixer.Facts] (m : (ℓ : Loc Cert.MixerKernelIdeal.nD Cert.MixerKernelIdeal.τ Cert.MixerKernelIdeal.sig) → Buf (Elt Ideal) ℓ) : Prop :=
  ∀ c : Dev Cert.MixerKernelIdeal.nD,
    (Cert.Pre_finite_mixer.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13))) = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_finite_mixer [hPre_finite_mixer : Cert.Pre_finite_mixer.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_finite_mixer.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10)) (m ((c.tc : Thread Cert.MixerReferenceIdeal.nD Cert.MixerReferenceIdeal.τ).loc Cert.MixerReferenceIdeal.main_arg11)) (m ((c.tc : Thread Cert.MixerReferenceIdeal.nD Cert.MixerReferenceIdeal.τ).loc Cert.MixerReferenceIdeal.main_arg12)) (m ((c.tc : Thread Cert.MixerReferenceIdeal.nD Cert.MixerReferenceIdeal.τ).loc Cert.MixerReferenceIdeal.main_arg13))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_finite_proj [hPre_finite_proj : Cert.Pre_finite_proj.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixerKernel [hMixerKernel : Cert.MixerKernel.Facts] : Prop :=
  ∀ (m : (ℓ : Loc Cert.MixerKernel.nD Cert.MixerKernel.τ Cert.MixerKernel.sig) → Buf (Elt Bits) ℓ) (g : Dev Cert.MixerKernel.nD → PrngReg), Pre_MixerKernel m →
    θ_run (Cert.MixerKernel.defs (F := Bits)) (onTc (τ := Cert.MixerKernel.τ) (Cert.MixerKernel.main (F := Bits))) ⟨m, fun _ => 0, g⟩ (fun r => (∀ c : Dev Cert.MixerKernel.nD,
      r.2.mem ((c.tc : Thread Cert.MixerKernel.nD Cert.MixerKernel.τ).loc Cert.MixerKernel.main_arg0) = m ((c.tc : Thread Cert.MixerKernel.nD Cert.MixerKernel.τ).loc Cert.MixerKernel.main_arg0)
      ∧ r.2.mem ((c.tc : Thread Cert.MixerKernel.nD Cert.MixerKernel.τ).loc Cert.MixerKernel.main_arg1) = m ((c.tc : Thread Cert.MixerKernel.nD Cert.MixerKernel.τ).loc Cert.MixerKernel.main_arg1)
      ∧ r.2.mem ((c.tc : Thread Cert.MixerKernel.nD Cert.MixerKernel.τ).loc Cert.MixerKernel.main_arg2) = m ((c.tc : Thread Cert.MixerKernel.nD Cert.MixerKernel.τ).loc Cert.MixerKernel.main_arg2)
      ∧ r.2.mem ((c.tc : Thread Cert.MixerKernel.nD Cert.MixerKernel.τ).loc Cert.MixerKernel.main_arg3) = m ((c.tc : Thread Cert.MixerKernel.nD Cert.MixerKernel.τ).loc Cert.MixerKernel.main_arg3)
      ∧ r.2.mem ((c.tc : Thread Cert.MixerKernel.nD Cert.MixerKernel.τ).loc Cert.MixerKernel.main_arg4) = m ((c.tc : Thread Cert.MixerKernel.nD Cert.MixerKernel.τ).loc Cert.MixerKernel.main_arg4)
      ∧ r.2.mem ((c.tc : Thread Cert.MixerKernel.nD Cert.MixerKernel.τ).loc Cert.MixerKernel.main_arg5) = m ((c.tc : Thread Cert.MixerKernel.nD Cert.MixerKernel.τ).loc Cert.MixerKernel.main_arg5)
      ∧ r.2.mem ((c.tc : Thread Cert.MixerKernel.nD Cert.MixerKernel.τ).loc Cert.MixerKernel.main_arg6) = m ((c.tc : Thread Cert.MixerKernel.nD Cert.MixerKernel.τ).loc Cert.MixerKernel.main_arg6)
      ∧ r.2.mem ((c.tc : Thread Cert.MixerKernel.nD Cert.MixerKernel.τ).loc Cert.MixerKernel.main_arg7) = m ((c.tc : Thread Cert.MixerKernel.nD Cert.MixerKernel.τ).loc Cert.MixerKernel.main_arg7)
      ∧ r.2.mem ((c.tc : Thread Cert.MixerKernel.nD Cert.MixerKernel.τ).loc Cert.MixerKernel.main_arg8) = m ((c.tc : Thread Cert.MixerKernel.nD Cert.MixerKernel.τ).loc Cert.MixerKernel.main_arg8)
      ∧ r.2.mem ((c.tc : Thread Cert.MixerKernel.nD Cert.MixerKernel.τ).loc Cert.MixerKernel.main_arg9) = m ((c.tc : Thread Cert.MixerKernel.nD Cert.MixerKernel.τ).loc Cert.MixerKernel.main_arg9)
      ∧ r.2.mem ((c.tc : Thread Cert.MixerKernel.nD Cert.MixerKernel.τ).loc Cert.MixerKernel.main_arg10) = m ((c.tc : Thread Cert.MixerKernel.nD Cert.MixerKernel.τ).loc Cert.MixerKernel.main_arg10)
      ∧ r.2.mem ((c.tc : Thread Cert.MixerKernel.nD Cert.MixerKernel.τ).loc Cert.MixerKernel.main_arg11) = m ((c.tc : Thread Cert.MixerKernel.nD Cert.MixerKernel.τ).loc Cert.MixerKernel.main_arg11)
      ∧ r.2.mem ((c.tc : Thread Cert.MixerKernel.nD Cert.MixerKernel.τ).loc Cert.MixerKernel.main_arg12) = m ((c.tc : Thread Cert.MixerKernel.nD Cert.MixerKernel.τ).loc Cert.MixerKernel.main_arg12)
      ∧ r.2.mem ((c.tc : Thread Cert.MixerKernel.nD Cert.MixerKernel.τ).loc Cert.MixerKernel.main_arg13) = m ((c.tc : Thread Cert.MixerKernel.nD Cert.MixerKernel.τ).loc Cert.MixerKernel.main_arg13))
      ∧ r.2.sem = fun _ => 0)

def quiescent_MixerKernelIdeal [hMixerKernelIdeal : Cert.MixerKernelIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
      ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
      ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
      ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
      ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
      ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
      ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13))
      ∧ r.2.sem = fun _ => 0)

def quiescent_MixerKernelIdeal_pre_finite_mixer [hMixerKernelIdeal : Cert.MixerKernelIdeal.Facts] [hPre_finite_mixer : Cert.Pre_finite_mixer.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal_finite_mixer m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
      ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
      ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
      ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
      ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
      ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
      ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13))
      ∧ r.2.sem = fun _ => 0)

def quiescent_MixerReferenceIdeal_pre_finite_mixer [hMixerReferenceIdeal : Cert.MixerReferenceIdeal.Facts] [hPre_finite_mixer : Cert.Pre_finite_mixer.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_finite_mixer m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjKernelIdeal_pre_finite_proj [hProjKernelIdeal : Cert.ProjKernelIdeal.Facts] [hPre_finite_proj : Cert.Pre_finite_proj.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_finite_proj m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v58) = v1 c
          ∧ r.2.mem ((c.tc : Thread Cert.LossReferenceIdeal.nD Cert.LossReferenceIdeal.τ).loc Cert.LossReferenceIdeal.main_v59) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v23_0)) (v1 : (c : Dev Cert.FfnKernelIdeal.nD) → Buf (Elt Ideal) ((c.tc : Thread Cert.FfnKernelIdeal.nD Cert.FfnKernelIdeal.τ).loc Cert.FfnKernelIdeal.main_v23_1)) (v2 : (c : Dev Cert.FfnKernelIdeal.nD) → Buf (Elt Ideal) ((c.tc : Thread Cert.FfnKernelIdeal.nD Cert.FfnKernelIdeal.τ).loc Cert.FfnKernelIdeal.main_v23_2)) (v3 : (c : Dev Cert.FfnKernelIdeal.nD) → Buf (Elt Ideal) ((c.tc : Thread Cert.FfnKernelIdeal.nD Cert.FfnKernelIdeal.τ).loc Cert.FfnKernelIdeal.main_v23_3)) (v4 : (c : Dev Cert.FfnKernelIdeal.nD) → Buf (Elt Ideal) ((c.tc : Thread Cert.FfnKernelIdeal.nD Cert.FfnKernelIdeal.τ).loc Cert.FfnKernelIdeal.main_v23_4)) (v5 : (c : Dev Cert.FfnKernelIdeal.nD) → Buf (Elt Ideal) ((c.tc : Thread Cert.FfnKernelIdeal.nD Cert.FfnKernelIdeal.τ).loc Cert.FfnKernelIdeal.main_v23_5)) (v6 : (c : Dev Cert.FfnKernelIdeal.nD) → Buf (Elt Ideal) ((c.tc : Thread Cert.FfnKernelIdeal.nD Cert.FfnKernelIdeal.τ).loc Cert.FfnKernelIdeal.main_v23_6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v23_0) = v0 c
          ∧ r.2.mem ((c.tc : Thread Cert.FfnKernelIdeal.nD Cert.FfnKernelIdeal.τ).loc Cert.FfnKernelIdeal.main_v23_1) = v1 c
          ∧ r.2.mem ((c.tc : Thread Cert.FfnKernelIdeal.nD Cert.FfnKernelIdeal.τ).loc Cert.FfnKernelIdeal.main_v23_2) = v2 c
          ∧ r.2.mem ((c.tc : Thread Cert.FfnKernelIdeal.nD Cert.FfnKernelIdeal.τ).loc Cert.FfnKernelIdeal.main_v23_3) = v3 c
          ∧ r.2.mem ((c.tc : Thread Cert.FfnKernelIdeal.nD Cert.FfnKernelIdeal.τ).loc Cert.FfnKernelIdeal.main_v23_4) = v4 c
          ∧ r.2.mem ((c.tc : Thread Cert.FfnKernelIdeal.nD Cert.FfnKernelIdeal.τ).loc Cert.FfnKernelIdeal.main_v23_5) = v5 c
          ∧ r.2.mem ((c.tc : Thread Cert.FfnKernelIdeal.nD Cert.FfnKernelIdeal.τ).loc Cert.FfnKernelIdeal.main_v23_6) = v6 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v54) = v0 c
          ∧ r.2.mem ((c.tc : Thread Cert.FfnReferenceIdeal.nD Cert.FfnReferenceIdeal.τ).loc Cert.FfnReferenceIdeal.main_v85) = v1 c
          ∧ r.2.mem ((c.tc : Thread Cert.FfnReferenceIdeal.nD Cert.FfnReferenceIdeal.τ).loc Cert.FfnReferenceIdeal.main_v86) = v2 c
          ∧ r.2.mem ((c.tc : Thread Cert.FfnReferenceIdeal.nD Cert.FfnReferenceIdeal.τ).loc Cert.FfnReferenceIdeal.main_v87) = v3 c
          ∧ r.2.mem ((c.tc : Thread Cert.FfnReferenceIdeal.nD Cert.FfnReferenceIdeal.τ).loc Cert.FfnReferenceIdeal.main_v88) = v4 c
          ∧ r.2.mem ((c.tc : Thread Cert.FfnReferenceIdeal.nD Cert.FfnReferenceIdeal.τ).loc Cert.FfnReferenceIdeal.main_v89) = v5 c
          ∧ r.2.mem ((c.tc : Thread Cert.FfnReferenceIdeal.nD Cert.FfnReferenceIdeal.τ).loc Cert.FfnReferenceIdeal.main_v90) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixerKernel_MixerKernelIdeal : Prop :=
  True

def algebraic_MixerKernelIdeal_MixerReferenceIdeal_pre_finite_mixer [hMixerKernelIdeal : Cert.MixerKernelIdeal.Facts] [hMixerReferenceIdeal : Cert.MixerReferenceIdeal.Facts] [hPre_finite_mixer : Cert.Pre_finite_mixer.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerKernelIdeal_finite_mixer m →
    (∀ c : Dev Cert.MixerKernelIdeal.nD,
      m' ((c.tc : Thread Cert.MixerReferenceIdeal.nD Cert.MixerReferenceIdeal.τ).loc Cert.MixerReferenceIdeal.main_arg0) = m ((c.tc : Thread Cert.MixerKernelIdeal.nD Cert.MixerKernelIdeal.τ).loc Cert.MixerKernelIdeal.main_arg0)
      ∧ m' ((c.tc : Thread Cert.MixerReferenceIdeal.nD Cert.MixerReferenceIdeal.τ).loc Cert.MixerReferenceIdeal.main_arg1) = m ((c.tc : Thread Cert.MixerKernelIdeal.nD Cert.MixerKernelIdeal.τ).loc Cert.MixerKernelIdeal.main_arg1)
      ∧ m' ((c.tc : Thread Cert.MixerReferenceIdeal.nD Cert.MixerReferenceIdeal.τ).loc Cert.MixerReferenceIdeal.main_arg2) = m ((c.tc : Thread Cert.MixerKernelIdeal.nD Cert.MixerKernelIdeal.τ).loc Cert.MixerKernelIdeal.main_arg2)
      ∧ m' ((c.tc : Thread Cert.MixerReferenceIdeal.nD Cert.MixerReferenceIdeal.τ).loc Cert.MixerReferenceIdeal.main_arg3) = m ((c.tc : Thread Cert.MixerKernelIdeal.nD Cert.MixerKernelIdeal.τ).loc Cert.MixerKernelIdeal.main_arg3)
      ∧ m' ((c.tc : Thread Cert.MixerReferenceIdeal.nD Cert.MixerReferenceIdeal.τ).loc Cert.MixerReferenceIdeal.main_arg4) = m ((c.tc : Thread Cert.MixerKernelIdeal.nD Cert.MixerKernelIdeal.τ).loc Cert.MixerKernelIdeal.main_arg4)
      ∧ m' ((c.tc : Thread Cert.MixerReferenceIdeal.nD Cert.MixerReferenceIdeal.τ).loc Cert.MixerReferenceIdeal.main_arg5) = m ((c.tc : Thread Cert.MixerKernelIdeal.nD Cert.MixerKernelIdeal.τ).loc Cert.MixerKernelIdeal.main_arg5)
      ∧ m' ((c.tc : Thread Cert.MixerReferenceIdeal.nD Cert.MixerReferenceIdeal.τ).loc Cert.MixerReferenceIdeal.main_arg6) = m ((c.tc : Thread Cert.MixerKernelIdeal.nD Cert.MixerKernelIdeal.τ).loc Cert.MixerKernelIdeal.main_arg6)
      ∧ m' ((c.tc : Thread Cert.MixerReferenceIdeal.nD Cert.MixerReferenceIdeal.τ).loc Cert.MixerReferenceIdeal.main_arg7) = m ((c.tc : Thread Cert.MixerKernelIdeal.nD Cert.MixerKernelIdeal.τ).loc Cert.MixerKernelIdeal.main_arg7)
      ∧ m' ((c.tc : Thread Cert.MixerReferenceIdeal.nD Cert.MixerReferenceIdeal.τ).loc Cert.MixerReferenceIdeal.main_arg8) = m ((c.tc : Thread Cert.MixerKernelIdeal.nD Cert.MixerKernelIdeal.τ).loc Cert.MixerKernelIdeal.main_arg8)
      ∧ m' ((c.tc : Thread Cert.MixerReferenceIdeal.nD Cert.MixerReferenceIdeal.τ).loc Cert.MixerReferenceIdeal.main_arg9) = m ((c.tc : Thread Cert.MixerKernelIdeal.nD Cert.MixerKernelIdeal.τ).loc Cert.MixerKernelIdeal.main_arg9)
      ∧ m' ((c.tc : Thread Cert.MixerReferenceIdeal.nD Cert.MixerReferenceIdeal.τ).loc Cert.MixerReferenceIdeal.main_arg10) = m ((c.tc : Thread Cert.MixerKernelIdeal.nD Cert.MixerKernelIdeal.τ).loc Cert.MixerKernelIdeal.main_arg10)
      ∧ m' ((c.tc : Thread Cert.MixerReferenceIdeal.nD Cert.MixerReferenceIdeal.τ).loc Cert.MixerReferenceIdeal.main_arg11) = m ((c.tc : Thread Cert.MixerKernelIdeal.nD Cert.MixerKernelIdeal.τ).loc Cert.MixerKernelIdeal.main_arg11)
      ∧ m' ((c.tc : Thread Cert.MixerReferenceIdeal.nD Cert.MixerReferenceIdeal.τ).loc Cert.MixerReferenceIdeal.main_arg12) = m ((c.tc : Thread Cert.MixerKernelIdeal.nD Cert.MixerKernelIdeal.τ).loc Cert.MixerKernelIdeal.main_arg12)
      ∧ m' ((c.tc : Thread Cert.MixerReferenceIdeal.nD Cert.MixerReferenceIdeal.τ).loc Cert.MixerReferenceIdeal.main_arg13) = m ((c.tc : Thread Cert.MixerKernelIdeal.nD Cert.MixerKernelIdeal.τ).loc Cert.MixerKernelIdeal.main_arg13)) →
    ∃ (v0 : (c : Dev Cert.MixerKernelIdeal.nD) → Buf (Elt Ideal) ((c.tc : Thread Cert.MixerKernelIdeal.nD Cert.MixerKernelIdeal.τ).loc Cert.MixerKernelIdeal.main_v131_0)) (v1 : (c : Dev Cert.MixerKernelIdeal.nD) → Buf (Elt Ideal) ((c.tc : Thread Cert.MixerKernelIdeal.nD Cert.MixerKernelIdeal.τ).loc Cert.MixerKernelIdeal.main_v131_1)) (v2 : (c : Dev Cert.MixerKernelIdeal.nD) → Buf (Elt Ideal) ((c.tc : Thread Cert.MixerKernelIdeal.nD Cert.MixerKernelIdeal.τ).loc Cert.MixerKernelIdeal.main_v131_2)) (v3 : (c : Dev Cert.MixerKernelIdeal.nD) → Buf (Elt Ideal) ((c.tc : Thread Cert.MixerKernelIdeal.nD Cert.MixerKernelIdeal.τ).loc Cert.MixerKernelIdeal.main_v131_3)) (v4 : (c : Dev Cert.MixerKernelIdeal.nD) → Buf (Elt Ideal) ((c.tc : Thread Cert.MixerKernelIdeal.nD Cert.MixerKernelIdeal.τ).loc Cert.MixerKernelIdeal.main_v131_4)) (v5 : (c : Dev Cert.MixerKernelIdeal.nD) → Buf (Elt Ideal) ((c.tc : Thread Cert.MixerKernelIdeal.nD Cert.MixerKernelIdeal.τ).loc Cert.MixerKernelIdeal.main_v131_5)),
      θ_run (Cert.MixerKernelIdeal.defs (F := Ideal)) (onTc (τ := Cert.MixerKernelIdeal.τ) (Cert.MixerKernelIdeal.main (F := Ideal))) ⟨m, fun _ => 0, g⟩ (fun r => ∀ c : Dev Cert.MixerKernelIdeal.nD,
          r.2.mem ((c.tc : Thread Cert.MixerKernelIdeal.nD Cert.MixerKernelIdeal.τ).loc Cert.MixerKernelIdeal.main_v131_0) = v0 c
          ∧ r.2.mem ((c.tc : Thread Cert.MixerKernelIdeal.nD Cert.MixerKernelIdeal.τ).loc Cert.MixerKernelIdeal.main_v131_1) = v1 c
          ∧ r.2.mem ((c.tc : Thread Cert.MixerKernelIdeal.nD Cert.MixerKernelIdeal.τ).loc Cert.MixerKernelIdeal.main_v131_2) = v2 c
          ∧ r.2.mem ((c.tc : Thread Cert.MixerKernelIdeal.nD Cert.MixerKernelIdeal.τ).loc Cert.MixerKernelIdeal.main_v131_3) = v3 c
          ∧ r.2.mem ((c.tc : Thread Cert.MixerKernelIdeal.nD Cert.MixerKernelIdeal.τ).loc Cert.MixerKernelIdeal.main_v131_4) = v4 c
          ∧ r.2.mem ((c.tc : Thread Cert.MixerKernelIdeal.nD Cert.MixerKernelIdeal.τ).loc Cert.MixerKernelIdeal.main_v131_5) = v5 c
          ∧ r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
          ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
          ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
          ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
          ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
          ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
          ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
          ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
          ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
          ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
          ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
          ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
          ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
          ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v555) = v0 c
          ∧ r.2.mem ((c.tc : Thread Cert.MixerReferenceIdeal.nD Cert.MixerReferenceIdeal.τ).loc Cert.MixerReferenceIdeal.main_v556) = v1 c
          ∧ r.2.mem ((c.tc : Thread Cert.MixerReferenceIdeal.nD Cert.MixerReferenceIdeal.τ).loc Cert.MixerReferenceIdeal.main_v554) = v2 c
          ∧ r.2.mem ((c.tc : Thread Cert.MixerReferenceIdeal.nD Cert.MixerReferenceIdeal.τ).loc Cert.MixerReferenceIdeal.main_v298) = v3 c
          ∧ r.2.mem ((c.tc : Thread Cert.MixerReferenceIdeal.nD Cert.MixerReferenceIdeal.τ).loc Cert.MixerReferenceIdeal.main_v557) = v4 c
          ∧ r.2.mem ((c.tc : Thread Cert.MixerReferenceIdeal.nD Cert.MixerReferenceIdeal.τ).loc Cert.MixerReferenceIdeal.main_v558) = v5 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11)
          ∧ r.2.mem ((c.tc : Thread Cert.MixerReferenceIdeal.nD Cert.MixerReferenceIdeal.τ).loc Cert.MixerReferenceIdeal.main_arg12) = m' ((c.tc : Thread Cert.MixerReferenceIdeal.nD Cert.MixerReferenceIdeal.τ).loc Cert.MixerReferenceIdeal.main_arg12)
          ∧ r.2.mem ((c.tc : Thread Cert.MixerReferenceIdeal.nD Cert.MixerReferenceIdeal.τ).loc Cert.MixerReferenceIdeal.main_arg13) = m' ((c.tc : Thread Cert.MixerReferenceIdeal.nD Cert.MixerReferenceIdeal.τ).loc Cert.MixerReferenceIdeal.main_arg13))

def preserves_ProjKernel_ProjKernelIdeal : Prop :=
  True

def algebraic_ProjKernelIdeal_ProjReferenceIdeal_pre_finite_proj [hProjKernelIdeal : Cert.ProjKernelIdeal.Facts] [hProjReferenceIdeal : Cert.ProjReferenceIdeal.Facts] [hPre_finite_proj : Cert.Pre_finite_proj.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_finite_proj m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v4_0)) (v1 : (c : Dev Cert.ProjKernelIdeal.nD) → Buf (Elt Ideal) ((c.tc : Thread Cert.ProjKernelIdeal.nD Cert.ProjKernelIdeal.τ).loc Cert.ProjKernelIdeal.main_v4_1)) (v2 : (c : Dev Cert.ProjKernelIdeal.nD) → Buf (Elt Ideal) ((c.tc : Thread Cert.ProjKernelIdeal.nD Cert.ProjKernelIdeal.τ).loc Cert.ProjKernelIdeal.main_v4_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4_0) = v0 c
          ∧ r.2.mem ((c.tc : Thread Cert.ProjKernelIdeal.nD Cert.ProjKernelIdeal.τ).loc Cert.ProjKernelIdeal.main_v4_1) = v1 c
          ∧ r.2.mem ((c.tc : Thread Cert.ProjKernelIdeal.nD Cert.ProjKernelIdeal.τ).loc Cert.ProjKernelIdeal.main_v4_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v38) = v0 c
          ∧ r.2.mem ((c.tc : Thread Cert.ProjReferenceIdeal.nD Cert.ProjReferenceIdeal.τ).loc Cert.ProjReferenceIdeal.main_v40) = v1 c
          ∧ r.2.mem ((c.tc : Thread Cert.ProjReferenceIdeal.nD Cert.ProjReferenceIdeal.τ).loc Cert.ProjReferenceIdeal.main_v54) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)) →
    ∃ (v0 : (c : Dev Cert.UpKernelIdeal.nD) → Buf (Elt Ideal) ((c.tc : Thread Cert.UpKernelIdeal.nD Cert.UpKernelIdeal.τ).loc Cert.UpKernelIdeal.main_v6_0)) (v1 : (c : Dev Cert.UpKernelIdeal.nD) → Buf (Elt Ideal) ((c.tc : Thread Cert.UpKernelIdeal.nD Cert.UpKernelIdeal.τ).loc Cert.UpKernelIdeal.main_v6_1)) (v2 : (c : Dev Cert.UpKernelIdeal.nD) → Buf (Elt Ideal) ((c.tc : Thread Cert.UpKernelIdeal.nD Cert.UpKernelIdeal.τ).loc Cert.UpKernelIdeal.main_v6_2)) (v3 : (c : Dev Cert.UpKernelIdeal.nD) → Buf (Elt Ideal) ((c.tc : Thread Cert.UpKernelIdeal.nD Cert.UpKernelIdeal.τ).loc Cert.UpKernelIdeal.main_v6_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v6_0) = v0 c
          ∧ r.2.mem ((c.tc : Thread Cert.UpKernelIdeal.nD Cert.UpKernelIdeal.τ).loc Cert.UpKernelIdeal.main_v6_1) = v1 c
          ∧ r.2.mem ((c.tc : Thread Cert.UpKernelIdeal.nD Cert.UpKernelIdeal.τ).loc Cert.UpKernelIdeal.main_v6_2) = v2 c
          ∧ r.2.mem ((c.tc : Thread Cert.UpKernelIdeal.nD Cert.UpKernelIdeal.τ).loc Cert.UpKernelIdeal.main_v6_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v20) = v0 c
          ∧ r.2.mem ((c.tc : Thread Cert.UpReferenceIdeal.nD Cert.UpReferenceIdeal.τ).loc Cert.UpReferenceIdeal.main_v21) = v1 c
          ∧ r.2.mem ((c.tc : Thread Cert.UpReferenceIdeal.nD Cert.UpReferenceIdeal.τ).loc Cert.UpReferenceIdeal.main_v22) = v2 c
          ∧ r.2.mem ((c.tc : Thread Cert.UpReferenceIdeal.nD Cert.UpReferenceIdeal.τ).loc Cert.UpReferenceIdeal.main_v23) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v13) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v2)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v2) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v2) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hLossKernel : Cert.LossKernel.Facts) (hLossKernelIdeal : Cert.LossKernelIdeal.Facts) (hLossReferenceIdeal : Cert.LossReferenceIdeal.Facts) (hFfnKernel : Cert.FfnKernel.Facts) (hFfnKernelIdeal : Cert.FfnKernelIdeal.Facts) (hFfnReferenceIdeal : Cert.FfnReferenceIdeal.Facts) (hMixerKernel : Cert.MixerKernel.Facts) (hMixerKernelIdeal : Cert.MixerKernelIdeal.Facts) (hMixerReferenceIdeal : Cert.MixerReferenceIdeal.Facts) (hProjKernel : Cert.ProjKernel.Facts) (hProjKernelIdeal : Cert.ProjKernelIdeal.Facts) (hProjReferenceIdeal : Cert.ProjReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hDwKernel : Cert.DwKernel.Facts) (hDwKernelIdeal : Cert.DwKernelIdeal.Facts) (hDwReferenceIdeal : Cert.DwReferenceIdeal.Facts) (hAdamKernel : Cert.AdamKernel.Facts) (hAdamKernelIdeal : Cert.AdamKernelIdeal.Facts) (hAdamReferenceIdeal : Cert.AdamReferenceIdeal.Facts) (hPre_finite_loss : Cert.Pre_finite_loss.Facts) (hPre_finite_ffn : Cert.Pre_finite_ffn.Facts) (hPre_finite_mixer : Cert.Pre_finite_mixer.Facts) (hPre_finite_proj : Cert.Pre_finite_proj.Facts),
    quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_MixerKernel (hMixerKernel := hMixerKernel)
    ∧ quiescent_MixerKernelIdeal (hMixerKernelIdeal := hMixerKernelIdeal)
    ∧ quiescent_MixerKernelIdeal_pre_finite_mixer (hMixerKernelIdeal := hMixerKernelIdeal) (hPre_finite_mixer := hPre_finite_mixer)
    ∧ quiescent_MixerReferenceIdeal (hMixerReferenceIdeal := hMixerReferenceIdeal)
    ∧ quiescent_MixerReferenceIdeal_pre_finite_mixer (hMixerReferenceIdeal := hMixerReferenceIdeal) (hPre_finite_mixer := hPre_finite_mixer)
    ∧ quiescent_ProjKernel (hProjKernel := hProjKernel)
    ∧ quiescent_ProjKernelIdeal (hProjKernelIdeal := hProjKernelIdeal)
    ∧ quiescent_ProjKernelIdeal_pre_finite_proj (hProjKernelIdeal := hProjKernelIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_MixerKernel_MixerKernelIdeal
    ∧ algebraic_MixerKernelIdeal_MixerReferenceIdeal_pre_finite_mixer (hMixerKernelIdeal := hMixerKernelIdeal) (hMixerReferenceIdeal := hMixerReferenceIdeal) (hPre_finite_mixer := hPre_finite_mixer)
    ∧ preserves_ProjKernel_ProjKernelIdeal
    ∧ algebraic_ProjKernelIdeal_ProjReferenceIdeal_pre_finite_proj (hProjKernelIdeal := hProjKernelIdeal) (hProjReferenceIdeal := hProjReferenceIdeal) (hPre_finite_proj := hPre_finite_proj)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_DwKernel_DwKernelIdeal
    ∧ algebraic_DwKernelIdeal_DwReferenceIdeal (hDwKernelIdeal := hDwKernelIdeal) (hDwReferenceIdeal := hDwReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_loss.lean ====
abbrev S1x8192x1024 : Shape := ⟨3, ![1, 8192, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x8192x1024 .f32) (main_arg1 : FVec F S1024 .f32) (main_arg2 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x8192x1024 .f32 := Host.absf main_arg2
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_c_3 : IVec S_ 1 := constantI S_ 1 1#1
  let main_v12 : IVec S_ 1 := (fun x v => Host.reduce IntOp.andi x v reducesTo_S1x8192x1024_S_d0_1_2 h_S_) main_v11 main_c_3
  let main_v13 : IVec S_ 1 := andi main_v8 main_v12
  main_v13
-- ==== Pre_finite_mixer.lean ====
abbrev S8192x1024 : Shape := ⟨2, ![8192, 1024]⟩
abbrev S8192x2048 : Shape := ⟨2, ![8192, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S31x256 : S_.BroadcastsInDim S31x256 (![] : Fin 0 → Fin S31x256.rank)
  reducesTo_S31x256_S_d0_1 : S31x256.ReducesTo [0, 1] S_
  bcast_S_S256 : S_.BroadcastsInDim S256 (![] : Fin 0 → Fin S256.rank)
  reducesTo_S256_S_d0 : S256.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  main_v53

def fn_part2 {F : FTy → Type} [FloatOps F] (main_arg8 : FVec F S256 .f32) (main_arg9 : FVec F S256 .f32) (main_arg11 : FVec F S4x128x128 .f32) (main_arg13 : FVec F S1024x1024 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S4x128x128 .f32 := Host.absf main_arg11
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S1024x1024 .f32 := Host.absf main_arg13
  let main_cst_18 : FVec F S_ .f32 := constant S_ .f32 0x7F800000#32
  let main_v50 : FVec F S1024x1024 .f32 := broadcastInDim S1024x1024 ![] bcast_S_S1024x1024 main_cst_18
  fn_part3 (F := F) main_v48 main_v49 main_v50

def fn_part1 {F : FTy → Type} [FloatOps F] (main_arg4 : FVec F S256 .f32) (main_arg5 : FVec F S256 .f32) (main_arg7 : FVec F S4x64x64 .f32) (main_arg8 : FVec F S256 .f32) (main_arg9 : FVec F S256 .f32) (main_arg11 : FVec F S4x128x128 .f32) (main_arg13 : FVec F S1024x1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x64x64 .f32 := Host.absf main_arg7
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg8 main_arg9 main_arg11 main_arg13 main_v33

def fn {F : FTy → Type} [FloatOps F] (main_arg0 : FVec F S8192x1024 .f32) (main_arg1 : FVec F S8192x2048 .f32) (main_arg2 : FVec F S31x256 .f32) (main_arg3 : FVec F S256 .f32) (main_arg4 : FVec F S256 .f32) (main_arg5 : FVec F S256 .f32) (main_arg6 : FVec F S3x256 .f32) (main_arg7 : FVec F S4x64x64 .f32) (main_arg8 : FVec F S256 .f32) (main_arg9 : FVec F S256 .f32) (main_arg10 : FVec F S256 .f32) (main_arg11 : FVec F S4x128x128 .f32) (main_arg12 : FVec F S4x128 .f32) (main_arg13 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S31x256 .f32 := Host.absf main_arg2
  let main_cst_2 : FVec F S_ .f32 := constant S_ .f32 0x7F800000#32
  let main_v10 : FVec F S31x256 .f32 := broadcastInDim S31x256 ![] bcast_S_S31x256 main_cst_2
  let main_v11 : IVec S31x256 1 := cmpf .olt main_v9 main_v10
  let main_c_3 : IVec S_ 1 := constantI S_ 1 1#1
  let main_v12 : IVec S_ 1 := (fun x v => Host.reduce IntOp.andi x v reducesTo_S31x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg7 main_arg8 main_arg9 main_arg11 main_arg13 main_v13 main_v16
-- ==== Pre_finite_proj.lean ====
abbrev S8192x1024 : Shape := ⟨2, ![8192, 1024]⟩
abbrev S1024 : Shape := ⟨1, ![1024]⟩
abbrev S8192x2048 : Shape := ⟨2, ![8192, 2048]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x2048 : S_.BroadcastsInDim S8192x2048 (![] : Fin 0 → Fin S8192x2048.rank)
  reducesTo_S8192x2048_S_d0_1 : S8192x2048.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024 .f32) (main_arg3 : FVec F S8192x2048 .f32) (main_arg4 : FVec F S1024x2048 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== LossKernel.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S8x1024 : Shape := ⟨2, ![8, 1024]⟩
abbrev S8x128 : Shape := ⟨2, ![8, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8x1024, .f32⟩
  | .hbm, ⟨8, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8 : Shape := ⟨1, ![8]⟩
abbrev S8x1 : Shape := ⟨2, ![8, 1]⟩
abbrev S8x1024 : Shape := ⟨2, ![8, 1024]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8, .i32⟩
  | .hbm, ⟨74, _⟩ => ⟨S8x1, .i32⟩
  | .hbm, ⟨75, _⟩ => ⟨S_, .i32⟩
  | .hbm, ⟨76, _⟩ => ⟨S8x1, .i32⟩
  | .hbm, ⟨77, _⟩ => ⟨S8x1, .i1⟩
  | .hbm, ⟨78, _⟩ => ⟨S1x1024, .f32⟩
  | .hbm, ⟨79, _⟩ => ⟨S_, .f32⟩
  | .hbm, ⟨80, _⟩ => ⟨S_, .f32⟩
  | .hbm, ⟨81, _⟩ => ⟨S8x1024, .i1⟩
  | .hbm, ⟨82, _⟩ => ⟨S8x1024, .f32⟩
  | .hbm, ⟨83, _⟩ => ⟨S8x1024, .f32⟩
  | .hbm, ⟨84, _⟩ => ⟨S8x1024, .f32⟩
  | .hbm, ⟨85, _⟩ => ⟨S8x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S256x256 : Shape := ⟨2, ![256, 256]⟩
abbrev S256 : Shape := ⟨1, ![256]⟩
abbrev S256x1 : Shape := ⟨2, ![256, 1]⟩

abbrev nBuf : Space → Nat
  | .hbm => 39
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S1x1024, .f32⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S8192x1024, .f32⟩
  | .hbm, ⟨33, _⟩ => ⟨S8x1024, .f32⟩
  | .hbm, ⟨34, _⟩ => ⟨S8192x1024, .bf16⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .bf16⟩
  | .local _ .vmem, ⟨24, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩

abbrev nBuf : Space → Nat
  | .hbm => 153
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S8192x2816, .f32⟩
  | 114 => ⟨S8192x2816, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x2816, .f32⟩
  | 123 => ⟨S8192x2816, .f32⟩
  | 124 => ⟨S_, .f32⟩
  | 125 => ⟨S8192x2816, .f32⟩
  | 126 => ⟨S8192x2816, .f32⟩
  | 127 => ⟨S_, .f32⟩
  | _ => ⟨S8192x1024, .f32⟩

abbrev hbmTy0_1 (i : Nat) : BufTy := match i % 128 with
  | 0 => ⟨S8192x2816, .f32⟩
  | 1 => ⟨S8192x2816, .f32⟩
  | 2 => ⟨S_, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S8192x1024, .f32⟩
  | 9 => ⟨S8192x2816, .f32⟩
  | 10 => ⟨S8192x2816, .f32⟩
  | 11 => ⟨S8192x2816, .f32⟩
  | 12 => ⟨S8192x2816, .f32⟩
  | 13 => ⟨S8192x2816, .f32⟩
  | 14 => ⟨S8192x2816, .f32⟩
  | 15 => ⟨S8192x2816, .f32⟩
  | 16 => ⟨S1x1024, .f32⟩
  | 17 => ⟨S_, .i32⟩
  | 18 => ⟨S_, .f32⟩
  | 19 => ⟨S8x1024, .f32⟩
  | 20 => ⟨S8192x1024, .bf16⟩
  | 21 => ⟨S8192x2816, .bf16⟩
  | 22 => ⟨S8192x2816, .bf16⟩
  | 23 => ⟨S8192x2816, .bf16⟩
  | 24 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_13 : Ref sig .tc := ⟨.hbm, 116, rfl⟩
abbrev main_v73 : Ref sig .tc := ⟨.hbm, 117, rfl⟩
abbrev main_v74 : Ref sig .tc := ⟨.hbm, 118, rfl⟩
abbrev main_cst_14 : Ref sig .tc := ⟨.hbm, 119, rfl⟩
abbrev main_v75 : Ref sig .tc := ⟨.hbm, 120, rfl⟩
abbrev main_v76 : Ref sig .tc := ⟨.hbm, 121, rfl⟩
abbrev main_call3_v0 : Ref sig .tc := ⟨.hbm, 122, rfl⟩
abbrev main_call3_v1 : Ref sig .tc := ⟨.hbm, 123, rfl⟩
abbrev main_call3_cst : Ref sig .tc := ⟨.hbm, 124, rfl⟩
abbrev main_call3_v2 : Ref sig .tc := ⟨.hbm, 125, rfl⟩
abbrev main_call3_v3 : Ref sig .tc := ⟨.hbm, 126, rfl⟩
abbrev main_call3_cst_0 : Ref sig .tc := ⟨.hbm, 127, rfl⟩
abbrev main_call3_v4 : Ref sig .tc := ⟨.hbm, 128, rfl⟩
abbrev main_v77_2 : Ref sig .tc := ⟨.hbm, 129, rfl⟩
abbrev main_call3_cst_1 : Ref sig .tc := ⟨.hbm, 130, rfl⟩
abbrev main_call3_v6 : Ref sig .tc := ⟨.hbm, 131, rfl⟩
abbrev main_call3_v7 : Ref sig .tc := ⟨.hbm, 132, rfl⟩
abbrev main_v77_1 : Ref sig .tc := ⟨.hbm, 133, rfl⟩
abbrev main_v77_0 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_v83 : Ref sig .tc := ⟨.hbm, 143, rfl⟩
abbrev main_v84 : Ref sig .tc := ⟨.hbm, 144, rfl⟩
abbrev main_c : Ref sig .tc := ⟨.hbm, 145, rfl⟩
abbrev main_call5_v0 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩

abbrev nD : Nat := 1
abbrev τ : Topo := Topo.v7x

variable {F : FTy → Type} [FloatOps F]
-- ==== MixerKernel.lean ====
abbrev S8192x1024 : Shape := ⟨2, ![8192, 1024]⟩
abbrev S8192x2048 : Shape := ⟨2, ![8192, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S8 : Shape := ⟨1, ![8]⟩
abbrev S8x1 : Shape := ⟨2, ![8, 1]⟩
abbrev S1x256 : Shape := ⟨2, ![1, 256]⟩
abbrev S8x256 : Shape := ⟨2, ![8, 256]⟩
abbrev S128x128 : Shape := ⟨2, ![128, 128]⟩
abbrev S1x128x1x128 : Shape := ⟨4, ![1, 128, 1, 128]⟩
abbrev S4x128x1x128 : Shape := ⟨4, ![4, 128, 1, 128]⟩
abbrev S512x128 : Shape := ⟨2, ![512, 128]⟩
abbrev S32x256 : Shape := ⟨2, ![32, 256]⟩
abbrev S7x256 : Shape := ⟨2, ![7, 256]⟩
abbrev S16x256 : Shape := ⟨2, ![16, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S8192x256 : Shape := ⟨2, ![8192, 256]⟩
abbrev S30x256 : Shape := ⟨2, ![30, 256]⟩
abbrev S8222x256 : Shape := ⟨2, ![8222, 256]⟩
abbrev S31x1x256 : Shape := ⟨3, ![31, 1, 256]⟩
abbrev S1x8192x256 : Shape := ⟨3, ![1, 8192, 256]⟩
abbrev S16x8192x256 : Shape := ⟨3, ![16, 8192, 256]⟩
abbrev S15x8192x256 : Shape := ⟨3, ![15, 8192, 256]⟩
abbrev S31x8192x256 : Shape := ⟨3, ![31, 8192, 256]⟩
abbrev S8x128 : Shape := ⟨2, ![8, 128]⟩
abbrev S1024x2048 : Shape := ⟨2, ![1024, 2048]⟩
abbrev S32x2048 : Shape := ⟨2, ![32, 2048]⟩
abbrev S1024x256 : Shape := ⟨2, ![1024, 256]⟩
abbrev S8x1056x256 : Shape := ⟨3, ![8, 1056, 256]⟩
abbrev S1056x256 : Shape := ⟨2, ![1056, 256]⟩
abbrev S1x1056x256 : Shape := ⟨3, ![1, 1056, 256]⟩
abbrev S1024 : Shape := ⟨1, ![1024]⟩
abbrev S1024x1 : Shape := ⟨2, ![1024, 1]⟩
abbrev S1x1024x256 : Shape := ⟨3, ![1, 1024, 256]⟩
abbrev S256x1024 : Shape := ⟨2, ![256, 1024]⟩
abbrev S512x256 : Shape := ⟨2, ![512, 256]⟩

abbrev nBuf : Space → Nat
  | .hbm => 185
  | .vmem => 30
  | .smem => 0
  | _ => 0

abbrev hbmTy0_0 (i : Nat) : BufTy := match i % 128 with
  | 0 => ⟨S8192x1024, .f32⟩
  | 1 => ⟨S8192x2048, .f32⟩
  | 2 => ⟨S31x256, .f32⟩
  | 3 => ⟨S256, .f32⟩
  | 4 => ⟨S256, .f32⟩
  | 5 => ⟨S256, .f32⟩
  | 6 => ⟨S3x256, .f32⟩
  | 7 => ⟨S4x64x64, .f32⟩
  | 8 => ⟨S256, .f32⟩
  | 9 => ⟨S256, .f32⟩
  | 10 => ⟨S256, .f32⟩
  | 11 => ⟨S4x128x128, .f32⟩
  | 12 => ⟨S4x128, .f32⟩
  | 13 => ⟨S1024x1024, .f32⟩
  | 14 => ⟨S256, .i32⟩
  | 15 => ⟨S_, .i32⟩
  | 16 => ⟨S_, .i32⟩
  | 17 => ⟨S256, .i32⟩
  | 18 => ⟨S256, .i32⟩
  | 19 => ⟨S256, .i32⟩
  | 20 => ⟨S_, .i32⟩
  | 21 => ⟨S256, .i32⟩
  | 22 => ⟨S256, .i1⟩
  | 23 => ⟨S256, .i32⟩
  | 24 => ⟨S256, .i32⟩
  | 25 => ⟨S_, .i32⟩
  | 26 => ⟨S256, .i32⟩
  | 27 => ⟨S256, .i1⟩
  | 28 => ⟨S256, .i1⟩
  | 29 => ⟨S_, .i32⟩
  | 30 => ⟨S256, .i32⟩
  | 31 => ⟨S256, .i32⟩
  | 32 => ⟨S256, .i32⟩
  | 33 => ⟨S8, .i32⟩
  | 34 => ⟨S8x1, .i32⟩
  | 35 => ⟨S1x256, .i32⟩
  | 36 => ⟨S8x256, .i32⟩
  | 37 => ⟨S8x256, .i32⟩
  | 38 => ⟨S8x256, .i1⟩
  | 39 => ⟨S8x256, .f32⟩
  | 40 => ⟨S_, .f32⟩
  | 41 => ⟨S128x128, .f32⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .f32⟩
  | 49 => ⟨S128x128, .f32⟩
  | 50 => ⟨S128x128, .f32⟩
  | 51 => ⟨S1x128x1x128, .f32⟩
  | 52 => ⟨S4x128x1x128, .f32⟩
  | 53 => ⟨S512x128, .f32⟩
  | 54 => ⟨S_, .i32⟩
  | 55 => ⟨S_, .f32⟩
  | 56 => ⟨S32x256, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S_, .f32⟩
  | 64 => ⟨S7x256, .f32⟩
  | 65 => ⟨S16x256, .f32⟩
  | 66 => ⟨S4x4, .i32⟩
  | 67 => ⟨S4x4, .i32⟩
  | 68 => ⟨S_, .i32⟩
  | 69 => ⟨S4x4, .i32⟩
  | 70 => ⟨S4x4, .i32⟩
  | 71 => ⟨S4x4, .i1⟩
  | 72 => ⟨S4x4, .f32⟩
  | 73 => ⟨S4x1x4x1, .f32⟩
  | 74 => ⟨S4x64x1x64, .f32⟩
  | 75 => ⟨S4x64x4x64, .f32⟩
  | 76 => ⟨S4x64x4x64, .f32⟩
  | 77 => ⟨S4x64x4x64, .f32⟩
  | 78 => ⟨S256x256, .f32⟩
  | 79 => ⟨S256x256, .bf16⟩
  | 80 => ⟨S1x128x128, .f32⟩
  | 81 => ⟨S4x128x128, .f32⟩
  | 82 => ⟨S4x128x128, .f32⟩
  | 83 => ⟨S512x128, .f32⟩
  | 84 => ⟨S512x128, .bf16⟩
  | 85 => ⟨S4x128x128, .f32⟩
  | 86 => ⟨S512x128, .f32⟩
  | 87 => ⟨S512x128, .bf16⟩
  | 88 => ⟨S128x4, .f32⟩
  | 89 => ⟨S128x4x64, .f32⟩
  | 90 => ⟨S128x256, .f32⟩
  | 91 => ⟨S8192x256, .f32⟩
  | 92 => ⟨S8192x256, .f32⟩
  | 93 => ⟨S8192x256, .f32⟩
  | 94 => ⟨S8192x256, .f32⟩
  | 95 => ⟨S_, .f32⟩
  | 96 => ⟨S8192x256, .f32⟩
  | 97 => ⟨S8192x256, .f32⟩
  | 98 => ⟨S_, .f32⟩
  | 99 => ⟨S8192x256, .f32⟩
  | 100 => ⟨S8192x256, .f32⟩
  | 101 => ⟨S8192x256, .f32⟩
  | 102 => ⟨S_, .f32⟩
  | 103 => ⟨S30x256, .f32⟩
  | 104 => ⟨S8222x256, .f32⟩
  | 105 => ⟨S31x1x256, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x1024, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x256, .f32⟩
  | 5 => ⟨S8192x256, .f32⟩
  | 6 => ⟨S8192x256, .f32⟩
  | 7 => ⟨S8192x256, .f32⟩
  | 8 => ⟨S8192x256, .f32⟩
  | 9 => ⟨S1x8192x256, .f32⟩
  | 10 => ⟨S1x8192x256, .f32⟩
  | 11 => ⟨S1x8192x256, .f32⟩
  | 12 => ⟨S1x8192x256, .f32⟩
  | 13 => ⟨S1x8192x256, .f32⟩
  | 14 => ⟨S1x8192x256, .f32⟩
  | 15 => ⟨S1x8192x256, .f32⟩
  | 16 => ⟨S1x8192x256, .f32⟩
  | 17 => ⟨S1x8192x256, .f32⟩
  | 18 => ⟨S1x8192x256, .f32⟩
  | 19 => ⟨S1x8192x256, .f32⟩
  | 20 => ⟨S1x8192x256, .f32⟩
  | 21 => ⟨S1x8192x256, .f32⟩
  | 22 => ⟨S1x8192x256, .f32⟩
  | 23 => ⟨S1x8192x256, .f32⟩
  | 24 => ⟨S1x8192x256, .f32⟩
  | 25 => ⟨S1x8192x256, .f32⟩
  | 26 => ⟨S1x8192x256, .f32⟩
  | 27 => ⟨S1x8192x256, .f32⟩
  | 28 => ⟨S1x8192x256, .f32⟩
  | 29 => ⟨S1x8192x256, .f32⟩
  | 30 => ⟨S1x8192x256, .f32⟩
  | 31 => ⟨S1x8192x256, .f32⟩
  | 32 => ⟨S1x8192x256, .f32⟩
  | 33 => ⟨S1x8192x256, .f32⟩
  | 34 => ⟨S1x8192x256, .f32⟩
  | 35 => ⟨S1x8192x256, .f32⟩
  | 36 => ⟨S1x8192x256, .f32⟩
  | 37 => ⟨S1x8192x256, .f32⟩
  | 38 => ⟨S1x8192x256, .f32⟩
  | 39 => ⟨S1x8192x256, .f32⟩
  | 40 => ⟨S16x8192x256, .f32⟩
  | 41 => ⟨S15x8192x256, .f32⟩
  | 42 => ⟨S31x8192x256, .f32⟩
  | 43 => ⟨S31x8192x256, .f32⟩
  | 44 => ⟨S31x8192x256, .f32⟩
  | 45 => ⟨S_, .f32⟩
  | 46 => ⟨S8192x256, .f32⟩
  | 47 => ⟨S1x256, .f32⟩
  | 48 => ⟨S8192x256, .f32⟩
  | 49 => ⟨S8192x256, .f32⟩
  | 50 => ⟨S1024x1024, .bf16⟩
  | 51 => ⟨S8192x2048, .bf16⟩
  | 52 => ⟨S32x256, .f32⟩
  | 53 => ⟨S16x256, .f32⟩
  | 54 => ⟨S256x256, .f32⟩
  | 55 => ⟨S512x128, .f32⟩
  | 56 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1024x2048, .f32⟩
  | .local _ .vmem, ⟨4, _⟩ => ⟨S32x2048, .f32⟩
  | .local _ .vmem, ⟨5, _⟩ => ⟨S32x2048, .f32⟩
  | .local _ .vmem, ⟨6, _⟩ => ⟨S1024x256, .f32⟩
  | .local _ .vmem, ⟨7, _⟩ => ⟨S1024x256, .f32⟩
  | .local _ .vmem, ⟨8, _⟩ => ⟨S32x256, .f32⟩
  | .local _ .vmem, ⟨9, _⟩ => ⟨S16x256, .f32⟩
  | .local _ .vmem, ⟨10, _⟩ => ⟨S256x256, .bf16⟩
  | .local _ .vmem, ⟨11, _⟩ => ⟨S512x128, .bf16⟩
  | .local _ .vmem, ⟨12, _⟩ => ⟨S512x128, .bf16⟩
  | .local _ .vmem, ⟨13, _⟩ => ⟨S128x256, .f32⟩
  | .local _ .vmem, ⟨14, _⟩ => ⟨S512x128, .f32⟩
  | .local _ .vmem, ⟨15, _⟩ => ⟨S8x256, .f32⟩
  | .local _ .vmem, ⟨16, _⟩ => ⟨S1024x1024, .bf16⟩
  | .local _ .vmem, ⟨17, _⟩ => ⟨S1024x2048, .bf16⟩
  | .local _ .vmem, ⟨18, _⟩ => ⟨S1024x2048, .bf16⟩
  | .local _ .vmem, ⟨19, _⟩ => ⟨S32x256, .f32⟩
  | .local _ .vmem, ⟨20, _⟩ => ⟨S16x256, .f32⟩
  | .local _ .vmem, ⟨21, _⟩ => ⟨S256x256, .f32⟩
  | .local _ .vmem, ⟨22, _⟩ => ⟨S512x128, .f32⟩
  | .local _ .vmem, ⟨23, _⟩ => ⟨S8x128, .f32⟩
  | .local _ .vmem, ⟨24, _⟩ => ⟨S32x256, .f32⟩
  | .local _ .vmem, ⟨25, _⟩ => ⟨S32x256, .f32⟩
  | .local _ .vmem, ⟨26, _⟩ => ⟨S32x256, .f32⟩
  | .local _ .vmem, ⟨27, _⟩ => ⟨S8x1056x256, .f32⟩
  | .local _ .vmem, ⟨28, _⟩ => ⟨S1024x256, .f32⟩
  | .local _ .vmem, ⟨29, _⟩ => ⟨S128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_cst : Ref sig .tc := ⟨.hbm, 48, rfl⟩
abbrev main_call1_v5 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_c_0 : Ref sig .tc := ⟨.hbm, 54, rfl⟩
abbrev main_call2_v0 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_1 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_3 : Ref sig .tc := ⟨.hbm, 95, rfl⟩
abbrev main_v51 : Ref sig .tc := ⟨.hbm, 96, rfl⟩
abbrev main_v52 : Ref sig .tc := ⟨.hbm, 97, rfl⟩
abbrev main_cst_4 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_5 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_6 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131_0 : Ref sig .tc := ⟨.hbm, 179, rfl⟩
abbrev main_v131_1 : Ref sig .tc := ⟨.hbm, 180, rfl⟩
abbrev main_v131_2 : Ref sig .tc := ⟨.hbm, 181, rfl⟩
abbrev main_v131_3 : Ref sig .tc := ⟨.hbm, 182, rfl⟩
abbrev main_v131_4 : Ref sig .tc := ⟨.hbm, 183, rfl⟩
abbrev main_v131_5 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c7_i32_909 : BitVec 32 := 7#32
  let v1796 : BitVec 1 := Scalar.cmpi .eq arg0 c7_i32_909
  let v1797 : BitVec 32 := Scalar.extui v1796
  let c0_i32_910 : BitVec 32 := 0#32
  let v1798 : BitVec 1 := Scalar.cmpi .ne v1797 c0_i32_910
  v1798

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixerReferenceIdeal.lean ====
abbrev S8192x1024 : Shape := ⟨2, ![8192, 1024]⟩
abbrev S8192x2048 : Shape := ⟨2, ![8192, 2048]⟩
abbrev S31x256 : Shape := ⟨2, ![31, 256]⟩
abbrev S256 : Shape := ⟨1, ![256]⟩
abbrev S3x256 : Shape := ⟨2, ![3, 256]⟩
abbrev S4x64x64 : Shape := ⟨3, ![4, 64, 64]⟩
abbrev S4x128x128 : Shape := ⟨3, ![4, 128, 128]⟩
abbrev S4x128 : Shape := ⟨2, ![4, 128]⟩
abbrev S1024x1024 : Shape := ⟨2, ![1024, 1024]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S8192x256 : Shape := ⟨2, ![8192, 256]⟩
abbrev S30x256 : Shape := ⟨2, ![30, 256]⟩
abbrev S8222x256 : Shape := ⟨2, ![8222, 256]⟩
abbrev S31x1x256 : Shape := ⟨3, ![31, 1, 256]⟩
abbrev S1x8192x256 : Shape := ⟨3, ![1, 8192, 256]⟩
abbrev S16x8192x256 : Shape := ⟨3, ![16, 8192, 256]⟩
abbrev S15x8192x256 : Shape := ⟨3, ![15, 8192, 256]⟩
abbrev S31x8192x256 : Shape := ⟨3, ![31, 8192, 256]⟩
abbrev S1x256 : Shape := ⟨2, ![1, 256]⟩
abbrev S8192 : Shape := ⟨1, ![8192]⟩
abbrev S8192x1 : Shape := ⟨2, ![8192, 1]⟩
abbrev S2x256 : Shape := ⟨2, ![2, 256]⟩
abbrev S8194x256 : Shape := ⟨2, ![8194, 256]⟩
abbrev S3x1x256 : Shape := ⟨3, ![3, 1, 256]⟩
abbrev S3x8192x256 : Shape := ⟨3, ![3, 8192, 256]⟩
abbrev S8192x64 : Shape := ⟨2, ![8192, 64]⟩
abbrev S2x64 : Shape := ⟨2, ![2, 64]⟩
abbrev S8190x64 : Shape := ⟨2, ![8190, 64]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩
abbrev S7x256 : Shape := ⟨2, ![7, 256]⟩
abbrev S16x256 : Shape := ⟨2, ![16, 256]⟩
abbrev S32x256 : Shape := ⟨2, ![32, 256]⟩
abbrev S512x128 : Shape := ⟨2, ![512, 128]⟩
abbrev S8x128 : Shape := ⟨2, ![8, 128]⟩

abbrev nBuf : Space → Nat
  | .hbm => 730
  | .vmem => 0
  | .smem => 0
  | _ => 0

abbrev hbmTy0_0 (i : Nat) : BufTy := match i % 128 with
  | 0 => ⟨S8192x1024, .f32⟩
  | 1 => ⟨S8192x2048, .f32⟩
  | 2 => ⟨S31x256, .f32⟩
  | 3 => ⟨S256, .f32⟩
  | 4 => ⟨S256, .f32⟩
  | 5 => ⟨S256, .f32⟩
  | 6 => ⟨S3x256, .f32⟩
  | 7 => ⟨S4x64x64, .f32⟩
  | 8 => ⟨S256, .f32⟩
  | 9 => ⟨S256, .f32⟩
  | 10 => ⟨S256, .f32⟩
  | 11 => ⟨S4x128x128, .f32⟩
  | 12 => ⟨S4x128, .f32⟩
  | 13 => ⟨S1024x1024, .f32⟩
  | 14 => ⟨S4x4, .i32⟩
  | 15 => ⟨S4x4, .i32⟩
  | 16 => ⟨S_, .i32⟩
  | 17 => ⟨S4x4, .i32⟩
  | 18 => ⟨S4x4, .i32⟩
  | 19 => ⟨S4x4, .i1⟩
  | 20 => ⟨S4x1x4x1, .i1⟩
  | 21 => ⟨S4x64x1x64, .f32⟩
  | 22 => ⟨S_, .f32⟩
  | 23 => ⟨S_, .f32⟩
  | 24 => ⟨S4x64x4x64, .i1⟩
  | 25 => ⟨S4x64x4x64, .f32⟩
  | 26 => ⟨S4x64x4x64, .f32⟩
  | 27 => ⟨S4x64x4x64, .f32⟩
  | 28 => ⟨S256x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S8192x256, .f32⟩
  | 49 => ⟨S8192x256, .f32⟩
  | 50 => ⟨S_, .f32⟩
  | 51 => ⟨S30x256, .f32⟩
  | 52 => ⟨S8222x256, .f32⟩
  | 53 => ⟨S_, .f32⟩
  | 54 => ⟨S30x256, .f32⟩
  | 55 => ⟨S31x1x256, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192x256, .f32⟩
  | 86 => ⟨S8192x256, .f32⟩
  | 87 => ⟨S1x8192x256, .f32⟩
  | 88 => ⟨S1x8192x256, .f32⟩
  | 89 => ⟨S1x8192x256, .f32⟩
  | 90 => ⟨S1x8192x256, .f32⟩
  | 91 => ⟨S1x8192x256, .f32⟩
  | 92 => ⟨S1x8192x256, .f32⟩
  | 93 => ⟨S1x8192x256, .f32⟩
  | 94 => ⟨S1x8192x256, .f32⟩
  | 95 => ⟨S1x8192x256, .f32⟩
  | 96 => ⟨S1x8192x256, .f32⟩
  | 97 => ⟨S1x8192x256, .f32⟩
  | 98 => ⟨S1x8192x256, .f32⟩
  | 99 => ⟨S1x8192x256, .f32⟩
  | 100 => ⟨S1x8192x256, .f32⟩
  | 101 => ⟨S1x8192x256, .f32⟩
  | 102 => ⟨S1x8192x256, .f32⟩
  | 103 => ⟨S1x8192x256, .f32⟩
  | 104 => ⟨S1x8192x256, .f32⟩
  | 105 => ⟨S1x8192x256, .f32⟩
  | 106 => ⟨S1x8192x256, .f32⟩
  | 107 => ⟨S1x8192x256, .f32⟩
  | 108 => ⟨S1x8192x256, .f32⟩
  | 109 => ⟨S1x8192x256, .f32⟩
  | 110 => ⟨S1x8192x256, .f32⟩
  | 111 => ⟨S1x8192x256, .f32⟩
  | 112 => ⟨S1x8192x256, .f32⟩
  | 113 => ⟨S1x8192x256, .f32⟩
  | 114 => ⟨S1x8192x256, .f32⟩
  | 115 => ⟨S1x8192x256, .f32⟩
  | 116 => ⟨S1x8192x256, .f32⟩
  | 117 => ⟨S1x8192x256, .f32⟩
  | 118 => ⟨S16x8192x256, .f32⟩
  | 119 => ⟨S15x8192x256, .f32⟩
  | 120 => ⟨S31x8192x256, .f32⟩
  | 121 => ⟨S31x8192x256, .f32⟩
  | 122 => ⟨S31x8192x256, .f32⟩
  | 123 => ⟨S_, .f32⟩
  | 124 => ⟨S8192x256, .f32⟩
  | 125 => ⟨S1x256, .f32⟩
  | 126 => ⟨S8192x256, .f32⟩
  | 127 => ⟨S8192x256, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S8192x256, .f32⟩
  | 7 => ⟨S8192x256, .f32⟩
  | 8 => ⟨S8192x256, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x256, .f32⟩
  | 24 => ⟨S8192x256, .f32⟩
  | 25 => ⟨S1x256, .f32⟩
  | 26 => ⟨S8192x256, .f32⟩
  | 27 => ⟨S8192x256, .f32⟩
  | 28 => ⟨S1x256, .f32⟩
  | 29 => ⟨S8192x256, .f32⟩
  | 30 => ⟨S8192x256, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S2x256, .f32⟩
  | 47 => ⟨S8194x256, .f32⟩
  | 48 => ⟨S_, .f32⟩
  | 49 => ⟨S2x256, .f32⟩
  | 50 => ⟨S3x1x256, .f32⟩
  | 51 => ⟨S8192x256, .f32⟩
  | 52 => ⟨S8192x256, .f32⟩
  | 53 => ⟨S8192x256, .f32⟩
  | 54 => ⟨S1x8192x256, .f32⟩
  | 55 => ⟨S1x8192x256, .f32⟩
  | 56 => ⟨S1x8192x256, .f32⟩
  | 57 => ⟨S3x8192x256, .f32⟩
  | 58 => ⟨S3x8192x256, .f32⟩
  | 59 => ⟨S3x8192x256, .f32⟩
  | 60 => ⟨S_, .f32⟩
  | 61 => ⟨S8192x256, .f32⟩
  | 62 => ⟨S8192x256, .f32⟩
  | 63 => ⟨S_, .f32⟩
  | 64 => ⟨S_, .f32⟩
  | 65 => ⟨S8192x256, .f32⟩
  | 66 => ⟨S8192, .f32⟩
  | 67 => ⟨S_, .f32⟩
  | 68 => ⟨S8192, .f32⟩
  | 69 => ⟨S8192, .f32⟩
  | 70 => ⟨S8192x1, .f32⟩
  | 71 => ⟨S8192x64, .f32⟩
  | 72 => ⟨S_, .f32⟩
  | 73 => ⟨S2x64, .f32⟩
  | 74 => ⟨S8190x64, .f32⟩
  | 75 => ⟨S8192x64, .f32⟩
  | 76 => ⟨S_, .f32⟩
  | 77 => ⟨S2x64, .f32⟩
  | 78 => ⟨S8192x64, .f32⟩
  | 79 => ⟨S_, .f32⟩
  | 80 => ⟨S8192x1, .f32⟩
  | 81 => ⟨S8192x1, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S_, .f32⟩
  | 88 => ⟨S4x64, .f32⟩
  | 89 => ⟨S8188x64, .f32⟩
  | 90 => ⟨S8192x64, .f32⟩
  | 91 => ⟨S_, .f32⟩
  | 92 => ⟨S4x64, .f32⟩
  | 93 => ⟨S8192x64, .f32⟩
  | 94 => ⟨S_, .f32⟩
  | 95 => ⟨S8192x1, .f32⟩
  | 96 => ⟨S8192x1, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S_, .f32⟩
  | 103 => ⟨S8x64, .f32⟩
  | 104 => ⟨S8184x64, .f32⟩
  | 105 => ⟨S8192x64, .f32⟩
  | 106 => ⟨S_, .f32⟩
  | 107 => ⟨S8x64, .f32⟩
  | 108 => ⟨S8192x64, .f32⟩
  | 109 => ⟨S_, .f32⟩
  | 110 => ⟨S8192x1, .f32⟩
  | 111 => ⟨S8192x1, .f32⟩
  | 112 => ⟨S8192x64, .f32⟩
  | 113 => ⟨S8192x64, .f32⟩
  | 114 => ⟨S8192x64, .f32⟩
  | 115 => ⟨S8192x64, .f32⟩
  | 116 => ⟨S8192x64, .f32⟩
  | 117 => ⟨S_, .f32⟩
  | 118 => ⟨S16x64, .f32⟩
  | 119 => ⟨S8176x64, .f32⟩
  | 120 => ⟨S8192x64, .f32⟩
  | 121 => ⟨S_, .f32⟩
  | 122 => ⟨S16x64, .f32⟩
  | 123 => ⟨S8192x64, .f32⟩
  | 124 => ⟨S_, .f32⟩
  | 125 => ⟨S8192x1, .f32⟩
  | 126 => ⟨S8192x1, .f32⟩
  | 127 => ⟨S8192x64, .f32⟩
  | _ => ⟨S8192x1024, .f32⟩

abbrev hbmTy0_2 (i : Nat) : BufTy := match i % 128 with
  | 0 => ⟨S8192x64, .f32⟩
  | 1 => ⟨S8192x64, .f32⟩
  | 2 => ⟨S8192x64, .f32⟩
  | 3 => ⟨S8192x256, .f32⟩
  | 4 => ⟨S8192x256, .f32⟩
  | 5 => ⟨S1x256, .f32⟩
  | 6 => ⟨S8192x256, .f32⟩
  | 7 => ⟨S8192x256, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x256, .f32⟩
  | 15 => ⟨S8192x256, .f32⟩
  | 16 => ⟨S8192x256, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x256, .f32⟩
  | 32 => ⟨S8192x256, .f32⟩
  | 33 => ⟨S1x256, .f32⟩
  | 34 => ⟨S8192x256, .f32⟩
  | 35 => ⟨S8192x256, .f32⟩
  | 36 => ⟨S1x256, .f32⟩
  | 37 => ⟨S8192x256, .f32⟩
  | 38 => ⟨S8192x256, .f32⟩
  | 39 => ⟨S64x128x4x64, .f32⟩
  | 40 => ⟨S_, .i1⟩
  | 41 => ⟨S128x128, .i1⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .i1⟩
  | 49 => ⟨S128x128, .i1⟩
  | 50 => ⟨S128x128, .i1⟩
  | 51 => ⟨S1x128x128, .i1⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S_, .f32⟩
  | 58 => ⟨S4x128x128, .f32⟩
  | 59 => ⟨S4x64x64x128, .f32⟩
  | 60 => ⟨S64x128x4x64, .f32⟩
  | 61 => ⟨S128x4, .f32⟩
  | 62 => ⟨S1x128x4x1, .f32⟩
  | 63 => ⟨S64x128x4x64, .f32⟩
  | 64 => ⟨S64x128x4x64, .f32⟩
  | 65 => ⟨S8192x256, .f32⟩
  | 66 => ⟨S8192x256, .f32⟩
  | 67 => ⟨S8192x1024, .f32⟩
  | 68 => ⟨S8192x1024, .f32⟩
  | 69 => ⟨S8192x1024, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S64x128x4x64, .f32⟩
  | 77 => ⟨S_, .f32⟩
  | 78 => ⟨S128x4, .f32⟩
  | 79 => ⟨S1x128x4x1, .f32⟩
  | 80 => ⟨S_, .f32⟩
  | 81 => ⟨S128x4, .f32⟩
  | 82 => ⟨S4x128, .f32⟩
  | 83 => ⟨S4x64x64x128, .f32⟩
  | 84 => ⟨S4x128x128, .f32⟩
  | 85 => ⟨S4x64x64x128, .f32⟩
  | 86 => ⟨S64x128x4x64, .f32⟩
  | 87 => ⟨S_, .f32⟩
  | 88 => ⟨S4x128x128, .f32⟩
  | 89 => ⟨S4x128x128, .f32⟩
  | 90 => ⟨S8192x256, .f32⟩
  | 91 => ⟨S_, .f32⟩
  | 92 => ⟨S256, .f32⟩
  | 93 => ⟨S1x256, .f32⟩
  | 94 => ⟨S_, .f32⟩
  | 95 => ⟨S256, .f32⟩
  | 96 => ⟨S8192x256, .f32⟩
  | 97 => ⟨S_, .f32⟩
  | 98 => ⟨S256, .f32⟩
  | 99 => ⟨S1x256, .f32⟩
  | 100 => ⟨S8192x256, .f32⟩
  | 101 => ⟨S8192x256, .f32⟩
  | 102 => ⟨S_, .f32⟩
  | 103 => ⟨S256, .f32⟩
  | 104 => ⟨S8192x256, .f32⟩
  | 105 => ⟨S_, .f32⟩
  | 106 => ⟨S8192, .f32⟩
  | 107 => ⟨S8192x1, .f32⟩
  | 108 => ⟨S8192x256, .f32⟩
  | 109 => ⟨S8192x256, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_3 (i : Nat) : BufTy := match i % 128 with
  | 0 => ⟨S_, .f32⟩
  | 1 => ⟨S8192, .f32⟩
  | 2 => ⟨S8192x256, .f32⟩
  | 3 => ⟨S8192x256, .f32⟩
  | 4 => ⟨S8192x256, .f32⟩
  | 5 => ⟨S_, .f32⟩
  | 6 => ⟨S256, .f32⟩
  | 7 => ⟨S1x256, .f32⟩
  | 8 => ⟨S8192x256, .f32⟩
  | 9 => ⟨S8192x256, .f32⟩
  | 10 => ⟨S_, .f32⟩
  | 11 => ⟨S256, .f32⟩
  | 12 => ⟨S256x256, .f32⟩
  | 13 => ⟨S256x256, .f32⟩
  | 14 => ⟨S8192x256, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S_, .f32⟩
  | 21 => ⟨S8192x256, .f32⟩
  | 22 => ⟨S8192x64, .f32⟩
  | 23 => ⟨S8192x64, .f32⟩
  | 24 => ⟨S8192x64, .f32⟩
  | 25 => ⟨S16x64, .f32⟩
  | 26 => ⟨S8176x64, .f32⟩
  | 27 => ⟨S_, .f32⟩
  | 28 => ⟨S8192x64, .f32⟩
  | 29 => ⟨S8192x64, .f32⟩
  | 30 => ⟨S_, .f32⟩
  | 31 => ⟨S8192x256, .f32⟩
  | 32 => ⟨S8192x64, .f32⟩
  | 33 => ⟨S_, .f32⟩
  | 34 => ⟨S8192x256, .f32⟩
  | 35 => ⟨S8192x256, .f32⟩
  | 36 => ⟨S8192x64, .f32⟩
  | 37 => ⟨S8192x64, .f32⟩
  | 38 => ⟨S8192x64, .f32⟩
  | 39 => ⟨S8x64, .f32⟩
  | 40 => ⟨S8184x64, .f32⟩
  | 41 => ⟨S_, .f32⟩
  | 42 => ⟨S8192x64, .f32⟩
  | 43 => ⟨S8192x64, .f32⟩
  | 44 => ⟨S_, .f32⟩
  | 45 => ⟨S8192x256, .f32⟩
  | 46 => ⟨S8192x256, .f32⟩
  | 47 => ⟨S8192x64, .f32⟩
  | 48 => ⟨S_, .f32⟩
  | 49 => ⟨S8192x256, .f32⟩
  | 50 => ⟨S8192x256, .f32⟩
  | 51 => ⟨S8192x64, .f32⟩
  | 52 => ⟨S8192x64, .f32⟩
  | 53 => ⟨S8192x64, .f32⟩
  | 54 => ⟨S4x64, .f32⟩
  | 55 => ⟨S8188x64, .f32⟩
  | 56 => ⟨S_, .f32⟩
  | 57 => ⟨S8192x64, .f32⟩
  | 58 => ⟨S8192x64, .f32⟩
  | 59 => ⟨S_, .f32⟩
  | 60 => ⟨S8192x256, .f32⟩
  | 61 => ⟨S8192x256, .f32⟩
  | 62 => ⟨S8192x64, .f32⟩
  | 63 => ⟨S_, .f32⟩
  | 64 => ⟨S8192x256, .f32⟩
  | 65 => ⟨S8192x256, .f32⟩
  | 66 => ⟨S8192x64, .f32⟩
  | 67 => ⟨S8192x64, .f32⟩
  | 68 => ⟨S8192x64, .f32⟩
  | 69 => ⟨S2x64, .f32⟩
  | 70 => ⟨S8190x64, .f32⟩
  | 71 => ⟨S_, .f32⟩
  | 72 => ⟨S8192x64, .f32⟩
  | 73 => ⟨S8192x64, .f32⟩
  | 74 => ⟨S_, .f32⟩
  | 75 => ⟨S8192x256, .f32⟩
  | 76 => ⟨S8192x256, .f32⟩
  | 77 => ⟨S_, .f32⟩
  | 78 => ⟨S_, .f32⟩
  | 79 => ⟨S8192x256, .f32⟩
  | 80 => ⟨S8192x256, .f32⟩
  | 81 => ⟨S8192x256, .f32⟩
  | 82 => ⟨S8192x256, .f32⟩
  | 83 => ⟨S3x8192x256, .f32⟩
  | 84 => ⟨S3x8192x256, .f32⟩
  | 85 => ⟨S3x8192x256, .f32⟩
  | 86 => ⟨S3x8192x256, .f32⟩
  | 87 => ⟨S_, .f32⟩
  | 88 => ⟨S3x256, .f32⟩
  | 89 => ⟨S3x1x256, .f32⟩
  | 90 => ⟨S1x8192x256, .f32⟩
  | 91 => ⟨S8192x256, .f32⟩
  | 92 => ⟨S1x8192x256, .f32⟩
  | 93 => ⟨S8192x256, .f32⟩
  | 94 => ⟨S1x8192x256, .f32⟩
  | 95 => ⟨S8192x256, .f32⟩
  | 96 => ⟨S_, .f32⟩
  | 97 => ⟨S8194x256, .f32⟩
  | 98 => ⟨S_, .f32⟩
  | 99 => ⟨S8194x256, .f32⟩
  | 100 => ⟨S8194x256, .f32⟩
  | 101 => ⟨S_, .f32⟩
  | 102 => ⟨S8194x256, .f32⟩
  | 103 => ⟨S8194x256, .f32⟩
  | 104 => ⟨S_, .f32⟩
  | 105 => ⟨S3x256, .f32⟩
  | 106 => ⟨S2x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S_, .f32⟩
  | 115 => ⟨S256, .f32⟩
  | 116 => ⟨S1x256, .f32⟩
  | 117 => ⟨S_, .f32⟩
  | 118 => ⟨S256, .f32⟩
  | 119 => ⟨S8192x256, .f32⟩
  | 120 => ⟨S_, .f32⟩
  | 121 => ⟨S256, .f32⟩
  | 122 => ⟨S1x256, .f32⟩
  | 123 => ⟨S8192x256, .f32⟩
  | 124 => ⟨S8192x256, .f32⟩
  | 125 => ⟨S_, .f32⟩
  | 126 => ⟨S256, .f32⟩
  | 127 => ⟨S8192x256, .f32⟩
  | _ => ⟨S8192x1024, .f32⟩

abbrev hbmTy0_4 (i : Nat) : BufTy := match i % 128 with
  | 0 => ⟨S_, .f32⟩
  | 1 => ⟨S8192, .f32⟩
  | 2 => ⟨S8192x1, .f32⟩
  | 3 => ⟨S8192x256, .f32⟩
  | 4 => ⟨S8192x256, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x256, .f32⟩
  | 12 => ⟨S8192x256, .f32⟩
  | 13 => ⟨S8192x256, .f32⟩
  | 14 => ⟨S8192x256, .f32⟩
  | 15 => ⟨S8192x256, .f32⟩
  | 16 => ⟨S8192x256, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192, .f32⟩
  | 25 => ⟨S8192x256, .f32⟩
  | 26 => ⟨S8192x256, .f32⟩
  | 27 => ⟨S_, .f32⟩
  | 28 => ⟨S256, .f32⟩
  | 29 => ⟨S1x256, .f32⟩
  | 30 => ⟨S_, .f32⟩
  | 31 => ⟨S256, .f32⟩
  | 32 => ⟨S31x8192x256, .f32⟩
  | 33 => ⟨S31x8192x256, .f32⟩
  | 34 => ⟨S31x8192x256, .f32⟩
  | 35 => ⟨S31x8192x256, .f32⟩
  | 36 => ⟨S_, .f32⟩
  | 37 => ⟨S31x256, .f32⟩
  | 38 => ⟨S31x1x256, .f32⟩
  | 39 => ⟨S1x8192x256, .f32⟩
  | 40 => ⟨S8192x256, .f32⟩
  | 41 => ⟨S1x8192x256, .f32⟩
  | 42 => ⟨S8192x256, .f32⟩
  | 43 => ⟨S1x8192x256, .f32⟩
  | 44 => ⟨S8192x256, .f32⟩
  | 45 => ⟨S1x8192x256, .f32⟩
  | 46 => ⟨S8192x256, .f32⟩
  | 47 => ⟨S1x8192x256, .f32⟩
  | 48 => ⟨S8192x256, .f32⟩
  | 49 => ⟨S1x8192x256, .f32⟩
  | 50 => ⟨S8192x256, .f32⟩
  | 51 => ⟨S1x8192x256, .f32⟩
  | 52 => ⟨S8192x256, .f32⟩
  | 53 => ⟨S1x8192x256, .f32⟩
  | 54 => ⟨S8192x256, .f32⟩
  | 55 => ⟨S1x8192x256, .f32⟩
  | 56 => ⟨S8192x256, .f32⟩
  | 57 => ⟨S1x8192x256, .f32⟩
  | 58 => ⟨S8192x256, .f32⟩
  | 59 => ⟨S1x8192x256, .f32⟩
  | 60 => ⟨S8192x256, .f32⟩
  | 61 => ⟨S1x8192x256, .f32⟩
  | 62 => ⟨S8192x256, .f32⟩
  | 63 => ⟨S1x8192x256, .f32⟩
  | 64 => ⟨S8192x256, .f32⟩
  | 65 => ⟨S1x8192x256, .f32⟩
  | 66 => ⟨S8192x256, .f32⟩
  | 67 => ⟨S1x8192x256, .f32⟩
  | 68 => ⟨S8192x256, .f32⟩
  | 69 => ⟨S1x8192x256, .f32⟩
  | 70 => ⟨S8192x256, .f32⟩
  | 71 => ⟨S1x8192x256, .f32⟩
  | 72 => ⟨S8192x256, .f32⟩
  | 73 => ⟨S1x8192x256, .f32⟩
  | 74 => ⟨S8192x256, .f32⟩
  | 75 => ⟨S1x8192x256, .f32⟩
  | 76 => ⟨S8192x256, .f32⟩
  | 77 => ⟨S1x8192x256, .f32⟩
  | 78 => ⟨S8192x256, .f32⟩
  | 79 => ⟨S1x8192x256, .f32⟩
  | 80 => ⟨S8192x256, .f32⟩
  | 81 => ⟨S1x8192x256, .f32⟩
  | 82 => ⟨S8192x256, .f32⟩
  | 83 => ⟨S1x8192x256, .f32⟩
  | 84 => ⟨S8192x256, .f32⟩
  | 85 => ⟨S1x8192x256, .f32⟩
  | 86 => ⟨S8192x256, .f32⟩
  | 87 => ⟨S1x8192x256, .f32⟩
  | 88 => ⟨S8192x256, .f32⟩
  | 89 => ⟨S1x8192x256, .f32⟩
  | 90 => ⟨S8192x256, .f32⟩
  | 91 => ⟨S1x8192x256, .f32⟩
  | 92 => ⟨S8192x256, .f32⟩
  | 93 => ⟨S1x8192x256, .f32⟩
  | 94 => ⟨S8192x256, .f32⟩
  | 95 => ⟨S1x8192x256, .f32⟩
  | 96 => ⟨S8192x256, .f32⟩
  | 97 => ⟨S1x8192x256, .f32⟩
  | 98 => ⟨S8192x256, .f32⟩
  | 99 => ⟨S1x8192x256, .f32⟩
  | 100 => ⟨S8192x256, .f32⟩
  | 101 => ⟨S_, .f32⟩
  | 102 => ⟨S8222x256, .f32⟩
  | 103 => ⟨S_, .f32⟩
  | 104 => ⟨S8222x256, .f32⟩
  | 105 => ⟨S8222x256, .f32⟩
  | 106 => ⟨S_, .f32⟩
  | 107 => ⟨S8222x256, .f32⟩
  | 108 => ⟨S8222x256, .f32⟩
  | 109 => ⟨S_, .f32⟩
  | 110 => ⟨S8222x256, .f32⟩
  | 111 => ⟨S8222x256, .f32⟩
  | 112 => ⟨S_, .f32⟩
  | 113 => ⟨S8222x256, .f32⟩
  | 114 => ⟨S8222x256, .f32⟩
  | 115 => ⟨S_, .f32⟩
  | 116 => ⟨S8222x256, .f32⟩
  | 117 => ⟨S8222x256, .f32⟩
  | 118 => ⟨S_, .f32⟩
  | 119 => ⟨S8222x256, .f32⟩
  | 120 => ⟨S8222x256, .f32⟩
  | 121 => ⟨S_, .f32⟩
  | 122 => ⟨S8222x256, .f32⟩
  | 123 => ⟨S8222x256, .f32⟩
  | 124 => ⟨S_, .f32⟩
  | 125 => ⟨S8222x256, .f32⟩
  | 126 => ⟨S8222x256, .f32⟩
  | 127 => ⟨S_, .f32⟩
  | _ => ⟨S8192x1024, .f32⟩

abbrev hbmTy0_5 (i : Nat) : BufTy := match i % 128 with
  | 0 => ⟨S8222x256, .f32⟩
  | 1 => ⟨S8222x256, .f32⟩
  | 2 => ⟨S_, .f32⟩
  | 3 => ⟨S8222x256, .f32⟩
  | 4 => ⟨S8222x256, .f32⟩
  | 5 => ⟨S_, .f32⟩
  | 6 => ⟨S8222x256, .f32⟩
  | 7 => ⟨S8222x256, .f32⟩
  | 8 => ⟨S_, .f32⟩
  | 9 => ⟨S8222x256, .f32⟩
  | 10 => ⟨S8222x256, .f32⟩
  | 11 => ⟨S_, .f32⟩
  | 12 => ⟨S8222x256, .f32⟩
  | 13 => ⟨S8222x256, .f32⟩
  | 14 => ⟨S_, .f32⟩
  | 15 => ⟨S8222x256, .f32⟩
  | 16 => ⟨S8222x256, .f32⟩
  | 17 => ⟨S_, .f32⟩
  | 18 => ⟨S8222x256, .f32⟩
  | 19 => ⟨S8222x256, .f32⟩
  | 20 => ⟨S_, .f32⟩
  | 21 => ⟨S8222x256, .f32⟩
  | 22 => ⟨S8222x256, .f32⟩
  | 23 => ⟨S_, .f32⟩
  | 24 => ⟨S8222x256, .f32⟩
  | 25 => ⟨S8222x256, .f32⟩
  | 26 => ⟨S_, .f32⟩
  | 27 => ⟨S8222x256, .f32⟩
  | 28 => ⟨S8222x256, .f32⟩
  | 29 => ⟨S_, .f32⟩
  | 30 => ⟨S8222x256, .f32⟩
  | 31 => ⟨S8222x256, .f32⟩
  | 32 => ⟨S_, .f32⟩
  | 33 => ⟨S8222x256, .f32⟩
  | 34 => ⟨S8222x256, .f32⟩
  | 35 => ⟨S_, .f32⟩
  | 36 => ⟨S8222x256, .f32⟩
  | 37 => ⟨S8222x256, .f32⟩
  | 38 => ⟨S_, .f32⟩
  | 39 => ⟨S8222x256, .f32⟩
  | 40 => ⟨S8222x256, .f32⟩
  | 41 => ⟨S_, .f32⟩
  | 42 => ⟨S8222x256, .f32⟩
  | 43 => ⟨S8222x256, .f32⟩
  | 44 => ⟨S_, .f32⟩
  | 45 => ⟨S8222x256, .f32⟩
  | 46 => ⟨S8222x256, .f32⟩
  | 47 => ⟨S_, .f32⟩
  | 48 => ⟨S8222x256, .f32⟩
  | 49 => ⟨S8222x256, .f32⟩
  | 50 => ⟨S_, .f32⟩
  | 51 => ⟨S8222x256, .f32⟩
  | 52 => ⟨S8222x256, .f32⟩
  | 53 => ⟨S_, .f32⟩
  | 54 => ⟨S8222x256, .f32⟩
  | 55 => ⟨S8222x256, .f32⟩
  | 56 => ⟨S_, .f32⟩
  | 57 => ⟨S8222x256, .f32⟩
  | 58 => ⟨S8222x256, .f32⟩
  | 59 => ⟨S_, .f32⟩
  | 60 => ⟨S8222x256, .f32⟩
  | 61 => ⟨S8222x256, .f32⟩
  | 62 => ⟨S_, .f32⟩
  | 63 => ⟨S8222x256, .f32⟩
  | 64 => ⟨S8222x256, .f32⟩
  | 65 => ⟨S_, .f32⟩
  | 66 => ⟨S31x256, .f32⟩
  | 67 => ⟨S30x256, .f32⟩
  | 68 => ⟨S8192x256, .f32⟩
  | 69 => ⟨S8192x256, .f32⟩
  | 70 => ⟨S8192x256, .f32⟩
  | 71 => ⟨S8192x256, .f32⟩
  | 72 => ⟨S8192x2048, .f32⟩
  | 73 => ⟨S1x256, .f32⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S_, .f32⟩
  | 80 => ⟨S7x256, .f32⟩
  | 81 => ⟨S16x256, .f32⟩
  | 82 => ⟨S8192x2048, .bf16⟩
  | 83 => ⟨S_, .i32⟩
  | 84 => ⟨S_, .f32⟩
  | 85 => ⟨S32x256, .f32⟩
  | 86 => ⟨S512x128, .f32⟩
  | 87 => ⟨S_, .i32⟩
  | 88 => ⟨S_, .f32⟩
  | 89 => ⟨S8x128, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_5 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_6 : Ref sig .tc := ⟨.hbm, 128, rfl⟩
abbrev main_v102 : Ref sig .tc := ⟨.hbm, 129, rfl⟩
abbrev main_v103 : Ref sig .tc := ⟨.hbm, 130, rfl⟩
abbrev main_cst_7 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_8 : Ref sig .tc := ⟨.hbm, 137, rfl⟩
abbrev main_v109 : Ref sig .tc := ⟨.hbm, 138, rfl⟩
abbrev main_v110 : Ref sig .tc := ⟨.hbm, 139, rfl⟩
abbrev main_cst_9 : Ref sig .tc := ⟨.hbm, 140, rfl⟩
abbrev main_v111 : Ref sig .tc := ⟨.hbm, 141, rfl⟩
abbrev main_v112 : Ref sig .tc := ⟨.hbm, 142, rfl⟩
abbrev main_cst_10 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_11 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_call1_v0 : Ref sig .tc := ⟨.hbm, 159, rfl⟩
abbrev main_call1_v1 : Ref sig .tc := ⟨.hbm, 160, rfl⟩
abbrev main_call1_cst : Ref sig .tc := ⟨.hbm, 161, rfl⟩
abbrev main_call1_v2 : Ref sig .tc := ⟨.hbm, 162, rfl⟩
abbrev main_call1_v3 : Ref sig .tc := ⟨.hbm, 163, rfl⟩
abbrev main_call1_cst_0 : Ref sig .tc := ⟨.hbm, 164, rfl⟩
abbrev main_call1_v4 : Ref sig .tc := ⟨.hbm, 165, rfl⟩
abbrev main_v127_2 : Ref sig .tc := ⟨.hbm, 166, rfl⟩
abbrev main_call1_cst_1 : Ref sig .tc := ⟨.hbm, 167, rfl⟩
abbrev main_call1_v6 : Ref sig .tc := ⟨.hbm, 168, rfl⟩
abbrev main_call1_v7 : Ref sig .tc := ⟨.hbm, 169, rfl⟩
abbrev main_v127_1 : Ref sig .tc := ⟨.hbm, 170, rfl⟩
abbrev main_v127_0 : Ref sig .tc := ⟨.hbm, 171, rfl⟩
abbrev main_v128 : Ref sig .tc := ⟨.hbm, 172, rfl⟩
abbrev main_cst_12 : Ref sig .tc := ⟨.hbm, 173, rfl⟩
abbrev main_v129 : Ref sig .tc := ⟨.hbm, 174, rfl⟩
abbrev main_v130 : Ref sig .tc := ⟨.hbm, 175, rfl⟩
abbrev main_cst_13 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_14 : Ref sig .tc := ⟨.hbm, 188, rfl⟩
abbrev main_v142 : Ref sig .tc := ⟨.hbm, 189, rfl⟩
abbrev main_v143 : Ref sig .tc := ⟨.hbm, 190, rfl⟩
abbrev main_call2_call0_cst : Ref sig .tc := ⟨.hbm, 191, rfl⟩
abbrev main_call2_call0_v0 : Ref sig .tc := ⟨.hbm, 192, rfl⟩
abbrev main_v144 : Ref sig .tc := ⟨.hbm, 193, rfl⟩
abbrev main_v145 : Ref sig .tc := ⟨.hbm, 194, rfl⟩
abbrev main_cst_15 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_16 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_17 : Ref sig .tc := ⟨.hbm, 204, rfl⟩
abbrev main_v153 : Ref sig .tc := ⟨.hbm, 205, rfl⟩
abbrev main_v154 : Ref sig .tc := ⟨.hbm, 206, rfl⟩
abbrev main_cst_18 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_19 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_20 : Ref sig .tc := ⟨.hbm, 219, rfl⟩
abbrev main_v165 : Ref sig .tc := ⟨.hbm, 220, rfl⟩
abbrev main_v166 : Ref sig .tc := ⟨.hbm, 221, rfl⟩
abbrev main_cst_21 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_22 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_23 : Ref sig .tc := ⟨.hbm, 234, rfl⟩
abbrev main_v177 : Ref sig .tc := ⟨.hbm, 235, rfl⟩
abbrev main_v178 : Ref sig .tc := ⟨.hbm, 236, rfl⟩
abbrev main_cst_24 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_25 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_26 : Ref sig .tc := ⟨.hbm, 249, rfl⟩
abbrev main_v189 : Ref sig .tc := ⟨.hbm, 250, rfl⟩
abbrev main_v190 : Ref sig .tc := ⟨.hbm, 251, rfl⟩
abbrev main_cst_27 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_28 : Ref sig .tc := ⟨.hbm, 264, rfl⟩
abbrev main_v202 : Ref sig .tc := ⟨.hbm, 265, rfl⟩
abbrev main_v203 : Ref sig .tc := ⟨.hbm, 266, rfl⟩
abbrev main_cst_29 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_30 : Ref sig .tc := ⟨.hbm, 273, rfl⟩
abbrev main_v209 : Ref sig .tc := ⟨.hbm, 274, rfl⟩
abbrev main_v210 : Ref sig .tc := ⟨.hbm, 275, rfl⟩
abbrev main_cst_31 : Ref sig .tc := ⟨.hbm, 276, rfl⟩
abbrev main_v211 : Ref sig .tc := ⟨.hbm, 277, rfl⟩
abbrev main_v212 : Ref sig .tc := ⟨.hbm, 278, rfl⟩
abbrev main_cst_32 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_33 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_c_34 : Ref sig .tc := ⟨.hbm, 296, rfl⟩
abbrev main_v228 : Ref sig .tc := ⟨.hbm, 297, rfl⟩
abbrev main_call3_v0 : Ref sig .tc := ⟨.hbm, 298, rfl⟩
abbrev main_call3_c : Ref sig .tc := ⟨.hbm, 299, rfl⟩
abbrev main_call3_v1 : Ref sig .tc := ⟨.hbm, 300, rfl⟩
abbrev main_call3_v2 : Ref sig .tc := ⟨.hbm, 301, rfl⟩
abbrev main_call3_v3 : Ref sig .tc := ⟨.hbm, 302, rfl⟩
abbrev main_call3_v4 : Ref sig .tc := ⟨.hbm, 303, rfl⟩
abbrev main_call3_c_0 : Ref sig .tc := ⟨.hbm, 304, rfl⟩
abbrev main_call3_v5 : Ref sig .tc := ⟨.hbm, 305, rfl⟩
abbrev main_v229 : Ref sig .tc := ⟨.hbm, 306, rfl⟩
abbrev main_v230 : Ref sig .tc := ⟨.hbm, 307, rfl⟩
abbrev main_cst_35 : Ref sig .tc := ⟨.hbm, 308, rfl⟩
abbrev main_call4_v0 : Ref sig .tc := ⟨.hbm, 309, rfl⟩
abbrev main_v231_1 : Ref sig .tc := ⟨.hbm, 310, rfl⟩
abbrev main_call4_v2 : Ref sig .tc := ⟨.hbm, 311, rfl⟩
abbrev main_v231_0 : Ref sig .tc := ⟨.hbm, 312, rfl⟩
abbrev main_call4_cst : Ref sig .tc := ⟨.hbm, 313, rfl⟩
abbrev main_v231_2 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_cst_36 : Ref sig .tc := ⟨.hbm, 333, rfl⟩
abbrev main_v250 : Ref sig .tc := ⟨.hbm, 334, rfl⟩
abbrev main_v251 : Ref sig .tc := ⟨.hbm, 335, rfl⟩
abbrev main_cst_37 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_call5_cst : Ref sig .tc := ⟨.hbm, 343, rfl⟩
abbrev main_call5_v0 : Ref sig .tc := ⟨.hbm, 344, rfl⟩
abbrev main_v258 : Ref sig .tc := ⟨.hbm, 345, rfl⟩
abbrev main_v259 : Ref sig .tc := ⟨.hbm, 346, rfl⟩
abbrev main_cst_38 : Ref sig .tc := ⟨.hbm, 347, rfl⟩
abbrev main_v260 : Ref sig .tc := ⟨.hbm, 348, rfl⟩
abbrev main_v261 : Ref sig .tc := ⟨.hbm, 349, rfl⟩
abbrev main_cst_39 : Ref sig .tc := ⟨.hbm, 350, rfl⟩
abbrev main_v262 : Ref sig .tc := ⟨.hbm, 351, rfl⟩
abbrev main_v263 : Ref sig .tc := ⟨.hbm, 352, rfl⟩
abbrev main_cst_40 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_cst_41 : Ref sig .tc := ⟨.hbm, 358, rfl⟩
abbrev main_v268 : Ref sig .tc := ⟨.hbm, 359, rfl⟩
abbrev main_v269 : Ref sig .tc := ⟨.hbm, 360, rfl⟩
abbrev main_cst_42 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_cst_43 : Ref sig .tc := ⟨.hbm, 367, rfl⟩
abbrev main_v275 : Ref sig .tc := ⟨.hbm, 368, rfl⟩
abbrev main_v276 : Ref sig .tc := ⟨.hbm, 369, rfl⟩
abbrev main_cst_44 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_cst_45 : Ref sig .tc := ⟨.hbm, 378, rfl⟩
abbrev main_v284 : Ref sig .tc := ⟨.hbm, 379, rfl⟩
abbrev main_v285 : Ref sig .tc := ⟨.hbm, 380, rfl⟩
abbrev main_cst_46 : Ref sig .tc := ⟨.hbm, 381, rfl⟩
abbrev main_v286 : Ref sig .tc := ⟨.hbm, 382, rfl⟩
abbrev main_v287 : Ref sig .tc := ⟨.hbm, 383, rfl⟩
abbrev main_cst_47 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_cst_48 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_cst_49 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_cst_50 : Ref sig .tc := ⟨.hbm, 404, rfl⟩
abbrev main_v305 : Ref sig .tc := ⟨.hbm, 405, rfl⟩
abbrev main_v306 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_cst_51 : Ref sig .tc := ⟨.hbm, 411, rfl⟩
abbrev main_v311 : Ref sig .tc := ⟨.hbm, 412, rfl⟩
abbrev main_v312 : Ref sig .tc := ⟨.hbm, 413, rfl⟩
abbrev main_cst_52 : Ref sig .tc := ⟨.hbm, 414, rfl⟩
abbrev main_v313 : Ref sig .tc := ⟨.hbm, 415, rfl⟩
abbrev main_v314 : Ref sig .tc := ⟨.hbm, 416, rfl⟩
abbrev main_cst_53 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318 : Ref sig .tc := ⟨.hbm, 421, rfl⟩
abbrev main_v319 : Ref sig .tc := ⟨.hbm, 422, rfl⟩
abbrev main_v320 : Ref sig .tc := ⟨.hbm, 423, rfl⟩
abbrev main_v321 : Ref sig .tc := ⟨.hbm, 424, rfl⟩
abbrev main_cst_54 : Ref sig .tc := ⟨.hbm, 425, rfl⟩
abbrev main_v322 : Ref sig .tc := ⟨.hbm, 426, rfl⟩
abbrev main_v323 : Ref sig .tc := ⟨.hbm, 427, rfl⟩
abbrev main_cst_55 : Ref sig .tc := ⟨.hbm, 428, rfl⟩
abbrev main_v324 : Ref sig .tc := ⟨.hbm, 429, rfl⟩
abbrev main_v325 : Ref sig .tc := ⟨.hbm, 430, rfl⟩
abbrev main_v326 : Ref sig .tc := ⟨.hbm, 431, rfl⟩
abbrev main_cst_56 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_v332 : Ref sig .tc := ⟨.hbm, 438, rfl⟩
abbrev main_v333 : Ref sig .tc := ⟨.hbm, 439, rfl⟩
abbrev main_cst_57 : Ref sig .tc := ⟨.hbm, 440, rfl⟩
abbrev main_v334 : Ref sig .tc := ⟨.hbm, 441, rfl⟩
abbrev main_v335 : Ref sig .tc := ⟨.hbm, 442, rfl⟩
abbrev main_cst_58 : Ref sig .tc := ⟨.hbm, 443, rfl⟩
abbrev main_v336 : Ref sig .tc := ⟨.hbm, 444, rfl⟩
abbrev main_v337 : Ref sig .tc := ⟨.hbm, 445, rfl⟩
abbrev main_v338 : Ref sig .tc := ⟨.hbm, 446, rfl⟩
abbrev main_cst_59 : Ref sig .tc := ⟨.hbm, 447, rfl⟩
abbrev main_v339 : Ref sig .tc := ⟨.hbm, 448, rfl⟩
abbrev main_v340 : Ref sig .tc := ⟨.hbm, 449, rfl⟩
abbrev main_v341 : Ref sig .tc := ⟨.hbm, 450, rfl⟩
abbrev main_v342 : Ref sig .tc := ⟨.hbm, 451, rfl⟩
abbrev main_v343 : Ref sig .tc := ⟨.hbm, 452, rfl⟩
abbrev main_v344 : Ref sig .tc := ⟨.hbm, 453, rfl⟩
abbrev main_v345 : Ref sig .tc := ⟨.hbm, 454, rfl⟩
abbrev main_cst_60 : Ref sig .tc := ⟨.hbm, 455, rfl⟩
abbrev main_v346 : Ref sig .tc := ⟨.hbm, 456, rfl⟩
abbrev main_v347 : Ref sig .tc := ⟨.hbm, 457, rfl⟩
abbrev main_cst_61 : Ref sig .tc := ⟨.hbm, 458, rfl⟩
abbrev main_v348 : Ref sig .tc := ⟨.hbm, 459, rfl⟩
abbrev main_v349 : Ref sig .tc := ⟨.hbm, 460, rfl⟩
abbrev main_call6_call0_cst : Ref sig .tc := ⟨.hbm, 461, rfl⟩
abbrev main_call6_call0_v0 : Ref sig .tc := ⟨.hbm, 462, rfl⟩
abbrev main_v350 : Ref sig .tc := ⟨.hbm, 463, rfl⟩
abbrev main_v351 : Ref sig .tc := ⟨.hbm, 464, rfl⟩
abbrev main_v352 : Ref sig .tc := ⟨.hbm, 465, rfl⟩
abbrev main_v353 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_cst_62 : Ref sig .tc := ⟨.hbm, 471, rfl⟩
abbrev main_v358 : Ref sig .tc := ⟨.hbm, 472, rfl⟩
abbrev main_v359 : Ref sig .tc := ⟨.hbm, 473, rfl⟩
abbrev main_v360 : Ref sig .tc := ⟨.hbm, 474, rfl⟩
abbrev main_v361 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_cst_63 : Ref sig .tc := ⟨.hbm, 480, rfl⟩
abbrev main_v366 : Ref sig .tc := ⟨.hbm, 481, rfl⟩
abbrev main_cst_64 : Ref sig .tc := ⟨.hbm, 482, rfl⟩
abbrev main_v367 : Ref sig .tc := ⟨.hbm, 483, rfl⟩
abbrev main_v368 : Ref sig .tc := ⟨.hbm, 484, rfl⟩
abbrev main_cst_65 : Ref sig .tc := ⟨.hbm, 485, rfl⟩
abbrev main_v369 : Ref sig .tc := ⟨.hbm, 486, rfl⟩
abbrev main_v370 : Ref sig .tc := ⟨.hbm, 487, rfl⟩
abbrev main_cst_66 : Ref sig .tc := ⟨.hbm, 488, rfl⟩
abbrev main_v371 : Ref sig .tc := ⟨.hbm, 489, rfl⟩
abbrev main_v372 : Ref sig .tc := ⟨.hbm, 490, rfl⟩
abbrev main_v373 : Ref sig .tc := ⟨.hbm, 491, rfl⟩
abbrev main_v374 : Ref sig .tc := ⟨.hbm, 492, rfl⟩
abbrev main_v375 : Ref sig .tc := ⟨.hbm, 493, rfl⟩
abbrev main_call7_v0 : Ref sig .tc := ⟨.hbm, 494, rfl⟩
abbrev main_call7_v1 : Ref sig .tc := ⟨.hbm, 495, rfl⟩
abbrev main_call7_v2 : Ref sig .tc := ⟨.hbm, 496, rfl⟩
abbrev main_v376 : Ref sig .tc := ⟨.hbm, 497, rfl⟩
abbrev main_cst_67 : Ref sig .tc := ⟨.hbm, 498, rfl⟩
abbrev main_v377 : Ref sig .tc := ⟨.hbm, 499, rfl⟩
abbrev main_v378 : Ref sig .tc := ⟨.hbm, 500, rfl⟩
abbrev main_cst_68 : Ref sig .tc := ⟨.hbm, 501, rfl⟩
abbrev main_v379 : Ref sig .tc := ⟨.hbm, 502, rfl⟩
abbrev main_v380 : Ref sig .tc := ⟨.hbm, 503, rfl⟩
abbrev main_cst_69 : Ref sig .tc := ⟨.hbm, 504, rfl⟩
abbrev main_v381 : Ref sig .tc := ⟨.hbm, 505, rfl⟩
abbrev main_v382 : Ref sig .tc := ⟨.hbm, 506, rfl⟩
abbrev main_v383 : Ref sig .tc := ⟨.hbm, 507, rfl⟩
abbrev main_v384 : Ref sig .tc := ⟨.hbm, 508, rfl⟩
abbrev main_cst_70 : Ref sig .tc := ⟨.hbm, 509, rfl⟩
abbrev main_v385 : Ref sig .tc := ⟨.hbm, 510, rfl⟩
abbrev main_v386 : Ref sig .tc := ⟨.hbm, 511, rfl⟩
abbrev main_cst_71 : Ref sig .tc := ⟨.hbm, 512, rfl⟩
abbrev main_v387 : Ref sig .tc := ⟨.hbm, 513, rfl⟩
abbrev main_v388 : Ref sig .tc := ⟨.hbm, 514, rfl⟩
abbrev main_v389 : Ref sig .tc := ⟨.hbm, 515, rfl⟩
abbrev main_v390 : Ref sig .tc := ⟨.hbm, 516, rfl⟩
abbrev main_v391 : Ref sig .tc := ⟨.hbm, 517, rfl⟩
abbrev main_cst_72 : Ref sig .tc := ⟨.hbm, 518, rfl⟩
abbrev main_v392 : Ref sig .tc := ⟨.hbm, 519, rfl⟩
abbrev main_v393 : Ref sig .tc := ⟨.hbm, 520, rfl⟩
abbrev main_cst_73 : Ref sig .tc := ⟨.hbm, 521, rfl⟩
abbrev main_v394 : Ref sig .tc := ⟨.hbm, 522, rfl⟩
abbrev main_v395 : Ref sig .tc := ⟨.hbm, 523, rfl⟩
abbrev main_v396 : Ref sig .tc := ⟨.hbm, 524, rfl⟩
abbrev main_v397 : Ref sig .tc := ⟨.hbm, 525, rfl⟩
abbrev main_v398 : Ref sig .tc := ⟨.hbm, 526, rfl⟩
abbrev main_v399 : Ref sig .tc := ⟨.hbm, 527, rfl⟩
abbrev main_v400 : Ref sig .tc := ⟨.hbm, 528, rfl⟩
abbrev main_cst_74 : Ref sig .tc := ⟨.hbm, 529, rfl⟩
abbrev main_v401 : Ref sig .tc := ⟨.hbm, 530, rfl⟩
abbrev main_v402 : Ref sig .tc := ⟨.hbm, 531, rfl⟩
abbrev main_cst_75 : Ref sig .tc := ⟨.hbm, 532, rfl⟩
abbrev main_v403 : Ref sig .tc := ⟨.hbm, 533, rfl⟩
abbrev main_v404 : Ref sig .tc := ⟨.hbm, 534, rfl⟩
abbrev main_cst_76 : Ref sig .tc := ⟨.hbm, 535, rfl⟩
abbrev main_v405 : Ref sig .tc := ⟨.hbm, 536, rfl⟩
abbrev main_v406 : Ref sig .tc := ⟨.hbm, 537, rfl⟩
abbrev main_v407 : Ref sig .tc := ⟨.hbm, 538, rfl⟩
abbrev main_cst_77 : Ref sig .tc := ⟨.hbm, 539, rfl⟩
abbrev main_v408 : Ref sig .tc := ⟨.hbm, 540, rfl⟩
abbrev main_v409 : Ref sig .tc := ⟨.hbm, 541, rfl⟩
abbrev main_cst_78 : Ref sig .tc := ⟨.hbm, 542, rfl⟩
abbrev main_v410 : Ref sig .tc := ⟨.hbm, 543, rfl⟩
abbrev main_v411 : Ref sig .tc := ⟨.hbm, 544, rfl⟩
abbrev main_v412 : Ref sig .tc := ⟨.hbm, 545, rfl⟩
abbrev main_v413 : Ref sig .tc := ⟨.hbm, 546, rfl⟩
abbrev main_v414 : Ref sig .tc := ⟨.hbm, 547, rfl⟩
abbrev main_cst_79 : Ref sig .tc := ⟨.hbm, 548, rfl⟩
abbrev main_v415 : Ref sig .tc := ⟨.hbm, 549, rfl⟩
abbrev main_v416 : Ref sig .tc := ⟨.hbm, 550, rfl⟩
abbrev main_v417 : Ref sig .tc := ⟨.hbm, 551, rfl⟩
abbrev main_v418 : Ref sig .tc := ⟨.hbm, 552, rfl⟩
abbrev main_v419 : Ref sig .tc := ⟨.hbm, 553, rfl⟩
abbrev main_v420 : Ref sig .tc := ⟨.hbm, 554, rfl⟩
abbrev main_v421 : Ref sig .tc := ⟨.hbm, 555, rfl⟩
abbrev main_v422 : Ref sig .tc := ⟨.hbm, 556, rfl⟩
abbrev main_v423 : Ref sig .tc := ⟨.hbm, 557, rfl⟩
abbrev main_v424 : Ref sig .tc := ⟨.hbm, 558, rfl⟩
abbrev main_v425 : Ref sig .tc := ⟨.hbm, 559, rfl⟩
abbrev main_v426 : Ref sig .tc := ⟨.hbm, 560, rfl⟩
abbrev main_v427 : Ref sig .tc := ⟨.hbm, 561, rfl⟩
abbrev main_v428 : Ref sig .tc := ⟨.hbm, 562, rfl⟩
abbrev main_v429 : Ref sig .tc := ⟨.hbm, 563, rfl⟩
abbrev main_v430 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_v439 : Ref sig .tc := ⟨.hbm, 573, rfl⟩
abbrev main_v440 : Ref sig .tc := ⟨.hbm, 574, rfl⟩
abbrev main_v441 : Ref sig .tc := ⟨.hbm, 575, rfl⟩
abbrev main_v442 : Ref sig .tc := ⟨.hbm, 576, rfl⟩
abbrev main_v443 : Ref sig .tc := ⟨.hbm, 577, rfl⟩
abbrev main_v444 : Ref sig .tc := ⟨.hbm, 578, rfl⟩
abbrev main_v445 : Ref sig .tc := ⟨.hbm, 579, rfl⟩
abbrev main_v446 : Ref sig .tc := ⟨.hbm, 580, rfl⟩
abbrev main_v447 : Ref sig .tc := ⟨.hbm, 581, rfl⟩
abbrev main_v448 : Ref sig .tc := ⟨.hbm, 582, rfl⟩
abbrev main_v449 : Ref sig .tc := ⟨.hbm, 583, rfl⟩
abbrev main_v450 : Ref sig .tc := ⟨.hbm, 584, rfl⟩
abbrev main_v451 : Ref sig .tc := ⟨.hbm, 585, rfl⟩
abbrev main_v452 : Ref sig .tc := ⟨.hbm, 586, rfl⟩
abbrev main_v453 : Ref sig .tc := ⟨.hbm, 587, rfl⟩
abbrev main_v454 : Ref sig .tc := ⟨.hbm, 588, rfl⟩
abbrev main_v455 : Ref sig .tc := ⟨.hbm, 589, rfl⟩
abbrev main_v456 : Ref sig .tc := ⟨.hbm, 590, rfl⟩
abbrev main_v457 : Ref sig .tc := ⟨.hbm, 591, rfl⟩
abbrev main_v458 : Ref sig .tc := ⟨.hbm, 592, rfl⟩
abbrev main_v459 : Ref sig .tc := ⟨.hbm, 593, rfl⟩
abbrev main_v460 : Ref sig .tc := ⟨.hbm, 594, rfl⟩
abbrev main_v461 : Ref sig .tc := ⟨.hbm, 595, rfl⟩
abbrev main_v462 : Ref sig .tc := ⟨.hbm, 596, rfl⟩
abbrev main_v463 : Ref sig .tc := ⟨.hbm, 597, rfl⟩
abbrev main_v464 : Ref sig .tc := ⟨.hbm, 598, rfl⟩
abbrev main_v465 : Ref sig .tc := ⟨.hbm, 599, rfl⟩
abbrev main_v466 : Ref sig .tc := ⟨.hbm, 600, rfl⟩
abbrev main_v467 : Ref sig .tc := ⟨.hbm, 601, rfl⟩
abbrev main_v468 : Ref sig .tc := ⟨.hbm, 602, rfl⟩
abbrev main_v469 : Ref sig .tc := ⟨.hbm, 603, rfl⟩
abbrev main_v470 : Ref sig .tc := ⟨.hbm, 604, rfl⟩
abbrev main_v471 : Ref sig .tc := ⟨.hbm, 605, rfl⟩
abbrev main_v472 : Ref sig .tc := ⟨.hbm, 606, rfl⟩
abbrev main_v473 : Ref sig .tc := ⟨.hbm, 607, rfl⟩
abbrev main_v474 : Ref sig .tc := ⟨.hbm, 608, rfl⟩
abbrev main_v475 : Ref sig .tc := ⟨.hbm, 609, rfl⟩
abbrev main_v476 : Ref sig .tc := ⟨.hbm, 610, rfl⟩
abbrev main_v477 : Ref sig .tc := ⟨.hbm, 611, rfl⟩
abbrev main_v478 : Ref sig .tc := ⟨.hbm, 612, rfl⟩
abbrev main_cst_80 : Ref sig .tc := ⟨.hbm, 613, rfl⟩
abbrev main_v479 : Ref sig .tc := ⟨.hbm, 614, rfl⟩
abbrev main_cst_81 : Ref sig .tc := ⟨.hbm, 615, rfl⟩
abbrev main_v480 : Ref sig .tc := ⟨.hbm, 616, rfl⟩
abbrev main_v481 : Ref sig .tc := ⟨.hbm, 617, rfl⟩
abbrev main_cst_82 : Ref sig .tc := ⟨.hbm, 618, rfl⟩
abbrev main_v482 : Ref sig .tc := ⟨.hbm, 619, rfl⟩
abbrev main_v483 : Ref sig .tc := ⟨.hbm, 620, rfl⟩
abbrev main_cst_83 : Ref sig .tc := ⟨.hbm, 621, rfl⟩
abbrev main_v484 : Ref sig .tc := ⟨.hbm, 622, rfl⟩
abbrev main_v485 : Ref sig .tc := ⟨.hbm, 623, rfl⟩
abbrev main_cst_84 : Ref sig .tc := ⟨.hbm, 624, rfl⟩
abbrev main_v486 : Ref sig .tc := ⟨.hbm, 625, rfl⟩
abbrev main_v487 : Ref sig .tc := ⟨.hbm, 626, rfl⟩
abbrev main_cst_85 : Ref sig .tc := ⟨.hbm, 627, rfl⟩
abbrev main_v488 : Ref sig .tc := ⟨.hbm, 628, rfl⟩
abbrev main_v489 : Ref sig .tc := ⟨.hbm, 629, rfl⟩
abbrev main_cst_86 : Ref sig .tc := ⟨.hbm, 630, rfl⟩
abbrev main_v490 : Ref sig .tc := ⟨.hbm, 631, rfl⟩
abbrev main_v491 : Ref sig .tc := ⟨.hbm, 632, rfl⟩
abbrev main_cst_87 : Ref sig .tc := ⟨.hbm, 633, rfl⟩
abbrev main_v492 : Ref sig .tc := ⟨.hbm, 634, rfl⟩
abbrev main_v493 : Ref sig .tc := ⟨.hbm, 635, rfl⟩
abbrev main_cst_88 : Ref sig .tc := ⟨.hbm, 636, rfl⟩
abbrev main_v494 : Ref sig .tc := ⟨.hbm, 637, rfl⟩
abbrev main_v495 : Ref sig .tc := ⟨.hbm, 638, rfl⟩
abbrev main_cst_89 : Ref sig .tc := ⟨.hbm, 639, rfl⟩
abbrev main_v496 : Ref sig .tc := ⟨.hbm, 640, rfl⟩
abbrev main_v497 : Ref sig .tc := ⟨.hbm, 641, rfl⟩
abbrev main_cst_90 : Ref sig .tc := ⟨.hbm, 642, rfl⟩
abbrev main_v498 : Ref sig .tc := ⟨.hbm, 643, rfl⟩
abbrev main_v499 : Ref sig .tc := ⟨.hbm, 644, rfl⟩
abbrev main_cst_91 : Ref sig .tc := ⟨.hbm, 645, rfl⟩
abbrev main_v500 : Ref sig .tc := ⟨.hbm, 646, rfl⟩
abbrev main_v501 : Ref sig .tc := ⟨.hbm, 647, rfl⟩
abbrev main_cst_92 : Ref sig .tc := ⟨.hbm, 648, rfl⟩
abbrev main_v502 : Ref sig .tc := ⟨.hbm, 649, rfl⟩
abbrev main_v503 : Ref sig .tc := ⟨.hbm, 650, rfl⟩
abbrev main_cst_93 : Ref sig .tc := ⟨.hbm, 651, rfl⟩
abbrev main_v504 : Ref sig .tc := ⟨.hbm, 652, rfl⟩
abbrev main_v505 : Ref sig .tc := ⟨.hbm, 653, rfl⟩
abbrev main_cst_94 : Ref sig .tc := ⟨.hbm, 654, rfl⟩
abbrev main_v506 : Ref sig .tc := ⟨.hbm, 655, rfl⟩
abbrev main_v507 : Ref sig .tc := ⟨.hbm, 656, rfl⟩
abbrev main_cst_95 : Ref sig .tc := ⟨.hbm, 657, rfl⟩
abbrev main_v508 : Ref sig .tc := ⟨.hbm, 658, rfl⟩
abbrev main_v509 : Ref sig .tc := ⟨.hbm, 659, rfl⟩
abbrev main_cst_96 : Ref sig .tc := ⟨.hbm, 660, rfl⟩
abbrev main_v510 : Ref sig .tc := ⟨.hbm, 661, rfl⟩
abbrev main_v511 : Ref sig .tc := ⟨.hbm, 662, rfl⟩
abbrev main_cst_97 : Ref sig .tc := ⟨.hbm, 663, rfl⟩
abbrev main_v512 : Ref sig .tc := ⟨.hbm, 664, rfl⟩
abbrev main_v513 : Ref sig .tc := ⟨.hbm, 665, rfl⟩
abbrev main_cst_98 : Ref sig .tc := ⟨.hbm, 666, rfl⟩
abbrev main_v514 : Ref sig .tc := ⟨.hbm, 667, rfl⟩
abbrev main_v515 : Ref sig .tc := ⟨.hbm, 668, rfl⟩
abbrev main_cst_99 : Ref sig .tc := ⟨.hbm, 669, rfl⟩
abbrev main_v516 : Ref sig .tc := ⟨.hbm, 670, rfl⟩
abbrev main_v517 : Ref sig .tc := ⟨.hbm, 671, rfl⟩
abbrev main_cst_100 : Ref sig .tc := ⟨.hbm, 672, rfl⟩
abbrev main_v518 : Ref sig .tc := ⟨.hbm, 673, rfl⟩
abbrev main_v519 : Ref sig .tc := ⟨.hbm, 674, rfl⟩
abbrev main_cst_101 : Ref sig .tc := ⟨.hbm, 675, rfl⟩
abbrev main_v520 : Ref sig .tc := ⟨.hbm, 676, rfl⟩
abbrev main_v521 : Ref sig .tc := ⟨.hbm, 677, rfl⟩
abbrev main_cst_102 : Ref sig .tc := ⟨.hbm, 678, rfl⟩
abbrev main_v522 : Ref sig .tc := ⟨.hbm, 679, rfl⟩
abbrev main_v523 : Ref sig .tc := ⟨.hbm, 680, rfl⟩
abbrev main_cst_103 : Ref sig .tc := ⟨.hbm, 681, rfl⟩
abbrev main_v524 : Ref sig .tc := ⟨.hbm, 682, rfl⟩
abbrev main_v525 : Ref sig .tc := ⟨.hbm, 683, rfl⟩
abbrev main_cst_104 : Ref sig .tc := ⟨.hbm, 684, rfl⟩
abbrev main_v526 : Ref sig .tc := ⟨.hbm, 685, rfl⟩
abbrev main_v527 : Ref sig .tc := ⟨.hbm, 686, rfl⟩
abbrev main_cst_105 : Ref sig .tc := ⟨.hbm, 687, rfl⟩
abbrev main_v528 : Ref sig .tc := ⟨.hbm, 688, rfl⟩
abbrev main_v529 : Ref sig .tc := ⟨.hbm, 689, rfl⟩
abbrev main_cst_106 : Ref sig .tc := ⟨.hbm, 690, rfl⟩
abbrev main_v530 : Ref sig .tc := ⟨.hbm, 691, rfl⟩
abbrev main_v531 : Ref sig .tc := ⟨.hbm, 692, rfl⟩
abbrev main_cst_107 : Ref sig .tc := ⟨.hbm, 693, rfl⟩
abbrev main_v532 : Ref sig .tc := ⟨.hbm, 694, rfl⟩
abbrev main_v533 : Ref sig .tc := ⟨.hbm, 695, rfl⟩
abbrev main_cst_108 : Ref sig .tc := ⟨.hbm, 696, rfl⟩
abbrev main_v534 : Ref sig .tc := ⟨.hbm, 697, rfl⟩
abbrev main_v535 : Ref sig .tc := ⟨.hbm, 698, rfl⟩
abbrev main_cst_109 : Ref sig .tc := ⟨.hbm, 699, rfl⟩
abbrev main_v536 : Ref sig .tc := ⟨.hbm, 700, rfl⟩
abbrev main_v537 : Ref sig .tc := ⟨.hbm, 701, rfl⟩
abbrev main_cst_110 : Ref sig .tc := ⟨.hbm, 702, rfl⟩
abbrev main_v538 : Ref sig .tc := ⟨.hbm, 703, rfl⟩
abbrev main_v539 : Ref sig .tc := ⟨.hbm, 704, rfl⟩
abbrev main_cst_111 : Ref sig .tc := ⟨.hbm, 705, rfl⟩
abbrev main_v540 : Ref sig .tc := ⟨.hbm, 706, rfl⟩
abbrev main_v541 : Ref sig .tc := ⟨.hbm, 707, rfl⟩
abbrev main_v542 : Ref sig .tc := ⟨.hbm, 708, rfl⟩
abbrev main_v543 : Ref sig .tc := ⟨.hbm, 709, rfl⟩
abbrev main_v544 : Ref sig .tc := ⟨.hbm, 710, rfl⟩
abbrev main_v545 : Ref sig .tc := ⟨.hbm, 711, rfl⟩
abbrev main_v546 : Ref sig .tc := ⟨.hbm, 712, rfl⟩
abbrev main_v547 : Ref sig .tc := ⟨.hbm, 713, rfl⟩
abbrev main_v548 : Ref sig .tc := ⟨.hbm, 714, rfl⟩
abbrev main_v549 : Ref sig .tc := ⟨.hbm, 715, rfl⟩
abbrev main_v550 : Ref sig .tc := ⟨.hbm, 716, rfl⟩
abbrev main_v551 : Ref sig .tc := ⟨.hbm, 717, rfl⟩
abbrev main_v552 : Ref sig .tc := ⟨.hbm, 718, rfl⟩
abbrev main_cst_112 : Ref sig .tc := ⟨.hbm, 719, rfl⟩
abbrev main_v553 : Ref sig .tc := ⟨.hbm, 720, rfl⟩
abbrev main_v554 : Ref sig .tc := ⟨.hbm, 721, rfl⟩
abbrev main_v555 : Ref sig .tc := ⟨.hbm, 722, rfl⟩
abbrev main_c_113 : Ref sig .tc := ⟨.hbm, 723, rfl⟩
abbrev main_call8_v0 : Ref sig .tc := ⟨.hbm, 724, rfl⟩
abbrev main_v556 : Ref sig .tc := ⟨.hbm, 725, rfl⟩
abbrev main_v557 : Ref sig .tc := ⟨.hbm, 726, rfl⟩
abbrev main_c_114 : Ref sig .tc := ⟨.hbm, 727, rfl⟩
abbrev main_call9_v0 : Ref sig .tc := ⟨.hbm, 728, rfl⟩
abbrev main_v558 : Ref sig .tc := ⟨.hbm, 729, rfl⟩

abbrev nD : Nat := 1
abbrev τ : Topo := Topo.v7x

variable {F : FTy → Type} [FloatOps F]
-- ==== ProjKernel.lean ====
abbrev S8192x1024 : Shape := ⟨2, ![8192, 1024]⟩
abbrev S1024 : Shape := ⟨1, ![1024]⟩
abbrev S8192x2048 : Shape := ⟨2, ![8192, 2048]⟩
abbrev S1024x2048 : Shape := ⟨2, ![1024, 2048]⟩
abbrev S1x1024 : Shape := ⟨2, ![1, 1024]⟩
abbrev S2048x1024 : Shape := ⟨2, ![2048, 1024]⟩
abbrev S8x1024 : Shape := ⟨2, ![8, 1024]⟩
abbrev S1024x1024 : Shape := ⟨2, ![1024, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x2048, .f32⟩
  | .hbm, ⟨4, _⟩ => ⟨S1024x2048, .f32⟩
  | .hbm, ⟨5, _⟩ => ⟨S1x1024, .f32⟩
  | .hbm, ⟨6, _⟩ => ⟨S8192x2048, .bf16⟩
  | .hbm, ⟨7, _⟩ => ⟨S2048x1024, .f32⟩
  | .hbm, ⟨8, _⟩ => ⟨S2048x1024, .bf16⟩
  | .hbm, ⟨9, _⟩ => ⟨S8192x1024, .f32⟩
  | .hbm, ⟨10, _⟩ => ⟨S8x1024, .f32⟩
  | .hbm, ⟨11, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S8192x1024 : Shape := ⟨2, ![8192, 1024]⟩
abbrev S1024 : Shape := ⟨1, ![1024]⟩
abbrev S8192x2048 : Shape := ⟨2, ![8192, 2048]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x2048, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .i32⟩
  | .hbm, ⟨55, _⟩ => ⟨S_, .f32⟩
  | .hbm, ⟨56, _⟩ => ⟨S8x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== UpKernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x2816, .bf16⟩
  | .hbm, ⟨13, _⟩ => ⟨S8192x2816, .bf16⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .bf16⟩
  | .local _ .vmem, ⟨13, _⟩ => ⟨S512x1024, .bf16⟩
  | .local _ .vmem, ⟨14, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== InKernel.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S2048x1024 : Shape := ⟨2, ![2048, 1024]⟩
abbrev S8192x2048 : Shape := ⟨2, ![8192, 2048]⟩
abbrev S1024x1024 : Shape := ⟨2, ![1024, 1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InReferenceIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== DwKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | .hbm, ⟨4, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamKernel.lean ====
abbrev S2816x1024 : Shape := ⟨2, ![2816, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
module

public import Idealize.ShloMosaic.Lib.Pointwise

/-! Finite values: the idealized operations on finite arguments are the operations of the reals. -/

@[expose] public section

noncomputable section
open Idealize.ShloMosaic
namespace Cert.Step

/-- A sum of finite values is the finite value of the sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of finite values by one that is not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal square root of a positive finite value. -/
theorem rsqrt_real {a : ℝ} (ha : 0 < a) : Ideal.rsqrt (a : EReal) = (((Real.sqrt a)⁻¹ : ℝ) : EReal) := by
  rw [Ideal.rsqrt_coe, if_neg ha.le.not_gt, if_neg ha.ne']

/-- A conjunction of truth bits is one exactly when both are. -/
theorem andi_one : ∀ a b : BitVec 1, IntOp.andi a b = 1#1 ↔ a = 1#1 ∧ b = 1#1 := by decide

/-- A conjunction over a finite set is one exactly when every bit is. -/
theorem all_one {ι : Type} (s : Finset ι) (f : ι → BitVec 1) :
    Finset.fold IntOp.andi (1#1) f s = 1#1 ↔ ∀ i ∈ s, f i = 1#1 := by
  classical
  induction s using Finset.induction_on with
  | empty => simp
  | insert a s ha ih => rw [Finset.fold_insert ha, andi_one, ih]; simp

/-- A value whose magnitude is below infinity is a real number. -/
theorem real_of_abs {a : EReal}
    (h : BitVec.ofBool (decide (FloatOps.absf (F := Ideal) (φ := .f32) a < Ideal.ofBits FTy.f32 2139095040#32)) = 1#1) : ∃ r : ℝ, a = r := by
  have hi : Ideal.ofBits FTy.f32 2139095040#32 = ⊤ := by simp [Ideal.ofBits, Ideal.ieee]
  rw [hi] at h
  induction a with
  | bot => exact absurd h (by simp [FloatOps.absf]; try decide)
  | top => exact absurd h (by simp [FloatOps.absf]; try decide)
  | coe r => exact ⟨r, rfl⟩

/-- The norm's epsilon as its literal says it. -/
def eps : ℝ := 8796093 / 2 ^ 43

/-- The epsilon is positive. -/
theorem eps_pos : 0 < eps := by norm_num [eps]

/-- The epsilon's bits. -/
theorem lit_eps : Ideal.ofBits .f32 0x358637BD#32 = (eps : EReal) := by
  simp [Ideal.ofBits, Ideal.ieee, eps, -EReal.coe_mul]; norm_num

/-- The bits of 1024. -/
theorem lit_1024 : Ideal.ofBits .f32 0x44800000#32 = ((1024 : ℝ) : EReal) := by
  simp [Ideal.ofBits, Ideal.ieee, -EReal.coe_mul]; norm_num

/-- The bits of 1/1024. -/
theorem lit_inv1024 : Ideal.ofBits .f32 0x3A800000#32 = ((1 / 1024 : ℝ) : EReal) := by
  simp [Ideal.ofBits, Ideal.ieee, -EReal.coe_mul]; norm_num

/-- The bits of one half. -/
theorem lit_half : Ideal.ofBits .f32 0x3F000000#32 = ((1 / 2 : ℝ) : EReal) := by
  simp [Ideal.ofBits, Ideal.ieee, -EReal.coe_mul]; norm_num

/-- The bits of minus one half. -/
theorem lit_neg_half : Ideal.ofBits .f32 0xBF000000#32 = ((-1 / 2 : ℝ) : EReal) := by
  simp [Ideal.ofBits, Ideal.ieee, -EReal.coe_mul, -EReal.coe_neg]; norm_num

/-- The bits of two. -/
theorem lit_two : Ideal.ofBits .f32 0x40000000#32 = ((2 : ℝ) : EReal) := by
  simp [Ideal.ofBits, Ideal.ieee, -EReal.coe_mul]; norm_num

/-- One is a real number. -/
theorem one_coe : (1 : EReal) = ((1 : ℝ) : EReal) := rfl

/-- Zero is a real number. -/
theorem zero_coe : (0 : EReal) = ((0 : ℝ) : EReal) := rfl

/-- The mean square of a row plus epsilon. -/
def meanEps {n : ℕ} (x : Fin n → ℝ) : ℝ := (∑ k, x k * x k) / n + eps

/-- A mean square plus the epsilon is positive. -/
theorem meanEps_pos {n : ℕ} (x : Fin n → ℝ) : 0 < meanEps x :=
  add_pos_of_nonneg_of_pos (div_nonneg (Finset.sum_nonneg fun k _ => mul_self_nonneg (x k)) n.cast_nonneg) eps_pos

/-- The reciprocal root mean square of a row. -/
def invRms {n : ℕ} (x : Fin n → ℝ) : ℝ := (Real.sqrt (meanEps x))⁻¹

/-- The reciprocal root, by its definition. -/
theorem invRms_eq {n : ℕ} (x : Fin n → ℝ) : (Real.sqrt (meanEps x))⁻¹ = invRms x := rfl

/-- The derivative of the norm in closed form is the sum of the three paths through the row:
    the scaled element itself, and the mean square twice. -/
theorem norm_grad {n : ℕ} (x h : Fin n → ℝ) (j : Fin n) :
    invRms x * (h j - x j * invRms x * ((∑ k, h k * (x k * invRms x)) / n))
      = h j * invRms x + x j * ((∑ k, x k * h k) * (-1 / 2 * (invRms x / meanEps x)) / n)
        + (∑ k, x k * h k) * (-1 / 2 * (invRms x / meanEps x)) / n * x j := by
  have hm : invRms x / meanEps x = invRms x * (invRms x * invRms x) := by
    have : invRms x * invRms x = (meanEps x)⁻¹ := by
      rw [invRms, ← mul_inv, Real.mul_self_sqrt (meanEps_pos x).le]
    rw [this, div_eq_mul_inv]
  have hs : ∑ k, h k * (x k * invRms x) = (∑ k, x k * h k) * invRms x := by
    rw [Finset.sum_mul]; exact Finset.sum_congr rfl fun k _ => by ring
  rw [hm, hs]; ring

end Cert.Step
-- ==== Proof.LossPure.lean ====
module

public import proofs.«01_k».proof.Defs
public import proofs.«01_k».proof.Proof.Gen.LossReferenceIdeal.Run
public import proofs.«01_k».proof.Proof.Reals
public import Idealize.ShloMosaic.Lib.Pointwise
public import Idealize.ShloMosaic.Lib.Claim

/-! The reference's results of the loss head, read at an index. -/

@[expose] public section

set_option maxRecDepth 16384
noncomputable section
open Idealize.ShloMosaic Idealize.ShloMosaic.TcCoe Idealize.SL.Sem
namespace Cert.LossReferenceIdeal.Loss
open Cert.LossReferenceIdeal Cert.LossReferenceIdeal.Gen Cert.Step

variable (X T : FVec Ideal S1x8192x1024 .f32) (G : FVec Ideal S1024 .f32)

/-- The rows without the leading unit axis. -/
def rows : FVec Ideal S8192x1024 .f32 := shapeCast _ X shapeCasts_S1x8192x1024_S8192x1024

/-- The scale vector, once per row. -/
def gains : FVec Ideal S8192x1024 .f32 :=
  broadcastInDim S8192x1024 ![0, 1] bcast_S1x1024_S8192x1024_0_1 (broadcastInDim S1x1024 ![1] bcast_S1024_S1x1024_1 G)

/-- The mean square of each row plus the norm's epsilon. -/
def meanSq : FVec Ideal S8192x1 .f32 :=
  addf (Host.divf (broadcastInDim S8192x1 ![0] bcast_S8192_S8192x1_0
      (Host.reduceAdd (mulf (rows X) (rows X)) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

/-- The normed rows before the scale vector. -/
def normed : FVec Ideal S8192x1024 .f32 :=
  mulf (rows X) (broadcastInDim S8192x1024 ![0, 1] bcast_S8192x1_S8192x1024_0_1 (Host.rsqrt (meanSq X)))

/-- The difference between the normed rows and the target. -/
def miss : FVec Ideal S8192x1024 .f32 := subf (mulf (normed X) (gains G)) (rows T)

/-- The derivative of the loss by the normed, scaled rows. -/
def slope : FVec Ideal S8192x1024 .f32 :=
  mulf (broadcastInDim S8192x1024 ![0] bcast_S8192_S8192x1024_0
      (Host.divf (broadcastInDim S8192 ![] bcast_S_S8192 (mulf (constant S_ .f32 0x3F000000#32) (constant S_ .f32 0x3F800000#32)))
        (broadcastInDim S8192 ![] bcast_S_S8192 (constant S_ .f32 0x44800000#32))))
    (mulf (broadcastInDim S8192x1024 ![] bcast_S_S8192x1024 (constant S_ .f32 0x40000000#32)) (miss X T G))

/-- What the mean square of each row receives, per element of the row. -/
def meanPart : FVec Ideal S8192 .f32 :=
  Host.reduceAdd (Host.divf (mulf (shapeCast _ (Host.reduceAdd (mulf (rows X) (mulf (slope X T G) (gains G)))
      (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (meanSq X)) (meanSq X))))
    (broadcastInDim S8192x1 ![] bcast_S_S8192x1 (constant S_ .f32 0x44800000#32)))
    (constant S_ .f32 0x00000000#32) reducesTo_S8192x1_S8192_d1 h_S_

/-- The derivative by the rows. -/
def gradRows : FVec Ideal S8192x1024 .f32 :=
  addf (addf (mulf (mulf (slope X T G) (gains G))
        (broadcastInDim S8192x1024 ![0, 1] bcast_S8192x1_S8192x1024_0_1 (Host.rsqrt (meanSq X))))
      (mulf (rows X) (broadcastInDim S8192x1024 ![0] bcast_S8192_S8192x1024_0 (meanPart X T G))))
    (mulf (broadcastInDim S8192x1024 ![0] bcast_S8192_S8192x1024_0 (meanPart X T G)) (rows X))

/-- The reference's first result is the staged term. -/
theorem rows_eq (m : (ℓ : Loc nD τ sig) → Buf (Elt Ideal) ℓ) (c : Dev nD) :
    Value.res_main_v52 (F := Ideal) m c = gradRows (m ((c.tc : Thread nD τ).loc main_arg0)) (m ((c.tc : Thread nD τ).loc main_arg2)) (m ((c.tc : Thread nD τ).loc main_arg1)) := by
  unfold Value.res_main_v52
  rfl

/-- The derivative by the scale vector. -/
def gradGain : FVec Ideal S1024 .f32 :=
  Host.reduceAdd (shapeCast _ (Host.reduceAdd (mulf (normed X) (slope X T G)) (constant S_ .f32 0x00000000#32)
    reducesTo_S8192x1024_S1024_d0 h_S_) shapeCasts_S1024_S1x1024) (constant S_ .f32 0x00000000#32) reducesTo_S1x1024_S1024_d0 h_S_

/-- The derivative by the scale vector in the first of eight rows, the others zero. -/
def gainRows : FVec Ideal S8x1024 .f32 :=
  select (broadcastInDim S8x1024 ![0, 1] bcast_S8x1_S8x1024_0_1 (cmpi .eq (broadcastInDim S8x1 ![0] bcast_S8_S8x1_0 (iotaInDim S8 32 0))
      (broadcastInDim S8x1 ![] bcast_S_S8x1 (constantI S_ 32 0#32))))
    (broadcastInDim S8x1024 ![0, 1] bcast_S1x1024_S8x1024_0_1 (broadcastInDim S1x1024 ![1] bcast_S1024_S1x1024_1 (gradGain X T G)))
    (broadcastInDim S8x1024 ![] bcast_S_S8x1024 (id (constant S_ .f32 0x00000000#32)))

/-- The loss in every element of its array. -/
def lossAll : FVec Ideal S8x128 .f32 :=
  broadcastInDim S8x128 ![] bcast_S_S8x128 (mulf (constant S_ .f32 0x3F000000#32) (Host.reduceAdd
    (Host.divf (Host.reduceAdd (mulf (miss X T G) (miss X T G)) (constant S_ .f32 0x00000000#32) reducesTo_S8192x1024_S8192_d1 h_S_)
      (broadcastInDim S8192 ![] bcast_S_S8192 (constant S_ .f32 0x44800000#32)))
    (constant S_ .f32 0x00000000#32) reducesTo_S8192_S_d0 h_S_))

section
variable (x t : Fin 8192 → Fin 1024 → ℝ) (g : Fin 1024 → ℝ)

/-- The difference of a normed, scaled element and its target, over the reals. -/
def missR (r : Fin 8192) (l : Fin 1024) : ℝ := x r l * invRms (x r) * g l - t r l

variable {X T G x t g}
variable (hx : ∀ r l, X (ix3 0 r l) = (x r l : EReal)) (ht : ∀ r l, T (ix3 0 r l) = (t r l : EReal)) (hg : ∀ l, G (ix1 l) = (g l : EReal))

include hx in
/-- The mean square of a row, with its epsilon. -/
theorem meanSq_at (r : Fin 8192) (q : Fin 1) : meanSq X (ix2 r q) = (meanEps (x r) : EReal) := by
  pointwise [meanSq, rows]
  simp only [hx, lit_1024, lit_eps, ← EReal.coe_mul, sum_coe, div_real _ (by norm_num : (1024 : ℝ) ≠ 0), ← EReal.coe_add]
  norm_num [meanEps]

include hx in
/-- The normalised entry. -/
theorem normed_at (r : Fin 8192) (l : Fin 1024) : normed X (ix2 r l) = ((x r l * invRms (x r) : ℝ) : EReal) := by
  pointwise [normed, rows]
  rw [meanSq_at hx, rsqrt_real (meanEps_pos _), hx, ← EReal.coe_mul, invRms]

include hx ht hg in
/-- What the output misses the target by. -/
theorem miss_at (r : Fin 8192) (l : Fin 1024) : miss X T G (ix2 r l) = (missR x t g r l : EReal) := by
  pointwise [miss, rows, gains]
  rw [normed_at hx, ht, hg, ← EReal.coe_mul, ← EReal.coe_sub, missR]

include hx ht hg in
/-- The derivative of the loss by the output. -/
theorem slope_at (r : Fin 8192) (l : Fin 1024) : slope X T G (ix2 r l) = ((missR x t g r l / 1024 : ℝ) : EReal) := by
  pointwise [slope]
  rw [miss_at hx ht hg, lit_half, lit_1024, lit_two, div_real _ (by norm_num : (1024 : ℝ) ≠ 0), ← EReal.coe_mul, ← EReal.coe_mul]
  congr 1; ring

include hx ht hg in
/-- The derivative by the activations, in the closed form. -/
theorem gradRows_at (r : Fin 8192) (l : Fin 1024) : gradRows X T G (ix2 r l)
    = ((invRms (x r) * (missR x t g r l / 1024 * g l - x r l * invRms (x r)
        * ((∑ k, missR x t g r k / 1024 * g k * (x r k * invRms (x r))) / (1024 : ℕ))) : ℝ) : EReal) := by
  rw [norm_grad (x r) (fun k => missR x t g r k / 1024 * g k) l]
  pointwise [gradRows, meanPart, rows, gains]
  simp only [slope_at hx ht hg, meanSq_at hx, hx, hg, lit_1024, lit_neg_half, rsqrt_real (meanEps_pos _), ← EReal.coe_mul, sum_coe,
    div_real _ (meanEps_pos _).ne', div_real _ (by norm_num : (1024 : ℝ) ≠ 0), ← EReal.coe_add,
    Fin.sum_univ_one, invRms_eq]
  norm_num

/-- The select on "this is row zero" reads as the condition itself. -/
theorem first_row (a : Fin 8) (u v : EReal) :
    Scalar.select (IntOp.cmpi CmpIPredicate.eq (BitVec.ofNat 32 ↑a) 0#32) u v = if a = 0 then u else v := by
  have h : ∀ a : Fin 8, IntOp.cmpi CmpIPredicate.eq (BitVec.ofNat 32 ↑a) 0#32 = if a = 0 then 1#1 else 0#1 := by decide
  rw [h a]; split <;> rfl

include hx ht hg in
/-- The first row holds the derivative by the gains, the others zero. -/
theorem gainRows_at (a : Fin 8) (l : Fin 1024) : gainRows X T G (ix2 a l)
    = (((if a = 0 then ∑ r, missR x t g r l / 1024 * (x r l * invRms (x r)) else 0) : ℝ) : EReal) := by
  pointwise [gainRows, gradGain]
  simp only [slope_at hx ht hg, normed_at hx, ← EReal.coe_mul, sum_coe, first_row, Fin.sum_univ_one]
  split
  · exact congrArg _ (Finset.sum_congr rfl fun r _ => mul_comm _ _)
  · pointwise [id]; rfl

include hx ht hg in
/-- Every entry of the last result is the loss. -/
theorem lossAll_at (a : Fin 8) (b : Fin 128) : lossAll X T G (ix2 a b)
    = ((1 / 2 * ∑ r, (∑ k, missR x t g r k * missR x t g r k) / 1024 : ℝ) : EReal) := by
  pointwise [lossAll]
  simp only [miss_at hx ht hg, lit_half, lit_1024, ← EReal.coe_mul, sum_coe, div_real _ (by norm_num : (1024 : ℝ) ≠ 0)]
end

/-- The precondition says that every argument is a real number at every index. -/
theorem reals_of_pre [Cert.Pre_finite_loss.Facts] (h : Cert.Pre_finite_loss.fn (F := Ideal) X G T = fun _ => 1#1) :
    (∃ x : Fin 8192 → Fin 1024 → ℝ, ∀ r l, X (ix3 0 r l) = (x r l : EReal))
      ∧ (∃ g : Fin 1024 → ℝ, ∀ l, G (ix1 l) = (g l : EReal))
      ∧ ∃ t : Fin 8192 → Fin 1024 → ℝ, ∀ r l, T (ix3 0 r l) = (t r l : EReal) := by
  have h := congrFun h ix0
  pointwise [Cert.Pre_finite_loss.fn] at h
  simp only [andi_one, all_one, Finset.mem_univ, true_implies] at h
  obtain ⟨⟨hx, hg⟩, ht⟩ := h
  choose x hx using fun r l => real_of_abs (hx (0, r, l))
  choose g hg using fun l => real_of_abs (hg l)
  choose t ht using fun r l => real_of_abs (ht (0, r, l))
  exact ⟨⟨x, hx⟩, ⟨g, hg⟩, ⟨t, ht⟩⟩

end Cert.LossReferenceIdeal.Loss
-- ==== Proof.LossBlock.lean ====
module

public import proofs.«01_k».proof.Proof.Gen.LossKernelIdeal.Value
public import proofs.«01_k».proof.Proof.LossPure
public import Idealize.ShloMosaic.Lib.Pipeline.ValueKit

/-! What the loss kernel stores for one tile of rows, over the reals. -/

@[expose] public section

set_option maxRecDepth 16384
noncomputable section
open Idealize.ShloMosaic Idealize.ShloMosaic.TcCoe Idealize.SL.Sem
namespace Cert.LossKernelIdeal.Loss
open Cert.LossKernelIdeal Cert.LossKernelIdeal.Gen Cert.Step

variable {X T : FVec Ideal S1024x1024 .f32} {G : FVec Ideal S1x1024 .f32}
variable {x t : Fin 1024 → Fin 1024 → ℝ} {g : Fin 1024 → ℝ}
variable (hx : ∀ r l, X (ix2 r l) = (x r l : EReal)) (ht : ∀ r l, T (ix2 r l) = (t r l : EReal)) (hg : ∀ l, G (ix2 0 l) = (g l : EReal))

include hx in
/-- The reciprocal root mean square of a row of the tile. -/
theorem scale_at (r : Fin 1024) : k0_pay7 (F := Ideal) X (ix2 r 0) = (invRms (x r) : EReal) := by
  pointwise [k0_pay7, k0_pay6]
  simp only [hx, lit_1024, lit_eps, ← EReal.coe_mul, sum_coe, div_real _ (by norm_num : (1024 : ℝ) ≠ 0), ← EReal.coe_add]
  exact rsqrt_real (meanEps_pos (x r))

include hx in
/-- The normalised entry of the tile. -/
theorem normed_at (r l : Fin 1024) : k0_pay8 (F := Ideal) X (ix2 r l) = ((x r l * invRms (x r) : ℝ) : EReal) := by
  pointwise [k0_pay8, k0_pay6]
  rw [scale_at hx, hx, ← EReal.coe_mul]

include hx ht hg in
/-- What the tile's output misses its target by. -/
theorem miss_at (r l : Fin 1024) : k0_pay9 (F := Ideal) X G T (ix2 r l) = ((x r l * invRms (x r) * g l - t r l : ℝ) : EReal) := by
  pointwise [k0_pay9]
  rw [normed_at hx, ht, hg, ← EReal.coe_mul, ← EReal.coe_sub]

include hx ht hg in
/-- The tile the kernel stores for the derivative by the activations. -/
theorem gradRows_at (r l : Fin 1024) : k0_pay2 (k0_pay7 X) (k0_pay8 X) (k0_pay9 X G T) (k0_pay11 (F := Ideal)) G (ix2 r l)
    = ((invRms (x r) * ((x r l * invRms (x r) * g l - t r l) / 1024 * g l - x r l * invRms (x r)
        * ((∑ k, (x r k * invRms (x r) * g k - t r k) / 1024 * g k * (x r k * invRms (x r))) / (1024 : ℕ))) : ℝ) : EReal) := by
  pointwise [k0_pay2, k0_pay1, k0_pay11]
  simp only [miss_at hx ht hg, normed_at hx, scale_at hx, hg, lit_inv1024, lit_1024, ← EReal.coe_mul, sum_coe,
    div_real _ (by norm_num : (1024 : ℝ) ≠ 0), ← EReal.coe_sub, mul_one_div, Nat.cast_ofNat]

include hx ht hg in
/-- The row of the gains' derivative after this tile's share is added. -/
theorem gain_at (A : FVec Ideal S1x1024 .f32) (l : Fin 1024) :
    k0_pay3 (k0_pay8 X) (k0_pay9 X G T) (k0_pay11 (F := Ideal)) A (ix2 0 l)
      = A (ix2 0 l) + ((∑ r, (x r l * invRms (x r) * g l - t r l) / 1024 * (x r l * invRms (x r)) : ℝ) : EReal) := by
  pointwise [k0_pay3, k0_pay1, k0_pay11]
  simp only [miss_at hx ht hg, normed_at hx, lit_inv1024, ← EReal.coe_mul, sum_coe, mul_one_div]

include hx ht hg in
/-- The loss window after this tile's share is added. -/
theorem loss_at (A : FVec Ideal S8x128 .f32) (a : Fin 8) (b : Fin 128) :
    k0_pay10 X G T A (ix2 a b)
      = A (ix2 a b) + ((1 / 2 * ∑ r, (∑ k, (x r k * invRms (x r) * g k - t r k) * (x r k * invRms (x r) * g k - t r k)) / 1024 : ℝ) : EReal) := by
  pointwise [k0_pay10]
  simp only [miss_at hx ht hg, lit_half, lit_1024, ← EReal.coe_mul, sum_coe, div_real _ (by norm_num : (1024 : ℝ) ≠ 0)]

end Cert.LossKernelIdeal.Loss
-- ==== Proof.Windows.lean ====
module

public import Idealize.ShloMosaic.Lib.Pipeline.ValueKit
public import Idealize.ShloMosaic.Lib.Pipeline.ReadBack
public import Idealize.ShloMosaic.Lib.WritesUnit
public import Idealize.ShloMosaic.Lib.Pointwise

/-! Reading a buffer of a few rows after one of its rows was stored. -/

@[expose] public section

noncomputable section
open Idealize.ShloMosaic
namespace Cert.Step

variable {sig : RefSig} {κ : Kind} {sp : Space} {e : EltTy} {Val : EltTy → Type} [∀ e, Nonempty (Val e)] {h w k : ℕ}

/-- A store of one row `o` over any earlier stores: that row reads the stored row, every other row what was there. -/
theorem row_written (v : View sig κ sp (⟨2, ![h, w]⟩ : Shape) e) (f : v.ty.Contents Val) {o : ℕ}
    (inb : ∀ a : Fin 2, (![o, 0] : Fin 2 → ℕ) a + (![1, w] : Fin 2 → ℕ) a ≤ (![h, w] : Fin 2 → ℕ) a)
    (P : (⟨2, ![1, w]⟩ : Shape).Idx → Val e) (L : List (View.Piece Val (⟨2, ![h, w]⟩ : Shape) e)) (a : Fin h) (b : Fin w) :
    v.read Val (v.writes Val f ((⟨Rect.unit (s := ⟨2, ![h, w]⟩) ![o, 0] ![1, w] inb, P⟩ : View.Piece Val (⟨2, ![h, w]⟩ : Shape) e) :: L)) (ix2 a b)
      = if a.val = o then P (ix2 0 b) else v.read Val (v.writes Val f L) (ix2 a b) := by
  split
  · exact View.read_writes_cons_rows_of_mem (o := o) v f inb P L _ (ix2 0 b) rfl (by simpa using ‹a.val = o›) rfl
  · exact View.read_writes_cons_rows_of_not_mem (o := o) (W := 1) v f inb P L _ rfl rfl (by simp; omega)

/-- The same over the contents no earlier view is named for. -/
theorem row_over {o : ℕ}
    (inb : ∀ a : Fin 2, (![o, 0] : Fin 2 → ℕ) a + (![1, w] : Fin 2 → ℕ) a ≤ (![h, w] : Fin 2 → ℕ) a)
    (P : (⟨2, ![1, w]⟩ : Shape).Idx → Val e) (L : List (View.Piece Val (⟨2, ![h, w]⟩ : Shape) e)) (a : Fin h) (b : Fin w) :
    View.canon ((⟨Rect.unit (s := ⟨2, ![h, w]⟩) ![o, 0] ![1, w] inb, P⟩ : View.Piece Val (⟨2, ![h, w]⟩ : Shape) e) :: L) (ix2 a b)
      = if a.val = o then P (ix2 0 b) else View.canon L (ix2 a b) := by
  split
  · rename_i ha
    have hi : (ix2 a b : (⟨2, ![h, w]⟩ : Shape).Idx) = (Rect.unit (s := ⟨2, ![h, w]⟩) ![o, 0] ![1, w] inb).emb (ix2 (0 : Fin 1) b) := by
      funext d
      fin_cases d
      · exact Fin.ext (show a.val = o + 1 * 0 by omega)
      · exact Fin.ext (show b.val = 0 + 1 * b.val by omega)
    rw [hi]; exact View.canon_cons_emb _ _ _ _
  · rename_i ha
    refine View.canon_cons_of_not_mem _ _ ?_
    rw [Rect.mem_set_unit]
    intro hall
    have := hall 0
    simp at this
    omega

/-- A load of the first row of a buffer of rows. -/
theorem first_row_loaded (Z : (⟨2, ![h, w]⟩ : Shape).Idx → Val e)
    (inb : ∀ a : Fin 2, (![0, 0] : Fin 2 → ℕ) a + (![1, w] : Fin 2 → ℕ) a ≤ (![h, w] : Fin 2 → ℕ) a) (a : Fin h) (ha : a.val = 0) (b : Fin w) :
    View.ld Z (Rect.unit (s := ⟨2, ![h, w]⟩) ![0, 0] ![1, w] inb) (ix2 (0 : Fin 1) b) = Z (ix2 a b) :=
  congrArg Z (funext fun d => by
    fin_cases d
    · exact Fin.ext (show 0 + 1 * 0 = a.val by omega)
    · exact Fin.ext (show 0 + 1 * b.val = b.val by omega))

end Cert.Step
-- ==== Proof.LossArrays.lean ====
module

public import proofs.«01_k».proof.Proof.LossBlock
public import proofs.«01_k».proof.Proof.Windows

/-! The loss kernel's three result arrays after the run, over the reals. -/

@[expose] public section

set_option maxRecDepth 16384
noncomputable section
open Idealize.ShloMosaic Idealize.ShloMosaic.TcCoe Idealize.SL.Sem
open Idealize.ShloMosaic.Pipeline (Dat)
namespace Cert.LossKernelIdeal.Loss
open Cert.LossKernelIdeal Cert.LossKernelIdeal.Gen Cert.Step

variable (m : (ℓ : Loc nD τ sig) → Buf (Elt Ideal) ℓ) (c : Dev nD)

/-- Which block of its array each window stages at a grid point. -/
theorem maps : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ t.val < 8 :=
  (by decide +kernel : ∀ t : Fin grid0.N, _)

variable {x t : Fin 8192 → Fin 1024 → ℝ} {g : Fin 1024 → ℝ}
variable (hx : ∀ r l, (m ((c : Thread nD τ).loc main_arg0) : FVec Ideal S1x8192x1024 .f32) (ix3 0 r l) = (x r l : EReal))
variable (ht : ∀ r l, (m ((c : Thread nD τ).loc main_arg2) : FVec Ideal S1x8192x1024 .f32) (ix3 0 r l) = (t r l : EReal))
variable (hg : ∀ l, (m ((c : Thread nD τ).loc main_arg1) : FVec Ideal S1024 .f32) (ix1 l) = (g l : EReal))

/-- The row of the array that row `r` of tile `n` is. -/
def rowOf (n : ℕ) (r : Fin 1024) (h : n < 8) : Fin 8192 := ⟨n * 1024 + r, by omega⟩

include hx in
/-- The activations a grid point stages are its tile of rows. -/
theorem x_at (n : Fin cfg0.N) (r l : Fin 1024) :
    (iblk m c 0 n : FVec Ideal S1024x1024 .f32) (ix2 r l) = (x (rowOf n r (maps n).2.2.2.2.2.2) l : EReal) := by
  rw [← hx]
  blk_simp [iblk]
  entry_read
  pointwise
  blk_ext [maps n, rowOf]

include hg in
/-- Every grid point stages the whole row of gains. -/
theorem g_at (n : Fin cfg0.N) (l : Fin 1024) :
    (iblk m c 1 n : FVec Ideal S1x1024 .f32) (ix2 0 l) = (g l : EReal) := by
  rw [← hg]
  blk_simp [iblk]
  entry_read
  pointwise
  blk_ext [maps n, rowOf]

include ht in
/-- The targets a grid point stages are its tile of rows. -/
theorem t_at (n : Fin cfg0.N) (r l : Fin 1024) :
    (iblk m c 2 n : FVec Ideal S1024x1024 .f32) (ix2 r l) = (t (rowOf n r (maps n).2.2.2.2.2.2) l : EReal) := by
  rw [← ht]
  blk_simp [iblk]
  entry_read
  pointwise
  blk_ext [maps n, rowOf]

include hx ht hg in
/-- Every point writes its own tile of the derivative by the rows. -/
theorem rows_final : (dats m 0 c).arrAt 3 (cfgs 0).N
    = LossReferenceIdeal.Loss.gradRows (m ((c : Thread nD τ).loc main_arg0)) (m ((c : Thread nD τ).loc main_arg2)) (m ((c : Thread nD τ).loc main_arg1)) := by
  refine (dats m 0 c).arrAt_eq_of_covers 3 _ (by decide +kernel) fun n _ y => ?_
  blk_simp
  rw [after0_3]
  have hy : (win0_3.blk n).view.emb y = (ix2 (rowOf n (y 0) (maps n).2.2.2.2.2.2) (y 1) : S8192x1024.Idx) := by blk_ext [maps n, rowOf]
  rw [hy]
  refine Eq.trans ?_ (LossReferenceIdeal.Loss.gradRows_at hx ht hg _ _).symm
  refine Eq.trans ?_ (gradRows_at (x_at m c hx n) (t_at m c ht n) (g_at m c hg n) (y 0) (y 1))
  by_cases h : n.val % 8 = 0
  · rw [outsAt0_A m c n h]; frame_out; rw [← eq_ix2]
  · rw [outsAt0_B m c n h]; frame_out; rw [← eq_ix2]

/-- The rows of the tiles, tile after tile, are the rows of the array. -/
theorem rows_sum (f : Fin 8192 → ℝ) : ∑ n : Fin cfg0.N, ∑ r : Fin 1024, f (rowOf n r (maps n).2.2.2.2.2.2) = ∑ R, f R :=
  Fin.sum_mul_add_congr fun _ _ _ => rfl

/-- A tile's share of the loss. -/
def lossPart (x t : Fin 8192 → Fin 1024 → ℝ) (g : Fin 1024 → ℝ) (n : Fin cfg0.N) : EReal :=
  ((1 / 2 * ∑ r : Fin 1024, (∑ k, LossReferenceIdeal.Loss.missR x t g (rowOf n r (maps n).2.2.2.2.2.2) k
    * LossReferenceIdeal.Loss.missR x t g (rowOf n r (maps n).2.2.2.2.2.2) k) / 1024 : ℝ) : EReal)

/-- A tile's share of the gains' derivative. -/
def gainPart (x t : Fin 8192 → Fin 1024 → ℝ) (g : Fin 1024 → ℝ) (n : Fin cfg0.N) (l : Fin 1024) : EReal :=
  ((∑ r : Fin 1024, LossReferenceIdeal.Loss.missR x t g (rowOf n r (maps n).2.2.2.2.2.2) l / 1024
    * (x (rowOf n r (maps n).2.2.2.2.2.2) l * invRms (x (rowOf n r (maps n).2.2.2.2.2.2))) : ℝ) : EReal)

include hx ht hg in
/-- The loss window holds the sum of the shares of the tiles walked. -/
theorem loss_final : (dats m 0 c).arrAt 5 (cfgs 0).N
    = LossReferenceIdeal.Loss.lossAll (m ((c : Thread nD τ).loc main_arg0)) (m ((c : Thread nD τ).loc main_arg2)) (m ((c : Thread nD τ).loc main_arg1)) := by
  refine (dats m 0 c).arrAt_eq_of_after_last 5 t0_7 (by decide +kernel) _ fun j => ?_
  blk_simp
  rw [after0_5]
  rw [Pipeline.eq_sum_fin_of_reset_step_apply_last (fun n h => (outsAt0 m c n h).2.2) 8 (fun _ => 0) (fun n _ => lossPart x t g n)
    (fun n h j => by
      rw [outsAt0_A m c n h]; frame_out; idx_vars j
      rw [loss_at (x_at m c hx n) (t_at m c ht n) (g_at m c hg n)]
      congr 1
      pointwise [k0_pay5])
    (fun n h j => by
      rw [outsAt0_B m c n h]; frame_out; idx_vars j
      exact loss_at (x_at m c hx n) (t_at m c ht n) (g_at m c hg n) _ _ _)
    (le_of_eq N_0) t0_7 rfl j]
  idx_vars j
  rw [LossReferenceIdeal.Loss.lossAll_at hx ht hg, zero_add]
  unfold lossPart
  rw [sum_coe, ← Finset.mul_sum, rows_sum fun R => (∑ k, LossReferenceIdeal.Loss.missR x t g R k * LossReferenceIdeal.Loss.missR x t g R k) / 1024]

include hx ht hg in
/-- The gain window holds, in its first row, the sum of the shares of the tiles walked; zero elsewhere. -/
theorem gain_final : (dats m 0 c).arrAt 4 (cfgs 0).N
    = LossReferenceIdeal.Loss.gainRows (m ((c : Thread nD τ).loc main_arg0)) (m ((c : Thread nD τ).loc main_arg2)) (m ((c : Thread nD τ).loc main_arg1)) := by
  refine (dats m 0 c).arrAt_eq_of_after_last 4 t0_7 (by decide +kernel) _ fun j => ?_
  blk_simp
  rw [after0_4]
  rw [Pipeline.eq_sum_fin_of_reset_step_apply_last (fun n h => (outsAt0 m c n h).2.1) 8 (fun _ => 0)
    (fun n (j : S8x1024.Idx) => if (j 0).val = 0 then gainPart x t g n (j 1) else 0)
    (fun n h j => by
      rw [outsAt0_A m c n h]; frame_out; idx_vars j
      rw [row_over, View.readCov_fill _ _ _ _ _ (by decide), View.canon_cons_unit_lit _ _ _ (by decide), gain_at (x_at m c hx n) (t_at m c ht n) (g_at m c hg n)]
      have hz : ∀ a : Fin 8, k0_pay4 (F := Ideal) (ix2 a j1) = 0 := fun a => by pointwise [k0_pay4]
      split
      · rename_i ha
        rw [first_row_loaded _ _ j0 ha, hz]
        exact congrArg (fun z : EReal => 0 + z) (if_pos ha).symm
      · rename_i ha
        rw [hz]
        exact ((congrArg (fun z : EReal => 0 + z) (if_neg ha)).trans (add_zero _)).symm)
    (fun n h j => by
      rw [outsAt0_B m c n h]; frame_out; idx_vars j
      rw [row_written, gain_at (x_at m c hx n) (t_at m c ht n) (g_at m c hg n)]
      split
      · rename_i ha
        rw [first_row_loaded _ _ j0 ha]
        exact congrArg (fun z : EReal => _ + z) (if_pos ha).symm
      · rename_i ha
        rw [View.writes_nil, Memref.IsWhole.read_unread]
        exact ((congrArg (fun z : EReal => _ + z) (if_neg ha)).trans (add_zero _)).symm)
    (le_of_eq N_0) t0_7 rfl j]
  idx_vars j
  rw [LossReferenceIdeal.Loss.gainRows_at hx ht hg, zero_add]
  change (∑ p : Fin cfg0.N, if j0.val = 0 then gainPart x t g p j1 else 0) = _
  by_cases h : j0.val = 0
  · have h' : j0 = 0 := Fin.ext h
    simp only [if_pos h, if_pos h']
    unfold gainPart
    rw [sum_coe, rows_sum fun R => LossReferenceIdeal.Loss.missR x t g R j1 / 1024 * (x R j1 * invRms (x R))]
  · have h' : ¬ j0 = 0 := fun e => h (congrArg Fin.val e)
    simp only [if_neg h, if_neg h', Finset.sum_const_zero, EReal.coe_zero]

end Cert.LossKernelIdeal.Loss
-- ==== Proof.LossClaim.lean ====
module

public import proofs.«01_k».proof.Defs
public import proofs.«01_k».proof.Proof.Gen.LossKernel.Frame
public import proofs.«01_k».proof.Proof.LossArrays
public import Idealize.ShloMosaic.Lib.Quiescent
public import Idealize.ShloMosaic.Lib.Claim

/-! What is claimed of the loss head's call. -/

@[expose] public section

noncomputable section

namespace Cert.Proof

open Idealize.ShloMosaic Idealize.ShloMosaic.TcCoe Idealize.SL.Sem

/-- The side conditions of the precondition's own operations. -/
theorem preFacts : Cert.Pre_finite_loss.Facts := by constructor <;> decide

/-- The loss reference runs, leaves its arguments as they were, and has no semaphore to leave raised. -/
theorem loss_reference_frame (m) (ρ) : θ_run (Cert.LossReferenceIdeal.defs (F := Ideal)) (onTc (τ := Cert.LossReferenceIdeal.τ) (Cert.LossReferenceIdeal.main (F := Ideal))) ⟨m, fun _ => 0, ρ⟩
    (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0) :=
  (θ_run _ _ _).mono (fun r h => ⟨fun c => (h c).2.2.2, sem_eq_zero_of_no_sems rfl _⟩) (Cert.LossReferenceIdeal.Value.run m ρ)

/-- The loss reference's run, its three results at the staged terms read in `Proof/LossPure.lean`. -/
theorem loss_reference_run (m) (ρ) : θ_run (Cert.LossReferenceIdeal.defs (F := Ideal)) (onTc (τ := Cert.LossReferenceIdeal.τ) (Cert.LossReferenceIdeal.main (F := Ideal))) ⟨m, fun _ => 0, ρ⟩
    fun r => ∀ c : Dev Cert.LossReferenceIdeal.nD,
      r.2.mem ((c.tc : Thread Cert.LossReferenceIdeal.nD Cert.LossReferenceIdeal.τ).loc Cert.LossReferenceIdeal.main_v52) = Cert.LossReferenceIdeal.Loss.gradRows (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg1))
      ∧ r.2.mem ((c.tc : Thread Cert.LossReferenceIdeal.nD Cert.LossReferenceIdeal.τ).loc Cert.LossReferenceIdeal.main_v58) = Cert.LossReferenceIdeal.Loss.gainRows (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg1))
      ∧ r.2.mem ((c.tc : Thread Cert.LossReferenceIdeal.nD Cert.LossReferenceIdeal.τ).loc Cert.LossReferenceIdeal.main_v59) = Cert.LossReferenceIdeal.Loss.lossAll (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg1))
      ∧ r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2) :=
  (θ_run _ _ _).mono (fun r h c => ⟨(h c).1.trans (Cert.LossReferenceIdeal.Loss.rows_eq m c), (h c).2.1, (h c).2.2.1, (h c).2.2.2⟩) (Cert.LossReferenceIdeal.Value.run m ρ)

/-- The kernel and the derivative of the loss head leave the same three arrays on finite arguments. -/
theorem loss_algebraic : algebraic_LossKernelIdeal_LossReferenceIdeal_pre_finite_loss
    (hLossKernelIdeal := Cert.LossKernelIdeal.Gen.facts) (hLossReferenceIdeal := Cert.LossReferenceIdeal.Gen.facts) (hPre_finite_loss := preFacts) := by
  letI := preFacts
  pair_intro
  · run_from Cert.LossKernelIdeal.Gen.run_main m g
  · refine (θ_run _ _ _).mono (fun r h c => ?_) (loss_reference_run m' g')
    obtain ⟨⟨x, hx⟩, ⟨g, hg⟩, ⟨t, ht⟩⟩ := Cert.LossReferenceIdeal.Loss.reals_of_pre _ _ _ (hpre c)
    have e := h c
    rw [(hagree c).1, (hagree c).2.1, (hagree c).2.2] at e
    refine ⟨e.1.trans (Cert.LossKernelIdeal.Loss.rows_final m c hx ht hg).symm,
      e.2.1.trans (Cert.LossKernelIdeal.Loss.gain_final m c hx ht hg).symm,
      e.2.2.1.trans (Cert.LossKernelIdeal.Loss.loss_final m c hx ht hg).symm, (h c).2.2.2⟩

end Cert.Proof

end
-- ==== Proof.FfnReals.lean ====
module

public import proofs.«01_k».proof.Proof.Reals

/-! The gated layer and its derivative over the real numbers. -/

@[expose] public section

noncomputable section
open Idealize.ShloMosaic
namespace Cert.Step

/-- The bits of one. -/
theorem lit_one : Ideal.ofBits .f32 0x3F800000#32 = ((1 : ℝ) : EReal) := by
  simp [Ideal.ofBits, Ideal.ieee, -EReal.coe_mul]; norm_num

/-- The bits of one in the narrow format. -/
theorem lit_one_narrow : Ideal.ofBits .bf16 0x3F80#16 = ((1 : ℝ) : EReal) := by
  simp [Ideal.ofBits, Ideal.ieee, -EReal.coe_mul]; norm_num

/-- The logistic function. -/
def sgm (v : ℝ) : ℝ := 1 / (1 + Real.exp (-v))

/-- The logistic function's denominator is not zero. -/
theorem sgm_den (v : ℝ) : 1 + Real.exp (-v) ≠ 0 := (add_pos one_pos (Real.exp_pos _)).ne'

/-- The exponential of a finite value. -/
theorem exp_real (a : ℝ) : Ideal.exp (a : EReal) = ((Real.exp a : ℝ) : EReal) := by
  rfl

/-- The negative of a finite value. -/
theorem neg_real (a : ℝ) : -(a : EReal) = ((-a : ℝ) : EReal) := rfl

/-- One entry of the normed, scaled row. -/
def hid {n : ℕ} (x g : Fin n → ℝ) (k : Fin n) : ℝ := x k * invRms x * g k

/-- A row times a column. -/
def lin {n : ℕ} (h w : Fin n → ℝ) : ℝ := ∑ k, h k * w k

/-- The derivative of the gate `v * sgm v`. -/
def dsilu (v : ℝ) : ℝ := sgm v + v * sgm v * (1 - sgm v)

/-- The derivative of a normed, scaled row, from the derivative `h` of its scaled entries. -/
def normBack {n : ℕ} (x h : Fin n → ℝ) (j : Fin n) : ℝ :=
  invRms x * (h j - x j * invRms x * ((∑ k, h k * (x k * invRms x)) / n))

end Cert.Step
-- ==== Proof.FfnPure.lean ====
module

public import proofs.«01_k».proof.Proof.Gen.FfnReferenceIdeal.Read
public import proofs.«01_k».proof.Pre_finite_ffn
public import proofs.«01_k».proof.Proof.FfnReals

/-! The derivative of the gated layer, read at an index over the reals. -/

@[expose] public section

set_option maxRecDepth 16384
noncomputable section
open Idealize.ShloMosaic Idealize.ShloMosaic.TcCoe Idealize.SL.Sem
namespace Cert.FfnReferenceIdeal.Ffn
open Cert.FfnReferenceIdeal Cert.FfnReferenceIdeal.Gen Cert.FfnReferenceIdeal.Read Cert.Step

section
variable (o x : Fin 8192 → Fin 1024 → ℝ) (g : Fin 1024 → ℝ) (w1 w3 : Fin 1024 → Fin 2816 → ℝ) (w2 : Fin 2816 → Fin 1024 → ℝ)

/-- The two pre-activations share this form: a normed row times a column of weights. -/
def preR (w : Fin 1024 → Fin 2816 → ℝ) (r : Fin 8192) (f : Fin 2816) : ℝ := ∑ k, hid (x r) g k * w k f

/-- The derivative by the layer's inner activations. -/
def duR (r : Fin 8192) (f : Fin 2816) : ℝ := ∑ k, 1 / 2 * o r k * w2 f k

/-- The derivative by the first pre-activations. -/
def daR (r : Fin 8192) (f : Fin 2816) : ℝ := duR o w2 r f * preR x g w3 r f * dsilu (preR x g w1 r f)

/-- The derivative by the second pre-activations. -/
def dbR (r : Fin 8192) (f : Fin 2816) : ℝ := duR o w2 r f * (preR x g w1 r f * sgm (preR x g w1 r f))

/-- The inner activations. -/
def uR (r : Fin 8192) (f : Fin 2816) : ℝ := preR x g w1 r f * sgm (preR x g w1 r f) * preR x g w3 r f

/-- The derivative by the normed rows. -/
def dhR (r : Fin 8192) (k : Fin 1024) : ℝ := (∑ f, daR o x g w1 w3 w2 r f * w1 k f) + ∑ f, dbR o x g w1 w2 r f * w3 k f

/-- The derivative by the layer's input. -/
def dxR (r : Fin 8192) (k : Fin 1024) : ℝ := o r k + normBack (x r) (fun l => dhR o x g w1 w3 w2 r l * g l) k

/-- The derivative by the gains. -/
def dgR (k : Fin 1024) : ℝ := ∑ r, dhR o x g w1 w3 w2 r k * (x r k * invRms (x r))

variable {O X : FVec Ideal S8192x1024 .f32} {G : FVec Ideal S1024 .f32} {W1 W3 : FVec Ideal S1024x2816 .f32} {W2 : FVec Ideal S2816x1024 .f32}
variable {o x g w1 w3 w2}
variable (ho : ∀ r l, O (ix2 r l) = (o r l : EReal)) (hx : ∀ r l, X (ix2 r l) = (x r l : EReal)) (hg : ∀ l, G (ix1 l) = (g l : EReal))
variable (h1 : ∀ k f, W1 (ix2 k f) = (w1 k f : EReal)) (h3 : ∀ k f, W3 (ix2 k f) = (w3 k f : EReal)) (h2 : ∀ f k, W2 (ix2 f k) = (w2 f k : EReal))

include hx in
/-- The mean square of a row, with its epsilon. -/
theorem meanSq_at (r : Fin 8192) (q : Fin 1) : val_main_v6 (F := Ideal) X (ix2 r q) = (meanEps (x r) : EReal) := by
  pointwise [val_main_v6, val_main_v5, val_main_v4, val_main_v3, val_main_v2, val_main_v1, val_main_v0, val_main_cst, val_main_cst_0, val_main_cst_1]
  simp only [hx, lit_1024, lit_eps, ← EReal.coe_mul, sum_coe, div_real _ (by norm_num : (1024 : ℝ) ≠ 0), ← EReal.coe_add]
  norm_num [meanEps]

include hx in
/-- The normalised entry. -/
theorem normed_at (r : Fin 8192) (l : Fin 1024) : val_main_v12 (F := Ideal) X (ix2 r l) = ((x r l * invRms (x r) : ℝ) : EReal) := by
  pointwise [val_main_v12, val_main_v11, val_main_v7]
  rw [meanSq_at hx, rsqrt_real (meanEps_pos _), hx, ← EReal.coe_mul, invRms]

include hx hg in
/-- The normed, scaled entry. -/
theorem hid_at (r : Fin 8192) (l : Fin 1024) : val_main_v15 (F := Ideal) X G (ix2 r l) = (hid (x r) g l : EReal) := by
  pointwise [val_main_v15, val_main_v14, val_main_v13]
  rw [normed_at hx, hg, ← EReal.coe_mul, hid]

include hx hg h1 in
/-- The first pre-activation. -/
theorem a_at (r : Fin 8192) (f : Fin 2816) : val_main_v16 (F := Ideal) X G W1 (ix2 r f) = (preR x g w1 r f : EReal) := by
  pointwise [val_main_v16]
  simp only [hid_at hx hg, h1, ← EReal.coe_mul, sum_coe]
  rfl

include hx hg h3 in
/-- The second pre-activation. -/
theorem b_at (r : Fin 8192) (f : Fin 2816) : val_main_v17 (F := Ideal) X G W3 (ix2 r f) = (preR x g w3 r f : EReal) := by
  pointwise [val_main_v17]
  simp only [hid_at hx hg, h3, ← EReal.coe_mul, sum_coe]
  rfl

include hx hg h1 in
/-- The logistic function of the first pre-activation. -/
theorem gate_at (r : Fin 8192) (f : Fin 2816) : val_main_v18_2 (F := Ideal) X G W1 (ix2 r f) = (sgm (preR x g w1 r f) : EReal) := by
  pointwise [val_main_v18_2, val_main_call0_v3, val_main_call0_v4, val_main_call0_v2, val_main_call0_v1, val_main_call0_v0, val_main_call0_cst, val_main_call0_cst_0]
  simp only [a_at hx hg h1, neg_real, exp_real, lit_one, one_coe, ← EReal.coe_add, div_real _ (sgm_den _)]
  rfl

include hx hg h1 h3 in
/-- The inner activation. -/
theorem u_at (r : Fin 8192) (f : Fin 2816) : val_main_v19 (F := Ideal) X G W1 W3 (ix2 r f) = (uR x g w1 w3 r f : EReal) := by
  pointwise [val_main_v19, val_main_v18_0]
  simp only [a_at hx hg h1, b_at hx hg h3, gate_at hx hg h1, ← EReal.coe_mul]
  rfl

include ho in
/-- The derivative by the layer's output. -/
theorem dy_at (r : Fin 8192) (k : Fin 1024) : val_main_v76 (F := Ideal) O (ix2 r k) = ((1 / 2 * o r k : ℝ) : EReal) := by
  pointwise [val_main_v76, val_main_v75, val_main_cst_14]
  simp only [ho, lit_half, ← EReal.coe_mul]

include ho in
/-- The derivative by the layer's output, inside the whole derivative. -/
theorem dy_in_at (r : Fin 8192) (k : Fin 1024) : val_main_v26 (F := Ideal) O (ix2 r k) = ((1 / 2 * o r k : ℝ) : EReal) := by
  pointwise [val_main_v26, val_main_v25, val_main_v24, val_main_cst_4]
  simp only [ho, lit_half, ← EReal.coe_mul]

include ho h2 in
/-- The derivative by the inner activations. -/
theorem du_at (r : Fin 8192) (f : Fin 2816) : val_main_v27 (F := Ideal) O W2 (ix2 r f) = (duR o w2 r f : EReal) := by
  pointwise [val_main_v27]
  simp only [dy_in_at ho, h2, ← EReal.coe_mul, sum_coe]
  rfl

include ho hx hg h1 h2 in
/-- The derivative by the second pre-activation. -/
theorem db_at (r : Fin 8192) (f : Fin 2816) : val_main_v28 (F := Ideal) O X G W1 W2 (ix2 r f) = (dbR o x g w1 w2 r f : EReal) := by
  pointwise [val_main_v28, val_main_v18_0]
  simp only [a_at hx hg h1, gate_at hx hg h1, du_at ho h2, ← EReal.coe_mul]
  congr 1; rw [dbR]; ring

include ho hx hg h1 h3 h2 in
/-- The derivative by the first pre-activation. -/
theorem da_at (r : Fin 8192) (f : Fin 2816) : val_main_v30 (F := Ideal) O X G W1 W3 W2 (ix2 r f) = (daR o x g w1 w3 w2 r f : EReal) := by
  pointwise [val_main_v30, val_main_call1_v2, val_main_call1_v1, val_main_call1_v0, val_main_v29, val_main_v18_1, val_main_call0_v7, val_main_call0_v6, val_main_call0_cst_1]
  simp only [a_at hx hg h1, b_at hx hg h3, gate_at hx hg h1, du_at ho h2, lit_one, one_coe, ← EReal.coe_mul, ← EReal.coe_sub, ← EReal.coe_add]
  congr 1; rw [daR, dsilu]; ring

include ho hx hg h1 h3 h2 in
/-- The derivative by the normed rows. -/
theorem dh_at (r : Fin 8192) (k : Fin 1024) : val_main_v33 (F := Ideal) O X G W1 W3 W2 (ix2 r k) = (dhR o x g w1 w3 w2 r k : EReal) := by
  pointwise [val_main_v33, val_main_v32, val_main_v31]
  simp only [da_at ho hx hg h1 h3 h2, db_at ho hx hg h1 h2, h1, h3, ← EReal.coe_mul, sum_coe, ← EReal.coe_add]
  congr 1; exact add_comm _ _

include ho hx hg h1 h3 h2 in
/-- The derivative by the layer's input. -/
theorem dx_at (r : Fin 8192) (k : Fin 1024) : val_main_v54 (F := Ideal) O X G W1 W3 W2 (ix2 r k) = (dxR o x g w1 w3 w2 r k : EReal) := by
  rw [dxR, normBack, norm_grad (x r) (fun l => dhR o x g w1 w3 w2 r l * g l) k]
  pointwise [val_main_v54, val_main_v53, val_main_v52, val_main_v51, val_main_v50, val_main_v49, val_main_v48, val_main_v47, val_main_v46, val_main_v45,
    val_main_v44, val_main_v43, val_main_v42, val_main_v41, val_main_v40, val_main_v38, val_main_v37, val_main_v13, val_main_v10, val_main_v9, val_main_v8, val_main_v7,
    val_main_cst_9, val_main_cst_8, val_main_cst_7, val_main_cst_2]
  simp only [dh_at ho hx hg h1 h3 h2, meanSq_at hx, hx, hg, ho, lit_1024, lit_neg_half, rsqrt_real (meanEps_pos _), ← EReal.coe_mul, sum_coe,
    div_real _ (meanEps_pos _).ne', div_real _ (by norm_num : (1024 : ℝ) ≠ 0), ← EReal.coe_add, Fin.sum_univ_one, invRms_eq]
  refine congrArg (fun z : ℝ => (z : EReal)) ?_
  push_cast
  ring

include ho hx hg h1 h3 h2 in
/-- The first row holds the derivative by the gains, the others zero. -/
theorem dg_at (a : Fin 8) (k : Fin 1024) : val_main_v85 (F := Ideal) O X G W1 W3 W2 (ix2 a k)
    = (((if a = 0 then dgR o x g w1 w3 w2 k else 0) : ℝ) : EReal) := by
  pointwise [val_main_v85, val_main_v84, val_main_v39, val_main_v36, val_main_v35, val_main_v34, val_main_cst_6, val_main_cst_5, val_main_call5_v0, val_main_c]
  simp only [dh_at ho hx hg h1 h3 h2, normed_at hx, ← EReal.coe_mul, sum_coe, Fin.sum_univ_one]
  by_cases h : a = 0
  · subst h
    exact congrArg (fun z : ℝ => (z : EReal)) (Finset.sum_congr rfl fun r _ => mul_comm _ _)
  · rw [if_neg h, dif_neg fun e => h (Fin.ext (by omega))]
    simp [FloatOps.sitofp]
end

/-- Passing the cotangent through a reshape to its own shape leaves the scaled cotangent. -/
theorem dy_same (O : FVec Ideal S8192x1024 .f32) : val_main_v26 (F := Ideal) O = val_main_v76 (F := Ideal) O := by
  funext i
  idx_vars i
  pointwise [val_main_v26, val_main_v25, val_main_v24, val_main_cst_4, val_main_v76, val_main_v75, val_main_cst_14]

/-- The derivative by the second pre-activations, returned on its own, is the one inside the whole derivative. -/
theorem db_same (O X : FVec Ideal S8192x1024 .f32) (G : FVec Ideal S1024 .f32) (W1 : FVec Ideal S1024x2816 .f32) (W2 : FVec Ideal S2816x1024 .f32) :
    val_main_v88 (F := Ideal) O X G W1 W2 = val_main_v28 (F := Ideal) O X G W1 W2 := by
  unfold val_main_v28 val_main_v27
  rw [dy_same]
  rfl

/-- So is the derivative by the first. -/
theorem da_same (O X : FVec Ideal S8192x1024 .f32) (G : FVec Ideal S1024 .f32) (W1 W3 : FVec Ideal S1024x2816 .f32) (W2 : FVec Ideal S2816x1024 .f32) :
    val_main_v87 (F := Ideal) O X G W1 W3 W2 = val_main_v30 (F := Ideal) O X G W1 W3 W2 := by
  unfold val_main_v30 val_main_call1_v2 val_main_call1_v1 val_main_call1_v0 val_main_v29 val_main_v27
  rw [dy_same]
  rfl

/-- The precondition says that every argument is a real number at every index. -/
theorem reals_of_pre [Cert.Pre_finite_ffn.Facts] (O X : FVec Ideal S8192x1024 .f32) (G : FVec Ideal S1024 .f32) (W1 W3 : FVec Ideal S1024x2816 .f32)
    (W2 : FVec Ideal S2816x1024 .f32) (h : Cert.Pre_finite_ffn.fn (F := Ideal) O X G W1 W3 W2 = fun _ => 1#1) :
    (∃ o : Fin 8192 → Fin 1024 → ℝ, ∀ r l, O (ix2 r l) = (o r l : EReal)) ∧ (∃ x : Fin 8192 → Fin 1024 → ℝ, ∀ r l, X (ix2 r l) = (x r l : EReal))
      ∧ (∃ g : Fin 1024 → ℝ, ∀ l, G (ix1 l) = (g l : EReal)) ∧ (∃ w : Fin 1024 → Fin 2816 → ℝ, ∀ k f, W1 (ix2 k f) = (w k f : EReal))
      ∧ (∃ w : Fin 1024 → Fin 2816 → ℝ, ∀ k f, W3 (ix2 k f) = (w k f : EReal)) ∧ ∃ w : Fin 2816 → Fin 1024 → ℝ, ∀ f k, W2 (ix2 f k) = (w f k : EReal) := by
  have h := congrFun h ix0
  pointwise [Cert.Pre_finite_ffn.fn, Cert.Pre_finite_ffn.fn_part1] at h
  simp only [andi_one, all_one, Finset.mem_univ, true_implies] at h
  obtain ⟨⟨⟨⟨⟨ho, hx⟩, hg⟩, h1⟩, h3⟩, h2⟩ := h
  choose o ho using fun r l => real_of_abs (ho (r, l))
  choose x hx using fun r l => real_of_abs (hx (r, l))
  choose g hg using fun l => real_of_abs (hg l)
  choose w1 h1 using fun r l => real_of_abs (h1 (r, l))
  choose w3 h3 using fun r l => real_of_abs (h3 (r, l))
  choose w2 h2 using fun r l => real_of_abs (h2 (r, l))
  exact ⟨⟨o, ho⟩, ⟨x, hx⟩, ⟨g, hg⟩, ⟨w1, h1⟩, ⟨w3, h3⟩, ⟨w2, h2⟩⟩

end Cert.FfnReferenceIdeal.Ffn
-- ==== Proof.Tiles.lean ====
module

public import proofs.«01_k».proof.Proof.Windows
public import Idealize.ShloMosaic.Lib.Pipeline.FrameBody

/-! Loads of a part of a two-dimensional buffer, and of the whole of one stored piece by piece. -/

@[expose] public section

noncomputable section
open Idealize.ShloMosaic
namespace Cert.Step

variable {sig : RefSig} {κ : Kind} {sp : Space} {e : EltTy} {Val : EltTy → Type} {h w a b p q : ℕ}

/-- A load of the part that starts at row `p`, column `q`. -/
theorem loaded_at (Z : (⟨2, ![h, w]⟩ : Shape).Idx → Val e)
    (inb : ∀ d : Fin 2, (![p, q] : Fin 2 → ℕ) d + (![a, b] : Fin 2 → ℕ) d ≤ (![h, w] : Fin 2 → ℕ) d) (i : Fin a) (j : Fin b) (I : Fin h) (J : Fin w)
    (eI : I.val = p + i.val) (eJ : J.val = q + j.val) :
    View.ld Z (Rect.unit (s := ⟨2, ![h, w]⟩) ![p, q] ![a, b] inb) (ix2 i j) = Z (ix2 I J) :=
  congrArg Z (funext fun d => by
    fin_cases d
    · exact Fin.ext (show p + 1 * i.val = I.val by omega)
    · exact Fin.ext (show q + 1 * j.val = J.val by omega))

variable [∀ e, Nonempty (Val e)]

/-- A load of the whole buffer after some stores. -/
theorem whole_loaded (v : View sig κ sp (⟨2, ![h, w]⟩ : Shape) e) (L : List (View.Piece Val (⟨2, ![h, w]⟩ : Shape) e))
    (inb : ∀ d : Fin 2, (![0, 0] : Fin 2 → ℕ) d + (![h, w] : Fin 2 → ℕ) d ≤ (![h, w] : Fin 2 → ℕ) d) (i : Fin h) (j : Fin w) :
    v.readCov L (Rect.unit (s := ⟨2, ![h, w]⟩) ![0, 0] ![h, w] inb).toLoadRect (ix2 i j) = View.canon L (ix2 i j) := by
  rw [View.readCov_eq_canon']
  exact congrArg (View.canon L) (funext fun d => by
    fin_cases d
    · exact Fin.ext (show 0 + 1 * i.val = i.val by omega)
    · exact Fin.ext (show 0 + 1 * j.val = j.val by omega))

end Cert.Step
-- ==== Proof.FfnBlock.lean ====
module

public import proofs.«01_k».proof.Proof.FfnPure
public import proofs.«01_k».proof.Proof.Gen.FfnKernelIdeal.Value
public import Idealize.ShloMosaic.Lib.Pipeline.ValueKit
public import proofs.«01_k».proof.Proof.Tiles

/-! What the gated layer's backward kernel stores for one tile of rows, over the reals. -/

@[expose] public section

set_option maxRecDepth 16384
noncomputable section
open Idealize.ShloMosaic Idealize.ShloMosaic.TcCoe Idealize.SL.Sem
namespace Cert.FfnKernelIdeal.Ffn
open Cert.FfnKernelIdeal Cert.FfnKernelIdeal.Gen Cert.Step Cert.FfnReferenceIdeal.Ffn

/-- A column of one of the eleven pieces, as a column of the whole tile. -/
def colOf (j : Fin 11) (q : Fin 256) : Fin 2816 := ⟨j.val * 256 + q.val, by omega⟩

/-- A grid point's eleven stores of a hidden tile, 256 columns each. -/
def pieces (P : FVec Ideal S256x1024 .bf16 → FVec Ideal S256x256 .bf16 → FVec Ideal S256x256 .bf16 → FVec Ideal S256x256 .bf16)
    (W : FVec Ideal S2816x1024 .bf16) (A B : FVec Ideal S256x2816 .bf16) : List (View.Piece (Elt Ideal) S256x2816 .bf16) :=
  [10, 9, 8, 7, 6, 5, 4, 3, 2, 1, 0].map fun j : Fin 11 =>
    ⟨Rect.unit (s := S256x2816) ![0, j.val * 256] ![256, 256] (by intro a; fin_cases a <;> simp <;> omega),
      P (View.ld (Val := Elt Ideal) (e' := .bf16) W (Rect.unit (s := S2816x1024) ![j.val * 256, 0] ![256, 1024] (by intro a; fin_cases a <;> simp <;> omega)))
        (View.ld (Val := Elt Ideal) (e' := .bf16) A (Rect.unit (s := S256x2816) ![0, j.val * 256] ![256, 256] (by intro a; fin_cases a <;> simp <;> omega)))
        (View.ld (Val := Elt Ideal) (e' := .bf16) B (Rect.unit (s := S256x2816) ![0, j.val * 256] ![256, 256] (by intro a; fin_cases a <;> simp <;> omega)))⟩

/-- Where each store computes the matching entry of one function, the eleven stores leave that function. -/
theorem pieces_canon {P : FVec Ideal S256x1024 .bf16 → FVec Ideal S256x256 .bf16 → FVec Ideal S256x256 .bf16 → FVec Ideal S256x256 .bf16}
    {W : FVec Ideal S2816x1024 .bf16} {A B : FVec Ideal S256x2816 .bf16} {G : Fin 256 → Fin 2816 → ℝ}
    (e : ∀ (j : Fin 11) W' A' B', (∀ q k, W' (ix2 q k) = W (ix2 (colOf j q) k)) → (∀ r q, A' (ix2 r q) = A (ix2 r (colOf j q)))
      → (∀ r q, B' (ix2 r q) = B (ix2 r (colOf j q))) → ∀ r q, P W' A' B' (ix2 r q) = (G r (colOf j q) : EReal)) (r : Fin 256) (f : Fin 2816) :
    View.canon (pieces P W A B) (ix2 r f) = (G r f : EReal) := by
  refine View.canon_apply_of_pieces (Val := Elt Ideal) (e := .bf16) (fun y : S256x2816.Idx => (G (y 0) (y 1) : EReal)) _ ?_ _ ?_
  · intro p hp y
    obtain ⟨j, -, rfl⟩ := List.mem_map.mp hp
    obtain ⟨a, b, rfl⟩ : ∃ (a : Fin 256) (b : Fin 256), y = ix2 a b := ⟨y 0, y 1, eq_ix2 y⟩
    refine (e j _ _ _ (fun q k => loaded_at _ _ _ _ _ _ rfl (Nat.zero_add _).symm) (fun r q => loaded_at _ _ _ _ _ _ (Nat.zero_add _).symm rfl)
      (fun r q => loaded_at _ _ _ _ _ _ (Nat.zero_add _).symm rfl) a b).trans ?_
    refine congrArg (fun z : ℝ => (z : EReal)) (congrArg₂ G ?_ ?_)
    · exact Fin.ext (show a.val = 0 + 1 * a.val by omega)
    · exact Fin.ext (show j.val * 256 + b.val = j.val * 256 + 1 * b.val by omega)
  · refine ⟨_, List.mem_map.mpr ⟨⟨f.val / 256, by omega⟩, ?_, rfl⟩, ?_⟩
    · generalize (⟨f.val / 256, by omega⟩ : Fin 11) = j
      revert j; decide
    · rw [Rect.mem_set_unit]
      intro a
      fin_cases a <;> simp <;> omega

section
variable {o x : Fin 8192 → Fin 1024 → ℝ} {g : Fin 1024 → ℝ} {w1 w3 : Fin 1024 → Fin 2816 → ℝ} {w2 : Fin 2816 → Fin 1024 → ℝ} {row : Fin 256 → Fin 8192}
variable {O X : FVec Ideal S256x1024 .f32} {G : FVec Ideal S1x1024 .f32} {A B : FVec Ideal S256x2816 .bf16} {W1 W3 W2 : FVec Ideal S2816x1024 .bf16}
variable (eo : ∀ r l, O (ix2 r l) = (o (row r) l : EReal)) (ex : ∀ r l, X (ix2 r l) = (x (row r) l : EReal)) (eg : ∀ l, G (ix2 0 l) = (g l : EReal))
variable (ea : ∀ r f, A (ix2 r f) = (preR x g w1 (row r) f : EReal)) (eb : ∀ r f, B (ix2 r f) = (preR x g w3 (row r) f : EReal))
variable (e1 : ∀ f k, W1 (ix2 f k) = (w1 k f : EReal)) (e3 : ∀ f k, W3 (ix2 f k) = (w3 k f : EReal)) (e2 : ∀ f k, W2 (ix2 f k) = (w2 f k : EReal))

include eo in
/-- The scaled cotangent of the tile. -/
theorem dy_tile (r : Fin 256) (k : Fin 1024) : k0_pay5 (F := Ideal) O (ix2 r k) = ((1 / 2 * o (row r) k : ℝ) : EReal) := by
  pointwise [k0_pay5]
  simp only [eo, lit_half, ← EReal.coe_mul]

/-- The logistic function of one saved pre-activation. -/
theorem gate_tile (v : ℝ) (V : FVec Ideal S256x256 .bf16) (r q : Fin 256) (e : V (ix2 r q) = (v : EReal)) :
    k0_pay9 (F := Ideal) V (ix2 r q) = (sgm v : EReal) := by
  pointwise [k0_pay9, k0_pay7]
  simp only [e, lit_one, one_coe, ← EReal.coe_zero, ← EReal.coe_sub, exp_real, ← EReal.coe_add, div_real _ (sgm_den _), zero_sub]
  rfl

include eo e2 ea in
/-- The stored derivative by the second pre-activations. -/
theorem db_tile (r : Fin 256) (f : Fin 2816) :
    View.canon (pieces (fun W A _ => k0_pay12 (F := Ideal) O W A) W2 A B) (ix2 r f) = (dbR o x g w1 w2 (row r) f : EReal) := by
  refine pieces_canon (G := fun r f => dbR o x g w1 w2 (row r) f) (fun j W' A' _ eW eA _ r q => ?_) r f
  have es := gate_tile (preR x g w1 (row r) (colOf j q)) A' r q (by rw [eA, ea])
  pointwise [k0_pay12, k0_pay10, k0_pay7, k0_pay6]
  simp only [es, eW, eA, ea, e2, dy_tile eo, ← EReal.coe_mul, sum_coe]
  rfl

include eo e2 ea eb in
/-- The stored derivative by the first pre-activations. -/
theorem da_tile (r : Fin 256) (f : Fin 2816) :
    View.canon (pieces (fun W A B => k0_pay11 (F := Ideal) O W A B) W2 A B) (ix2 r f) = (daR o x g w1 w3 w2 (row r) f : EReal) := by
  refine pieces_canon (G := fun r f => daR o x g w1 w3 w2 (row r) f) (fun j W' A' B' eW eA eB r q => ?_) r f
  have es := gate_tile (preR x g w1 (row r) (colOf j q)) A' r q (by rw [eA, ea])
  pointwise [k0_pay11, k0_pay10, k0_pay8, k0_pay7, k0_pay6]
  simp only [es, eW, eA, eB, ea, eb, e2, dy_tile eo, lit_one_narrow, ← EReal.coe_mul, sum_coe, ← EReal.coe_sub, ← EReal.coe_add]
  rfl

include ea eb in
/-- The stored inner activations. -/
theorem u_tile (r : Fin 256) (f : Fin 2816) :
    View.canon (pieces (fun _ A B => k0_pay13 (F := Ideal) (k0_pay8 B) (k0_pay10 A)) W2 A B) (ix2 r f) = (uR x g w1 w3 (row r) f : EReal) := by
  refine pieces_canon (G := fun r f => uR x g w1 w3 (row r) f) (fun j W' A' B' eW eA eB r q => ?_) r f
  have es := gate_tile (preR x g w1 (row r) (colOf j q)) A' r q (by rw [eA, ea])
  pointwise [k0_pay13, k0_pay10, k0_pay8, k0_pay7]
  simp only [es, eA, eB, ea, eb, ← EReal.coe_mul]
  rfl

variable {DA DB : FVec Ideal S256x2816 .bf16}
variable (eda : ∀ r f, DA (ix2 r f) = (daR o x g w1 w3 w2 (row r) f : EReal)) (edb : ∀ r f, DB (ix2 r f) = (dbR o x g w1 w2 (row r) f : EReal))

include eda edb e1 e3 in
/-- The derivative by the tile's normed rows. -/
theorem dh_tile (r : Fin 256) (k : Fin 1024) : k0_pay99 (F := Ideal) DA W1 DB W3 (ix2 r k) = (dhR o x g w1 w3 w2 (row r) k : EReal) := by
  pointwise [k0_pay99]
  simp only [eda, edb, e1, e3, ← EReal.coe_mul, sum_coe, ← EReal.coe_add]
  rfl

include ex in
/-- The reciprocal root mean square of a row of the tile. -/
theorem scale_tile (r : Fin 256) : k0_pay100 (F := Ideal) X (ix2 r 0) = (invRms (x (row r)) : EReal) := by
  pointwise [k0_pay100]
  simp only [ex, lit_1024, lit_eps, ← EReal.coe_mul, sum_coe, div_real _ (by norm_num : (1024 : ℝ) ≠ 0), ← EReal.coe_add]
  exact rsqrt_real (meanEps_pos (x (row r)))

include ex in
/-- The normalised entry of the tile. -/
theorem normed_tile (r : Fin 256) (l : Fin 1024) : k0_pay101 (F := Ideal) X (ix2 r l) = ((x (row r) l * invRms (x (row r)) : ℝ) : EReal) := by
  pointwise [k0_pay101]
  rw [scale_tile ex, ex, ← EReal.coe_mul]

include eda edb e1 e3 eg eo ex in
/-- The stored derivative by the layer's input. -/
theorem dx_tile (r : Fin 256) (k : Fin 1024) :
    k0_pay1 (F := Ideal) (k0_pay100 X) (k0_pay101 X) (k0_pay102 DA W1 DB W3 G) O (ix2 r k) = (dxR o x g w1 w3 w2 (row r) k : EReal) := by
  pointwise [k0_pay1, k0_pay102]
  simp only [dh_tile e1 e3 eda edb, normed_tile ex, scale_tile ex, eg, eo, lit_1024, ← EReal.coe_mul, sum_coe,
    div_real _ (by norm_num : (1024 : ℝ) ≠ 0), ← EReal.coe_sub, ← EReal.coe_add]
  simp only [dxR, normBack, Nat.cast_ofNat]

include eda edb e1 e3 ex in
/-- The row of the gains' derivative after this tile's share is added. -/
theorem dg_tile (R : FVec Ideal S1x1024 .f32) (k : Fin 1024) :
    k0_pay3 (F := Ideal) (k0_pay99 DA W1 DB W3) (k0_pay101 X) R (ix2 0 k)
      = R (ix2 0 k) + ((∑ r, dhR o x g w1 w3 w2 (row r) k * (x (row r) k * invRms (x (row r))) : ℝ) : EReal) := by
  pointwise [k0_pay3]
  simp only [dh_tile e1 e3 eda edb, normed_tile ex, ← EReal.coe_mul, sum_coe]
end

end Cert.FfnKernelIdeal.Ffn
-- ==== Proof.FfnArrays.lean ====
module

public import proofs.«01_k».proof.Proof.FfnBlock

/-! The gated layer's backward kernel: its seven result arrays after the run, over the reals. -/

@[expose] public section

set_option maxRecDepth 16384
noncomputable section
open Idealize.ShloMosaic Idealize.ShloMosaic.TcCoe Idealize.SL.Sem
open Idealize.ShloMosaic.Pipeline (Dat)
namespace Cert.FfnKernelIdeal.Ffn
open Cert.FfnKernelIdeal Cert.FfnKernelIdeal.Gen Cert.Step Cert.FfnReferenceIdeal.Ffn

variable (m : (ℓ : Loc nD τ sig) → Buf (Elt Ideal) ℓ) (c : Dev nD)

/-- Which block of its array each window stages at a grid point. -/
theorem maps : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] ∧ win0_7.index t = ![0, 0]
    ∧ win0_8.index t = ![t.val, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] ∧ t.val < 32 :=
  (by decide +kernel : ∀ t : Fin grid0.N, _)

/-- A grid point's number is below 32. -/
theorem below (t : Fin cfg0.N) : t.val < 32 := (maps t).2.2.2.2.2.2.2.2.2.2.2.2.2.2.2

variable {o x : Fin 8192 → Fin 1024 → ℝ} {g : Fin 1024 → ℝ} {w1 w3 : Fin 1024 → Fin 2816 → ℝ} {w2 : Fin 2816 → Fin 1024 → ℝ}
variable (eo : ∀ r l, (m ((c : Thread nD τ).loc main_arg0) : FVec Ideal S8192x1024 .f32) (ix2 r l) = (o r l : EReal))
variable (ex : ∀ r l, (m ((c : Thread nD τ).loc main_arg1) : FVec Ideal S8192x1024 .f32) (ix2 r l) = (x r l : EReal))
variable (eg : ∀ l, (m ((c : Thread nD τ).loc main_arg2) : FVec Ideal S1024 .f32) (ix1 l) = (g l : EReal))
variable (e1 : ∀ k f, (m ((c : Thread nD τ).loc main_arg3) : FVec Ideal S1024x2816 .f32) (ix2 k f) = (w1 k f : EReal))
variable (e3 : ∀ k f, (m ((c : Thread nD τ).loc main_arg4) : FVec Ideal S1024x2816 .f32) (ix2 k f) = (w3 k f : EReal))
variable (e2 : ∀ f k, (m ((c : Thread nD τ).loc main_arg5) : FVec Ideal S2816x1024 .f32) (ix2 f k) = (w2 f k : EReal))

/-- The row of the array that row `r` of tile `n` is. -/
def rowOf (n : Fin cfg0.N) (r : Fin 256) : Fin 8192 := ⟨n.val * 256 + r, by have := below n; omega⟩

include eo in
/-- The cotangent a grid point stages is its tile of rows. -/
theorem o_at (n : Fin cfg0.N) (r : Fin 256) (l : Fin 1024) : (iblk m c 0 n : FVec Ideal S256x1024 .f32) (ix2 r l) = (o (rowOf n r) l : EReal) := by
  rw [← eo]
  blk_simp [iblk]
  entry_read
  pointwise
  blk_ext [maps n, rowOf]

include ex in
/-- The activations a grid point stages are its tile of rows. -/
theorem x_at (n : Fin cfg0.N) (r : Fin 256) (l : Fin 1024) : (iblk m c 1 n : FVec Ideal S256x1024 .f32) (ix2 r l) = (x (rowOf n r) l : EReal) := by
  rw [← ex]
  blk_simp [iblk]
  entry_read
  pointwise
  blk_ext [maps n, rowOf]

include eg in
/-- Every grid point stages the whole row of gains. -/
theorem g_at (n : Fin cfg0.N) (l : Fin 1024) : (iblk m c 2 n : FVec Ideal S1x1024 .f32) (ix2 0 l) = (g l : EReal) := by
  rw [← eg]
  blk_simp [iblk]
  entry_read
  pointwise
  blk_ext [maps n, rowOf]

include e1 in
/-- Every grid point stages the first weights, transposed. -/
theorem w1_at (n : Fin cfg0.N) (f : Fin 2816) (k : Fin 1024) : (iblk m c 5 n : FVec Ideal S2816x1024 .bf16) (ix2 f k) = (w1 k f : EReal) := by
  rw [← e1]
  blk_simp [iblk]
  entry_read
  pointwise
  blk_ext [maps n, rowOf]

include e3 in
/-- Every grid point stages the second weights, transposed. -/
theorem w3_at (n : Fin cfg0.N) (f : Fin 2816) (k : Fin 1024) : (iblk m c 6 n : FVec Ideal S2816x1024 .bf16) (ix2 f k) = (w3 k f : EReal) := by
  rw [← e3]
  blk_simp [iblk]
  entry_read
  pointwise
  blk_ext [maps n, rowOf]

include e2 in
/-- Every grid point stages the third weights. -/
theorem w2_at (n : Fin cfg0.N) (f : Fin 2816) (k : Fin 1024) : (iblk m c 7 n : FVec Ideal S2816x1024 .bf16) (ix2 f k) = (w2 f k : EReal) := by
  rw [← e2]
  blk_simp [iblk]
  entry_read
  pointwise
  blk_ext [maps n, rowOf]

include ex eg e1 in
/-- The first saved pre-activations a grid point stages. -/
theorem a_blk (n : Fin cfg0.N) (r : Fin 256) (f : Fin 2816) : (iblk m c 3 n : FVec Ideal S256x2816 .bf16) (ix2 r f) = (preR x g w1 (rowOf n r) f : EReal) := by
  rw [← a_at ex eg e1]
  blk_simp [iblk]
  entry_read
  exact congrArg (FfnReferenceIdeal.Read.val_main_v16 (F := Ideal) _ _ _) (by blk_ext [maps n, rowOf])

include ex eg e3 in
/-- The second saved pre-activations a grid point stages. -/
theorem b_blk (n : Fin cfg0.N) (r : Fin 256) (f : Fin 2816) : (iblk m c 4 n : FVec Ideal S256x2816 .bf16) (ix2 r f) = (preR x g w3 (rowOf n r) f : EReal) := by
  rw [← b_at ex eg e3]
  blk_simp [iblk]
  entry_read
  exact congrArg (FfnReferenceIdeal.Read.val_main_v17 (F := Ideal) _ _ _) (by blk_ext [maps n, rowOf])

include eo ex eg e1 e3 e2 in
/-- The stored derivative by the first pre-activations. -/
theorem da_stored (n : Fin cfg0.N) (r : Fin 256) (f : Fin 2816) :
    View.canon (pieces (fun W A B => k0_pay11 (F := Ideal) (iblk m c 0 n) W A B) (iblk m c 7 n) (iblk m c 3 n) (iblk m c 4 n)) (ix2 r f)
      = (daR o x g w1 w3 w2 (rowOf n r) f : EReal) :=
  da_tile (o_at m c eo n) (a_blk m c ex eg e1 n) (b_blk m c ex eg e3 n) (w2_at m c e2 n) r f

include eo ex eg e1 e2 in
/-- The stored derivative by the second pre-activations. -/
theorem db_stored (n : Fin cfg0.N) (r : Fin 256) (f : Fin 2816) :
    View.canon (pieces (fun W A _ => k0_pay12 (F := Ideal) (iblk m c 0 n) W A) (iblk m c 7 n) (iblk m c 3 n) (iblk m c 4 n)) (ix2 r f)
      = (dbR o x g w1 w2 (rowOf n r) f : EReal) :=
  db_tile (o_at m c eo n) (a_blk m c ex eg e1 n) (w2_at m c e2 n) r f

include eo ex eg e1 e3 e2 in
/-- Every point writes its own tile of the derivative by the first pre-activations. -/
theorem da_final : (dats m 0 c).arrAt 11 (cfgs 0).N = FfnReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun n _ y => ?_
  blk_simp
  rw [after0_11]
  have hy : (win0_11.blk n).view.emb y = (ix2 (rowOf n (y 0)) (y 1) : S8192x2816.Idx) := by blk_ext [maps n, rowOf]
  rw [hy]
  refine Eq.trans ?_ (da_at eo ex eg e1 e3 e2 _ _).symm
  refine Eq.trans ?_ (da_stored m c eo ex eg e1 e3 e2 n (y 0) (y 1))
  by_cases h : n.val % 32 = 0
  · rw [outsAt0_A m c n h]; frame_out; rw [← eq_ix2]; rfl
  · rw [outsAt0_B m c n h]; frame_out; rw [← eq_ix2]; rfl

include eo ex eg e1 e2 in
/-- Every point writes its own tile of the derivative by the second pre-activations. -/
theorem db_final : (dats m 0 c).arrAt 12 (cfgs 0).N = FfnReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 12 _ (by decide +kernel) fun n _ y => ?_
  blk_simp
  rw [after0_12]
  have hy : (win0_12.blk n).view.emb y = (ix2 (rowOf n (y 0)) (y 1) : S8192x2816.Idx) := by blk_ext [maps n, rowOf]
  rw [hy]
  refine Eq.trans ?_ (db_at eo ex eg e1 e2 _ _).symm
  refine Eq.trans ?_ (db_stored m c eo ex eg e1 e2 n (y 0) (y 1))
  by_cases h : n.val % 32 = 0
  · rw [outsAt0_A m c n h]; frame_out; rw [← eq_ix2]; rfl
  · rw [outsAt0_B m c n h]; frame_out; rw [← eq_ix2]; rfl

include ex eg e1 e3 in
/-- Every point writes its own tile of the inner activations. -/
theorem u_final : (dats m 0 c).arrAt 13 (cfgs 0).N = FfnReferenceIdeal.Read.val_main_v19 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun n _ y => ?_
  blk_simp
  rw [after0_13]
  have hy : (win0_13.blk n).view.emb y = (ix2 (rowOf n (y 0)) (y 1) : S8192x2816.Idx) := by blk_ext [maps n, rowOf]
  rw [hy]
  refine Eq.trans ?_ (u_at ex eg e1 e3 _ _).symm
  refine Eq.trans ?_ (u_tile (W2 := iblk m c 7 n) (a_blk m c ex eg e1 n) (b_blk m c ex eg e3 n) (y 0) (y 1))
  by_cases h : n.val % 32 = 0
  · rw [outsAt0_A m c n h]; frame_out; rw [← eq_ix2]; rfl
  · rw [outsAt0_B m c n h]; frame_out; rw [← eq_ix2]; rfl

include eo in
/-- Every point writes its own tile of the scaled cotangent. -/
theorem dy_final : (dats m 0 c).arrAt 10 (cfgs 0).N = FfnReferenceIdeal.Read.val_main_v76 (F := Ideal) (m ((c : Thread nD τ).loc main_arg0)) := by
  refine (dats m 0 c).arrAt_eq_of_covers 10 _ (by decide +kernel) fun n _ y => ?_
  blk_simp
  rw [after0_10]
  have hy : (win0_10.blk n).view.emb y = (ix2 (rowOf n (y 0)) (y 1) : S8192x1024.Idx) := by blk_ext [maps n, rowOf]
  rw [hy]
  refine Eq.trans ?_ (dy_at eo _ _).symm
  refine Eq.trans ?_ (dy_tile (o_at m c eo n) (y 0) (y 1))
  by_cases h : n.val % 32 = 0
  · rw [outsAt0_A m c n h]; frame_out; rw [← eq_ix2]
  · rw [outsAt0_B m c n h]; frame_out; rw [← eq_ix2]

include eo ex eg e1 e3 e2 in
/-- Every point writes its own tile of the derivative by the input. -/
theorem dx_final : (dats m 0 c).arrAt 8 (cfgs 0).N = FfnReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun n _ y => ?_
  blk_simp
  rw [after0_8]
  have hy : (win0_8.blk n).view.emb y = (ix2 (rowOf n (y 0)) (y 1) : S8192x1024.Idx) := by blk_ext [maps n, rowOf]
  rw [hy]
  refine Eq.trans ?_ (dx_at eo ex eg e1 e3 e2 _ _).symm
  by_cases h : n.val % 32 = 0
  · rw [outsAt0_A m c n h]; frame_out
    exact (congrArg _ (eq_ix2 y)).trans (dx_tile (o_at m c eo n) (x_at m c ex n) (g_at m c eg n) (w1_at m c e1 n) (w3_at m c e3 n)
      (fun r f => (whole_loaded _ _ _ r f).trans (da_stored m c eo ex eg e1 e3 e2 n r f))
      (fun r f => (whole_loaded _ _ _ r f).trans (db_stored m c eo ex eg e1 e2 n r f)) (y 0) (y 1))
  · rw [outsAt0_B m c n h]; frame_out
    exact (congrArg _ (eq_ix2 y)).trans (dx_tile (o_at m c eo n) (x_at m c ex n) (g_at m c eg n) (w1_at m c e1 n) (w3_at m c e3 n)
      (fun r f => (whole_loaded _ _ _ r f).trans (da_stored m c eo ex eg e1 e3 e2 n r f))
      (fun r f => (whole_loaded _ _ _ r f).trans (db_stored m c eo ex eg e1 e2 n r f)) (y 0) (y 1))

include eo ex eg e1 e3 e2 in
/-- Every point writes the same tile once more in the narrow format. -/
theorem dx_narrow_final : (dats m 0 c).arrAt 14 (cfgs 0).N = FfnReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun n _ y => ?_
  blk_simp
  rw [after0_14]
  have hy : (win0_14.blk n).view.emb y = (ix2 (rowOf n (y 0)) (y 1) : S8192x1024.Idx) := by blk_ext [maps n, rowOf]
  rw [hy]
  refine Eq.trans ?_ (dx_at eo ex eg e1 e3 e2 _ _).symm
  by_cases h : n.val % 32 = 0
  · rw [outsAt0_A m c n h]; frame_out
    exact (congrArg _ (eq_ix2 y)).trans (dx_tile (o_at m c eo n) (x_at m c ex n) (g_at m c eg n) (w1_at m c e1 n) (w3_at m c e3 n)
      (fun r f => (whole_loaded _ _ _ r f).trans (da_stored m c eo ex eg e1 e3 e2 n r f))
      (fun r f => (whole_loaded _ _ _ r f).trans (db_stored m c eo ex eg e1 e2 n r f)) (y 0) (y 1))
  · rw [outsAt0_B m c n h]; frame_out
    exact (congrArg _ (eq_ix2 y)).trans (dx_tile (o_at m c eo n) (x_at m c ex n) (g_at m c eg n) (w1_at m c e1 n) (w3_at m c e3 n)
      (fun r f => (whole_loaded _ _ _ r f).trans (da_stored m c eo ex eg e1 e3 e2 n r f))
      (fun r f => (whole_loaded _ _ _ r f).trans (db_stored m c eo ex eg e1 e2 n r f)) (y 0) (y 1))

end Cert.FfnKernelIdeal.Ffn
-- ==== Proof.FfnGain.lean ====
module

public import proofs.«01_k».proof.Proof.FfnArrays

/-! The gated layer's backward kernel: the array of the gains' derivative after the run, over the reals. -/

@[expose] public section

set_option maxRecDepth 16384
noncomputable section
open Idealize.ShloMosaic Idealize.ShloMosaic.TcCoe Idealize.SL.Sem
open Idealize.ShloMosaic.Pipeline (Dat)
namespace Cert.FfnKernelIdeal.Ffn
open Cert.FfnKernelIdeal Cert.FfnKernelIdeal.Gen Cert.Step Cert.FfnReferenceIdeal.Ffn

variable (m : (ℓ : Loc nD τ sig) → Buf (Elt Ideal) ℓ) (c : Dev nD)

variable {o x : Fin 8192 → Fin 1024 → ℝ} {g : Fin 1024 → ℝ} {w1 w3 : Fin 1024 → Fin 2816 → ℝ} {w2 : Fin 2816 → Fin 1024 → ℝ}
variable (eo : ∀ r l, (m ((c : Thread nD τ).loc main_arg0) : FVec Ideal S8192x1024 .f32) (ix2 r l) = (o r l : EReal))
variable (ex : ∀ r l, (m ((c : Thread nD τ).loc main_arg1) : FVec Ideal S8192x1024 .f32) (ix2 r l) = (x r l : EReal))
variable (eg : ∀ l, (m ((c : Thread nD τ).loc main_arg2) : FVec Ideal S1024 .f32) (ix1 l) = (g l : EReal))
variable (e1 : ∀ k f, (m ((c : Thread nD τ).loc main_arg3) : FVec Ideal S1024x2816 .f32) (ix2 k f) = (w1 k f : EReal))
variable (e3 : ∀ k f, (m ((c : Thread nD τ).loc main_arg4) : FVec Ideal S1024x2816 .f32) (ix2 k f) = (w3 k f : EReal))
variable (e2 : ∀ f k, (m ((c : Thread nD τ).loc main_arg5) : FVec Ideal S2816x1024 .f32) (ix2 f k) = (w2 f k : EReal))

/-- The rows of the tiles, tile after tile, are the rows of the array. -/
theorem rows_sum (f : Fin 8192 → ℝ) : ∑ n : Fin cfg0.N, ∑ r : Fin 256, f (rowOf n r) = ∑ R, f R :=
  Fin.sum_mul_add_congr fun _ _ _ => rfl

/-- A tile's share of the gains' derivative. -/
def gainPart (o x : Fin 8192 → Fin 1024 → ℝ) (g : Fin 1024 → ℝ) (w1 w3 : Fin 1024 → Fin 2816 → ℝ) (w2 : Fin 2816 → Fin 1024 → ℝ)
    (n : Fin cfg0.N) (k : Fin 1024) : EReal :=
  ((∑ r : Fin 256, dhR o x g w1 w3 w2 (rowOf n r) k * (x (rowOf n r) k * invRms (x (rowOf n r))) : ℝ) : EReal)

/-- The last grid point. -/
def lastPoint : Fin cfg0.N := ⟨31, lt_of_lt_of_eq (by norm_num : 31 < 32) N_0.symm⟩

include eo ex eg e1 e3 e2 in
/-- The gain window holds, in its first row, the sum of the shares of the tiles walked; zero elsewhere. -/
theorem dg_final : (dats m 0 c).arrAt 9 (cfgs 0).N = FfnReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 lastPoint (by decide +kernel) _ fun j => ?_
  blk_simp
  rw [after0_9]
  have share := fun (n : Fin cfg0.N) (R : FVec Ideal S1x1024 .f32) (k : Fin 1024) (DA DB : FVec Ideal S256x2816 .bf16) eda edb =>
    dg_tile (g := g) (o := o) (w2 := w2) (x_at m c ex n) (w1_at m c e1 n) (w3_at m c e3 n) (DA := DA) (DB := DB) eda edb R k
  rw [Pipeline.eq_sum_fin_of_reset_step_apply_last (fun n h => (outsAt0 m c n h).2.1) 32 (fun _ => 0)
    (fun n (j : S8x1024.Idx) => if (j 0).val = 0 then gainPart o x g w1 w3 w2 n (j 1) else 0)
    (fun n h j => by
      rw [outsAt0_A m c n h]; frame_out; idx_vars j
      rw [row_over, View.readCov_fill _ _ _ _ _ (by decide), View.canon_cons_unit_lit _ _ _ (by decide)]
      have hz : ∀ a : Fin 8, k0_pay4 (F := Ideal) (ix2 a j1) = 0 := fun a => by pointwise [k0_pay4]
      split
      · rename_i ha
        refine (share n _ _ _ _ (fun r f => (whole_loaded _ _ _ r f).trans (da_stored m c eo ex eg e1 e3 e2 n r f))
          (fun r f => (whole_loaded _ _ _ r f).trans (db_stored m c eo ex eg e1 e2 n r f))).trans ?_
        rw [first_row_loaded _ _ j0 ha, hz]
        exact congrArg (fun z : EReal => 0 + z) (if_pos ha).symm
      · rename_i ha
        rw [hz]
        exact ((congrArg (fun z : EReal => 0 + z) (if_neg ha)).trans (add_zero _)).symm)
    (fun n h j => by
      rw [outsAt0_B m c n h]; frame_out; idx_vars j
      rw [row_written]
      split
      · rename_i ha
        refine (share n _ _ _ _ (fun r f => (whole_loaded _ _ _ r f).trans (da_stored m c eo ex eg e1 e3 e2 n r f))
          (fun r f => (whole_loaded _ _ _ r f).trans (db_stored m c eo ex eg e1 e2 n r f))).trans ?_
        rw [first_row_loaded _ _ j0 ha]
        exact congrArg (fun z : EReal => _ + z) (if_pos ha).symm
      · rename_i ha
        rw [View.writes_nil, Memref.IsWhole.read_unread]
        exact ((congrArg (fun z : EReal => _ + z) (if_neg ha)).trans (add_zero _)).symm)
    (le_of_eq N_0) lastPoint N_0.symm j]
  idx_vars j
  rw [dg_at eo ex eg e1 e3 e2, zero_add]
  change (∑ p : Fin cfg0.N, if j0.val = 0 then gainPart o x g w1 w3 w2 p j1 else 0) = _
  by_cases h : j0.val = 0
  · have h' : j0 = 0 := Fin.ext h
    simp only [if_pos h, if_pos h']
    unfold gainPart
    rw [sum_coe, rows_sum fun R => dhR o x g w1 w3 w2 R j1 * (x R j1 * invRms (x R))]
    rfl
  · have h' : ¬ j0 = 0 := fun e => h (congrArg Fin.val e)
    simp only [if_neg h, if_neg h', Finset.sum_const_zero, EReal.coe_zero]

end Cert.FfnKernelIdeal.Ffn
-- ==== Proof.FfnClaim.lean ====
module

public import proofs.«01_k».proof.Defs
public import proofs.«01_k».proof.Proof.Gen.FfnKernel.Frame
public import proofs.«01_k».proof.Proof.FfnGain
public import Idealize.ShloMosaic.Lib.Quiescent
public import Idealize.ShloMosaic.Lib.Claim

/-! What is claimed of the gated layer's backward call. -/

@[expose] public section

noncomputable section

namespace Cert.Proof

open Idealize.ShloMosaic Idealize.ShloMosaic.TcCoe Idealize.SL.Sem

/-- The side conditions of the precondition's own operations. -/
theorem ffnPreFacts : Cert.Pre_finite_ffn.Facts := by constructor <;> decide

/-- The reference runs, leaves its arguments as they were, and has no semaphore to leave raised. -/
theorem ffn_reference_frame (m) (ρ) : θ_run (Cert.FfnReferenceIdeal.defs (F := Ideal)) (onTc (τ := Cert.FfnReferenceIdeal.τ) (Cert.FfnReferenceIdeal.main (F := Ideal))) ⟨m, fun _ => 0, ρ⟩
    (fun r => (∀ c : Dev Cert.FfnReferenceIdeal.nD, r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0) :=
  (θ_run _ _ _).mono (fun r h => ⟨fun c => (h c).2.2.2.2.2.2.2, sem_eq_zero_of_no_sems rfl _⟩) (Cert.FfnReferenceIdeal.Value.run m ρ)

/-- The reference's run, its seven results at the stages read in `Proof/FfnPure.lean`. -/
theorem ffn_reference_run (m) (ρ) : θ_run (Cert.FfnReferenceIdeal.defs (F := Ideal)) (onTc (τ := Cert.FfnReferenceIdeal.τ) (Cert.FfnReferenceIdeal.main (F := Ideal))) ⟨m, fun _ => 0, ρ⟩
    fun r => ∀ c : Dev Cert.FfnReferenceIdeal.nD, r.2.mem ((c.tc : Thread Cert.FfnReferenceIdeal.nD Cert.FfnReferenceIdeal.τ).loc Cert.FfnReferenceIdeal.main_v54) = Cert.FfnReferenceIdeal.Read.val_main_v54 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v85) = Cert.FfnReferenceIdeal.Read.val_main_v85 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v86) = Cert.FfnReferenceIdeal.Read.val_main_v76 (F := Ideal) (m ((c.tc : Thread Cert.FfnReferenceIdeal.nD Cert.FfnReferenceIdeal.τ).loc Cert.FfnReferenceIdeal.main_arg0))
      ∧ r.2.mem ((c.tc : Thread Cert.FfnReferenceIdeal.nD Cert.FfnReferenceIdeal.τ).loc Cert.FfnReferenceIdeal.main_v87) = Cert.FfnReferenceIdeal.Read.val_main_v30 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v88) = Cert.FfnReferenceIdeal.Read.val_main_v28 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v89) = Cert.FfnReferenceIdeal.Read.val_main_v19 (F := Ideal) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))
      ∧ r.2.mem ((c.tc : Thread Cert.FfnReferenceIdeal.nD Cert.FfnReferenceIdeal.τ).loc Cert.FfnReferenceIdeal.main_v90) = Cert.FfnReferenceIdeal.Read.val_main_v54 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5) :=
  (θ_run _ _ _).mono (fun r h c => ⟨(h c).1.trans (Cert.FfnReferenceIdeal.Read.val_main_v54_eq m c), (h c).2.1.trans (Cert.FfnReferenceIdeal.Read.val_main_v85_eq m c), (h c).2.2.1,
    ((h c).2.2.2.1.trans (Cert.FfnReferenceIdeal.Read.val_main_v87_eq m c)).trans (Cert.FfnReferenceIdeal.Ffn.da_same _ _ _ _ _ _),
    (h c).2.2.2.2.1.trans (Cert.FfnReferenceIdeal.Ffn.db_same _ _ _ _ _), (h c).2.2.2.2.2.1, (h c).2.2.2.2.2.2.1.trans (Cert.FfnReferenceIdeal.Read.val_main_v90_eq m c),
    (h c).2.2.2.2.2.2.2⟩) (Cert.FfnReferenceIdeal.Value.run m ρ)

set_option maxHeartbeats 4000000 in
/-- The kernel and the derivative of the gated layer leave the same seven arrays on finite arguments. -/
theorem ffn_algebraic : algebraic_FfnKernelIdeal_FfnReferenceIdeal_pre_finite_ffn
    (hFfnKernelIdeal := Cert.FfnKernelIdeal.Gen.facts) (hFfnReferenceIdeal := Cert.FfnReferenceIdeal.Gen.facts) (hPre_finite_ffn := ffnPreFacts) := by
  letI := ffnPreFacts
  pair_intro
  · run_from Cert.FfnKernelIdeal.Gen.run_main m g
  · refine (θ_run _ _ _).mono (fun r h c => ?_) (ffn_reference_run m' g')
    obtain ⟨⟨o, eo⟩, ⟨x, ex⟩, ⟨g, eg⟩, ⟨w1, e1⟩, ⟨w3, e3⟩, ⟨w2, e2⟩⟩ := Cert.FfnReferenceIdeal.Ffn.reals_of_pre _ _ _ _ _ _ (hpre c)
    have e := h c
    rw [(hagree c).1, (hagree c).2.1, (hagree c).2.2.1, (hagree c).2.2.2.1, (hagree c).2.2.2.2.1, (hagree c).2.2.2.2.2] at e
    refine ⟨e.1.trans (Cert.FfnKernelIdeal.Ffn.dx_final m c eo ex eg e1 e3 e2).symm,
      e.2.1.trans (Cert.FfnKernelIdeal.Ffn.dg_final m c eo ex eg e1 e3 e2).symm,
      e.2.2.1.trans (Cert.FfnKernelIdeal.Ffn.dy_final m c eo).symm,
      e.2.2.2.1.trans (Cert.FfnKernelIdeal.Ffn.da_final m c eo ex eg e1 e3 e2).symm,
      e.2.2.2.2.1.trans (Cert.FfnKernelIdeal.Ffn.db_final m c eo ex eg e1 e2).symm,
      e.2.2.2.2.2.1.trans (Cert.FfnKernelIdeal.Ffn.u_final m c ex eg e1 e3).symm,
      e.2.2.2.2.2.2.1.trans (Cert.FfnKernelIdeal.Ffn.dx_narrow_final m c eo ex eg e1 e3 e2).symm, (h c).2.2.2.2.2.2.2⟩

end Cert.Proof

end
-- ==== Proof.MixReals.lean ====
module

public import proofs.«01_k».proof.Proof.FfnReals

/-! Row norms with a mean taken off, shifts of rows, running sums and their derivatives over the real numbers. -/

@[expose] public section

noncomputable section
open Idealize.ShloMosaic
namespace Cert.Step

/-- The bits of 256. -/
theorem lit_256 : Ideal.ofBits .f32 0x43800000#32 = ((256 : ℝ) : EReal) := by
  simp [Ideal.ofBits, Ideal.ieee, -EReal.coe_mul]; norm_num

/-- The bits of four. -/
theorem lit_four : Ideal.ofBits .f32 0x40800000#32 = ((4 : ℝ) : EReal) := by
  simp [Ideal.ofBits, Ideal.ieee, -EReal.coe_mul]; norm_num

/-- The bits of eight. -/
theorem lit_eight : Ideal.ofBits .f32 0x41000000#32 = ((8 : ℝ) : EReal) := by
  simp [Ideal.ofBits, Ideal.ieee, -EReal.coe_mul]; norm_num

/-- The bits of sixteen. -/
theorem lit_sixteen : Ideal.ofBits .f32 0x41800000#32 = ((16 : ℝ) : EReal) := by
  simp [Ideal.ofBits, Ideal.ieee, -EReal.coe_mul]; norm_num

/-- The mean of a row. -/
def mean {n : ℕ} (x : Fin n → ℝ) : ℝ := (∑ k, x k) / n

/-- A row less its mean. -/
def cen {n : ℕ} (x : Fin n → ℝ) (k : Fin n) : ℝ := x k - mean x

/-- The normed row. -/
def nrm {n : ℕ} (x : Fin n → ℝ) (k : Fin n) : ℝ := cen x k * invRms (cen x)

/-- The derivative of a normed row from the derivative `h` of its normed entries. -/
def lnBack {n : ℕ} (x h : Fin n → ℝ) (j : Fin n) : ℝ :=
  invRms (cen x) * (h j - (∑ k, h k) / n - nrm x j * ((∑ k, h k * nrm x k) / n))

/-- The entries of a row less its mean add up to nothing. -/
theorem cen_sum {n : ℕ} (hn : (n : ℝ) ≠ 0) (x : Fin n → ℝ) : ∑ k, cen x k = 0 := by
  simp only [cen, Finset.sum_sub_distrib, mean, Finset.sum_const, Finset.card_univ, Fintype.card_fin, nsmul_eq_mul]
  field_simp
  ring

/-- One path of the derivative of the norm: through the variance. -/
def viaVar {n : ℕ} (x h : Fin n → ℝ) : ℝ := (∑ k, cen x k * h k) * (-1 / 2 * (invRms (cen x) / meanEps (cen x))) / n

/-- The derivative by the centred entries. -/
def viaCen {n : ℕ} (x h : Fin n → ℝ) (j : Fin n) : ℝ := h j * invRms (cen x) + cen x j * viaVar x h + viaVar x h * cen x j

/-- The derivative of the norm in closed form is the sum of its paths: through the entry, the variance and the mean. -/
theorem ln_grad {n : ℕ} (hn : (n : ℝ) ≠ 0) (x h : Fin n → ℝ) (j : Fin n) :
    lnBack x h j = viaCen x h j + (∑ k, -viaCen x h k) / n := by
  have hm : invRms (cen x) / meanEps (cen x) = invRms (cen x) * (invRms (cen x) * invRms (cen x)) := by
    have : invRms (cen x) * invRms (cen x) = (meanEps (cen x))⁻¹ := by
      rw [invRms, ← mul_inv, Real.mul_self_sqrt (meanEps_pos (cen x)).le]
    rw [this, div_eq_mul_inv]
  have hs : ∑ k, h k * nrm x k = (∑ k, cen x k * h k) * invRms (cen x) := by
    rw [Finset.sum_mul]; exact Finset.sum_congr rfl fun k _ => by rw [nrm]; ring
  have ht : ∑ k, -viaCen x h k = -((∑ k, h k) * invRms (cen x)) := by
    rw [Finset.sum_neg_distrib]
    refine congrArg Neg.neg ?_
    simp only [viaCen, Finset.sum_add_distrib, ← Finset.sum_mul, ← Finset.mul_sum, cen_sum hn]
    ring
  rw [ht, lnBack, hs, viaCen, viaVar, hm, nrm]
  ring

/-- An entry by an integer row: zero outside the rows. -/
def at0 {α : Type} [Zero α] {n : ℕ} (f : Fin n → α) (i : ℤ) : α := if h : 0 ≤ i ∧ i < n then f ⟨i.toNat, by omega⟩ else 0

/-- An entry inside the rows. -/
theorem at0_in {α : Type} [Zero α] {n : ℕ} (f : Fin n → α) (r : Fin n) (i : ℤ) (h : i = r.val) : at0 f i = f r := by
  subst h
  rw [at0, dif_pos ⟨by omega, by omega⟩]
  exact congrArg f (Fin.ext (by simp))

/-- An entry before or after the rows. -/
theorem at0_out {α : Type} [Zero α] {n : ℕ} (f : Fin n → α) (i : ℤ) (h : i < 0 ∨ n ≤ i) : at0 f i = 0 :=
  dif_neg (by omega)

/-- An entry of finite values by an integer row is finite. -/
theorem at0_coe {n : ℕ} (f : Fin n → ℝ) (i : ℤ) : at0 (fun r => ((f r : ℝ) : EReal)) i = ((at0 f i : ℝ) : EReal) := by
  unfold at0; split <;> rfl

/-- A sum from a first value, added one by one, is that value plus the sum. -/
theorem fold_sum {ι M : Type} [AddCommMonoid M] (g : ι → M) (L : List ι) (v : M) :
    L.foldl (fun r n => r + g n) v = v + (L.map g).sum := by
  induction L generalizing v with
  | nil => simp
  | cons a L ih => rw [List.foldl_cons, ih, List.map_cons, List.sum_cons, add_assoc]

/-- A running sum over a window of all rows, `lo` rows of zeros before the first: the rows the window covers. -/
theorem window_sum {N w : ℕ} (lo hi : ℕ) (x : (⟨2, ![N, w]⟩ : Shape).Idx → EReal) {u : Shape} (v : u.Idx → EReal) (hv : ∀ i, v i = 0)
    (h : (⟨2, ![N, w]⟩ : Shape).ReduceWindows ![N, 1] ![1, 1] ![lo, 0] ![hi, 0] (⟨2, ![N, w]⟩ : Shape)) (hu : 0 < u.numel)
    (r : Fin N) (l : Fin w) :
    Host.reduceWindowAdd (F := Ideal) (φ := .f32) (t := (⟨2, ![N, w]⟩ : Shape)) ![N, 1] ![1, 1] ![lo, 0] ![hi, 0] x v h hu (ix2 r l)
      = ∑ n : Fin N, at0 (fun a => x (ix2 a l)) ((r.val : ℤ) + n.val - lo) := by
  unfold Host.reduceWindowAdd
  rw [Ideal.hostReduceWindowAdd_def]
  unfold Ideal.hostReduceWindowAdd Host.reduceWindow
  simp only [hv]
  rw [fold_sum, zero_add, ← Fin.sum_univ_def]
  refine (Equiv.sum_comp (Shape.rowMajor (⟨2, ![N, 1]⟩ : Shape)).symm (fun i : (⟨2, ![N, 1]⟩ : Shape).Idx =>
    if hin : ∀ a : Fin 2, (![lo, 0] : Fin 2 → ℕ) a ≤ (ix2 r l a).val * (![1, 1] : Fin 2 → ℕ) a + (i a).val
      ∧ (ix2 r l a).val * (![1, 1] : Fin 2 → ℕ) a + (i a).val - (![lo, 0] : Fin 2 → ℕ) a < (![N, w] : Fin 2 → ℕ) a
    then x (fun a => ⟨(ix2 r l a).val * (![1, 1] : Fin 2 → ℕ) a + (i a).val - (![lo, 0] : Fin 2 → ℕ) a, (hin a).2⟩) else 0)).trans ?_
  rw [sum_idx2]
  refine Finset.sum_congr rfl fun n _ => ?_
  rw [Fin.sum_univ_one, at0]
  by_cases e : 0 ≤ (r.val : ℤ) + n.val - lo ∧ (r.val : ℤ) + n.val - lo < N
  · rw [dif_pos e, dif_pos]
    · refine congrArg x (funext fun a => ?_)
      fin_cases a
      · exact Fin.ext (show r.val * 1 + n.val - lo = ((r.val : ℤ) + n.val - lo).toNat by omega)
      · exact Fin.ext (show l.val * 1 + 0 - 0 = l.val by omega)
    · intro a
      fin_cases a
      · exact ⟨show lo ≤ r.val * 1 + n.val by omega, show r.val * 1 + n.val - lo < N by omega⟩
      · exact ⟨show 0 ≤ l.val * 1 + 0 by omega, show l.val * 1 + 0 - 0 < w by omega⟩
  · rw [dif_neg e, dif_neg]
    intro hin
    have h0 := hin 0
    have h1 : lo ≤ r.val * 1 + n.val := h0.1
    have h2 : r.val * 1 + n.val - lo < N := h0.2
    omega

/-- A running sum up to a row, less the one up to the row `w` before, is the sum of the last `w` rows. -/
theorem trailing {n : ℕ} (a : Fin (n + 1) → ℝ) (i : ℤ) (hi : i < (n : ℤ) + 1) (w : ℕ) :
    (∑ k : Fin (n + 1), at0 a (i + k.val - n)) - ∑ k : Fin (n + 1), at0 a (i - w + k.val - n) = ∑ k ∈ Finset.range w, at0 a (i - k) := by
  have step : ∀ i : ℤ, i < (n : ℤ) + 1 →
      (∑ k : Fin (n + 1), at0 a (i + k.val - n)) = (∑ k : Fin (n + 1), at0 a (i - 1 + k.val - n)) + at0 a i := fun i hi => by
    rw [Fin.sum_univ_castSucc, Fin.sum_univ_succ (fun k : Fin (n + 1) => at0 a (i - 1 + k.val - n))]
    have e0 : at0 a (i - 1 + ((0 : Fin (n + 1)).val : ℤ) - n) = 0 := at0_out a _ (Or.inl (by simp; omega))
    rw [e0, zero_add]
    refine congrArg₂ _ (Finset.sum_congr rfl fun k _ => congrArg (at0 a) ?_) (congrArg (at0 a) ?_)
    · simp
    · simp
  induction w with
  | zero => simp
  | succ w ih =>
    rw [Finset.sum_range_succ, ← ih, step (i - w) (by omega)]
    have e : ∀ k : Fin (n + 1), at0 a (i - ((w + 1 : ℕ) : ℤ) + k.val - n) = at0 a (i - w - 1 + k.val - n) := fun k =>
      congrArg (at0 a) (by push_cast; ring)
    simp only [e]
    ring

/-- A running sum from a row on, each row less the row `w` after it, is the sum of the next `w` rows. -/
theorem leading {n : ℕ} (a : Fin n → ℝ) (i : ℤ) (hi : 0 ≤ i) (w : ℕ) :
    (∑ k : Fin n, (at0 a (i + k.val) + -at0 a (i + k.val + w))) = ∑ k ∈ Finset.range w, at0 a (i + k) := by
  have step : ∀ i : ℤ, 0 ≤ i → (∑ k : Fin n, at0 a (i + k.val)) = at0 a i + ∑ k : Fin n, at0 a (i + 1 + k.val) := fun i hi => by
    have e := Finset.sum_range_succ (fun k : ℕ => at0 a (i + k)) n
    rw [Finset.sum_range_succ', at0_out a (i + (n : ℤ)) (Or.inr (by omega)), add_zero] at e
    rw [Fin.sum_univ_eq_sum_range (fun k : ℕ => at0 a (i + k)), Fin.sum_univ_eq_sum_range (fun k : ℕ => at0 a (i + 1 + k)), ← e, add_comm]
    refine congrArg₂ _ (congrArg (at0 a) (by simp)) (Finset.sum_congr rfl fun k _ => congrArg (at0 a) (by push_cast; ring))
  have e : ∀ w : ℕ, (∑ k : Fin n, at0 a (i + k.val)) = (∑ k ∈ Finset.range w, at0 a (i + k)) + ∑ k : Fin n, at0 a (i + w + k.val) := fun w => by
    induction w with
    | zero => simp
    | succ w ih =>
      rw [Finset.sum_range_succ, ih, step (i + w) (by omega)]
      have e : ∀ k : Fin n, at0 a (i + ((w + 1 : ℕ) : ℤ) + k.val) = at0 a (i + w + 1 + k.val) := fun k =>
        congrArg (at0 a) (by push_cast; ring)
      simp only [e]
      ring
  rw [Finset.sum_add_distrib, e w, Finset.sum_neg_distrib]
  have e' : ∀ k : Fin n, at0 a (i + k.val + w) = at0 a (i + w + k.val) := fun k => congrArg (at0 a) (by ring)
  simp only [e']
  ring

end Cert.Step
-- ==== Proof.MixDefs.lean ====
module

public import proofs.«01_k».proof.Proof.MixReals

/-! The mixer's backward pass over the real numbers: the gated convolution with its norm, the short convolution, the pooling and the
gated spatial mixing. -/

@[expose] public section

noncomputable section
open Idealize.ShloMosaic
namespace Cert.Step

section
variable (p : Fin 8192 → Fin 2048 → ℝ)

/-- Column `l` of the `j`-th of the eight pieces of a row. -/
def pcol (j : Fin 8) (l : Fin 256) : Fin 2048 := ⟨j.val * 256 + l.val, by omega⟩

/-- The `j`-th of the eight pieces of the rows. -/
def piece (j : Fin 8) (r : Fin 8192) (l : Fin 256) : ℝ := p r (pcol j l)

/-- The gated values the long convolution runs over. -/
def gated (r : Fin 8192) (l : Fin 256) : ℝ := piece p 0 r l * sgm (piece p 1 r l)

/-- The products the short convolution runs over. -/
def prodSx (r : Fin 8192) (l : Fin 256) : ℝ := piece p 3 r l * piece p 4 r l

/-- A column of rows, read at an integer row. -/
def colAt (f : Fin 8192 → Fin 256 → ℝ) (l : Fin 256) (i : ℤ) : ℝ := at0 (fun a => f a l) i

/-- The width of the pooling window of a lane: 2, 4, 8 or 16 by its group of 64. -/
def wid (l : Fin 256) : ℕ := if l.val < 64 then 2 else if l.val < 128 then 4 else if l.val < 192 then 8 else 16

/-- How many rows a pooling window covers. -/
def cntR (r : Fin 8192) (l : Fin 256) : ℝ := min (1 + (r.val : ℝ)) (wid l)

/-- The sum of a pooling window: a row and the rows before it. -/
def trailSum (f : Fin 8192 → Fin 256 → ℝ) (r : Fin 8192) (l : Fin 256) : ℝ := ∑ k ∈ Finset.range (wid l), colAt f l ((r.val : ℤ) - k)

/-- The sum of a window of a row and the rows after it. -/
def leadSum (f : Fin 8192 → Fin 256 → ℝ) (r : Fin 8192) (l : Fin 256) : ℝ := ∑ k ∈ Finset.range (wid l), colAt f l ((r.val : ℤ) + k)

/-- The pooled values less the values. -/
def pooled (r : Fin 8192) (l : Fin 256) : ℝ := trailSum (piece p 5) r l / cntR r l - piece p 5 r l
end

section
variable (p : Fin 8192 → Fin 2048 → ℝ) (cw : Fin 31 → Fin 256 → ℝ) (cb lg lb : Fin 256 → ℝ)

/-- The long convolution with its offsets. -/
def convZ (r : Fin 8192) (l : Fin 256) : ℝ := (∑ k : Fin 31, cw k l * colAt (gated p) l ((r.val : ℤ) + k.val - 30)) + cb l

/-- The normed, scaled convolution. -/
def convLn (r : Fin 8192) (l : Fin 256) : ℝ := nrm (convZ p cw cb r) l * lg l + lb l

variable (dmx : Fin 8192 → Fin 1024 → ℝ)

/-- Column `l` of the `j`-th of the four pieces of the mixed rows. -/
def mcol (j : Fin 4) (l : Fin 256) : Fin 1024 := ⟨j.val * 256 + l.val, by omega⟩

/-- The derivative by the scaled norm, through the smooth gate. -/
def dLn (r : Fin 8192) (l : Fin 256) : ℝ :=
  dmx r (mcol 0 l) * (sgm (convLn p cw cb lg lb r l) * (1 + convLn p cw cb lg lb r l * (1 - sgm (convLn p cw cb lg lb r l))))

/-- The derivative by the long convolution. -/
def dZ (r : Fin 8192) (l : Fin 256) : ℝ := lnBack (convZ p cw cb r) (fun k => dLn p cw cb lg lb dmx r k * lg k) l

/-- The derivative by the gated values. -/
def dGated (r : Fin 8192) (l : Fin 256) : ℝ :=
  ∑ k : Fin 31, cw k l * colAt (dZ p cw cb lg lb dmx) l ((r.val : ℤ) + 30 - k.val)

/-- The derivative by the taps of the long convolution. -/
def dTap (k : Fin 31) (l : Fin 256) : ℝ := ∑ r, dZ p cw cb lg lb dmx r l * colAt (gated p) l ((r.val : ℤ) + k.val - 30)
end

/-- The derivative by the mixed rows. -/
def dMix (d : Fin 8192 → Fin 1024 → ℝ) (wo : Fin 1024 → Fin 1024 → ℝ) (r : Fin 8192) (j : Fin 1024) : ℝ := ∑ k, d r k * wo j k

section
variable (p : Fin 8192 → Fin 2048 → ℝ) (dmx : Fin 8192 → Fin 1024 → ℝ)

/-- The derivative by the short convolution. -/
def dShort (r : Fin 8192) (l : Fin 256) : ℝ := dmx r (mcol 1 l) * piece p 2 r l

/-- The short convolution: its taps may be infinite. -/
def shortE (sw : Fin 3 → Fin 256 → EReal) (r : Fin 8192) (l : Fin 256) : EReal :=
  sw 2 l * (prodSx p r l : EReal) + sw 1 l * (colAt (prodSx p) l ((r.val : ℤ) - 1) : EReal) + sw 0 l * (colAt (prodSx p) l ((r.val : ℤ) - 2) : EReal)

/-- The derivative by the products the short convolution runs over. -/
def dProdE (sw : Fin 3 → Fin 256 → EReal) (r : Fin 8192) (l : Fin 256) : EReal :=
  sw 2 l * (dShort p dmx r l : EReal) + sw 1 l * (colAt (dShort p dmx) l ((r.val : ℤ) + 1) : EReal)
    + sw 0 l * (colAt (dShort p dmx) l ((r.val : ℤ) + 2) : EReal)

/-- The derivative by the taps of the short convolution. -/
def dShortTap (k : Fin 3) (l : Fin 256) : ℝ := ∑ r, dShort p dmx r l * colAt (prodSx p) l ((r.val : ℤ) + k.val - 2)

variable (pb : Fin 256 → Fin 256 → ℝ) (ps : Fin 256 → ℝ)

/-- The pooled values through the pooling's matrix. -/
def poolMix (r : Fin 8192) (l : Fin 256) : ℝ := ∑ k, pooled p r k * pb k l

/-- The derivative by the pooling's product. -/
def dE (r : Fin 8192) (l : Fin 256) : ℝ := dmx r (mcol 2 l) * ps l

/-- The derivative by the pooled values. -/
def dPooled (r : Fin 8192) (l : Fin 256) : ℝ := ∑ k, dE dmx ps r k * pb l k

/-- The derivative by a window's sum. -/
def dWin (r : Fin 8192) (l : Fin 256) : ℝ := dPooled dmx pb ps r l / cntR r l

/-- The derivative by the pooling's input. -/
def dPoolIn (r : Fin 8192) (l : Fin 256) : ℝ := leadSum (dWin dmx pb ps) r l - dPooled dmx pb ps r l
end

section
variable (p : Fin 8192 → Fin 2048 → ℝ) (gg : Fin 256 → ℝ) (gb : Fin 256 → EReal) (ws : Fin 4 → Fin 128 → Fin 128 → ℝ) (bs : Fin 4 → Fin 128 → EReal)
variable (dmx : Fin 8192 → Fin 1024 → ℝ)

/-- The head of a lane. -/
def head (l : Fin 256) : Fin 4 := ⟨l.val / 64, by omega⟩

/-- A row's place in its chunk of 128. -/
def inChunk (r : Fin 8192) : Fin 128 := ⟨r.val % 128, by omega⟩

/-- Row `s` of the chunk a row is in. -/
def chunkRow (r : Fin 8192) (s : Fin 128) : Fin 8192 := ⟨r.val / 128 * 128 + s.val, by omega⟩

/-- The causal weights: those of later rows are dropped. -/
def causal (h : Fin 4) (t s : Fin 128) : ℝ := if s.val ≤ t.val then ws h t s else 0

/-- The normed, scaled values of the spatial gate: their offsets may be infinite. -/
def valLnE (r : Fin 8192) (l : Fin 256) : EReal := ((nrm (piece p 7 r) l * gg l : ℝ) : EReal) + gb l

/-- The values mixed over the rows of a chunk. -/
def mixedE (r : Fin 8192) (l : Fin 256) : EReal :=
  (∑ s : Fin 128, (causal ws (head l) (inChunk r) s : EReal) * valLnE p gg gb (chunkRow r s) l) + bs (head l) (inChunk r)

/-- The derivative by the mixed values. -/
def dMixed (r : Fin 8192) (l : Fin 256) : ℝ := dmx r (mcol 3 l) * piece p 6 r l

/-- The derivative by the normed, scaled values. -/
def dValLn (r : Fin 8192) (l : Fin 256) : ℝ := ∑ t : Fin 128, causal ws (head l) t (inChunk r) * dMixed p dmx (chunkRow r t) l

/-- The derivative by the values before their norm. -/
def dVal (r : Fin 8192) (l : Fin 256) : ℝ := lnBack (piece p 7 r) (fun k => dValLn p ws dmx r k * gg k) l
end

end Cert.Step
-- ==== Proof.MixTiles.lean ====
module

public import proofs.«01_k».proof.Proof.MixDefs

/-! Shifts of rows as the array operations write them: padding, rolling and joining rows. -/

@[expose] public section

noncomputable section
open Idealize.ShloMosaic
namespace Cert.Step

/-- Rows padded with zero rows before and after. -/
theorem pad_rows {N M w : ℕ} (lo hi : ℕ) (x : (⟨2, ![N, w]⟩ : Shape).Idx → EReal) {u : Shape} (v : u.Idx → EReal) (hv : ∀ i, v i = 0)
    (h : (⟨2, ![N, w]⟩ : Shape).Pads ![lo, 0] ![hi, 0] ![0, 0] (⟨2, ![M, w]⟩ : Shape)) (hu : 0 < u.numel) (i : Fin M) (l : Fin w) :
    pad (⟨2, ![M, w]⟩ : Shape) ![lo, 0] ![hi, 0] ![0, 0] x v h hu (ix2 i l) = at0 (fun a => x (ix2 a l)) ((i.val : ℤ) - lo) := by
  unfold pad at0
  by_cases e : 0 ≤ (i.val : ℤ) - lo ∧ (i.val : ℤ) - lo < N
  · rw [dif_pos e, dif_pos]
    · refine congrArg x (funext fun a => ?_)
      fin_cases a
      · exact Fin.ext (show (i.val - lo) / (0 + 1) = ((i.val : ℤ) - lo).toNat by omega)
      · exact Fin.ext (show (l.val - 0) / (0 + 1) = l.val by omega)
    · intro a
      fin_cases a
      · exact ⟨show lo ≤ i.val by omega, show (i.val - lo) % (0 + 1) = 0 by omega, show (i.val - lo) / (0 + 1) < N by omega⟩
      · exact ⟨show 0 ≤ l.val by omega, show (l.val - 0) % (0 + 1) = 0 by omega, show (l.val - 0) / (0 + 1) < w by omega⟩
  · rw [dif_neg e, dif_neg]
    · exact hv _
    intro hin
    have h0 := hin 0
    have h1 : lo ≤ i.val := h0.1
    have h2 : (i.val - lo) / (0 + 1) < N := h0.2.2
    omega

/-- A column read at an integer row that is a row. -/
theorem colAt_in (f : Fin 8192 → Fin 256 → ℝ) (l : Fin 256) (r : Fin 8192) (i : ℤ) (h : i = r.val) : colAt f l i = f r l :=
  at0_in _ r i h

/-- A column before the first row. -/
theorem colAt_out (f : Fin 8192 → Fin 256 → ℝ) (l : Fin 256) (i : ℤ) (h : i < 0 ∨ 8192 ≤ i) : colAt f l i = 0 := at0_out _ _ h

/-- A column of finite values, entry by entry. -/
theorem colAt_coe (f : Fin 8192 → Fin 256 → ℝ) (l : Fin 256) (i : ℤ) :
    at0 (fun a => ((f a l : ℝ) : EReal)) i = ((colAt f l i : ℝ) : EReal) := at0_coe _ i

/-- A scaled column, entry by entry. -/
theorem colAt_mul (k : ℝ) (f : Fin 8192 → Fin 256 → ℝ) (l : Fin 256) (i : ℤ) :
    at0 (fun a => ((k * f a l : ℝ) : EReal)) i = ((k * colAt f l i : ℝ) : EReal) := by
  unfold colAt at0; split <;> simp

/-- A sum over the first and the last of four axes. -/
theorem sum_outer {n0 n1 n2 n3 : ℕ} (h : (⟨4, ![n0, n1, n2, n3]⟩ : Shape).ReducesTo [0, 3] (⟨2, ![n1, n2]⟩ : Shape))
    (v : (⟨4, ![n0, n1, n2, n3]⟩ : Shape).Idx → EReal) (init : EReal) (b : Fin n1) (c : Fin n2) :
    Ideal.hostReduceAdd h v init (ix2 b c) = init + ∑ a, ∑ d, v (ix4 a b c d) := by
  refine congrArg (init + ·) ((Finset.sum_filter_eq_sum_of_fiber _ (fun k : Fin n0 × Fin n3 => ix4 k.1 b c k.2)
    (fun _ _ e => Prod.ext (congrFun e 0) (congrFun e 3)) (fun i => ?_) v).trans (Fintype.sum_prod_type _))
  constructor
  · intro e
    refine ⟨(i 0, i 3), ?_⟩
    funext a
    fin_cases a
    · rfl
    · exact (congrFun e 0).symm
    · exact (congrFun e 1).symm
    · rfl
  · rintro ⟨k, rfl⟩
    funext b
    fin_cases b <;> rfl

/-- A small integer is itself with a sign. -/
theorem toInt_lit (n : ℕ) (h : n < 2 ^ 31) : (BitVec.ofNat 32 n).toInt = n := by
  rw [BitVec.toInt_eq_toNat_cond, BitVec.toNat_ofNat, Nat.mod_eq_of_lt (by omega), if_pos (by omega)]

/-- Comparing small integers. -/
theorem sge_lit (a b : ℕ) (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle_eq_decide, toInt_lit a ha, toInt_lit b hb]
  by_cases e : b ≤ a
  · rw [if_pos e, decide_eq_true (by omega)]; rfl
  · rw [if_neg e, decide_eq_false (by omega)]; rfl

/-- A small integer as a number. -/
theorem int_lit (n : ℕ) (h : n < 2 ^ 31) : FloatOps.sitofp (F := Ideal) .f32 (BitVec.ofNat 32 n) = ((n : ℝ) : EReal) := by
  show (((BitVec.ofNat 32 n).toInt : ℝ) : EReal) = _
  rw [toInt_lit n h, Int.cast_natCast]

end Cert.Step
-- ==== Proof.MixerBlockA.lean ====
module

public import proofs.«01_k».proof.Proof.MixTiles
public import proofs.«01_k».proof.Proof.Gen.MixerKernelIdeal.Value
public import proofs.«01_k».proof.Proof.Tiles

/-! What the mixer's backward kernel computes for one tile of rows: the gated long convolution and its norm. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

/-- Row `r` of tile `T`. -/
def trow (T : Fin 8) (r : Fin 1024) : Fin 8192 := ⟨T.val * 1024 + r.val, by omega⟩

/-- Row `j` of the rows kept before tile `T`: for the first tile any rows, as they count for nothing there. -/
def hrow (T : Fin 8) (j : Fin 32) : Fin 8192 := ⟨(T.val * 32 - 1) * 32 + j.val, by omega⟩

/-- Whether there are rows before tile `T`. -/
def firstOf (T : Fin 8) : EReal := if T.val = 0 then 0 else 1

/-- The rows before a tile, dropped at the first tile, are the column before the tile. -/
theorem halo_at {T : Fin 8} (f : Fin 8192 → Fin 256 → ℝ) (j : Fin 32) (l : Fin 256) :
    ((f (hrow T j) l : ℝ) : EReal) * firstOf T = ((colAt f l ((T.val : ℤ) * 1024 - 32 + j.val) : ℝ) : EReal) := by
  unfold firstOf
  split
  · rw [mul_zero, colAt_out f l _ (by omega)]; rfl
  · rw [mul_one, colAt_in f l (hrow T j) _ (by unfold hrow; simp; omega)]

/-- A row of a tile, by its number. -/
theorem row_at {T : Fin 8} (f : Fin 8192 → Fin 256 → ℝ) (l : Fin 256) (r : Fin 1024) (i : ℤ) (e : i = (T.val : ℤ) * 1024 + r.val) :
    ((f (trow T r) l : ℝ) : EReal) = ((colAt f l i : ℝ) : EReal) := by
  rw [colAt_in f l (trow T r) i (by unfold trow; simp; omega)]

/-- Equal rows read equal values. -/
theorem col_eq (f : Fin 8192 → Fin 256 → ℝ) (l : Fin 256) {i j : ℤ} (e : i = j) :
    ((colAt f l i : ℝ) : EReal) = ((colAt f l j : ℝ) : EReal) := by rw [e]

/-- Adding equal values to equal values. -/
theorem add_step {a a' b b' : EReal} (e : a = a') (e' : b = b') : a + b = a' + b' := by rw [e, e']

/-- Thirty-one terms, one after the other. -/
theorem sum31 (F : Fin 31 → EReal) : ∑ k, F k = F 0 + F 1 + F 2 + F 3 + F 4 + F 5 + F 6 + F 7 + F 8 + F 9 + F 10 + F 11 + F 12 + F 13
    + F 14 + F 15 + F 16 + F 17 + F 18 + F 19 + F 20 + F 21 + F 22 + F 23 + F 24 + F 25 + F 26 + F 27 + F 28 + F 29 + F 30 := by
  simp only [Fin.sum_univ_castSucc, Fin.sum_univ_zero, zero_add]
  rfl

section
variable {d : Fin 8192 → Fin 1024 → ℝ} {wo : Fin 1024 → Fin 1024 → ℝ} {T : Fin 8}
variable {D WO : FVec Ideal S1024x1024 .f32} {WB : FVec Ideal S1024x1024 .bf16}
variable (ed : ∀ r k, D (ix2 r k) = (d (trow T r) k : EReal)) (eo : ∀ j k, WB (ix2 j k) = (wo j k : EReal))

include ed eo in
/-- The derivative by the mixed rows of the tile. -/
theorem dmix_tile (r j : Fin 1024) : k0_pay15 (F := Ideal) D WB (ix2 r j) = (dMix d wo (trow T r) j : EReal) := by
  pointwise [k0_pay15]
  simp only [ed, eo, ← EReal.coe_mul, sum_coe]
  rfl

include ed eo in
/-- Its four pieces. -/
theorem da_tile (r : Fin 1024) (l : Fin 256) : k0_pay16 (F := Ideal) D WB (ix2 r l) = (dMix d wo (trow T r) (mcol 0 l) : EReal) := by
  pointwise [k0_pay16]
  rw [dmix_tile ed eo]
  exact congrArg (fun z => ((dMix d wo (trow T r) z : ℝ) : EReal)) (Fin.ext (by simp [mcol]))

include ed eo in
/-- The second piece. -/
theorem db_tile (r : Fin 1024) (l : Fin 256) : k0_pay17 (F := Ideal) D WB (ix2 r l) = (dMix d wo (trow T r) (mcol 1 l) : EReal) := by
  pointwise [k0_pay17]
  rw [dmix_tile ed eo]
  rfl

include ed eo in
/-- The third piece. -/
theorem dc_tile (r : Fin 1024) (l : Fin 256) : k0_pay18 (F := Ideal) D WB (ix2 r l) = (dMix d wo (trow T r) (mcol 2 l) : EReal) := by
  pointwise [k0_pay18]
  rw [dmix_tile ed eo]
  rfl

include ed eo in
/-- The fourth piece. -/
theorem dd_tile (r : Fin 1024) (l : Fin 256) : k0_pay19 (F := Ideal) D WB (ix2 r l) = (dMix d wo (trow T r) (mcol 3 l) : EReal) := by
  pointwise [k0_pay19]
  rw [dmix_tile ed eo]
  rfl
end

section
variable {p : Fin 8192 → Fin 2048 → ℝ} {T : Fin 8}
variable {V0 V1 : FVec Ideal S1024x256 .f32} {H0 H1 : FVec Ideal S32x256 .f32}
variable (e0 : ∀ r l, V0 (ix2 r l) = (piece p 0 (trow T r) l : EReal)) (e1 : ∀ r l, V1 (ix2 r l) = (piece p 1 (trow T r) l : EReal))
variable (g0 : ∀ j l, H0 (ix2 j l) = (piece p 0 (hrow T j) l : EReal)) (g1 : ∀ j l, H1 (ix2 j l) = (piece p 1 (hrow T j) l : EReal))

include e1 in
/-- The gate of the tile. -/
theorem gate_tile (r : Fin 1024) (l : Fin 256) : k0_pay20 (F := Ideal) V1 (ix2 r l) = (sgm (piece p 1 (trow T r) l) : EReal) := by
  pointwise [k0_pay20]
  rw [e1]
  simp only [zero_sub, neg_real, exp_real, one_coe, ← EReal.coe_add, div_real _ (sgm_den _)]
  rfl

include e0 e1 in
/-- The gated values of the tile. -/
theorem y_tile (r : Fin 1024) (l : Fin 256) : k0_pay21 (F := Ideal) V0 V1 (ix2 r l) = (gated p (trow T r) l : EReal) := by
  pointwise [k0_pay21]
  rw [e0, gate_tile e1, ← EReal.coe_mul, gated]

include e0 e1 g0 g1 in
/-- The gated values with those of the rows before the tile. -/
theorem ext_tile (j : Fin 1056) (l : Fin 256) :
    k0_pay22 (F := Ideal) (firstOf T) (k0_pay21 V0 V1) H0 H1 (ix2 j l)
      = ((colAt (gated p) l ((T.val : ℤ) * 1024 - 32 + j.val) : ℝ) : EReal) := by
  pointwise [k0_pay22]
  split
  · rename_i hj
    rw [g0, g1]
    simp only [zero_sub, neg_real, exp_real, one_coe, ← EReal.coe_add, div_real _ (sgm_den _), ← EReal.coe_mul]
    exact halo_at (T := T) (gated p) ⟨j.val, hj⟩ l
  · rw [y_tile e0 e1]
    exact row_at (gated p) l _ _ (by simp; omega)

/-- The tile's eight copies of the gated values, copy `k` moved up by `k` rows. -/
def copies (V0 V1 : FVec Ideal S1024x256 .f32) (H0 H1 : FVec Ideal S32x256 .f32) (a : EReal) : Fin 8 → FVec Ideal S1x1056x256 .f32 :=
  ![k0_pay23 (F := Ideal) a (k0_pay21 V0 V1) H0 H1, k0_pay24 (F := Ideal) a (k0_pay21 V0 V1) H0 H1, k0_pay25 (F := Ideal) a (k0_pay21 V0 V1) H0 H1,
    k0_pay26 (F := Ideal) a (k0_pay21 V0 V1) H0 H1, k0_pay28 (k0_pay27 (F := Ideal) a (k0_pay21 V0 V1) H0 H1),
    k0_pay29 (k0_pay22 (F := Ideal) a (k0_pay21 V0 V1) H0 H1), k0_pay30 (k0_pay22 (F := Ideal) a (k0_pay21 V0 V1) H0 H1),
    k0_pay31 (k0_pay22 (F := Ideal) a (k0_pay21 V0 V1) H0 H1)]

include e0 e1 g0 g1 in
/-- A row of a copy. -/
theorem copies_tile (k : Fin 8) (j : Fin 1056) (l : Fin 256) (small : j.val + k.val < 1056) :
    copies V0 V1 H0 H1 (firstOf T) k (ix3 (0 : Fin 1) j l)
      = ((colAt (gated p) l ((T.val : ℤ) * 1024 - 32 + j.val + k.val) : ℝ) : EReal) := by
  fin_cases k
  all_goals
    simp only [copies]
    pointwise [k0_pay23, k0_pay24, k0_pay25, k0_pay26, k0_pay28, k0_pay27, k0_pay29, k0_pay30, k0_pay31]
    rw [ext_tile e0 e1 g0 g1]
    exact col_eq _ _ (by simp at small ⊢; try omega)
end

section
variable {p : Fin 8192 → Fin 2048 → ℝ} {cw : Fin 31 → Fin 256 → ℝ} {cb lg lb : Fin 256 → ℝ} {dmx : Fin 8192 → Fin 1024 → ℝ} {T : Fin 8}
variable {Z DA : FVec Ideal S1024x256 .f32} {G B G' : FVec Ideal S1x256 .f32}
variable (ez : ∀ r l, Z (ix2 r l) = (convZ p cw cb (trow T r) l : EReal))
variable (ea : ∀ r l, DA (ix2 r l) = (dmx (trow T r) (mcol 0 l) : EReal))
variable (eg : ∀ l, G (ix2 0 l) = (lg l : EReal)) (eb : ∀ l, B (ix2 0 l) = (lb l : EReal)) (eg' : ∀ l, G' (ix2 0 l) = (lg l : EReal))

include ez in
/-- The convolution less its mean. -/
theorem zc_tile (r : Fin 1024) (l : Fin 256) : k0_pay34 (F := Ideal) Z (ix2 r l) = (cen (convZ p cw cb (trow T r)) l : EReal) := by
  pointwise [k0_pay34]
  simp only [ez, lit_256, sum_coe, div_real _ (by norm_num : (256 : ℝ) ≠ 0), ← EReal.coe_sub]
  simp only [cen, mean, Nat.cast_ofNat]

include ez in
/-- Its variance with the epsilon. -/
theorem zvar_tile (r : Fin 1024) (q : Fin 1) : k0_pay35 (F := Ideal) Z (ix2 r q) = (meanEps (cen (convZ p cw cb (trow T r))) : EReal) := by
  pointwise [k0_pay35]
  simp only [zc_tile ez, lit_256, lit_eps, sum_coe, ← EReal.coe_mul, div_real _ (by norm_num : (256 : ℝ) ≠ 0), ← EReal.coe_add]
  simp only [meanEps, Nat.cast_ofNat]

include ez in
/-- The reciprocal root. -/
theorem zrs_tile (r : Fin 1024) (q : Fin 1) :
    k0_pay36 (F := Ideal) (k0_pay35 Z) (ix2 r q) = (invRms (cen (convZ p cw cb (trow T r))) : EReal) := by
  pointwise [k0_pay36]
  rw [zvar_tile ez, rsqrt_real (meanEps_pos _), invRms_eq]

include ez in
/-- The normed convolution. -/
theorem zn_tile (r : Fin 1024) (l : Fin 256) :
    k0_pay37 (F := Ideal) (k0_pay34 Z) (k0_pay35 Z) (ix2 r l) = (nrm (convZ p cw cb (trow T r)) l : EReal) := by
  pointwise [k0_pay37]
  rw [zc_tile ez, zrs_tile ez, ← EReal.coe_mul, nrm]

include ez ea eg eb in
/-- The derivative by the scaled norm. -/
theorem dln_tile (r : Fin 1024) (l : Fin 256) :
    k0_pay38 (F := Ideal) DA (k0_pay32 G) (k0_pay33 B) (k0_pay34 Z) (k0_pay35 Z) (ix2 r l) = (dLn p cw cb lg lb dmx (trow T r) l : EReal) := by
  pointwise [k0_pay38, k0_pay32, k0_pay33]
  simp only [zn_tile ez, ea, eg, eb, zero_sub, ← EReal.coe_mul, neg_real, ← EReal.coe_add, exp_real, one_coe, div_real _ (sgm_den _), ← EReal.coe_sub]
  rfl

include ez ea eg eb eg' in
/-- The derivative by the convolution. -/
theorem dz_tile (r : Fin 1024) (l : Fin 256) :
    k0_pay39 (F := Ideal) DA (k0_pay32 G) (k0_pay33 B) (k0_pay34 Z) (k0_pay35 Z) G' (ix2 r l) = (dZ p cw cb lg lb dmx (trow T r) l : EReal) := by
  pointwise [k0_pay39]
  simp only [dln_tile ez ea eg eb, zn_tile ez, zrs_tile ez, eg', lit_256, sum_coe, ← EReal.coe_mul, div_real _ (by norm_num : (256 : ℝ) ≠ 0), ← EReal.coe_sub]
  simp only [dZ, lnBack, Nat.cast_ofNat]

include ez ea eg eb in
/-- The tile's part of the derivative by the gains. -/
theorem dlg_tile (l : Fin 256) :
    k0_pay40 (F := Ideal) DA (k0_pay32 G) (k0_pay33 B) (k0_pay34 Z) (k0_pay35 Z) (ix2 (0 : Fin 1) l)
      = ((∑ r, dLn p cw cb lg lb dmx (trow T r) l * nrm (convZ p cw cb (trow T r)) l : ℝ) : EReal) := by
  pointwise [k0_pay40]
  simp only [dln_tile ez ea eg eb, zn_tile ez, ← EReal.coe_mul, sum_coe]

include ez ea eg eb in
/-- The tile's part of the derivative by the offsets. -/
theorem dlb_tile (l : Fin 256) :
    k0_pay41 (F := Ideal) DA (k0_pay32 G) (k0_pay33 B) (k0_pay34 Z) (k0_pay35 Z) (ix2 (0 : Fin 1) l)
      = ((∑ r, dLn p cw cb lg lb dmx (trow T r) l : ℝ) : EReal) := by
  pointwise [k0_pay41]
  simp only [dln_tile ez ea eg eb, sum_coe]
end

section
variable {f g : Fin 8192 → Fin 256 → ℝ} {T : Fin 8} {X : FVec Ideal S1024x256 .f32} {C : FVec Ideal S32x256 .f32}
variable (ex : ∀ r l, X (ix2 r l) = (f (trow T r) l : EReal))
variable (ec : ∀ j l, C (ix2 j l) = ((colAt f l ((T.val : ℤ) * 1024 + 1024 + j.val) : ℝ) : EReal))

include ex in
/-- A tile's sum of rows, added to what was there. -/
theorem rows_tile (O : FVec Ideal S1x256 .f32) (l : Fin 256) :
    k0_pay44 (F := Ideal) X O (ix2 (0 : Fin 1) l) = O (ix2 0 l) + ((∑ r, f (trow T r) l : ℝ) : EReal) := by
  pointwise [k0_pay44]
  simp only [ex, sum_coe]

include ex in
/-- A tile's part of one tap, added to what was there. -/
theorem tap_tile (O : FVec Ideal S1x256 .f32) (Y : FVec Ideal S1x1024x256 .f32) (k : ℕ)
    (ey : ∀ r l, Y (ix3 0 r l) = ((colAt g l ((T.val : ℤ) * 1024 + r.val + k - 30) : ℝ) : EReal)) (l : Fin 256) :
    k0_pay45 (F := Ideal) X O Y (ix2 (0 : Fin 1) l)
      = O (ix2 0 l) + ((∑ r, f (trow T r) l * colAt g l (((trow T r).val : ℤ) + k - 30) : ℝ) : EReal) := by
  pointwise [k0_pay45]
  simp only [ex, ey, ← EReal.coe_mul, sum_coe, trow, Nat.cast_add, Nat.cast_mul, Nat.cast_ofNat]

include ex ec in
/-- A tile with the rows carried from the next tile. -/
theorem lead_tile (j : Fin 1056) (l : Fin 256) :
    k0_pay85 (F := Ideal) X C (ix2 j l) = ((colAt f l ((T.val : ℤ) * 1024 + j.val) : ℝ) : EReal) := by
  pointwise [k0_pay85]
  split
  · rw [ex]; exact row_at f l _ _ rfl
  · rw [ec]; exact col_eq _ _ (by simp; omega)

include ex in
/-- The rows carried to the tile before. -/
theorem carry_tile (j : Fin 32) (l : Fin 256) :
    k0_pay86 (F := Ideal) X (ix2 j l) = ((colAt f l ((T.val : ℤ) * 1024 + j.val) : ℝ) : EReal) := by
  pointwise [k0_pay86]
  rw [ex]; exact row_at f l _ _ rfl
end

section
variable {f : Fin 8192 → Fin 256 → ℝ} {cw : Fin 31 → Fin 256 → ℝ} {T : Fin 8} {E : FVec Ideal S1056x256 .f32} {W : Fin 31 → FVec Ideal S1x256 .f32}
variable (ee : ∀ j l, E (ix2 j l) = ((colAt f l ((T.val : ℤ) * 1024 + j.val) : ℝ) : EReal)) (ew : ∀ k l, W k (ix2 0 l) = (cw k l : EReal))

include ee ew in
/-- One tap's term. -/
theorem term_tile (k : Fin 31) (j : Fin 1056) (r : Fin 1024) (l : Fin 256) (e : j.val + k.val = r.val + 30) :
    W k (ix2 0 l) * E (ix2 j l) = ((cw k l * colAt f l (((trow T r).val : ℤ) + 30 - k.val) : ℝ) : EReal) := by
  rw [ew, ee, EReal.coe_mul, col_eq f l (show (T.val : ℤ) * 1024 + j.val = ((trow T r).val : ℤ) + 30 - k.val by unfold trow; push_cast; omega)]

/-- The convolution's transpose as the kernel adds it up. -/
def dyOf (E : FVec Ideal S1056x256 .f32) (W : Fin 31 → FVec Ideal S1x256 .f32) : FVec Ideal S1024x256 .f32 :=
  k0_pay101 (F := Ideal) E (k0_pay92 E) (k0_pay93 E)
    (k0_pay100 E (k0_pay88 E) (k0_pay89 E) (k0_pay90 E) (k0_pay91 E) (k0_pay93 E) (k0_pay95 E)
      (k0_pay97 E (k0_pay88 E) (k0_pay89 E) (k0_pay90 E) (k0_pay91 E) (k0_pay93 E) (k0_pay95 E)
        (k0_pay96 E (k0_pay88 E) (k0_pay89 E) (k0_pay90 E) (k0_pay91 E) (k0_pay92 E)
          (k0_pay94 E k0_pay87 (W 0) (W 1) (W 2) (W 3) (W 4) (W 5)) (W 6) (W 7) (W 8) (W 9) (W 10) (W 11) (W 12))
        (W 13) (W 14) (W 15) (W 16) (W 17) (W 18) (W 19))
      (k0_pay98 (k0_pay92 E)) (k0_pay99 (W 20)) (W 21) (W 22) (W 23) (W 24) (W 25) (W 26) (W 27))
    (W 28) (W 29) (W 30)

include ee ew in
/-- It is the convolution's transpose. -/
theorem dy_tile (r : Fin 1024) (l : Fin 256) :
    dyOf E W (ix2 r l) = ((∑ k : Fin 31, cw k l * colAt f l (((trow T r).val : ℤ) + 30 - k.val) : ℝ) : EReal) := by
  unfold dyOf
  pointwise [k0_pay101, k0_pay100, k0_pay99, k0_pay98, k0_pay97, k0_pay96, k0_pay94, k0_pay87, k0_pay88, k0_pay89, k0_pay90, k0_pay91, k0_pay92, k0_pay93, k0_pay95]
  rw [← sum_coe, sum31]
  iterate 30 refine add_step ?_ (term_tile ee ew _ _ _ _ ?_)
  on_goal 1 => refine term_tile ee ew _ _ _ _ ?_
  all_goals simp
  all_goals omega
end

section
variable {p : Fin 8192 → Fin 2048 → ℝ} {f : Fin 8192 → Fin 256 → ℝ} {T : Fin 8} {Y S V : FVec Ideal S1024x256 .f32}
variable (ey : ∀ r l, Y (ix2 r l) = (f (trow T r) l : EReal)) (es : ∀ r l, S (ix2 r l) = (sgm (piece p 1 (trow T r) l) : EReal))
variable (e0 : ∀ r l, V (ix2 r l) = (piece p 0 (trow T r) l : EReal))

include ey es in
/-- The derivative by the values. -/
theorem dp0_tile {E A B : FVec Ideal S1056x256 .f32} {R : FVec Ideal S1024x256 .f32} {w w' w'' : FVec Ideal S1x256 .f32}
    (e : k0_pay101 (F := Ideal) E A B R w w' w'' = Y) (r : Fin 1024) (l : Fin 256) :
    k0_pay102 (F := Ideal) S E A B R w w' w'' (ix2 r l) = ((f (trow T r) l * sgm (piece p 1 (trow T r) l) : ℝ) : EReal) := by
  pointwise [k0_pay102]
  rw [e, ey, es, EReal.coe_mul]

include ey es e0 in
/-- The derivative by the gates. -/
theorem dp1_tile {E A B : FVec Ideal S1056x256 .f32} {R : FVec Ideal S1024x256 .f32} {w w' w'' : FVec Ideal S1x256 .f32}
    (e : k0_pay101 (F := Ideal) E A B R w w' w'' = Y) (r : Fin 1024) (l : Fin 256) :
    k0_pay103 (F := Ideal) V S E A B R w w' w'' (ix2 r l)
      = ((piece p 0 (trow T r) l * f (trow T r) l * (sgm (piece p 1 (trow T r) l) * (1 - sgm (piece p 1 (trow T r) l))) : ℝ) : EReal) := by
  pointwise [k0_pay103]
  rw [e, ey, es, e0]
  simp only [one_coe, ← EReal.coe_mul, ← EReal.coe_sub]
  exact congrArg (fun z : ℝ => (z : EReal)) (by ring)
end

end Cert.MixerKernelIdeal.Mix
-- ==== Proof.MixerPieces.lean ====
module

public import proofs.«01_k».proof.Proof.Gen.MixerReferenceIdeal.Read
public import proofs.«01_k».proof.Proof.MixTiles

/-! The pieces of the rows and of the derivative by the mixed rows, read at an index over the reals. -/

@[expose] public section

set_option maxRecDepth 16384
noncomputable section
open Idealize.ShloMosaic Idealize.ShloMosaic.TcCoe Idealize.SL.Sem
namespace Cert.MixerReferenceIdeal.Mix
open Cert.MixerReferenceIdeal Cert.MixerReferenceIdeal.Gen Cert.MixerReferenceIdeal.Read Cert.Step

variable {d : Fin 8192 → Fin 1024 → ℝ} {wo : Fin 1024 → Fin 1024 → ℝ} {p : Fin 8192 → Fin 2048 → ℝ}
variable {D : FVec Ideal S8192x1024 .f32} {WO : FVec Ideal S1024x1024 .f32} {P : FVec Ideal S8192x2048 .f32}
variable (hd : ∀ r k, D (ix2 r k) = (d r k : EReal)) (ho : ∀ j k, WO (ix2 j k) = (wo j k : EReal))
variable (hp : ∀ r f, P (ix2 r f) = (p r f : EReal))

include hd ho in
/-- The derivative by the mixed rows. -/
theorem dmix_at (r : Fin 8192) (j : Fin 1024) : val_main_v242 (F := Ideal) D WO (ix2 r j) = (dMix d wo r j : EReal) := by
  pointwise [val_main_v242]
  simp only [hd, ho, ← EReal.coe_mul, sum_coe]
  rfl

include hd ho in
/-- The part of it for the long convolution. -/
theorem da_at (r : Fin 8192) (l : Fin 256) : val_main_v243 (F := Ideal) D WO (ix2 r l) = (dMix d wo r (mcol 0 l) : EReal) := by
  pointwise [val_main_v243]
  exact (congrArg (fun c : Fin 1024 => val_main_v242 (F := Ideal) D WO (ix2 r c)) (Fin.ext (by simp [mcol]))).trans (dmix_at hd ho r (mcol 0 l))

include hd ho in
/-- The part of it for the short convolution. -/
theorem db_at (r : Fin 8192) (l : Fin 256) : val_main_v244 (F := Ideal) D WO (ix2 r l) = (dMix d wo r (mcol 1 l) : EReal) := by
  pointwise [val_main_v244]
  exact (congrArg (fun c : Fin 1024 => val_main_v242 (F := Ideal) D WO (ix2 r c)) (Fin.ext (by simp [mcol]))).trans (dmix_at hd ho r (mcol 1 l))

include hd ho in
/-- The part of it for the pooling. -/
theorem dc_at (r : Fin 8192) (l : Fin 256) : val_main_v245 (F := Ideal) D WO (ix2 r l) = (dMix d wo r (mcol 2 l) : EReal) := by
  pointwise [val_main_v245]
  exact (congrArg (fun c : Fin 1024 => val_main_v242 (F := Ideal) D WO (ix2 r c)) (Fin.ext (by simp [mcol]))).trans (dmix_at hd ho r (mcol 2 l))

include hd ho in
/-- The part of it for the spatial gate. -/
theorem dd_at (r : Fin 8192) (l : Fin 256) : val_main_v246 (F := Ideal) D WO (ix2 r l) = (dMix d wo r (mcol 3 l) : EReal) := by
  pointwise [val_main_v246]
  exact (congrArg (fun c : Fin 1024 => val_main_v242 (F := Ideal) D WO (ix2 r c)) (Fin.ext (by simp [mcol]))).trans (dmix_at hd ho r (mcol 3 l))

include hp in
/-- Piece 0 of the rows. -/
theorem piece0_at (r : Fin 8192) (l : Fin 256) : val_main_v9 (F := Ideal) P (ix2 r l) = (piece p 0 r l : EReal) := by
  pointwise [val_main_v9]
  exact (hp _ _).trans (congrArg (fun c : Fin 2048 => ((p r c : ℝ) : EReal)) (Fin.ext (by simp [pcol])))

include hp in
/-- Piece 1 of the rows. -/
theorem piece1_at (r : Fin 8192) (l : Fin 256) : val_main_v10 (F := Ideal) P (ix2 r l) = (piece p 1 r l : EReal) := by
  pointwise [val_main_v10]
  exact (hp _ _).trans (congrArg (fun c : Fin 2048 => ((p r c : ℝ) : EReal)) (Fin.ext (by simp [pcol])))

include hp in
/-- Piece 2 of the rows. -/
theorem piece2_at (r : Fin 8192) (l : Fin 256) : val_main_v11 (F := Ideal) P (ix2 r l) = (piece p 2 r l : EReal) := by
  pointwise [val_main_v11]
  exact (hp _ _).trans (congrArg (fun c : Fin 2048 => ((p r c : ℝ) : EReal)) (Fin.ext (by simp [pcol])))

include hp in
/-- Piece 3 of the rows. -/
theorem piece3_at (r : Fin 8192) (l : Fin 256) : val_main_v12 (F := Ideal) P (ix2 r l) = (piece p 3 r l : EReal) := by
  pointwise [val_main_v12]
  exact (hp _ _).trans (congrArg (fun c : Fin 2048 => ((p r c : ℝ) : EReal)) (Fin.ext (by simp [pcol])))

include hp in
/-- Piece 4 of the rows. -/
theorem piece4_at (r : Fin 8192) (l : Fin 256) : val_main_v13 (F := Ideal) P (ix2 r l) = (piece p 4 r l : EReal) := by
  pointwise [val_main_v13]
  exact (hp _ _).trans (congrArg (fun c : Fin 2048 => ((p r c : ℝ) : EReal)) (Fin.ext (by simp [pcol])))

include hp in
/-- Piece 5 of the rows. -/
theorem piece5_at (r : Fin 8192) (l : Fin 256) : val_main_v14 (F := Ideal) P (ix2 r l) = (piece p 5 r l : EReal) := by
  pointwise [val_main_v14]
  exact (hp _ _).trans (congrArg (fun c : Fin 2048 => ((p r c : ℝ) : EReal)) (Fin.ext (by simp [pcol])))

include hp in
/-- Piece 6 of the rows. -/
theorem piece6_at (r : Fin 8192) (l : Fin 256) : val_main_v15 (F := Ideal) P (ix2 r l) = (piece p 6 r l : EReal) := by
  pointwise [val_main_v15]
  exact (hp _ _).trans (congrArg (fun c : Fin 2048 => ((p r c : ℝ) : EReal)) (Fin.ext (by simp [pcol])))

include hp in
/-- Piece 7 of the rows. -/
theorem piece7_at (r : Fin 8192) (l : Fin 256) : val_main_v16 (F := Ideal) P (ix2 r l) = (piece p 7 r l : EReal) := by
  pointwise [val_main_v16]
  exact (hp _ _).trans (congrArg (fun c : Fin 2048 => ((p r c : ℝ) : EReal)) (Fin.ext (by simp [pcol])))

end Cert.MixerReferenceIdeal.Mix
-- ==== Proof.MixerPureA.lean ====
module

public import proofs.«01_k».proof.Proof.MixerPieces

/-! The derivative of the mixer's long convolution and its norm, read at an index over the reals. -/

@[expose] public section

set_option maxRecDepth 16384
noncomputable section
open Idealize.ShloMosaic Idealize.ShloMosaic.TcCoe Idealize.SL.Sem
namespace Cert.MixerReferenceIdeal.Mix
open Cert.MixerReferenceIdeal Cert.MixerReferenceIdeal.Gen Cert.MixerReferenceIdeal.Read Cert.Step

variable {d : Fin 8192 → Fin 1024 → ℝ} {wo : Fin 1024 → Fin 1024 → ℝ} {p : Fin 8192 → Fin 2048 → ℝ}
variable {cw : Fin 31 → Fin 256 → ℝ} {cb lg lb : Fin 256 → ℝ}
variable {D : FVec Ideal S8192x1024 .f32} {WO : FVec Ideal S1024x1024 .f32} {P : FVec Ideal S8192x2048 .f32}
variable {CW : FVec Ideal S31x256 .f32} {CB LG LB : FVec Ideal S256 .f32}
variable (hd : ∀ r k, D (ix2 r k) = (d r k : EReal)) (ho : ∀ j k, WO (ix2 j k) = (wo j k : EReal))
variable (hp : ∀ r f, P (ix2 r f) = (p r f : EReal)) (hcw : ∀ k l, CW (ix2 k l) = (cw k l : EReal))
variable (hcb : ∀ l, CB (ix1 l) = (cb l : EReal)) (hlg : ∀ l, LG (ix1 l) = (lg l : EReal)) (hlb : ∀ l, LB (ix1 l) = (lb l : EReal))

include hp in
/-- The gate. -/
theorem gate_at (r : Fin 8192) (l : Fin 256) : val_main_v22 (F := Ideal) P (ix2 r l) = (sgm (piece p 1 r l) : EReal) := by
  pointwise [val_main_v22, val_main_v21, val_main_v20, val_main_v19, val_main_v18, val_main_v17, val_main_v10, val_main_cst_0, val_main_cst_1]
  rw [show P (ix2 r ⟨256 + l.val, by omega⟩) = (piece p 1 r l : EReal) from (hp _ _).trans (congrArg (fun c : Fin 2048 => ((p r c : ℝ) : EReal)) (Fin.ext (by simp [pcol])))]
  simp only [neg_real, exp_real, one_coe, ← EReal.coe_add, div_real _ (sgm_den _)]
  rfl

include hp in
/-- The gated values. -/
theorem y_at (r : Fin 8192) (l : Fin 256) : val_main_v26 (F := Ideal) P (ix2 r l) = (gated p r l : EReal) := by
  pointwise [val_main_v26]
  rw [piece0_at hp, gate_at hp, ← EReal.coe_mul, gated]

include hp in
/-- The gated values after thirty rows of zeros. -/
theorem ypad_at (i : Fin 8222) (l : Fin 256) : val_main_v28 (F := Ideal) P (ix2 i l) = (colAt (gated p) l ((i.val : ℤ) - 30) : EReal) := by
  pointwise [val_main_v28, val_main_v27, val_main_cst_3]
  split
  · rw [colAt_out _ _ _ (by omega)]; rfl
  · rw [y_at hp, colAt_in _ _ ⟨i.val - 30, by omega⟩ _ (by simp; omega)]

/-- The shifted copies one by one. -/
def copies (P : FVec Ideal S8192x2048 .f32) (k : Fin 31) : FVec Ideal S1x8192x256 .f32 :=
  (![val_main_v62 (F := Ideal) P, val_main_v63 (F := Ideal) P, val_main_v64 (F := Ideal) P, val_main_v65 (F := Ideal) P, val_main_v66 (F := Ideal) P, val_main_v67 (F := Ideal) P, val_main_v68 (F := Ideal) P, val_main_v69 (F := Ideal) P, val_main_v70 (F := Ideal) P, val_main_v71 (F := Ideal) P, val_main_v72 (F := Ideal) P, val_main_v73 (F := Ideal) P, val_main_v74 (F := Ideal) P, val_main_v75 (F := Ideal) P, val_main_v76 (F := Ideal) P, val_main_v77 (F := Ideal) P, val_main_v78 (F := Ideal) P, val_main_v79 (F := Ideal) P, val_main_v80 (F := Ideal) P, val_main_v81 (F := Ideal) P, val_main_v82 (F := Ideal) P, val_main_v83 (F := Ideal) P, val_main_v84 (F := Ideal) P, val_main_v85 (F := Ideal) P, val_main_v86 (F := Ideal) P, val_main_v87 (F := Ideal) P, val_main_v88 (F := Ideal) P, val_main_v89 (F := Ideal) P, val_main_v90 (F := Ideal) P, val_main_v91 (F := Ideal) P, val_main_v92 (F := Ideal) P] : Fin 31 → FVec Ideal S1x8192x256 .f32) k

/-- A shifted copy reads the padded values further down. -/
theorem copies_at (k : Fin 31) (r : Fin 8192) (l : Fin 256) :
    copies P k (ix3 0 r l) = val_main_v28 (F := Ideal) P (ix2 ⟨k.val + r.val, by omega⟩ l) := by
  fin_cases k <;> (simp only [copies]; pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92])

/-- The stack of the shifted copies is made of them. -/
theorem stack_eq (k : Fin 31) (r : Fin 8192) (l : Fin 256) : val_main_v95 (F := Ideal) P (ix3 k r l) = copies P k (ix3 0 r l) := by
  have e93 : val_main_v93 (F := Ideal) P = concatenate S16x8192x256 0 (List.ofFn fun n : Fin 16 => (⟨S1x8192x256, copies P ⟨n.val, by omega⟩⟩ : (s : Shape) × (s.Idx → EReal))) concatenates_S1x8192x256_S1x8192x256_S1x8192x256_S1x8192x256_S1x8192x256_S1x8192x256_S1x8192x256_S1x8192x256_S1x8192x256_S1x8192x256_S1x8192x256_S1x8192x256_S1x8192x256_S1x8192x256_S1x8192x256_S1x8192x256_S16x8192x256_d0 := rfl
  have e94 : val_main_v94 (F := Ideal) P = concatenate S15x8192x256 0 (List.ofFn fun n : Fin 15 => (⟨S1x8192x256, copies P ⟨n.val + 16, by omega⟩⟩ : (s : Shape) × (s.Idx → EReal))) concatenates_S1x8192x256_S1x8192x256_S1x8192x256_S1x8192x256_S1x8192x256_S1x8192x256_S1x8192x256_S1x8192x256_S1x8192x256_S1x8192x256_S1x8192x256_S1x8192x256_S1x8192x256_S1x8192x256_S1x8192x256_S15x8192x256_d0 := rfl
  pointwise [val_main_v95]
  split
  · rw [e93]
    pointwise
  · rw [e94]
    pointwise
    exact congrArg (fun c : Fin 31 => copies P c (ix3 0 r l)) (Fin.ext (by simp; omega))

include hp in
/-- The stack of shifted copies. -/
theorem stack_at (k : Fin 31) (r : Fin 8192) (l : Fin 256) :
    val_main_v95 (F := Ideal) P (ix3 k r l) = (colAt (gated p) l ((r.val : ℤ) + k.val - 30) : EReal) := by
  rw [stack_eq, copies_at, ypad_at hp]
  exact congrArg (fun i : ℤ => ((colAt (gated p) l i : ℝ) : EReal)) (by push_cast; ring)

include hp hcw hcb in
/-- The long convolution. -/
theorem z_at (r : Fin 8192) (l : Fin 256) : val_main_v101 (F := Ideal) P CW CB (ix2 r l) = (convZ p cw cb r l : EReal) := by
  pointwise [val_main_v101, val_main_v100, val_main_v99, val_main_v98, val_main_v97, val_main_v96, val_main_v30, val_main_cst_5]
  simp only [stack_at hp, hcw, hcb, ← EReal.coe_mul, sum_coe, ← EReal.coe_add]
  rfl

include hp hcw hcb in
/-- The convolution less its mean. -/
theorem zc_at (r : Fin 8192) (l : Fin 256) : val_main_v107 (F := Ideal) P CW CB (ix2 r l) = (cen (convZ p cw cb r) l : EReal) := by
  pointwise [val_main_v107, val_main_v106, val_main_v105, val_main_v104, val_main_v103, val_main_v102, val_main_cst_6, val_main_cst_7]
  simp only [z_at hp hcw hcb, lit_256, sum_coe, div_real _ (by norm_num : (256 : ℝ) ≠ 0), ← EReal.coe_sub]
  simp only [cen, mean, Nat.cast_ofNat]

include hp hcw hcb in
/-- Its variance, with the epsilon. -/
theorem zvar_at (r : Fin 8192) (q : Fin 1) : val_main_v114 (F := Ideal) P CW CB (ix2 r q) = (meanEps (cen (convZ p cw cb r)) : EReal) := by
  pointwise [val_main_v114, val_main_v113, val_main_v112, val_main_v111, val_main_v110, val_main_v109, val_main_v108, val_main_cst_8, val_main_cst_9, val_main_cst_10]
  simp only [zc_at hp hcw hcb, lit_256, lit_eps, sum_coe, ← EReal.coe_mul, div_real _ (by norm_num : (256 : ℝ) ≠ 0), ← EReal.coe_add]
  simp only [meanEps, Nat.cast_ofNat]

include hp hcw hcb in
/-- The normed convolution. -/
theorem zn_at (r : Fin 8192) (l : Fin 256) : val_main_v120 (F := Ideal) P CW CB (ix2 r l) = (nrm (convZ p cw cb r) l : EReal) := by
  pointwise [val_main_v120, val_main_v119, val_main_v115]
  rw [zvar_at hp hcw hcb, zc_at hp hcw hcb, rsqrt_real (meanEps_pos _), invRms_eq, ← EReal.coe_mul, nrm]

include hp hcw hcb hlg hlb in
/-- The normed, scaled convolution. -/
theorem ln_at (r : Fin 8192) (l : Fin 256) : val_main_v126 (F := Ideal) P CW CB LG LB (ix2 r l) = (convLn p cw cb lg lb r l : EReal) := by
  pointwise [val_main_v126, val_main_v125, val_main_v124, val_main_v123, val_main_v122, val_main_v121]
  rw [zn_at hp hcw hcb, hlg, hlb, ← EReal.coe_mul, ← EReal.coe_add, convLn]

include hp hcw hcb hlg hlb in
/-- Its gate. -/
theorem sg_at (r : Fin 8192) (l : Fin 256) : val_main_v127_2 (F := Ideal) P CW CB LG LB (ix2 r l) = (sgm (convLn p cw cb lg lb r l) : EReal) := by
  pointwise [val_main_v127_2, val_main_call1_v4, val_main_call1_v3, val_main_call1_v2, val_main_call1_v1, val_main_call1_v0, val_main_call1_cst, val_main_call1_cst_0]
  rw [ln_at hp hcw hcb hlg hlb]
  simp only [neg_real, exp_real, one_coe, ← EReal.coe_add, div_real _ (sgm_den _)]
  rfl

include hd ho hp hcw hcb hlg hlb in
/-- The derivative by the normed, scaled convolution. -/
theorem dln_at (r : Fin 8192) (l : Fin 256) :
    val_main_v376 (F := Ideal) D P CW CB LG LB WO (ix2 r l) = (dLn p cw cb lg lb (dMix d wo) r l : EReal) := by
  pointwise [val_main_v376, val_main_call7_v0, val_main_call7_v1, val_main_call7_v2, val_main_v127_1, val_main_call1_v7, val_main_call1_v6, val_main_call1_cst_1]
  simp only [ln_at hp hcw hcb hlg hlb, sg_at hp hcw hcb hlg hlb, da_at hd ho, one_coe, ← EReal.coe_mul, ← EReal.coe_sub, ← EReal.coe_add]
  refine congrArg (fun z : ℝ => (z : EReal)) ?_
  rw [dLn]
  ring

include hd ho hp hcw hcb hlg hlb in
/-- The derivative by the norm's offsets. -/
theorem dlb_at (l : Fin 256) :
    val_main_v379 (F := Ideal) D P CW CB LG LB WO (ix1 l) = ((∑ r, dLn p cw cb lg lb (dMix d wo) r l : ℝ) : EReal) := by
  pointwise [val_main_v379, val_main_v378, val_main_v377, val_main_cst_67, val_main_cst_68]
  simp only [dln_at hd ho hp hcw hcb hlg hlb, sum_coe, Fin.sum_univ_one]

include hd ho hp hcw hcb hlg hlb in
/-- The derivative by the norm's gains. -/
theorem dlg_at (l : Fin 256) :
    val_main_v385 (F := Ideal) D P CW CB LG LB WO (ix1 l)
      = ((∑ r, dLn p cw cb lg lb (dMix d wo) r l * nrm (convZ p cw cb r) l : ℝ) : EReal) := by
  pointwise [val_main_v385, val_main_v382, val_main_v381, val_main_v380, val_main_cst_69, val_main_cst_70]
  simp only [dln_at hd ho hp hcw hcb hlg hlb, zn_at hp hcw hcb, ← EReal.coe_mul, sum_coe, Fin.sum_univ_one]
  exact congrArg (fun z : ℝ => (z : EReal)) (Finset.sum_congr rfl fun r _ => mul_comm _ _)

include hd ho hp hcw hcb hlg hlb in
/-- The derivative by the convolution, at the centred entries. -/
theorem dzc_at (r : Fin 8192) (l : Fin 256) :
    val_main_v399 (F := Ideal) D P CW CB LG LB WO (ix2 r l)
      = (viaCen (convZ p cw cb r) (fun k => dLn p cw cb lg lb (dMix d wo) r k * lg k) l : EReal) := by
  pointwise [val_main_v399, val_main_v398, val_main_v397, val_main_v396, val_main_v395, val_main_v394, val_main_v393, val_main_v392, val_main_v391, val_main_v390, val_main_v389, val_main_v388, val_main_v387, val_main_v386, val_main_v384, val_main_v383, val_main_v118, val_main_v117, val_main_v116, val_main_v115, val_main_v121, val_main_cst_11, val_main_cst_71, val_main_cst_72, val_main_cst_73]
  simp only [dln_at hd ho hp hcw hcb hlg hlb, zc_at hp hcw hcb, zvar_at hp hcw hcb, hlg, lit_256, lit_neg_half, rsqrt_real (meanEps_pos _),
    div_real _ (meanEps_pos _).ne', ← EReal.coe_mul, sum_coe, Fin.sum_univ_one, div_real _ (by norm_num : (256 : ℝ) ≠ 0), ← EReal.coe_add, invRms_eq]
  simp only [viaCen, viaVar, Nat.cast_ofNat]

include hd ho hp hcw hcb hlg hlb in
/-- The derivative by the convolution. -/
theorem dz_at (r : Fin 8192) (l : Fin 256) :
    val_main_v407 (F := Ideal) D P CW CB LG LB WO (ix2 r l) = (dZ p cw cb lg lb (dMix d wo) r l : EReal) := by
  rw [dZ, ln_grad (by norm_num)]
  pointwise [val_main_v407, val_main_v406, val_main_v405, val_main_v404, val_main_v403, val_main_v402, val_main_v401, val_main_v400, val_main_cst_74, val_main_cst_75, val_main_cst_76]
  simp only [dzc_at hd ho hp hcw hcb hlg hlb, lit_256, neg_real, sum_coe, Fin.sum_univ_one, div_real _ (by norm_num : (256 : ℝ) ≠ 0), ← EReal.coe_add,
    Nat.cast_ofNat]

include hd ho hp hcw hcb hlg hlb in
/-- The derivative by the convolution's offsets. -/
theorem dcb_at (l : Fin 256) :
    val_main_v410 (F := Ideal) D P CW CB LG LB WO (ix1 l) = ((∑ r, dZ p cw cb lg lb (dMix d wo) r l : ℝ) : EReal) := by
  pointwise [val_main_v410, val_main_v409, val_main_v408, val_main_cst_77, val_main_cst_78]
  simp only [dz_at hd ho hp hcw hcb hlg hlb, sum_coe, Fin.sum_univ_one]

include hd ho hp hcw hcb hlg hlb in
/-- The derivative by the convolution's taps. -/
theorem dcw_at (k : Fin 31) (l : Fin 256) :
    val_main_v540 (F := Ideal) D P CW CB LG LB WO (ix2 k l) = (dTap p cw cb lg lb (dMix d wo) k l : EReal) := by
  pointwise [val_main_v540, val_main_v416, val_main_v415, val_main_v414, val_main_v411, val_main_cst_79, val_main_cst_111]
  simp only [dz_at hd ho hp hcw hcb hlg hlb, stack_at hp, ← EReal.coe_mul, sum_coe, Fin.sum_univ_one]
  rfl

include hd ho hp hcw hcb hlg hlb in
/-- A tap times the derivative by the convolution. -/
theorem tapDz_at (k : Fin 31) (r : Fin 8192) (l : Fin 256) :
    val_main_v413 (F := Ideal) D P CW CB LG LB WO (ix3 k r l) = ((cw k l * dZ p cw cb lg lb (dMix d wo) r l : ℝ) : EReal) := by
  pointwise [val_main_v413, val_main_v412, val_main_v411, val_main_v30]
  rw [dz_at hd ho hp hcw hcb hlg hlb, hcw, ← EReal.coe_mul]

/-- The sum of thirty-one terms, the last first. -/
theorem sum_taps (F : Fin 31 → ℝ) : ∑ k, F k = F 30 + F 29 + F 28 + F 27 + F 26 + F 25 + F 24 + F 23 + F 22 + F 21 + F 20 + F 19 + F 18 + F 17 + F 16 + F 15 + F 14 + F 13 + F 12 + F 11 + F 10 + F 9 + F 8 + F 7 + F 6 + F 5 + F 4 + F 3 + F 2 + F 1 + F 0 := by
  have e : ∑ k, F k = F 0 + F 1 + F 2 + F 3 + F 4 + F 5 + F 6 + F 7 + F 8 + F 9 + F 10 + F 11 + F 12 + F 13 + F 14 + F 15 + F 16 + F 17 + F 18 + F 19 + F 20 + F 21 + F 22 + F 23 + F 24 + F 25 + F 26 + F 27 + F 28 + F 29 + F 30 := by
    simp only [Fin.sum_univ_castSucc, Fin.sum_univ_zero, zero_add]; rfl
  rw [e]; ring

set_option maxHeartbeats 2000000 in
include hd ho hp hcw hcb hlg hlb in
/-- The derivative by the gated values. -/
theorem dy_at (r : Fin 8192) (l : Fin 256) :
    val_main_v542 (F := Ideal) D P CW CB LG LB WO (ix2 r l) = (dGated p cw cb lg lb (dMix d wo) r l : EReal) := by
  have z : ∀ i, constant (F := Ideal) S_ .f32 0x00000000#32 i = 0 := fun i => by pointwise
  pointwise [val_main_v542, val_main_v539, val_main_v537, val_main_v535, val_main_v533, val_main_v531, val_main_v529, val_main_v527, val_main_v525, val_main_v523, val_main_v521, val_main_v519, val_main_v517, val_main_v515, val_main_v513, val_main_v511, val_main_v509, val_main_v507, val_main_v505, val_main_v503, val_main_v501, val_main_v499, val_main_v497, val_main_v495, val_main_v493, val_main_v491, val_main_v489, val_main_v487, val_main_v485, val_main_v483, val_main_v481]
  simp only [val_main_v479, val_main_v480, val_main_v482, val_main_v484, val_main_v486, val_main_v488, val_main_v490, val_main_v492, val_main_v494, val_main_v496, val_main_v498, val_main_v500, val_main_v502, val_main_v504, val_main_v506, val_main_v508, val_main_v510, val_main_v512, val_main_v514, val_main_v516, val_main_v518, val_main_v520, val_main_v522, val_main_v524, val_main_v526, val_main_v528, val_main_v530, val_main_v532, val_main_v534, val_main_v536, val_main_v538, val_main_cst_80, val_main_cst_81, val_main_cst_82, val_main_cst_83, val_main_cst_84, val_main_cst_85, val_main_cst_86, val_main_cst_87, val_main_cst_88, val_main_cst_89, val_main_cst_90, val_main_cst_91, val_main_cst_92, val_main_cst_93, val_main_cst_94, val_main_cst_95, val_main_cst_96, val_main_cst_97, val_main_cst_98, val_main_cst_99, val_main_cst_100, val_main_cst_101, val_main_cst_102, val_main_cst_103, val_main_cst_104, val_main_cst_105, val_main_cst_106, val_main_cst_107, val_main_cst_108, val_main_cst_109, val_main_cst_110, pad_rows _ _ _ _ z]
  simp only [val_main_v418, val_main_v420, val_main_v422, val_main_v424, val_main_v426, val_main_v428, val_main_v430, val_main_v432, val_main_v434, val_main_v436, val_main_v438, val_main_v440, val_main_v442, val_main_v444, val_main_v446, val_main_v448, val_main_v450, val_main_v452, val_main_v454, val_main_v456, val_main_v458, val_main_v460, val_main_v462, val_main_v464, val_main_v466, val_main_v468, val_main_v470, val_main_v472, val_main_v474, val_main_v476, val_main_v478, val_main_v417, val_main_v419, val_main_v421, val_main_v423, val_main_v425, val_main_v427, val_main_v429, val_main_v431, val_main_v433, val_main_v435, val_main_v437, val_main_v439, val_main_v441, val_main_v443, val_main_v445, val_main_v447, val_main_v449, val_main_v451, val_main_v453, val_main_v455, val_main_v457, val_main_v459, val_main_v461, val_main_v463, val_main_v465, val_main_v467, val_main_v469, val_main_v471, val_main_v473, val_main_v475, val_main_v477]
  pointwise
  simp only [tapDz_at hd ho hp hcw hcb hlg hlb, colAt_mul, ← EReal.coe_add]
  refine congrArg (fun z : ℝ => (z : EReal)) ?_
  refine Eq.trans ?_ (Finset.sum_congr rfl fun k _ => congrArg (fun i : ℤ => cw k l * colAt (dZ p cw cb lg lb (dMix d wo)) l i)
    (show ((30 + r.val : ℕ) : ℤ) - (k.val : ℤ) = (r.val : ℤ) + 30 - k.val by push_cast; ring))
  exact (sum_taps fun k : Fin 31 => cw k l * colAt (dZ p cw cb lg lb (dMix d wo)) l (((30 + r.val : ℕ) : ℤ) - (k.val : ℤ))).symm

include hd ho hp hcw hcb hlg hlb in
/-- The derivative by the first piece. -/
theorem dp0_at (r : Fin 8192) (l : Fin 256) :
    val_main_v544 (F := Ideal) D P CW CB LG LB WO (ix2 r l) = ((dGated p cw cb lg lb (dMix d wo) r l * sgm (piece p 1 r l) : ℝ) : EReal) := by
  pointwise [val_main_v544]
  rw [dy_at hd ho hp hcw hcb hlg hlb, gate_at hp, ← EReal.coe_mul]

include hd ho hp hcw hcb hlg hlb in
/-- The derivative by the gate's piece. -/
theorem dp1_at (r : Fin 8192) (l : Fin 256) :
    val_main_v545 (F := Ideal) D P CW CB LG LB WO (ix2 r l)
      = ((piece p 0 r l * dGated p cw cb lg lb (dMix d wo) r l * (sgm (piece p 1 r l) * (1 - sgm (piece p 1 r l))) : ℝ) : EReal) := by
  pointwise [val_main_v545, val_main_v543, val_main_v25, val_main_v24, val_main_v23, val_main_cst_2]
  simp only [dy_at hd ho hp hcw hcb hlg hlb, gate_at hp, piece0_at hp, one_coe, ← EReal.coe_sub, ← EReal.coe_mul]

end Cert.MixerReferenceIdeal.Mix
-- ==== Proof.MixerPureB.lean ====
module

public import proofs.«01_k».proof.Proof.MixerPieces

/-! The derivatives of the short convolution and of the pooling, read at an index. -/

@[expose] public section

set_option maxRecDepth 16384
noncomputable section
open Idealize.ShloMosaic Idealize.ShloMosaic.TcCoe Idealize.SL.Sem
namespace Cert.MixerReferenceIdeal.Mix
open Cert.MixerReferenceIdeal Cert.MixerReferenceIdeal.Gen Cert.MixerReferenceIdeal.Read Cert.Step

variable {d : Fin 8192 → Fin 1024 → ℝ} {wo : Fin 1024 → Fin 1024 → ℝ} {p : Fin 8192 → Fin 2048 → ℝ}
variable {D : FVec Ideal S8192x1024 .f32} {WO : FVec Ideal S1024x1024 .f32} {P : FVec Ideal S8192x2048 .f32}
variable (hd : ∀ r k, D (ix2 r k) = (d r k : EReal)) (ho : ∀ j k, WO (ix2 j k) = (wo j k : EReal))
variable (hp : ∀ r f, P (ix2 r f) = (p r f : EReal))
variable {pb : Fin 256 → Fin 256 → ℝ} {ps : Fin 256 → ℝ} {PW : FVec Ideal S4x64x64 .f32} {PS : FVec Ideal S256 .f32} {SW : FVec Ideal S3x256 .f32}
variable (hpb : ∀ k l, val_main_v8 (F := Ideal) PW (ix2 k l) = (pb k l : EReal)) (hps : ∀ l, PS (ix1 l) = (ps l : EReal))

include hp in
/-- The products the short convolution runs over. -/
theorem q_at (r : Fin 8192) (l : Fin 256) : val_main_v128 (F := Ideal) P (ix2 r l) = (prodSx p r l : EReal) := by
  pointwise [val_main_v128]
  rw [piece3_at hp, piece4_at hp, ← EReal.coe_mul, prodSx]

include hp in
/-- The products after two rows of zeros. -/
theorem qpad_at (i : Fin 8194) (l : Fin 256) : val_main_v130 (F := Ideal) P (ix2 i l) = (colAt (prodSx p) l ((i.val : ℤ) - 2) : EReal) := by
  pointwise [val_main_v130, val_main_v129, val_main_cst_12]
  split
  · rw [colAt_out _ _ _ (by omega)]; rfl
  · rw [q_at hp, colAt_in _ _ ⟨i.val - 2, by omega⟩ _ (by simp; omega)]

include hp in
/-- The stack of the three shifted copies. -/
theorem three_at (k : Fin 3) (r : Fin 8192) (l : Fin 256) :
    val_main_v139 (F := Ideal) P (ix3 k r l) = (colAt (prodSx p) l ((r.val : ℤ) + k.val - 2) : EReal) := by
  have e : val_main_v139 (F := Ideal) P (ix3 k r l) = val_main_v130 (F := Ideal) P (ix2 ⟨k.val + r.val, by omega⟩ l) := by
    fin_cases k <;> pointwise [val_main_v133, val_main_v134, val_main_v135, val_main_v136, val_main_v137, val_main_v138, val_main_v139]
  rw [e, qpad_at hp]
  exact congrArg (fun i : ℤ => ((colAt (prodSx p) l i : ℝ) : EReal)) (by push_cast; ring)

include hp in
/-- The short convolution. -/
theorem short_at (r : Fin 8192) (l : Fin 256) : val_main_v142 (F := Ideal) P SW (ix2 r l) = shortE p (fun k l => SW (ix2 k l)) r l := by
  pointwise [val_main_v142, val_main_v141, val_main_v140, val_main_v132, val_main_cst_14]
  simp only [three_at hp, Fin.sum_univ_three, shortE]
  rw [colAt_in (prodSx p) l r ((r.val : ℤ) + ((2 : Fin 3).val : ℤ) - 2) (by simp)]
  rw [show ((r.val : ℤ) + ((1 : Fin 3).val : ℤ) - 2) = (r.val : ℤ) - 1 by simp; ring, show ((r.val : ℤ) + ((0 : Fin 3).val : ℤ) - 2) = (r.val : ℤ) - 2 by simp]
  abel

include hd ho hp in
/-- The derivative by the short convolution. -/
theorem dshort_at (r : Fin 8192) (l : Fin 256) : val_main_v352 (F := Ideal) D P WO (ix2 r l) = (dShort p (dMix d wo) r l : EReal) := by
  pointwise [val_main_v352]
  rw [piece2_at hp, db_at hd ho, ← EReal.coe_mul, mul_comm, dShort]

include hd ho hp in
/-- The derivative by the third piece. -/
theorem dp2_at (r : Fin 8192) (l : Fin 256) :
    val_main_v353 (F := Ideal) D P SW WO (ix2 r l) = (dMix d wo r (mcol 1 l) : EReal) * shortE p (fun k l => SW (ix2 k l)) r l := by
  pointwise [val_main_v353]
  rw [short_at hp, db_at hd ho]

include hd ho hp in
/-- The derivative by the taps of the short convolution. -/
theorem dsw_at (k : Fin 3) (l : Fin 256) : val_main_v371 (F := Ideal) D P WO (ix2 k l) = (dShortTap p (dMix d wo) k l : EReal) := by
  pointwise [val_main_v371, val_main_v359, val_main_v358, val_main_v357, val_main_v354, val_main_cst_62, val_main_cst_66]
  simp only [dshort_at hd ho hp, three_at hp, ← EReal.coe_mul, sum_coe, Fin.sum_univ_one]
  rfl

/-- A scaled column of finite values, entry by entry. -/
theorem colAt_scaled (k : EReal) (f : Fin 8192 → Fin 256 → ℝ) (l : Fin 256) (i : ℤ) :
    at0 (fun a => k * ((f a l : ℝ) : EReal)) i = k * ((colAt f l i : ℝ) : EReal) := by
  unfold colAt at0; split <;> simp

include hd ho hp in
/-- The derivative by the products the short convolution runs over. -/
theorem dprod_at (r : Fin 8192) (l : Fin 256) :
    val_main_v373 (F := Ideal) D P SW WO (ix2 r l) = dProdE p (dMix d wo) (fun k l => SW (ix2 k l)) r l := by
  have z : ∀ i, constant (F := Ideal) S_ .f32 0x00000000#32 i = 0 := fun i => by pointwise
  pointwise [val_main_v373, val_main_v370, val_main_v368]
  simp only [val_main_v366, val_main_v367, val_main_v369, val_main_cst_63, val_main_cst_64, val_main_cst_65, pad_rows _ _ _ _ z]
  pointwise [val_main_v360, val_main_v361, val_main_v362, val_main_v363, val_main_v364, val_main_v365, val_main_v356, val_main_v355, val_main_v354, val_main_v132]
  simp only [dshort_at hd ho hp, colAt_scaled, dProdE]
  rw [colAt_in (dShort p (dMix d wo)) l r _ (by push_cast; ring)]
  refine congrArg₂ _ (congrArg₂ _ rfl (congrArg (fun i : ℤ => SW (ix2 1 l) * ((colAt (dShort p (dMix d wo)) l i : ℝ) : EReal)) ?_))
    (congrArg (fun i : ℤ => SW (ix2 0 l) * ((colAt (dShort p (dMix d wo)) l i : ℝ) : EReal)) ?_) <;> (push_cast; ring)

include hd ho hp in
/-- The derivative by the fourth piece. -/
theorem dp3_at (r : Fin 8192) (l : Fin 256) :
    val_main_v375 (F := Ideal) D P SW WO (ix2 r l) = dProdE p (dMix d wo) (fun k l => SW (ix2 k l)) r l * (piece p 4 r l : EReal) := by
  pointwise [val_main_v375]
  rw [dprod_at hd ho hp, piece4_at hp]

include hd ho hp in
/-- The derivative by the fifth piece. -/
theorem dp4_at (r : Fin 8192) (l : Fin 256) :
    val_main_v374 (F := Ideal) D P SW WO (ix2 r l) = (piece p 3 r l : EReal) * dProdE p (dMix d wo) (fun k l => SW (ix2 k l)) r l := by
  pointwise [val_main_v374]
  rw [dprod_at hd ho hp, piece3_at hp]

/-- The running sum of a column up to a row. -/
def runTo (f : Fin 8192 → Fin 256 → ℝ) (l : Fin 256) (i : ℤ) : ℝ := ∑ n : Fin 8192, colAt f l (i + n.val - 8191)

/-- It is zero before the first row. -/
theorem runTo_out (f : Fin 8192 → Fin 256 → ℝ) (l : Fin 256) (i : ℤ) (h : i < 0) : runTo f l i = 0 :=
  Finset.sum_eq_zero fun n _ => colAt_out _ _ _ (by omega)

/-- The running sum up to a row less that up to an earlier row. -/
theorem runTo_sub (f : Fin 8192 → Fin 256 → ℝ) (l : Fin 256) (r : Fin 8192) (w : ℕ) (hw : wid l = w) :
    runTo f l r.val - runTo f l ((r.val : ℤ) - w) = trailSum f r l := by
  rw [trailSum, hw]
  exact trailing (n := 8191) (fun a => f a l) r.val (by omega) w

include hp in
/-- The running sums. -/
theorem run_at (r : Fin 8192) (l : Fin 256) : val_main_v144 (F := Ideal) P (ix2 r l) = (runTo (piece p 5) l r.val : EReal) := by
  unfold val_main_v144
  rw [window_sum 8191 0 _ _ (fun i => by pointwise [val_main_call2_call0_v0, val_main_call2_call0_cst])]
  simp only [piece5_at hp, colAt_coe, sum_coe]
  rfl

/-- The count of rows up to a row. -/
theorem pos_at (r : Fin 8192) (q : Fin 1) : val_main_v148 (F := Ideal) (ix2 r q) = ((1 + (r.val : ℝ) : ℝ) : EReal) := by
  pointwise [val_main_v148, val_main_v147, val_main_v146, val_main_v145, val_main_cst_15]
  rw [int_lit _ (by omega), one_coe, ← EReal.coe_add]

/-- The counts of the windows of 2 rows. -/
theorem cnt2_at (r : Fin 8192) (q : Fin 1) : val_main_v156 (F := Ideal) (ix2 r q) = ((min (1 + (r.val : ℝ)) 2 : ℝ) : EReal) := by
  pointwise [val_main_v156, val_main_v155, val_main_cst_18]
  rw [pos_at, lit_two]
  exact (EReal.coe_strictMono.monotone.map_min).symm

include hp in
/-- The pooled values of the windows of 2 rows. -/
theorem pooled2_at (r : Fin 8192) (j : Fin 64) (l : Fin 256) (hl : l.val = 0 + j.val) :
    val_main_v160 (F := Ideal) P (ix2 r j) = (pooled p r l : EReal) := by
  have hw : wid l = 2 := by simp only [wid]; split_ifs <;> omega
  have hl' : (⟨j.val, by omega⟩ : Fin 256) = l := Fin.ext (by simp [hl])
  have hn : min (1 + (r.val : ℝ)) 2 ≠ 0 := (lt_min (by positivity) (by norm_num)).ne'
  pointwise [val_main_v160, val_main_v159, val_main_v158, val_main_v157, val_main_v154, val_main_v152, val_main_v151, val_main_v150, val_main_v149, val_main_cst_16]
  rw [pooled, ← runTo_sub _ _ _ 2 hw, cntR, hw]
  have lag : (if h : r.val < 2 then (0 : EReal) else val_main_v144 (F := Ideal) P (ix2 ⟨r.val - 2, by omega⟩ l)) = (runTo (piece p 5) l ((r.val : ℤ) - (2 : ℕ)) : EReal) := by
    split
    · rw [runTo_out _ _ _ (by omega)]; rfl
    · rw [run_at hp]
      exact congrArg (fun i : ℤ => ((runTo (piece p 5) l i : ℝ) : EReal)) (by simp; omega)
  simp only [hl']
  rw [lag, run_at hp, cnt2_at, piece5_at hp, ← EReal.coe_sub, div_real _ hn, ← EReal.coe_sub]
  simp only [Nat.cast_ofNat]

/-- The counts of the windows of 4 rows. -/
theorem cnt4_at (r : Fin 8192) (q : Fin 1) : val_main_v168 (F := Ideal) (ix2 r q) = ((min (1 + (r.val : ℝ)) 4 : ℝ) : EReal) := by
  pointwise [val_main_v168, val_main_v167, val_main_cst_21]
  rw [pos_at, lit_four]
  exact (EReal.coe_strictMono.monotone.map_min).symm

include hp in
/-- The pooled values of the windows of 4 rows. -/
theorem pooled4_at (r : Fin 8192) (j : Fin 64) (l : Fin 256) (hl : l.val = 64 + j.val) :
    val_main_v172 (F := Ideal) P (ix2 r j) = (pooled p r l : EReal) := by
  have hw : wid l = 4 := by simp only [wid]; split_ifs <;> omega
  have hl' : (⟨64 + j.val, by omega⟩ : Fin 256) = l := Fin.ext (by simp [hl])
  have hn : min (1 + (r.val : ℝ)) 4 ≠ 0 := (lt_min (by positivity) (by norm_num)).ne'
  pointwise [val_main_v172, val_main_v171, val_main_v170, val_main_v169, val_main_v166, val_main_v164, val_main_v163, val_main_v162, val_main_v161, val_main_cst_19]
  rw [pooled, ← runTo_sub _ _ _ 4 hw, cntR, hw]
  have lag : (if h : r.val < 4 then (0 : EReal) else val_main_v144 (F := Ideal) P (ix2 ⟨r.val - 4, by omega⟩ l)) = (runTo (piece p 5) l ((r.val : ℤ) - (4 : ℕ)) : EReal) := by
    split
    · rw [runTo_out _ _ _ (by omega)]; rfl
    · rw [run_at hp]
      exact congrArg (fun i : ℤ => ((runTo (piece p 5) l i : ℝ) : EReal)) (by simp; omega)
  simp only [hl']
  rw [lag, run_at hp, cnt4_at, piece5_at hp, ← EReal.coe_sub, div_real _ hn, ← EReal.coe_sub]
  simp only [Nat.cast_ofNat]

/-- The counts of the windows of 8 rows. -/
theorem cnt8_at (r : Fin 8192) (q : Fin 1) : val_main_v180 (F := Ideal) (ix2 r q) = ((min (1 + (r.val : ℝ)) 8 : ℝ) : EReal) := by
  pointwise [val_main_v180, val_main_v179, val_main_cst_24]
  rw [pos_at, lit_eight]
  exact (EReal.coe_strictMono.monotone.map_min).symm

include hp in
/-- The pooled values of the windows of 8 rows. -/
theorem pooled8_at (r : Fin 8192) (j : Fin 64) (l : Fin 256) (hl : l.val = 128 + j.val) :
    val_main_v184 (F := Ideal) P (ix2 r j) = (pooled p r l : EReal) := by
  have hw : wid l = 8 := by simp only [wid]; split_ifs <;> omega
  have hl' : (⟨128 + j.val, by omega⟩ : Fin 256) = l := Fin.ext (by simp [hl])
  have hn : min (1 + (r.val : ℝ)) 8 ≠ 0 := (lt_min (by positivity) (by norm_num)).ne'
  pointwise [val_main_v184, val_main_v183, val_main_v182, val_main_v181, val_main_v178, val_main_v176, val_main_v175, val_main_v174, val_main_v173, val_main_cst_22]
  rw [pooled, ← runTo_sub _ _ _ 8 hw, cntR, hw]
  have lag : (if h : r.val < 8 then (0 : EReal) else val_main_v144 (F := Ideal) P (ix2 ⟨r.val - 8, by omega⟩ l)) = (runTo (piece p 5) l ((r.val : ℤ) - (8 : ℕ)) : EReal) := by
    split
    · rw [runTo_out _ _ _ (by omega)]; rfl
    · rw [run_at hp]
      exact congrArg (fun i : ℤ => ((runTo (piece p 5) l i : ℝ) : EReal)) (by simp; omega)
  simp only [hl']
  rw [lag, run_at hp, cnt8_at, piece5_at hp, ← EReal.coe_sub, div_real _ hn, ← EReal.coe_sub]
  simp only [Nat.cast_ofNat]

/-- The counts of the windows of 16 rows. -/
theorem cnt16_at (r : Fin 8192) (q : Fin 1) : val_main_v192 (F := Ideal) (ix2 r q) = ((min (1 + (r.val : ℝ)) 16 : ℝ) : EReal) := by
  pointwise [val_main_v192, val_main_v191, val_main_cst_27]
  rw [pos_at, lit_sixteen]
  exact (EReal.coe_strictMono.monotone.map_min).symm

include hp in
/-- The pooled values of the windows of 16 rows. -/
theorem pooled16_at (r : Fin 8192) (j : Fin 64) (l : Fin 256) (hl : l.val = 192 + j.val) :
    val_main_v196 (F := Ideal) P (ix2 r j) = (pooled p r l : EReal) := by
  have hw : wid l = 16 := by simp only [wid]; split_ifs <;> omega
  have hl' : (⟨192 + j.val, by omega⟩ : Fin 256) = l := Fin.ext (by simp [hl])
  have hn : min (1 + (r.val : ℝ)) 16 ≠ 0 := (lt_min (by positivity) (by norm_num)).ne'
  pointwise [val_main_v196, val_main_v195, val_main_v194, val_main_v193, val_main_v190, val_main_v188, val_main_v187, val_main_v186, val_main_v185, val_main_cst_25]
  rw [pooled, ← runTo_sub _ _ _ 16 hw, cntR, hw]
  have lag : (if h : r.val < 16 then (0 : EReal) else val_main_v144 (F := Ideal) P (ix2 ⟨r.val - 16, by omega⟩ l)) = (runTo (piece p 5) l ((r.val : ℤ) - (16 : ℕ)) : EReal) := by
    split
    · rw [runTo_out _ _ _ (by omega)]; rfl
    · rw [run_at hp]
      exact congrArg (fun i : ℤ => ((runTo (piece p 5) l i : ℝ) : EReal)) (by simp; omega)
  simp only [hl']
  rw [lag, run_at hp, cnt16_at, piece5_at hp, ← EReal.coe_sub, div_real _ hn, ← EReal.coe_sub]
  simp only [Nat.cast_ofNat]

include hp in
/-- The pooled values. -/
theorem pooled_at (r : Fin 8192) (l : Fin 256) : val_main_v197 (F := Ideal) P (ix2 r l) = (pooled p r l : EReal) := by
  pointwise [val_main_v197]
  by_cases h0 : l.val < 64
  · rw [dif_pos h0]; exact pooled2_at hp r ⟨l.val, h0⟩ l (by simp)
  rw [dif_neg h0]
  by_cases h1 : l.val - 64 < 64
  · rw [dif_pos h1]; exact pooled4_at hp r ⟨l.val - 64, h1⟩ l (by simp; omega)
  rw [dif_neg h1]
  by_cases h2 : l.val - 64 - 64 < 64
  · rw [dif_pos h2]; exact pooled8_at hp r ⟨l.val - 64 - 64, h2⟩ l (by simp; omega)
  · rw [dif_neg h2]; exact pooled16_at hp r ⟨l.val - 64 - 64 - 64, by omega⟩ l (by simp; omega)

include hp hpb in
/-- The pooled values through the pooling's matrix. -/
theorem poolmix_at (r : Fin 8192) (l : Fin 256) : val_main_v198 (F := Ideal) P PW (ix2 r l) = (poolMix p pb r l : EReal) := by
  pointwise [val_main_v198]
  simp only [pooled_at hp, hpb, ← EReal.coe_mul, sum_coe]
  rfl

include hd ho hp hpb in
/-- The derivative by the pooling's scale. -/
theorem dps_at (l : Fin 256) : val_main_v296 (F := Ideal) D P PW WO (ix1 l) = ((∑ r, poolMix p pb r l * dMix d wo r (mcol 2 l) : ℝ) : EReal) := by
  pointwise [val_main_v296, val_main_v293, val_main_v292, val_main_v291, val_main_cst_48, val_main_cst_49]
  simp only [poolmix_at hp hpb, dc_at hd ho, ← EReal.coe_mul, sum_coe, Fin.sum_univ_one]

include hd ho hps in
/-- The derivative by the pooling's product. -/
theorem de_at (r : Fin 8192) (l : Fin 256) : val_main_v295 (F := Ideal) D PS WO (ix2 r l) = (dE (dMix d wo) ps r l : EReal) := by
  pointwise [val_main_v295, val_main_v294, val_main_v199]
  rw [dc_at hd ho, hps, ← EReal.coe_mul, dE]

include hd ho hp hps in
/-- The derivative by the pooling's matrix. -/
theorem dpool_at (a b : Fin 256) : val_main_v298 (F := Ideal) D P PS WO (ix2 a b) = ((∑ r, pooled p r a * dE (dMix d wo) ps r b : ℝ) : EReal) := by
  pointwise [val_main_v298, val_main_v297]
  simp only [pooled_at hp, de_at hd ho hps, ← EReal.coe_mul, sum_coe]
  exact congrArg (fun z : ℝ => (z : EReal)) (Finset.sum_congr rfl fun r _ => mul_comm _ _)

include hd ho hpb hps in
/-- The derivative by the pooled values. -/
theorem dpooled_at (r : Fin 8192) (l : Fin 256) : val_main_v299 (F := Ideal) D PW PS WO (ix2 r l) = (dPooled (dMix d wo) pb ps r l : EReal) := by
  pointwise [val_main_v299]
  simp only [de_at hd ho hps, hpb, ← EReal.coe_mul, sum_coe]
  rfl

include hd ho hpb hps in
/-- The derivative by the window sums of 2 rows, each less the one 2 rows on. -/
theorem dwin2_at (r : Fin 8192) (j : Fin 64) (l : Fin 256) (hl : l.val = 0 + j.val) :
    val_main_v347 (F := Ideal) D PW PS WO (ix2 r j)
      = ((dWin (dMix d wo) pb ps r l + -colAt (dWin (dMix d wo) pb ps) l ((r.val : ℤ) + wid l) : ℝ) : EReal) := by
  have hw : wid l = 2 := by simp only [wid]; split_ifs <;> omega
  have hl' : (⟨j.val, by omega⟩ : Fin 256) = l := Fin.ext (by simp [hl])
  have z : ∀ i, constant (F := Ideal) S_ .f32 0x00000000#32 i = 0 := fun i => by pointwise
  have hn : ∀ r : Fin 8192, min (1 + (r.val : ℝ)) 2 ≠ 0 := fun r => (lt_min (by positivity) (by norm_num)).ne'
  have e : ∀ r, val_main_v342 (F := Ideal) D PW PS WO (ix2 r j) = (dWin (dMix d wo) pb ps r l : EReal) := fun r => by
    pointwise [val_main_v342, val_main_v341, val_main_v300]
    simp only [hl']
    rw [dpooled_at hd ho hpb hps, cnt2_at, div_real _ (hn r), dWin, cntR, hw]
    simp only [Nat.cast_ofNat]
  pointwise [val_main_v347, val_main_v346, val_main_v345, val_main_v343, val_main_cst_60]
  have lead : (if h : r.val < 8190 then -val_main_v342 (F := Ideal) D PW PS WO (ix2 ⟨2 + r.val, by omega⟩ j) else (0 : EReal))
      = ((-colAt (dWin (dMix d wo) pb ps) l ((r.val : ℤ) + (2 : ℕ)) : ℝ) : EReal) := by
    split
    · rw [e, neg_real, colAt_in _ l ⟨2 + r.val, by omega⟩ _ (by push_cast; ring)]
    · rw [colAt_out _ _ _ (by omega)]; simp
  rw [lead, e, ← EReal.coe_add, hw]

include hd ho hpb hps in
/-- The derivative by the window sums of 4 rows, each less the one 4 rows on. -/
theorem dwin4_at (r : Fin 8192) (j : Fin 64) (l : Fin 256) (hl : l.val = 64 + j.val) :
    val_main_v335 (F := Ideal) D PW PS WO (ix2 r j)
      = ((dWin (dMix d wo) pb ps r l + -colAt (dWin (dMix d wo) pb ps) l ((r.val : ℤ) + wid l) : ℝ) : EReal) := by
  have hw : wid l = 4 := by simp only [wid]; split_ifs <;> omega
  have hl' : (⟨64 + j.val, by omega⟩ : Fin 256) = l := Fin.ext (by simp [hl])
  have z : ∀ i, constant (F := Ideal) S_ .f32 0x00000000#32 i = 0 := fun i => by pointwise
  have hn : ∀ r : Fin 8192, min (1 + (r.val : ℝ)) 4 ≠ 0 := fun r => (lt_min (by positivity) (by norm_num)).ne'
  have e : ∀ r, val_main_v330 (F := Ideal) D PW PS WO (ix2 r j) = (dWin (dMix d wo) pb ps r l : EReal) := fun r => by
    pointwise [val_main_v330, val_main_v329, val_main_v301]
    simp only [hl']
    rw [dpooled_at hd ho hpb hps, cnt4_at, div_real _ (hn r), dWin, cntR, hw]
    simp only [Nat.cast_ofNat]
  pointwise [val_main_v335, val_main_v334, val_main_v333, val_main_v331, val_main_cst_57]
  have lead : (if h : r.val < 8188 then -val_main_v330 (F := Ideal) D PW PS WO (ix2 ⟨4 + r.val, by omega⟩ j) else (0 : EReal))
      = ((-colAt (dWin (dMix d wo) pb ps) l ((r.val : ℤ) + (4 : ℕ)) : ℝ) : EReal) := by
    split
    · rw [e, neg_real, colAt_in _ l ⟨4 + r.val, by omega⟩ _ (by push_cast; ring)]
    · rw [colAt_out _ _ _ (by omega)]; simp
  rw [lead, e, ← EReal.coe_add, hw]

include hd ho hpb hps in
/-- The derivative by the window sums of 8 rows, each less the one 8 rows on. -/
theorem dwin8_at (r : Fin 8192) (j : Fin 64) (l : Fin 256) (hl : l.val = 128 + j.val) :
    val_main_v323 (F := Ideal) D PW PS WO (ix2 r j)
      = ((dWin (dMix d wo) pb ps r l + -colAt (dWin (dMix d wo) pb ps) l ((r.val : ℤ) + wid l) : ℝ) : EReal) := by
  have hw : wid l = 8 := by simp only [wid]; split_ifs <;> omega
  have hl' : (⟨128 + j.val, by omega⟩ : Fin 256) = l := Fin.ext (by simp [hl])
  have z : ∀ i, constant (F := Ideal) S_ .f32 0x00000000#32 i = 0 := fun i => by pointwise
  have hn : ∀ r : Fin 8192, min (1 + (r.val : ℝ)) 8 ≠ 0 := fun r => (lt_min (by positivity) (by norm_num)).ne'
  have e : ∀ r, val_main_v318 (F := Ideal) D PW PS WO (ix2 r j) = (dWin (dMix d wo) pb ps r l : EReal) := fun r => by
    pointwise [val_main_v318, val_main_v317, val_main_v302]
    simp only [hl']
    rw [dpooled_at hd ho hpb hps, cnt8_at, div_real _ (hn r), dWin, cntR, hw]
    simp only [Nat.cast_ofNat]
  pointwise [val_main_v323, val_main_v322, val_main_v321, val_main_v319, val_main_cst_54]
  have lead : (if h : r.val < 8184 then -val_main_v318 (F := Ideal) D PW PS WO (ix2 ⟨8 + r.val, by omega⟩ j) else (0 : EReal))
      = ((-colAt (dWin (dMix d wo) pb ps) l ((r.val : ℤ) + (8 : ℕ)) : ℝ) : EReal) := by
    split
    · rw [e, neg_real, colAt_in _ l ⟨8 + r.val, by omega⟩ _ (by push_cast; ring)]
    · rw [colAt_out _ _ _ (by omega)]; simp
  rw [lead, e, ← EReal.coe_add, hw]

include hd ho hpb hps in
/-- The derivative by the window sums of 16 rows, each less the one 16 rows on. -/
theorem dwin16_at (r : Fin 8192) (j : Fin 64) (l : Fin 256) (hl : l.val = 192 + j.val) :
    val_main_v312 (F := Ideal) D PW PS WO (ix2 r j)
      = ((dWin (dMix d wo) pb ps r l + -colAt (dWin (dMix d wo) pb ps) l ((r.val : ℤ) + wid l) : ℝ) : EReal) := by
  have hw : wid l = 16 := by simp only [wid]; split_ifs <;> omega
  have hl' : (⟨192 + j.val, by omega⟩ : Fin 256) = l := Fin.ext (by simp [hl])
  have z : ∀ i, constant (F := Ideal) S_ .f32 0x00000000#32 i = 0 := fun i => by pointwise
  have hn : ∀ r : Fin 8192, min (1 + (r.val : ℝ)) 16 ≠ 0 := fun r => (lt_min (by positivity) (by norm_num)).ne'
  have e : ∀ r, val_main_v307 (F := Ideal) D PW PS WO (ix2 r j) = (dWin (dMix d wo) pb ps r l : EReal) := fun r => by
    pointwise [val_main_v307, val_main_v306, val_main_v303]
    simp only [hl']
    rw [dpooled_at hd ho hpb hps, cnt16_at, div_real _ (hn r), dWin, cntR, hw]
    simp only [Nat.cast_ofNat]
  pointwise [val_main_v312, val_main_v311, val_main_v310, val_main_v308, val_main_cst_51]
  have lead : (if h : r.val < 8176 then -val_main_v307 (F := Ideal) D PW PS WO (ix2 ⟨16 + r.val, by omega⟩ j) else (0 : EReal))
      = ((-colAt (dWin (dMix d wo) pb ps) l ((r.val : ℤ) + (16 : ℕ)) : ℝ) : EReal) := by
    split
    · rw [e, neg_real, colAt_in _ l ⟨16 + r.val, by omega⟩ _ (by push_cast; ring)]
    · rw [colAt_out _ _ _ (by omega)]; simp
  rw [lead, e, ← EReal.coe_add, hw]

include hd ho hpb hps in
/-- The derivative by the window sums, each less the one a window on. -/
theorem dwins_at (r : Fin 8192) (l : Fin 256) : val_main_v349 (F := Ideal) D PW PS WO (ix2 r l)
      = ((dWin (dMix d wo) pb ps r l + -colAt (dWin (dMix d wo) pb ps) l ((r.val : ℤ) + wid l) : ℝ) : EReal) := by
  pointwise [val_main_v349, val_main_v348, val_main_v337, val_main_v336, val_main_v325, val_main_v324, val_main_v313, val_main_cst_61, val_main_cst_58, val_main_cst_55, val_main_cst_52]
  have four : (l.val < 64 ∨ (64 ≤ l.val ∧ l.val - 64 < 64)) ∨ (128 ≤ l.val ∧ l.val - 128 < 64) ∨ (192 ≤ l.val ∧ l.val - 192 < 64) := by omega
  rcases four with (h | h) | (h | h)
  · simp only [dif_pos h, dif_neg (show ¬(192 ≤ l.val ∧ l.val - 192 < 64) by omega), dif_neg (show ¬(128 ≤ l.val ∧ l.val - 128 < 64) by omega), dif_neg (show ¬(64 ≤ l.val ∧ l.val - 64 < 64) by omega), zero_add, add_zero]
    exact dwin2_at hd ho hpb hps r ⟨l.val, by omega⟩ l (by simp)
  · simp only [dif_pos h, dif_neg (show ¬(192 ≤ l.val ∧ l.val - 192 < 64) by omega), dif_neg (show ¬(128 ≤ l.val ∧ l.val - 128 < 64) by omega), dif_neg (show ¬(l.val < 64) by omega), zero_add, add_zero]
    exact dwin4_at hd ho hpb hps r ⟨l.val - 64, by omega⟩ l (by simp; omega)
  · simp only [dif_pos h, dif_neg (show ¬(192 ≤ l.val ∧ l.val - 192 < 64) by omega), dif_neg (show ¬(64 ≤ l.val ∧ l.val - 64 < 64) by omega), dif_neg (show ¬(l.val < 64) by omega), zero_add, add_zero]
    exact dwin8_at hd ho hpb hps r ⟨l.val - 128, by omega⟩ l (by simp; omega)
  · simp only [dif_pos h, dif_neg (show ¬(128 ≤ l.val ∧ l.val - 128 < 64) by omega), dif_neg (show ¬(64 ≤ l.val ∧ l.val - 64 < 64) by omega), dif_neg (show ¬(l.val < 64) by omega), zero_add, add_zero]
    exact dwin16_at hd ho hpb hps r ⟨l.val - 192, by omega⟩ l (by simp; omega)

include hd ho hpb hps in
/-- The derivative by the pooled values, subtracted. -/
theorem dpooleds_at (r : Fin 8192) (l : Fin 256) : val_main_v340 (F := Ideal) D PW PS WO (ix2 r l) = ((-dPooled (dMix d wo) pb ps r l : ℝ) : EReal) := by
  pointwise [val_main_v340, val_main_v339, val_main_v338, val_main_v328, val_main_v327, val_main_v326, val_main_v316, val_main_v315, val_main_v314, val_main_v305, val_main_v304, val_main_v303, val_main_v302, val_main_v301, val_main_v300, val_main_cst_59, val_main_cst_56, val_main_cst_53, val_main_cst_50]
  have four : (l.val < 64 ∨ (64 ≤ l.val ∧ l.val - 64 < 64)) ∨ (128 ≤ l.val ∧ l.val - 128 < 64) ∨ (192 ≤ l.val ∧ l.val - 192 < 64) := by omega
  rcases four with (h | h) | (h | h)
  · simp only [dif_pos h, dif_neg (show ¬(192 ≤ l.val ∧ l.val - 192 < 64) by omega), dif_neg (show ¬(128 ≤ l.val ∧ l.val - 128 < 64) by omega), dif_neg (show ¬(64 ≤ l.val ∧ l.val - 64 < 64) by omega), zero_add, add_zero]
    rw [dpooled_at hd ho hpb hps, neg_real]
  · simp only [dif_pos h, dif_neg (show ¬(192 ≤ l.val ∧ l.val - 192 < 64) by omega), dif_neg (show ¬(128 ≤ l.val ∧ l.val - 128 < 64) by omega), dif_neg (show ¬(l.val < 64) by omega), zero_add, add_zero]
    rw [show (⟨64 + (l.val - 64), by omega⟩ : Fin 256) = l from Fin.ext (by simp; omega)]
    rw [dpooled_at hd ho hpb hps, neg_real]
  · simp only [dif_pos h, dif_neg (show ¬(192 ≤ l.val ∧ l.val - 192 < 64) by omega), dif_neg (show ¬(64 ≤ l.val ∧ l.val - 64 < 64) by omega), dif_neg (show ¬(l.val < 64) by omega), zero_add, add_zero]
    rw [show (⟨128 + (l.val - 128), by omega⟩ : Fin 256) = l from Fin.ext (by simp; omega)]
    rw [dpooled_at hd ho hpb hps, neg_real]
  · simp only [dif_pos h, dif_neg (show ¬(128 ≤ l.val ∧ l.val - 128 < 64) by omega), dif_neg (show ¬(64 ≤ l.val ∧ l.val - 64 < 64) by omega), dif_neg (show ¬(l.val < 64) by omega), zero_add, add_zero]
    rw [show (⟨192 + (l.val - 192), by omega⟩ : Fin 256) = l from Fin.ext (by simp; omega)]
    rw [dpooled_at hd ho hpb hps, neg_real]

include hd ho hpb hps in
/-- The derivative by the sixth piece. -/
theorem dp5_at (r : Fin 8192) (l : Fin 256) : val_main_v351 (F := Ideal) D PW PS WO (ix2 r l) = (dPoolIn (dMix d wo) pb ps r l : EReal) := by
  have e : val_main_v350 (F := Ideal) D PW PS WO (ix2 r l) = (leadSum (dWin (dMix d wo) pb ps) r l : EReal) := by
    unfold val_main_v350
    rw [window_sum 0 8191 _ _ (fun i => by pointwise [val_main_call6_call0_v0, val_main_call6_call0_cst])]
    have t : ∀ i : ℤ, 0 ≤ i → at0 (fun a => ((dWin (dMix d wo) pb ps a l + -colAt (dWin (dMix d wo) pb ps) l ((a.val : ℤ) + wid l) : ℝ) : EReal)) i
        = ((colAt (dWin (dMix d wo) pb ps) l i + -colAt (dWin (dMix d wo) pb ps) l (i + wid l) : ℝ) : EReal) := fun i hi => by
      by_cases h : i < 8192
      · rw [at0_in _ ⟨i.toNat, by omega⟩ i (by simp; omega), colAt_in _ l ⟨i.toNat, by omega⟩ i (by simp; omega)]
        rw [show ((i.toNat : ℕ) : ℤ) = i by omega]
      · rw [at0_out _ _ (by omega), colAt_out _ _ _ (by omega), colAt_out _ _ _ (by omega)]; simp
    simp only [dwins_at hd ho hpb hps]
    refine (Finset.sum_congr rfl fun n _ => t _ (by omega)).trans ?_
    rw [sum_coe]
    refine congrArg (fun z : ℝ => (z : EReal)) (Eq.trans (Finset.sum_congr rfl fun n _ => ?_) (leading (n := 8192) (fun a => dWin (dMix d wo) pb ps a l) r.val (by omega) (wid l)))
    simp [colAt]
  pointwise [val_main_v351]
  rw [e, dpooleds_at hd ho hpb hps, ← EReal.coe_add, dPoolIn, neg_add_eq_sub]

end Cert.MixerReferenceIdeal.Mix
-- ==== Proof.MixerWin.lean ====
module

public import proofs.«01_k».proof.Proof.MixerBlockA
public import Idealize.ShloMosaic.Lib.StableHlo.ReadAt
public import proofs.«01_k».proof.Proof.MixerPureA
public import proofs.«01_k».proof.Proof.MixerPureB

/-! The mixer's backward kernel: what its windows stage at a grid point. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

/-- Comparing small integers for equality. -/
theorem eq_lit (a b : ℕ) (ha : a < 2 ^ 31) (hb : b < 2 ^ 31) :
    IntOp.cmpi .eq (BitVec.ofNat 32 a) (BitVec.ofNat 32 b) = if a = b then 1#1 else 0#1 := by
  by_cases e : a = b
  · subst e
    rw [if_pos rfl]
    simp [IntOp.cmpi]
  · rw [if_neg e]
    have q : BitVec.ofNat 32 a ≠ BitVec.ofNat 32 b := fun h => e (by
      have := congrArg BitVec.toNat h
      rwa [BitVec.toNat_ofNat, BitVec.toNat_ofNat, Nat.mod_eq_of_lt (by omega), Nat.mod_eq_of_lt (by omega)] at this)
    show BitVec.ofBool (BitVec.ofNat 32 a == BitVec.ofNat 32 b) = 0#1
    rw [beq_eq_false_iff_ne.mpr q]; rfl

/-- Adding zero to an integer. -/
theorem add_zero_lit (x : BitVec 32) : IntOp.addi x 0#32 = x := by simp [IntOp.addi]

/-- The bit one as a number. -/
theorem bit_one : FloatOps.uitofp (F := Ideal) FTy.f32 (1#1) = (1 : EReal) := by simp [FloatOps.uitofp]

/-- The bit zero as a number. -/
theorem bit_zero : FloatOps.uitofp (F := Ideal) FTy.f32 (0#1) = (0 : EReal) := by simp [FloatOps.uitofp]

/-- Two places of a rank-three array agree when their coordinates do. -/
theorem ix3_ext {a b q : ℕ} (i i' : Fin a) (j j' : Fin b) (k k' : Fin q) (ei : i = i') (ej : j = j') (ek : k = k') : ix3 i j k = ix3 i' j' k' := by
  rw [ei, ej, ek]

variable (m : (ℓ : Loc nD τ sig) → Buf (Elt Ideal) ℓ) (c : Dev nD)

/-- The finite arguments over the reals. -/
structure Args where
  /-- The values of argument 0. -/
  d : Fin 8192 → Fin 1024 → ℝ
  /-- The values of argument 1. -/
  p : Fin 8192 → Fin 2048 → ℝ
  /-- The values of argument 2. -/
  cw : Fin 31 → Fin 256 → ℝ
  /-- The values of argument 3. -/
  cb : Fin 256 → ℝ
  /-- The values of argument 4. -/
  lg : Fin 256 → ℝ
  /-- The values of argument 5. -/
  lb : Fin 256 → ℝ
  /-- The values of argument 7. -/
  pw : Fin 4 → Fin 64 → Fin 64 → ℝ
  /-- The values of argument 8. -/
  ps : Fin 256 → ℝ
  /-- The values of argument 9. -/
  gg : Fin 256 → ℝ
  /-- The values of argument 11. -/
  ws : Fin 4 → Fin 128 → Fin 128 → ℝ
  /-- The values of argument 13. -/
  wo : Fin 1024 → Fin 1024 → ℝ
  /-- The argument holds them. -/
  e_d : ∀ a b, (m ((c : Thread nD τ).loc main_arg0) : FVec Ideal S8192x1024 .f32) (ix2 a b) = (d a b : EReal)
  /-- The argument holds them. -/
  e_p : ∀ a b, (m ((c : Thread nD τ).loc main_arg1) : FVec Ideal S8192x2048 .f32) (ix2 a b) = (p a b : EReal)
  /-- The argument holds them. -/
  e_cw : ∀ a b, (m ((c : Thread nD τ).loc main_arg2) : FVec Ideal S31x256 .f32) (ix2 a b) = (cw a b : EReal)
  /-- The argument holds them. -/
  e_cb : ∀ a, (m ((c : Thread nD τ).loc main_arg3) : FVec Ideal S256 .f32) (ix1 a) = (cb a : EReal)
  /-- The argument holds them. -/
  e_lg : ∀ a, (m ((c : Thread nD τ).loc main_arg4) : FVec Ideal S256 .f32) (ix1 a) = (lg a : EReal)
  /-- The argument holds them. -/
  e_lb : ∀ a, (m ((c : Thread nD τ).loc main_arg5) : FVec Ideal S256 .f32) (ix1 a) = (lb a : EReal)
  /-- The argument holds them. -/
  e_pw : ∀ a b q, (m ((c : Thread nD τ).loc main_arg7) : FVec Ideal S4x64x64 .f32) (ix3 a b q) = (pw a b q : EReal)
  /-- The argument holds them. -/
  e_ps : ∀ a, (m ((c : Thread nD τ).loc main_arg8) : FVec Ideal S256 .f32) (ix1 a) = (ps a : EReal)
  /-- The argument holds them. -/
  e_gg : ∀ a, (m ((c : Thread nD τ).loc main_arg9) : FVec Ideal S256 .f32) (ix1 a) = (gg a : EReal)
  /-- The argument holds them. -/
  e_ws : ∀ a b q, (m ((c : Thread nD τ).loc main_arg11) : FVec Ideal S4x128x128 .f32) (ix3 a b q) = (ws a b q : EReal)
  /-- The argument holds them. -/
  e_wo : ∀ a b, (m ((c : Thread nD τ).loc main_arg13) : FVec Ideal S1024x1024 .f32) (ix2 a b) = (wo a b : EReal)

/-- The short convolution's taps. -/
def swA (k : Fin 3) (l : Fin 256) : EReal := (m ((c : Thread nD τ).loc main_arg6) : FVec Ideal S3x256 .f32) (ix2 k l)

/-- The spatial gate's offsets. -/
def gbA (l : Fin 256) : EReal := (m ((c : Thread nD τ).loc main_arg10) : FVec Ideal S256 .f32) (ix1 l)

/-- The spatial mixing's biases. -/
def bsA (h : Fin 4) (t : Fin 128) : EReal := (m ((c : Thread nD τ).loc main_arg12) : FVec Ideal S4x128 .f32) (ix2 h t)

/-- Which block of its array each window stages at a grid point. -/
theorem maps : ∀ t : Fin cfg0.N, win0_0.index t = ![7 - t.val, 0] ∧ win0_1.index t = ![7 - t.val, 0] ∧ win0_2.index t = ![(7 - t.val) * 32 - 1, 0]
    ∧ win0_3.index t = ![7 - t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![7 - t.val, 0] ∧ win0_14.index t = ![0, 0] ∧ win0_15.index t = ![0, 0] ∧ win0_16.index t = ![0, 0] ∧ win0_17.index t = ![0, 0]
    ∧ win0_18.index t = ![0, 0] ∧ (grid0.coords t 0).val = t.val ∧ t.val < 8 :=
  (by decide +kernel : ∀ t : Fin grid0.N, _)

/-- A grid point's number is below 8. -/
theorem below (t : Fin cfg0.N) : t.val < 8 := (maps t).2.2.2.2.2.2.2.2.2.2.2.2.2.2.2.2.2.2.2.2

/-- The tile a grid point works on: the last tile first. -/
def tl (n : Fin cfg0.N) : Fin 8 := ⟨7 - n.val, by omega⟩

/-- The mark of the first tile, as the kernel computes it. -/
theorem first_at (n : Fin cfg0.N) : k0_pay14 (F := Ideal) (grid0.coords n) = firstOf (tl n) := by
  have e := (maps n).2.2.2.2.2.2.2.2.2.2.2.2.2.2.2.2.2.2.2.1
  have b := below n
  unfold k0_pay14 firstOf tl
  pointwise
  have key : ∀ k : ℕ, k < 8 → Scalar.select (Scalar.cmpi CmpIPredicate.sgt (Scalar.subi (7#32) (BitVec.ofNat 32 k)) 0#32) (1 : EReal) 0 =
      if 7 - k = 0 then 0 else 1 := by
    intro k h
    interval_cases k <;> simp <;> rfl
  rw [e]
  exact key _ b

/-- The number of the tile, as the kernel computes it. -/
theorem tile_at (n : Fin cfg0.N) : Scalar.subi 7#32 (BitVec.ofNat 32 (grid0.coords n 0).val) = BitVec.ofNat 32 (tl n).val := by
  have e := (maps n).2.2.2.2.2.2.2.2.2.2.2.2.2.2.2.2.2.2.2.1
  have b := below n
  rw [e, tl]
  dsimp only
  generalize n.val = k at *
  interval_cases k <;> rfl

variable {m c} (A : Args m c) (n : Fin cfg0.N)

/-- The pooling's matrix as one: its groups on the diagonal. -/
def poolBlk (pw : Fin 4 → Fin 64 → Fin 64 → ℝ) (k l : Fin 256) : ℝ :=
  if head k = head l then pw (head k) ⟨k.val % 64, by omega⟩ ⟨l.val % 64, by omega⟩ else 0

/-- A point stages its tile of the cotangent. -/
theorem d_at (r : Fin 1024) (l : Fin 1024) : (iblk m c 0 n : FVec Ideal S1024x1024 .f32) (ix2 r l) = (A.d (trow (tl n) r) l : EReal) := by
  rw [← A.e_d]
  blk_simp [iblk]
  unfold V
  after_reads_at
  blk_ext [maps n, trow, hrow, tl]

/-- A point stages its tile of the projected rows. -/
theorem p_at (r : Fin 1024) (l : Fin 2048) : (iblk m c 1 n : FVec Ideal S1024x2048 .f32) (ix2 r l) = (A.p (trow (tl n) r) l : EReal) := by
  rw [← A.e_p]
  blk_simp [iblk]
  unfold V
  after_reads_at
  blk_ext [maps n, trow, hrow, tl]

/-- A point stages the rows before its tile. -/
theorem h_at (r : Fin 32) (l : Fin 2048) : (iblk m c 2 n : FVec Ideal S32x2048 .f32) (ix2 r l) = (A.p (hrow (tl n) r) l : EReal) := by
  rw [← A.e_p]
  blk_simp [iblk]
  unfold V
  after_reads_at
  blk_ext [maps n, trow, hrow, tl]

/-- The zero rows the host puts before the gated values. -/
theorem pad_host (a : Fin 30) (l : Fin 256) : (StableHlo.upto [hostOps0, hostOps0_1, hostOps0_2, hostOps0_3, hostOps0_4, hostOps0_5, hostOps0_6].flatten (fun b => m (c, b)) 90 (Proc.tc.devRef main_v56) : FVec Ideal S30x256 .f32) (ix2 a l) = (0 : EReal) := by
  after_reads_at

/-- The gated values the host convolves. -/
theorem gate_host (r : Fin 8192) (l : Fin 256) : (StableHlo.upto [hostOps0, hostOps0_1, hostOps0_2, hostOps0_3, hostOps0_4, hostOps0_5, hostOps0_6].flatten (fun b => m (c, b)) 90 (Proc.tc.devRef main_v55) : FVec Ideal S8192x256 .f32) (ix2 r l) = (gated A.p r l : EReal) := by
  rw [← Cert.MixerReferenceIdeal.Mix.y_at A.e_p r l]
  after_reads_at
  pointwise [Cert.MixerReferenceIdeal.Read.val_main_v26, Cert.MixerReferenceIdeal.Read.val_main_v22, Cert.MixerReferenceIdeal.Read.val_main_v21, Cert.MixerReferenceIdeal.Read.val_main_v20, Cert.MixerReferenceIdeal.Read.val_main_v19, Cert.MixerReferenceIdeal.Read.val_main_v18, Cert.MixerReferenceIdeal.Read.val_main_v17, Cert.MixerReferenceIdeal.Read.val_main_v10, Cert.MixerReferenceIdeal.Read.val_main_v9, Cert.MixerReferenceIdeal.Read.val_main_cst_0, Cert.MixerReferenceIdeal.Read.val_main_cst_1]

/-- The padded gated values, row by row. -/
theorem padded_host (k : ℕ) (hk : k < 31) (r : Fin 8192) (l : Fin 256) (q : ℕ) (eq : q = k + r.val) :
    (if h : q < 30 then (StableHlo.upto [hostOps0, hostOps0_1, hostOps0_2, hostOps0_3, hostOps0_4, hostOps0_5, hostOps0_6].flatten (fun b => m (c, b)) 90 (Proc.tc.devRef main_v56) : FVec Ideal S30x256 .f32) (ix2 ⟨q, h⟩ l)
      else (StableHlo.upto [hostOps0, hostOps0_1, hostOps0_2, hostOps0_3, hostOps0_4, hostOps0_5, hostOps0_6].flatten (fun b => m (c, b)) 90 (Proc.tc.devRef main_v55) : FVec Ideal S8192x256 .f32) (ix2 ⟨q - 30, by omega⟩ l))
      = (colAt (gated A.p) l ((r.val : ℤ) + k - 30) : EReal) := by
  subst eq
  split
  · rw [pad_host, colAt_out _ _ _ (by omega)]; rfl
  · rw [gate_host A, colAt_in _ _ ⟨k + r.val - 30, by omega⟩ _ (by simp; omega)]

/-- The first sixteen shifted copies on the host. -/
theorem copiesA_host (x : Fin 16) (r : Fin 8192) (l : Fin 256) : (StableHlo.upto [hostOps0, hostOps0_1, hostOps0_2, hostOps0_3, hostOps0_4, hostOps0_5, hostOps0_6].flatten (fun b => m (c, b)) 156 (Proc.tc.devRef main_v121) : FVec Ideal S16x8192x256 .f32) (ix3 x r l)
    = (colAt (gated A.p) l ((r.val : ℤ) + (x.val : ℤ) - 30) : EReal) := by
  fin_cases x <;> (after_reads_at; after_reads_at)
  · exact padded_host A 0 (by omega) r l _ (by omega)
  · exact padded_host A 1 (by omega) r l _ (by omega)
  · exact padded_host A 2 (by omega) r l _ (by omega)
  · exact padded_host A 3 (by omega) r l _ (by omega)
  · exact padded_host A 4 (by omega) r l _ (by omega)
  · exact padded_host A 5 (by omega) r l _ (by omega)
  · exact padded_host A 6 (by omega) r l _ (by omega)
  · exact padded_host A 7 (by omega) r l _ (by omega)
  · exact padded_host A 8 (by omega) r l _ (by omega)
  · exact padded_host A 9 (by omega) r l _ (by omega)
  · exact padded_host A 10 (by omega) r l _ (by omega)
  · exact padded_host A 11 (by omega) r l _ (by omega)
  · exact padded_host A 12 (by omega) r l _ (by omega)
  · exact padded_host A 13 (by omega) r l _ (by omega)
  · exact padded_host A 14 (by omega) r l _ (by omega)
  · exact padded_host A 15 (by omega) r l _ (by omega)

/-- The other fifteen. -/
theorem copiesB_host (x : Fin 15) (r : Fin 8192) (l : Fin 256) : (StableHlo.upto [hostOps0, hostOps0_1, hostOps0_2, hostOps0_3, hostOps0_4, hostOps0_5, hostOps0_6].flatten (fun b => m (c, b)) 156 (Proc.tc.devRef main_v122) : FVec Ideal S15x8192x256 .f32) (ix3 x r l)
    = (colAt (gated A.p) l ((r.val : ℤ) + ((16 + x.val : ℕ) : ℤ) - 30) : EReal) := by
  fin_cases x <;> (after_reads_at; after_reads_at)
  · exact padded_host A 16 (by omega) r l _ rfl
  · exact padded_host A 17 (by omega) r l _ rfl
  · exact padded_host A 18 (by omega) r l _ rfl
  · exact padded_host A 19 (by omega) r l _ rfl
  · exact padded_host A 20 (by omega) r l _ rfl
  · exact padded_host A 21 (by omega) r l _ rfl
  · exact padded_host A 22 (by omega) r l _ rfl
  · exact padded_host A 23 (by omega) r l _ rfl
  · exact padded_host A 24 (by omega) r l _ rfl
  · exact padded_host A 25 (by omega) r l _ rfl
  · exact padded_host A 26 (by omega) r l _ rfl
  · exact padded_host A 27 (by omega) r l _ rfl
  · exact padded_host A 28 (by omega) r l _ rfl
  · exact padded_host A 29 (by omega) r l _ rfl
  · exact (gate_host A r l).trans (by rw [colAt_in _ _ r _ (by simp)])

/-- The long convolution as the host leaves it. -/
theorem z_host (r : Fin 8192) (l : Fin 256) : (V m c main_v129 : FVec Ideal S8192x256 .f32) (ix2 r l) = (convZ A.p A.cw A.cb r l : EReal) := by
  unfold V
  after_reads_at
  refine (congrArg₂ (fun a b : EReal => a + b) (congrArg₂ (fun a b : EReal => a + b)
    (Finset.sum_congr rfl fun x _ => congrArg₂ (fun a b : EReal => a * b) (A.e_cw ⟨x.val, by omega⟩ l) (copiesA_host A x r l))
    (Finset.sum_congr rfl fun x _ => congrArg₂ (fun a b : EReal => a * b) (A.e_cw ⟨16 + x.val, by omega⟩ l) (copiesB_host A x r l))) (A.e_cb l)).trans ?_
  simp only [← EReal.coe_mul, sum_coe, ← EReal.coe_add]
  unfold convZ
  rw [show (∑ k : Fin 31, A.cw k l * colAt (gated A.p) l ((r.val : ℤ) + k.val - 30)) = (∑ x : Fin 16, A.cw ⟨x.val, by omega⟩ l * colAt (gated A.p) l ((r.val : ℤ) + (x.val : ℤ) - 30)) + ∑ x : Fin 15, A.cw ⟨16 + x.val, by omega⟩ l * colAt (gated A.p) l ((r.val : ℤ) + ((16 + x.val : ℕ) : ℤ) - 30) from
    Fin.sum_univ_add (a := 16) (b := 15) fun k : Fin (16 + 15) => A.cw k l * colAt (gated A.p) l ((r.val : ℤ) + (k.val : ℤ) - 30)]

/-- A point stages its tile of the long convolution. -/
theorem z_at (r : Fin 1024) (l : Fin 256) : (iblk m c 3 n : FVec Ideal S1024x256 .f32) (ix2 r l) = (convZ A.p A.cw A.cb (trow (tl n) r) l : EReal) := by
  refine Eq.trans ?_ (z_host A (trow (tl n) r) l)
  blk_simp [iblk]
  blk_ext [maps n, trow, tl]

/-- What the host leaves there. -/
theorem cw_host (k : Fin 31) (l : Fin 256) : (V m c main_v14 : FVec Ideal S32x256 .f32) (ix2 ⟨k.val, by omega⟩ l) = (A.cw k l : EReal) := by
  unfold V
  after_reads_at
  exact A.e_cw k l

/-- Every point stages the taps. -/
theorem cw_at (k : Fin 31) (l : Fin 256) : (iblk m c 4 n : FVec Ideal S32x256 .f32) (ix2 ⟨k.val, by omega⟩ l) = (A.cw k l : EReal) := by
  refine Eq.trans ?_ (cw_host A k l)
  blk_simp [iblk]
  blk_ext [maps n]

/-- What the host leaves there. -/
theorem cb_host (l : Fin 256) : (V m c main_v22 : FVec Ideal S16x256 .f32) (ix2 0 l) = (A.cb l : EReal) := by
  unfold V
  after_reads_at
  after_reads_at
  exact A.e_cb l

/-- Every point stages the convolution's offsets. -/
theorem cb_at (l : Fin 256) : (iblk m c 5 n : FVec Ideal S16x256 .f32) (ix2 0 l) = (A.cb l : EReal) := by
  refine Eq.trans ?_ (cb_host A l)
  blk_simp [iblk]
  blk_ext [maps n]

/-- What the host leaves there. -/
theorem lg_host (l : Fin 256) : (V m c main_v22 : FVec Ideal S16x256 .f32) (ix2 1 l) = (A.lg l : EReal) := by
  unfold V
  after_reads_at
  after_reads_at
  exact A.e_lg l

/-- Every point stages the norm's gains. -/
theorem lg_at (l : Fin 256) : (iblk m c 5 n : FVec Ideal S16x256 .f32) (ix2 1 l) = (A.lg l : EReal) := by
  refine Eq.trans ?_ (lg_host A l)
  blk_simp [iblk]
  blk_ext [maps n]

/-- What the host leaves there. -/
theorem lb_host (l : Fin 256) : (V m c main_v22 : FVec Ideal S16x256 .f32) (ix2 2 l) = (A.lb l : EReal) := by
  unfold V
  after_reads_at
  after_reads_at
  exact A.e_lb l

/-- Every point stages the norm's offsets. -/
theorem lb_at (l : Fin 256) : (iblk m c 5 n : FVec Ideal S16x256 .f32) (ix2 2 l) = (A.lb l : EReal) := by
  refine Eq.trans ?_ (lb_host A l)
  blk_simp [iblk]
  blk_ext [maps n]

/-- What the host leaves there. -/
theorem ps_host (l : Fin 256) : (V m c main_v22 : FVec Ideal S16x256 .f32) (ix2 3 l) = (A.ps l : EReal) := by
  unfold V
  after_reads_at
  after_reads_at
  exact A.e_ps l

/-- Every point stages the pooling's scales. -/
theorem ps_at (l : Fin 256) : (iblk m c 5 n : FVec Ideal S16x256 .f32) (ix2 3 l) = (A.ps l : EReal) := by
  refine Eq.trans ?_ (ps_host A l)
  blk_simp [iblk]
  blk_ext [maps n]

/-- What the host leaves there. -/
theorem gg_host (l : Fin 256) : (V m c main_v22 : FVec Ideal S16x256 .f32) (ix2 4 l) = (A.gg l : EReal) := by
  unfold V
  after_reads_at
  after_reads_at
  exact A.e_gg l

/-- Every point stages the spatial gate's gains. -/
theorem gg_at (l : Fin 256) : (iblk m c 5 n : FVec Ideal S16x256 .f32) (ix2 4 l) = (A.gg l : EReal) := by
  refine Eq.trans ?_ (gg_host A l)
  blk_simp [iblk]
  blk_ext [maps n]

/-- What the host leaves there. -/
theorem gb_host (l : Fin 256) : (V m c main_v22 : FVec Ideal S16x256 .f32) (ix2 5 l) = gbA m c l := by
  unfold V
  after_reads_at
  after_reads_at
  exact rfl

/-- Every point stages the spatial gate's offsets. -/
theorem gb_at (l : Fin 256) : (iblk m c 5 n : FVec Ideal S16x256 .f32) (ix2 5 l) = gbA m c l := by
  refine Eq.trans ?_ (gb_host l)
  blk_simp [iblk]
  blk_ext [maps n]

/-- What the host leaves there. -/
theorem sw0_host (l : Fin 256) : (V m c main_v22 : FVec Ideal S16x256 .f32) (ix2 6 l) = swA m c 0 l := by
  unfold V
  after_reads_at
  exact rfl

/-- Every point stages the short convolution's first tap. -/
theorem sw0_at (l : Fin 256) : (iblk m c 5 n : FVec Ideal S16x256 .f32) (ix2 6 l) = swA m c 0 l := by
  refine Eq.trans ?_ (sw0_host l)
  blk_simp [iblk]
  blk_ext [maps n]

/-- What the host leaves there. -/
theorem sw1_host (l : Fin 256) : (V m c main_v22 : FVec Ideal S16x256 .f32) (ix2 7 l) = swA m c 1 l := by
  unfold V
  after_reads_at
  exact rfl

/-- Every point stages its middle tap. -/
theorem sw1_at (l : Fin 256) : (iblk m c 5 n : FVec Ideal S16x256 .f32) (ix2 7 l) = swA m c 1 l := by
  refine Eq.trans ?_ (sw1_host l)
  blk_simp [iblk]
  blk_ext [maps n]

/-- What the host leaves there. -/
theorem sw2_host (l : Fin 256) : (V m c main_v22 : FVec Ideal S16x256 .f32) (ix2 8 l) = swA m c 2 l := by
  unfold V
  after_reads_at
  exact rfl

/-- Every point stages its last tap. -/
theorem sw2_at (l : Fin 256) : (iblk m c 5 n : FVec Ideal S16x256 .f32) (ix2 8 l) = swA m c 2 l := by
  refine Eq.trans ?_ (sw2_host l)
  blk_simp [iblk]
  blk_ext [maps n]

/-- What the host leaves there. -/
theorem pb_host (k l : Fin 256) : (V m c main_v35 : FVec Ideal S256x256 .bf16) (ix2 k l) = (poolBlk A.pw k l : EReal) := by
  unfold V
  after_reads_at
  have b : IntOp.cmpi CmpIPredicate.eq (IntOp.addi (BitVec.ofNat 32 (k.val / 64)) 0#32) (BitVec.ofNat 32 (l.val / 64)) = if k.val / 64 = l.val / 64 then 1#1 else 0#1 := by
    rw [add_zero_lit, eq_lit _ _ (by omega) (by omega)]
  refine (congrArg₂ (fun b (x : EReal) => (FloatOps.uitofp (F := Ideal) FTy.f32 b : EReal) * x) b (A.e_pw ⟨k.val / 64, by omega⟩ ⟨k.val % 64, by omega⟩ ⟨l.val % 64, by omega⟩)).trans ?_
  unfold poolBlk
  by_cases e : k.val / 64 = l.val / 64
  · rw [if_pos e, if_pos (Fin.ext e), bit_one, one_mul]; rfl
  · rw [if_neg e, if_neg (fun h => e (congrArg Fin.val h)), bit_zero, zero_mul]; rfl

/-- Every point stages the pooling's matrix. -/
theorem pb_at (k l : Fin 256) : (iblk m c 6 n : FVec Ideal S256x256 .bf16) (ix2 k l) = (poolBlk A.pw k l : EReal) := by
  refine Eq.trans ?_ (pb_host A k l)
  blk_simp [iblk]
  blk_ext [maps n]

/-- What the host leaves there. -/
theorem ws_host (J : Fin 512) (h : Fin 4) (t s : Fin 128) (eJ : J.val = h.val * 128 + t.val) : (V m c main_v40 : FVec Ideal S512x128 .bf16) (ix2 J s) = (causal A.ws h t s : EReal) := by
  unfold V
  after_reads_at
  have e : (ix3 ⟨J.val / 128, by omega⟩ ⟨J.val % 128, by omega⟩ s : S4x128x128.Idx) = ix3 h t s :=
    ix3_ext _ _ _ _ _ _ (Fin.ext (by show J.val / 128 = h.val; omega)) (Fin.ext (by show J.val % 128 = t.val; omega)) rfl
  have b : IntOp.cmpi CmpIPredicate.sge (IntOp.addi (BitVec.ofNat 32 (J.val % 128)) 0#32) (BitVec.ofNat 32 s.val) = if s.val ≤ t.val then 1#1 else 0#1 := by
    rw [add_zero_lit, show J.val % 128 = t.val from by omega, sge_lit _ _ (by omega) (by omega)]
  refine (congrArg₂ (fun b x => Scalar.select b x (0 : EReal)) b ((congrArg (m (c, Proc.tc.devRef main_arg11)) e).trans (A.e_ws h t s))).trans ?_
  unfold causal
  by_cases q : s.val ≤ t.val
  · rw [if_pos q, if_pos q]; rfl
  · rw [if_neg q, if_neg q]; rfl

/-- Every point stages the causal mixing weights. -/
theorem ws_at (J : Fin 512) (h : Fin 4) (t s : Fin 128) (eJ : J.val = h.val * 128 + t.val) : (iblk m c 7 n : FVec Ideal S512x128 .bf16) (ix2 J s) = (causal A.ws h t s : EReal) := by
  refine Eq.trans ?_ (ws_host A J h t s eJ)
  blk_simp [iblk]
  blk_ext [maps n]

/-- What the host leaves there. -/
theorem wst_host (J : Fin 512) (h : Fin 4) (s t : Fin 128) (eJ : J.val = h.val * 128 + s.val) : (V m c main_v43 : FVec Ideal S512x128 .bf16) (ix2 J t) = (causal A.ws h t s : EReal) := by
  unfold V
  after_reads_at
  have e : (ix3 ⟨J.val / 128, by omega⟩ t ⟨J.val % 128, by omega⟩ : S4x128x128.Idx) = ix3 h t s :=
    ix3_ext _ _ _ _ _ _ (Fin.ext (by show J.val / 128 = h.val; omega)) rfl (Fin.ext (by show J.val % 128 = s.val; omega))
  have b : IntOp.cmpi CmpIPredicate.sge (IntOp.addi (BitVec.ofNat 32 t.val) 0#32) (BitVec.ofNat 32 (J.val % 128)) = if s.val ≤ t.val then 1#1 else 0#1 := by
    rw [add_zero_lit, show J.val % 128 = s.val from by omega, sge_lit _ _ (by omega) (by omega)]
  refine (congrArg₂ (fun b x => Scalar.select b x (0 : EReal)) b ((congrArg (m (c, Proc.tc.devRef main_arg11)) e).trans (A.e_ws h t s))).trans ?_
  unfold causal
  by_cases q : s.val ≤ t.val
  · rw [if_pos q, if_pos q]; rfl
  · rw [if_neg q, if_neg q]; rfl

/-- Every point stages them transposed. -/
theorem wst_at (J : Fin 512) (h : Fin 4) (s t : Fin 128) (eJ : J.val = h.val * 128 + s.val) : (iblk m c 8 n : FVec Ideal S512x128 .bf16) (ix2 J t) = (causal A.ws h t s : EReal) := by
  refine Eq.trans ?_ (wst_host A J h s t eJ)
  blk_simp [iblk]
  blk_ext [maps n]

/-- What the host leaves there. -/
theorem bs_host (t : Fin 128) (l : Fin 256) : (V m c main_v46 : FVec Ideal S128x256 .f32) (ix2 t l) = bsA m c (head l) t := by
  unfold V
  after_reads_at
  rfl

/-- Every point stages the biases. -/
theorem bs_at (t : Fin 128) (l : Fin 256) : (iblk m c 9 n : FVec Ideal S128x256 .f32) (ix2 t l) = bsA m c (head l) t := by
  refine Eq.trans ?_ (bs_host t l)
  blk_simp [iblk]
  blk_ext [maps n]

/-- What the host leaves there. -/
theorem tril_host (J : Fin 512) (h : Fin 4) (t s : Fin 128) (eJ : J.val = h.val * 128 + t.val) : (V m c main_v13 : FVec Ideal S512x128 .f32) (ix2 J s) = (if s.val ≤ t.val then (1 : EReal) else 0) := by
  unfold V
  after_reads_at
  rw [show J.val % 128 = t.val from by omega, add_zero_lit, sge_lit _ _ (by omega) (by omega)]
  by_cases q : s.val ≤ t.val
  · rw [if_pos q, if_pos q]; rfl
  · rw [if_neg q, if_neg q]; rfl

/-- Every point stages the causal mask. -/
theorem tril_at (J : Fin 512) (h : Fin 4) (t s : Fin 128) (eJ : J.val = h.val * 128 + t.val) : (iblk m c 10 n : FVec Ideal S512x128 .f32) (ix2 J s) = (if s.val ≤ t.val then (1 : EReal) else 0) := by
  refine Eq.trans ?_ (tril_host (m := m) (c := c) J h t s eJ)
  blk_simp [iblk]
  blk_ext [maps n]

/-- Dividing a lane's number by 64 on the host. -/
theorem host_group : ∀ l : Fin 256, Scalar.select
    (IntOp.andi
      (IntOp.cmpi CmpIPredicate.ne
        (if BitVec.ofNat 32 l.val = 0 then 0 else if (BitVec.ofNat 32 l.val).msb = true then -1 else 1)
        (if id (constantI S_ 32 64#32) ix0 = 0 then (0 : BitVec 32)
        else if BitVec.msb (id (constantI S_ 32 64#32) ix0) = true then -1 else 1))
      (IntOp.cmpi CmpIPredicate.ne
        (IntOp.remsi ArithUnit.host (BitVec.ofNat 32 l.val) (id (constantI S_ 32 64#32) ix0)) 0#32))
    (IntOp.subi (IntOp.divsi ArithUnit.host (BitVec.ofNat 32 l.val) (id (constantI S_ 32 64#32) ix0)) 1#32)
    (IntOp.divsi ArithUnit.host (BitVec.ofNat 32 l.val) (id (constantI S_ 32 64#32) ix0)) = BitVec.ofNat 32 (l.val / 64) := by
  decide +kernel

/-- What the host leaves there. -/
theorem hr_host (a : Fin 8) (l : Fin 256) : (V m c main_v8 : FVec Ideal S8x256 .f32) (ix2 a l) = (if a.val = (head l).val then (1 : EReal) else 0) := by
  unfold V
  after_reads_at
  refine (congrArg (fun g => FloatOps.uitofp (F := Ideal) FTy.f32 (IntOp.cmpi CmpIPredicate.eq (BitVec.ofNat 32 a.val) g)) (host_group l)).trans ?_
  change FloatOps.uitofp (F := Ideal) FTy.f32 (IntOp.cmpi CmpIPredicate.eq (BitVec.ofNat 32 a.val) (BitVec.ofNat 32 (l.val / 64))) = _
  rw [eq_lit _ _ (by omega) (by omega)]
  by_cases q : a.val = l.val / 64
  · rw [if_pos q, if_pos (show a.val = (head l).val from q), bit_one]
  · rw [if_neg q, if_neg (show ¬a.val = (head l).val from q), bit_zero]

/-- Every point stages the heads' rows. -/
theorem hr_at (a : Fin 8) (l : Fin 256) : (iblk m c 11 n : FVec Ideal S8x256 .f32) (ix2 a l) = (if a.val = (head l).val then (1 : EReal) else 0) := by
  refine Eq.trans ?_ (hr_host (m := m) (c := c) a l)
  blk_simp [iblk]
  blk_ext [maps n]

/-- Every point stages the output weights. -/
theorem wo_at (j k : Fin 1024) : (iblk m c 12 n : FVec Ideal S1024x1024 .bf16) (ix2 j k) = (A.wo j k : EReal) := by
  rw [← A.e_wo]
  blk_simp [iblk]
  unfold V
  after_reads_at
  blk_ext [maps n, trow, hrow, tl]

/-- The reference's pooling matrix. -/
theorem pool_ref (PW : FVec Ideal S4x64x64 .f32) (pw : Fin 4 → Fin 64 → Fin 64 → ℝ) (e : ∀ h a b, PW (ix3 h a b) = (pw h a b : EReal)) (k l : Fin 256) :
    MixerReferenceIdeal.Read.val_main_v8 (F := Ideal) PW (ix2 k l) = (poolBlk pw k l : EReal) := by
  unfold poolBlk
  pointwise [MixerReferenceIdeal.Read.val_main_v8, MixerReferenceIdeal.Read.val_main_v7, MixerReferenceIdeal.Read.val_main_call0_v1, MixerReferenceIdeal.Read.val_main_call0_v2, MixerReferenceIdeal.Read.val_main_call0_v3, MixerReferenceIdeal.Read.val_main_call0_v0, MixerReferenceIdeal.Read.val_main_v6, MixerReferenceIdeal.Read.val_main_v5, MixerReferenceIdeal.Read.val_main_v4, MixerReferenceIdeal.Read.val_main_v3, MixerReferenceIdeal.Read.val_main_v2, MixerReferenceIdeal.Read.val_main_v1, MixerReferenceIdeal.Read.val_main_v0, MixerReferenceIdeal.Read.val_main_c, MixerReferenceIdeal.Read.val_main_cst]
  rw [add_zero_lit, eq_lit _ _ (by omega) (by omega)]
  by_cases q : k.val / 64 = l.val / 64
  · rw [if_pos q, if_pos (Fin.ext q)]
    refine (e _ _ _).trans ?_
    rfl
  · rw [if_neg q, if_neg (fun h => q (congrArg Fin.val h))]
    show constant (F := Ideal) S_ .f32 0#32 ix0 = 0
    pointwise

end Cert.MixerKernelIdeal.Mix
-- ==== Proof.MixerArgs.lean ====
module

public import proofs.«01_k».proof.Proof.MixerWin
public import proofs.«01_k».proof.Pre_finite_mixer

/-! The arguments of the mixer's backward kernel are real numbers where the precondition says so. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable {m : (ℓ : Loc nD τ sig) → Buf (Elt Ideal) ℓ} {c : Dev nD}

/-- The precondition gives every argument that it names its real numbers. -/
theorem args_of_pre [Cert.Pre_finite_mixer.Facts] (h : Cert.Pre_finite_mixer.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) : Nonempty (Args m c) := by
  have h := congrFun h ix0
  pointwise [Cert.Pre_finite_mixer.fn, Cert.Pre_finite_mixer.fn_part1, Cert.Pre_finite_mixer.fn_part2, Cert.Pre_finite_mixer.fn_part3] at h
  simp only [andi_one, all_one, Finset.mem_univ, true_implies] at h
  obtain ⟨⟨⟨⟨⟨⟨⟨⟨⟨⟨h_d, h_p⟩, h_cw⟩, h_cb⟩, h_lg⟩, h_lb⟩, h_pw⟩, h_ps⟩, h_gg⟩, h_ws⟩, h_wo⟩ := h
  choose d e_d using fun a b => real_of_abs (h_d (a, b))
  choose p e_p using fun a b => real_of_abs (h_p (a, b))
  choose cw e_cw using fun a b => real_of_abs (h_cw (a, b))
  choose cb e_cb using fun a => real_of_abs (h_cb a)
  choose lg e_lg using fun a => real_of_abs (h_lg a)
  choose lb e_lb using fun a => real_of_abs (h_lb a)
  choose pw e_pw using fun a b q => real_of_abs (h_pw (a, b, q))
  choose ps e_ps using fun a => real_of_abs (h_ps a)
  choose gg e_gg using fun a => real_of_abs (h_gg a)
  choose ws e_ws using fun a b q => real_of_abs (h_ws (a, b, q))
  choose wo e_wo using fun a b => real_of_abs (h_wo (a, b))
  exact ⟨{ d, p, cw, cb, lg, lb, pw, ps, gg, ws, wo, e_d, e_p, e_cw, e_cb, e_lg, e_lb, e_pw, e_ps, e_gg, e_ws, e_wo }⟩

end Cert.MixerKernelIdeal.Mix
-- ==== Proof.MixerSel.lean ====
module

public import proofs.«01_k».proof.Proof.MixTiles
public import proofs.«01_k».proof.Proof.Gen.MixerKernelIdeal.Value
public import proofs.«01_k».proof.Proof.Tiles
public import proofs.«01_k».proof.Proof.MixerBlockA

/-! Choices by groups of lanes. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

/-- The lane groups of 64, as the kernel counts them. -/
theorem group_at (q : Fin 1) (l : Fin 256) : k0_pay13 (ix2 q l) = BitVec.ofNat 32 (l.val / 64) := by
  pointwise [k0_pay13]
  revert l
  decide +kernel

/-- A choice by the lane group. -/
theorem sel_head {α : Type} {l : Fin 256} {g : BitVec 32} (eg : g = BitVec.ofNat 32 (l.val / 64)) (F : Fin 4 → α) {a b c d : α}
    (ea : a = F 0) (eb : b = F 1) (ec : c = F 2) (ed : d = F 3) :
    Scalar.select (IntOp.cmpi .eq g 0#32) a (Scalar.select (IntOp.cmpi .eq g 1#32) b (Scalar.select (IntOp.cmpi .eq g 2#32) c d)) = F (head l) := by
  subst eg ea eb ec ed
  have key : ∀ (k : ℕ) (h : k < 4), Scalar.select (IntOp.cmpi .eq (BitVec.ofNat 32 k) 0#32) (F 0) (Scalar.select (IntOp.cmpi .eq (BitVec.ofNat 32 k) 1#32) (F 1)
      (Scalar.select (IntOp.cmpi .eq (BitVec.ofNat 32 k) 2#32) (F 2) (F 3))) = F ⟨k, h⟩ := by
    intro k h
    interval_cases k <;> rfl
  exact key _ (by omega)

end Cert.MixerKernelIdeal.Mix
-- ==== Proof.MixerBlockC.lean ====
module

public import proofs.«01_k».proof.Proof.MixTiles
public import proofs.«01_k».proof.Proof.Gen.MixerKernelIdeal.Value
public import proofs.«01_k».proof.Proof.Tiles
public import proofs.«01_k».proof.Proof.MixerSel

/-! What the mixer's backward kernel computes for one tile of rows: the gated spatial mixing. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

/-- Row `t` of chunk `n` of a tile. -/
def crow (n : Fin 8) (t : Fin 128) : Fin 1024 := ⟨n.val * 128 + t.val, by omega⟩

/-- Where a row of a chunk is in its chunk. -/
theorem inChunk_row (T n : Fin 8) (t : Fin 128) : inChunk (trow T (crow n t)) = t := by
  refine Fin.ext ?_
  simp only [inChunk, trow, crow]; omega

/-- The rows of its chunk. -/
theorem chunkRow_row (T n : Fin 8) (t s : Fin 128) : chunkRow (trow T (crow n t)) s = trow T (crow n s) := by
  refine Fin.ext ?_
  simp only [chunkRow, trow, crow]; omega

section
variable {p : Fin 8192 → Fin 2048 → ℝ} {gg : Fin 256 → ℝ} {gb : Fin 256 → EReal} {T : Fin 8}
variable {V7 DV : FVec Ideal S1024x256 .f32} {G B G' : FVec Ideal S1x256 .f32}
variable (e7 : ∀ r l, V7 (ix2 r l) = (piece p 7 (trow T r) l : EReal))
variable (eg : ∀ l, G (ix2 0 l) = (gg l : EReal)) (eb : ∀ l, B (ix2 0 l) = gb l) (eg' : ∀ l, G' (ix2 0 l) = (gg l : EReal))

include e7 in
/-- The values less their mean. -/
theorem vc_tile (r : Fin 1024) (l : Fin 256) : k0_pay136 (F := Ideal) V7 (ix2 r l) = (cen (piece p 7 (trow T r)) l : EReal) := by
  pointwise [k0_pay136]
  simp only [e7, lit_256, sum_coe, div_real _ (by norm_num : (256 : ℝ) ≠ 0), ← EReal.coe_sub]
  simp only [cen, mean, Nat.cast_ofNat]

include e7 in
/-- The reciprocal root. -/
theorem vrs_tile (r : Fin 1024) (q : Fin 1) : k0_pay137 (F := Ideal) V7 (ix2 r q) = (invRms (cen (piece p 7 (trow T r))) : EReal) := by
  rw [← invRms_eq, meanEps, Nat.cast_ofNat]
  pointwise [k0_pay137]
  simp only [vc_tile e7, lit_256, lit_eps, sum_coe, ← EReal.coe_mul, div_real _ (by norm_num : (256 : ℝ) ≠ 0), ← EReal.coe_add]
  exact rsqrt_real (by simpa only [meanEps, Nat.cast_ofNat] using meanEps_pos (cen (piece p 7 (trow T r))))

include e7 in
/-- The normed values. -/
theorem vn_tile (r : Fin 1024) (l : Fin 256) : k0_pay138 (F := Ideal) V7 (ix2 r l) = (nrm (piece p 7 (trow T r)) l : EReal) := by
  pointwise [k0_pay138]
  rw [vc_tile e7, vrs_tile e7, ← EReal.coe_mul, nrm]

include e7 eg eb in
/-- The normed, scaled values. -/
theorem vln_tile (r : Fin 1024) (l : Fin 256) :
    k0_pay139 (F := Ideal) V7 (k0_pay134 G) (k0_pay135 B) (ix2 r l) = valLnE p gg gb (trow T r) l := by
  pointwise [k0_pay139, k0_pay134, k0_pay135]
  rw [vn_tile e7, eg, eb, ← EReal.coe_mul, valLnE]

variable {dv : Fin 8192 → Fin 256 → ℝ} (ed : ∀ r l, DV (ix2 r l) = (dv (trow T r) l : EReal))

include e7 eg' ed in
/-- The derivative by the values before their norm. -/
theorem dval_tile (r : Fin 1024) (l : Fin 256) :
    k0_pay271 (F := Ideal) (k0_pay137 V7) (k0_pay138 V7) DV G' (ix2 r l)
      = ((lnBack (piece p 7 (trow T r)) (fun k => dv (trow T r) k * gg k) l : ℝ) : EReal) := by
  pointwise [k0_pay271]
  simp only [ed, vn_tile e7, vrs_tile e7, eg', lit_256, sum_coe, ← EReal.coe_mul, div_real _ (by norm_num : (256 : ℝ) ≠ 0), ← EReal.coe_sub]
  simp only [lnBack, Nat.cast_ofNat]

include e7 ed in
/-- The tile's part of the derivative by the gains. -/
theorem dgg_tile (O : FVec Ideal S1x256 .f32) (l : Fin 256) :
    k0_pay272 (F := Ideal) (k0_pay138 V7) DV O (ix2 (0 : Fin 1) l)
      = O (ix2 0 l) + ((∑ r, dv (trow T r) l * nrm (piece p 7 (trow T r)) l : ℝ) : EReal) := by
  pointwise [k0_pay272]
  simp only [ed, vn_tile e7, ← EReal.coe_mul, sum_coe]

include ed in
/-- The tile's part of the derivative by the offsets. -/
theorem dgb_tile (O : FVec Ideal S1x256 .f32) (l : Fin 256) :
    k0_pay273 (F := Ideal) DV O (ix2 (0 : Fin 1) l) = O (ix2 0 l) + ((∑ r, dv (trow T r) l : ℝ) : EReal) := by
  pointwise [k0_pay273]
  simp only [ed, sum_coe]
end

section
variable {p : Fin 8192 → Fin 2048 → ℝ} {gg : Fin 256 → ℝ} {gb : Fin 256 → EReal} {ws : Fin 4 → Fin 128 → Fin 128 → ℝ}
variable {bs : Fin 4 → Fin 128 → EReal} {dmx : Fin 8192 → Fin 1024 → ℝ} {T : Fin 8}
variable {DD V7 : FVec Ideal S1024x256 .f32} {VL : FVec Ideal S1024x256 .bf16} {G B : FVec Ideal S1x256 .f32}
variable {W WT : FVec Ideal S512x128 .bf16} {BI : FVec Ideal S128x256 .f32} {P6 : Fin 8 → FVec Ideal S128x256 .f32}
variable (edd : ∀ r l, DD (ix2 r l) = (dmx (trow T r) (mcol 3 l) : EReal))
variable (ev : ∀ r l, VL (ix2 r l) = valLnE p gg gb (trow T r) l)
variable (ew : ∀ (J : Fin 512) (h : Fin 4) (t s : Fin 128), J.val = h.val * 128 + t.val → W (ix2 J s) = (causal ws h t s : EReal))
variable (ewt : ∀ (J : Fin 512) (h : Fin 4) (s t : Fin 128), J.val = h.val * 128 + s.val → WT (ix2 J t) = (causal ws h t s : EReal))
variable (ebi : ∀ t l, BI (ix2 t l) = bs (head l) t)
variable (e6 : ∀ n t l, P6 n (ix2 t l) = (piece p 6 (trow T (crow n t)) l : EReal))

/-- The eight chunks' derivative by the mixed values, as the kernel computes them. -/
def dmxOf (DD : FVec Ideal S1024x256 .f32) (P6 : Fin 8 → FVec Ideal S128x256 .f32) : Fin 8 → FVec Ideal S128x256 .f32 :=
  ![k0_pay143 (F := Ideal) DD (P6 0), k0_pay155 (F := Ideal) (k0_pay153 DD) (P6 1), k0_pay171 (F := Ideal) DD (P6 2), k0_pay183 (F := Ideal) DD (P6 3),
    k0_pay205 (F := Ideal) DD (P6 4), k0_pay230 (F := Ideal) DD (P6 5), k0_pay245 (F := Ideal) DD (P6 6), k0_pay257 (F := Ideal) (k0_pay255 DD) (P6 7)]

include edd e6 in
/-- A chunk's derivative by the mixed values. -/
theorem dmx_tile (n : Fin 8) (t : Fin 128) (l : Fin 256) : dmxOf DD P6 n (ix2 t l) = (dMixed p dmx (trow T (crow n t)) l : EReal) := by
  have row : ∀ (r : Fin 1024) (h : r.val = n.val * 128 + t.val), r = crow n t := fun r h => Fin.ext h
  rw [dMixed, EReal.coe_mul]
  fin_cases n
  all_goals
    simp only [dmxOf]
    pointwise [k0_pay141, k0_pay143, k0_pay153, k0_pay155, k0_pay169, k0_pay171, k0_pay181, k0_pay183, k0_pay203, k0_pay205, k0_pay228, k0_pay230, k0_pay243, k0_pay245, k0_pay255, k0_pay257]
    refine congrArg₂ (· * ·) ((edd _ _).trans ?_) (e6 _ _ _)
    exact congrArg (fun r => ((dmx (trow T r) (mcol 3 l) : ℝ) : EReal)) (row _ (by simp))

/-- The same with the rounded type. -/
def dmbOf (DD : FVec Ideal S1024x256 .f32) (P6 : Fin 8 → FVec Ideal S128x256 .f32) : Fin 8 → FVec Ideal S128x256 .bf16 :=
  ![k0_pay145 (F := Ideal) DD (P6 0), k0_pay157 (F := Ideal) (k0_pay153 DD) (P6 1), k0_pay173 (F := Ideal) (k0_pay171 DD (P6 2)), k0_pay185 (F := Ideal) DD (P6 3),
    k0_pay207 (F := Ideal) DD (P6 4), k0_pay232 (F := Ideal) DD (P6 5), k0_pay247 (F := Ideal) DD (P6 6), k0_pay259 (F := Ideal) (k0_pay255 DD) (P6 7)]

include edd e6 in
/-- A chunk's derivative by the mixed values, in the rounded type. -/
theorem dmb_tile (n : Fin 8) (t : Fin 128) (l : Fin 256) : dmbOf DD P6 n (ix2 t l) = (dMixed p dmx (trow T (crow n t)) l : EReal) := by
  rw [← dmx_tile edd e6 n t l]
  fin_cases n
  all_goals
    simp only [dmbOf, dmxOf]
    pointwise [k0_pay145, k0_pay157, k0_pay173, k0_pay185, k0_pay207, k0_pay232, k0_pay247, k0_pay259]
  all_goals rfl

/-- The biases' derivative as a tile adds to it. -/
def dbiasOf (DD : FVec Ideal S1024x256 .f32) (P6 : Fin 8 → FVec Ideal S128x256 .f32) (O : FVec Ideal S128x256 .f32) : FVec Ideal S128x256 .f32 :=
  k0_pay258 (F := Ideal) (k0_pay255 DD) (P6 7) (k0_pay246 DD (P6 6) (k0_pay231 DD (P6 5) (k0_pay206 DD (P6 4) (k0_pay184 DD (P6 3)
    (k0_pay172 DD (P6 2) (k0_pay156 (k0_pay153 DD) (P6 1) (k0_pay144 DD (P6 0) O)))))))

include edd e6 in
/-- A tile adds its eight chunks. -/
theorem dbias_tile (O : FVec Ideal S128x256 .f32) (t : Fin 128) (l : Fin 256) :
    dbiasOf DD P6 O (ix2 t l) = O (ix2 t l) + ((∑ n, dMixed p dmx (trow T (crow n t)) l : ℝ) : EReal) := by
  have e := fun n => dmx_tile edd e6 n t l
  have e0 := e 0
  have e1 := e 1
  have e2 := e 2
  have e3 := e 3
  have e4 := e 4
  have e5 := e 5
  have e6 := e 6
  have e7 := e 7
  simp only [dmxOf] at e0 e1 e2 e3 e4 e5 e6 e7
  unfold dbiasOf
  pointwise [k0_pay258, k0_pay246, k0_pay231, k0_pay206, k0_pay184, k0_pay172, k0_pay156, k0_pay144]
  rw [← sum_coe]
  simp only [← e, Fin.sum_univ_eight, ← add_assoc]
  rfl

end

end Cert.MixerKernelIdeal.Mix
-- ==== Proof.MixerRows.lean ====
module

public import proofs.«01_k».proof.Proof.MixerBlockC
public import proofs.«01_k».proof.Proof.MixerBlockA

/-! Buffers the mixer's backward kernel stores piece by piece: rows and blocks that are read, added to and stored again. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

section
variable {sig : RefSig} {κ : Kind} {sp : Space} {h w : ℕ}

/-- A load of a part of a buffer that was stored piece by piece reads what the stores left there. -/
theorem part_loaded {p q a b : ℕ} (v : View sig κ sp (⟨2, ![h, w]⟩ : Shape) .f32) (L : List (View.Piece (Elt Ideal) (⟨2, ![h, w]⟩ : Shape) .f32))
    (inb : ∀ d : Fin 2, (![p, q] : Fin 2 → ℕ) d + (![a, b] : Fin 2 → ℕ) d ≤ (![h, w] : Fin 2 → ℕ) d) (i : Fin a) (j : Fin b) (I : Fin h) (J : Fin w)
    (eI : I.val = p + i.val) (eJ : J.val = q + j.val) :
    v.readCov L (Rect.unit (s := ⟨2, ![h, w]⟩) ![p, q] ![a, b] inb).toLoadRect (ix2 i j) = View.canon L (ix2 I J) := by
  rw [View.readCov_eq_canon']
  exact congrArg (View.canon L) (funext fun d => by
    fin_cases d
    · exact Fin.ext (show p + 1 * i.val = I.val by omega)
    · exact Fin.ext (show q + 1 * j.val = J.val by omega))

/-- The rows of a buffer, of which those listed were added to. -/
def RowsOk (R old : (⟨2, ![h, w]⟩ : Shape).Idx → EReal) (part : ℕ → Fin w → EReal) (S : List ℕ) : Prop :=
  ∀ (a : Fin h) (l : Fin w), R (ix2 a l) = old (ix2 a l) + if a.val ∈ S then part a.val l else 0

/-- No row added to. -/
theorem rows_none {R old : (⟨2, ![h, w]⟩ : Shape).Idx → EReal} (part : ℕ → Fin w → EReal) (e : R = old) : RowsOk R old part [] :=
  fun a l => by rw [e, if_neg (by simp), add_zero]

/-- A row loaded after the earlier stores, added to and stored. -/
theorem rows_read (v : View sig κ sp (⟨2, ![h, w]⟩ : Shape) .f32) {o : ℕ}
    {inb inb' : ∀ a : Fin 2, (![o, 0] : Fin 2 → ℕ) a + (![1, w] : Fin 2 → ℕ) a ≤ (![h, w] : Fin 2 → ℕ) a}
    {P : (⟨2, ![1, w]⟩ : Shape).Idx → EReal} {L : List (View.Piece (Elt Ideal) (⟨2, ![h, w]⟩ : Shape) .f32)}
    {old : (⟨2, ![h, w]⟩ : Shape).Idx → EReal} {part : ℕ → Fin w → EReal} {S : List ℕ}
    (hP : ∀ l, P (ix2 0 l) = v.readCov L (Rect.unit (s := ⟨2, ![h, w]⟩) ![o, 0] ![1, w] inb').toLoadRect (ix2 (0 : Fin 1) l) + part o l)
    (no : o ∉ S) (hL : RowsOk (View.canon L) old part S) :
    RowsOk (View.canon ((⟨Rect.unit (s := ⟨2, ![h, w]⟩) ![o, 0] ![1, w] inb, P⟩ : View.Piece (Elt Ideal) (⟨2, ![h, w]⟩ : Shape) .f32) :: L)) old part (o :: S) := by
  intro a l
  rw [row_over]
  by_cases ha : a.val = o
  · subst ha
    rw [if_pos rfl, hP, part_loaded v L _ 0 l a l rfl (Nat.zero_add _).symm, hL, if_neg no, add_zero, if_pos (by simp)]
  · rw [if_neg ha, hL]
    simp only [List.mem_cons, ha, false_or]

/-- A row loaded from what the buffer held before, added to and stored. -/
theorem rows_load (v : View sig κ sp (⟨2, ![h, w]⟩ : Shape) .f32) (f : v.ty.Contents (Elt Ideal)) {o : ℕ}
    {inb inb' : ∀ a : Fin 2, (![o, 0] : Fin 2 → ℕ) a + (![1, w] : Fin 2 → ℕ) a ≤ (![h, w] : Fin 2 → ℕ) a}
    {P : (⟨2, ![1, w]⟩ : Shape).Idx → EReal} {L : List (View.Piece (Elt Ideal) (⟨2, ![h, w]⟩ : Shape) .f32)}
    {old : (⟨2, ![h, w]⟩ : Shape).Idx → EReal} {part : ℕ → Fin w → EReal} {S : List ℕ}
    (hP : ∀ l, P (ix2 0 l) = View.ld (Val := Elt Ideal) (e' := .f32) old (Rect.unit (s := ⟨2, ![h, w]⟩) ![o, 0] ![1, w] inb') (ix2 (0 : Fin 1) l) + part o l)
    (hL : RowsOk (v.read (Elt Ideal) (v.writes (Elt Ideal) f L)) old part S) :
    RowsOk (v.read (Elt Ideal) (v.writes (Elt Ideal) f ((⟨Rect.unit (s := ⟨2, ![h, w]⟩) ![o, 0] ![1, w] inb, P⟩ : View.Piece (Elt Ideal) (⟨2, ![h, w]⟩ : Shape) .f32) :: L)))
      old part (o :: S) := by
  intro a l
  rw [row_written]
  by_cases ha : a.val = o
  · subst ha
    rw [if_pos rfl, hP, loaded_at (Val := Elt Ideal) (e := .f32) old _ 0 l a l rfl (Nat.zero_add _).symm, if_pos (by simp)]
  · rw [if_neg ha, hL]
    simp only [List.mem_cons, ha, false_or]

/-- Where a stored part of a buffer lies. -/
theorem in_part {p q a b : ℕ} (inb : ∀ d : Fin 2, (![p, q] : Fin 2 → ℕ) d + (![a, b] : Fin 2 → ℕ) d ≤ (![h, w] : Fin 2 → ℕ) d) (r : Fin h) (f : Fin w)
    (h1 : p ≤ r.val) (h2 : r.val < p + a) (h3 : q ≤ f.val) (h4 : f.val < q + b) :
    (ix2 r f : (⟨2, ![h, w]⟩ : Shape).Idx) ∈ (Rect.unit (s := ⟨2, ![h, w]⟩) ![p, q] ![a, b] inb).set := by
  rw [Rect.mem_set_unit]
  intro d
  fin_cases d
  · exact ⟨h1, h2⟩
  · exact ⟨h3, h4⟩

/-- A piece that computes the matching part of one function. -/
theorem part_ok {e : EltTy} {p q a b : ℕ} (inb : ∀ d : Fin 2, (![p, q] : Fin 2 → ℕ) d + (![a, b] : Fin 2 → ℕ) d ≤ (![h, w] : Fin 2 → ℕ) d)
    {P : (⟨2, ![a, b]⟩ : Shape).Idx → Elt Ideal e} {G : Fin h → Fin w → Elt Ideal e} (I : Fin a → Fin h) (J : Fin b → Fin w)
    (hP : ∀ i j, P (ix2 i j) = G (I i) (J j)) (eI : ∀ i, (I i).val = p + i.val) (eJ : ∀ j, (J j).val = q + j.val) (y : (⟨2, ![a, b]⟩ : Shape).Idx) :
    P y = (fun z : (⟨2, ![h, w]⟩ : Shape).Idx => G (z 0) (z 1)) ((Rect.unit (s := ⟨2, ![h, w]⟩) ![p, q] ![a, b] inb).emb y) := by
  refine (congrArg P (eq_ix2 y)).trans ((hP (y 0) (y 1)).trans (congrArg₂ G ?_ ?_))
  · exact Fin.ext ((eI _).trans (show p + (y 0).val = p + 1 * (y 0).val by omega))
  · exact Fin.ext ((eJ _).trans (show q + (y 1).val = q + 1 * (y 1).val by omega))

/-- A piece of a list. -/
theorem hit {s : Shape} {e : EltTy} {L : List (View.Piece (Elt Ideal) s e)} {y : s.Idx} (i : ℕ) (p : View.Piece (Elt Ideal) s e)
    (hp : L[i]? = some p) (hy : y ∈ p.1.set) : ∃ p ∈ L, y ∈ p.1.set := ⟨p, List.mem_of_getElem? hp, hy⟩
end

/-- The stores of a tile of the derivative by the projected activations: seven pieces of 256 columns whole, the seventh by chunks of rows. -/
def dpList (P0 P1 P2 P3 P4 P5 P7 : FVec Ideal S1024x256 .bf16) (P6 : Fin 8 → FVec Ideal S128x256 .bf16) : List (View.Piece (Elt Ideal) S1024x2048 .bf16) :=
  ⟨Rect.unit (s := S1024x2048) ![0, 1792] ![1024, 256] inb_S1024x2048_S1024x256_0_1792, P7⟩ ::
  (([7, 6, 5, 4, 3, 2, 1, 0] : List (Fin 8)).map fun n =>
    ⟨Rect.unit (s := S1024x2048) ![n.val * 128, 1536] ![128, 256] (by intro a; fin_cases a <;> simp <;> omega), P6 n⟩) ++
  [⟨Rect.unit (s := S1024x2048) ![0, 1280] ![1024, 256] inb_S1024x2048_S1024x256_0_1280, P5⟩,
   ⟨Rect.unit (s := S1024x2048) ![0, 1024] ![1024, 256] inb_S1024x2048_S1024x256_0_1024, P4⟩,
   ⟨Rect.unit (s := S1024x2048) ![0, 768] ![1024, 256] inb_S1024x2048_S1024x256_0_768, P3⟩,
   ⟨Rect.unit (s := S1024x2048) ![0, 512] ![1024, 256] inb_S1024x2048_S1024x256_0_512, P2⟩,
   ⟨Rect.unit (s := S1024x2048) ![0, 256] ![1024, 256] inb_S1024x2048_S1024x256_0_256, P1⟩,
   ⟨Rect.unit (s := S1024x2048) ![0, 0] ![1024, 256] inb_S1024x2048_S1024x256_0_0, P0⟩]

section
variable {P0 P1 P2 P3 P4 P5 P7 : FVec Ideal S1024x256 .bf16} {P6 : Fin 8 → FVec Ideal S128x256 .bf16} {G : Fin 1024 → Fin 2048 → EReal}

/-- Where each store computes the matching entry of one function, the stores leave that function. -/
theorem dp_canon (h0 : ∀ r l, P0 (ix2 r l) = G r (pcol 0 l)) (h1 : ∀ r l, P1 (ix2 r l) = G r (pcol 1 l)) (h2 : ∀ r l, P2 (ix2 r l) = G r (pcol 2 l))
    (h3 : ∀ r l, P3 (ix2 r l) = G r (pcol 3 l)) (h4 : ∀ r l, P4 (ix2 r l) = G r (pcol 4 l)) (h5 : ∀ r l, P5 (ix2 r l) = G r (pcol 5 l))
    (h7 : ∀ r l, P7 (ix2 r l) = G r (pcol 7 l)) (h6 : ∀ n t l, P6 n (ix2 t l) = G (crow n t) (pcol 6 l)) (r : Fin 1024) (f : Fin 2048) :
    View.canon (dpList P0 P1 P2 P3 P4 P5 P7 P6) (ix2 r f) = G r f := by
  refine View.canon_apply_of_pieces (Val := Elt Ideal) (e := .bf16) (fun y : S1024x2048.Idx => G (y 0) (y 1)) _ ?_ _ ?_
  · intro p hp y
    rcases List.mem_append.mp hp with hp | hp
    · rcases List.mem_cons.mp hp with rfl | hp
      · exact part_ok (e := .bf16) inb_S1024x2048_S1024x256_0_1792 id (pcol 7) h7 (fun _ => (Nat.zero_add _).symm) (fun _ => rfl) y
      · obtain ⟨n, -, rfl⟩ := List.mem_map.mp hp
        exact part_ok (e := .bf16) (by intro a; fin_cases a <;> simp <;> omega) (crow n) (pcol 6) (h6 n) (fun _ => rfl) (fun _ => rfl) y
    · simp only [List.mem_cons, List.not_mem_nil, or_false] at hp
      rcases hp with rfl | rfl | rfl | rfl | rfl | rfl
      · exact part_ok (e := .bf16) inb_S1024x2048_S1024x256_0_1280 id (pcol 5) h5 (fun _ => (Nat.zero_add _).symm) (fun _ => rfl) y
      · exact part_ok (e := .bf16) inb_S1024x2048_S1024x256_0_1024 id (pcol 4) h4 (fun _ => (Nat.zero_add _).symm) (fun _ => rfl) y
      · exact part_ok (e := .bf16) inb_S1024x2048_S1024x256_0_768 id (pcol 3) h3 (fun _ => (Nat.zero_add _).symm) (fun _ => rfl) y
      · exact part_ok (e := .bf16) inb_S1024x2048_S1024x256_0_512 id (pcol 2) h2 (fun _ => (Nat.zero_add _).symm) (fun _ => rfl) y
      · exact part_ok (e := .bf16) inb_S1024x2048_S1024x256_0_256 id (pcol 1) h1 (fun _ => (Nat.zero_add _).symm) (fun _ => rfl) y
      · exact part_ok (e := .bf16) inb_S1024x2048_S1024x256_0_0 id (pcol 0) h0 (fun _ => (Nat.zero_add _).symm) (fun _ => rfl) y
  · have hr := r.isLt
    by_cases h6 : 1536 ≤ f.val ∧ f.val < 1792
    · refine ⟨_, List.mem_append_left _ (List.mem_cons_of_mem _ (List.mem_map.mpr ⟨⟨r.val / 128, by omega⟩, ?_, rfl⟩)), in_part (by intro a; fin_cases a <;> simp <;> omega) _ _ ?_ ?_ h6.1 h6.2⟩
      · generalize (⟨r.val / 128, by omega⟩ : Fin 8) = j
        revert j; decide
      · show r.val / 128 * 128 ≤ r.val; omega
      · show r.val < r.val / 128 * 128 + 128; omega
    · by_cases a7 : 1792 ≤ f.val
      · exact hit 0 _ rfl (in_part inb_S1024x2048_S1024x256_0_1792 _ _ (by omega) (by omega) a7 (by omega))
      by_cases a5 : 1280 ≤ f.val
      · exact hit 9 _ rfl (in_part inb_S1024x2048_S1024x256_0_1280 _ _ (by omega) (by omega) a5 (by omega))
      by_cases a4 : 1024 ≤ f.val
      · exact hit 10 _ rfl (in_part inb_S1024x2048_S1024x256_0_1024 _ _ (by omega) (by omega) a4 (by omega))
      by_cases a3 : 768 ≤ f.val
      · exact hit 11 _ rfl (in_part inb_S1024x2048_S1024x256_0_768 _ _ (by omega) (by omega) a3 (by omega))
      by_cases a2 : 512 ≤ f.val
      · exact hit 12 _ rfl (in_part inb_S1024x2048_S1024x256_0_512 _ _ (by omega) (by omega) a2 (by omega))
      by_cases a1 : 256 ≤ f.val
      · exact hit 13 _ rfl (in_part inb_S1024x2048_S1024x256_0_256 _ _ (by omega) (by omega) a1 (by omega))
      exact hit 14 _ rfl (in_part inb_S1024x2048_S1024x256_0_0 _ _ (by omega) (by omega) (by omega) (by omega))
end

/-- The stores of a tile by chunks of 128 rows. -/
def chunkList (P : Fin 8 → FVec Ideal S128x256 .f32) : List (View.Piece (Elt Ideal) S1024x256 .f32) :=
  ([7, 6, 5, 4, 3, 2, 1, 0] : List (Fin 8)).map fun n =>
    ⟨Rect.unit (s := S1024x256) ![n.val * 128, 0] ![128, 256] (by intro a; fin_cases a <;> simp <;> omega), P n⟩

/-- The chunks of a tile, read back. -/
theorem chunk_canon {P : Fin 8 → FVec Ideal S128x256 .f32} {G : Fin 1024 → Fin 256 → EReal} (h : ∀ n t l, P n (ix2 t l) = G (crow n t) l)
    (r : Fin 1024) (l : Fin 256) : View.canon (chunkList P) (ix2 r l) = G r l := by
  refine View.canon_apply_of_pieces (Val := Elt Ideal) (e := .f32) (fun y : S1024x256.Idx => G (y 0) (y 1)) _ ?_ _ ?_
  · intro p hp y
    obtain ⟨n, -, rfl⟩ := List.mem_map.mp hp
    exact part_ok (e := .f32) (by intro a; fin_cases a <;> simp <;> omega) (crow n) id (h n) (fun _ => rfl) (fun _ => (Nat.zero_add _).symm) y
  · refine ⟨_, List.mem_map.mpr ⟨⟨r.val / 128, by omega⟩, ?_, rfl⟩, in_part (by intro a; fin_cases a <;> simp <;> omega) _ _ ?_ ?_ (Nat.zero_le _) (by omega)⟩
    · generalize (⟨r.val / 128, by omega⟩ : Fin 8) = j
      revert j; decide
    · show r.val / 128 * 128 ≤ r.val; omega
    · show r.val < r.val / 128 * 128 + 128; omega

/-- The stores of the eight shifted copies of a tile. -/
def shiftList (P : Fin 8 → FVec Ideal S1x1056x256 .f32) : List (View.Piece (Elt Ideal) S8x1056x256 .f32) :=
  ([7, 6, 5, 4, 3, 2, 1, 0] : List (Fin 8)).map fun n =>
    ⟨Rect.unit (s := S8x1056x256) ![n.val, 0, 0] ![1, 1056, 256] (by intro a; fin_cases a <;> simp <;> omega), P n⟩

/-- The shifted copies, read back. -/
theorem shift_canon (P : Fin 8 → FVec Ideal S1x1056x256 .f32) (k : Fin 8) (j : Fin 1056) (l : Fin 256) :
    View.canon (shiftList P) (ix3 k j l) = P k (ix3 0 j l) := by
  refine View.canon_apply_of_pieces (Val := Elt Ideal) (e := .f32) (fun y : S8x1056x256.Idx => P (y 0) (ix3 0 (y 1) (y 2))) _ ?_ _ ?_
  · intro p hp y
    obtain ⟨n, -, rfl⟩ := List.mem_map.mp hp
    have e0 : (y 0).val = 0 := by have : (y 0).val < 1 := (y 0).isLt; omega
    have en : ((Rect.unit (s := S8x1056x256) ![n.val, 0, 0] ![1, 1056, 256] (by intro a; fin_cases a <;> simp <;> omega)).emb y) 0 = n :=
      Fin.ext (show n.val + 1 * (y 0).val = n.val by omega)
    refine Eq.trans ?_ (congrArg (fun q => P q (ix3 0 _ _)) en.symm)
    refine congrArg (P n) (funext fun d => ?_)
    fin_cases d
    · exact Fin.ext e0
    · exact Fin.ext (show (y 1).val = 0 + 1 * (y 1).val by omega)
    · exact Fin.ext (show (y 2).val = 0 + 1 * (y 2).val by omega)
  · refine ⟨_, List.mem_map.mpr ⟨k, ?_, rfl⟩, ?_⟩
    · revert k; decide
    · rw [Rect.mem_set_unit]
      intro d
      fin_cases d
      · exact ⟨le_refl k.val, Nat.lt_succ_self k.val⟩
      · exact ⟨Nat.zero_le _, by show j.val < 0 + 1056; omega⟩
      · exact ⟨Nat.zero_le _, by show l.val < 0 + 256; omega⟩

/-- A load of 1024 rows of one of the shifted copies. -/
theorem shift_loaded (v : View sig .tc .vmem S8x1056x256 .f32) (P : Fin 8 → FVec Ideal S1x1056x256 .f32) {rr off : ℕ}
    {inb : ∀ d : Fin 3, (![rr, off, 0] : Fin 3 → ℕ) d + (![1, 1024, 256] : Fin 3 → ℕ) d ≤ (![8, 1056, 256] : Fin 3 → ℕ) d}
    (R : Fin 8) (eR : R.val = rr) (ho : off ≤ 32) (r : Fin 1024) (l : Fin 256) :
    v.readCov (shiftList P) (Rect.unit (s := S8x1056x256) ![rr, off, 0] ![1, 1024, 256] inb).toLoadRect (ix3 (0 : Fin 1) r l)
      = P R (ix3 0 ⟨off + r.val, by omega⟩ l) := by
  rw [View.readCov_eq_canon', ← shift_canon P]
  exact congrArg (View.canon (shiftList P)) (funext fun d => by
    fin_cases d
    · exact Fin.ext (show rr + 1 * 0 = R.val by omega)
    · exact Fin.ext (show off + 1 * r.val = off + r.val by omega)
    · exact Fin.ext (show 0 + 1 * l.val = l.val by omega))

section
variable {sg : RefSig} {κ : Kind} {sp : Space}

/-- A store of one block of 128 rows over any earlier stores. -/
theorem block_over {o : ℕ} (inb : ∀ a : Fin 2, (![o, 0] : Fin 2 → ℕ) a + (![128, 128] : Fin 2 → ℕ) a ≤ (![512, 128] : Fin 2 → ℕ) a)
    (P : FVec Ideal S128x128 .f32) (L : List (View.Piece (Elt Ideal) S512x128 .f32)) (H : Fin 4) (eo : o = H.val * 128) (h : Fin 4) (t s : Fin 128) :
    View.canon ((⟨Rect.unit (s := S512x128) ![o, 0] ![128, 128] inb, P⟩ : View.Piece (Elt Ideal) S512x128 .f32) :: L) (ix2 (⟨h.val * 128 + t.val, by omega⟩ : Fin 512) s)
      = if h = H then P (ix2 t s) else View.canon L (ix2 (⟨h.val * 128 + t.val, by omega⟩ : Fin 512) s) := by
  subst eo
  by_cases e : h = H
  · subst e
    rw [if_pos rfl]
    have hi : (ix2 (⟨h.val * 128 + t.val, by omega⟩ : Fin 512) s : S512x128.Idx) = (Rect.unit (s := S512x128) ![h.val * 128, 0] ![128, 128] inb).emb (ix2 t s) :=
      funext fun d => by
        fin_cases d
        · exact Fin.ext (show h.val * 128 + t.val = h.val * 128 + 1 * t.val by omega)
        · exact Fin.ext (show s.val = 0 + 1 * s.val by omega)
    rw [hi]
    exact View.canon_cons_emb _ _ _ _
  · rw [if_neg e]
    refine View.canon_cons_of_not_mem _ _ ?_
    rw [Rect.mem_set_unit]
    intro all
    have h0 : H.val * 128 ≤ h.val * 128 + t.val ∧ h.val * 128 + t.val < H.val * 128 + 128 := all 0
    exact e (Fin.ext (by omega))

/-- The blocks of a buffer after the first `i` of its additions: the four blocks in turn, eight times; with `full` also the blocks not yet stored. -/
def BlocksOk (full : Prop) (R old : FVec Ideal S512x128 .f32) (add : ℕ → Fin 4 → Fin 128 → Fin 128 → EReal) (i : ℕ) : Prop :=
  ∀ (h : Fin 4) (t s : Fin 128), full ∨ h.val < i → R (ix2 (⟨h.val * 128 + t.val, by omega⟩ : Fin 512) s)
    = old (ix2 (⟨h.val * 128 + t.val, by omega⟩ : Fin 512) s) + ∑ n ∈ Finset.range ((i + 3 - h.val) / 4), add n h t s

/-- A block added to and stored. -/
theorem blocks_step {full : Prop} {o i : ℕ} {inb : ∀ a : Fin 2, (![o, 0] : Fin 2 → ℕ) a + (![128, 128] : Fin 2 → ℕ) a ≤ (![512, 128] : Fin 2 → ℕ) a}
    {P : FVec Ideal S128x128 .f32} {L : List (View.Piece (Elt Ideal) S512x128 .f32)} {old : FVec Ideal S512x128 .f32}
    {add : ℕ → Fin 4 → Fin 128 → Fin 128 → EReal} (H : Fin 4) (eH : H.val = i % 4) (eo : o = H.val * 128)
    (hP : ∀ t s, P (ix2 t s) = (old (ix2 (⟨H.val * 128 + t.val, by omega⟩ : Fin 512) s) + ∑ n ∈ Finset.range (i / 4), add n H t s) + add (i / 4) H t s)
    (hL : BlocksOk full (View.canon L) old add i) :
    BlocksOk full (View.canon ((⟨Rect.unit (s := S512x128) ![o, 0] ![128, 128] inb, P⟩ : View.Piece (Elt Ideal) S512x128 .f32) :: L)) old add (i + 1) := by
  intro h t s hc
  rw [block_over inb P L H eo]
  by_cases e : h = H
  · subst e
    rw [if_pos rfl, hP, show (i + 1 + 3 - h.val) / 4 = i / 4 + 1 by omega, Finset.sum_range_succ, add_assoc]
  · rw [if_neg e]
    have ne : h.val ≠ H.val := fun c => e (Fin.ext c)
    rw [hL h t s (hc.imp id fun c => by omega), show (i + 1 + 3 - h.val) / 4 = (i + 3 - h.val) / 4 by omega]

/-- A block loaded after the earlier stores, added to and stored. -/
theorem blocks_read (v : View sg κ sp S512x128 .f32) {full : Prop} {o i : ℕ}
    {inb inb' : ∀ a : Fin 2, (![o, 0] : Fin 2 → ℕ) a + (![128, 128] : Fin 2 → ℕ) a ≤ (![512, 128] : Fin 2 → ℕ) a}
    {P : FVec Ideal S128x128 .f32} {L : List (View.Piece (Elt Ideal) S512x128 .f32)} {old : FVec Ideal S512x128 .f32}
    {add : ℕ → Fin 4 → Fin 128 → Fin 128 → EReal} (H : Fin 4) (eH : H.val = i % 4) (eo : o = H.val * 128) (hf : full ∨ 4 ≤ i)
    (hP : ∀ t s, P (ix2 t s) = v.readCov L (Rect.unit (s := S512x128) ![o, 0] ![128, 128] inb').toLoadRect (ix2 t s) + add (i / 4) H t s)
    (hL : BlocksOk full (View.canon L) old add i) :
    BlocksOk full (View.canon ((⟨Rect.unit (s := S512x128) ![o, 0] ![128, 128] inb, P⟩ : View.Piece (Elt Ideal) S512x128 .f32) :: L)) old add (i + 1) :=
  blocks_step H eH eo (fun t s => by
    rw [hP, part_loaded v L inb' t s (⟨H.val * 128 + t.val, by omega⟩ : Fin 512) s (by subst eo; rfl) (Nat.zero_add _).symm,
      hL H t s (hf.imp id fun c => by omega), show (i + 3 - H.val) / 4 = i / 4 by omega]) hL

/-- A block loaded from what the buffer held before, added to and stored. -/
theorem blocks_load {full : Prop} {o i : ℕ}
    {inb inb' : ∀ a : Fin 2, (![o, 0] : Fin 2 → ℕ) a + (![128, 128] : Fin 2 → ℕ) a ≤ (![512, 128] : Fin 2 → ℕ) a}
    {P : FVec Ideal S128x128 .f32} {L : List (View.Piece (Elt Ideal) S512x128 .f32)} {old : FVec Ideal S512x128 .f32}
    {add : ℕ → Fin 4 → Fin 128 → Fin 128 → EReal} (H : Fin 4) (eH : H.val = i % 4) (eo : o = H.val * 128) (hi : i < 4)
    (hP : ∀ t s, P (ix2 t s) = View.ld (Val := Elt Ideal) (e' := .f32) old (Rect.unit (s := S512x128) ![o, 0] ![128, 128] inb') (ix2 t s) + add (i / 4) H t s)
    (hL : BlocksOk full (View.canon L) old add i) :
    BlocksOk full (View.canon ((⟨Rect.unit (s := S512x128) ![o, 0] ![128, 128] inb, P⟩ : View.Piece (Elt Ideal) S512x128 .f32) :: L)) old add (i + 1) :=
  blocks_step H eH eo (fun t s => by
    rw [hP, loaded_at (Val := Elt Ideal) (e := .f32) old inb' t s (⟨H.val * 128 + t.val, by omega⟩ : Fin 512) s (by subst eo; rfl) (Nat.zero_add _).symm,
      show i / 4 = 0 by omega, Finset.sum_range_zero, add_zero]) hL
end

end Cert.MixerKernelIdeal.Mix
-- ==== Proof.MixerBlockB.lean ====
module

public import proofs.«01_k».proof.Proof.MixTiles
public import proofs.«01_k».proof.Proof.Gen.MixerKernelIdeal.Value
public import proofs.«01_k».proof.Proof.Tiles
public import proofs.«01_k».proof.Proof.MixerSel

/-! What the mixer's backward kernel computes for one tile of rows: the short convolution and the pooling. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

section
variable {f : Fin 8192 → Fin 256 → ℝ} {T : Fin 8} {X : FVec Ideal S1024x256 .f32} {C : FVec Ideal S32x256 .f32}
variable (ex : ∀ r l, X (ix2 r l) = (f (trow T r) l : EReal))

include ex in
/-- The tile with the carried rows after it, by cases. -/
theorem lead_dite (ec : ∀ j l, C (ix2 j l) = ((colAt f l ((T.val : ℤ) * 1024 + 1024 + j.val) : ℝ) : EReal))
    (n : ℕ) (c : ¬n < 1024 → n - 1024 < 32) (l : Fin 256) :
    (if h : n < 1024 then X (ix2 ⟨n, h⟩ l) else C (ix2 ⟨n - 1024, c h⟩ l)) = ((colAt f l ((T.val : ℤ) * 1024 + (n : ℕ)) : ℝ) : EReal) := by
  split
  · rw [ex]; exact row_at f l _ _ rfl
  · rw [ec]; exact col_eq _ _ (by simp; omega)

include ex in
/-- One such row as a sum of one. -/
theorem lead_leaf (ec : ∀ j l, C (ix2 j l) = ((colAt f l ((T.val : ℤ) * 1024 + 1024 + j.val) : ℝ) : EReal))
    (n : ℕ) (c : ¬n < 1024 → n - 1024 < 32) (l : Fin 256) (i : ℤ) (e : (T.val : ℤ) * 1024 + (n : ℕ) = i) :
    (if h : n < 1024 then X (ix2 ⟨n, h⟩ l) else C (ix2 ⟨n - 1024, c h⟩ l)) = ((∑ k ∈ Finset.range 1, colAt f l (i + k) : ℝ) : EReal) := by
  rw [lead_dite ex ec n c l, Finset.sum_range_one, e]
  exact col_eq _ _ (by simp)

include ex in
/-- The tile with the rows before it, by cases. -/
theorem trail_dite {H : Fin 32 → EReal} (l : Fin 256)
    (eh : ∀ j, H j = ((colAt f l ((T.val : ℤ) * 1024 - 32 + j.val) : ℝ) : EReal)) (n : ℕ) (c : ¬n < 32 → n - 32 < 1024) :
    (if h : n < 32 then H ⟨n, h⟩ else X (ix2 ⟨n - 32, c h⟩ l)) = ((colAt f l ((T.val : ℤ) * 1024 - 32 + (n : ℕ)) : ℝ) : EReal) := by
  split
  · rw [eh]
  · rw [ex]; exact row_at f l _ _ (by simp; omega)
end

/-- Two neighbouring windows of following rows make one of twice the width. -/
theorem lead_join (f : ℤ → ℝ) (i : ℤ) (w : ℕ) {A B : EReal} (ea : A = ((∑ k ∈ Finset.range w, f (i + k) : ℝ) : EReal))
    (eb : B = ((∑ k ∈ Finset.range w, f (i + w + k) : ℝ) : EReal)) : A + B = ((∑ k ∈ Finset.range (w + w), f (i + k) : ℝ) : EReal) := by
  rw [ea, eb, ← EReal.coe_add, Finset.sum_range_add]
  refine congrArg (fun z : ℝ => (z : EReal)) (congrArg (_ + ·) (Finset.sum_congr rfl fun k _ => congrArg f ?_))
  push_cast; ring

/-- Rolling up by one row, away from the end. -/
theorem up1 (n : ℕ) (e : n < 1055) : (n + 1056 - 1055) % 1056 = n + 1 := by omega
/-- Rolling up by two rows. -/
theorem up2 (n : ℕ) (e : n < 1054) : (n + 1056 - 1054) % 1056 = n + 2 := by omega
/-- Rolling up by four rows. -/
theorem up4 (n : ℕ) (e : n < 1052) : (n + 1056 - 1052) % 1056 = n + 4 := by omega
/-- Rolling up by eight rows. -/
theorem up8 (n : ℕ) (e : n < 1048) : (n + 1056 - 1048) % 1056 = n + 8 := by omega

section
variable {p : Fin 8192 → Fin 2048 → ℝ} {dmx : Fin 8192 → Fin 1024 → ℝ} {sw : Fin 3 → Fin 256 → EReal} {T : Fin 8}
variable {DB V2 V3 V4 : FVec Ideal S1024x256 .f32} {H3 H4 C : FVec Ideal S32x256 .f32} {w8 w7 w6 : FVec Ideal S1x256 .f32}
variable (eb : ∀ r l, DB (ix2 r l) = (dmx (trow T r) (mcol 1 l) : EReal))
variable (e2 : ∀ r l, V2 (ix2 r l) = (piece p 2 (trow T r) l : EReal))
variable (e3 : ∀ r l, V3 (ix2 r l) = (piece p 3 (trow T r) l : EReal)) (e4 : ∀ r l, V4 (ix2 r l) = (piece p 4 (trow T r) l : EReal))
variable (g3 : ∀ j l, H3 (ix2 j l) = (piece p 3 (hrow T j) l : EReal)) (g4 : ∀ j l, H4 (ix2 j l) = (piece p 4 (hrow T j) l : EReal))
variable (e8 : ∀ l, w8 (ix2 0 l) = sw 2 l) (e7 : ∀ l, w7 (ix2 0 l) = sw 1 l) (e6 : ∀ l, w6 (ix2 0 l) = sw 0 l)

include e3 e4 in
/-- The products the short convolution runs over. -/
theorem q_tile (r : Fin 1024) (l : Fin 256) : k0_pay104 (F := Ideal) V3 V4 (ix2 r l) = (prodSx p (trow T r) l : EReal) := by
  pointwise [k0_pay104]
  rw [e3, e4, ← EReal.coe_mul, prodSx]

include e3 e4 g3 g4 in
/-- The same with the rows before the tile. -/
theorem qext_tile (j : Fin 1056) (l : Fin 256) :
    k0_pay105 (F := Ideal) (firstOf T) V3 V4 H3 H4 (ix2 j l) = ((colAt (prodSx p) l ((T.val : ℤ) * 1024 - 32 + j.val) : ℝ) : EReal) := by
  pointwise [k0_pay105]
  split
  · rename_i hj
    rw [g3, g4, ← EReal.coe_mul]
    exact halo_at (T := T) (prodSx p) ⟨j.val, hj⟩ l
  · rw [q_tile e3 e4]
    exact row_at (prodSx p) l _ _ (by simp; omega)

include e3 e4 g3 g4 in
/-- The products one row before. -/
theorem q1_tile (r : Fin 1024) (l : Fin 256) :
    k0_pay106 (F := Ideal) (k0_pay105 (firstOf T) V3 V4 H3 H4) 1#32 (ix2 r l) = ((colAt (prodSx p) l (((trow T r).val : ℤ) - 1) : ℝ) : EReal) := by
  pointwise [k0_pay106]
  rw [qext_tile e3 e4 g3 g4]
  exact col_eq _ _ (by simp [trow]; omega)

include e3 e4 g3 g4 in
/-- The products two rows before. -/
theorem q2_tile (r : Fin 1024) (l : Fin 256) :
    k0_pay107 (F := Ideal) (k0_pay105 (firstOf T) V3 V4 H3 H4) (ix2 r l) = ((colAt (prodSx p) l (((trow T r).val : ℤ) - 2) : ℝ) : EReal) := by
  pointwise [k0_pay107]
  rw [qext_tile e3 e4 g3 g4]
  exact col_eq _ _ (by simp [trow]; omega)

include eb e2 in
/-- The derivative by the short convolution. -/
theorem dcz_tile (r : Fin 1024) (l : Fin 256) : k0_pay108 (F := Ideal) DB V2 (ix2 r l) = (dShort p dmx (trow T r) l : EReal) := by
  pointwise [k0_pay108]
  rw [eb, e2, ← EReal.coe_mul, dShort]

include eb e3 e4 g3 g4 e8 e7 e6 in
/-- The derivative by the short convolution's gate. -/
theorem dp2_tile (r : Fin 1024) (l : Fin 256) :
    k0_pay109 (F := Ideal) DB (k0_pay104 V3 V4) (k0_pay105 (firstOf T) V3 V4 H3 H4) 1#32 w8 w7 w6 (ix2 r l)
      = (dmx (trow T r) (mcol 1 l) : EReal) * shortE p sw (trow T r) l := by
  pointwise [k0_pay109]
  rw [eb, e8, e7, e6, q_tile e3 e4, q1_tile e3 e4 g3 g4, q2_tile e3 e4 g3 g4]
  rfl

include eb e2 e3 e4 in
/-- The tile's part of the last tap of the short convolution. -/
theorem tap2_tile (O : FVec Ideal S1x256 .f32) (l : Fin 256) :
    k0_pay110 (F := Ideal) DB V2 (k0_pay104 V3 V4) O (ix2 (0 : Fin 1) l)
      = O (ix2 0 l) + ((∑ r, dShort p dmx (trow T r) l * colAt (prodSx p) l (((trow T r).val : ℤ) + (2 : Fin 3).val - 2) : ℝ) : EReal) := by
  pointwise [k0_pay110]
  simp only [dcz_tile eb e2, q_tile e3 e4, ← EReal.coe_mul, sum_coe]
  refine congrArg (fun z : ℝ => O (ix2 0 l) + (z : EReal)) (Finset.sum_congr rfl fun r _ => congrArg (dShort p dmx (trow T r) l * ·) ?_)
  exact (colAt_in _ _ _ _ (by simp)).symm

include eb e2 e3 e4 g3 g4 in
/-- The tile's part of the middle tap. -/
theorem tap1_tile (O : FVec Ideal S1x256 .f32) (l : Fin 256) :
    k0_pay111 (F := Ideal) DB V2 (k0_pay105 (firstOf T) V3 V4 H3 H4) 1#32 O (ix2 (0 : Fin 1) l)
      = O (ix2 0 l) + ((∑ r, dShort p dmx (trow T r) l * colAt (prodSx p) l (((trow T r).val : ℤ) + (1 : Fin 3).val - 2) : ℝ) : EReal) := by
  pointwise [k0_pay111]
  simp only [dcz_tile eb e2, q1_tile e3 e4 g3 g4, ← EReal.coe_mul, sum_coe]
  refine congrArg (fun z : ℝ => O (ix2 0 l) + (z : EReal)) (Finset.sum_congr rfl fun r _ => congrArg (dShort p dmx (trow T r) l * ·) ?_)
  exact congrArg (colAt (prodSx p) l) (by simp; omega)

include eb e2 e3 e4 g3 g4 in
/-- The tile's part of the first tap. -/
theorem tap0_tile (O : FVec Ideal S1x256 .f32) (l : Fin 256) :
    k0_pay113 (F := Ideal) (k0_pay112 DB V2 (k0_pay105 (firstOf T) V3 V4 H3 H4)) O (ix2 (0 : Fin 1) l)
      = O (ix2 0 l) + ((∑ r, dShort p dmx (trow T r) l * colAt (prodSx p) l (((trow T r).val : ℤ) + (0 : Fin 3).val - 2) : ℝ) : EReal) := by
  pointwise [k0_pay113, k0_pay112]
  simp only [dcz_tile eb e2, q2_tile e3 e4 g3 g4, ← EReal.coe_mul, sum_coe]
  refine congrArg (fun z : ℝ => O (ix2 0 l) + (z : EReal)) (Finset.sum_congr rfl fun r _ => congrArg (dShort p dmx (trow T r) l * ·) ?_)
  exact congrArg (colAt (prodSx p) l) (by simp)

include eb e2 in
/-- The rows of the short convolution carried to the tile before. -/
theorem dcz_carry (j : Fin 32) (l : Fin 256) :
    k0_pay114 (F := Ideal) (k0_pay108 DB V2) (ix2 j l) = ((colAt (dShort p dmx) l ((T.val : ℤ) * 1024 + j.val) : ℝ) : EReal) := by
  pointwise [k0_pay114]
  rw [dcz_tile eb e2]; exact row_at (dShort p dmx) l _ _ rfl

variable (ec : ∀ j l, C (ix2 j l) = ((colAt (dShort p dmx) l ((T.val : ℤ) * 1024 + 1024 + j.val) : ℝ) : EReal))

include eb e2 e8 e7 e6 ec in
/-- The derivative by the products. -/
theorem dq_tile (r : Fin 1024) (l : Fin 256) :
    k0_pay115 (F := Ideal) (k0_pay108 DB V2) C w8 w7 w6 (ix2 r l) = dProdE p dmx sw (trow T r) l := by
  pointwise [k0_pay115]
  rw [e8, e7, e6, dcz_tile eb e2]
  simp only [lead_dite (f := dShort p dmx) (T := T) (dcz_tile eb e2) ec]
  simp (disch := omega) only [up1, up2]
  unfold dProdE trow
  push_cast
  simp only [add_assoc]

include eb e2 e8 e7 e6 ec e4 in
/-- The derivative by the products' first factor. -/
theorem dp3_tile (r : Fin 1024) (l : Fin 256) :
    k0_pay116 (F := Ideal) V4 (k0_pay108 DB V2) C w8 w7 w6 (ix2 r l) = dProdE p dmx sw (trow T r) l * (piece p 4 (trow T r) l : EReal) := by
  pointwise [k0_pay116]
  rw [dq_tile eb e2 e8 e7 e6 ec, e4]

include eb e2 e8 e7 e6 ec e3 in
/-- The derivative by the products' second factor. -/
theorem dp4_tile (r : Fin 1024) (l : Fin 256) :
    k0_pay117 (F := Ideal) V3 (k0_pay108 DB V2) C w8 w7 w6 (ix2 r l) = (piece p 3 (trow T r) l : EReal) * dProdE p dmx sw (trow T r) l := by
  pointwise [k0_pay117]
  rw [dq_tile eb e2 e8 e7 e6 ec, e3, mul_comm]
end

section
variable {p : Fin 8192 → Fin 2048 → ℝ} {dmx : Fin 8192 → Fin 1024 → ℝ} {pb : Fin 256 → Fin 256 → ℝ} {ps : Fin 256 → ℝ} {T : Fin 8}
variable {DC V5 CN : FVec Ideal S1024x256 .f32} {H5 C : FVec Ideal S32x256 .f32} {PS : FVec Ideal S1x256 .f32} {PB : FVec Ideal S256x256 .bf16}
variable (edc : ∀ r l, DC (ix2 r l) = (dmx (trow T r) (mcol 2 l) : EReal))
variable (e5 : ∀ r l, V5 (ix2 r l) = (piece p 5 (trow T r) l : EReal)) (g5 : ∀ j l, H5 (ix2 j l) = (piece p 5 (hrow T j) l : EReal))
variable (epb : ∀ k l, PB (ix2 k l) = (pb k l : EReal)) (eps : ∀ l, PS (ix2 0 l) = (ps l : EReal))

/-- A window covers at least one row. -/
theorem cntR_ne (r : Fin 8192) (l : Fin 256) : cntR r l ≠ 0 := by
  have h1 : (0 : ℝ) < 1 + (r.val : ℝ) := by positivity
  have h2 : (0 : ℝ) < (wid l : ℝ) := by unfold wid; split_ifs <;> norm_num
  exact (lt_min h1 h2).ne'

/-- The width of a window by the lane group. -/
theorem wid_head (l : Fin 256) : wid l = (![2, 4, 8, 16] : Fin 4 → ℕ) (head l) := by
  revert l; decide +kernel

/-- The number of rows a window covers. -/
theorem cnt_tile (T : Fin 8) (r : Fin 1024) (l : Fin 256) :
    k0_pay118 (F := Ideal) (BitVec.ofNat 32 T.val) k0_pay13 (ix2 r l) = (cntR (trow T r) l : EReal) := by
  pointwise [k0_pay118]
  rw [show IntOp.addi (IntOp.addi (Scalar.muli (BitVec.ofNat 32 T.val) 1024#32) (BitVec.ofNat 32 r.val)) 1#32 = BitVec.ofNat 32 (1 + (trow T r).val) from ?_,
    int_lit _ (by unfold trow; simp; omega), sel_head (group_at 0 l) (fun h => (((![2, 4, 8, 16] : Fin 4 → ℕ) h : ℝ) : EReal)) ?_ ?_ ?_ ?_, cntR, wid_head]
  · rw [show (((1 + (trow T r).val : ℕ) : ℝ)) = 1 + ((trow T r).val : ℝ) from by push_cast; rfl]
    exact (EReal.coe_strictMono.monotone.map_min).symm
  · rw [lit_two]; simp
  · rw [lit_four]; simp
  · rw [lit_eight]; simp
  · rw [lit_sixteen]; simp
  · refine BitVec.eq_of_toNat_eq ?_
    simp [IntOp.addi, Scalar.muli, IntOp.muli, trow]
    omega

include e5 g5 in
/-- The sums of two rows. -/
theorem two_tile (j : Fin 1056) (l : Fin 256) (e : 1 ≤ j.val) :
    k0_pay119 (F := Ideal) (firstOf T) V5 H5 (ix2 j l)
      = ((∑ k ∈ Finset.range 2, colAt (piece p 5) l ((T.val : ℤ) * 1024 - 32 + j.val - k) : ℝ) : EReal) := by
  pointwise [k0_pay119]
  have eh : ∀ j : Fin 32, H5 (ix2 j l) * firstOf T = ((colAt (piece p 5) l ((T.val : ℤ) * 1024 - 32 + j.val) : ℝ) : EReal) := fun j => by
    rw [g5]; exact halo_at _ _ _
  rw [trail_dite (f := piece p 5) (T := T) (H := fun j => H5 (ix2 j l) * firstOf T) e5 l eh,
    trail_dite (f := piece p 5) (T := T) (H := fun j => H5 (ix2 j l) * firstOf T) e5 l eh,
    ← EReal.coe_add, Finset.sum_range_succ, Finset.sum_range_one]
  refine congrArg (fun z : ℝ => (z : EReal)) (congrArg₂ (· + ·) (congrArg _ (by simp)) (congrArg _ ?_))
  push_cast
  omega

/-- Two neighbouring windows make one of twice the width. -/
theorem window_add (f : ℤ → ℝ) (i : ℤ) (w : ℕ) :
    (∑ k ∈ Finset.range w, f (i - k)) + ∑ k ∈ Finset.range w, f (i - w - k) = ∑ k ∈ Finset.range (w + w), f (i - k) := by
  rw [Finset.sum_range_add]
  refine congrArg (_ + ·) (Finset.sum_congr rfl fun k _ => congrArg f ?_)
  push_cast; ring

/-- Joining two neighbouring windows. -/
theorem window_join (f : Fin 8192 → Fin 256 → ℝ) (l : Fin 256) (b : ℤ) (w : ℕ) (j : Fin 1056) (E : FVec Ideal S1056x256 .f32)
    (ee : ∀ j : Fin 1056, w ≤ j.val + 1 → E (ix2 j l) = ((∑ k ∈ Finset.range w, colAt f l (b + j.val - k) : ℝ) : EReal)) (J : Fin 1056)
    (eJ : J.val + w = j.val) (e : w + w ≤ j.val + 1) :
    E (ix2 j l) + E (ix2 J l) = ((∑ k ∈ Finset.range (w + w), colAt f l (b + j.val - k) : ℝ) : EReal) := by
  rw [ee j (by omega), ee J (by omega), ← EReal.coe_add, ← window_add]
  refine congrArg (fun z : ℝ => (z : EReal)) (congrArg (_ + ·) (Finset.sum_congr rfl fun k _ => congrArg _ ?_))
  omega

include e5 g5 in
/-- The sums of four rows. -/
theorem four_tile (j : Fin 1056) (l : Fin 256) (e : 3 ≤ j.val) :
    k0_pay120 (F := Ideal) (firstOf T) V5 H5 (ix2 j l)
      = ((∑ k ∈ Finset.range 4, colAt (piece p 5) l ((T.val : ℤ) * 1024 - 32 + j.val - k) : ℝ) : EReal) := by
  pointwise [k0_pay120]
  exact window_join _ l _ 2 j (k0_pay119 (firstOf T) V5 H5) (fun j e => two_tile e5 g5 j l (by omega)) _ (by simp; omega) (by omega)

include e5 g5 in
/-- The sums of eight rows. -/
theorem eight_tile (j : Fin 1056) (l : Fin 256) (e : 7 ≤ j.val) :
    k0_pay121 (F := Ideal) (firstOf T) V5 H5 (ix2 j l)
      = ((∑ k ∈ Finset.range 8, colAt (piece p 5) l ((T.val : ℤ) * 1024 - 32 + j.val - k) : ℝ) : EReal) := by
  pointwise [k0_pay121]
  exact window_join _ l _ 4 j (k0_pay120 (firstOf T) V5 H5) (fun j e => four_tile e5 g5 j l (by omega)) _ (by simp; omega) (by omega)

include e5 g5 in
/-- The sums of sixteen rows. -/
theorem sixteen_tile (j : Fin 1056) (l : Fin 256) (e : 15 ≤ j.val) :
    k0_pay122 (F := Ideal) (firstOf T) V5 H5 (ix2 j l)
      = ((∑ k ∈ Finset.range 16, colAt (piece p 5) l ((T.val : ℤ) * 1024 - 32 + j.val - k) : ℝ) : EReal) := by
  pointwise [k0_pay122]
  exact window_join _ l _ 8 j (k0_pay121 (firstOf T) V5 H5) (fun j e => eight_tile e5 g5 j l (by omega)) _ (by simp; omega) (by omega)

/-- The pooled rows of a tile, as the kernel computes them. -/
def pooledOf (a : EReal) (V5 CN : FVec Ideal S1024x256 .f32) (H5 : FVec Ideal S32x256 .f32) : FVec Ideal S1024x256 .bf16 :=
  k0_pay126 (F := Ideal) k0_pay13 V5 CN (k0_pay119 a V5 H5) (k0_pay120 a V5 H5) (k0_pay121 a V5 H5) (k0_pay122 a V5 H5)
    (k0_pay123 k0_pay13) (k0_pay124 k0_pay13) k0_pay125

variable (en : ∀ r l, CN (ix2 r l) = (cntR (trow T r) l : EReal))

include e5 g5 en in
/-- The pooled rows. -/
theorem pooled_tile (r : Fin 1024) (l : Fin 256) :
    pooledOf (firstOf T) V5 CN H5 (ix2 r l) = (pooled p (trow T r) l : EReal) := by
  unfold pooledOf
  pointwise [k0_pay126, k0_pay123, k0_pay124, k0_pay125]
  rw [sel_head (group_at 0 l) (fun h => ((∑ k ∈ Finset.range ((![2, 4, 8, 16] : Fin 4 → ℕ) h), colAt (piece p 5) l (((trow T r).val : ℤ) - k) : ℝ) : EReal))
    ?_ ?_ ?_ ?_, ← wid_head, en, e5, div_real _ (cntR_ne _ _), ← EReal.coe_sub]
  · rfl
  · rw [two_tile e5 g5 _ _ (by simp; omega)]
    refine congrArg (fun z : ℝ => (z : EReal)) (Finset.sum_congr rfl fun k _ => congrArg _ ?_)
    simp [trow]; omega
  · rw [four_tile e5 g5 _ _ (by simp; omega)]
    refine congrArg (fun z : ℝ => (z : EReal)) (Finset.sum_congr rfl fun k _ => congrArg _ ?_)
    simp [trow]; omega
  · rw [eight_tile e5 g5 _ _ (by simp; omega)]
    refine congrArg (fun z : ℝ => (z : EReal)) (Finset.sum_congr rfl fun k _ => congrArg _ ?_)
    simp [trow]; omega
  · rw [sixteen_tile e5 g5 _ _ (by simp; omega)]
    refine congrArg (fun z : ℝ => (z : EReal)) (Finset.sum_congr rfl fun k _ => congrArg _ ?_)
    simp [trow]; omega

include e5 g5 en edc epb in
/-- The tile's part of the derivative by the pooling's scales. -/
theorem dps_tile (O : FVec Ideal S1x256 .f32) (l : Fin 256) :
    k0_pay127 (F := Ideal) k0_pay13 DC V5 CN (k0_pay119 (firstOf T) V5 H5) (k0_pay120 (firstOf T) V5 H5) (k0_pay121 (firstOf T) V5 H5)
        (k0_pay122 (firstOf T) V5 H5) (k0_pay123 k0_pay13) (k0_pay124 k0_pay13) k0_pay125 PB O (ix2 (0 : Fin 1) l)
      = O (ix2 0 l) + ((∑ r, dmx (trow T r) (mcol 2 l) * poolMix p pb (trow T r) l : ℝ) : EReal) := by
  have e := pooled_tile e5 g5 en
  unfold pooledOf at e
  pointwise [k0_pay127]
  simp only [e, edc, epb, ← EReal.coe_mul, sum_coe]
  rfl

include edc eps in
/-- The derivative by the pooling's product. -/
theorem de_tile (r : Fin 1024) (l : Fin 256) : k0_pay128 (F := Ideal) DC PS (ix2 r l) = (dE dmx ps (trow T r) l : EReal) := by
  pointwise [k0_pay128]
  rw [edc, eps, ← EReal.coe_mul, dE]

include e5 g5 en edc eps in
/-- The tile's part of the derivative by the pooling's matrix. -/
theorem dpool_tile (O : FVec Ideal S256x256 .f32) (k l : Fin 256) :
    k0_pay129 (F := Ideal) k0_pay13 DC V5 CN (k0_pay119 (firstOf T) V5 H5) (k0_pay120 (firstOf T) V5 H5) (k0_pay121 (firstOf T) V5 H5)
        (k0_pay122 (firstOf T) V5 H5) (k0_pay123 k0_pay13) (k0_pay124 k0_pay13) k0_pay125 PS O (ix2 k l)
      = O (ix2 k l) + ((∑ r, pooled p (trow T r) k * dE dmx ps (trow T r) l : ℝ) : EReal) := by
  have e := pooled_tile e5 g5 en
  unfold pooledOf at e
  pointwise [k0_pay129]
  simp only [e, de_tile edc eps, ← EReal.coe_mul, sum_coe]

include edc eps epb in
/-- The derivative by the pooled values. -/
theorem ddd_tile (r : Fin 1024) (l : Fin 256) : k0_pay130 (F := Ideal) DC PS PB (ix2 r l) = (dPooled dmx pb ps (trow T r) l : EReal) := by
  pointwise [k0_pay130]
  simp only [de_tile edc eps, epb, ← EReal.coe_mul, sum_coe]
  rfl

include edc eps epb en in
/-- The derivative by a window's sum. -/
theorem fq_tile (r : Fin 1024) (l : Fin 256) :
    k0_pay131 (F := Ideal) CN (k0_pay130 DC PS PB) (ix2 r l) = (dWin dmx pb ps (trow T r) l : EReal) := by
  pointwise [k0_pay131]
  rw [ddd_tile edc epb eps, en, div_real _ (cntR_ne _ _), dWin]

include edc eps epb en in
/-- The rows carried to the tile before. -/
theorem fq_carry (j : Fin 32) (l : Fin 256) :
    k0_pay132 (F := Ideal) CN (k0_pay130 DC PS PB) (ix2 j l) = ((colAt (dWin dmx pb ps) l ((T.val : ℤ) * 1024 + j.val) : ℝ) : EReal) := by
  pointwise [k0_pay132]
  rw [fq_tile edc epb eps en]; exact row_at (dWin dmx pb ps) l _ _ rfl

variable (ec : ∀ j l, C (ix2 j l) = ((colAt (dWin dmx pb ps) l ((T.val : ℤ) * 1024 + 1024 + j.val) : ℝ) : EReal))

set_option maxHeartbeats 4000000 in
include edc eps epb en ec in
/-- The derivative by the pooling's input. -/
theorem dp5_tile (r : Fin 1024) (l : Fin 256) :
    k0_pay133 (F := Ideal) k0_pay13 CN (k0_pay130 DC PS PB) C (ix2 r l) = (dPoolIn dmx pb ps (trow T r) l : EReal) := by
  pointwise [k0_pay133]
  have f0 : k0_pay131 (F := Ideal) CN (k0_pay130 DC PS PB) (ix2 r l)
      = ((∑ k ∈ Finset.range 1, colAt (dWin dmx pb ps) l (((trow T r).val : ℤ) + k) : ℝ) : EReal) := by
    rw [fq_tile edc epb eps en, Finset.sum_range_one]
    exact row_at _ l _ _ (by simp [trow])
  rw [sel_head (group_at 0 l) (fun h => ((∑ k ∈ Finset.range ((![2, 4, 8, 16] : Fin 4 → ℕ) h), colAt (dWin dmx pb ps) l (((trow T r).val : ℤ) + k) : ℝ) : EReal))
    ?_ ?_ ?_ ?_, ← wid_head, ddd_tile edc epb eps, ← EReal.coe_sub]
  · rfl
  · refine lead_join _ _ 1 ?_ ?_
    · exact f0
    · refine lead_leaf (fq_tile edc epb eps en) ec _ _ l _ ?_
      simp only [trow]; omega
  · refine lead_join _ _ 2 ?_ ?_ <;> refine lead_join _ _ 1 ?_ ?_
    · exact f0
    all_goals
      refine lead_leaf (fq_tile edc epb eps en) ec _ _ l _ ?_
      simp only [trow]; omega
  · refine lead_join _ _ 4 ?_ ?_ <;> refine lead_join _ _ 2 ?_ ?_ <;> refine lead_join _ _ 1 ?_ ?_
    · exact f0
    all_goals
      refine lead_leaf (fq_tile edc epb eps en) ec _ _ l _ ?_
      simp only [trow]; omega
  · refine lead_join _ _ 8 ?_ ?_ <;> refine lead_join _ _ 4 ?_ ?_ <;> refine lead_join _ _ 2 ?_ ?_ <;> refine lead_join _ _ 1 ?_ ?_
    · exact f0
    all_goals
      refine lead_leaf (fq_tile edc epb eps en) ec _ _ l _ ?_
      simp only [trow]; omega
end

end Cert.MixerKernelIdeal.Mix
-- ==== Proof.MixerBlockD.lean ====
module

public import proofs.«01_k».proof.Proof.MixTiles
public import proofs.«01_k».proof.Proof.Gen.MixerKernelIdeal.Value
public import proofs.«01_k».proof.Proof.Tiles
public import proofs.«01_k».proof.Proof.MixerBlockC

/-! What the mixer's backward kernel computes for one tile of rows: the mixing by chunks. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

section
variable {p : Fin 8192 → Fin 2048 → ℝ} {gg : Fin 256 → ℝ} {gb : Fin 256 → EReal} {ws : Fin 4 → Fin 128 → Fin 128 → ℝ}
variable {bs : Fin 4 → Fin 128 → EReal} {dmx : Fin 8192 → Fin 1024 → ℝ} {T : Fin 8}
variable {DD V7 : FVec Ideal S1024x256 .f32} {VL : FVec Ideal S1024x256 .bf16} {G B : FVec Ideal S1x256 .f32}
variable {W WT : FVec Ideal S512x128 .bf16} {BI : FVec Ideal S128x256 .f32} {P6 : Fin 8 → FVec Ideal S128x256 .f32}
variable (edd : ∀ r l, DD (ix2 r l) = (dmx (trow T r) (mcol 3 l) : EReal))
variable (ev : ∀ r l, VL (ix2 r l) = valLnE p gg gb (trow T r) l)
variable (ew : ∀ (J : Fin 512) (h : Fin 4) (t s : Fin 128), J.val = h.val * 128 + t.val → W (ix2 J s) = (causal ws h t s : EReal))
variable (ewt : ∀ (J : Fin 512) (h : Fin 4) (s t : Fin 128), J.val = h.val * 128 + s.val → WT (ix2 J t) = (causal ws h t s : EReal))
variable (ebi : ∀ t l, BI (ix2 t l) = bs (head l) t)
variable (e6 : ∀ n t l, P6 n (ix2 t l) = (piece p 6 (trow T (crow n t)) l : EReal))

/-- The eight chunks' derivative by the mixing's gate, as the kernel computes them. -/
def dp6Of (DD V7 : FVec Ideal S1024x256 .f32) (G B : FVec Ideal S1x256 .f32) (W : FVec Ideal S512x128 .bf16) (BI : FVec Ideal S128x256 .f32) :
    Fin 8 → FVec Ideal S128x256 .bf16 :=
  ![k0_pay142 (F := Ideal) DD (k0_pay140 k0_pay13 V7 G B W BI),
    k0_pay154 (F := Ideal) k0_pay13 DD (k0_pay139 V7 G B) W BI,
    k0_pay170 (F := Ideal) k0_pay13 DD (k0_pay139 V7 G B) W BI,
    k0_pay182 (F := Ideal) k0_pay13 DD (k0_pay139 V7 G B) (k0_pay180 W) BI,
    k0_pay204 (F := Ideal) k0_pay13 DD (k0_pay198 (k0_pay139 V7 G B) W) (k0_pay199 (k0_pay139 V7 G B) W) (k0_pay200 (k0_pay139 V7 G B) W)
      (k0_pay201 (k0_pay139 V7 G B) W) (k0_pay202 k0_pay13) BI,
    k0_pay229 (F := Ideal) DD (k0_pay223 (k0_pay139 V7 G B) W) (k0_pay224 (k0_pay139 V7 G B) W) (k0_pay225 k0_pay13)
      (k0_pay226 k0_pay13 (k0_pay139 V7 G B) W) (k0_pay227 k0_pay13) BI,
    k0_pay244 (F := Ideal) DD (k0_pay242 k0_pay13 (k0_pay139 V7 G B) W BI),
    k0_pay256 (F := Ideal) k0_pay13 DD (k0_pay139 V7 G B) W BI]

include edd ew ebi in
/-- A chunk's derivative by the mixing's gate. -/
theorem dp6_tile (ev : ∀ r l, k0_pay139 (F := Ideal) V7 G B (ix2 r l) = valLnE p gg gb (trow T r) l) (n : Fin 8) (t : Fin 128) (l : Fin 256) :
    dp6Of DD V7 G B W BI n (ix2 t l)
      = (dmx (trow T (crow n t)) (mcol 3 l) : EReal) * mixedE p gg gb ws bs (trow T (crow n t)) l := by
  have row : ∀ (r : Fin 1024) (h : r.val = n.val * 128 + t.val), r = crow n t := fun r h => Fin.ext h
  rw [mixedE, inChunk_row]
  fin_cases n
  all_goals
    simp only [dp6Of]
    pointwise [k0_pay140, k0_pay141, k0_pay142, k0_pay153, k0_pay154, k0_pay169, k0_pay170, k0_pay180, k0_pay181, k0_pay182, k0_pay197, k0_pay198, k0_pay199, k0_pay200, k0_pay201, k0_pay202, k0_pay203, k0_pay204, k0_pay222, k0_pay223, k0_pay224, k0_pay225, k0_pay226, k0_pay227, k0_pay228, k0_pay229, k0_pay242, k0_pay243, k0_pay244, k0_pay255, k0_pay256]
    refine congrArg₂ (· * ·) ((edd _ _).trans ?_) (congrArg₂ (· + ·)
      (sel_head (group_at 0 l) (fun h => ∑ s : Fin 128, (causal ws h t s : EReal) * valLnE p gg gb (chunkRow (trow T (crow _ t)) s) l) ?_ ?_ ?_ ?_) (ebi _ _))
    · exact congrArg (fun r => ((dmx (trow T r) (mcol 3 l) : ℝ) : EReal)) (row _ (by simp))
    all_goals
      refine Finset.sum_congr rfl fun s _ => congrArg₂ (· * ·) (ew _ _ _ _ (by simp)) ((ev _ _).trans ?_)
      rw [chunkRow_row]
      exact congrArg (fun r => valLnE p gg gb (trow T r) l) (Fin.ext (by simp [crow]))

/-- The eight chunks' derivative by the normed, scaled values, as the kernel computes them. -/
def dvlOf (DD : FVec Ideal S1024x256 .f32) (P6 : Fin 8 → FVec Ideal S128x256 .f32) (WT : FVec Ideal S512x128 .bf16) : Fin 8 → FVec Ideal S128x256 .f32 :=
  ![k0_pay146 (F := Ideal) k0_pay13 DD (P6 0) WT,
    k0_pay158 (F := Ideal) k0_pay13 (k0_pay153 DD) (P6 1) WT,
    k0_pay174 (F := Ideal) k0_pay13 (k0_pay171 DD (P6 2)) WT,
    k0_pay189 (F := Ideal) k0_pay13 (k0_pay186 DD (P6 3) WT) (k0_pay187 DD (P6 3) WT) (k0_pay188 DD (P6 3) WT),
    k0_pay216 (F := Ideal) k0_pay13 (k0_pay209 DD (P6 4) WT) (k0_pay210 DD (P6 4) WT) (k0_pay211 DD (P6 4) WT) (k0_pay212 DD (P6 4) WT)
      (k0_pay213 k0_pay13) (k0_pay214 k0_pay13) k0_pay215,
    k0_pay234 (F := Ideal) (k0_pay233 k0_pay13 DD (P6 5) WT),
    k0_pay248 (F := Ideal) k0_pay13 DD (P6 6) WT,
    k0_pay260 (F := Ideal) k0_pay13 (k0_pay255 DD) (P6 7) WT]

include edd e6 ewt in
/-- A chunk's derivative by the normed, scaled values. -/
theorem dvl_tile (n : Fin 8) (s : Fin 128) (l : Fin 256) : dvlOf DD P6 WT n (ix2 s l) = (dValLn p ws dmx (trow T (crow n s)) l : EReal) := by
  have e := fun t => dmb_tile edd e6 n t l
  rw [dValLn, ← sum_coe, inChunk_row]
  fin_cases n
  all_goals
    simp only [dmbOf] at e
    simp only [dvlOf]
    pointwise [k0_pay146, k0_pay158, k0_pay174, k0_pay186, k0_pay187, k0_pay188, k0_pay189, k0_pay208, k0_pay209, k0_pay210, k0_pay211, k0_pay212, k0_pay213, k0_pay214, k0_pay215, k0_pay216, k0_pay233, k0_pay234, k0_pay248, k0_pay260]
    refine sel_head (group_at 0 l) (fun h => ∑ t : Fin 128, ((causal ws h t s * dMixed p dmx (chunkRow (trow T (crow _ s)) t) l : ℝ) : EReal)) ?_ ?_ ?_ ?_
    all_goals
      refine Finset.sum_congr rfl fun t _ => ?_
      rw [EReal.coe_mul, chunkRow_row]
      exact congrArg₂ (· * ·) (ewt _ _ _ _ (by simp)) (e t)

end

end Cert.MixerKernelIdeal.Mix
-- ==== Proof.MixerBlockE.lean ====
module

public import proofs.«01_k».proof.Proof.MixTiles
public import proofs.«01_k».proof.Proof.Gen.MixerKernelIdeal.Value
public import proofs.«01_k».proof.Proof.Tiles
public import proofs.«01_k».proof.Proof.MixerBlockC

/-! What the mixer's backward kernel computes for one tile of rows: the mixing weights. -/

@[expose] public section

set_option maxRecDepth 16384
noncomputable section
open Idealize.ShloMosaic Idealize.ShloMosaic.TcCoe Idealize.SL.Sem
namespace Cert.MixerKernelIdeal.Mix
open Cert.MixerKernelIdeal Cert.MixerKernelIdeal.Gen Cert.Step

section
variable {p : Fin 8192 → Fin 2048 → ℝ} {gg : Fin 256 → ℝ} {gb : Fin 256 → EReal} {ws : Fin 4 → Fin 128 → Fin 128 → ℝ}
variable {bs : Fin 4 → Fin 128 → EReal} {dmx : Fin 8192 → Fin 1024 → ℝ} {T : Fin 8}
variable {DD V7 : FVec Ideal S1024x256 .f32} {VL : FVec Ideal S1024x256 .bf16} {G B : FVec Ideal S1x256 .f32}
variable {W WT : FVec Ideal S512x128 .bf16} {BI : FVec Ideal S128x256 .f32} {P6 : Fin 8 → FVec Ideal S128x256 .f32}
variable (edd : ∀ r l, DD (ix2 r l) = (dmx (trow T r) (mcol 3 l) : EReal))
variable (ev : ∀ r l, VL (ix2 r l) = valLnE p gg gb (trow T r) l)
variable (ew : ∀ (J : Fin 512) (h : Fin 4) (t s : Fin 128), J.val = h.val * 128 + t.val → W (ix2 J s) = (causal ws h t s : EReal))
variable (ewt : ∀ (J : Fin 512) (h : Fin 4) (s t : Fin 128), J.val = h.val * 128 + s.val → WT (ix2 J t) = (causal ws h t s : EReal))
variable (ebi : ∀ t l, BI (ix2 t l) = bs (head l) t)
variable (e6 : ∀ n t l, P6 n (ix2 t l) = (piece p 6 (trow T (crow n t)) l : EReal))

/-- What a chunk adds to the mixing weights' derivative of a head, as the kernel computes it. -/
def dwsOf (DD : FVec Ideal S1024x256 .f32) (VL : FVec Ideal S1024x256 .bf16) (P6 : Fin 8 → FVec Ideal S128x256 .f32) (O : FVec Ideal S128x128 .f32) :
    Fin 8 → Fin 4 → FVec Ideal S128x128 .f32 :=
  ![![k0_pay148 (F := Ideal) k0_pay13 VL (k0_pay145 DD (P6 0)) (k0_pay147 O), k0_pay149 (F := Ideal) k0_pay13 VL (k0_pay145 DD (P6 0)) O,
      k0_pay150 (F := Ideal) k0_pay13 VL (k0_pay145 DD (P6 0)) O, k0_pay152 (F := Ideal) k0_pay13 VL (k0_pay145 DD (P6 0)) (k0_pay151 O)],
    ![k0_pay162 (F := Ideal) (k0_pay159 O) (k0_pay160 k0_pay13 (k0_pay153 DD) (P6 1)) (k0_pay161 VL) (constant S128x128 .f32 0#32),
      k0_pay163 (F := Ideal) k0_pay13 VL (k0_pay157 (k0_pay153 DD) (P6 1)) O, k0_pay164 (F := Ideal) k0_pay13 VL (k0_pay157 (k0_pay153 DD) (P6 1)) O,
      k0_pay168 (F := Ideal) (k0_pay165 O) (k0_pay166 k0_pay13 (k0_pay157 (k0_pay153 DD) (P6 1))) (k0_pay167 VL) (constant S128x128 .f32 0#32)],
    ![k0_pay175 (F := Ideal) k0_pay13 VL (k0_pay171 DD (P6 2)) O, k0_pay177 (F := Ideal) k0_pay13 VL (k0_pay173 (k0_pay171 DD (P6 2))) (k0_pay176 O),
      k0_pay178 (F := Ideal) k0_pay13 VL (k0_pay173 (k0_pay171 DD (P6 2))) O, k0_pay179 (F := Ideal) k0_pay13 VL (k0_pay173 (k0_pay171 DD (P6 2))) O],
    ![k0_pay190 (F := Ideal) k0_pay13 VL (k0_pay185 DD (P6 3)) O,
      k0_pay194 (F := Ideal) (k0_pay191 O) (k0_pay192 k0_pay13 (k0_pay185 DD (P6 3))) (k0_pay193 VL) (constant S128x128 .f32 0#32),
      k0_pay195 (F := Ideal) k0_pay13 VL (k0_pay185 DD (P6 3)) O, k0_pay196 (F := Ideal) k0_pay13 VL (k0_pay185 DD (P6 3)) O],
    ![k0_pay217 (F := Ideal) k0_pay13 VL (k0_pay207 DD (P6 4)) O, k0_pay218 (F := Ideal) k0_pay13 VL (k0_pay207 DD (P6 4)) O,
      k0_pay220 (F := Ideal) k0_pay13 VL (k0_pay207 DD (P6 4)) (k0_pay219 O), k0_pay221 (F := Ideal) k0_pay13 VL (k0_pay207 DD (P6 4)) O],
    ![k0_pay235 (F := Ideal) k0_pay13 VL (k0_pay232 DD (P6 5)) O, k0_pay236 (F := Ideal) k0_pay13 VL (k0_pay232 DD (P6 5)) O,
      k0_pay240 (F := Ideal) (k0_pay237 O) (k0_pay238 k0_pay13 (k0_pay232 DD (P6 5))) (k0_pay239 VL) (constant S128x128 .f32 0#32),
      k0_pay241 (F := Ideal) k0_pay13 VL (k0_pay232 DD (P6 5)) O],
    ![k0_pay250 (F := Ideal) k0_pay13 VL (k0_pay247 DD (P6 6)) (k0_pay249 O), k0_pay251 (F := Ideal) k0_pay13 VL (k0_pay247 DD (P6 6)) O,
      k0_pay252 (F := Ideal) k0_pay13 VL (k0_pay247 DD (P6 6)) O, k0_pay254 (F := Ideal) k0_pay13 VL (k0_pay247 DD (P6 6)) (k0_pay253 O)],
    ![k0_pay264 (F := Ideal) (k0_pay261 O) (k0_pay262 k0_pay13 (k0_pay255 DD) (P6 7)) (k0_pay263 VL) (constant S128x128 .f32 0#32),
      k0_pay265 (F := Ideal) k0_pay13 VL (k0_pay259 (k0_pay255 DD) (P6 7)) O, k0_pay266 (F := Ideal) k0_pay13 VL (k0_pay259 (k0_pay255 DD) (P6 7)) O,
      k0_pay270 (F := Ideal) (k0_pay267 O) (k0_pay268 k0_pay13 (k0_pay259 (k0_pay255 DD) (P6 7))) (k0_pay269 VL) (constant S128x128 .f32 0#32)]]

/-- The lanes of a head. -/
theorem sel_lane {g k : BitVec 32} (l : Fin 256) (eg : g = BitVec.ofNat 32 (l.val / 64)) (h : Fin 4) (ek : k = BitVec.ofNat 32 h.val) (a : EReal) :
    Scalar.select (IntOp.cmpi .eq g k) a 0 = if head l = h then a else 0 := by
  subst eg ek
  have key : ∀ (k : ℕ) (hk : k < 4) (h : Fin 4), Scalar.select (IntOp.cmpi .eq (BitVec.ofNat 32 k) (BitVec.ofNat 32 h.val)) a 0 = if (⟨k, hk⟩ : Fin 4) = h then a else 0 := by
    intro k hk h
    interval_cases k <;> fin_cases h <;> rfl
  exact key _ (by omega) h

set_option maxHeartbeats 2000000 in
include edd e6 ev in
/-- What a chunk adds to the mixing weights' derivative of a head. -/
theorem dws_tile (O : FVec Ideal S128x128 .f32) (n : Fin 8) (h : Fin 4) (t s : Fin 128) :
    dwsOf DD VL P6 O n h (ix2 t s)
      = O (ix2 t s) + ∑ l, if head l = h then (dMixed p dmx (trow T (crow n t)) l : EReal) * valLnE p gg gb (trow T (crow n s)) l else 0 := by
  have e := fun l => dmb_tile edd e6 n t l
  have row : ∀ (r : Fin 1024) (h : r.val = n.val * 128 + s.val), r = crow n s := fun r h => Fin.ext h
  fin_cases n
  all_goals
    simp only [dmbOf] at e
    fin_cases h
  all_goals
    simp only [dwsOf]
    pointwise [k0_pay147, k0_pay148, k0_pay149, k0_pay150, k0_pay151, k0_pay152, k0_pay159, k0_pay160, k0_pay161, k0_pay162, k0_pay163, k0_pay164, k0_pay165, k0_pay166, k0_pay167, k0_pay168, k0_pay175, k0_pay176, k0_pay177, k0_pay178, k0_pay179, k0_pay190, k0_pay191, k0_pay192, k0_pay193, k0_pay194, k0_pay195, k0_pay196, k0_pay217, k0_pay218, k0_pay219, k0_pay220, k0_pay221, k0_pay235, k0_pay236, k0_pay237, k0_pay238, k0_pay239, k0_pay240, k0_pay241, k0_pay249, k0_pay250, k0_pay251, k0_pay252, k0_pay253, k0_pay254, k0_pay261, k0_pay262, k0_pay263, k0_pay264, k0_pay265, k0_pay266, k0_pay267, k0_pay268, k0_pay269, k0_pay270]
    refine congrArg (O (ix2 t s) + ·) (Finset.sum_congr rfl fun l _ =>
      (sel_lane l (group_at 0 l) _ ?_ _).trans (if_congr Iff.rfl (congrArg₂ (· * ·) ?_ ?_) rfl))
    · rfl
    · exact e l
    · refine (ev _ _).trans ?_
      exact congrArg (fun r => valLnE p gg gb (trow T r) l) (row _ (by simp))
end

end Cert.MixerKernelIdeal.Mix
-- ==== Proof.MixerPoint.lean ====
module

public import proofs.«01_k».proof.Proof.MixerRows
public import proofs.«01_k».proof.Proof.MixerWin
public import proofs.«01_k».proof.Proof.MixerBlockB
public import proofs.«01_k».proof.Proof.MixerBlockD
public import proofs.«01_k».proof.Proof.MixerBlockE

/-! The mixer's backward kernel: what it loads at a grid point, and what it carries from one point to the next. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)

/-- Piece 0 of the tile. -/
abbrev P0 (n : Fin cfg0.N) : FVec Ideal S1024x256 .f32 := View.ld (Val := Elt Ideal) (e' := .f32) (iblk m c 1 n : FVec Ideal S1024x2048 .f32) (Rect.unit (s := S1024x2048) ![0, 0] ![1024, 256] inb_S1024x2048_S1024x256_0_0)
/-- Piece 1 of the tile. -/
abbrev P1 (n : Fin cfg0.N) : FVec Ideal S1024x256 .f32 := View.ld (Val := Elt Ideal) (e' := .f32) (iblk m c 1 n : FVec Ideal S1024x2048 .f32) (Rect.unit (s := S1024x2048) ![0, 256] ![1024, 256] inb_S1024x2048_S1024x256_0_256)
/-- Piece 2 of the tile. -/
abbrev P2 (n : Fin cfg0.N) : FVec Ideal S1024x256 .f32 := View.ld (Val := Elt Ideal) (e' := .f32) (iblk m c 1 n : FVec Ideal S1024x2048 .f32) (Rect.unit (s := S1024x2048) ![0, 512] ![1024, 256] inb_S1024x2048_S1024x256_0_512)
/-- Piece 3 of the tile. -/
abbrev P3 (n : Fin cfg0.N) : FVec Ideal S1024x256 .f32 := View.ld (Val := Elt Ideal) (e' := .f32) (iblk m c 1 n : FVec Ideal S1024x2048 .f32) (Rect.unit (s := S1024x2048) ![0, 768] ![1024, 256] inb_S1024x2048_S1024x256_0_768)
/-- Piece 4 of the tile. -/
abbrev P4 (n : Fin cfg0.N) : FVec Ideal S1024x256 .f32 := View.ld (Val := Elt Ideal) (e' := .f32) (iblk m c 1 n : FVec Ideal S1024x2048 .f32) (Rect.unit (s := S1024x2048) ![0, 1024] ![1024, 256] inb_S1024x2048_S1024x256_0_1024)
/-- Piece 5 of the tile. -/
abbrev P5 (n : Fin cfg0.N) : FVec Ideal S1024x256 .f32 := View.ld (Val := Elt Ideal) (e' := .f32) (iblk m c 1 n : FVec Ideal S1024x2048 .f32) (Rect.unit (s := S1024x2048) ![0, 1280] ![1024, 256] inb_S1024x2048_S1024x256_0_1280)
/-- Piece 7 of the tile. -/
abbrev P7 (n : Fin cfg0.N) : FVec Ideal S1024x256 .f32 := View.ld (Val := Elt Ideal) (e' := .f32) (iblk m c 1 n : FVec Ideal S1024x2048 .f32) (Rect.unit (s := S1024x2048) ![0, 1792] ![1024, 256] inb_S1024x2048_S1024x256_0_1792)
/-- The last rows of piece 0 before the tile. -/
abbrev H0 (n : Fin cfg0.N) : FVec Ideal S32x256 .f32 := View.ld (Val := Elt Ideal) (e' := .f32) (iblk m c 2 n : FVec Ideal S32x2048 .f32) (Rect.unit (s := S32x2048) ![0, 0] ![32, 256] inb_S32x2048_S32x256_0_0)
/-- The last rows of piece 1 before the tile. -/
abbrev H1 (n : Fin cfg0.N) : FVec Ideal S32x256 .f32 := View.ld (Val := Elt Ideal) (e' := .f32) (iblk m c 2 n : FVec Ideal S32x2048 .f32) (Rect.unit (s := S32x2048) ![0, 256] ![32, 256] inb_S32x2048_S32x256_0_256)
/-- The last rows of piece 3 before the tile. -/
abbrev H3 (n : Fin cfg0.N) : FVec Ideal S32x256 .f32 := View.ld (Val := Elt Ideal) (e' := .f32) (iblk m c 2 n : FVec Ideal S32x2048 .f32) (Rect.unit (s := S32x2048) ![0, 768] ![32, 256] inb_S32x2048_S32x256_0_768)
/-- The last rows of piece 4 before the tile. -/
abbrev H4 (n : Fin cfg0.N) : FVec Ideal S32x256 .f32 := View.ld (Val := Elt Ideal) (e' := .f32) (iblk m c 2 n : FVec Ideal S32x2048 .f32) (Rect.unit (s := S32x2048) ![0, 1024] ![32, 256] inb_S32x2048_S32x256_0_1024)
/-- The last rows of piece 5 before the tile. -/
abbrev H5 (n : Fin cfg0.N) : FVec Ideal S32x256 .f32 := View.ld (Val := Elt Ideal) (e' := .f32) (iblk m c 2 n : FVec Ideal S32x2048 .f32) (Rect.unit (s := S32x2048) ![0, 1280] ![32, 256] inb_S32x2048_S32x256_0_1280)
/-- Row 1 of the packed vectors. -/
abbrev G1 (n : Fin cfg0.N) : FVec Ideal S1x256 .f32 := View.ld (Val := Elt Ideal) (e' := .f32) (iblk m c 5 n : FVec Ideal S16x256 .f32) (Rect.unit (s := S16x256) ![1, 0] ![1, 256] inb_S16x256_S1x256_1_0)
/-- Row 2 of the packed vectors. -/
abbrev G2 (n : Fin cfg0.N) : FVec Ideal S1x256 .f32 := View.ld (Val := Elt Ideal) (e' := .f32) (iblk m c 5 n : FVec Ideal S16x256 .f32) (Rect.unit (s := S16x256) ![2, 0] ![1, 256] inb_S16x256_S1x256_2_0)
/-- Row 3 of the packed vectors. -/
abbrev G3 (n : Fin cfg0.N) : FVec Ideal S1x256 .f32 := View.ld (Val := Elt Ideal) (e' := .f32) (iblk m c 5 n : FVec Ideal S16x256 .f32) (Rect.unit (s := S16x256) ![3, 0] ![1, 256] inb_S16x256_S1x256_3_0)
/-- Row 4 of the packed vectors. -/
abbrev G4 (n : Fin cfg0.N) : FVec Ideal S1x256 .f32 := View.ld (Val := Elt Ideal) (e' := .f32) (iblk m c 5 n : FVec Ideal S16x256 .f32) (Rect.unit (s := S16x256) ![4, 0] ![1, 256] inb_S16x256_S1x256_4_0)
/-- Row 5 of the packed vectors. -/
abbrev G5 (n : Fin cfg0.N) : FVec Ideal S1x256 .f32 := View.ld (Val := Elt Ideal) (e' := .f32) (iblk m c 5 n : FVec Ideal S16x256 .f32) (Rect.unit (s := S16x256) ![5, 0] ![1, 256] inb_S16x256_S1x256_5_0)
/-- Row 6 of the packed vectors. -/
abbrev G6 (n : Fin cfg0.N) : FVec Ideal S1x256 .f32 := View.ld (Val := Elt Ideal) (e' := .f32) (iblk m c 5 n : FVec Ideal S16x256 .f32) (Rect.unit (s := S16x256) ![6, 0] ![1, 256] inb_S16x256_S1x256_6_0)
/-- Row 7 of the packed vectors. -/
abbrev G7 (n : Fin cfg0.N) : FVec Ideal S1x256 .f32 := View.ld (Val := Elt Ideal) (e' := .f32) (iblk m c 5 n : FVec Ideal S16x256 .f32) (Rect.unit (s := S16x256) ![7, 0] ![1, 256] inb_S16x256_S1x256_7_0)
/-- Row 8 of the packed vectors. -/
abbrev G8 (n : Fin cfg0.N) : FVec Ideal S1x256 .f32 := View.ld (Val := Elt Ideal) (e' := .f32) (iblk m c 5 n : FVec Ideal S16x256 .f32) (Rect.unit (s := S16x256) ![8, 0] ![1, 256] inb_S16x256_S1x256_8_0)
/-- The seventh piece of the tile, by chunks. -/
def P6 (n : Fin cfg0.N) : Fin 8 → FVec Ideal S128x256 .f32 := fun k => View.ld (Val := Elt Ideal) (e' := .f32) (iblk m c 1 n : FVec Ideal S1024x2048 .f32) (Rect.unit (s := S1024x2048) ![k.val * 128, 1536] ![128, 256] (by intro a; fin_cases a <;> simp <;> omega))
/-- The taps of the long convolution. -/
def taps (n : Fin cfg0.N) : Fin 31 → FVec Ideal S1x256 .f32 := fun k => View.ld (Val := Elt Ideal) (e' := .f32) (iblk m c 4 n : FVec Ideal S32x256 .f32) (Rect.unit (s := S32x256) ![k.val, 0] ![1, 256] (by intro a; fin_cases a <;> simp <;> omega))
/-- The first quarter of the mixed activations' derivative. -/
abbrev DA (n : Fin cfg0.N) : FVec Ideal S1024x256 .f32 := k0_pay16 (F := Ideal) (iblk m c 0 n) (iblk m c 12 n)
/-- The second quarter. -/
abbrev DB (n : Fin cfg0.N) : FVec Ideal S1024x256 .f32 := k0_pay17 (F := Ideal) (iblk m c 0 n) (iblk m c 12 n)
/-- The third quarter. -/
abbrev DC (n : Fin cfg0.N) : FVec Ideal S1024x256 .f32 := k0_pay18 (F := Ideal) (iblk m c 0 n) (iblk m c 12 n)
/-- The fourth quarter. -/
abbrev DD (n : Fin cfg0.N) : FVec Ideal S1024x256 .f32 := k0_pay19 (F := Ideal) (iblk m c 0 n) (iblk m c 12 n)
/-- The derivative by the convolved activations. -/
abbrev DZ (n : Fin cfg0.N) : FVec Ideal S1024x256 .f32 :=
  k0_pay39 (F := Ideal) (DA m c n) (k0_pay32 (G1 m c n)) (k0_pay33 (G2 m c n)) (k0_pay34 (iblk m c 3 n)) (k0_pay35 (iblk m c 3 n)) (G1 m c n)
/-- How many rows each window of the pooling holds. -/
abbrev CN (n : Fin cfg0.N) : FVec Ideal S1024x256 .f32 := k0_pay118 (F := Ideal) (Scalar.subi 7#32 (BitVec.ofNat 32 (grid0.coords n 0).val)) k0_pay13
/-- The derivative by the pooled activations. -/
abbrev DQ (n : Fin cfg0.N) : FVec Ideal S1024x256 .f32 := k0_pay130 (F := Ideal) (DC m c n) (G3 m c n) (iblk m c 6 n)
/-- The normed, scaled values. -/
abbrev VL (n : Fin cfg0.N) : FVec Ideal S1024x256 .bf16 := k0_pay139 (F := Ideal) (P7 m c n) (k0_pay134 (G4 m c n)) (k0_pay135 (G5 m c n))
/-- The derivative by the normed, scaled values, read back from its chunks. -/
abbrev DV (n : Fin cfg0.N) : FVec Ideal S1024x256 .f32 :=
  (View.whole cc0_scratch4).readCov (chunkList (dvlOf (DD m c n) (P6 m c n) (iblk m c 8 n))) (Rect.unit (s := S1024x256) ![0, 0] ![1024, 256] inb_S1024x256_S1024x256_0_0).toLoadRect
/-- The eight shifted copies of the gated activations. -/
abbrev CY (n : Fin cfg0.N) : Fin 8 → FVec Ideal S1x1056x256 .f32 := copies (P0 m c n) (P1 m c n) (H0 m c n) (H1 m c n) (k0_pay14 (F := Ideal) (grid0.coords n))

variable {m c} (A : Args m c) (n : Fin cfg0.N)

/-- The mixed activations' derivative. -/
abbrev Args.dmx : Fin 8192 → Fin 1024 → ℝ := dMix A.d A.wo
/-- The derivative by the convolved activations. -/
abbrev Args.dz : Fin 8192 → Fin 256 → ℝ := dZ A.p A.cw A.cb A.lg A.lb A.dmx
/-- The windows' derivative. -/
abbrev Args.dwin : Fin 8192 → Fin 256 → ℝ := dWin A.dmx (poolBlk A.pw) A.ps

/-- A piece of the tile holds that piece's rows. -/
theorem piece_at (k : Fin 8) {q : ℕ} {inb : ∀ d : Fin 2, (![0, q] : Fin 2 → ℕ) d + (![1024, 256] : Fin 2 → ℕ) d ≤ (![1024, 2048] : Fin 2 → ℕ) d} (eq : k.val * 256 = q)
    (r : Fin 1024) (l : Fin 256) : View.ld (Val := Elt Ideal) (e' := .f32) (iblk m c 1 n : FVec Ideal S1024x2048 .f32) (Rect.unit (s := S1024x2048) ![0, q] ![1024, 256] inb) (ix2 r l)
      = (piece A.p k (trow (tl n) r) l : EReal) :=
  (loaded_at (Val := Elt Ideal) (e := .f32) _ _ r l r (pcol k l) (Nat.zero_add _).symm (congrArg (· + l.val) eq)).trans (p_at A n r (pcol k l))

/-- The rows before the tile of a piece. -/
theorem halo_piece (k : Fin 8) {q : ℕ} {inb : ∀ d : Fin 2, (![0, q] : Fin 2 → ℕ) d + (![32, 256] : Fin 2 → ℕ) d ≤ (![32, 2048] : Fin 2 → ℕ) d} (eq : k.val * 256 = q)
    (j : Fin 32) (l : Fin 256) : View.ld (Val := Elt Ideal) (e' := .f32) (iblk m c 2 n : FVec Ideal S32x2048 .f32) (Rect.unit (s := S32x2048) ![0, q] ![32, 256] inb) (ix2 j l)
      = (piece A.p k (hrow (tl n) j) l : EReal) :=
  (loaded_at (Val := Elt Ideal) (e := .f32) _ _ j l j (pcol k l) (Nat.zero_add _).symm (congrArg (· + l.val) eq)).trans (h_at A n j (pcol k l))

/-- A row of the packed vectors. -/
theorem vec_row {o : ℕ} {inb : ∀ d : Fin 2, (![o, 0] : Fin 2 → ℕ) d + (![1, 256] : Fin 2 → ℕ) d ≤ (![16, 256] : Fin 2 → ℕ) d} (K : Fin 16) (eK : K.val = o) {x : Fin 256 → EReal}
    (e : ∀ l, (iblk m c 5 n : FVec Ideal S16x256 .f32) (ix2 K l) = x l) (l : Fin 256) :
    View.ld (Val := Elt Ideal) (e' := .f32) (iblk m c 5 n : FVec Ideal S16x256 .f32) (Rect.unit (s := S16x256) ![o, 0] ![1, 256] inb) (ix2 0 l) = x l :=
  (loaded_at (Val := Elt Ideal) (e := .f32) _ inb 0 l K l eK (Nat.zero_add _).symm).trans (e l)

/-- The chunks of the seventh piece. -/
theorem chunk_at (k : Fin 8) (t : Fin 128) (l : Fin 256) : P6 m c n k (ix2 t l) = (piece A.p 6 (trow (tl n) (crow k t)) l : EReal) :=
  (loaded_at (Val := Elt Ideal) (e := .f32) _ _ t l (crow k t) (pcol 6 l) rfl rfl).trans (p_at A n (crow k t) (pcol 6 l))

/-- The taps. -/
theorem taps_at (k : Fin 31) (l : Fin 256) : taps m c n k (ix2 0 l) = (A.cw k l : EReal) :=
  (loaded_at (Val := Elt Ideal) (e := .f32) _ _ 0 l ⟨k.val, by omega⟩ l rfl (Nat.zero_add _).symm).trans (cw_at A n k l)

/-- The derivative by the convolved activations at a point. -/
theorem dz_pt (r : Fin 1024) (l : Fin 256) : DZ m c n (ix2 r l) = (A.dz (trow (tl n) r) l : EReal) :=
  dz_tile (z_at A n) (da_tile (d_at A n) (wo_at A n)) (vec_row n 1 rfl (lg_at A n)) (vec_row n 2 rfl (lb_at A n)) (vec_row n 1 rfl (lg_at A n)) r l

/-- The windows' sizes at a point. -/
theorem cn_pt (r : Fin 1024) (l : Fin 256) : CN n (ix2 r l) = (cntR (trow (tl n) r) l : EReal) := by
  unfold CN
  rw [tile_at]
  exact cnt_tile _ r l

/-- The normed, scaled values at a point. -/
theorem vl_pt (r : Fin 1024) (l : Fin 256) : VL m c n (ix2 r l) = valLnE A.p A.gg (gbA m c) (trow (tl n) r) l :=
  vln_tile (piece_at A n 7 rfl) (vec_row n 4 rfl (gg_at A n)) (vec_row n 5 rfl (gb_at n)) r l

/-- Their derivative at a point. -/
theorem dv_pt (r : Fin 1024) (l : Fin 256) : DV m c n (ix2 r l) = (dValLn A.p A.ws A.dmx (trow (tl n) r) l : EReal) :=
  (whole_loaded _ _ _ r l).trans (chunk_canon (G := fun r l => ((dValLn A.p A.ws A.dmx (trow (tl n) r) l : ℝ) : EReal)) (dvl_tile (dd_tile (d_at A n) (wo_at A n)) (wst_at A n) (chunk_at A n)) r l)

/-- A load from the shifted copies is the gated activations, shifted by the tap's distance. -/
theorem shift_pt {v : View sig .tc .vmem S8x1056x256 .f32} {rr off : ℕ}
    {inb : ∀ d : Fin 3, (![rr, off, 0] : Fin 3 → ℕ) d + (![1, 1024, 256] : Fin 3 → ℕ) d ≤ (![8, 1056, 256] : Fin 3 → ℕ) d} (k : ℕ)
    (e : off + rr = k + 2) (hr : rr < 8) (ho : off ≤ 32) (hk : k < 31) (r : Fin 1024) (l : Fin 256) :
    v.readCov (shiftList (CY m c n)) (Rect.unit (s := S8x1056x256) ![rr, off, 0] ![1, 1024, 256] inb).toLoadRect (ix3 (0 : Fin 1) r l)
      = ((colAt (gated A.p) l (((tl n).val : ℤ) * 1024 + r.val + k - 30) : ℝ) : EReal) := by
  refine (shift_loaded v (CY m c n) ⟨rr, hr⟩ rfl ho r l).trans ?_
  unfold CY
  rw [first_at]
  refine (copies_tile (piece_at A n 0 rfl) (piece_at A n 1 rfl) (halo_piece A n 0 rfl) (halo_piece A n 1 rfl) ⟨rr, hr⟩ ⟨off + r.val, by omega⟩ l
    (show off + r.val + rr < 1056 by omega)).trans (col_eq _ _ ?_)
  push_cast
  omega

/-- Past the last row a column holds nothing. -/
theorem col_past (f : Fin 8192 → Fin 256 → ℝ) (h : n.val % 8 = 0) (j : Fin 32) (l : Fin 256) :
    ((colAt f l (((tl n).val : ℤ) * 1024 + 1024 + j.val) : ℝ) : EReal) = 0 := by
  have b := below n
  rw [colAt, at0_out _ _ (Or.inr (by simp only [tl]; omega)), EReal.coe_zero]

/-- The point before handles the tile after. -/
theorem col_before (f : Fin 8192 → Fin 256 → ℝ) (h : ¬ n.val % 8 = 0) (b : n.val - 1 < cfg0.N) (j : Fin 32) (l : Fin 256) :
    ((colAt f l (((tl ⟨n.val - 1, b⟩).val : ℤ) * 1024 + j.val) : ℝ) : EReal) = ((colAt f l (((tl n).val : ℤ) * 1024 + 1024 + j.val) : ℝ) : EReal) := by
  have := below n
  refine col_eq _ _ ?_
  simp only [tl]
  omega

set_option maxHeartbeats 2000000 in
/-- What a point leaves of the derivative by the convolved activations for the next. -/
theorem cz_left (j : Fin 32) (l : Fin 256) : (outsAt0 m c n.val n.isLt).2.2.2.2.2.2.1 (ix2 j l) = ((colAt A.dz l (((tl n).val : ℤ) * 1024 + j.val) : ℝ) : EReal) := by
  by_cases h : n.val % 8 = 0
  · rw [outsAt0_A m c n h (by omega)]; frame_out
    exact carry_tile (dz_pt A n) j l
  · by_cases h' : n.val % 8 = 7
    · rw [outsAt0_C m c n h h']; frame_out
      exact carry_tile (dz_pt A n) j l
    · rw [outsAt0_B m c n h h']; frame_out
      exact carry_tile (dz_pt A n) j l

set_option maxHeartbeats 2000000 in
/-- What a point leaves of the short convolution's derivative for the next. -/
theorem cc_left (j : Fin 32) (l : Fin 256) : (outsAt0 m c n.val n.isLt).2.2.2.2.2.2.2.1 (ix2 j l)
    = ((colAt (dShort A.p A.dmx) l (((tl n).val : ℤ) * 1024 + j.val) : ℝ) : EReal) := by
  have key := dcz_carry (db_tile (d_at A n) (wo_at A n)) (piece_at A n 2 (inb := inb_S1024x2048_S1024x256_0_512) rfl) j l
  by_cases h : n.val % 8 = 0
  · rw [outsAt0_A m c n h (by omega)]; frame_out
    exact key
  · by_cases h' : n.val % 8 = 7
    · rw [outsAt0_C m c n h h']; frame_out
      exact key
    · rw [outsAt0_B m c n h h']; frame_out
      exact key

set_option maxHeartbeats 2000000 in
/-- What a point leaves of the windows' derivative for the next. -/
theorem cf_left (j : Fin 32) (l : Fin 256) : (outsAt0 m c n.val n.isLt).2.2.2.2.2.2.2.2.1 (ix2 j l)
    = ((colAt A.dwin l (((tl n).val : ℤ) * 1024 + j.val) : ℝ) : EReal) := by
  have key := fq_carry (dc_tile (d_at A n) (wo_at A n)) (pb_at A n) (vec_row n 3 (inb := inb_S16x256_S1x256_3_0) rfl (ps_at A n)) (cn_pt n) j l
  by_cases h : n.val % 8 = 0
  · rw [outsAt0_A m c n h (by omega)]; frame_out
    exact key
  · by_cases h' : n.val % 8 = 7
    · rw [outsAt0_C m c n h h']; frame_out
      exact key
    · rw [outsAt0_B m c n h h']; frame_out
      exact key

/-- The grid's points handle every tile once. -/
theorem tiles_sum {M : Type} [AddCommMonoid M] (g : Fin 8 → M) : ∑ n : Fin cfg0.N, g (tl n) = ∑ T, g T := by
  refine Fintype.sum_bijective tl ?_ _ _ fun _ => rfl
  rw [Fintype.bijective_iff_injective_and_card]
  refine ⟨fun a b e => Fin.ext ?_, by rw [Fintype.card_fin, Fintype.card_fin]; exact N_0⟩
  have ha := below a
  have hb := below b
  have := congrArg Fin.val e
  simp only [tl] at this
  omega

/-- The rows of the tiles are the rows of the array. -/
theorem rows_sum (f : Fin 8192 → ℝ) : ∑ n : Fin cfg0.N, ∑ r : Fin 1024, f (trow (tl n) r) = ∑ R, f R :=
  (tiles_sum fun T => ∑ r, f (trow T r)).trans (Fin.sum_mul_add_congr fun _ _ _ => rfl)

/-- The last grid point. -/
def lastPoint : Fin cfg0.N := ⟨7, lt_of_lt_of_eq (by norm_num : 7 < 8) N_0.symm⟩

end Cert.MixerKernelIdeal.Mix
-- ==== Proof.MixerShift.lean ====
module

public import proofs.«01_k».proof.Proof.MixerPoint

/-! The mixer's backward kernel: the buffers that it stores piece by piece within one grid point. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)

/-- The stores of the shifted copies. -/
abbrev shifts (n : Fin cfg0.N) : List (View.Piece (Elt Ideal) S8x1056x256 .f32) :=
  [⟨Rect.unit (s := S8x1056x256) ![7, 0, 0] ![1, 1056, 256] inb_S8x1056x256_S1x1056x256_7_0_0, k0_pay31 (k0_pay22 (F := Ideal) (k0_pay14 (F := Ideal) (grid0.coords n)) (k0_pay21 (P0 m c n) (P1 m c n)) (H0 m c n) (H1 m c n))⟩,
    ⟨Rect.unit (s := S8x1056x256) ![6, 0, 0] ![1, 1056, 256] inb_S8x1056x256_S1x1056x256_6_0_0, k0_pay30 (k0_pay22 (F := Ideal) (k0_pay14 (F := Ideal) (grid0.coords n)) (k0_pay21 (P0 m c n) (P1 m c n)) (H0 m c n) (H1 m c n))⟩,
    ⟨Rect.unit (s := S8x1056x256) ![5, 0, 0] ![1, 1056, 256] inb_S8x1056x256_S1x1056x256_5_0_0, k0_pay29 (k0_pay22 (F := Ideal) (k0_pay14 (F := Ideal) (grid0.coords n)) (k0_pay21 (P0 m c n) (P1 m c n)) (H0 m c n) (H1 m c n))⟩,
    ⟨Rect.unit (s := S8x1056x256) ![4, 0, 0] ![1, 1056, 256] inb_S8x1056x256_S1x1056x256_4_0_0, k0_pay28 (k0_pay27 (F := Ideal) (k0_pay14 (F := Ideal) (grid0.coords n)) (k0_pay21 (P0 m c n) (P1 m c n)) (H0 m c n) (H1 m c n))⟩,
    ⟨Rect.unit (s := S8x1056x256) ![3, 0, 0] ![1, 1056, 256] inb_S8x1056x256_S1x1056x256_3_0_0, k0_pay26 (F := Ideal) (k0_pay14 (F := Ideal) (grid0.coords n)) (k0_pay21 (P0 m c n) (P1 m c n)) (H0 m c n) (H1 m c n)⟩,
    ⟨Rect.unit (s := S8x1056x256) ![2, 0, 0] ![1, 1056, 256] inb_S8x1056x256_S1x1056x256_2_0_0, k0_pay25 (F := Ideal) (k0_pay14 (F := Ideal) (grid0.coords n)) (k0_pay21 (P0 m c n) (P1 m c n)) (H0 m c n) (H1 m c n)⟩,
    ⟨Rect.unit (s := S8x1056x256) ![1, 0, 0] ![1, 1056, 256] inb_S8x1056x256_S1x1056x256_1_0_0, k0_pay24 (F := Ideal) (k0_pay14 (F := Ideal) (grid0.coords n)) (k0_pay21 (P0 m c n) (P1 m c n)) (H0 m c n) (H1 m c n)⟩,
    ⟨Rect.unit (s := S8x1056x256) ![0, 0, 0] ![1, 1056, 256] inb_S8x1056x256_S1x1056x256_0_0_0, k0_pay23 (F := Ideal) (k0_pay14 (F := Ideal) (grid0.coords n)) (k0_pay21 (P0 m c n) (P1 m c n)) (H0 m c n) (H1 m c n)⟩]

/-- The rows of the seventh piece from `o` on. -/
abbrev Q6 (n : Fin cfg0.N) (o : ℕ) (inb : ∀ d : Fin 2, (![o, 1536] : Fin 2 → ℕ) d + (![128, 256] : Fin 2 → ℕ) d ≤ (![1024, 2048] : Fin 2 → ℕ) d) : FVec Ideal S128x256 .f32 :=
  View.ld (Val := Elt Ideal) (e' := .f32) (iblk m c 1 n : FVec Ideal S1024x2048 .f32) (Rect.unit (s := S1024x2048) ![o, 1536] ![128, 256] inb)

/-- The stores of the normed values' derivative. -/
abbrev chunks (n : Fin cfg0.N) : List (View.Piece (Elt Ideal) S1024x256 .f32) :=
  [⟨Rect.unit (s := S1024x256) ![896, 0] ![128, 256] inb_S1024x256_S128x256_896_0, k0_pay260 (F := Ideal) k0_pay13 (k0_pay255 (DD m c n)) (Q6 m c n 896 inb_S1024x2048_S128x256_896_1536) (iblk m c 8 n)⟩,
    ⟨Rect.unit (s := S1024x256) ![768, 0] ![128, 256] inb_S1024x256_S128x256_768_0, k0_pay248 (F := Ideal) k0_pay13 (DD m c n) (Q6 m c n 768 inb_S1024x2048_S128x256_768_1536) (iblk m c 8 n)⟩,
    ⟨Rect.unit (s := S1024x256) ![640, 0] ![128, 256] inb_S1024x256_S128x256_640_0, k0_pay234 (F := Ideal) (k0_pay233 k0_pay13 (DD m c n) (Q6 m c n 640 inb_S1024x2048_S128x256_640_1536) (iblk m c 8 n))⟩,
    ⟨Rect.unit (s := S1024x256) ![512, 0] ![128, 256] inb_S1024x256_S128x256_512_0, k0_pay216 (F := Ideal) k0_pay13 (k0_pay209 (DD m c n) (Q6 m c n 512 inb_S1024x2048_S128x256_512_1536) (iblk m c 8 n)) (k0_pay210 (DD m c n) (Q6 m c n 512 inb_S1024x2048_S128x256_512_1536) (iblk m c 8 n)) (k0_pay211 (DD m c n) (Q6 m c n 512 inb_S1024x2048_S128x256_512_1536) (iblk m c 8 n)) (k0_pay212 (DD m c n) (Q6 m c n 512 inb_S1024x2048_S128x256_512_1536) (iblk m c 8 n)) (k0_pay213 k0_pay13) (k0_pay214 k0_pay13) k0_pay215⟩,
    ⟨Rect.unit (s := S1024x256) ![384, 0] ![128, 256] inb_S1024x256_S128x256_384_0, k0_pay189 (F := Ideal) k0_pay13 (k0_pay186 (DD m c n) (Q6 m c n 384 inb_S1024x2048_S128x256_384_1536) (iblk m c 8 n)) (k0_pay187 (DD m c n) (Q6 m c n 384 inb_S1024x2048_S128x256_384_1536) (iblk m c 8 n)) (k0_pay188 (DD m c n) (Q6 m c n 384 inb_S1024x2048_S128x256_384_1536) (iblk m c 8 n))⟩,
    ⟨Rect.unit (s := S1024x256) ![256, 0] ![128, 256] inb_S1024x256_S128x256_256_0, k0_pay174 (F := Ideal) k0_pay13 (k0_pay171 (DD m c n) (Q6 m c n 256 inb_S1024x2048_S128x256_256_1536)) (iblk m c 8 n)⟩,
    ⟨Rect.unit (s := S1024x256) ![128, 0] ![128, 256] inb_S1024x256_S128x256_128_0, k0_pay158 (F := Ideal) k0_pay13 (k0_pay153 (DD m c n)) (Q6 m c n 128 inb_S1024x2048_S128x256_128_1536) (iblk m c 8 n)⟩,
    ⟨Rect.unit (s := S1024x256) ![0, 0] ![128, 256] inb_S1024x256_S128x256_0_0, k0_pay146 (F := Ideal) k0_pay13 (DD m c n) (Q6 m c n 0 inb_S1024x2048_S128x256_0_1536) (iblk m c 8 n)⟩]

variable {m c} (A : Args m c) (n : Fin cfg0.N)

/-- They are the shifted copies' stores. -/
theorem shifts_eq : shifts m c n = shiftList (CY m c n) := rfl

/-- The chunks' stores, one by one. -/
theorem chunkList_of (e0 e1 e2 e3 e4 e5 e6 e7 : FVec Ideal S128x256 .f32) :
    [(⟨Rect.unit (s := S1024x256) ![896, 0] ![128, 256] inb_S1024x256_S128x256_896_0, e7⟩ : View.Piece (Elt Ideal) S1024x256 .f32),
    (⟨Rect.unit (s := S1024x256) ![768, 0] ![128, 256] inb_S1024x256_S128x256_768_0, e6⟩ : View.Piece (Elt Ideal) S1024x256 .f32),
    (⟨Rect.unit (s := S1024x256) ![640, 0] ![128, 256] inb_S1024x256_S128x256_640_0, e5⟩ : View.Piece (Elt Ideal) S1024x256 .f32),
    (⟨Rect.unit (s := S1024x256) ![512, 0] ![128, 256] inb_S1024x256_S128x256_512_0, e4⟩ : View.Piece (Elt Ideal) S1024x256 .f32),
    (⟨Rect.unit (s := S1024x256) ![384, 0] ![128, 256] inb_S1024x256_S128x256_384_0, e3⟩ : View.Piece (Elt Ideal) S1024x256 .f32),
    (⟨Rect.unit (s := S1024x256) ![256, 0] ![128, 256] inb_S1024x256_S128x256_256_0, e2⟩ : View.Piece (Elt Ideal) S1024x256 .f32),
    (⟨Rect.unit (s := S1024x256) ![128, 0] ![128, 256] inb_S1024x256_S128x256_128_0, e1⟩ : View.Piece (Elt Ideal) S1024x256 .f32),
    (⟨Rect.unit (s := S1024x256) ![0, 0] ![128, 256] inb_S1024x256_S128x256_0_0, e0⟩ : View.Piece (Elt Ideal) S1024x256 .f32)] = chunkList ![e0, e1, e2, e3, e4, e5, e6, e7] := rfl

/-- They are the chunks' stores. -/
theorem chunks_eq : chunks m c n = chunkList (dvlOf (DD m c n) (P6 m c n) (iblk m c 8 n)) := by
  unfold dvlOf
  rw [← chunkList_of]
  rw [show P6 m c n 0 = Q6 m c n 0 inb_S1024x2048_S128x256_0_1536 from rfl, show P6 m c n 1 = Q6 m c n 128 inb_S1024x2048_S128x256_128_1536 from rfl, show P6 m c n 2 = Q6 m c n 256 inb_S1024x2048_S128x256_256_1536 from rfl, show P6 m c n 3 = Q6 m c n 384 inb_S1024x2048_S128x256_384_1536 from rfl, show P6 m c n 4 = Q6 m c n 512 inb_S1024x2048_S128x256_512_1536 from rfl, show P6 m c n 5 = Q6 m c n 640 inb_S1024x2048_S128x256_640_1536 from rfl, show P6 m c n 6 = Q6 m c n 768 inb_S1024x2048_S128x256_768_1536 from rfl, show P6 m c n 7 = Q6 m c n 896 inb_S1024x2048_S128x256_896_1536 from rfl]

include A in
/-- A load from the shifted copies is the gated activations, shifted by the tap's distance. -/
theorem shift_at {v : View sig .tc .vmem S8x1056x256 .f32} {rr off : ℕ}
    {inb : ∀ d : Fin 3, (![rr, off, 0] : Fin 3 → ℕ) d + (![1, 1024, 256] : Fin 3 → ℕ) d ≤ (![8, 1056, 256] : Fin 3 → ℕ) d} (k : ℕ)
    (e : off + rr = k + 2) (hr : rr < 8) (ho : off ≤ 32) (hk : k < 31) (r : Fin 1024) (l : Fin 256) :
    v.readCov (shifts m c n) (Rect.unit (s := S8x1056x256) ![rr, off, 0] ![1, 1024, 256] inb).toLoadRect (ix3 (0 : Fin 1) r l)
      = ((colAt (gated A.p) l (((tl n).val : ℤ) * 1024 + r.val + k - 30) : ℝ) : EReal) := by
  rw [shifts_eq]
  exact shift_pt A n k e hr ho hk r l

include A in
/-- A load of the normed values' derivative. -/
theorem dv_at {v : View sig .tc .vmem S1024x256 .f32} (r : Fin 1024) (l : Fin 256) :
    v.readCov (chunks m c n) (Rect.unit (s := S1024x256) ![0, 0] ![1024, 256] inb_S1024x256_S1024x256_0_0).toLoadRect (ix2 r l)
      = (dValLn A.p A.ws A.dmx (trow (tl n) r) l : EReal) := by
  rw [chunks_eq]
  exact (whole_loaded _ _ _ r l).trans ((whole_loaded (View.whole cc0_scratch4) _ inb_S1024x256_S1024x256_0_0 r l).symm.trans (dv_pt A n r l))

end Cert.MixerKernelIdeal.Mix
-- ==== Proof.MixerPureC.lean ====
module

public import proofs.«01_k».proof.Proof.MixerPieces

/-! The derivative of the spatial gate, read at an index. -/

@[expose] public section

set_option maxRecDepth 16384
noncomputable section
open Idealize.ShloMosaic Idealize.ShloMosaic.TcCoe Idealize.SL.Sem
namespace Cert.MixerReferenceIdeal.Mix
open Cert.MixerReferenceIdeal Cert.MixerReferenceIdeal.Gen Cert.MixerReferenceIdeal.Read Cert.Step

variable {d : Fin 8192 → Fin 1024 → ℝ} {wo : Fin 1024 → Fin 1024 → ℝ} {p : Fin 8192 → Fin 2048 → ℝ}
variable {D : FVec Ideal S8192x1024 .f32} {WO : FVec Ideal S1024x1024 .f32} {P : FVec Ideal S8192x2048 .f32}
variable (hd : ∀ r k, D (ix2 r k) = (d r k : EReal)) (ho : ∀ j k, WO (ix2 j k) = (wo j k : EReal))
variable (hp : ∀ r f, P (ix2 r f) = (p r f : EReal))
variable {gg : Fin 256 → ℝ} {ws : Fin 4 → Fin 128 → Fin 128 → ℝ} {GG GB : FVec Ideal S256 .f32} {WS : FVec Ideal S4x128x128 .f32} {BS : FVec Ideal S4x128 .f32}
variable (hgg : ∀ l, GG (ix1 l) = (gg l : EReal)) (hws : ∀ h t s, WS (ix3 h t s) = (ws h t s : EReal))

/-- The row of a place in a chunk. -/
def rowIn (n : Fin 64) (t : Fin 128) : Fin 8192 := ⟨n.val * 128 + t.val, by omega⟩

/-- The lane of a place in a head. -/
def laneIn (h : Fin 4) (j : Fin 64) : Fin 256 := ⟨h.val * 64 + j.val, by omega⟩

include hp in
/-- The values less their mean. -/
theorem vc_at (r : Fin 8192) (l : Fin 256) : val_main_v207 (F := Ideal) P (ix2 r l) = (cen (piece p 7 r) l : EReal) := by
  pointwise [val_main_v207, val_main_v206, val_main_v205, val_main_v204, val_main_v203, val_main_v202, val_main_cst_28, val_main_cst_29]
  simp only [piece7_at hp, lit_256, sum_coe, div_real _ (by norm_num : (256 : ℝ) ≠ 0), ← EReal.coe_sub]
  simp only [cen, mean, Nat.cast_ofNat]

include hp in
/-- Their variance, with the epsilon. -/
theorem vvar_at (r : Fin 8192) (q : Fin 1) : val_main_v214 (F := Ideal) P (ix2 r q) = (meanEps (cen (piece p 7 r)) : EReal) := by
  pointwise [val_main_v214, val_main_v213, val_main_v212, val_main_v211, val_main_v210, val_main_v209, val_main_v208, val_main_cst_30, val_main_cst_31, val_main_cst_32]
  simp only [vc_at hp, lit_256, lit_eps, sum_coe, ← EReal.coe_mul, div_real _ (by norm_num : (256 : ℝ) ≠ 0), ← EReal.coe_add]
  simp only [meanEps, Nat.cast_ofNat]

include hp in
/-- The normed values. -/
theorem vn_at (r : Fin 8192) (l : Fin 256) : val_main_v220 (F := Ideal) P (ix2 r l) = (nrm (piece p 7 r) l : EReal) := by
  pointwise [val_main_v220, val_main_v219, val_main_v215]
  rw [vvar_at hp, vc_at hp, rsqrt_real (meanEps_pos _), invRms_eq, ← EReal.coe_mul, nrm]

include hp hgg in
/-- The normed, scaled values. -/
theorem vln_at (r : Fin 8192) (l : Fin 256) : val_main_v226 (F := Ideal) P GG GB (ix2 r l) = valLnE p gg (fun l => GB (ix1 l)) r l := by
  pointwise [val_main_v226, val_main_v225, val_main_v224, val_main_v223, val_main_v222, val_main_v221]
  rw [vn_at hp, hgg, ← EReal.coe_mul, valLnE]

include hp hgg in
/-- The same by chunk, row, head and lane. -/
theorem vln4_at (n : Fin 64) (s : Fin 128) (h : Fin 4) (j : Fin 64) :
    val_main_v227 (F := Ideal) P GG GB (ix4 n s h j) = valLnE p gg (fun l => GB (ix1 l)) (rowIn n s) (laneIn h j) := by
  pointwise [val_main_v227]
  exact vln_at hp hgg (rowIn n s) (laneIn h j)

/-- Which places the causal mask keeps. -/
theorem keep_at (h : Fin 4) (t s : Fin 128) : val_main_v231_1 (F := Ideal) (ix3 h t s) = if s.val ≤ t.val then 1#1 else 0#1 := by
  pointwise [val_main_v231_1, val_main_v230, val_main_v229, val_main_v228, val_main_c_34, val_main_call3_v0, val_main_call3_c, val_main_call3_v1, val_main_call3_v2, val_main_call3_v3, val_main_call3_v4, val_main_call3_c_0, val_main_call3_v5]
  rw [show (IntOp.addi (BitVec.ofNat 32 t.val) 0#32) = BitVec.ofNat 32 t.val from by simp [IntOp.addi]]
  rw [sge_lit _ _ (by omega) (by omega)]
  split_ifs <;> rfl

include hws in
/-- The causal weights. -/
theorem causal_at (h : Fin 4) (t s : Fin 128) : val_main_v231_0 (F := Ideal) WS (ix3 h t s) = (causal ws h t s : EReal) := by
  pointwise [val_main_v231_0, val_main_call4_v0, val_main_call4_v2, val_main_cst_35]
  rw [keep_at, hws, causal]
  split_ifs
  · rfl
  · show constant (F := Ideal) S_ .f32 0#32 ix0 = 0
    pointwise

include hp hgg hws in
/-- The values mixed over the rows of a chunk. -/
theorem mixed4_at (n : Fin 64) (t : Fin 128) (h : Fin 4) (j : Fin 64) :
    val_main_v237 (F := Ideal) P GG GB WS BS (ix4 n t h j)
      = mixedE p gg (fun l => GB (ix1 l)) ws (fun h t => BS (ix2 h t)) (rowIn n t) (laneIn h j) := by
  pointwise [val_main_v237, val_main_v236, val_main_v235, val_main_v234, val_main_v233, val_main_v232]
  simp only [vln4_at hp hgg, causal_at hws]
  have e0 : head (laneIn h j) = h := Fin.ext (show (h.val * 64 + j.val) / 64 = h.val by omega)
  have e1 : inChunk (rowIn n t) = t := Fin.ext (show (n.val * 128 + t.val) % 128 = t.val by omega)
  have e2 : ∀ s, chunkRow (rowIn n t) s = rowIn n s := fun s => Fin.ext (show (n.val * 128 + t.val) / 128 * 128 + s.val = n.val * 128 + s.val by omega)
  simp only [mixedE, e0, e1, e2]
  exact congrArg (· + _) (Finset.sum_congr rfl fun s _ => mul_comm _ _)

/-- A row is a place in a chunk. -/
theorem rowIn_eq (r : Fin 8192) : rowIn ⟨r.val / 128, by omega⟩ ⟨r.val % 128, by omega⟩ = r := Fin.ext (show r.val / 128 * 128 + r.val % 128 = r.val by omega)

/-- A lane is a place in a head. -/
theorem laneIn_eq (l : Fin 256) : laneIn ⟨l.val / 64, by omega⟩ ⟨l.val % 64, by omega⟩ = l := Fin.ext (show l.val / 64 * 64 + l.val % 64 = l.val by omega)

include hp hgg hws in
/-- The values mixed over the rows of a chunk. -/
theorem mixed_at (r : Fin 8192) (l : Fin 256) :
    val_main_v238 (F := Ideal) P GG GB WS BS (ix2 r l) = mixedE p gg (fun l => GB (ix1 l)) ws (fun h t => BS (ix2 h t)) r l := by
  pointwise [val_main_v238]
  rw [mixed4_at hp hgg hws, rowIn_eq, laneIn_eq]

include hd ho hp hgg hws in
/-- The derivative by the seventh piece. -/
theorem dp6_at (r : Fin 8192) (l : Fin 256) :
    val_main_v248 (F := Ideal) D P GG GB WS BS WO (ix2 r l)
      = (dMix d wo r (mcol 3 l) : EReal) * mixedE p gg (fun l => GB (ix1 l)) ws (fun h t => BS (ix2 h t)) r l := by
  pointwise [val_main_v248]
  rw [mixed_at hp hgg hws, dd_at hd ho]

include hd ho hp in
/-- The derivative by the mixed values, by chunk, row, head and lane. -/
theorem dmixed4_at (n : Fin 64) (t : Fin 128) (h : Fin 4) (j : Fin 64) :
    val_main_v249 (F := Ideal) D P WO (ix4 n t h j) = (dMixed p (dMix d wo) (rowIn n t) (laneIn h j) : EReal) := by
  pointwise [val_main_v249, val_main_v247]
  rw [piece6_at hp, dd_at hd ho, ← EReal.coe_mul, mul_comm]
  rfl

include hd ho hp in
/-- The derivative by the offsets of the mixing. -/
theorem dbs_at (h : Fin 4) (t : Fin 128) :
    val_main_v253 (F := Ideal) D P WO (ix2 h t) = ((∑ n : Fin 64, ∑ j : Fin 64, dMixed p (dMix d wo) (rowIn n t) (laneIn h j) : ℝ) : EReal) := by
  pointwise [val_main_v253, val_main_v252, val_main_v251, val_main_v250, val_main_cst_36, val_main_cst_37]
  rw [sum_outer]
  pointwise
  rw [sum_outer]
  simp only [dmixed4_at hd ho hp, sum_coe, Fin.sum_univ_one, zero_add]

include hd ho hp hgg in
/-- The derivative by the weights of the mixing. -/
theorem dws_at (h : Fin 4) (t s : Fin 128) :
    val_main_v258 (F := Ideal) D P GG GB WO (ix3 h t s)
      = if s.val ≤ t.val then ∑ n : Fin 64, ∑ j : Fin 64, (dMixed p (dMix d wo) (rowIn n t) (laneIn h j) : EReal) * valLnE p gg (fun l => GB (ix1 l)) (rowIn n s) (laneIn h j) else 0 := by
  pointwise [val_main_v258, val_main_v255, val_main_v254, val_main_call5_v0, val_main_call5_cst]
  simp only [keep_at, dmixed4_at hd ho hp, vln4_at hp hgg]
  split_ifs <;> rfl

include hd ho hp hws in
/-- The derivative by the normed, scaled values, by chunk, row, head and lane. -/
theorem dvln4_at (n : Fin 64) (s : Fin 128) (h : Fin 4) (j : Fin 64) :
    val_main_v257 (F := Ideal) D P WS WO (ix4 n s h j) = (dValLn p ws (dMix d wo) (rowIn n s) (laneIn h j) : EReal) := by
  pointwise [val_main_v257, val_main_v256, val_main_v254]
  simp only [dmixed4_at hd ho hp, causal_at hws, ← EReal.coe_mul]
  have e0 : head (laneIn h j) = h := Fin.ext (show (h.val * 64 + j.val) / 64 = h.val by omega)
  have e1 : inChunk (rowIn n s) = s := Fin.ext (show (n.val * 128 + s.val) % 128 = s.val by omega)
  have e2 : ∀ t, chunkRow (rowIn n s) t = rowIn n t := fun t => Fin.ext (show (n.val * 128 + s.val) / 128 * 128 + t.val = n.val * 128 + t.val by omega)
  simp only [sum_coe, dValLn, e0, e1, e2]
  exact congrArg (fun z : ℝ => (z : EReal)) (Finset.sum_congr rfl fun t _ => mul_comm _ _)

include hd ho hp hws in
/-- The derivative by the normed, scaled values. -/
theorem dvln_at (r : Fin 8192) (l : Fin 256) :
    val_main_v259 (F := Ideal) D P WS WO (ix2 r l) = (dValLn p ws (dMix d wo) r l : EReal) := by
  pointwise [val_main_v259]
  rw [dvln4_at hd ho hp hws, rowIn_eq, laneIn_eq]

include hd ho hp hws in
/-- The derivative by the norm's offsets. -/
theorem dgb_at (l : Fin 256) : val_main_v262 (F := Ideal) D P WS WO (ix1 l) = ((∑ r, dValLn p ws (dMix d wo) r l : ℝ) : EReal) := by
  pointwise [val_main_v262, val_main_v261, val_main_v260, val_main_cst_38, val_main_cst_39]
  simp only [dvln_at hd ho hp hws, sum_coe, Fin.sum_univ_one]

include hd ho hp hws in
/-- The derivative by the norm's gains. -/
theorem dgg_at (l : Fin 256) :
    val_main_v268 (F := Ideal) D P WS WO (ix1 l) = ((∑ r, dValLn p ws (dMix d wo) r l * nrm (piece p 7 r) l : ℝ) : EReal) := by
  pointwise [val_main_v268, val_main_v265, val_main_v264, val_main_v263, val_main_cst_40, val_main_cst_41]
  simp only [dvln_at hd ho hp hws, vn_at hp, ← EReal.coe_mul, sum_coe, Fin.sum_univ_one]
  exact congrArg (fun z : ℝ => (z : EReal)) (Finset.sum_congr rfl fun r _ => mul_comm _ _)

include hd ho hp hgg hws in
/-- The derivative by the values, at the centred entries. -/
theorem dvc_at (r : Fin 8192) (l : Fin 256) :
    val_main_v282 (F := Ideal) D P GG WS WO (ix2 r l)
      = (viaCen (piece p 7 r) (fun k => dValLn p ws (dMix d wo) r k * gg k) l : EReal) := by
  pointwise [val_main_v266, val_main_v267, val_main_v269, val_main_v270, val_main_v271, val_main_v272, val_main_v273, val_main_v274, val_main_v275, val_main_v276, val_main_v277, val_main_v278, val_main_v279, val_main_v280, val_main_v281, val_main_v282, val_main_v218, val_main_v217, val_main_v216, val_main_v215, val_main_v221, val_main_cst_33, val_main_cst_42, val_main_cst_43, val_main_cst_44]
  simp only [dvln_at hd ho hp hws, vc_at hp, vvar_at hp, hgg, lit_256, lit_neg_half, rsqrt_real (meanEps_pos _),
    div_real _ (meanEps_pos _).ne', ← EReal.coe_mul, sum_coe, Fin.sum_univ_one, div_real _ (by norm_num : (256 : ℝ) ≠ 0), ← EReal.coe_add, invRms_eq]
  simp only [viaCen, viaVar, Nat.cast_ofNat]

include hd ho hp hgg hws in
/-- The derivative by the eighth piece. -/
theorem dp7_at (r : Fin 8192) (l : Fin 256) :
    val_main_v290 (F := Ideal) D P GG WS WO (ix2 r l) = (dVal p gg ws (dMix d wo) r l : EReal) := by
  rw [dVal, ln_grad (by norm_num)]
  pointwise [val_main_v283, val_main_v284, val_main_v285, val_main_v286, val_main_v287, val_main_v288, val_main_v289, val_main_v290, val_main_cst_45, val_main_cst_46, val_main_cst_47]
  simp only [dvc_at hd ho hp hgg hws, lit_256, neg_real, sum_coe, Fin.sum_univ_one, div_real _ (by norm_num : (256 : ℝ) ≠ 0), ← EReal.coe_add,
    Nat.cast_ofNat]

end Cert.MixerReferenceIdeal.Mix
-- ==== Proof.MixerDpA.lean ====
module

public import proofs.«01_k».proof.Proof.MixerShift
public import proofs.«01_k».proof.Proof.MixerPureC

/-! The mixer's backward kernel: the derivative by the projected activations. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)
variable {m c} (A : Args m c) (n : Fin cfg0.N)

/-- The reference's derivative by the projected activations. -/
abbrev dpRef (m : (ℓ : Loc nD τ sig) → Buf (Elt Ideal) ℓ) (c : Dev nD) : FVec Ideal S8192x2048 .bf16 :=
  MixerReferenceIdeal.Read.val_main_v555 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

set_option maxHeartbeats 1000000 in
/-- The eight pieces stand side by side. -/
theorem join_at (P : Fin 8 → FVec Ideal S8192x256 .f32) (w) (k : Fin 8) (r : Fin 8192) (l : Fin 256) :
    concatenate S8192x2048 1 [⟨S8192x256, P 0⟩, ⟨S8192x256, P 1⟩, ⟨S8192x256, P 2⟩, ⟨S8192x256, P 3⟩, ⟨S8192x256, P 4⟩, ⟨S8192x256, P 5⟩, ⟨S8192x256, P 6⟩, ⟨S8192x256, P 7⟩] w
      (ix2 r (pcol k l)) = P k (ix2 r l) := by
  fin_cases k
  all_goals pointwise [pcol]
  all_goals split_ifs
  all_goals first
    | omega
    | exact congrArg (P _) (congrArg (ix2 r) (Fin.ext (by dsimp only; omega)))

/-- A column of the reference's derivative is a column of one of the pieces. -/
theorem dpRef_at (k : Fin 8) (r : Fin 8192) (l : Fin 256) : dpRef m c (ix2 r (pcol k l))
    = (![MixerReferenceIdeal.Read.val_main_v544 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)), MixerReferenceIdeal.Read.val_main_v545 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)), MixerReferenceIdeal.Read.val_main_v353 (F := Ideal) (m ((c : Thread nD τ).loc main_arg0)) (m ((c : Thread nD τ).loc main_arg1)) (m ((c : Thread nD τ).loc main_arg6)) (m ((c : Thread nD τ).loc main_arg13)), MixerReferenceIdeal.Read.val_main_v375 (F := Ideal) (m ((c : Thread nD τ).loc main_arg0)) (m ((c : Thread nD τ).loc main_arg1)) (m ((c : Thread nD τ).loc main_arg6)) (m ((c : Thread nD τ).loc main_arg13)), MixerReferenceIdeal.Read.val_main_v374 (F := Ideal) (m ((c : Thread nD τ).loc main_arg0)) (m ((c : Thread nD τ).loc main_arg1)) (m ((c : Thread nD τ).loc main_arg6)) (m ((c : Thread nD τ).loc main_arg13)), MixerReferenceIdeal.Read.val_main_v351 (F := Ideal) (m ((c : Thread nD τ).loc main_arg0)) (m ((c : Thread nD τ).loc main_arg7)) (m ((c : Thread nD τ).loc main_arg8)) (m ((c : Thread nD τ).loc main_arg13)), MixerReferenceIdeal.Read.val_main_v248 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)), MixerReferenceIdeal.Read.val_main_v290 (F := Ideal) (m ((c : Thread nD τ).loc main_arg0)) (m ((c : Thread nD τ).loc main_arg1)) (m ((c : Thread nD τ).loc main_arg9)) (m ((c : Thread nD τ).loc main_arg11)) (m ((c : Thread nD τ).loc main_arg13))] : Fin 8 → FVec Ideal S8192x256 .f32) k (ix2 r l) := by
  refine Eq.trans (b := MixerReferenceIdeal.Read.val_main_v546 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 r (pcol k l))) (by pointwise [MixerReferenceIdeal.Read.val_main_v555]) ?_
  unfold MixerReferenceIdeal.Read.val_main_v546
  exact join_at ![MixerReferenceIdeal.Read.val_main_v544 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)), MixerReferenceIdeal.Read.val_main_v545 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)), MixerReferenceIdeal.Read.val_main_v353 (F := Ideal) (m ((c : Thread nD τ).loc main_arg0)) (m ((c : Thread nD τ).loc main_arg1)) (m ((c : Thread nD τ).loc main_arg6)) (m ((c : Thread nD τ).loc main_arg13)), MixerReferenceIdeal.Read.val_main_v375 (F := Ideal) (m ((c : Thread nD τ).loc main_arg0)) (m ((c : Thread nD τ).loc main_arg1)) (m ((c : Thread nD τ).loc main_arg6)) (m ((c : Thread nD τ).loc main_arg13)), MixerReferenceIdeal.Read.val_main_v374 (F := Ideal) (m ((c : Thread nD τ).loc main_arg0)) (m ((c : Thread nD τ).loc main_arg1)) (m ((c : Thread nD τ).loc main_arg6)) (m ((c : Thread nD τ).loc main_arg13)), MixerReferenceIdeal.Read.val_main_v351 (F := Ideal) (m ((c : Thread nD τ).loc main_arg0)) (m ((c : Thread nD τ).loc main_arg7)) (m ((c : Thread nD τ).loc main_arg8)) (m ((c : Thread nD τ).loc main_arg13)), MixerReferenceIdeal.Read.val_main_v248 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)), MixerReferenceIdeal.Read.val_main_v290 (F := Ideal) (m ((c : Thread nD τ).loc main_arg0)) (m ((c : Thread nD τ).loc main_arg1)) (m ((c : Thread nD τ).loc main_arg9)) (m ((c : Thread nD τ).loc main_arg11)) (m ((c : Thread nD τ).loc main_arg13))] _ k r l

/-- All but the last three taps of the convolution's derivative by its input. -/
def dyRest (E : FVec Ideal S1056x256 .f32) (W : Fin 31 → FVec Ideal S1x256 .f32) : FVec Ideal S1024x256 .f32 :=
  k0_pay100 (F := Ideal) E (k0_pay88 E) (k0_pay89 E) (k0_pay90 E) (k0_pay91 E) (k0_pay93 E) (k0_pay95 E)
      (k0_pay97 E (k0_pay88 E) (k0_pay89 E) (k0_pay90 E) (k0_pay91 E) (k0_pay93 E) (k0_pay95 E)
        (k0_pay96 E (k0_pay88 E) (k0_pay89 E) (k0_pay90 E) (k0_pay91 E) (k0_pay92 E)
          (k0_pay94 E k0_pay87 (W 0) (W 1) (W 2) (W 3) (W 4) (W 5)) (W 6) (W 7) (W 8) (W 9) (W 10) (W 11) (W 12))
        (W 13) (W 14) (W 15) (W 16) (W 17) (W 18) (W 19))
      (k0_pay98 (k0_pay92 E)) (k0_pay99 (W 20)) (W 21) (W 22) (W 23) (W 24) (W 25) (W 26) (W 27)

/-- The convolution's derivative by its input, at a point. -/
theorem dy_pt {C : FVec Ideal S32x256 .f32} (ec : ∀ j l, C (ix2 j l) = ((colAt A.dz l (((tl n).val : ℤ) * 1024 + 1024 + j.val) : ℝ) : EReal)) (r : Fin 1024) (l : Fin 256) :
    dyOf (k0_pay85 (DZ m c n) C) (taps m c n) (ix2 r l) = (dGated A.p A.cw A.cb A.lg A.lb A.dmx (trow (tl n) r) l : EReal) :=
  dy_tile (lead_tile (dz_pt A n) ec) (taps_at A n) r l

/-- A tap. -/
abbrev TW (m : (ℓ : Loc nD τ sig) → Buf (Elt Ideal) ℓ) (c : Dev nD) (n : Fin cfg0.N) (o : ℕ)
    (inb : ∀ d : Fin 2, (![o, 0] : Fin 2 → ℕ) d + (![1, 256] : Fin 2 → ℕ) d ≤ (![32, 256] : Fin 2 → ℕ) d) : FVec Ideal S1x256 .f32 :=
  View.ld (Val := Elt Ideal) (e' := .f32) (iblk m c 4 n : FVec Ideal S32x256 .f32) (Rect.unit (s := S32x256) ![o, 0] ![1, 256] inb)

/-- The taps but the last three, applied. -/
abbrev dyX (m : (ℓ : Loc nD τ sig) → Buf (Elt Ideal) ℓ) (c : Dev nD) (n : Fin cfg0.N) (CZ : FVec Ideal S32x256 .f32) : FVec Ideal S1024x256 .f32 :=
  k0_pay100 (F := Ideal) (k0_pay85 (DZ m c n) CZ) (k0_pay88 (k0_pay85 (DZ m c n) CZ)) (k0_pay89 (k0_pay85 (DZ m c n) CZ)) (k0_pay90 (k0_pay85 (DZ m c n) CZ)) (k0_pay91 (k0_pay85 (DZ m c n) CZ)) (k0_pay93 (k0_pay85 (DZ m c n) CZ)) (k0_pay95 (k0_pay85 (DZ m c n) CZ))
      (k0_pay97 (k0_pay85 (DZ m c n) CZ) (k0_pay88 (k0_pay85 (DZ m c n) CZ)) (k0_pay89 (k0_pay85 (DZ m c n) CZ)) (k0_pay90 (k0_pay85 (DZ m c n) CZ)) (k0_pay91 (k0_pay85 (DZ m c n) CZ)) (k0_pay93 (k0_pay85 (DZ m c n) CZ)) (k0_pay95 (k0_pay85 (DZ m c n) CZ))
        (k0_pay96 (k0_pay85 (DZ m c n) CZ) (k0_pay88 (k0_pay85 (DZ m c n) CZ)) (k0_pay89 (k0_pay85 (DZ m c n) CZ)) (k0_pay90 (k0_pay85 (DZ m c n) CZ)) (k0_pay91 (k0_pay85 (DZ m c n) CZ)) (k0_pay92 (k0_pay85 (DZ m c n) CZ))
          (k0_pay94 (k0_pay85 (DZ m c n) CZ) k0_pay87 (TW m c n 0 inb_S32x256_S1x256_0_0) (TW m c n 1 inb_S32x256_S1x256_1_0) (TW m c n 2 inb_S32x256_S1x256_2_0) (TW m c n 3 inb_S32x256_S1x256_3_0) (TW m c n 4 inb_S32x256_S1x256_4_0) (TW m c n 5 inb_S32x256_S1x256_5_0)) (TW m c n 6 inb_S32x256_S1x256_6_0) (TW m c n 7 inb_S32x256_S1x256_7_0) (TW m c n 8 inb_S32x256_S1x256_8_0) (TW m c n 9 inb_S32x256_S1x256_9_0) (TW m c n 10 inb_S32x256_S1x256_10_0) (TW m c n 11 inb_S32x256_S1x256_11_0) (TW m c n 12 inb_S32x256_S1x256_12_0))
        (TW m c n 13 inb_S32x256_S1x256_13_0) (TW m c n 14 inb_S32x256_S1x256_14_0) (TW m c n 15 inb_S32x256_S1x256_15_0) (TW m c n 16 inb_S32x256_S1x256_16_0) (TW m c n 17 inb_S32x256_S1x256_17_0) (TW m c n 18 inb_S32x256_S1x256_18_0) (TW m c n 19 inb_S32x256_S1x256_19_0))
      (k0_pay98 (k0_pay92 (k0_pay85 (DZ m c n) CZ))) (k0_pay99 (TW m c n 20 inb_S32x256_S1x256_20_0)) (TW m c n 21 inb_S32x256_S1x256_21_0) (TW m c n 22 inb_S32x256_S1x256_22_0) (TW m c n 23 inb_S32x256_S1x256_23_0) (TW m c n 24 inb_S32x256_S1x256_24_0) (TW m c n 25 inb_S32x256_S1x256_25_0) (TW m c n 26 inb_S32x256_S1x256_26_0) (TW m c n 27 inb_S32x256_S1x256_27_0)

/-- The taps are those of the window. -/
theorem dyX_eq (CZ : FVec Ideal S32x256 .f32) : dyX m c n CZ = dyRest (k0_pay85 (DZ m c n) CZ) (taps m c n) := by
  unfold dyRest
  rw [show taps m c n 0 = (TW m c n 0 inb_S32x256_S1x256_0_0) from rfl, show taps m c n 1 = (TW m c n 1 inb_S32x256_S1x256_1_0) from rfl, show taps m c n 2 = (TW m c n 2 inb_S32x256_S1x256_2_0) from rfl, show taps m c n 3 = (TW m c n 3 inb_S32x256_S1x256_3_0) from rfl, show taps m c n 4 = (TW m c n 4 inb_S32x256_S1x256_4_0) from rfl, show taps m c n 5 = (TW m c n 5 inb_S32x256_S1x256_5_0) from rfl, show taps m c n 6 = (TW m c n 6 inb_S32x256_S1x256_6_0) from rfl, show taps m c n 7 = (TW m c n 7 inb_S32x256_S1x256_7_0) from rfl, show taps m c n 8 = (TW m c n 8 inb_S32x256_S1x256_8_0) from rfl, show taps m c n 9 = (TW m c n 9 inb_S32x256_S1x256_9_0) from rfl, show taps m c n 10 = (TW m c n 10 inb_S32x256_S1x256_10_0) from rfl, show taps m c n 11 = (TW m c n 11 inb_S32x256_S1x256_11_0) from rfl, show taps m c n 12 = (TW m c n 12 inb_S32x256_S1x256_12_0) from rfl, show taps m c n 13 = (TW m c n 13 inb_S32x256_S1x256_13_0) from rfl, show taps m c n 14 = (TW m c n 14 inb_S32x256_S1x256_14_0) from rfl, show taps m c n 15 = (TW m c n 15 inb_S32x256_S1x256_15_0) from rfl, show taps m c n 16 = (TW m c n 16 inb_S32x256_S1x256_16_0) from rfl, show taps m c n 17 = (TW m c n 17 inb_S32x256_S1x256_17_0) from rfl, show taps m c n 18 = (TW m c n 18 inb_S32x256_S1x256_18_0) from rfl, show taps m c n 19 = (TW m c n 19 inb_S32x256_S1x256_19_0) from rfl, show taps m c n 20 = (TW m c n 20 inb_S32x256_S1x256_20_0) from rfl, show taps m c n 21 = (TW m c n 21 inb_S32x256_S1x256_21_0) from rfl, show taps m c n 22 = (TW m c n 22 inb_S32x256_S1x256_22_0) from rfl, show taps m c n 23 = (TW m c n 23 inb_S32x256_S1x256_23_0) from rfl, show taps m c n 24 = (TW m c n 24 inb_S32x256_S1x256_24_0) from rfl, show taps m c n 25 = (TW m c n 25 inb_S32x256_S1x256_25_0) from rfl, show taps m c n 26 = (TW m c n 26 inb_S32x256_S1x256_26_0) from rfl, show taps m c n 27 = (TW m c n 27 inb_S32x256_S1x256_27_0) from rfl]

/-- The normed values' derivative, read back. -/
abbrev DVX (m : (ℓ : Loc nD τ sig) → Buf (Elt Ideal) ℓ) (c : Dev nD) (n : Fin cfg0.N) : FVec Ideal S1024x256 .f32 :=
  (View.whole cc0_scratch4).readCov (chunks m c n) (Rect.unit (s := S1024x256) ![0, 0] ![1024, 256] inb_S1024x256_S1024x256_0_0).toLoadRect

/-- The stores of a point. -/
abbrev dps (m : (ℓ : Loc nD τ sig) → Buf (Elt Ideal) ℓ) (c : Dev nD) (n : Fin cfg0.N) (CZ CC CF : FVec Ideal S32x256 .f32) : List (View.Piece (Elt Ideal) S1024x2048 .bf16) :=
  [⟨Rect.unit (s := S1024x2048) ![0, 1792] ![1024, 256] inb_S1024x2048_S1024x256_0_1792, k0_pay1 (F := Ideal) (k0_pay271 (k0_pay137 (P7 m c n)) (k0_pay138 (P7 m c n)) (DVX m c n) (G4 m c n))⟩,
    ⟨Rect.unit (s := S1024x2048) ![896, 1536] ![128, 256] inb_S1024x2048_S128x256_896_1536, k0_pay256 (F := Ideal) k0_pay13 (DD m c n) (VL m c n) (iblk m c 7 n) (iblk m c 9 n)⟩,
    ⟨Rect.unit (s := S1024x2048) ![768, 1536] ![128, 256] inb_S1024x2048_S128x256_768_1536, k0_pay244 (F := Ideal) (DD m c n) (k0_pay242 k0_pay13 (VL m c n) (iblk m c 7 n) (iblk m c 9 n))⟩,
    ⟨Rect.unit (s := S1024x2048) ![640, 1536] ![128, 256] inb_S1024x2048_S128x256_640_1536, k0_pay229 (F := Ideal) (DD m c n) (k0_pay223 (VL m c n) (iblk m c 7 n)) (k0_pay224 (VL m c n) (iblk m c 7 n)) (k0_pay225 k0_pay13) (k0_pay226 k0_pay13 (VL m c n) (iblk m c 7 n)) (k0_pay227 k0_pay13) (iblk m c 9 n)⟩,
    ⟨Rect.unit (s := S1024x2048) ![512, 1536] ![128, 256] inb_S1024x2048_S128x256_512_1536, k0_pay204 (F := Ideal) k0_pay13 (DD m c n) (k0_pay198 (VL m c n) (iblk m c 7 n)) (k0_pay199 (VL m c n) (iblk m c 7 n)) (k0_pay200 (VL m c n) (iblk m c 7 n)) (k0_pay201 (VL m c n) (iblk m c 7 n)) (k0_pay202 k0_pay13) (iblk m c 9 n)⟩,
    ⟨Rect.unit (s := S1024x2048) ![384, 1536] ![128, 256] inb_S1024x2048_S128x256_384_1536, k0_pay182 (F := Ideal) k0_pay13 (DD m c n) (VL m c n) (k0_pay180 (iblk m c 7 n)) (iblk m c 9 n)⟩,
    ⟨Rect.unit (s := S1024x2048) ![256, 1536] ![128, 256] inb_S1024x2048_S128x256_256_1536, k0_pay170 (F := Ideal) k0_pay13 (DD m c n) (VL m c n) (iblk m c 7 n) (iblk m c 9 n)⟩,
    ⟨Rect.unit (s := S1024x2048) ![128, 1536] ![128, 256] inb_S1024x2048_S128x256_128_1536, k0_pay154 (F := Ideal) k0_pay13 (DD m c n) (VL m c n) (iblk m c 7 n) (iblk m c 9 n)⟩,
    ⟨Rect.unit (s := S1024x2048) ![0, 1536] ![128, 256] inb_S1024x2048_S128x256_0_1536, k0_pay142 (F := Ideal) (DD m c n) (k0_pay140 k0_pay13 (P7 m c n) (k0_pay134 (G4 m c n)) (k0_pay135 (G5 m c n)) (iblk m c 7 n) (iblk m c 9 n))⟩,
    ⟨Rect.unit (s := S1024x2048) ![0, 1280] ![1024, 256] inb_S1024x2048_S1024x256_0_1280, k0_pay133 (F := Ideal) k0_pay13 (CN n) (DQ m c n) CF⟩,
    ⟨Rect.unit (s := S1024x2048) ![0, 1024] ![1024, 256] inb_S1024x2048_S1024x256_0_1024, k0_pay117 (F := Ideal) (P3 m c n) (k0_pay108 (DB m c n) (P2 m c n)) CC (G8 m c n) (G7 m c n) (G6 m c n)⟩,
    ⟨Rect.unit (s := S1024x2048) ![0, 768] ![1024, 256] inb_S1024x2048_S1024x256_0_768, k0_pay116 (F := Ideal) (P4 m c n) (k0_pay108 (DB m c n) (P2 m c n)) CC (G8 m c n) (G7 m c n) (G6 m c n)⟩,
    ⟨Rect.unit (s := S1024x2048) ![0, 512] ![1024, 256] inb_S1024x2048_S1024x256_0_512, k0_pay109 (F := Ideal) (DB m c n) (k0_pay104 (P3 m c n) (P4 m c n)) (k0_pay105 (k0_pay14 (grid0.coords n)) (P3 m c n) (P4 m c n) (H3 m c n) (H4 m c n)) 1#32 (G8 m c n) (G7 m c n) (G6 m c n)⟩,
    ⟨Rect.unit (s := S1024x2048) ![0, 256] ![1024, 256] inb_S1024x2048_S1024x256_0_256, k0_pay103 (F := Ideal) (P0 m c n) (k0_pay20 (P1 m c n)) (k0_pay85 (DZ m c n) CZ) (k0_pay92 (k0_pay85 (DZ m c n) CZ)) (k0_pay93 (k0_pay85 (DZ m c n) CZ)) (dyX m c n CZ) (TW m c n 28 inb_S32x256_S1x256_28_0) (TW m c n 29 inb_S32x256_S1x256_29_0) (TW m c n 30 inb_S32x256_S1x256_30_0)⟩,
    ⟨Rect.unit (s := S1024x2048) ![0, 0] ![1024, 256] inb_S1024x2048_S1024x256_0_0, k0_pay102 (F := Ideal) (k0_pay20 (P1 m c n)) (k0_pay85 (DZ m c n) CZ) (k0_pay92 (k0_pay85 (DZ m c n) CZ)) (k0_pay93 (k0_pay85 (DZ m c n) CZ)) (dyX m c n CZ) (TW m c n 28 inb_S32x256_S1x256_28_0) (TW m c n 29 inb_S32x256_S1x256_29_0) (TW m c n 30 inb_S32x256_S1x256_30_0)⟩]

/-- The stores of a point, one by one. -/
theorem dpList_of (P0 P1 P2 P3 P4 P5 P7 : FVec Ideal S1024x256 .bf16) (e0 e1 e2 e3 e4 e5 e6 e7 : FVec Ideal S128x256 .bf16) :
    ([⟨Rect.unit (s := S1024x2048) ![0, 1792] ![1024, 256] inb_S1024x2048_S1024x256_0_1792, P7⟩,
    ⟨Rect.unit (s := S1024x2048) ![896, 1536] ![128, 256] inb_S1024x2048_S128x256_896_1536, e7⟩,
    ⟨Rect.unit (s := S1024x2048) ![768, 1536] ![128, 256] inb_S1024x2048_S128x256_768_1536, e6⟩,
    ⟨Rect.unit (s := S1024x2048) ![640, 1536] ![128, 256] inb_S1024x2048_S128x256_640_1536, e5⟩,
    ⟨Rect.unit (s := S1024x2048) ![512, 1536] ![128, 256] inb_S1024x2048_S128x256_512_1536, e4⟩,
    ⟨Rect.unit (s := S1024x2048) ![384, 1536] ![128, 256] inb_S1024x2048_S128x256_384_1536, e3⟩,
    ⟨Rect.unit (s := S1024x2048) ![256, 1536] ![128, 256] inb_S1024x2048_S128x256_256_1536, e2⟩,
    ⟨Rect.unit (s := S1024x2048) ![128, 1536] ![128, 256] inb_S1024x2048_S128x256_128_1536, e1⟩,
    ⟨Rect.unit (s := S1024x2048) ![0, 1536] ![128, 256] inb_S1024x2048_S128x256_0_1536, e0⟩,
    ⟨Rect.unit (s := S1024x2048) ![0, 1280] ![1024, 256] inb_S1024x2048_S1024x256_0_1280, P5⟩,
    ⟨Rect.unit (s := S1024x2048) ![0, 1024] ![1024, 256] inb_S1024x2048_S1024x256_0_1024, P4⟩,
    ⟨Rect.unit (s := S1024x2048) ![0, 768] ![1024, 256] inb_S1024x2048_S1024x256_0_768, P3⟩,
    ⟨Rect.unit (s := S1024x2048) ![0, 512] ![1024, 256] inb_S1024x2048_S1024x256_0_512, P2⟩,
    ⟨Rect.unit (s := S1024x2048) ![0, 256] ![1024, 256] inb_S1024x2048_S1024x256_0_256, P1⟩,
    ⟨Rect.unit (s := S1024x2048) ![0, 0] ![1024, 256] inb_S1024x2048_S1024x256_0_0, P0⟩] : List (View.Piece (Elt Ideal) S1024x2048 .bf16)) = dpList P0 P1 P2 P3 P4 P5 P7 ![e0, e1, e2, e3, e4, e5, e6, e7] := rfl

/-- The stores of a point are those that leave a tile of the derivative. -/
theorem dps_eq (CZ CC CF : FVec Ideal S32x256 .f32) : dps m c n CZ CC CF = dpList
      (k0_pay102 (F := Ideal) (k0_pay20 (P1 m c n)) (k0_pay85 (DZ m c n) CZ) (k0_pay92 (k0_pay85 (DZ m c n) CZ)) (k0_pay93 (k0_pay85 (DZ m c n) CZ))
        (dyRest (k0_pay85 (DZ m c n) CZ) (taps m c n)) (taps m c n 28) (taps m c n 29) (taps m c n 30))
      (k0_pay103 (F := Ideal) (P0 m c n) (k0_pay20 (P1 m c n)) (k0_pay85 (DZ m c n) CZ) (k0_pay92 (k0_pay85 (DZ m c n) CZ)) (k0_pay93 (k0_pay85 (DZ m c n) CZ))
        (dyRest (k0_pay85 (DZ m c n) CZ) (taps m c n)) (taps m c n 28) (taps m c n 29) (taps m c n 30))
      (k0_pay109 (F := Ideal) (DB m c n) (k0_pay104 (P3 m c n) (P4 m c n)) (k0_pay105 (k0_pay14 (grid0.coords n)) (P3 m c n) (P4 m c n) (H3 m c n) (H4 m c n)) 1#32
        (G8 m c n) (G7 m c n) (G6 m c n))
      (k0_pay116 (F := Ideal) (P4 m c n) (k0_pay108 (DB m c n) (P2 m c n)) CC (G8 m c n) (G7 m c n) (G6 m c n))
      (k0_pay117 (F := Ideal) (P3 m c n) (k0_pay108 (DB m c n) (P2 m c n)) CC (G8 m c n) (G7 m c n) (G6 m c n))
      (k0_pay133 (F := Ideal) k0_pay13 (CN n) (DQ m c n) CF)
      (k0_pay1 (F := Ideal) (k0_pay271 (k0_pay137 (P7 m c n)) (k0_pay138 (P7 m c n)) (DVX m c n) (G4 m c n)))
      (dp6Of (DD m c n) (P7 m c n) (k0_pay134 (G4 m c n)) (k0_pay135 (G5 m c n)) (iblk m c 7 n) (iblk m c 9 n)) := by
  unfold dp6Of
  rw [← dpList_of, ← dyX_eq, show taps m c n 28 = (TW m c n 28 inb_S32x256_S1x256_28_0) from rfl, show taps m c n 29 = (TW m c n 29 inb_S32x256_S1x256_29_0) from rfl, show taps m c n 30 = (TW m c n 30 inb_S32x256_S1x256_30_0) from rfl]

set_option maxHeartbeats 4000000 in
/-- What a point stores of the derivative by the projected activations, over what it was carried. -/
theorem dp_stored {CZ CC CF : FVec Ideal S32x256 .f32}
    (ez : ∀ j l, CZ (ix2 j l) = ((colAt A.dz l (((tl n).val : ℤ) * 1024 + 1024 + j.val) : ℝ) : EReal))
    (es : ∀ j l, CC (ix2 j l) = ((colAt (dShort A.p A.dmx) l (((tl n).val : ℤ) * 1024 + 1024 + j.val) : ℝ) : EReal))
    (ew : ∀ j l, CF (ix2 j l) = ((colAt A.dwin l (((tl n).val : ℤ) * 1024 + 1024 + j.val) : ℝ) : EReal)) (r : Fin 1024) (f : Fin 2048) :
    View.canon (dps m c n CZ CC CF) (ix2 r f)
      = dpRef m c (ix2 (trow (tl n) r) f) := by
  rw [dps_eq, first_at]
  have edb := db_tile (d_at A n) (wo_at A n)
  have e8 := fun l => vec_row n (inb := inb_S16x256_S1x256_8_0) 8 rfl (sw2_at (m := m) (c := c) n) l
  have e7 := fun l => vec_row n (inb := inb_S16x256_S1x256_7_0) 7 rfl (sw1_at (m := m) (c := c) n) l
  have e6 := fun l => vec_row n (inb := inb_S16x256_S1x256_6_0) 6 rfl (sw0_at (m := m) (c := c) n) l
  refine dp_canon (G := fun r f => dpRef m c (ix2 (trow (tl n) r) f)) ?_ ?_ ?_ ?_ ?_ ?_ ?_ ?_ r f
  · intro r l
    refine (dp0_tile (dy_pt A n ez) (gate_tile (piece_at A n 1 rfl)) rfl r l).trans ((dpRef_at 0 _ l).trans ?_).symm
    exact MixerReferenceIdeal.Mix.dp0_at A.e_d A.e_wo A.e_p A.e_cw A.e_cb A.e_lg A.e_lb _ l
  · intro r l
    refine (dp1_tile (dy_pt A n ez) (gate_tile (piece_at A n 1 rfl)) (piece_at A n 0 rfl) rfl r l).trans ((dpRef_at 1 _ l).trans ?_).symm
    exact MixerReferenceIdeal.Mix.dp1_at A.e_d A.e_wo A.e_p A.e_cw A.e_cb A.e_lg A.e_lb _ l
  · intro r l
    refine (dp2_tile (sw := swA m c) edb (piece_at A n 3 rfl) (piece_at A n 4 rfl) (halo_piece A n 3 rfl) (halo_piece A n 4 rfl) e8 e7 e6 r l).trans ((dpRef_at 2 _ l).trans ?_).symm
    exact MixerReferenceIdeal.Mix.dp2_at A.e_d A.e_wo A.e_p _ l
  · intro r l
    refine (dp3_tile (sw := swA m c) edb (piece_at A n 2 rfl) (piece_at A n 4 rfl) e8 e7 e6 es r l).trans ((dpRef_at 3 _ l).trans ?_).symm
    exact MixerReferenceIdeal.Mix.dp3_at A.e_d A.e_wo A.e_p _ l
  · intro r l
    refine (dp4_tile (sw := swA m c) edb (piece_at A n 2 rfl) (piece_at A n 3 rfl) e8 e7 e6 es r l).trans ((dpRef_at 4 _ l).trans ?_).symm
    exact MixerReferenceIdeal.Mix.dp4_at A.e_d A.e_wo A.e_p _ l
  · intro r l
    refine (dp5_tile (dc_tile (d_at A n) (wo_at A n)) (pb_at A n) (vec_row n 3 rfl (ps_at A n)) (cn_pt n) ew r l).trans ((dpRef_at 5 _ l).trans ?_).symm
    exact MixerReferenceIdeal.Mix.dp5_at A.e_d A.e_wo (pool_ref _ _ A.e_pw) A.e_ps _ l
  · intro r l
    refine (dval_tile (piece_at A n 7 rfl) (vec_row n 4 rfl (gg_at A n)) (dv_at A n) r l).trans ((dpRef_at 7 _ l).trans ?_).symm
    exact MixerReferenceIdeal.Mix.dp7_at A.e_d A.e_wo A.e_p A.e_gg A.e_ws _ l
  · intro k t l
    refine (dp6_tile (dd_tile (d_at A n) (wo_at A n)) (ws_at A n) (bs_at (m := m) (c := c) n) (vl_pt A n) k t l).trans ((dpRef_at 6 _ l).trans ?_).symm
    exact MixerReferenceIdeal.Mix.dp6_at A.e_d A.e_wo A.e_p A.e_gg A.e_ws _ l

end Cert.MixerKernelIdeal.Mix
-- ==== Proof.MixerDp.lean ====
module

public import proofs.«01_k».proof.Proof.MixerShift
public import proofs.«01_k».proof.Proof.MixerDpA

/-! The mixer's backward kernel: the derivative by the projected activations. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)
variable {m c} (A : Args m c) (n : Fin cfg0.N)

include A in
set_option maxHeartbeats 8000000 in
/-- Every point writes its own tile of the derivative by the projected activations. -/
theorem dp_final : (dats m 0 c).arrAt 13 (cfgs 0).N = dpRef m c := by
  refine (dats m 0 c).arrAt_eq_of_covers 13 _ (by decide +kernel) fun n _ y => ?_
  blk_simp
  rw [after0_13]
  have hy : (win0_13.blk n).view.emb y = (ix2 (trow (tl n) (y 0)) (y 1) : S8192x2048.Idx) := by blk_ext [maps n, trow, tl]
  rw [hy]
  have b : n.val - 1 < cfg0.N := Nat.lt_of_le_of_lt (Nat.sub_le _ _) n.isLt
  by_cases h : n.val % 8 = 0
  · rw [outsAt0_A m c n h (by omega)]; frame_out
    refine (congrArg (View.canon (dps m c n _ _ _)) (eq_ix2 y)).trans (dp_stored A n (fun j l => ?_) (fun j l => ?_) (fun j l => ?_) (y 0) (y 1))
    · rw [col_past n _ h j l]
      pointwise [k0_pay4]
    · rw [col_past n _ h j l]
      pointwise [k0_pay5]
    · rw [col_past n _ h j l]
      pointwise [k0_pay6]
  · by_cases h' : n.val % 8 = 7
    · rw [outsAt0_C m c n h h']; frame_out
      refine (congrArg (View.canon (dps m c n _ _ _)) (eq_ix2 y)).trans (dp_stored A n (fun j l => ?_) (fun j l => ?_) (fun j l => ?_) (y 0) (y 1))
      · exact (congrFun (Memref.IsWhole.read_unread _ _) _).trans ((cz_left A ⟨n.val - 1, b⟩ j l).trans (col_before n _ h b j l))
      · exact (congrFun (Memref.IsWhole.read_unread _ _) _).trans ((cc_left A ⟨n.val - 1, b⟩ j l).trans (col_before n _ h b j l))
      · exact (congrFun (Memref.IsWhole.read_unread _ _) _).trans ((cf_left A ⟨n.val - 1, b⟩ j l).trans (col_before n _ h b j l))
    · rw [outsAt0_B m c n h h']; frame_out
      refine (congrArg (View.canon (dps m c n _ _ _)) (eq_ix2 y)).trans (dp_stored A n (fun j l => ?_) (fun j l => ?_) (fun j l => ?_) (y 0) (y 1))
      · exact (congrFun (Memref.IsWhole.read_unread _ _) _).trans ((cz_left A ⟨n.val - 1, b⟩ j l).trans (col_before n _ h b j l))
      · exact (congrFun (Memref.IsWhole.read_unread _ _) _).trans ((cc_left A ⟨n.val - 1, b⟩ j l).trans (col_before n _ h b j l))
      · exact (congrFun (Memref.IsWhole.read_unread _ _) _).trans ((cf_left A ⟨n.val - 1, b⟩ j l).trans (col_before n _ h b j l))

end Cert.MixerKernelIdeal.Mix
-- ==== Proof.MixerDcw.lean ====
module

public import proofs.«01_k».proof.Proof.MixerShift
public import proofs.«01_k».proof.Proof.MixerPureC

/-! The mixer's backward kernel: the derivatives it adds up over the tiles, by the convolution's taps, the packed vectors and the pooling's weights. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)
variable {m c} (A : Args m c) (n : Fin cfg0.N)

/-- What a list of added rows says of one entry. -/
theorem RowsOk.at {h w : ℕ} {R old : (⟨2, ![h, w]⟩ : Shape).Idx → EReal} {part : ℕ → Fin w → EReal} {S : List ℕ} (e : RowsOk R old part S) (a : Fin h) (l : Fin w) :
    R (ix2 a l) = old (ix2 a l) + if a.val ∈ S then part a.val l else 0 := e a l

/-- A tile's share of the taps' derivative. -/
def tapPart (k : ℕ) (l : Fin 256) : EReal :=
  ((∑ r : Fin 1024, A.dz (trow (tl n) r) l * colAt (gated A.p) l (((trow (tl n) r).val : ℤ) + k - 30) : ℝ) : EReal)

/-- A tap's row of the convolution's derivative. -/
theorem tap_row (O : FVec Ideal S1x256 .f32) (Y : FVec Ideal S1x1024x256 .f32) (k : ℕ)
    (ey : ∀ r l, Y (ix3 0 r l) = ((colAt (gated A.p) l (((tl n).val : ℤ) * 1024 + r.val + k - 30) : ℝ) : EReal)) (l : Fin 256) :
    k0_pay45 (F := Ideal) (DZ m c n) O Y (ix2 (0 : Fin 1) l) = O (ix2 0 l) + tapPart A n k l := tap_tile (dz_pt A n) O Y k ey l

include A in
set_option maxHeartbeats 16000000 in
/-- The first point starts every tap from nothing. -/
theorem dcw_first (h : n.val % 8 = 0) : RowsOk (outsAt0 m c n.val n.isLt).2.1 (fun _ => 0) (tapPart A n) [30, 29, 28, 27, 26, 25, 24, 23, 22, 21, 20, 19, 18, 17, 16, 15, 14, 13, 12, 11, 10, 9, 8, 7, 6, 5, 4, 3, 2, 1, 0] := by
  have t30 := fun O Y ey l => (tap_row A n O Y 30 ey l : (k0_pay84 (F := Ideal) (DZ m c n) O Y) (ix2 (0 : Fin 1) l) = O (ix2 0 l) + tapPart A n 30 l)
  have t29 := fun O Y ey l => (tap_row A n O Y 29 ey l : (k0_pay83 (F := Ideal) (DZ m c n) O Y) (ix2 (0 : Fin 1) l) = O (ix2 0 l) + tapPart A n 29 l)
  have t28 := fun O Y ey l => (tap_row A n O Y 28 ey l : (k0_pay82 (F := Ideal) (DZ m c n) (k0_pay81 O) Y) (ix2 (0 : Fin 1) l) = O (ix2 0 l) + tapPart A n 28 l)
  have t27 := fun O Y ey l => (tap_row A n O Y 27 ey l : (k0_pay80 (F := Ideal) (DZ m c n) O Y) (ix2 (0 : Fin 1) l) = O (ix2 0 l) + tapPart A n 27 l)
  have t26 := fun O Y ey l => (tap_row A n O Y 26 ey l : (k0_pay79 (F := Ideal) (DZ m c n) O Y) (ix2 (0 : Fin 1) l) = O (ix2 0 l) + tapPart A n 26 l)
  have t25 := fun O Y ey l => (tap_row A n O Y 25 ey l : (k0_pay78 (F := Ideal) (DZ m c n) O Y) (ix2 (0 : Fin 1) l) = O (ix2 0 l) + tapPart A n 25 l)
  have t24 := fun O Y ey l => (tap_row A n O Y 24 ey l : (k0_pay77 (F := Ideal) (DZ m c n) O Y) (ix2 (0 : Fin 1) l) = O (ix2 0 l) + tapPart A n 24 l)
  have t23 := fun O Y ey l => (tap_row A n O Y 23 ey l : (k0_pay76 (F := Ideal) (DZ m c n) O Y) (ix2 (0 : Fin 1) l) = O (ix2 0 l) + tapPart A n 23 l)
  have t22 := fun O Y ey l => (tap_row A n O Y 22 ey l : (k0_pay75 (F := Ideal) (DZ m c n) O Y) (ix2 (0 : Fin 1) l) = O (ix2 0 l) + tapPart A n 22 l)
  have t21 := fun O Y ey l => (tap_row A n O Y 21 ey l : (k0_pay74 (F := Ideal) (k0_pay72 O) (k0_pay73 (DZ m c n) Y)) (ix2 (0 : Fin 1) l) = O (ix2 0 l) + tapPart A n 21 l)
  have t20 := fun O Y ey l => (tap_row A n O Y 20 ey l : (k0_pay71 (F := Ideal) (DZ m c n) O Y) (ix2 (0 : Fin 1) l) = O (ix2 0 l) + tapPart A n 20 l)
  have t19 := fun O Y ey l => (tap_row A n O Y 19 ey l : (k0_pay70 (F := Ideal) (DZ m c n) O Y) (ix2 (0 : Fin 1) l) = O (ix2 0 l) + tapPart A n 19 l)
  have t18 := fun O Y ey l => (tap_row A n O Y 18 ey l : (k0_pay69 (F := Ideal) (DZ m c n) (k0_pay68 O) Y) (ix2 (0 : Fin 1) l) = O (ix2 0 l) + tapPart A n 18 l)
  have t17 := fun O Y ey l => (tap_row A n O Y 17 ey l : (k0_pay67 (F := Ideal) (DZ m c n) O Y) (ix2 (0 : Fin 1) l) = O (ix2 0 l) + tapPart A n 17 l)
  have t16 := fun O Y ey l => (tap_row A n O Y 16 ey l : (k0_pay66 (F := Ideal) (DZ m c n) O Y) (ix2 (0 : Fin 1) l) = O (ix2 0 l) + tapPart A n 16 l)
  have t15 := fun O Y ey l => (tap_row A n O Y 15 ey l : (k0_pay65 (F := Ideal) (DZ m c n) O Y) (ix2 (0 : Fin 1) l) = O (ix2 0 l) + tapPart A n 15 l)
  have t14 := fun O Y ey l => (tap_row A n O Y 14 ey l : (k0_pay64 (F := Ideal) (DZ m c n) O Y) (ix2 (0 : Fin 1) l) = O (ix2 0 l) + tapPart A n 14 l)
  have t13 := fun O Y ey l => (tap_row A n O Y 13 ey l : (k0_pay63 (F := Ideal) (DZ m c n) O Y) (ix2 (0 : Fin 1) l) = O (ix2 0 l) + tapPart A n 13 l)
  have t12 := fun O Y ey l => (tap_row A n O Y 12 ey l : (k0_pay62 (F := Ideal) (DZ m c n) O Y) (ix2 (0 : Fin 1) l) = O (ix2 0 l) + tapPart A n 12 l)
  have t11 := fun O Y ey l => (tap_row A n O Y 11 ey l : (k0_pay61 (F := Ideal) (k0_pay59 O) (k0_pay60 (DZ m c n) Y)) (ix2 (0 : Fin 1) l) = O (ix2 0 l) + tapPart A n 11 l)
  have t10 := fun O Y ey l => (tap_row A n O Y 10 ey l : (k0_pay58 (F := Ideal) (DZ m c n) O Y) (ix2 (0 : Fin 1) l) = O (ix2 0 l) + tapPart A n 10 l)
  have t9 := fun O Y ey l => (tap_row A n O Y 9 ey l : (k0_pay57 (F := Ideal) (DZ m c n) O Y) (ix2 (0 : Fin 1) l) = O (ix2 0 l) + tapPart A n 9 l)
  have t8 := fun O Y ey l => (tap_row A n O Y 8 ey l : (k0_pay56 (F := Ideal) (DZ m c n) (k0_pay55 O) Y) (ix2 (0 : Fin 1) l) = O (ix2 0 l) + tapPart A n 8 l)
  have t7 := fun O Y ey l => (tap_row A n O Y 7 ey l : (k0_pay54 (F := Ideal) (DZ m c n) O Y) (ix2 (0 : Fin 1) l) = O (ix2 0 l) + tapPart A n 7 l)
  have t6 := fun O Y ey l => (tap_row A n O Y 6 ey l : (k0_pay53 (F := Ideal) (DZ m c n) O Y) (ix2 (0 : Fin 1) l) = O (ix2 0 l) + tapPart A n 6 l)
  have t5 := fun O Y ey l => (tap_row A n O Y 5 ey l : (k0_pay52 (F := Ideal) (DZ m c n) O Y) (ix2 (0 : Fin 1) l) = O (ix2 0 l) + tapPart A n 5 l)
  have t4 := fun O Y ey l => (tap_row A n O Y 4 ey l : (k0_pay51 (F := Ideal) (DZ m c n) O Y) (ix2 (0 : Fin 1) l) = O (ix2 0 l) + tapPart A n 4 l)
  have t3 := fun O Y ey l => (tap_row A n O Y 3 ey l : (k0_pay50 (F := Ideal) (DZ m c n) O Y) (ix2 (0 : Fin 1) l) = O (ix2 0 l) + tapPart A n 3 l)
  have t2 := fun O Y ey l => (tap_row A n O Y 2 ey l : (k0_pay49 (F := Ideal) (DZ m c n) O Y) (ix2 (0 : Fin 1) l) = O (ix2 0 l) + tapPart A n 2 l)
  have t1 := fun O Y ey l => (tap_row A n O Y 1 ey l : (k0_pay48 (F := Ideal) (k0_pay46 O) (k0_pay47 (DZ m c n) Y)) (ix2 (0 : Fin 1) l) = O (ix2 0 l) + tapPart A n 1 l)
  have t0 := fun O Y ey l => (tap_row A n O Y 0 ey l : (k0_pay45 (F := Ideal) (DZ m c n) O Y) (ix2 (0 : Fin 1) l) = O (ix2 0 l) + tapPart A n 0 l)
  rw [outsAt0_A m c n h (by omega)]; frame_out
  refine rows_read (inb' := inb_S32x256_S1x256_30_0) (ms0_14 n).view (fun l => t30 _ _ (shift_at A n (inb := inb_S8x1056x256_S1x1024x256_0_32_0) 30 rfl (by decide) (by decide) (by decide)) l) (by decide) ?_
  refine rows_read (inb' := inb_S32x256_S1x256_29_0) (ms0_14 n).view (fun l => t29 _ _ (shift_at A n (inb := inb_S8x1056x256_S1x1024x256_7_24_0) 29 rfl (by decide) (by decide) (by decide)) l) (by decide) ?_
  refine rows_read (inb' := inb_S32x256_S1x256_28_0) (ms0_14 n).view (fun l => t28 _ _ (shift_at A n (inb := inb_S8x1056x256_S1x1024x256_6_24_0) 28 rfl (by decide) (by decide) (by decide)) l) (by decide) ?_
  refine rows_read (inb' := inb_S32x256_S1x256_27_0) (ms0_14 n).view (fun l => t27 _ _ (shift_at A n (inb := inb_S8x1056x256_S1x1024x256_5_24_0) 27 rfl (by decide) (by decide) (by decide)) l) (by decide) ?_
  refine rows_read (inb' := inb_S32x256_S1x256_26_0) (ms0_14 n).view (fun l => t26 _ _ (shift_at A n (inb := inb_S8x1056x256_S1x1024x256_4_24_0) 26 rfl (by decide) (by decide) (by decide)) l) (by decide) ?_
  refine rows_read (inb' := inb_S32x256_S1x256_25_0) (ms0_14 n).view (fun l => t25 _ _ (shift_at A n (inb := inb_S8x1056x256_S1x1024x256_3_24_0) 25 rfl (by decide) (by decide) (by decide)) l) (by decide) ?_
  refine rows_read (inb' := inb_S32x256_S1x256_24_0) (ms0_14 n).view (fun l => t24 _ _ (shift_at A n (inb := inb_S8x1056x256_S1x1024x256_2_24_0) 24 rfl (by decide) (by decide) (by decide)) l) (by decide) ?_
  refine rows_read (inb' := inb_S32x256_S1x256_23_0) (ms0_14 n).view (fun l => t23 _ _ (shift_at A n (inb := inb_S8x1056x256_S1x1024x256_1_24_0) 23 rfl (by decide) (by decide) (by decide)) l) (by decide) ?_
  refine rows_read (inb' := inb_S32x256_S1x256_22_0) (ms0_14 n).view (fun l => t22 _ _ (shift_at A n (inb := inb_S8x1056x256_S1x1024x256_0_24_0) 22 rfl (by decide) (by decide) (by decide)) l) (by decide) ?_
  refine rows_read (inb' := inb_S32x256_S1x256_21_0) (ms0_14 n).view (fun l => t21 _ _ (shift_at A n (inb := inb_S8x1056x256_S1x1024x256_7_16_0) 21 rfl (by decide) (by decide) (by decide)) l) (by decide) ?_
  refine rows_read (inb' := inb_S32x256_S1x256_20_0) (ms0_14 n).view (fun l => t20 _ _ (shift_at A n (inb := inb_S8x1056x256_S1x1024x256_6_16_0) 20 rfl (by decide) (by decide) (by decide)) l) (by decide) ?_
  refine rows_read (inb' := inb_S32x256_S1x256_19_0) (ms0_14 n).view (fun l => t19 _ _ (shift_at A n (inb := inb_S8x1056x256_S1x1024x256_5_16_0) 19 rfl (by decide) (by decide) (by decide)) l) (by decide) ?_
  refine rows_read (inb' := inb_S32x256_S1x256_18_0) (ms0_14 n).view (fun l => t18 _ _ (shift_at A n (inb := inb_S8x1056x256_S1x1024x256_4_16_0) 18 rfl (by decide) (by decide) (by decide)) l) (by decide) ?_
  refine rows_read (inb' := inb_S32x256_S1x256_17_0) (ms0_14 n).view (fun l => t17 _ _ (shift_at A n (inb := inb_S8x1056x256_S1x1024x256_3_16_0) 17 rfl (by decide) (by decide) (by decide)) l) (by decide) ?_
  refine rows_read (inb' := inb_S32x256_S1x256_16_0) (ms0_14 n).view (fun l => t16 _ _ (shift_at A n (inb := inb_S8x1056x256_S1x1024x256_2_16_0) 16 rfl (by decide) (by decide) (by decide)) l) (by decide) ?_
  refine rows_read (inb' := inb_S32x256_S1x256_15_0) (ms0_14 n).view (fun l => t15 _ _ (shift_at A n (inb := inb_S8x1056x256_S1x1024x256_1_16_0) 15 rfl (by decide) (by decide) (by decide)) l) (by decide) ?_
  refine rows_read (inb' := inb_S32x256_S1x256_14_0) (ms0_14 n).view (fun l => t14 _ _ (shift_at A n (inb := inb_S8x1056x256_S1x1024x256_0_16_0) 14 rfl (by decide) (by decide) (by decide)) l) (by decide) ?_
  refine rows_read (inb' := inb_S32x256_S1x256_13_0) (ms0_14 n).view (fun l => t13 _ _ (shift_at A n (inb := inb_S8x1056x256_S1x1024x256_7_8_0) 13 rfl (by decide) (by decide) (by decide)) l) (by decide) ?_
  refine rows_read (inb' := inb_S32x256_S1x256_12_0) (ms0_14 n).view (fun l => t12 _ _ (shift_at A n (inb := inb_S8x1056x256_S1x1024x256_6_8_0) 12 rfl (by decide) (by decide) (by decide)) l) (by decide) ?_
  refine rows_read (inb' := inb_S32x256_S1x256_11_0) (ms0_14 n).view (fun l => t11 _ _ (shift_at A n (inb := inb_S8x1056x256_S1x1024x256_5_8_0) 11 rfl (by decide) (by decide) (by decide)) l) (by decide) ?_
  refine rows_read (inb' := inb_S32x256_S1x256_10_0) (ms0_14 n).view (fun l => t10 _ _ (shift_at A n (inb := inb_S8x1056x256_S1x1024x256_4_8_0) 10 rfl (by decide) (by decide) (by decide)) l) (by decide) ?_
  refine rows_read (inb' := inb_S32x256_S1x256_9_0) (ms0_14 n).view (fun l => t9 _ _ (shift_at A n (inb := inb_S8x1056x256_S1x1024x256_3_8_0) 9 rfl (by decide) (by decide) (by decide)) l) (by decide) ?_
  refine rows_read (inb' := inb_S32x256_S1x256_8_0) (ms0_14 n).view (fun l => t8 _ _ (shift_at A n (inb := inb_S8x1056x256_S1x1024x256_2_8_0) 8 rfl (by decide) (by decide) (by decide)) l) (by decide) ?_
  refine rows_read (inb' := inb_S32x256_S1x256_7_0) (ms0_14 n).view (fun l => t7 _ _ (shift_at A n (inb := inb_S8x1056x256_S1x1024x256_1_8_0) 7 rfl (by decide) (by decide) (by decide)) l) (by decide) ?_
  refine rows_read (inb' := inb_S32x256_S1x256_6_0) (ms0_14 n).view (fun l => t6 _ _ (shift_at A n (inb := inb_S8x1056x256_S1x1024x256_0_8_0) 6 rfl (by decide) (by decide) (by decide)) l) (by decide) ?_
  refine rows_read (inb' := inb_S32x256_S1x256_5_0) (ms0_14 n).view (fun l => t5 _ _ (shift_at A n (inb := inb_S8x1056x256_S1x1024x256_7_0_0) 5 rfl (by decide) (by decide) (by decide)) l) (by decide) ?_
  refine rows_read (inb' := inb_S32x256_S1x256_4_0) (ms0_14 n).view (fun l => t4 _ _ (shift_at A n (inb := inb_S8x1056x256_S1x1024x256_6_0_0) 4 rfl (by decide) (by decide) (by decide)) l) (by decide) ?_
  refine rows_read (inb' := inb_S32x256_S1x256_3_0) (ms0_14 n).view (fun l => t3 _ _ (shift_at A n (inb := inb_S8x1056x256_S1x1024x256_5_0_0) 3 rfl (by decide) (by decide) (by decide)) l) (by decide) ?_
  refine rows_read (inb' := inb_S32x256_S1x256_2_0) (ms0_14 n).view (fun l => t2 _ _ (shift_at A n (inb := inb_S8x1056x256_S1x1024x256_4_0_0) 2 rfl (by decide) (by decide) (by decide)) l) (by decide) ?_
  refine rows_read (inb' := inb_S32x256_S1x256_1_0) (ms0_14 n).view (fun l => t1 _ _ (shift_at A n (inb := inb_S8x1056x256_S1x1024x256_3_0_0) 1 rfl (by decide) (by decide) (by decide)) l) (by decide) ?_
  refine rows_read (inb' := inb_S32x256_S1x256_0_0) (ms0_14 n).view (fun l => t0 _ _ (shift_at A n (inb := inb_S8x1056x256_S1x1024x256_2_0_0) 0 rfl (by decide) (by decide) (by decide)) l) (by decide) ?_
  exact rows_none _ ((View.canon_cons_unit_lit _ _ _ (by decide)).trans (funext fun j => by idx_vars j; pointwise [k0_pay8]))

include A in
set_option maxHeartbeats 16000000 in
/-- The last point adds its share. -/
theorem dcw_last (h : ¬ n.val % 8 = 0) (h' : n.val % 8 = 7) : RowsOk (outsAt0 m c n.val n.isLt).2.1 (outsAt0 m c (n.val - 1) (Nat.lt_of_le_of_lt (Nat.sub_le _ _) n.isLt)).2.1 (tapPart A n) [30, 29, 28, 27, 26, 25, 24, 23, 22, 21, 20, 19, 18, 17, 16, 15, 14, 13, 12, 11, 10, 9, 8, 7, 6, 5, 4, 3, 2, 1, 0] := by
  have t30 := fun O Y ey l => (tap_row A n O Y 30 ey l : (k0_pay84 (F := Ideal) (DZ m c n) O Y) (ix2 (0 : Fin 1) l) = O (ix2 0 l) + tapPart A n 30 l)
  have t29 := fun O Y ey l => (tap_row A n O Y 29 ey l : (k0_pay83 (F := Ideal) (DZ m c n) O Y) (ix2 (0 : Fin 1) l) = O (ix2 0 l) + tapPart A n 29 l)
  have t28 := fun O Y ey l => (tap_row A n O Y 28 ey l : (k0_pay82 (F := Ideal) (DZ m c n) (k0_pay81 O) Y) (ix2 (0 : Fin 1) l) = O (ix2 0 l) + tapPart A n 28 l)
  have t27 := fun O Y ey l => (tap_row A n O Y 27 ey l : (k0_pay80 (F := Ideal) (DZ m c n) O Y) (ix2 (0 : Fin 1) l) = O (ix2 0 l) + tapPart A n 27 l)
  have t26 := fun O Y ey l => (tap_row A n O Y 26 ey l : (k0_pay79 (F := Ideal) (DZ m c n) O Y) (ix2 (0 : Fin 1) l) = O (ix2 0 l) + tapPart A n 26 l)
  have t25 := fun O Y ey l => (tap_row A n O Y 25 ey l : (k0_pay78 (F := Ideal) (DZ m c n) O Y) (ix2 (0 : Fin 1) l) = O (ix2 0 l) + tapPart A n 25 l)
  have t24 := fun O Y ey l => (tap_row A n O Y 24 ey l : (k0_pay77 (F := Ideal) (DZ m c n) O Y) (ix2 (0 : Fin 1) l) = O (ix2 0 l) + tapPart A n 24 l)
  have t23 := fun O Y ey l => (tap_row A n O Y 23 ey l : (k0_pay76 (F := Ideal) (DZ m c n) O Y) (ix2 (0 : Fin 1) l) = O (ix2 0 l) + tapPart A n 23 l)
  have t22 := fun O Y ey l => (tap_row A n O Y 22 ey l : (k0_pay75 (F := Ideal) (DZ m c n) O Y) (ix2 (0 : Fin 1) l) = O (ix2 0 l) + tapPart A n 22 l)
  have t21 := fun O Y ey l => (tap_row A n O Y 21 ey l : (k0_pay74 (F := Ideal) (k0_pay72 O) (k0_pay73 (DZ m c n) Y)) (ix2 (0 : Fin 1) l) = O (ix2 0 l) + tapPart A n 21 l)
  have t20 := fun O Y ey l => (tap_row A n O Y 20 ey l : (k0_pay71 (F := Ideal) (DZ m c n) O Y) (ix2 (0 : Fin 1) l) = O (ix2 0 l) + tapPart A n 20 l)
  have t19 := fun O Y ey l => (tap_row A n O Y 19 ey l : (k0_pay70 (F := Ideal) (DZ m c n) O Y) (ix2 (0 : Fin 1) l) = O (ix2 0 l) + tapPart A n 19 l)
  have t18 := fun O Y ey l => (tap_row A n O Y 18 ey l : (k0_pay69 (F := Ideal) (DZ m c n) (k0_pay68 O) Y) (ix2 (0 : Fin 1) l) = O (ix2 0 l) + tapPart A n 18 l)
  have t17 := fun O Y ey l => (tap_row A n O Y 17 ey l : (k0_pay67 (F := Ideal) (DZ m c n) O Y) (ix2 (0 : Fin 1) l) = O (ix2 0 l) + tapPart A n 17 l)
  have t16 := fun O Y ey l => (tap_row A n O Y 16 ey l : (k0_pay66 (F := Ideal) (DZ m c n) O Y) (ix2 (0 : Fin 1) l) = O (ix2 0 l) + tapPart A n 16 l)
  have t15 := fun O Y ey l => (tap_row A n O Y 15 ey l : (k0_pay65 (F := Ideal) (DZ m c n) O Y) (ix2 (0 : Fin 1) l) = O (ix2 0 l) + tapPart A n 15 l)
  have t14 := fun O Y ey l => (tap_row A n O Y 14 ey l : (k0_pay64 (F := Ideal) (DZ m c n) O Y) (ix2 (0 : Fin 1) l) = O (ix2 0 l) + tapPart A n 14 l)
  have t13 := fun O Y ey l => (tap_row A n O Y 13 ey l : (k0_pay63 (F := Ideal) (DZ m c n) O Y) (ix2 (0 : Fin 1) l) = O (ix2 0 l) + tapPart A n 13 l)
  have t12 := fun O Y ey l => (tap_row A n O Y 12 ey l : (k0_pay62 (F := Ideal) (DZ m c n) O Y) (ix2 (0 : Fin 1) l) = O (ix2 0 l) + tapPart A n 12 l)
  have t11 := fun O Y ey l => (tap_row A n O Y 11 ey l : (k0_pay61 (F := Ideal) (k0_pay59 O) (k0_pay60 (DZ m c n) Y)) (ix2 (0 : Fin 1) l) = O (ix2 0 l) + tapPart A n 11 l)
  have t10 := fun O Y ey l => (tap_row A n O Y 10 ey l : (k0_pay58 (F := Ideal) (DZ m c n) O Y) (ix2 (0 : Fin 1) l) = O (ix2 0 l) + tapPart A n 10 l)
  have t9 := fun O Y ey l => (tap_row A n O Y 9 ey l : (k0_pay57 (F := Ideal) (DZ m c n) O Y) (ix2 (0 : Fin 1) l) = O (ix2 0 l) + tapPart A n 9 l)
  have t8 := fun O Y ey l => (tap_row A n O Y 8 ey l : (k0_pay56 (F := Ideal) (DZ m c n) (k0_pay55 O) Y) (ix2 (0 : Fin 1) l) = O (ix2 0 l) + tapPart A n 8 l)
  have t7 := fun O Y ey l => (tap_row A n O Y 7 ey l : (k0_pay54 (F := Ideal) (DZ m c n) O Y) (ix2 (0 : Fin 1) l) = O (ix2 0 l) + tapPart A n 7 l)
  have t6 := fun O Y ey l => (tap_row A n O Y 6 ey l : (k0_pay53 (F := Ideal) (DZ m c n) O Y) (ix2 (0 : Fin 1) l) = O (ix2 0 l) + tapPart A n 6 l)
  have t5 := fun O Y ey l => (tap_row A n O Y 5 ey l : (k0_pay52 (F := Ideal) (DZ m c n) O Y) (ix2 (0 : Fin 1) l) = O (ix2 0 l) + tapPart A n 5 l)
  have t4 := fun O Y ey l => (tap_row A n O Y 4 ey l : (k0_pay51 (F := Ideal) (DZ m c n) O Y) (ix2 (0 : Fin 1) l) = O (ix2 0 l) + tapPart A n 4 l)
  have t3 := fun O Y ey l => (tap_row A n O Y 3 ey l : (k0_pay50 (F := Ideal) (DZ m c n) O Y) (ix2 (0 : Fin 1) l) = O (ix2 0 l) + tapPart A n 3 l)
  have t2 := fun O Y ey l => (tap_row A n O Y 2 ey l : (k0_pay49 (F := Ideal) (DZ m c n) O Y) (ix2 (0 : Fin 1) l) = O (ix2 0 l) + tapPart A n 2 l)
  have t1 := fun O Y ey l => (tap_row A n O Y 1 ey l : (k0_pay48 (F := Ideal) (k0_pay46 O) (k0_pay47 (DZ m c n) Y)) (ix2 (0 : Fin 1) l) = O (ix2 0 l) + tapPart A n 1 l)
  have t0 := fun O Y ey l => (tap_row A n O Y 0 ey l : (k0_pay45 (F := Ideal) (DZ m c n) O Y) (ix2 (0 : Fin 1) l) = O (ix2 0 l) + tapPart A n 0 l)
  rw [outsAt0_C m c n h h']; frame_out
  refine rows_load (inb' := inb_S32x256_S1x256_30_0) _ _ (fun l => t30 _ _ (shift_at A n (inb := inb_S8x1056x256_S1x1024x256_0_32_0) 30 rfl (by decide) (by decide) (by decide)) l) ?_
  refine rows_load (inb' := inb_S32x256_S1x256_29_0) _ _ (fun l => t29 _ _ (shift_at A n (inb := inb_S8x1056x256_S1x1024x256_7_24_0) 29 rfl (by decide) (by decide) (by decide)) l) ?_
  refine rows_load (inb' := inb_S32x256_S1x256_28_0) _ _ (fun l => t28 _ _ (shift_at A n (inb := inb_S8x1056x256_S1x1024x256_6_24_0) 28 rfl (by decide) (by decide) (by decide)) l) ?_
  refine rows_load (inb' := inb_S32x256_S1x256_27_0) _ _ (fun l => t27 _ _ (shift_at A n (inb := inb_S8x1056x256_S1x1024x256_5_24_0) 27 rfl (by decide) (by decide) (by decide)) l) ?_
  refine rows_load (inb' := inb_S32x256_S1x256_26_0) _ _ (fun l => t26 _ _ (shift_at A n (inb := inb_S8x1056x256_S1x1024x256_4_24_0) 26 rfl (by decide) (by decide) (by decide)) l) ?_
  refine rows_load (inb' := inb_S32x256_S1x256_25_0) _ _ (fun l => t25 _ _ (shift_at A n (inb := inb_S8x1056x256_S1x1024x256_3_24_0) 25 rfl (by decide) (by decide) (by decide)) l) ?_
  refine rows_load (inb' := inb_S32x256_S1x256_24_0) _ _ (fun l => t24 _ _ (shift_at A n (inb := inb_S8x1056x256_S1x1024x256_2_24_0) 24 rfl (by decide) (by decide) (by decide)) l) ?_
  refine rows_load (inb' := inb_S32x256_S1x256_23_0) _ _ (fun l => t23 _ _ (shift_at A n (inb := inb_S8x1056x256_S1x1024x256_1_24_0) 23 rfl (by decide) (by decide) (by decide)) l) ?_
  refine rows_load (inb' := inb_S32x256_S1x256_22_0) _ _ (fun l => t22 _ _ (shift_at A n (inb := inb_S8x1056x256_S1x1024x256_0_24_0) 22 rfl (by decide) (by decide) (by decide)) l) ?_
  refine rows_load (inb' := inb_S32x256_S1x256_21_0) _ _ (fun l => t21 _ _ (shift_at A n (inb := inb_S8x1056x256_S1x1024x256_7_16_0) 21 rfl (by decide) (by decide) (by decide)) l) ?_
  refine rows_load (inb' := inb_S32x256_S1x256_20_0) _ _ (fun l => t20 _ _ (shift_at A n (inb := inb_S8x1056x256_S1x1024x256_6_16_0) 20 rfl (by decide) (by decide) (by decide)) l) ?_
  refine rows_load (inb' := inb_S32x256_S1x256_19_0) _ _ (fun l => t19 _ _ (shift_at A n (inb := inb_S8x1056x256_S1x1024x256_5_16_0) 19 rfl (by decide) (by decide) (by decide)) l) ?_
  refine rows_load (inb' := inb_S32x256_S1x256_18_0) _ _ (fun l => t18 _ _ (shift_at A n (inb := inb_S8x1056x256_S1x1024x256_4_16_0) 18 rfl (by decide) (by decide) (by decide)) l) ?_
  refine rows_load (inb' := inb_S32x256_S1x256_17_0) _ _ (fun l => t17 _ _ (shift_at A n (inb := inb_S8x1056x256_S1x1024x256_3_16_0) 17 rfl (by decide) (by decide) (by decide)) l) ?_
  refine rows_load (inb' := inb_S32x256_S1x256_16_0) _ _ (fun l => t16 _ _ (shift_at A n (inb := inb_S8x1056x256_S1x1024x256_2_16_0) 16 rfl (by decide) (by decide) (by decide)) l) ?_
  refine rows_load (inb' := inb_S32x256_S1x256_15_0) _ _ (fun l => t15 _ _ (shift_at A n (inb := inb_S8x1056x256_S1x1024x256_1_16_0) 15 rfl (by decide) (by decide) (by decide)) l) ?_
  refine rows_load (inb' := inb_S32x256_S1x256_14_0) _ _ (fun l => t14 _ _ (shift_at A n (inb := inb_S8x1056x256_S1x1024x256_0_16_0) 14 rfl (by decide) (by decide) (by decide)) l) ?_
  refine rows_load (inb' := inb_S32x256_S1x256_13_0) _ _ (fun l => t13 _ _ (shift_at A n (inb := inb_S8x1056x256_S1x1024x256_7_8_0) 13 rfl (by decide) (by decide) (by decide)) l) ?_
  refine rows_load (inb' := inb_S32x256_S1x256_12_0) _ _ (fun l => t12 _ _ (shift_at A n (inb := inb_S8x1056x256_S1x1024x256_6_8_0) 12 rfl (by decide) (by decide) (by decide)) l) ?_
  refine rows_load (inb' := inb_S32x256_S1x256_11_0) _ _ (fun l => t11 _ _ (shift_at A n (inb := inb_S8x1056x256_S1x1024x256_5_8_0) 11 rfl (by decide) (by decide) (by decide)) l) ?_
  refine rows_load (inb' := inb_S32x256_S1x256_10_0) _ _ (fun l => t10 _ _ (shift_at A n (inb := inb_S8x1056x256_S1x1024x256_4_8_0) 10 rfl (by decide) (by decide) (by decide)) l) ?_
  refine rows_load (inb' := inb_S32x256_S1x256_9_0) _ _ (fun l => t9 _ _ (shift_at A n (inb := inb_S8x1056x256_S1x1024x256_3_8_0) 9 rfl (by decide) (by decide) (by decide)) l) ?_
  refine rows_load (inb' := inb_S32x256_S1x256_8_0) _ _ (fun l => t8 _ _ (shift_at A n (inb := inb_S8x1056x256_S1x1024x256_2_8_0) 8 rfl (by decide) (by decide) (by decide)) l) ?_
  refine rows_load (inb' := inb_S32x256_S1x256_7_0) _ _ (fun l => t7 _ _ (shift_at A n (inb := inb_S8x1056x256_S1x1024x256_1_8_0) 7 rfl (by decide) (by decide) (by decide)) l) ?_
  refine rows_load (inb' := inb_S32x256_S1x256_6_0) _ _ (fun l => t6 _ _ (shift_at A n (inb := inb_S8x1056x256_S1x1024x256_0_8_0) 6 rfl (by decide) (by decide) (by decide)) l) ?_
  refine rows_load (inb' := inb_S32x256_S1x256_5_0) _ _ (fun l => t5 _ _ (shift_at A n (inb := inb_S8x1056x256_S1x1024x256_7_0_0) 5 rfl (by decide) (by decide) (by decide)) l) ?_
  refine rows_load (inb' := inb_S32x256_S1x256_4_0) _ _ (fun l => t4 _ _ (shift_at A n (inb := inb_S8x1056x256_S1x1024x256_6_0_0) 4 rfl (by decide) (by decide) (by decide)) l) ?_
  refine rows_load (inb' := inb_S32x256_S1x256_3_0) _ _ (fun l => t3 _ _ (shift_at A n (inb := inb_S8x1056x256_S1x1024x256_5_0_0) 3 rfl (by decide) (by decide) (by decide)) l) ?_
  refine rows_load (inb' := inb_S32x256_S1x256_2_0) _ _ (fun l => t2 _ _ (shift_at A n (inb := inb_S8x1056x256_S1x1024x256_4_0_0) 2 rfl (by decide) (by decide) (by decide)) l) ?_
  refine rows_load (inb' := inb_S32x256_S1x256_1_0) _ _ (fun l => t1 _ _ (shift_at A n (inb := inb_S8x1056x256_S1x1024x256_3_0_0) 1 rfl (by decide) (by decide) (by decide)) l) ?_
  refine rows_load (inb' := inb_S32x256_S1x256_0_0) _ _ (fun l => t0 _ _ (shift_at A n (inb := inb_S8x1056x256_S1x1024x256_2_0_0) 0 rfl (by decide) (by decide) (by decide)) l) ?_
  exact rows_none _ (by rw [View.writes_nil, Memref.IsWhole.read_unread])

include A in
set_option maxHeartbeats 16000000 in
/-- A point between adds its share. -/
theorem dcw_next (h : ¬ n.val % 8 = 0) (h' : ¬ n.val % 8 = 7) : RowsOk (outsAt0 m c n.val n.isLt).2.1 (outsAt0 m c (n.val - 1) (Nat.lt_of_le_of_lt (Nat.sub_le _ _) n.isLt)).2.1 (tapPart A n) [30, 29, 28, 27, 26, 25, 24, 23, 22, 21, 20, 19, 18, 17, 16, 15, 14, 13, 12, 11, 10, 9, 8, 7, 6, 5, 4, 3, 2, 1, 0] := by
  have t30 := fun O Y ey l => (tap_row A n O Y 30 ey l : (k0_pay84 (F := Ideal) (DZ m c n) O Y) (ix2 (0 : Fin 1) l) = O (ix2 0 l) + tapPart A n 30 l)
  have t29 := fun O Y ey l => (tap_row A n O Y 29 ey l : (k0_pay83 (F := Ideal) (DZ m c n) O Y) (ix2 (0 : Fin 1) l) = O (ix2 0 l) + tapPart A n 29 l)
  have t28 := fun O Y ey l => (tap_row A n O Y 28 ey l : (k0_pay82 (F := Ideal) (DZ m c n) (k0_pay81 O) Y) (ix2 (0 : Fin 1) l) = O (ix2 0 l) + tapPart A n 28 l)
  have t27 := fun O Y ey l => (tap_row A n O Y 27 ey l : (k0_pay80 (F := Ideal) (DZ m c n) O Y) (ix2 (0 : Fin 1) l) = O (ix2 0 l) + tapPart A n 27 l)
  have t26 := fun O Y ey l => (tap_row A n O Y 26 ey l : (k0_pay79 (F := Ideal) (DZ m c n) O Y) (ix2 (0 : Fin 1) l) = O (ix2 0 l) + tapPart A n 26 l)
  have t25 := fun O Y ey l => (tap_row A n O Y 25 ey l : (k0_pay78 (F := Ideal) (DZ m c n) O Y) (ix2 (0 : Fin 1) l) = O (ix2 0 l) + tapPart A n 25 l)
  have t24 := fun O Y ey l => (tap_row A n O Y 24 ey l : (k0_pay77 (F := Ideal) (DZ m c n) O Y) (ix2 (0 : Fin 1) l) = O (ix2 0 l) + tapPart A n 24 l)
  have t23 := fun O Y ey l => (tap_row A n O Y 23 ey l : (k0_pay76 (F := Ideal) (DZ m c n) O Y) (ix2 (0 : Fin 1) l) = O (ix2 0 l) + tapPart A n 23 l)
  have t22 := fun O Y ey l => (tap_row A n O Y 22 ey l : (k0_pay75 (F := Ideal) (DZ m c n) O Y) (ix2 (0 : Fin 1) l) = O (ix2 0 l) + tapPart A n 22 l)
  have t21 := fun O Y ey l => (tap_row A n O Y 21 ey l : (k0_pay74 (F := Ideal) (k0_pay72 O) (k0_pay73 (DZ m c n) Y)) (ix2 (0 : Fin 1) l) = O (ix2 0 l) + tapPart A n 21 l)
  have t20 := fun O Y ey l => (tap_row A n O Y 20 ey l : (k0_pay71 (F := Ideal) (DZ m c n) O Y) (ix2 (0 : Fin 1) l) = O (ix2 0 l) + tapPart A n 20 l)
  have t19 := fun O Y ey l => (tap_row A n O Y 19 ey l : (k0_pay70 (F := Ideal) (DZ m c n) O Y) (ix2 (0 : Fin 1) l) = O (ix2 0 l) + tapPart A n 19 l)
  have t18 := fun O Y ey l => (tap_row A n O Y 18 ey l : (k0_pay69 (F := Ideal) (DZ m c n) (k0_pay68 O) Y) (ix2 (0 : Fin 1) l) = O (ix2 0 l) + tapPart A n 18 l)
  have t17 := fun O Y ey l => (tap_row A n O Y 17 ey l : (k0_pay67 (F := Ideal) (DZ m c n) O Y) (ix2 (0 : Fin 1) l) = O (ix2 0 l) + tapPart A n 17 l)
  have t16 := fun O Y ey l => (tap_row A n O Y 16 ey l : (k0_pay66 (F := Ideal) (DZ m c n) O Y) (ix2 (0 : Fin 1) l) = O (ix2 0 l) + tapPart A n 16 l)
  have t15 := fun O Y ey l => (tap_row A n O Y 15 ey l : (k0_pay65 (F := Ideal) (DZ m c n) O Y) (ix2 (0 : Fin 1) l) = O (ix2 0 l) + tapPart A n 15 l)
  have t14 := fun O Y ey l => (tap_row A n O Y 14 ey l : (k0_pay64 (F := Ideal) (DZ m c n) O Y) (ix2 (0 : Fin 1) l) = O (ix2 0 l) + tapPart A n 14 l)
  have t13 := fun O Y ey l => (tap_row A n O Y 13 ey l : (k0_pay63 (F := Ideal) (DZ m c n) O Y) (ix2 (0 : Fin 1) l) = O (ix2 0 l) + tapPart A n 13 l)
  have t12 := fun O Y ey l => (tap_row A n O Y 12 ey l : (k0_pay62 (F := Ideal) (DZ m c n) O Y) (ix2 (0 : Fin 1) l) = O (ix2 0 l) + tapPart A n 12 l)
  have t11 := fun O Y ey l => (tap_row A n O Y 11 ey l : (k0_pay61 (F := Ideal) (k0_pay59 O) (k0_pay60 (DZ m c n) Y)) (ix2 (0 : Fin 1) l) = O (ix2 0 l) + tapPart A n 11 l)
  have t10 := fun O Y ey l => (tap_row A n O Y 10 ey l : (k0_pay58 (F := Ideal) (DZ m c n) O Y) (ix2 (0 : Fin 1) l) = O (ix2 0 l) + tapPart A n 10 l)
  have t9 := fun O Y ey l => (tap_row A n O Y 9 ey l : (k0_pay57 (F := Ideal) (DZ m c n) O Y) (ix2 (0 : Fin 1) l) = O (ix2 0 l) + tapPart A n 9 l)
  have t8 := fun O Y ey l => (tap_row A n O Y 8 ey l : (k0_pay56 (F := Ideal) (DZ m c n) (k0_pay55 O) Y) (ix2 (0 : Fin 1) l) = O (ix2 0 l) + tapPart A n 8 l)
  have t7 := fun O Y ey l => (tap_row A n O Y 7 ey l : (k0_pay54 (F := Ideal) (DZ m c n) O Y) (ix2 (0 : Fin 1) l) = O (ix2 0 l) + tapPart A n 7 l)
  have t6 := fun O Y ey l => (tap_row A n O Y 6 ey l : (k0_pay53 (F := Ideal) (DZ m c n) O Y) (ix2 (0 : Fin 1) l) = O (ix2 0 l) + tapPart A n 6 l)
  have t5 := fun O Y ey l => (tap_row A n O Y 5 ey l : (k0_pay52 (F := Ideal) (DZ m c n) O Y) (ix2 (0 : Fin 1) l) = O (ix2 0 l) + tapPart A n 5 l)
  have t4 := fun O Y ey l => (tap_row A n O Y 4 ey l : (k0_pay51 (F := Ideal) (DZ m c n) O Y) (ix2 (0 : Fin 1) l) = O (ix2 0 l) + tapPart A n 4 l)
  have t3 := fun O Y ey l => (tap_row A n O Y 3 ey l : (k0_pay50 (F := Ideal) (DZ m c n) O Y) (ix2 (0 : Fin 1) l) = O (ix2 0 l) + tapPart A n 3 l)
  have t2 := fun O Y ey l => (tap_row A n O Y 2 ey l : (k0_pay49 (F := Ideal) (DZ m c n) O Y) (ix2 (0 : Fin 1) l) = O (ix2 0 l) + tapPart A n 2 l)
  have t1 := fun O Y ey l => (tap_row A n O Y 1 ey l : (k0_pay48 (F := Ideal) (k0_pay46 O) (k0_pay47 (DZ m c n) Y)) (ix2 (0 : Fin 1) l) = O (ix2 0 l) + tapPart A n 1 l)
  have t0 := fun O Y ey l => (tap_row A n O Y 0 ey l : (k0_pay45 (F := Ideal) (DZ m c n) O Y) (ix2 (0 : Fin 1) l) = O (ix2 0 l) + tapPart A n 0 l)
  rw [outsAt0_B m c n h h']; frame_out
  refine rows_load (inb' := inb_S32x256_S1x256_30_0) _ _ (fun l => t30 _ _ (shift_at A n (inb := inb_S8x1056x256_S1x1024x256_0_32_0) 30 rfl (by decide) (by decide) (by decide)) l) ?_
  refine rows_load (inb' := inb_S32x256_S1x256_29_0) _ _ (fun l => t29 _ _ (shift_at A n (inb := inb_S8x1056x256_S1x1024x256_7_24_0) 29 rfl (by decide) (by decide) (by decide)) l) ?_
  refine rows_load (inb' := inb_S32x256_S1x256_28_0) _ _ (fun l => t28 _ _ (shift_at A n (inb := inb_S8x1056x256_S1x1024x256_6_24_0) 28 rfl (by decide) (by decide) (by decide)) l) ?_
  refine rows_load (inb' := inb_S32x256_S1x256_27_0) _ _ (fun l => t27 _ _ (shift_at A n (inb := inb_S8x1056x256_S1x1024x256_5_24_0) 27 rfl (by decide) (by decide) (by decide)) l) ?_
  refine rows_load (inb' := inb_S32x256_S1x256_26_0) _ _ (fun l => t26 _ _ (shift_at A n (inb := inb_S8x1056x256_S1x1024x256_4_24_0) 26 rfl (by decide) (by decide) (by decide)) l) ?_
  refine rows_load (inb' := inb_S32x256_S1x256_25_0) _ _ (fun l => t25 _ _ (shift_at A n (inb := inb_S8x1056x256_S1x1024x256_3_24_0) 25 rfl (by decide) (by decide) (by decide)) l) ?_
  refine rows_load (inb' := inb_S32x256_S1x256_24_0) _ _ (fun l => t24 _ _ (shift_at A n (inb := inb_S8x1056x256_S1x1024x256_2_24_0) 24 rfl (by decide) (by decide) (by decide)) l) ?_
  refine rows_load (inb' := inb_S32x256_S1x256_23_0) _ _ (fun l => t23 _ _ (shift_at A n (inb := inb_S8x1056x256_S1x1024x256_1_24_0) 23 rfl (by decide) (by decide) (by decide)) l) ?_
  refine rows_load (inb' := inb_S32x256_S1x256_22_0) _ _ (fun l => t22 _ _ (shift_at A n (inb := inb_S8x1056x256_S1x1024x256_0_24_0) 22 rfl (by decide) (by decide) (by decide)) l) ?_
  refine rows_load (inb' := inb_S32x256_S1x256_21_0) _ _ (fun l => t21 _ _ (shift_at A n (inb := inb_S8x1056x256_S1x1024x256_7_16_0) 21 rfl (by decide) (by decide) (by decide)) l) ?_
  refine rows_load (inb' := inb_S32x256_S1x256_20_0) _ _ (fun l => t20 _ _ (shift_at A n (inb := inb_S8x1056x256_S1x1024x256_6_16_0) 20 rfl (by decide) (by decide) (by decide)) l) ?_
  refine rows_load (inb' := inb_S32x256_S1x256_19_0) _ _ (fun l => t19 _ _ (shift_at A n (inb := inb_S8x1056x256_S1x1024x256_5_16_0) 19 rfl (by decide) (by decide) (by decide)) l) ?_
  refine rows_load (inb' := inb_S32x256_S1x256_18_0) _ _ (fun l => t18 _ _ (shift_at A n (inb := inb_S8x1056x256_S1x1024x256_4_16_0) 18 rfl (by decide) (by decide) (by decide)) l) ?_
  refine rows_load (inb' := inb_S32x256_S1x256_17_0) _ _ (fun l => t17 _ _ (shift_at A n (inb := inb_S8x1056x256_S1x1024x256_3_16_0) 17 rfl (by decide) (by decide) (by decide)) l) ?_
  refine rows_load (inb' := inb_S32x256_S1x256_16_0) _ _ (fun l => t16 _ _ (shift_at A n (inb := inb_S8x1056x256_S1x1024x256_2_16_0) 16 rfl (by decide) (by decide) (by decide)) l) ?_
  refine rows_load (inb' := inb_S32x256_S1x256_15_0) _ _ (fun l => t15 _ _ (shift_at A n (inb := inb_S8x1056x256_S1x1024x256_1_16_0) 15 rfl (by decide) (by decide) (by decide)) l) ?_
  refine rows_load (inb' := inb_S32x256_S1x256_14_0) _ _ (fun l => t14 _ _ (shift_at A n (inb := inb_S8x1056x256_S1x1024x256_0_16_0) 14 rfl (by decide) (by decide) (by decide)) l) ?_
  refine rows_load (inb' := inb_S32x256_S1x256_13_0) _ _ (fun l => t13 _ _ (shift_at A n (inb := inb_S8x1056x256_S1x1024x256_7_8_0) 13 rfl (by decide) (by decide) (by decide)) l) ?_
  refine rows_load (inb' := inb_S32x256_S1x256_12_0) _ _ (fun l => t12 _ _ (shift_at A n (inb := inb_S8x1056x256_S1x1024x256_6_8_0) 12 rfl (by decide) (by decide) (by decide)) l) ?_
  refine rows_load (inb' := inb_S32x256_S1x256_11_0) _ _ (fun l => t11 _ _ (shift_at A n (inb := inb_S8x1056x256_S1x1024x256_5_8_0) 11 rfl (by decide) (by decide) (by decide)) l) ?_
  refine rows_load (inb' := inb_S32x256_S1x256_10_0) _ _ (fun l => t10 _ _ (shift_at A n (inb := inb_S8x1056x256_S1x1024x256_4_8_0) 10 rfl (by decide) (by decide) (by decide)) l) ?_
  refine rows_load (inb' := inb_S32x256_S1x256_9_0) _ _ (fun l => t9 _ _ (shift_at A n (inb := inb_S8x1056x256_S1x1024x256_3_8_0) 9 rfl (by decide) (by decide) (by decide)) l) ?_
  refine rows_load (inb' := inb_S32x256_S1x256_8_0) _ _ (fun l => t8 _ _ (shift_at A n (inb := inb_S8x1056x256_S1x1024x256_2_8_0) 8 rfl (by decide) (by decide) (by decide)) l) ?_
  refine rows_load (inb' := inb_S32x256_S1x256_7_0) _ _ (fun l => t7 _ _ (shift_at A n (inb := inb_S8x1056x256_S1x1024x256_1_8_0) 7 rfl (by decide) (by decide) (by decide)) l) ?_
  refine rows_load (inb' := inb_S32x256_S1x256_6_0) _ _ (fun l => t6 _ _ (shift_at A n (inb := inb_S8x1056x256_S1x1024x256_0_8_0) 6 rfl (by decide) (by decide) (by decide)) l) ?_
  refine rows_load (inb' := inb_S32x256_S1x256_5_0) _ _ (fun l => t5 _ _ (shift_at A n (inb := inb_S8x1056x256_S1x1024x256_7_0_0) 5 rfl (by decide) (by decide) (by decide)) l) ?_
  refine rows_load (inb' := inb_S32x256_S1x256_4_0) _ _ (fun l => t4 _ _ (shift_at A n (inb := inb_S8x1056x256_S1x1024x256_6_0_0) 4 rfl (by decide) (by decide) (by decide)) l) ?_
  refine rows_load (inb' := inb_S32x256_S1x256_3_0) _ _ (fun l => t3 _ _ (shift_at A n (inb := inb_S8x1056x256_S1x1024x256_5_0_0) 3 rfl (by decide) (by decide) (by decide)) l) ?_
  refine rows_load (inb' := inb_S32x256_S1x256_2_0) _ _ (fun l => t2 _ _ (shift_at A n (inb := inb_S8x1056x256_S1x1024x256_4_0_0) 2 rfl (by decide) (by decide) (by decide)) l) ?_
  refine rows_load (inb' := inb_S32x256_S1x256_1_0) _ _ (fun l => t1 _ _ (shift_at A n (inb := inb_S8x1056x256_S1x1024x256_3_0_0) 1 rfl (by decide) (by decide) (by decide)) l) ?_
  refine rows_load (inb' := inb_S32x256_S1x256_0_0) _ _ (fun l => t0 _ _ (shift_at A n (inb := inb_S8x1056x256_S1x1024x256_2_0_0) 0 rfl (by decide) (by decide) (by decide)) l) ?_
  exact rows_none _ (by rw [View.writes_nil, Memref.IsWhole.read_unread])

/-- The reference's derivative by the taps, its last row zero. -/
theorem dcwRef_at (a : Fin 32) (l : Fin 256) : MixerReferenceIdeal.Read.val_main_v556 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (ix2 a l)
    = if h : a.val < 31 then ((dTap A.p A.cw A.cb A.lg A.lb A.dmx ⟨a.val, h⟩ l : ℝ) : EReal) else 0 := by
  by_cases h : a.val < 31
  · rw [dif_pos h]
    refine Eq.trans ?_ (MixerReferenceIdeal.Mix.dcw_at A.e_d A.e_wo A.e_p A.e_cw A.e_cb A.e_lg A.e_lb ⟨a.val, h⟩ l)
    pointwise [MixerReferenceIdeal.Read.val_main_v556]
    simp [h]
  · rw [dif_neg h]
    pointwise [MixerReferenceIdeal.Read.val_main_v556]
    simp only [dif_neg h]
    pointwise [MixerReferenceIdeal.Read.val_main_call8_v0, MixerReferenceIdeal.Read.val_main_c_113]
    simp [FloatOps.sitofp]

include A in
set_option maxHeartbeats 4000000 in
/-- The taps' window holds the sum of the tiles' shares. -/
theorem dcw_final : (dats m 0 c).arrAt 14 (cfgs 0).N = MixerReferenceIdeal.Read.val_main_v556 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) := by
  refine (dats m 0 c).arrAt_eq_of_after_last 14 lastPoint (by decide +kernel) _ fun j => ?_
  blk_simp
  rw [after0_14]
  rw [Pipeline.eq_sum_fin_of_reset_step_apply_last (fun n h => (outsAt0 m c n h).2.1) 8 (fun _ => 0)
    (fun n (j : S32x256.Idx) => if (j 0).val ∈ ([30, 29, 28, 27, 26, 25, 24, 23, 22, 21, 20, 19, 18, 17, 16, 15, 14, 13, 12, 11, 10, 9, 8, 7, 6, 5, 4, 3, 2, 1, 0] : List ℕ) then tapPart A n (j 0).val (j 1) else 0)
    (fun n h j => by
      idx_vars j
      exact dcw_first A n h j0 j1)
    (fun n h j => by
      idx_vars j
      by_cases h' : n.val % 8 = 7
      · exact dcw_last A n h h' j0 j1
      · exact dcw_next A n h h' j0 j1)
    (le_of_eq N_0) lastPoint N_0.symm j]
  idx_vars j
  rw [dcwRef_at A, zero_add]
  change (∑ p : Fin cfg0.N, if j0.val ∈ ([30, 29, 28, 27, 26, 25, 24, 23, 22, 21, 20, 19, 18, 17, 16, 15, 14, 13, 12, 11, 10, 9, 8, 7, 6, 5, 4, 3, 2, 1, 0] : List ℕ) then tapPart A p j0.val j1 else 0) = _
  have b : j0.val ∈ ([30, 29, 28, 27, 26, 25, 24, 23, 22, 21, 20, 19, 18, 17, 16, 15, 14, 13, 12, 11, 10, 9, 8, 7, 6, 5, 4, 3, 2, 1, 0] : List ℕ) ↔ j0.val < 31 := by
    clear * -
    revert j0; decide
  by_cases h : j0.val < 31
  · simp only [if_pos (b.mpr h), dif_pos h]
    unfold tapPart
    rw [sum_coe, rows_sum fun R => A.dz R j1 * colAt (gated A.p) j1 ((R.val : ℤ) + j0.val - 30)]
    rfl
  · simp only [if_neg (fun q => h (b.mp q)), dif_neg h, Finset.sum_const_zero]

end Cert.MixerKernelIdeal.Mix
-- ==== Proof.MixerVec.lean ====
module

public import proofs.«01_k».proof.Proof.MixerShift
public import proofs.«01_k».proof.Proof.MixerPureC

/-! The mixer's backward kernel: the packed vectors' derivatives and the pooling's, added up over the tiles. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)
variable {m c} (A : Args m c) (n : Fin cfg0.N)

/-- What each row of the packed derivatives sums over the rows of the activations. -/
def Args.vecRow : ℕ → Fin 8192 → Fin 256 → ℝ
  | 0, R, l => A.dz R l
  | 1, R, l => dLn A.p A.cw A.cb A.lg A.lb A.dmx R l * nrm (convZ A.p A.cw A.cb R) l
  | 2, R, l => dLn A.p A.cw A.cb A.lg A.lb A.dmx R l
  | 3, R, l => A.dmx R (mcol 2 l) * poolMix A.p (poolBlk A.pw) R l
  | 4, R, l => dValLn A.p A.ws A.dmx R l * nrm (piece A.p 7 R) l
  | 5, R, l => dValLn A.p A.ws A.dmx R l
  | 6, R, l => dShort A.p A.dmx R l * colAt (prodSx A.p) l ((R.val : ℤ) + (0 : Fin 3).val - 2)
  | 7, R, l => dShort A.p A.dmx R l * colAt (prodSx A.p) l ((R.val : ℤ) + (1 : Fin 3).val - 2)
  | 8, R, l => dShort A.p A.dmx R l * colAt (prodSx A.p) l ((R.val : ℤ) + (2 : Fin 3).val - 2)
  | _ + 9, _, _ => 0

/-- The other rows hold nothing. -/
theorem Args.vecRow_none {a : ℕ} (h : a ∉ ([5, 4, 3, 6, 7, 8, 0, 2, 1] : List ℕ)) (R : Fin 8192) (l : Fin 256) : A.vecRow a R l = 0 := by
  have e : ∃ b, a = b + 9 := ⟨a - 9, by simp at h; omega⟩
  obtain ⟨b, rfl⟩ := e
  rfl

/-- A tile's share of the packed derivatives. -/
def vecPart (k : ℕ) (l : Fin 256) : EReal := ((∑ r : Fin 1024, A.vecRow k (trow (tl n) r) l : ℝ) : EReal)

/-- A row added to another. -/
theorem added42 (X O : FVec Ideal S1x256 .f32) (l : Fin 256) : k0_pay42 (F := Ideal) X O (ix2 (0 : Fin 1) l) = O (ix2 0 l) + X (ix2 0 l) := by
  pointwise [k0_pay42]

/-- A row added to another. -/
theorem added43 (X O : FVec Ideal S1x256 .f32) (l : Fin 256) : k0_pay43 (F := Ideal) X O (ix2 (0 : Fin 1) l) = O (ix2 0 l) + X (ix2 0 l) := by
  pointwise [k0_pay43]

set_option maxHeartbeats 4000000 in
/-- The reference's packed derivatives, row by row. -/
theorem vecRef_at (a : Fin 16) (l : Fin 256) : MixerReferenceIdeal.Read.val_main_v554 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg11)) (m ((c : Thread nD τ).loc main_arg13)) (ix2 a l) = ((∑ R, A.vecRow a.val R l : ℝ) : EReal) := by
  have e0 := MixerReferenceIdeal.Mix.dcb_at A.e_d A.e_wo A.e_p A.e_cw A.e_cb A.e_lg A.e_lb l
  have e1 := MixerReferenceIdeal.Mix.dlg_at A.e_d A.e_wo A.e_p A.e_cw A.e_cb A.e_lg A.e_lb l
  have e2 := MixerReferenceIdeal.Mix.dlb_at A.e_d A.e_wo A.e_p A.e_cw A.e_cb A.e_lg A.e_lb l
  have e3 := MixerReferenceIdeal.Mix.dps_at A.e_d A.e_wo A.e_p (pool_ref _ _ A.e_pw) l
  have e4 := MixerReferenceIdeal.Mix.dgg_at A.e_d A.e_wo A.e_p A.e_ws l
  have e5 := MixerReferenceIdeal.Mix.dgb_at A.e_d A.e_wo A.e_p A.e_ws l
  have e6 := fun k => MixerReferenceIdeal.Mix.dsw_at A.e_d A.e_wo A.e_p k l
  fin_cases a <;> pointwise [MixerReferenceIdeal.Read.val_main_v554, MixerReferenceIdeal.Read.val_main_v547, MixerReferenceIdeal.Read.val_main_v548, MixerReferenceIdeal.Read.val_main_v549, MixerReferenceIdeal.Read.val_main_v550, MixerReferenceIdeal.Read.val_main_v551, MixerReferenceIdeal.Read.val_main_v552, MixerReferenceIdeal.Read.val_main_v553, MixerReferenceIdeal.Read.val_main_cst_112]
  · exact e0
  · exact e1
  · exact e2
  · exact e3.trans (congrArg (fun z : ℝ => (z : EReal)) (Finset.sum_congr rfl fun R _ => mul_comm _ _))
  · exact e4
  · exact e5
  · exact e6 0
  · exact e6 1
  · exact e6 2
  all_goals simp [Args.vecRow]

include A in
set_option maxHeartbeats 16000000 in
/-- The first point starts every row from nothing. -/
theorem dvec_first (h : n.val % 8 = 0) : RowsOk (outsAt0 m c n.val n.isLt).2.2.1 (fun _ => 0) (vecPart A n) [5, 4, 3, 6, 7, 8, 0, 2, 1] := by
  have r0 := fun (n : Fin cfg0.N) (O : FVec Ideal S1x256 .f32) (l : Fin 256) => (rows_tile (dz_pt A n) O l : _ = O (ix2 0 l) + vecPart A n 0 l)
  have r1 := fun (n : Fin cfg0.N) (O : FVec Ideal S1x256 .f32) (l : Fin 256) => (added42 _ O l).trans (congrArg (O (ix2 0 l) + ·)
    (dlg_tile (z_at A n) (da_tile (d_at A n) (wo_at A n)) (vec_row n (inb := inb_S16x256_S1x256_1_0) 1 rfl (lg_at A n)) (vec_row n (inb := inb_S16x256_S1x256_2_0) 2 rfl (lb_at A n)) l : _ = vecPart A n 1 l))
  have r2 := fun (n : Fin cfg0.N) (O : FVec Ideal S1x256 .f32) (l : Fin 256) => (added43 _ O l).trans (congrArg (O (ix2 0 l) + ·)
    (dlb_tile (z_at A n) (da_tile (d_at A n) (wo_at A n)) (vec_row n (inb := inb_S16x256_S1x256_1_0) 1 rfl (lg_at A n)) (vec_row n (inb := inb_S16x256_S1x256_2_0) 2 rfl (lb_at A n)) l : _ = vecPart A n 2 l))
  have p5 := fun n => piece_at A n 5 (inb := inb_S1024x2048_S1024x256_0_1280) rfl
  have h5 := fun n => halo_piece A n 5 (inb := inb_S32x2048_S32x256_0_1280) rfl
  have p7 := fun n => piece_at A n 7 (inb := inb_S1024x2048_S1024x256_0_1792) rfl
  have p2 := fun n => piece_at A n 2 (inb := inb_S1024x2048_S1024x256_0_512) rfl
  have p3 := fun n => piece_at A n 3 (inb := inb_S1024x2048_S1024x256_0_768) rfl
  have p4 := fun n => piece_at A n 4 (inb := inb_S1024x2048_S1024x256_0_1024) rfl
  have h3 := fun n => halo_piece A n 3 (inb := inb_S32x2048_S32x256_0_768) rfl
  have h4 := fun n => halo_piece A n 4 (inb := inb_S32x2048_S32x256_0_1024) rfl
  have r3 := fun (n : Fin cfg0.N) (O : FVec Ideal S1x256 .f32) (l : Fin 256) => (first_at n ▸ dps_tile (dc_tile (d_at A n) (wo_at A n)) (p5 n) (h5 n) (pb_at A n) (cn_pt n) O l : _ = O (ix2 0 l) + vecPart A n 3 l)
  have r4 := fun (n : Fin cfg0.N) (O : FVec Ideal S1x256 .f32) (l : Fin 256) => (dgg_tile (p7 n) (dv_at A n (v := View.whole cc0_scratch4)) O l : _ = O (ix2 0 l) + vecPart A n 4 l)
  have r5 := fun (n : Fin cfg0.N) (O : FVec Ideal S1x256 .f32) (l : Fin 256) => (dgb_tile (dv_at A n (v := View.whole cc0_scratch4)) O l : _ = O (ix2 0 l) + vecPart A n 5 l)
  have r6 := fun (n : Fin cfg0.N) (O : FVec Ideal S1x256 .f32) (l : Fin 256) => (first_at n ▸ tap0_tile (db_tile (d_at A n) (wo_at A n)) (p2 n) (p3 n) (p4 n) (h3 n) (h4 n) O l : _ = O (ix2 0 l) + vecPart A n 6 l)
  have r7 := fun (n : Fin cfg0.N) (O : FVec Ideal S1x256 .f32) (l : Fin 256) => (first_at n ▸ tap1_tile (db_tile (d_at A n) (wo_at A n)) (p2 n) (p3 n) (p4 n) (h3 n) (h4 n) O l : _ = O (ix2 0 l) + vecPart A n 7 l)
  have r8 := fun (n : Fin cfg0.N) (O : FVec Ideal S1x256 .f32) (l : Fin 256) => (tap2_tile (db_tile (d_at A n) (wo_at A n)) (p2 n) (p3 n) (p4 n) O l : _ = O (ix2 0 l) + vecPart A n 8 l)
  rw [outsAt0_A m c n h (by omega)]; frame_out
  refine rows_read (inb' := inb_S16x256_S1x256_5_0) (ms0_15 n).view (r5 n _) (by decide) ?_
  refine rows_read (inb' := inb_S16x256_S1x256_4_0) (ms0_15 n).view (r4 n _) (by decide) ?_
  refine rows_read (inb' := inb_S16x256_S1x256_3_0) (ms0_15 n).view (r3 n _) (by decide) ?_
  refine rows_read (inb' := inb_S16x256_S1x256_6_0) (ms0_15 n).view (r6 n _) (by decide) ?_
  refine rows_read (inb' := inb_S16x256_S1x256_7_0) (ms0_15 n).view (r7 n _) (by decide) ?_
  refine rows_read (inb' := inb_S16x256_S1x256_8_0) (ms0_15 n).view (r8 n _) (by decide) ?_
  refine rows_read (inb' := inb_S16x256_S1x256_0_0) (ms0_15 n).view (r0 n _) (by decide) ?_
  refine rows_read (inb' := inb_S16x256_S1x256_2_0) (ms0_15 n).view (r2 n _) (by decide) ?_
  refine rows_read (inb' := inb_S16x256_S1x256_1_0) (ms0_15 n).view (r1 n _) (by decide) ?_
  exact rows_none _ ((View.canon_cons_unit_lit _ _ _ (by decide)).trans (funext fun j => by idx_vars j; pointwise [k0_pay9]))

include A in
set_option maxHeartbeats 16000000 in
/-- The last point adds its share. -/
theorem dvec_last (h : ¬ n.val % 8 = 0) (h' : n.val % 8 = 7) : RowsOk (outsAt0 m c n.val n.isLt).2.2.1 (outsAt0 m c (n.val - 1) (Nat.lt_of_le_of_lt (Nat.sub_le _ _) n.isLt)).2.2.1 (vecPart A n) [5, 4, 3, 6, 7, 8, 0, 2, 1] := by
  have r0 := fun (n : Fin cfg0.N) (O : FVec Ideal S1x256 .f32) (l : Fin 256) => (rows_tile (dz_pt A n) O l : _ = O (ix2 0 l) + vecPart A n 0 l)
  have r1 := fun (n : Fin cfg0.N) (O : FVec Ideal S1x256 .f32) (l : Fin 256) => (added42 _ O l).trans (congrArg (O (ix2 0 l) + ·)
    (dlg_tile (z_at A n) (da_tile (d_at A n) (wo_at A n)) (vec_row n (inb := inb_S16x256_S1x256_1_0) 1 rfl (lg_at A n)) (vec_row n (inb := inb_S16x256_S1x256_2_0) 2 rfl (lb_at A n)) l : _ = vecPart A n 1 l))
  have r2 := fun (n : Fin cfg0.N) (O : FVec Ideal S1x256 .f32) (l : Fin 256) => (added43 _ O l).trans (congrArg (O (ix2 0 l) + ·)
    (dlb_tile (z_at A n) (da_tile (d_at A n) (wo_at A n)) (vec_row n (inb := inb_S16x256_S1x256_1_0) 1 rfl (lg_at A n)) (vec_row n (inb := inb_S16x256_S1x256_2_0) 2 rfl (lb_at A n)) l : _ = vecPart A n 2 l))
  have p5 := fun n => piece_at A n 5 (inb := inb_S1024x2048_S1024x256_0_1280) rfl
  have h5 := fun n => halo_piece A n 5 (inb := inb_S32x2048_S32x256_0_1280) rfl
  have p7 := fun n => piece_at A n 7 (inb := inb_S1024x2048_S1024x256_0_1792) rfl
  have p2 := fun n => piece_at A n 2 (inb := inb_S1024x2048_S1024x256_0_512) rfl
  have p3 := fun n => piece_at A n 3 (inb := inb_S1024x2048_S1024x256_0_768) rfl
  have p4 := fun n => piece_at A n 4 (inb := inb_S1024x2048_S1024x256_0_1024) rfl
  have h3 := fun n => halo_piece A n 3 (inb := inb_S32x2048_S32x256_0_768) rfl
  have h4 := fun n => halo_piece A n 4 (inb := inb_S32x2048_S32x256_0_1024) rfl
  have r3 := fun (n : Fin cfg0.N) (O : FVec Ideal S1x256 .f32) (l : Fin 256) => (first_at n ▸ dps_tile (dc_tile (d_at A n) (wo_at A n)) (p5 n) (h5 n) (pb_at A n) (cn_pt n) O l : _ = O (ix2 0 l) + vecPart A n 3 l)
  have r4 := fun (n : Fin cfg0.N) (O : FVec Ideal S1x256 .f32) (l : Fin 256) => (dgg_tile (p7 n) (dv_at A n (v := View.whole cc0_scratch4)) O l : _ = O (ix2 0 l) + vecPart A n 4 l)
  have r5 := fun (n : Fin cfg0.N) (O : FVec Ideal S1x256 .f32) (l : Fin 256) => (dgb_tile (dv_at A n (v := View.whole cc0_scratch4)) O l : _ = O (ix2 0 l) + vecPart A n 5 l)
  have r6 := fun (n : Fin cfg0.N) (O : FVec Ideal S1x256 .f32) (l : Fin 256) => (first_at n ▸ tap0_tile (db_tile (d_at A n) (wo_at A n)) (p2 n) (p3 n) (p4 n) (h3 n) (h4 n) O l : _ = O (ix2 0 l) + vecPart A n 6 l)
  have r7 := fun (n : Fin cfg0.N) (O : FVec Ideal S1x256 .f32) (l : Fin 256) => (first_at n ▸ tap1_tile (db_tile (d_at A n) (wo_at A n)) (p2 n) (p3 n) (p4 n) (h3 n) (h4 n) O l : _ = O (ix2 0 l) + vecPart A n 7 l)
  have r8 := fun (n : Fin cfg0.N) (O : FVec Ideal S1x256 .f32) (l : Fin 256) => (tap2_tile (db_tile (d_at A n) (wo_at A n)) (p2 n) (p3 n) (p4 n) O l : _ = O (ix2 0 l) + vecPart A n 8 l)
  rw [outsAt0_C m c n h h']; frame_out
  refine rows_load (inb' := inb_S16x256_S1x256_5_0) _ _ (r5 n _) ?_
  refine rows_load (inb' := inb_S16x256_S1x256_4_0) _ _ (r4 n _) ?_
  refine rows_load (inb' := inb_S16x256_S1x256_3_0) _ _ (r3 n _) ?_
  refine rows_load (inb' := inb_S16x256_S1x256_6_0) _ _ (r6 n _) ?_
  refine rows_load (inb' := inb_S16x256_S1x256_7_0) _ _ (r7 n _) ?_
  refine rows_load (inb' := inb_S16x256_S1x256_8_0) _ _ (r8 n _) ?_
  refine rows_load (inb' := inb_S16x256_S1x256_0_0) _ _ (r0 n _) ?_
  refine rows_load (inb' := inb_S16x256_S1x256_2_0) _ _ (r2 n _) ?_
  refine rows_load (inb' := inb_S16x256_S1x256_1_0) _ _ (r1 n _) ?_
  exact rows_none _ (by rw [View.writes_nil, Memref.IsWhole.read_unread])

include A in
set_option maxHeartbeats 16000000 in
/-- A point between adds its share. -/
theorem dvec_next (h : ¬ n.val % 8 = 0) (h' : ¬ n.val % 8 = 7) : RowsOk (outsAt0 m c n.val n.isLt).2.2.1 (outsAt0 m c (n.val - 1) (Nat.lt_of_le_of_lt (Nat.sub_le _ _) n.isLt)).2.2.1 (vecPart A n) [5, 4, 3, 6, 7, 8, 0, 2, 1] := by
  have r0 := fun (n : Fin cfg0.N) (O : FVec Ideal S1x256 .f32) (l : Fin 256) => (rows_tile (dz_pt A n) O l : _ = O (ix2 0 l) + vecPart A n 0 l)
  have r1 := fun (n : Fin cfg0.N) (O : FVec Ideal S1x256 .f32) (l : Fin 256) => (added42 _ O l).trans (congrArg (O (ix2 0 l) + ·)
    (dlg_tile (z_at A n) (da_tile (d_at A n) (wo_at A n)) (vec_row n (inb := inb_S16x256_S1x256_1_0) 1 rfl (lg_at A n)) (vec_row n (inb := inb_S16x256_S1x256_2_0) 2 rfl (lb_at A n)) l : _ = vecPart A n 1 l))
  have r2 := fun (n : Fin cfg0.N) (O : FVec Ideal S1x256 .f32) (l : Fin 256) => (added43 _ O l).trans (congrArg (O (ix2 0 l) + ·)
    (dlb_tile (z_at A n) (da_tile (d_at A n) (wo_at A n)) (vec_row n (inb := inb_S16x256_S1x256_1_0) 1 rfl (lg_at A n)) (vec_row n (inb := inb_S16x256_S1x256_2_0) 2 rfl (lb_at A n)) l : _ = vecPart A n 2 l))
  have p5 := fun n => piece_at A n 5 (inb := inb_S1024x2048_S1024x256_0_1280) rfl
  have h5 := fun n => halo_piece A n 5 (inb := inb_S32x2048_S32x256_0_1280) rfl
  have p7 := fun n => piece_at A n 7 (inb := inb_S1024x2048_S1024x256_0_1792) rfl
  have p2 := fun n => piece_at A n 2 (inb := inb_S1024x2048_S1024x256_0_512) rfl
  have p3 := fun n => piece_at A n 3 (inb := inb_S1024x2048_S1024x256_0_768) rfl
  have p4 := fun n => piece_at A n 4 (inb := inb_S1024x2048_S1024x256_0_1024) rfl
  have h3 := fun n => halo_piece A n 3 (inb := inb_S32x2048_S32x256_0_768) rfl
  have h4 := fun n => halo_piece A n 4 (inb := inb_S32x2048_S32x256_0_1024) rfl
  have r3 := fun (n : Fin cfg0.N) (O : FVec Ideal S1x256 .f32) (l : Fin 256) => (first_at n ▸ dps_tile (dc_tile (d_at A n) (wo_at A n)) (p5 n) (h5 n) (pb_at A n) (cn_pt n) O l : _ = O (ix2 0 l) + vecPart A n 3 l)
  have r4 := fun (n : Fin cfg0.N) (O : FVec Ideal S1x256 .f32) (l : Fin 256) => (dgg_tile (p7 n) (dv_at A n (v := View.whole cc0_scratch4)) O l : _ = O (ix2 0 l) + vecPart A n 4 l)
  have r5 := fun (n : Fin cfg0.N) (O : FVec Ideal S1x256 .f32) (l : Fin 256) => (dgb_tile (dv_at A n (v := View.whole cc0_scratch4)) O l : _ = O (ix2 0 l) + vecPart A n 5 l)
  have r6 := fun (n : Fin cfg0.N) (O : FVec Ideal S1x256 .f32) (l : Fin 256) => (first_at n ▸ tap0_tile (db_tile (d_at A n) (wo_at A n)) (p2 n) (p3 n) (p4 n) (h3 n) (h4 n) O l : _ = O (ix2 0 l) + vecPart A n 6 l)
  have r7 := fun (n : Fin cfg0.N) (O : FVec Ideal S1x256 .f32) (l : Fin 256) => (first_at n ▸ tap1_tile (db_tile (d_at A n) (wo_at A n)) (p2 n) (p3 n) (p4 n) (h3 n) (h4 n) O l : _ = O (ix2 0 l) + vecPart A n 7 l)
  have r8 := fun (n : Fin cfg0.N) (O : FVec Ideal S1x256 .f32) (l : Fin 256) => (tap2_tile (db_tile (d_at A n) (wo_at A n)) (p2 n) (p3 n) (p4 n) O l : _ = O (ix2 0 l) + vecPart A n 8 l)
  rw [outsAt0_B m c n h h']; frame_out
  refine rows_load (inb' := inb_S16x256_S1x256_5_0) _ _ (r5 n _) ?_
  refine rows_load (inb' := inb_S16x256_S1x256_4_0) _ _ (r4 n _) ?_
  refine rows_load (inb' := inb_S16x256_S1x256_3_0) _ _ (r3 n _) ?_
  refine rows_load (inb' := inb_S16x256_S1x256_6_0) _ _ (r6 n _) ?_
  refine rows_load (inb' := inb_S16x256_S1x256_7_0) _ _ (r7 n _) ?_
  refine rows_load (inb' := inb_S16x256_S1x256_8_0) _ _ (r8 n _) ?_
  refine rows_load (inb' := inb_S16x256_S1x256_0_0) _ _ (r0 n _) ?_
  refine rows_load (inb' := inb_S16x256_S1x256_2_0) _ _ (r2 n _) ?_
  refine rows_load (inb' := inb_S16x256_S1x256_1_0) _ _ (r1 n _) ?_
  exact rows_none _ (by rw [View.writes_nil, Memref.IsWhole.read_unread])

include A in
set_option maxHeartbeats 16000000 in
/-- The packed vectors' window holds the sum of the tiles' shares. -/
theorem dvec_final : (dats m 0 c).arrAt 15 (cfgs 0).N = MixerReferenceIdeal.Read.val_main_v554 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg11)) (m ((c : Thread nD τ).loc main_arg13)) := by
  refine (dats m 0 c).arrAt_eq_of_after_last 15 lastPoint (by decide +kernel) _ fun j => ?_
  blk_simp
  rw [after0_15]
  rw [Pipeline.eq_sum_fin_of_reset_step_apply_last (fun n h => (outsAt0 m c n h).2.2.1) 8 (fun _ => 0)
    (fun n (j : S16x256.Idx) => if (j 0).val ∈ ([5, 4, 3, 6, 7, 8, 0, 2, 1] : List ℕ) then vecPart A n (j 0).val (j 1) else 0)
    (fun n h j => by
      idx_vars j
      exact dvec_first A n h j0 j1)
    (fun n h j => by
      idx_vars j
      by_cases h' : n.val % 8 = 7
      · exact dvec_last A n h h' j0 j1
      · exact dvec_next A n h h' j0 j1)
    (le_of_eq N_0) lastPoint N_0.symm j]
  idx_vars j
  rw [vecRef_at A, zero_add]
  change (∑ p : Fin cfg0.N, if j0.val ∈ ([5, 4, 3, 6, 7, 8, 0, 2, 1] : List ℕ) then vecPart A p j0.val j1 else 0) = _
  by_cases h : j0.val ∈ ([5, 4, 3, 6, 7, 8, 0, 2, 1] : List ℕ)
  · simp only [if_pos h]
    unfold vecPart
    rw [sum_coe, rows_sum fun R => A.vecRow j0.val R j1]
  · simp only [if_neg h, Finset.sum_const_zero]
    simp only [A.vecRow_none h, Finset.sum_const_zero, EReal.coe_zero]

end Cert.MixerKernelIdeal.Mix
-- ==== Proof.MixerPool.lean ====
module

public import proofs.«01_k».proof.Proof.MixerShift
public import proofs.«01_k».proof.Proof.MixerPureC

/-! The mixer's backward kernel: the pooling weights' derivative, added up over the tiles. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

variable (m : (ℓ : Loc nD τ sig) → Buf (Elt Ideal) ℓ) (c : Dev nD)
variable {m c} (A : Args m c) (n : Fin cfg0.N)

include A in
set_option maxHeartbeats 8000000 in
/-- The pooling weights' window holds the sum of the tiles' shares. -/
theorem dpool_final : (dats m 0 c).arrAt 16 (cfgs 0).N = MixerReferenceIdeal.Read.val_main_v298 (F := Ideal) (m ((c : Thread nD τ).loc main_arg0)) (m ((c : Thread nD τ).loc main_arg1)) (m ((c : Thread nD τ).loc main_arg8)) (m ((c : Thread nD τ).loc main_arg13)) := by
  have share := fun (n : Fin cfg0.N) (O : FVec Ideal S256x256 .f32) (k l : Fin 256) =>
    first_at n ▸ dpool_tile (dc_tile (d_at A n) (wo_at A n)) (piece_at A n 5 (inb := inb_S1024x2048_S1024x256_0_1280) rfl)
      (halo_piece A n 5 (inb := inb_S32x2048_S32x256_0_1280) rfl) (vec_row n 3 (inb := inb_S16x256_S1x256_3_0) rfl (ps_at A n)) (cn_pt n) O k l
  refine (dats m 0 c).arrAt_eq_of_after_last 16 lastPoint (by decide +kernel) _ fun j => ?_
  blk_simp
  rw [after0_16]
  rw [Pipeline.eq_sum_fin_of_reset_step_apply_last (fun n h => (outsAt0 m c n h).2.2.2.1) 8 (fun _ => 0)
    (fun n (j : S256x256.Idx) => ((∑ r, pooled A.p (trow (tl n) r) (j 0) * dE A.dmx A.ps (trow (tl n) r) (j 1) : ℝ) : EReal))
    (fun n h j => by
      rw [outsAt0_A m c n h (by omega)]; frame_out; idx_vars j
      refine (share n _ _ _).trans (congrArg (· + _) ?_)
      pointwise [k0_pay10])
    (fun n h j => by
      by_cases h' : n.val % 8 = 7
      · rw [outsAt0_C m c n h h']; frame_out; idx_vars j
        exact share n _ _ _
      · rw [outsAt0_B m c n h h']; frame_out; idx_vars j
        exact share n _ _ _)
    (le_of_eq N_0) lastPoint N_0.symm j]
  idx_vars j
  rw [MixerReferenceIdeal.Mix.dpool_at A.e_d A.e_wo A.e_p A.e_ps, zero_add]
  change (∑ n : Fin cfg0.N, ((∑ r, pooled A.p (trow (tl n) r) j0 * dE A.dmx A.ps (trow (tl n) r) j1 : ℝ) : EReal)) = _
  rw [sum_coe, rows_sum fun R => pooled A.p R j0 * dE A.dmx A.ps R j1]

end Cert.MixerKernelIdeal.Mix
-- ==== Proof.MixerDws.lean ====
module

public import proofs.«01_k».proof.Proof.MixerShift
public import proofs.«01_k».proof.Proof.MixerPureC

/-! The mixer's backward kernel: the derivative of the mixing's weights, stored block by block at every point and added up over the tiles. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

open Cert.MixerReferenceIdeal.Mix (rowIn laneIn)
variable (m : (ℓ : Loc nD τ sig) → Buf (Elt Ideal) ℓ) (c : Dev nD)

/-- A block's new value from its old one, by the chunk and the head. -/
abbrev dwx (n : Fin cfg0.N) (O : FVec Ideal S128x128 .f32) : Fin 8 → Fin 4 → FVec Ideal S128x128 .f32 :=
  ![![k0_pay148 (F := Ideal) k0_pay13 (VL m c n) (k0_pay145 (DD m c n) (Q6 m c n 0 inb_S1024x2048_S128x256_0_1536)) (k0_pay147 O), k0_pay149 (F := Ideal) k0_pay13 (VL m c n) (k0_pay145 (DD m c n) (Q6 m c n 0 inb_S1024x2048_S128x256_0_1536)) O, k0_pay150 (F := Ideal) k0_pay13 (VL m c n) (k0_pay145 (DD m c n) (Q6 m c n 0 inb_S1024x2048_S128x256_0_1536)) O, k0_pay152 (F := Ideal) k0_pay13 (VL m c n) (k0_pay145 (DD m c n) (Q6 m c n 0 inb_S1024x2048_S128x256_0_1536)) (k0_pay151 O)],
    ![k0_pay162 (F := Ideal) (k0_pay159 O) (k0_pay160 k0_pay13 (k0_pay153 (DD m c n)) (Q6 m c n 128 inb_S1024x2048_S128x256_128_1536)) (k0_pay161 (VL m c n)) (constant S128x128 .f32 0#32), k0_pay163 (F := Ideal) k0_pay13 (VL m c n) (k0_pay157 (k0_pay153 (DD m c n)) (Q6 m c n 128 inb_S1024x2048_S128x256_128_1536)) O, k0_pay164 (F := Ideal) k0_pay13 (VL m c n) (k0_pay157 (k0_pay153 (DD m c n)) (Q6 m c n 128 inb_S1024x2048_S128x256_128_1536)) O, k0_pay168 (F := Ideal) (k0_pay165 O) (k0_pay166 k0_pay13 (k0_pay157 (k0_pay153 (DD m c n)) (Q6 m c n 128 inb_S1024x2048_S128x256_128_1536))) (k0_pay167 (VL m c n)) (constant S128x128 .f32 0#32)],
    ![k0_pay175 (F := Ideal) k0_pay13 (VL m c n) (k0_pay171 (DD m c n) (Q6 m c n 256 inb_S1024x2048_S128x256_256_1536)) O, k0_pay177 (F := Ideal) k0_pay13 (VL m c n) (k0_pay173 (k0_pay171 (DD m c n) (Q6 m c n 256 inb_S1024x2048_S128x256_256_1536))) (k0_pay176 O), k0_pay178 (F := Ideal) k0_pay13 (VL m c n) (k0_pay173 (k0_pay171 (DD m c n) (Q6 m c n 256 inb_S1024x2048_S128x256_256_1536))) O, k0_pay179 (F := Ideal) k0_pay13 (VL m c n) (k0_pay173 (k0_pay171 (DD m c n) (Q6 m c n 256 inb_S1024x2048_S128x256_256_1536))) O],
    ![k0_pay190 (F := Ideal) k0_pay13 (VL m c n) (k0_pay185 (DD m c n) (Q6 m c n 384 inb_S1024x2048_S128x256_384_1536)) O, k0_pay194 (F := Ideal) (k0_pay191 O) (k0_pay192 k0_pay13 (k0_pay185 (DD m c n) (Q6 m c n 384 inb_S1024x2048_S128x256_384_1536))) (k0_pay193 (VL m c n)) (constant S128x128 .f32 0#32), k0_pay195 (F := Ideal) k0_pay13 (VL m c n) (k0_pay185 (DD m c n) (Q6 m c n 384 inb_S1024x2048_S128x256_384_1536)) O, k0_pay196 (F := Ideal) k0_pay13 (VL m c n) (k0_pay185 (DD m c n) (Q6 m c n 384 inb_S1024x2048_S128x256_384_1536)) O],
    ![k0_pay217 (F := Ideal) k0_pay13 (VL m c n) (k0_pay207 (DD m c n) (Q6 m c n 512 inb_S1024x2048_S128x256_512_1536)) O, k0_pay218 (F := Ideal) k0_pay13 (VL m c n) (k0_pay207 (DD m c n) (Q6 m c n 512 inb_S1024x2048_S128x256_512_1536)) O, k0_pay220 (F := Ideal) k0_pay13 (VL m c n) (k0_pay207 (DD m c n) (Q6 m c n 512 inb_S1024x2048_S128x256_512_1536)) (k0_pay219 O), k0_pay221 (F := Ideal) k0_pay13 (VL m c n) (k0_pay207 (DD m c n) (Q6 m c n 512 inb_S1024x2048_S128x256_512_1536)) O],
    ![k0_pay235 (F := Ideal) k0_pay13 (VL m c n) (k0_pay232 (DD m c n) (Q6 m c n 640 inb_S1024x2048_S128x256_640_1536)) O, k0_pay236 (F := Ideal) k0_pay13 (VL m c n) (k0_pay232 (DD m c n) (Q6 m c n 640 inb_S1024x2048_S128x256_640_1536)) O, k0_pay240 (F := Ideal) (k0_pay237 O) (k0_pay238 k0_pay13 (k0_pay232 (DD m c n) (Q6 m c n 640 inb_S1024x2048_S128x256_640_1536))) (k0_pay239 (VL m c n)) (constant S128x128 .f32 0#32), k0_pay241 (F := Ideal) k0_pay13 (VL m c n) (k0_pay232 (DD m c n) (Q6 m c n 640 inb_S1024x2048_S128x256_640_1536)) O],
    ![k0_pay250 (F := Ideal) k0_pay13 (VL m c n) (k0_pay247 (DD m c n) (Q6 m c n 768 inb_S1024x2048_S128x256_768_1536)) (k0_pay249 O), k0_pay251 (F := Ideal) k0_pay13 (VL m c n) (k0_pay247 (DD m c n) (Q6 m c n 768 inb_S1024x2048_S128x256_768_1536)) O, k0_pay252 (F := Ideal) k0_pay13 (VL m c n) (k0_pay247 (DD m c n) (Q6 m c n 768 inb_S1024x2048_S128x256_768_1536)) O, k0_pay254 (F := Ideal) k0_pay13 (VL m c n) (k0_pay247 (DD m c n) (Q6 m c n 768 inb_S1024x2048_S128x256_768_1536)) (k0_pay253 O)],
    ![k0_pay264 (F := Ideal) (k0_pay261 O) (k0_pay262 k0_pay13 (k0_pay255 (DD m c n)) (Q6 m c n 896 inb_S1024x2048_S128x256_896_1536)) (k0_pay263 (VL m c n)) (constant S128x128 .f32 0#32), k0_pay265 (F := Ideal) k0_pay13 (VL m c n) (k0_pay259 (k0_pay255 (DD m c n)) (Q6 m c n 896 inb_S1024x2048_S128x256_896_1536)) O, k0_pay266 (F := Ideal) k0_pay13 (VL m c n) (k0_pay259 (k0_pay255 (DD m c n)) (Q6 m c n 896 inb_S1024x2048_S128x256_896_1536)) O, k0_pay270 (F := Ideal) (k0_pay267 O) (k0_pay268 k0_pay13 (k0_pay259 (k0_pay255 (DD m c n)) (Q6 m c n 896 inb_S1024x2048_S128x256_896_1536))) (k0_pay269 (VL m c n)) (constant S128x128 .f32 0#32)]]

/-- It is what the chunks' calculation leaves. -/
theorem dwx_eq (n : Fin cfg0.N) (O : FVec Ideal S128x128 .f32) : dwsOf (DD m c n) (VL m c n) (P6 m c n) O = dwx m c n O := by
  unfold dwsOf
  rw [show P6 m c n 0 = Q6 m c n 0 inb_S1024x2048_S128x256_0_1536 from rfl, show P6 m c n 1 = Q6 m c n 128 inb_S1024x2048_S128x256_128_1536 from rfl, show P6 m c n 2 = Q6 m c n 256 inb_S1024x2048_S128x256_256_1536 from rfl, show P6 m c n 3 = Q6 m c n 384 inb_S1024x2048_S128x256_384_1536 from rfl, show P6 m c n 4 = Q6 m c n 512 inb_S1024x2048_S128x256_512_1536 from rfl, show P6 m c n 5 = Q6 m c n 640 inb_S1024x2048_S128x256_640_1536 from rfl, show P6 m c n 6 = Q6 m c n 768 inb_S1024x2048_S128x256_768_1536 from rfl, show P6 m c n 7 = Q6 m c n 896 inb_S1024x2048_S128x256_896_1536 from rfl]

variable {m c} (A : Args m c) (n : Fin cfg0.N)

/-- A chunk's share of the weights' derivative, by the head, the row and the column. -/
def mixChunk (k : Fin 8) (h : Fin 4) (t s : Fin 128) : EReal :=
  ∑ l, if head l = h then (dMixed A.p A.dmx (trow (tl n) (crow k t)) l : EReal) * valLnE A.p A.gg (gbA m c) (trow (tl n) (crow k s)) l else 0

/-- The chunks' shares, counted from zero. -/
def mixPart (k : ℕ) (h : Fin 4) (t s : Fin 128) : EReal := if hk : k < 8 then mixChunk A n ⟨k, hk⟩ h t s else 0

include A in
/-- A block's new value is the old one and the chunk's share. -/
theorem dwx_at (O : FVec Ideal S128x128 .f32) (k : Fin 8) (h : Fin 4) (t s : Fin 128) :
    dwx m c n O k h (ix2 t s) = O (ix2 t s) + mixPart A n k.val h t s := by
  rw [← dwx_eq, mixPart, dif_pos k.isLt]
  exact dws_tile (dd_tile (d_at A n) (wo_at A n)) (vl_pt A n) (chunk_at A n) O k h t s

section
variable (O : FVec Ideal S128x128 .f32) (t s : Fin 128)

/-- Chunk 0, head 0. -/
theorem dw_0_0 : (k0_pay148 (F := Ideal) k0_pay13 (VL m c n) (k0_pay145 (DD m c n) (Q6 m c n 0 inb_S1024x2048_S128x256_0_1536)) (k0_pay147 O)) (ix2 t s) = O (ix2 t s) + mixPart A n 0 0 t s := dwx_at A n O 0 0 t s

/-- Chunk 0, head 1. -/
theorem dw_0_1 : (k0_pay149 (F := Ideal) k0_pay13 (VL m c n) (k0_pay145 (DD m c n) (Q6 m c n 0 inb_S1024x2048_S128x256_0_1536)) O) (ix2 t s) = O (ix2 t s) + mixPart A n 0 1 t s := dwx_at A n O 0 1 t s

/-- Chunk 0, head 2. -/
theorem dw_0_2 : (k0_pay150 (F := Ideal) k0_pay13 (VL m c n) (k0_pay145 (DD m c n) (Q6 m c n 0 inb_S1024x2048_S128x256_0_1536)) O) (ix2 t s) = O (ix2 t s) + mixPart A n 0 2 t s := dwx_at A n O 0 2 t s

/-- Chunk 0, head 3. -/
theorem dw_0_3 : (k0_pay152 (F := Ideal) k0_pay13 (VL m c n) (k0_pay145 (DD m c n) (Q6 m c n 0 inb_S1024x2048_S128x256_0_1536)) (k0_pay151 O)) (ix2 t s) = O (ix2 t s) + mixPart A n 0 3 t s := dwx_at A n O 0 3 t s

/-- Chunk 1, head 0. -/
theorem dw_1_0 : (k0_pay162 (F := Ideal) (k0_pay159 O) (k0_pay160 k0_pay13 (k0_pay153 (DD m c n)) (Q6 m c n 128 inb_S1024x2048_S128x256_128_1536)) (k0_pay161 (VL m c n)) (constant S128x128 .f32 0#32)) (ix2 t s) = O (ix2 t s) + mixPart A n 1 0 t s := dwx_at A n O 1 0 t s

/-- Chunk 1, head 1. -/
theorem dw_1_1 : (k0_pay163 (F := Ideal) k0_pay13 (VL m c n) (k0_pay157 (k0_pay153 (DD m c n)) (Q6 m c n 128 inb_S1024x2048_S128x256_128_1536)) O) (ix2 t s) = O (ix2 t s) + mixPart A n 1 1 t s := dwx_at A n O 1 1 t s

/-- Chunk 1, head 2. -/
theorem dw_1_2 : (k0_pay164 (F := Ideal) k0_pay13 (VL m c n) (k0_pay157 (k0_pay153 (DD m c n)) (Q6 m c n 128 inb_S1024x2048_S128x256_128_1536)) O) (ix2 t s) = O (ix2 t s) + mixPart A n 1 2 t s := dwx_at A n O 1 2 t s

/-- Chunk 1, head 3. -/
theorem dw_1_3 : (k0_pay168 (F := Ideal) (k0_pay165 O) (k0_pay166 k0_pay13 (k0_pay157 (k0_pay153 (DD m c n)) (Q6 m c n 128 inb_S1024x2048_S128x256_128_1536))) (k0_pay167 (VL m c n)) (constant S128x128 .f32 0#32)) (ix2 t s) = O (ix2 t s) + mixPart A n 1 3 t s := dwx_at A n O 1 3 t s

/-- Chunk 2, head 0. -/
theorem dw_2_0 : (k0_pay175 (F := Ideal) k0_pay13 (VL m c n) (k0_pay171 (DD m c n) (Q6 m c n 256 inb_S1024x2048_S128x256_256_1536)) O) (ix2 t s) = O (ix2 t s) + mixPart A n 2 0 t s := dwx_at A n O 2 0 t s

/-- Chunk 2, head 1. -/
theorem dw_2_1 : (k0_pay177 (F := Ideal) k0_pay13 (VL m c n) (k0_pay173 (k0_pay171 (DD m c n) (Q6 m c n 256 inb_S1024x2048_S128x256_256_1536))) (k0_pay176 O)) (ix2 t s) = O (ix2 t s) + mixPart A n 2 1 t s := dwx_at A n O 2 1 t s

/-- Chunk 2, head 2. -/
theorem dw_2_2 : (k0_pay178 (F := Ideal) k0_pay13 (VL m c n) (k0_pay173 (k0_pay171 (DD m c n) (Q6 m c n 256 inb_S1024x2048_S128x256_256_1536))) O) (ix2 t s) = O (ix2 t s) + mixPart A n 2 2 t s := dwx_at A n O 2 2 t s

/-- Chunk 2, head 3. -/
theorem dw_2_3 : (k0_pay179 (F := Ideal) k0_pay13 (VL m c n) (k0_pay173 (k0_pay171 (DD m c n) (Q6 m c n 256 inb_S1024x2048_S128x256_256_1536))) O) (ix2 t s) = O (ix2 t s) + mixPart A n 2 3 t s := dwx_at A n O 2 3 t s

/-- Chunk 3, head 0. -/
theorem dw_3_0 : (k0_pay190 (F := Ideal) k0_pay13 (VL m c n) (k0_pay185 (DD m c n) (Q6 m c n 384 inb_S1024x2048_S128x256_384_1536)) O) (ix2 t s) = O (ix2 t s) + mixPart A n 3 0 t s := dwx_at A n O 3 0 t s

/-- Chunk 3, head 1. -/
theorem dw_3_1 : (k0_pay194 (F := Ideal) (k0_pay191 O) (k0_pay192 k0_pay13 (k0_pay185 (DD m c n) (Q6 m c n 384 inb_S1024x2048_S128x256_384_1536))) (k0_pay193 (VL m c n)) (constant S128x128 .f32 0#32)) (ix2 t s) = O (ix2 t s) + mixPart A n 3 1 t s := dwx_at A n O 3 1 t s

/-- Chunk 3, head 2. -/
theorem dw_3_2 : (k0_pay195 (F := Ideal) k0_pay13 (VL m c n) (k0_pay185 (DD m c n) (Q6 m c n 384 inb_S1024x2048_S128x256_384_1536)) O) (ix2 t s) = O (ix2 t s) + mixPart A n 3 2 t s := dwx_at A n O 3 2 t s

/-- Chunk 3, head 3. -/
theorem dw_3_3 : (k0_pay196 (F := Ideal) k0_pay13 (VL m c n) (k0_pay185 (DD m c n) (Q6 m c n 384 inb_S1024x2048_S128x256_384_1536)) O) (ix2 t s) = O (ix2 t s) + mixPart A n 3 3 t s := dwx_at A n O 3 3 t s

/-- Chunk 4, head 0. -/
theorem dw_4_0 : (k0_pay217 (F := Ideal) k0_pay13 (VL m c n) (k0_pay207 (DD m c n) (Q6 m c n 512 inb_S1024x2048_S128x256_512_1536)) O) (ix2 t s) = O (ix2 t s) + mixPart A n 4 0 t s := dwx_at A n O 4 0 t s

/-- Chunk 4, head 1. -/
theorem dw_4_1 : (k0_pay218 (F := Ideal) k0_pay13 (VL m c n) (k0_pay207 (DD m c n) (Q6 m c n 512 inb_S1024x2048_S128x256_512_1536)) O) (ix2 t s) = O (ix2 t s) + mixPart A n 4 1 t s := dwx_at A n O 4 1 t s

/-- Chunk 4, head 2. -/
theorem dw_4_2 : (k0_pay220 (F := Ideal) k0_pay13 (VL m c n) (k0_pay207 (DD m c n) (Q6 m c n 512 inb_S1024x2048_S128x256_512_1536)) (k0_pay219 O)) (ix2 t s) = O (ix2 t s) + mixPart A n 4 2 t s := dwx_at A n O 4 2 t s

/-- Chunk 4, head 3. -/
theorem dw_4_3 : (k0_pay221 (F := Ideal) k0_pay13 (VL m c n) (k0_pay207 (DD m c n) (Q6 m c n 512 inb_S1024x2048_S128x256_512_1536)) O) (ix2 t s) = O (ix2 t s) + mixPart A n 4 3 t s := dwx_at A n O 4 3 t s

/-- Chunk 5, head 0. -/
theorem dw_5_0 : (k0_pay235 (F := Ideal) k0_pay13 (VL m c n) (k0_pay232 (DD m c n) (Q6 m c n 640 inb_S1024x2048_S128x256_640_1536)) O) (ix2 t s) = O (ix2 t s) + mixPart A n 5 0 t s := dwx_at A n O 5 0 t s

/-- Chunk 5, head 1. -/
theorem dw_5_1 : (k0_pay236 (F := Ideal) k0_pay13 (VL m c n) (k0_pay232 (DD m c n) (Q6 m c n 640 inb_S1024x2048_S128x256_640_1536)) O) (ix2 t s) = O (ix2 t s) + mixPart A n 5 1 t s := dwx_at A n O 5 1 t s

/-- Chunk 5, head 2. -/
theorem dw_5_2 : (k0_pay240 (F := Ideal) (k0_pay237 O) (k0_pay238 k0_pay13 (k0_pay232 (DD m c n) (Q6 m c n 640 inb_S1024x2048_S128x256_640_1536))) (k0_pay239 (VL m c n)) (constant S128x128 .f32 0#32)) (ix2 t s) = O (ix2 t s) + mixPart A n 5 2 t s := dwx_at A n O 5 2 t s

/-- Chunk 5, head 3. -/
theorem dw_5_3 : (k0_pay241 (F := Ideal) k0_pay13 (VL m c n) (k0_pay232 (DD m c n) (Q6 m c n 640 inb_S1024x2048_S128x256_640_1536)) O) (ix2 t s) = O (ix2 t s) + mixPart A n 5 3 t s := dwx_at A n O 5 3 t s

/-- Chunk 6, head 0. -/
theorem dw_6_0 : (k0_pay250 (F := Ideal) k0_pay13 (VL m c n) (k0_pay247 (DD m c n) (Q6 m c n 768 inb_S1024x2048_S128x256_768_1536)) (k0_pay249 O)) (ix2 t s) = O (ix2 t s) + mixPart A n 6 0 t s := dwx_at A n O 6 0 t s

/-- Chunk 6, head 1. -/
theorem dw_6_1 : (k0_pay251 (F := Ideal) k0_pay13 (VL m c n) (k0_pay247 (DD m c n) (Q6 m c n 768 inb_S1024x2048_S128x256_768_1536)) O) (ix2 t s) = O (ix2 t s) + mixPart A n 6 1 t s := dwx_at A n O 6 1 t s

/-- Chunk 6, head 2. -/
theorem dw_6_2 : (k0_pay252 (F := Ideal) k0_pay13 (VL m c n) (k0_pay247 (DD m c n) (Q6 m c n 768 inb_S1024x2048_S128x256_768_1536)) O) (ix2 t s) = O (ix2 t s) + mixPart A n 6 2 t s := dwx_at A n O 6 2 t s

/-- Chunk 6, head 3. -/
theorem dw_6_3 : (k0_pay254 (F := Ideal) k0_pay13 (VL m c n) (k0_pay247 (DD m c n) (Q6 m c n 768 inb_S1024x2048_S128x256_768_1536)) (k0_pay253 O)) (ix2 t s) = O (ix2 t s) + mixPart A n 6 3 t s := dwx_at A n O 6 3 t s

/-- Chunk 7, head 0. -/
theorem dw_7_0 : (k0_pay264 (F := Ideal) (k0_pay261 O) (k0_pay262 k0_pay13 (k0_pay255 (DD m c n)) (Q6 m c n 896 inb_S1024x2048_S128x256_896_1536)) (k0_pay263 (VL m c n)) (constant S128x128 .f32 0#32)) (ix2 t s) = O (ix2 t s) + mixPart A n 7 0 t s := dwx_at A n O 7 0 t s

/-- Chunk 7, head 1. -/
theorem dw_7_1 : (k0_pay265 (F := Ideal) k0_pay13 (VL m c n) (k0_pay259 (k0_pay255 (DD m c n)) (Q6 m c n 896 inb_S1024x2048_S128x256_896_1536)) O) (ix2 t s) = O (ix2 t s) + mixPart A n 7 1 t s := dwx_at A n O 7 1 t s

/-- Chunk 7, head 2. -/
theorem dw_7_2 : (k0_pay266 (F := Ideal) k0_pay13 (VL m c n) (k0_pay259 (k0_pay255 (DD m c n)) (Q6 m c n 896 inb_S1024x2048_S128x256_896_1536)) O) (ix2 t s) = O (ix2 t s) + mixPart A n 7 2 t s := dwx_at A n O 7 2 t s

/-- Chunk 7, head 3. -/
theorem dw_7_3 : (k0_pay270 (F := Ideal) (k0_pay267 O) (k0_pay268 k0_pay13 (k0_pay259 (k0_pay255 (DD m c n)) (Q6 m c n 896 inb_S1024x2048_S128x256_896_1536))) (k0_pay269 (VL m c n)) (constant S128x128 .f32 0#32)) (ix2 t s) = O (ix2 t s) + mixPart A n 7 3 t s := dwx_at A n O 7 3 t s
end

/-- A kernel's zero fill. -/
theorem blocks_zero (add : ℕ → Fin 4 → Fin 128 → Fin 128 → EReal) (inb : ∀ a : Fin 2, (![0, 0] : Fin 2 → ℕ) a + (![512, 128] : Fin 2 → ℕ) a ≤ (![512, 128] : Fin 2 → ℕ) a) :
    BlocksOk True (View.canon [(⟨Rect.unit (s := S512x128) ![0, 0] ![512, 128] inb, k0_pay11 (F := Ideal)⟩ : View.Piece (Elt Ideal) S512x128 .f32)]) (fun _ => 0) add 0 := by
  intro h t s _
  rw [show (0 + 3 - h.val) / 4 = 0 by omega, Finset.sum_range_zero, add_zero]
  refine (congrFun (View.canon_cons_unit_lit _ _ _ (by decide)) _).trans ?_
  pointwise [k0_pay11]

/-- A buffer not yet stored to. -/
theorem blocks_none (L : List (View.Piece (Elt Ideal) S512x128 .f32)) (old : FVec Ideal S512x128 .f32) (add : ℕ → Fin 4 → Fin 128 → Fin 128 → EReal) :
    BlocksOk False (View.canon L) old add 0 := fun _ _ _ h => absurd h (by simp)

include A in
set_option maxHeartbeats 16000000 in
/-- The first point starts from zero. -/
theorem dws_first (h : n.val % 8 = 0) : BlocksOk True (outsAt0 m c n.val n.isLt).2.2.2.2.1 (fun _ => 0) (mixPart A n) 32 := by
  rw [outsAt0_A m c n h (by omega)]; frame_out
  refine blocks_read (inb' := inb_S512x128_S128x128_384_0) (ms0_17 n).view 3 rfl rfl (Or.inl trivial) (dw_7_3 A n _) ?_
  refine blocks_read (inb' := inb_S512x128_S128x128_256_0) (ms0_17 n).view 2 rfl rfl (Or.inl trivial) (dw_7_2 A n _) ?_
  refine blocks_read (inb' := inb_S512x128_S128x128_128_0) (ms0_17 n).view 1 rfl rfl (Or.inl trivial) (dw_7_1 A n _) ?_
  refine blocks_read (inb' := inb_S512x128_S128x128_0_0) (ms0_17 n).view 0 rfl rfl (Or.inl trivial) (dw_7_0 A n _) ?_
  refine blocks_read (inb' := inb_S512x128_S128x128_384_0) (ms0_17 n).view 3 rfl rfl (Or.inl trivial) (dw_6_3 A n _) ?_
  refine blocks_read (inb' := inb_S512x128_S128x128_256_0) (ms0_17 n).view 2 rfl rfl (Or.inl trivial) (dw_6_2 A n _) ?_
  refine blocks_read (inb' := inb_S512x128_S128x128_128_0) (ms0_17 n).view 1 rfl rfl (Or.inl trivial) (dw_6_1 A n _) ?_
  refine blocks_read (inb' := inb_S512x128_S128x128_0_0) (ms0_17 n).view 0 rfl rfl (Or.inl trivial) (dw_6_0 A n _) ?_
  refine blocks_read (inb' := inb_S512x128_S128x128_384_0) (ms0_17 n).view 3 rfl rfl (Or.inl trivial) (dw_5_3 A n _) ?_
  refine blocks_read (inb' := inb_S512x128_S128x128_256_0) (ms0_17 n).view 2 rfl rfl (Or.inl trivial) (dw_5_2 A n _) ?_
  refine blocks_read (inb' := inb_S512x128_S128x128_128_0) (ms0_17 n).view 1 rfl rfl (Or.inl trivial) (dw_5_1 A n _) ?_
  refine blocks_read (inb' := inb_S512x128_S128x128_0_0) (ms0_17 n).view 0 rfl rfl (Or.inl trivial) (dw_5_0 A n _) ?_
  refine blocks_read (inb' := inb_S512x128_S128x128_384_0) (ms0_17 n).view 3 rfl rfl (Or.inl trivial) (dw_4_3 A n _) ?_
  refine blocks_read (inb' := inb_S512x128_S128x128_256_0) (ms0_17 n).view 2 rfl rfl (Or.inl trivial) (dw_4_2 A n _) ?_
  refine blocks_read (inb' := inb_S512x128_S128x128_128_0) (ms0_17 n).view 1 rfl rfl (Or.inl trivial) (dw_4_1 A n _) ?_
  refine blocks_read (inb' := inb_S512x128_S128x128_0_0) (ms0_17 n).view 0 rfl rfl (Or.inl trivial) (dw_4_0 A n _) ?_
  refine blocks_read (inb' := inb_S512x128_S128x128_384_0) (ms0_17 n).view 3 rfl rfl (Or.inl trivial) (dw_3_3 A n _) ?_
  refine blocks_read (inb' := inb_S512x128_S128x128_256_0) (ms0_17 n).view 2 rfl rfl (Or.inl trivial) (dw_3_2 A n _) ?_
  refine blocks_read (inb' := inb_S512x128_S128x128_128_0) (ms0_17 n).view 1 rfl rfl (Or.inl trivial) (dw_3_1 A n _) ?_
  refine blocks_read (inb' := inb_S512x128_S128x128_0_0) (ms0_17 n).view 0 rfl rfl (Or.inl trivial) (dw_3_0 A n _) ?_
  refine blocks_read (inb' := inb_S512x128_S128x128_384_0) (ms0_17 n).view 3 rfl rfl (Or.inl trivial) (dw_2_3 A n _) ?_
  refine blocks_read (inb' := inb_S512x128_S128x128_256_0) (ms0_17 n).view 2 rfl rfl (Or.inl trivial) (dw_2_2 A n _) ?_
  refine blocks_read (inb' := inb_S512x128_S128x128_128_0) (ms0_17 n).view 1 rfl rfl (Or.inl trivial) (dw_2_1 A n _) ?_
  refine blocks_read (inb' := inb_S512x128_S128x128_0_0) (ms0_17 n).view 0 rfl rfl (Or.inl trivial) (dw_2_0 A n _) ?_
  refine blocks_read (inb' := inb_S512x128_S128x128_384_0) (ms0_17 n).view 3 rfl rfl (Or.inl trivial) (dw_1_3 A n _) ?_
  refine blocks_read (inb' := inb_S512x128_S128x128_256_0) (ms0_17 n).view 2 rfl rfl (Or.inl trivial) (dw_1_2 A n _) ?_
  refine blocks_read (inb' := inb_S512x128_S128x128_128_0) (ms0_17 n).view 1 rfl rfl (Or.inl trivial) (dw_1_1 A n _) ?_
  refine blocks_read (inb' := inb_S512x128_S128x128_0_0) (ms0_17 n).view 0 rfl rfl (Or.inl trivial) (dw_1_0 A n _) ?_
  refine blocks_read (inb' := inb_S512x128_S128x128_384_0) (ms0_17 n).view 3 rfl rfl (Or.inl trivial) (dw_0_3 A n _) ?_
  refine blocks_read (inb' := inb_S512x128_S128x128_256_0) (ms0_17 n).view 2 rfl rfl (Or.inl trivial) (dw_0_2 A n _) ?_
  refine blocks_read (inb' := inb_S512x128_S128x128_128_0) (ms0_17 n).view 1 rfl rfl (Or.inl trivial) (dw_0_1 A n _) ?_
  refine blocks_read (inb' := inb_S512x128_S128x128_0_0) (ms0_17 n).view 0 rfl rfl (Or.inl trivial) (dw_0_0 A n _) ?_
  exact blocks_zero _ _

include A in
set_option maxHeartbeats 16000000 in
/-- A later point adds to what it was carried. -/
theorem dws_next (h : ¬ n.val % 8 = 0) (h' : ¬ n.val % 8 = 7) : BlocksOk False (outsAt0 m c n.val n.isLt).2.2.2.2.1 (outsAt0 m c (n.val - 1) (Nat.lt_of_le_of_lt (Nat.sub_le _ _) n.isLt)).2.2.2.2.1 (mixPart A n) 32 := by
  rw [outsAt0_B m c n h h']; frame_out
  refine blocks_read (inb' := inb_S512x128_S128x128_384_0) (ms0_17 n).view 3 rfl rfl (Or.inr (by decide)) (dw_7_3 A n _) ?_
  refine blocks_read (inb' := inb_S512x128_S128x128_256_0) (ms0_17 n).view 2 rfl rfl (Or.inr (by decide)) (dw_7_2 A n _) ?_
  refine blocks_read (inb' := inb_S512x128_S128x128_128_0) (ms0_17 n).view 1 rfl rfl (Or.inr (by decide)) (dw_7_1 A n _) ?_
  refine blocks_read (inb' := inb_S512x128_S128x128_0_0) (ms0_17 n).view 0 rfl rfl (Or.inr (by decide)) (dw_7_0 A n _) ?_
  refine blocks_read (inb' := inb_S512x128_S128x128_384_0) (ms0_17 n).view 3 rfl rfl (Or.inr (by decide)) (dw_6_3 A n _) ?_
  refine blocks_read (inb' := inb_S512x128_S128x128_256_0) (ms0_17 n).view 2 rfl rfl (Or.inr (by decide)) (dw_6_2 A n _) ?_
  refine blocks_read (inb' := inb_S512x128_S128x128_128_0) (ms0_17 n).view 1 rfl rfl (Or.inr (by decide)) (dw_6_1 A n _) ?_
  refine blocks_read (inb' := inb_S512x128_S128x128_0_0) (ms0_17 n).view 0 rfl rfl (Or.inr (by decide)) (dw_6_0 A n _) ?_
  refine blocks_read (inb' := inb_S512x128_S128x128_384_0) (ms0_17 n).view 3 rfl rfl (Or.inr (by decide)) (dw_5_3 A n _) ?_
  refine blocks_read (inb' := inb_S512x128_S128x128_256_0) (ms0_17 n).view 2 rfl rfl (Or.inr (by decide)) (dw_5_2 A n _) ?_
  refine blocks_read (inb' := inb_S512x128_S128x128_128_0) (ms0_17 n).view 1 rfl rfl (Or.inr (by decide)) (dw_5_1 A n _) ?_
  refine blocks_read (inb' := inb_S512x128_S128x128_0_0) (ms0_17 n).view 0 rfl rfl (Or.inr (by decide)) (dw_5_0 A n _) ?_
  refine blocks_read (inb' := inb_S512x128_S128x128_384_0) (ms0_17 n).view 3 rfl rfl (Or.inr (by decide)) (dw_4_3 A n _) ?_
  refine blocks_read (inb' := inb_S512x128_S128x128_256_0) (ms0_17 n).view 2 rfl rfl (Or.inr (by decide)) (dw_4_2 A n _) ?_
  refine blocks_read (inb' := inb_S512x128_S128x128_128_0) (ms0_17 n).view 1 rfl rfl (Or.inr (by decide)) (dw_4_1 A n _) ?_
  refine blocks_read (inb' := inb_S512x128_S128x128_0_0) (ms0_17 n).view 0 rfl rfl (Or.inr (by decide)) (dw_4_0 A n _) ?_
  refine blocks_read (inb' := inb_S512x128_S128x128_384_0) (ms0_17 n).view 3 rfl rfl (Or.inr (by decide)) (dw_3_3 A n _) ?_
  refine blocks_read (inb' := inb_S512x128_S128x128_256_0) (ms0_17 n).view 2 rfl rfl (Or.inr (by decide)) (dw_3_2 A n _) ?_
  refine blocks_read (inb' := inb_S512x128_S128x128_128_0) (ms0_17 n).view 1 rfl rfl (Or.inr (by decide)) (dw_3_1 A n _) ?_
  refine blocks_read (inb' := inb_S512x128_S128x128_0_0) (ms0_17 n).view 0 rfl rfl (Or.inr (by decide)) (dw_3_0 A n _) ?_
  refine blocks_read (inb' := inb_S512x128_S128x128_384_0) (ms0_17 n).view 3 rfl rfl (Or.inr (by decide)) (dw_2_3 A n _) ?_
  refine blocks_read (inb' := inb_S512x128_S128x128_256_0) (ms0_17 n).view 2 rfl rfl (Or.inr (by decide)) (dw_2_2 A n _) ?_
  refine blocks_read (inb' := inb_S512x128_S128x128_128_0) (ms0_17 n).view 1 rfl rfl (Or.inr (by decide)) (dw_2_1 A n _) ?_
  refine blocks_read (inb' := inb_S512x128_S128x128_0_0) (ms0_17 n).view 0 rfl rfl (Or.inr (by decide)) (dw_2_0 A n _) ?_
  refine blocks_read (inb' := inb_S512x128_S128x128_384_0) (ms0_17 n).view 3 rfl rfl (Or.inr (by decide)) (dw_1_3 A n _) ?_
  refine blocks_read (inb' := inb_S512x128_S128x128_256_0) (ms0_17 n).view 2 rfl rfl (Or.inr (by decide)) (dw_1_2 A n _) ?_
  refine blocks_read (inb' := inb_S512x128_S128x128_128_0) (ms0_17 n).view 1 rfl rfl (Or.inr (by decide)) (dw_1_1 A n _) ?_
  refine blocks_read (inb' := inb_S512x128_S128x128_0_0) (ms0_17 n).view 0 rfl rfl (Or.inr (by decide)) (dw_1_0 A n _) ?_
  refine blocks_load (inb' := inb_S512x128_S128x128_384_0) 3 rfl rfl (by decide) (dw_0_3 A n _) ?_
  refine blocks_load (inb' := inb_S512x128_S128x128_256_0) 2 rfl rfl (by decide) (dw_0_2 A n _) ?_
  refine blocks_load (inb' := inb_S512x128_S128x128_128_0) 1 rfl rfl (by decide) (dw_0_1 A n _) ?_
  refine blocks_load (inb' := inb_S512x128_S128x128_0_0) 0 rfl rfl (by decide) (dw_0_0 A n _) ?_
  exact blocks_none _ _ _

/-- A load of the whole buffer. -/
theorem loaded_whole (v : View sig .tc .vmem S512x128 .f32) (L : List (View.Piece (Elt Ideal) S512x128 .f32))
    (inb : ∀ a : Fin 2, (![0, 0] : Fin 2 → ℕ) a + (![512, 128] : Fin 2 → ℕ) a ≤ (![512, 128] : Fin 2 → ℕ) a) :
    v.readCov L (Rect.unit (s := S512x128) ![0, 0] ![512, 128] inb).toLoadRect = View.canon L := by
  funext j
  idx_vars j
  exact whole_loaded v L inb j0 j1

include A in
set_option maxHeartbeats 16000000 in
/-- The last point adds its share and masks the sum. -/
theorem dws_last (h : ¬ n.val % 8 = 0) (h' : n.val % 8 = 7) : ∃ R, BlocksOk False R (outsAt0 m c (n.val - 1) (Nat.lt_of_le_of_lt (Nat.sub_le _ _) n.isLt)).2.2.2.2.1 (mixPart A n) 32
    ∧ (outsAt0 m c n.val n.isLt).2.2.2.2.1 = k0_pay2 (F := Ideal) R (iblk m c 10 n) := by
  rw [outsAt0_C m c n h h']; frame_out
  refine ⟨_, ?_, congrArg (fun R => k0_pay2 (F := Ideal) R (iblk m c 10 n)) (loaded_whole (ms0_17 n).view _ inb_S512x128_S512x128_0_0)⟩
  refine blocks_read (inb' := inb_S512x128_S128x128_384_0) (ms0_17 n).view 3 rfl rfl (Or.inr (by decide)) (dw_7_3 A n _) ?_
  refine blocks_read (inb' := inb_S512x128_S128x128_256_0) (ms0_17 n).view 2 rfl rfl (Or.inr (by decide)) (dw_7_2 A n _) ?_
  refine blocks_read (inb' := inb_S512x128_S128x128_128_0) (ms0_17 n).view 1 rfl rfl (Or.inr (by decide)) (dw_7_1 A n _) ?_
  refine blocks_read (inb' := inb_S512x128_S128x128_0_0) (ms0_17 n).view 0 rfl rfl (Or.inr (by decide)) (dw_7_0 A n _) ?_
  refine blocks_read (inb' := inb_S512x128_S128x128_384_0) (ms0_17 n).view 3 rfl rfl (Or.inr (by decide)) (dw_6_3 A n _) ?_
  refine blocks_read (inb' := inb_S512x128_S128x128_256_0) (ms0_17 n).view 2 rfl rfl (Or.inr (by decide)) (dw_6_2 A n _) ?_
  refine blocks_read (inb' := inb_S512x128_S128x128_128_0) (ms0_17 n).view 1 rfl rfl (Or.inr (by decide)) (dw_6_1 A n _) ?_
  refine blocks_read (inb' := inb_S512x128_S128x128_0_0) (ms0_17 n).view 0 rfl rfl (Or.inr (by decide)) (dw_6_0 A n _) ?_
  refine blocks_read (inb' := inb_S512x128_S128x128_384_0) (ms0_17 n).view 3 rfl rfl (Or.inr (by decide)) (dw_5_3 A n _) ?_
  refine blocks_read (inb' := inb_S512x128_S128x128_256_0) (ms0_17 n).view 2 rfl rfl (Or.inr (by decide)) (dw_5_2 A n _) ?_
  refine blocks_read (inb' := inb_S512x128_S128x128_128_0) (ms0_17 n).view 1 rfl rfl (Or.inr (by decide)) (dw_5_1 A n _) ?_
  refine blocks_read (inb' := inb_S512x128_S128x128_0_0) (ms0_17 n).view 0 rfl rfl (Or.inr (by decide)) (dw_5_0 A n _) ?_
  refine blocks_read (inb' := inb_S512x128_S128x128_384_0) (ms0_17 n).view 3 rfl rfl (Or.inr (by decide)) (dw_4_3 A n _) ?_
  refine blocks_read (inb' := inb_S512x128_S128x128_256_0) (ms0_17 n).view 2 rfl rfl (Or.inr (by decide)) (dw_4_2 A n _) ?_
  refine blocks_read (inb' := inb_S512x128_S128x128_128_0) (ms0_17 n).view 1 rfl rfl (Or.inr (by decide)) (dw_4_1 A n _) ?_
  refine blocks_read (inb' := inb_S512x128_S128x128_0_0) (ms0_17 n).view 0 rfl rfl (Or.inr (by decide)) (dw_4_0 A n _) ?_
  refine blocks_read (inb' := inb_S512x128_S128x128_384_0) (ms0_17 n).view 3 rfl rfl (Or.inr (by decide)) (dw_3_3 A n _) ?_
  refine blocks_read (inb' := inb_S512x128_S128x128_256_0) (ms0_17 n).view 2 rfl rfl (Or.inr (by decide)) (dw_3_2 A n _) ?_
  refine blocks_read (inb' := inb_S512x128_S128x128_128_0) (ms0_17 n).view 1 rfl rfl (Or.inr (by decide)) (dw_3_1 A n _) ?_
  refine blocks_read (inb' := inb_S512x128_S128x128_0_0) (ms0_17 n).view 0 rfl rfl (Or.inr (by decide)) (dw_3_0 A n _) ?_
  refine blocks_read (inb' := inb_S512x128_S128x128_384_0) (ms0_17 n).view 3 rfl rfl (Or.inr (by decide)) (dw_2_3 A n _) ?_
  refine blocks_read (inb' := inb_S512x128_S128x128_256_0) (ms0_17 n).view 2 rfl rfl (Or.inr (by decide)) (dw_2_2 A n _) ?_
  refine blocks_read (inb' := inb_S512x128_S128x128_128_0) (ms0_17 n).view 1 rfl rfl (Or.inr (by decide)) (dw_2_1 A n _) ?_
  refine blocks_read (inb' := inb_S512x128_S128x128_0_0) (ms0_17 n).view 0 rfl rfl (Or.inr (by decide)) (dw_2_0 A n _) ?_
  refine blocks_read (inb' := inb_S512x128_S128x128_384_0) (ms0_17 n).view 3 rfl rfl (Or.inr (by decide)) (dw_1_3 A n _) ?_
  refine blocks_read (inb' := inb_S512x128_S128x128_256_0) (ms0_17 n).view 2 rfl rfl (Or.inr (by decide)) (dw_1_2 A n _) ?_
  refine blocks_read (inb' := inb_S512x128_S128x128_128_0) (ms0_17 n).view 1 rfl rfl (Or.inr (by decide)) (dw_1_1 A n _) ?_
  refine blocks_read (inb' := inb_S512x128_S128x128_0_0) (ms0_17 n).view 0 rfl rfl (Or.inr (by decide)) (dw_1_0 A n _) ?_
  refine blocks_load (inb' := inb_S512x128_S128x128_384_0) 3 rfl rfl (by decide) (dw_0_3 A n _) ?_
  refine blocks_load (inb' := inb_S512x128_S128x128_256_0) 2 rfl rfl (by decide) (dw_0_2 A n _) ?_
  refine blocks_load (inb' := inb_S512x128_S128x128_128_0) 1 rfl rfl (by decide) (dw_0_1 A n _) ?_
  refine blocks_load (inb' := inb_S512x128_S128x128_0_0) 0 rfl rfl (by decide) (dw_0_0 A n _) ?_
  exact blocks_none _ _ _

/-- A tile's share, by the place in the buffer. -/
def mixTile (j : S512x128.Idx) : EReal := ∑ k ∈ Finset.range 8, mixPart A n k ⟨(j 0).val / 128, by have := (j 0).isLt; simp at this; omega⟩ ⟨(j 0).val % 128, by omega⟩ (j 1)

/-- Every place of the buffer lies in a head's block. -/
theorem blocks_at {full : Prop} {R old : FVec Ideal S512x128 .f32} (ok : BlocksOk full R old (mixPart A n) 32) (j : S512x128.Idx) : R j = old j + mixTile A n j := by
  idx_vars j
  have := ok ⟨j0.val / 128, by omega⟩ ⟨j0.val % 128, by omega⟩ j1 (Or.inr (by dsimp only; omega))
  have e : (⟨j0.val / 128 * 128 + j0.val % 128, by omega⟩ : Fin 512) = j0 := Fin.ext (by dsimp only; omega)
  simp only [e] at this
  rw [this, show (32 + 3 - j0.val / 128) / 4 = 8 by omega]
  rfl

/-- What the buffer holds before the last point masks it. -/
def mixSum (k : ℕ) (hk : k < cfg0.N) (j : S512x128.Idx) : EReal :=
  if k % 8 = 7 then (outsAt0 m c (k - 1) (Nat.lt_of_le_of_lt (Nat.sub_le _ _) hk)).2.2.2.2.1 j + mixTile A ⟨k, hk⟩ j else (outsAt0 m c k hk).2.2.2.2.1 j

include A in
/-- Before the mask it is the sum of the tiles' shares. -/
theorem mixSum_last (j : S512x128.Idx) : mixSum A lastPoint.val lastPoint.isLt j = ∑ n : Fin cfg0.N, mixTile A n j := by
  rw [Pipeline.eq_sum_fin_of_reset_step_apply_last (fun n h => mixSum A n h) 8 (fun _ => 0) (fun n j => mixTile A n j)
    (fun n h j => by
      rw [mixSum, if_neg (by omega)]
      exact blocks_at A n (dws_first A n h) j)
    (fun n h j => by
      have hn : n.val < 8 := lt_of_lt_of_eq n.isLt N_0
      by_cases h' : n.val % 8 = 7
      · rw [mixSum, if_pos h', mixSum, if_neg (by omega)]
      · rw [mixSum, if_neg h', mixSum, if_neg (by omega)]
        exact blocks_at A n (dws_next A n h h') j)
    (le_of_eq N_0) lastPoint N_0.symm j]
  rw [zero_add]

/-- The mask, place by place. -/
theorem masked_at (X T : FVec Ideal S512x128 .f32) (j : S512x128.Idx) : k0_pay2 (F := Ideal) X T j = X j * T j := by
  pointwise [k0_pay2]

include A in
/-- What the last point leaves. -/
theorem dws_left (j : S512x128.Idx) : (outsAt0 m c lastPoint.val lastPoint.isLt).2.2.2.2.1 j = (∑ n : Fin cfg0.N, mixTile A n j) * (iblk m c 10 lastPoint : FVec Ideal S512x128 .f32) j := by
  obtain ⟨R, ok, e⟩ := dws_last A lastPoint (by decide) (by decide)
  rw [e, masked_at, blocks_at A lastPoint ok j, ← mixSum_last A j, mixSum, if_pos (by decide)]

/-- The rows of a chunk, over the tiles, are the rows of a place in the array's chunks; the lanes of a head are its lanes. -/
theorem mix_sum (f : Fin 8192 → Fin 8192 → Fin 256 → EReal) (h : Fin 4) (t s : Fin 128) :
    ∑ n : Fin cfg0.N, ∑ k : Fin 8, ∑ l, (if head l = h then f (trow (tl n) (crow k t)) (trow (tl n) (crow k s)) l else 0) = ∑ n : Fin 64, ∑ j : Fin 64, f (rowIn n t) (rowIn n s) (laneIn h j) := by
  refine (tiles_sum fun T => ∑ k, ∑ l, (if head l = h then f (trow T (crow k t)) (trow T (crow k s)) l else 0)).trans
    ((Fin.sum_mul_add_congr (f := fun n : Fin 64 => ∑ l, if head l = h then f (rowIn n t) (rowIn n s) l else 0) fun T k hl =>
      Finset.sum_congr rfl fun l _ => if_congr Iff.rfl (congrArg₂ (fun a b => f a b l) (Fin.ext (by simp only [trow, crow, rowIn]; omega)) (Fin.ext (by simp only [trow, crow, rowIn]; omega))) rfl).trans ?_)
  refine Finset.sum_congr rfl fun n _ => ?_
  rw [← Fin.sum_mul_add_congr (F := fun (H : Fin 4) (j : Fin 64) => if H = h then f (rowIn n t) (rowIn n s) (laneIn H j) else 0)
    (f := fun l : Fin 256 => if head l = h then f (rowIn n t) (rowIn n s) l else 0) (fun H j hl => by
      have e1 : head ⟨H.val * 64 + j.val, hl⟩ = H := Fin.ext (by simp only [head]; omega)
      rw [e1]; rfl)]
  rw [Finset.sum_eq_single h (fun H _ ne => Finset.sum_eq_zero fun j _ => if_neg ne) (fun q => absurd (Finset.mem_univ _) q)]
  simp only [if_pos]

/-- The tiles' shares, by the head, the row and the column. -/
theorem tiles_at (h : Fin 4) (t s : Fin 128) (J : Fin 512) (eJ : J.val = h.val * 128 + t.val) : ∑ n : Fin cfg0.N, mixTile A n (ix2 J s)
    = ∑ n : Fin 64, ∑ j : Fin 64, (dMixed A.p A.dmx (rowIn n t) (laneIn h j) : EReal) * valLnE A.p A.gg (gbA m c) (rowIn n s) (laneIn h j) := by
  rw [← mix_sum (fun a b l => (dMixed A.p A.dmx a l : EReal) * valLnE A.p A.gg (gbA m c) b l)]
  refine Finset.sum_congr rfl fun n _ => ?_
  refine (Finset.sum_range (fun k => mixPart A n k ⟨J.val / 128, by omega⟩ ⟨J.val % 128, by omega⟩ s)).trans ?_
  refine Finset.sum_congr rfl fun k _ => ?_
  rw [mixPart, dif_pos k.isLt, mixChunk]
  have e1 : (⟨J.val / 128, by omega⟩ : Fin 4) = h := Fin.ext (by dsimp only; omega)
  have e2 : (⟨J.val % 128, by omega⟩ : Fin 128) = t := Fin.ext (by dsimp only; omega)
  exact congrArg₂ (fun (a : Fin 4) (b : Fin 128) => ∑ l, if head l = a then (dMixed A.p A.dmx (trow (tl n) (crow k b)) l : EReal) * valLnE A.p A.gg (gbA m c) (trow (tl n) (crow k s)) l else 0) e1 e2

include A in
/-- The masked sum is the reference's derivative. -/
theorem dws_value (J : Fin 512) (s : Fin 128) : (∑ n : Fin cfg0.N, mixTile A n (ix2 J s)) * (iblk m c 10 lastPoint : FVec Ideal S512x128 .f32) (ix2 J s) = MixerReferenceIdeal.Read.val_main_v557 (F := Ideal) (m ((c : Thread nD τ).loc main_arg0)) (m ((c : Thread nD τ).loc main_arg1)) (m ((c : Thread nD τ).loc main_arg9)) (m ((c : Thread nD τ).loc main_arg10)) (m ((c : Thread nD τ).loc main_arg13)) (ix2 J s) := by
  have eJ : J.val = (⟨J.val / 128, by omega⟩ : Fin 4).val * 128 + (⟨J.val % 128, by omega⟩ : Fin 128).val := by dsimp only; omega
  rw [tiles_at A _ _ s J eJ, tril_at lastPoint J _ _ s eJ]
  have ref := MixerReferenceIdeal.Mix.dws_at A.e_d A.e_wo A.e_p A.e_gg (GB := m ((c : Thread nD τ).loc main_arg10)) ⟨J.val / 128, by omega⟩ ⟨J.val % 128, by omega⟩ s
  have at3 : MixerReferenceIdeal.Read.val_main_v557 (F := Ideal) (m ((c : Thread nD τ).loc main_arg0)) (m ((c : Thread nD τ).loc main_arg1)) (m ((c : Thread nD τ).loc main_arg9)) (m ((c : Thread nD τ).loc main_arg10)) (m ((c : Thread nD τ).loc main_arg13)) (ix2 J s) = MixerReferenceIdeal.Read.val_main_v258 (F := Ideal) (m ((c : Thread nD τ).loc main_arg0)) (m ((c : Thread nD τ).loc main_arg1)) (m ((c : Thread nD τ).loc main_arg9)) (m ((c : Thread nD τ).loc main_arg10)) (m ((c : Thread nD τ).loc main_arg13)) (ix3 (⟨J.val / 128, by omega⟩ : Fin 4) (⟨J.val % 128, by omega⟩ : Fin 128) s) := by
    pointwise [MixerReferenceIdeal.Read.val_main_v557]
  rw [at3]
  refine Eq.trans ?_ ref.symm
  by_cases q : s.val ≤ J.val % 128
  · rw [if_pos q, if_pos q, mul_one]
    rfl
  · rw [if_neg q, if_neg q, mul_zero]

include A in
/-- The weights' window holds the masked sum of the tiles' shares. -/
theorem dws_final : (dats m 0 c).arrAt 17 (cfgs 0).N = MixerReferenceIdeal.Read.val_main_v557 (F := Ideal) (m ((c : Thread nD τ).loc main_arg0)) (m ((c : Thread nD τ).loc main_arg1)) (m ((c : Thread nD τ).loc main_arg9)) (m ((c : Thread nD τ).loc main_arg10)) (m ((c : Thread nD τ).loc main_arg13)) := by
  refine (dats m 0 c).arrAt_eq_of_after_last 17 lastPoint (by decide +kernel) _ fun j => ?_
  blk_simp
  rw [after0_17, dws_left A]
  idx_vars j
  exact dws_value A j0 j1

end Cert.MixerKernelIdeal.Mix
-- ==== Proof.MixerDbs.lean ====
module

public import proofs.«01_k».proof.Proof.MixerShift
public import proofs.«01_k».proof.Proof.MixerPureC

/-! The mixer's backward kernel: the derivative of the mixing's bias, added up over the tiles. -/

@[expose] public section

set_option maxRecDepth 16384
noncomputable section
open Idealize.ShloMosaic Idealize.ShloMosaic.TcCoe Idealize.SL.Sem
open Idealize.ShloMosaic.Pipeline (Dat)
namespace Cert.MixerKernelIdeal.Mix
open Cert.MixerKernelIdeal Cert.MixerKernelIdeal.Gen Cert.Step

open Cert.MixerReferenceIdeal.Mix (rowIn laneIn)
variable (m : (ℓ : Loc nD τ sig) → Buf (Elt Ideal) ℓ) (c : Dev nD)

/-- The rows' derivative, added to what a point was carried. -/
abbrev dbx (n : Fin cfg0.N) (O : FVec Ideal S128x256 .f32) : FVec Ideal S128x256 .f32 :=
  k0_pay258 (F := Ideal) (k0_pay255 (DD m c n)) (Q6 m c n 896 inb_S1024x2048_S128x256_896_1536) (k0_pay246 (DD m c n) (Q6 m c n 768 inb_S1024x2048_S128x256_768_1536) (k0_pay231 (DD m c n) (Q6 m c n 640 inb_S1024x2048_S128x256_640_1536) (k0_pay206 (DD m c n) (Q6 m c n 512 inb_S1024x2048_S128x256_512_1536) (k0_pay184 (DD m c n) (Q6 m c n 384 inb_S1024x2048_S128x256_384_1536) (k0_pay172 (DD m c n) (Q6 m c n 256 inb_S1024x2048_S128x256_256_1536) (k0_pay156 (k0_pay153 (DD m c n)) (Q6 m c n 128 inb_S1024x2048_S128x256_128_1536) (k0_pay144 (DD m c n) (Q6 m c n 0 inb_S1024x2048_S128x256_0_1536) O)))))))

variable {m c} (A : Args m c) (n : Fin cfg0.N)

/-- A tile's share of the bias' derivative, by the lanes. -/
def biasPart (t : Fin 128) (l : Fin 256) : EReal := ((∑ k, dMixed A.p A.dmx (trow (tl n) (crow k t)) l : ℝ) : EReal)

include A in
/-- A point adds its tile's share. -/
theorem dbx_at (O : FVec Ideal S128x256 .f32) (t : Fin 128) (l : Fin 256) : dbx m c n O (ix2 t l) = O (ix2 t l) + biasPart A n t l := by
  have e : dbx m c n O = dbiasOf (DD m c n) (P6 m c n) O := by
    unfold dbiasOf
    rw [show P6 m c n 0 = Q6 m c n 0 inb_S1024x2048_S128x256_0_1536 from rfl, show P6 m c n 1 = Q6 m c n 128 inb_S1024x2048_S128x256_128_1536 from rfl, show P6 m c n 2 = Q6 m c n 256 inb_S1024x2048_S128x256_256_1536 from rfl, show P6 m c n 3 = Q6 m c n 384 inb_S1024x2048_S128x256_384_1536 from rfl, show P6 m c n 4 = Q6 m c n 512 inb_S1024x2048_S128x256_512_1536 from rfl, show P6 m c n 5 = Q6 m c n 640 inb_S1024x2048_S128x256_640_1536 from rfl, show P6 m c n 6 = Q6 m c n 768 inb_S1024x2048_S128x256_768_1536 from rfl, show P6 m c n 7 = Q6 m c n 896 inb_S1024x2048_S128x256_896_1536 from rfl]
  rw [e]
  exact dbias_tile (dd_tile (d_at A n) (wo_at A n)) (chunk_at A n) O t l

include A in
set_option maxHeartbeats 4000000 in
/-- What the last point holds of the bias' derivative, by the lanes. -/
theorem dbias_last (t : Fin 128) (l : Fin 256) : (outsAt0 m c lastPoint.val lastPoint.isLt).2.2.2.2.2.2.2.2.2 (ix2 t l) = ∑ n : Fin cfg0.N, biasPart A n t l := by
  rw [Pipeline.eq_sum_fin_of_reset_step_apply_last (fun n h => (outsAt0 m c n h).2.2.2.2.2.2.2.2.2) 8 (fun _ => 0)
    (fun n (j : S128x256.Idx) => biasPart A n (j 0) (j 1))
    (fun n h j => by
      idx_vars j
      rw [outsAt0_A m c n h (by omega)]; frame_out
      refine (dbx_at A n _ j0 j1).trans (congrArg (· + _) ?_)
      pointwise [k0_pay7])
    (fun n h j => by
      idx_vars j
      by_cases h' : n.val % 8 = 7
      · rw [outsAt0_C m c n h h']; frame_out
        exact (dbx_at A n _ j0 j1).trans (congrArg (· + _) (congrFun (Memref.IsWhole.read_unread _ _) _))
      · rw [outsAt0_B m c n h h']; frame_out
        exact (dbx_at A n _ j0 j1).trans (congrArg (· + _) (congrFun (Memref.IsWhole.read_unread _ _) _)))
    (le_of_eq N_0) lastPoint N_0.symm (ix2 t l)]
  rw [zero_add]
  rfl

/-- The last point folds the lanes into heads. -/
theorem dbs_last (j : S8x128.Idx) : (outsAt0 m c lastPoint.val lastPoint.isLt).2.2.2.2.2.1 j
    = k0_pay3 (F := Ideal) (iblk m c 11 lastPoint) ((outsAt0 m c lastPoint.val lastPoint.isLt).2.2.2.2.2.2.2.2.2) j := by
  refine congrFun ?_ j
  rw [outsAt0_C m c lastPoint (by decide) (by decide)]; frame_out
  try rfl

/-- The rows of a chunk, over the tiles, are the rows of a place in the array's chunks; the lanes of a head are its lanes. -/
theorem bias_sum (f : Fin 8192 → Fin 256 → ℝ) (h : Fin 4) (t : Fin 128) :
    ∑ l, (if h.val = (head l).val then ∑ n : Fin cfg0.N, ∑ k, f (trow (tl n) (crow k t)) l else 0) = ∑ n : Fin 64, ∑ j : Fin 64, f (rowIn n t) (laneIn h j) := by
  have e : ∀ l, ∑ n : Fin cfg0.N, ∑ k, f (trow (tl n) (crow k t)) l = ∑ n : Fin 64, f (rowIn n t) l := fun l =>
    (tiles_sum fun T => ∑ k, f (trow T (crow k t)) l).trans (Fin.sum_mul_add_congr (f := fun n : Fin 64 => f (rowIn n t) l) fun T k hl =>
      congrArg (fun r => f r l) (Fin.ext (by simp only [trow, crow, rowIn]; omega)))
  simp only [e]
  rw [Finset.sum_comm' (s := Finset.univ) (t := fun _ => Finset.univ) (t' := Finset.univ) (s' := fun _ => Finset.univ) (by simp)]
  rw [← Fin.sum_mul_add_congr (F := fun (H : Fin 4) (j : Fin 64) => if h.val = H.val then ∑ n : Fin 64, f (rowIn n t) (laneIn H j) else 0)
    (f := fun l : Fin 256 => if h.val = (head l).val then ∑ n : Fin 64, f (rowIn n t) l else 0) (fun H j hl => by
      have e1 : head ⟨H.val * 64 + j.val, hl⟩ = H := Fin.ext (by simp only [head]; omega)
      rw [e1]; rfl)]
  rw [Finset.sum_eq_single h (fun H _ ne => Finset.sum_eq_zero fun j _ => if_neg fun q => ne (Fin.ext q.symm)) (fun q => absurd (Finset.mem_univ _) q)]
  simp only [if_pos]

/-- The reference's derivative of the bias, its last rows zero. -/
theorem dbsRef_at (a : Fin 8) (t : Fin 128) : MixerReferenceIdeal.Read.val_main_v558 (F := Ideal) (m ((c : Thread nD τ).loc main_arg0)) (m ((c : Thread nD τ).loc main_arg1)) (m ((c : Thread nD τ).loc main_arg13)) (ix2 a t)
    = if h : a.val < 4 then ((∑ n : Fin 64, ∑ j : Fin 64, dMixed A.p A.dmx (rowIn n t) (laneIn ⟨a.val, h⟩ j) : ℝ) : EReal) else 0 := by
  by_cases h : a.val < 4
  · rw [dif_pos h]
    refine Eq.trans ?_ (MixerReferenceIdeal.Mix.dbs_at A.e_d A.e_wo A.e_p ⟨a.val, h⟩ t)
    pointwise [MixerReferenceIdeal.Read.val_main_v558]
    simp [h]
  · rw [dif_neg h]
    pointwise [MixerReferenceIdeal.Read.val_main_v558]
    simp only [dif_neg h]
    pointwise [MixerReferenceIdeal.Read.val_main_call9_v0, MixerReferenceIdeal.Read.val_main_c_114]
    simp [FloatOps.sitofp]

/-- Folded into heads, the tiles' shares are the reference's derivative. -/
theorem dbs_value (X : FVec Ideal S128x256 .f32) (ex : ∀ t l, X (ix2 t l) = ∑ n : Fin cfg0.N, biasPart A n t l) (a : Fin 8) (t : Fin 128) :
    k0_pay3 (F := Ideal) (iblk m c 11 n) X (ix2 a t) = MixerReferenceIdeal.Read.val_main_v558 (F := Ideal) (m ((c : Thread nD τ).loc main_arg0)) (m ((c : Thread nD τ).loc main_arg1)) (m ((c : Thread nD τ).loc main_arg13)) (ix2 a t) := by
  rw [dbsRef_at A]
  pointwise [k0_pay3]
  simp only [hr_at, ex, biasPart, sum_coe]
  by_cases h : a.val < 4
  · rw [dif_pos h, ← bias_sum _ ⟨a.val, h⟩, ← sum_coe]
    refine Finset.sum_congr rfl fun l _ => ?_
    by_cases e : a.val = (head l).val
    · rw [if_pos e, if_pos e, one_mul]
    · rw [if_neg e, if_neg e, zero_mul, EReal.coe_zero]
  · rw [dif_neg h]
    refine Finset.sum_eq_zero fun l _ => ?_
    rw [if_neg (by have := (head l).isLt; omega), zero_mul]

include A in
/-- The bias' window holds the sum of the tiles' shares, folded into heads. -/
theorem dbs_final : (dats m 0 c).arrAt 18 (cfgs 0).N = MixerReferenceIdeal.Read.val_main_v558 (F := Ideal) (m ((c : Thread nD τ).loc main_arg0)) (m ((c : Thread nD τ).loc main_arg1)) (m ((c : Thread nD τ).loc main_arg13)) := by
  refine (dats m 0 c).arrAt_eq_of_after_last 18 lastPoint (by decide +kernel) _ fun j => ?_
  blk_simp
  rw [after0_18, dbs_last]
  idx_vars j
  exact dbs_value A lastPoint _ (dbias_last A) j0 j1

end Cert.MixerKernelIdeal.Mix
-- ==== Proof.MixerClaim.lean ====
module

public import proofs.«01_k».proof.Defs
public import proofs.«01_k».proof.Proof.Gen.MixerKernel.Frame
public import proofs.«01_k».proof.Proof.Gen.MixerKernelIdeal.Value
public import proofs.«01_k».proof.Proof.MixerArgs
public import proofs.«01_k».proof.Proof.MixerDp
public import proofs.«01_k».proof.Proof.MixerDcw
public import proofs.«01_k».proof.Proof.MixerVec
public import proofs.«01_k».proof.Proof.MixerPool
public import proofs.«01_k».proof.Proof.MixerDws
public import proofs.«01_k».proof.Proof.MixerDbs
public import Idealize.ShloMosaic.Lib.Quiescent
public import Idealize.ShloMosaic.Lib.Claim

/-! What is claimed of the mixer's backward call. -/

@[expose] public section

noncomputable section

namespace Cert.Proof

open Idealize.ShloMosaic Idealize.ShloMosaic.TcCoe Idealize.SL.Sem

/-- The side conditions of the precondition's own operations. -/
theorem mixerPreFacts : Cert.Pre_finite_mixer.Facts := by constructor <;> decide

/-- The reference runs, leaves its arguments as they were, and has no semaphore to leave raised. -/
theorem mixer_reference_frame (m) (ρ) : θ_run (Cert.MixerReferenceIdeal.defs (F := Ideal)) (onTc (τ := Cert.MixerReferenceIdeal.τ) (Cert.MixerReferenceIdeal.main (F := Ideal))) ⟨m, fun _ => 0, ρ⟩
    (fun r => (∀ c : Dev Cert.MixerReferenceIdeal.nD, r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13))
      ∧ r.2.sem = fun _ => 0) :=
  (θ_run _ _ _).mono (fun r h => ⟨fun c => (h c).2.2.2.2.2.2, sem_eq_zero_of_no_sems rfl _⟩) (Cert.MixerReferenceIdeal.Value.run m ρ)

/-- The reference's run, its results at the stages read elsewhere. -/
theorem mixer_reference_run (m) (ρ) : θ_run (Cert.MixerReferenceIdeal.defs (F := Ideal)) (onTc (τ := Cert.MixerReferenceIdeal.τ) (Cert.MixerReferenceIdeal.main (F := Ideal))) ⟨m, fun _ => 0, ρ⟩
    fun r => ∀ c : Dev Cert.MixerReferenceIdeal.nD, r.2.mem ((c.tc : Thread Cert.MixerReferenceIdeal.nD Cert.MixerReferenceIdeal.τ).loc Cert.MixerReferenceIdeal.main_v555) = Cert.MixerReferenceIdeal.Read.val_main_v555 (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10)) (m ((c.tc : Thread Cert.MixerReferenceIdeal.nD Cert.MixerReferenceIdeal.τ).loc Cert.MixerReferenceIdeal.main_arg11)) (m ((c.tc : Thread Cert.MixerReferenceIdeal.nD Cert.MixerReferenceIdeal.τ).loc Cert.MixerReferenceIdeal.main_arg12)) (m ((c.tc : Thread Cert.MixerReferenceIdeal.nD Cert.MixerReferenceIdeal.τ).loc Cert.MixerReferenceIdeal.main_arg13))
      ∧ r.2.mem ((c.tc : Thread Cert.MixerReferenceIdeal.nD Cert.MixerReferenceIdeal.τ).loc Cert.MixerReferenceIdeal.main_v556) = Cert.MixerReferenceIdeal.Read.val_main_v556 (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg13))
      ∧ r.2.mem ((c.tc : Thread Cert.MixerReferenceIdeal.nD Cert.MixerReferenceIdeal.τ).loc Cert.MixerReferenceIdeal.main_v554) = Cert.MixerReferenceIdeal.Read.val_main_v554 (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg11)) (m ((c.tc : Thread Cert.MixerReferenceIdeal.nD Cert.MixerReferenceIdeal.τ).loc Cert.MixerReferenceIdeal.main_arg13))
      ∧ r.2.mem ((c.tc : Thread Cert.MixerReferenceIdeal.nD Cert.MixerReferenceIdeal.τ).loc Cert.MixerReferenceIdeal.main_v298) = Cert.MixerReferenceIdeal.Read.val_main_v298 (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg13))
      ∧ r.2.mem ((c.tc : Thread Cert.MixerReferenceIdeal.nD Cert.MixerReferenceIdeal.τ).loc Cert.MixerReferenceIdeal.main_v557) = Cert.MixerReferenceIdeal.Read.val_main_v557 (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10)) (m ((c.tc : Thread Cert.MixerReferenceIdeal.nD Cert.MixerReferenceIdeal.τ).loc Cert.MixerReferenceIdeal.main_arg13))
      ∧ r.2.mem ((c.tc : Thread Cert.MixerReferenceIdeal.nD Cert.MixerReferenceIdeal.τ).loc Cert.MixerReferenceIdeal.main_v558) = Cert.MixerReferenceIdeal.Read.val_main_v558 (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg13))
      ∧ r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13) :=
  (θ_run _ _ _).mono (fun r h c => ⟨(h c).1.trans (Cert.MixerReferenceIdeal.Read.val_main_v555_eq (StableHlo.launchContents m c)),
    (h c).2.1.trans (Cert.MixerReferenceIdeal.Read.val_main_v556_eq (StableHlo.launchContents m c)),
    (h c).2.2.1.trans (Cert.MixerReferenceIdeal.Read.val_main_v554_eq (StableHlo.launchContents m c)),
    (h c).2.2.2.1.trans (Cert.MixerReferenceIdeal.Read.val_main_v298_eq (StableHlo.launchContents m c)),
    (h c).2.2.2.2.1.trans (Cert.MixerReferenceIdeal.Read.val_main_v557_eq (StableHlo.launchContents m c)),
    (h c).2.2.2.2.2.1.trans (Cert.MixerReferenceIdeal.Read.val_main_v558_eq (StableHlo.launchContents m c)), (h c).2.2.2.2.2.2⟩) (Cert.MixerReferenceIdeal.Value.run m ρ)

set_option maxHeartbeats 16000000 in
/-- The kernel and the derivative of the mixer leave the same six arrays on finite arguments. -/
theorem mixer_algebraic : algebraic_MixerKernelIdeal_MixerReferenceIdeal_pre_finite_mixer
    (hMixerKernelIdeal := Cert.MixerKernelIdeal.Gen.facts) (hMixerReferenceIdeal := Cert.MixerReferenceIdeal.Gen.facts) (hPre_finite_mixer := mixerPreFacts) := by
  letI := mixerPreFacts
  intro m g m' g' hpre hagree
  refine ⟨fun c => (Cert.MixerKernelIdeal.Gen.dats m 0 c).arrAt 13 Cert.MixerKernelIdeal.cfg0.N,
    fun c => (Cert.MixerKernelIdeal.Gen.dats m 0 c).arrAt 14 Cert.MixerKernelIdeal.cfg0.N,
    fun c => (Cert.MixerKernelIdeal.Gen.dats m 0 c).arrAt 15 Cert.MixerKernelIdeal.cfg0.N,
    fun c => (Cert.MixerKernelIdeal.Gen.dats m 0 c).arrAt 16 Cert.MixerKernelIdeal.cfg0.N,
    fun c => (Cert.MixerKernelIdeal.Gen.dats m 0 c).arrAt 17 Cert.MixerKernelIdeal.cfg0.N,
    fun c => (Cert.MixerKernelIdeal.Gen.dats m 0 c).arrAt 18 Cert.MixerKernelIdeal.cfg0.N, ?_, ?_⟩
  · exact Cert.MixerKernelIdeal.Value.run_blocks m g
  · refine (θ_run _ _ _).mono (fun r h c => ?_) (mixer_reference_run m' g')
    obtain ⟨A⟩ := Cert.MixerKernelIdeal.Mix.args_of_pre (hpre c)
    have e := h c
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2] at e
    refine ⟨e.1.trans (Cert.MixerKernelIdeal.Mix.dp_final A).symm,
      e.2.1.trans (Cert.MixerKernelIdeal.Mix.dcw_final A).symm,
      e.2.2.1.trans (Cert.MixerKernelIdeal.Mix.dvec_final A).symm,
      e.2.2.2.1.trans (Cert.MixerKernelIdeal.Mix.dpool_final A).symm,
      e.2.2.2.2.1.trans (Cert.MixerKernelIdeal.Mix.dws_final A).symm,
      e.2.2.2.2.2.1.trans (Cert.MixerKernelIdeal.Mix.dbs_final A).symm, (h c).2.2.2.2.2.2⟩

end Cert.Proof

end
-- ==== Proof.ProjPure.lean ====
module

public import proofs.«01_k».proof.Proof.Gen.ProjReferenceIdeal.Read
public import proofs.«01_k».proof.Pre_finite_proj
public import proofs.«01_k».proof.Proof.FfnReals

/-! The derivative of the projected norm, read at an index over the reals. -/

@[expose] public section

set_option maxRecDepth 16384
noncomputable section
open Idealize.ShloMosaic Idealize.ShloMosaic.TcCoe Idealize.SL.Sem
namespace Cert.ProjReferenceIdeal.Proj
open Cert.ProjReferenceIdeal Cert.ProjReferenceIdeal.Gen Cert.ProjReferenceIdeal.Read Cert.Step

section
variable (x : Fin 8192 → Fin 1024 → ℝ) (g : Fin 1024 → ℝ) (dp : Fin 8192 → Fin 2048 → ℝ) (w : Fin 1024 → Fin 2048 → ℝ)

/-- The derivative by the normed rows. -/
def dhP (r : Fin 8192) (k : Fin 1024) : ℝ := ∑ f, dp r f * w k f

/-- What the norm's own derivative adds to the derivative that passes it by. -/
def backP (r : Fin 8192) (k : Fin 1024) : ℝ := normBack (x r) (fun l => dhP dp w r l * g l) k

variable {O X : FVec Ideal S8192x1024 .f32} {G : FVec Ideal S1024 .f32} {DP : FVec Ideal S8192x2048 .f32} {W : FVec Ideal S1024x2048 .f32}
variable {x g dp w}
variable (hx : ∀ r l, X (ix2 r l) = (x r l : EReal)) (hg : ∀ l, G (ix1 l) = (g l : EReal))
variable (hd : ∀ r f, DP (ix2 r f) = (dp r f : EReal)) (hw : ∀ k f, W (ix2 k f) = (w k f : EReal))

include hx in
/-- The mean square of a row, with its epsilon. -/
theorem meanSq_at (r : Fin 8192) (q : Fin 1) : val_main_v6 (F := Ideal) X (ix2 r q) = (meanEps (x r) : EReal) := by
  pointwise [val_main_v6, val_main_v5, val_main_v4, val_main_v3, val_main_v2, val_main_v1, val_main_v0, val_main_cst, val_main_cst_0, val_main_cst_1]
  simp only [hx, lit_1024, lit_eps, ← EReal.coe_mul, sum_coe, div_real _ (by norm_num : (1024 : ℝ) ≠ 0), ← EReal.coe_add]
  norm_num [meanEps]

include hx in
/-- The normalised entry. -/
theorem normed_at (r : Fin 8192) (l : Fin 1024) : val_main_v12 (F := Ideal) X (ix2 r l) = ((x r l * invRms (x r) : ℝ) : EReal) := by
  pointwise [val_main_v12, val_main_v11, val_main_v7]
  rw [meanSq_at hx, rsqrt_real (meanEps_pos _), hx, ← EReal.coe_mul, invRms]

include hx hg in
/-- The normed, scaled entry that is returned. -/
theorem h_at (r : Fin 8192) (l : Fin 1024) : val_main_v54 (F := Ideal) X G (ix2 r l) = (hid (x r) g l : EReal) := by
  pointwise [val_main_v54, val_main_v53, val_main_v52, val_main_v51, val_main_v50, val_main_v49, val_main_v48, val_main_v47, val_main_v46, val_main_v45,
    val_main_v44, val_main_v43, val_main_v42, val_main_v41, val_main_cst_8, val_main_cst_9, val_main_cst_10]
  simp only [hx, hg, lit_1024, lit_eps, ← EReal.coe_mul, sum_coe, div_real _ (by norm_num : (1024 : ℝ) ≠ 0), ← EReal.coe_add]
  have e : (∑ k, x r k * x r k) / 1024 + eps = meanEps (x r) := by norm_num [meanEps]
  rw [e, rsqrt_real (meanEps_pos _), ← EReal.coe_mul, ← EReal.coe_mul, hid, invRms]

include hd hw in
/-- The derivative by the normed rows. -/
theorem dh_at (r : Fin 8192) (k : Fin 1024) : val_main_v17 (F := Ideal) DP W (ix2 r k) = (dhP dp w r k : EReal) := by
  pointwise [val_main_v17]
  simp only [hd, hw, ← EReal.coe_mul, sum_coe]
  rfl

include hx hg hd hw in
/-- The derivative by the input. -/
theorem dx_at (r : Fin 8192) (k : Fin 1024) : val_main_v38 (F := Ideal) O X G DP W (ix2 r k) = O (ix2 r k) + (backP x g dp w r k : EReal) := by
  rw [backP, normBack, norm_grad (x r) (fun l => dhP dp w r l * g l) k]
  pointwise [val_main_v38, val_main_v37, val_main_v36, val_main_v35, val_main_v34, val_main_v33, val_main_v32, val_main_v31, val_main_v30, val_main_v29,
    val_main_v28, val_main_v27, val_main_v26, val_main_v25, val_main_v24, val_main_v22, val_main_v21, val_main_v13, val_main_v10, val_main_v9, val_main_v8, val_main_v7,
    val_main_cst_7, val_main_cst_6, val_main_cst_5, val_main_cst_2]
  simp only [dh_at hd hw, meanSq_at hx, hx, hg, lit_1024, lit_neg_half, rsqrt_real (meanEps_pos _), ← EReal.coe_mul, sum_coe,
    div_real _ (meanEps_pos _).ne', div_real _ (by norm_num : (1024 : ℝ) ≠ 0), ← EReal.coe_add, Fin.sum_univ_one, invRms_eq]
  simp only [add_assoc, ← EReal.coe_add]
  refine congrArg (fun z : ℝ => O (ix2 r k) + (z : EReal)) ?_
  push_cast
  ring

include hx hd hw in
/-- The first row holds the derivative by the gains, the others zero. -/
theorem dg_at (a : Fin 8) (k : Fin 1024) : val_main_v40 (F := Ideal) X DP W (ix2 a k)
    = (((if a = 0 then ∑ r, dhP dp w r k * (x r k * invRms (x r)) else 0) : ℝ) : EReal) := by
  pointwise [val_main_v40, val_main_v39, val_main_v23, val_main_v20, val_main_v19, val_main_v18, val_main_cst_3, val_main_cst_4, val_main_call0_v0, val_main_c]
  simp only [dh_at hd hw, normed_at hx, ← EReal.coe_mul, sum_coe, Fin.sum_univ_one]
  by_cases h : a = 0
  · subst h
    exact congrArg (fun z : ℝ => (z : EReal)) (Finset.sum_congr rfl fun r _ => mul_comm _ _)
  · rw [if_neg h, dif_neg fun e => h (Fin.ext (by omega))]
    simp [FloatOps.sitofp]
end

/-- The precondition says that every argument it names is a real number at every index. -/
theorem reals_of_pre [Cert.Pre_finite_proj.Facts] (O X : FVec Ideal S8192x1024 .f32) (G : FVec Ideal S1024 .f32) (DP : FVec Ideal S8192x2048 .f32)
    (W : FVec Ideal S1024x2048 .f32) (h : Cert.Pre_finite_proj.fn (F := Ideal) O X G DP W = fun _ => 1#1) :
    (∃ x : Fin 8192 → Fin 1024 → ℝ, ∀ r l, X (ix2 r l) = (x r l : EReal))
      ∧ (∃ g : Fin 1024 → ℝ, ∀ l, G (ix1 l) = (g l : EReal)) ∧ (∃ d : Fin 8192 → Fin 2048 → ℝ, ∀ r f, DP (ix2 r f) = (d r f : EReal))
      ∧ ∃ w : Fin 1024 → Fin 2048 → ℝ, ∀ k f, W (ix2 k f) = (w k f : EReal) := by
  have h := congrFun h ix0
  pointwise [Cert.Pre_finite_proj.fn, Cert.Pre_finite_proj.fn_part1] at h
  simp only [andi_one, all_one, Finset.mem_univ, true_implies] at h
  obtain ⟨⟨⟨hx, hg⟩, hd⟩, hw⟩ := h
  choose x hx using fun r l => real_of_abs (hx (r, l))
  choose g hg using fun l => real_of_abs (hg l)
  choose d hd using fun r l => real_of_abs (hd (r, l))
  choose w hw using fun r l => real_of_abs (hw (r, l))
  exact ⟨⟨x, hx⟩, ⟨g, hg⟩, ⟨d, hd⟩, ⟨w, hw⟩⟩

end Cert.ProjReferenceIdeal.Proj
-- ==== Proof.ProjBlock.lean ====
module

public import proofs.«01_k».proof.Proof.ProjPure
public import proofs.«01_k».proof.Proof.Gen.ProjKernelIdeal.Value
public import Idealize.ShloMosaic.Lib.Pipeline.ValueKit
public import proofs.«01_k».proof.Proof.Tiles

/-! What the projected norm's backward kernel stores for one tile of rows, over the reals. -/

@[expose] public section

set_option maxRecDepth 16384
noncomputable section
open Idealize.ShloMosaic Idealize.ShloMosaic.TcCoe Idealize.SL.Sem
namespace Cert.ProjKernelIdeal.Proj
open Cert.ProjKernelIdeal Cert.ProjKernelIdeal.Gen Cert.Step Cert.ProjReferenceIdeal.Proj

variable {x : Fin 8192 → Fin 1024 → ℝ} {g : Fin 1024 → ℝ} {dp : Fin 8192 → Fin 2048 → ℝ} {w : Fin 1024 → Fin 2048 → ℝ} {row : Fin 1024 → Fin 8192}
variable {O X : FVec Ideal S1024x1024 .f32} {G : FVec Ideal S1x1024 .f32} {DP : FVec Ideal S1024x2048 .bf16} {W : FVec Ideal S2048x1024 .bf16}
variable (ex : ∀ r l, X (ix2 r l) = (x (row r) l : EReal)) (eg : ∀ l, G (ix2 0 l) = (g l : EReal))
variable (ed : ∀ r f, DP (ix2 r f) = (dp (row r) f : EReal)) (ew : ∀ f k, W (ix2 f k) = (w k f : EReal))

include ex in
/-- The reciprocal root mean square of a row of the tile. -/
theorem scale_tile (r : Fin 1024) : k0_pay4 (F := Ideal) X (ix2 r 0) = (invRms (x (row r)) : EReal) := by
  pointwise [k0_pay4]
  simp only [ex, lit_1024, lit_eps, ← EReal.coe_mul, sum_coe, div_real _ (by norm_num : (1024 : ℝ) ≠ 0), ← EReal.coe_add]
  exact rsqrt_real (meanEps_pos (x (row r)))

include ex in
/-- The normalised entry of the tile. -/
theorem normed_tile (r : Fin 1024) (l : Fin 1024) : k0_pay5 (F := Ideal) X (ix2 r l) = ((x (row r) l * invRms (x (row r)) : ℝ) : EReal) := by
  pointwise [k0_pay5]
  rw [scale_tile ex, ex, ← EReal.coe_mul]

include ex eg in
/-- The stored normed, scaled entry. -/
theorem h_tile (r : Fin 1024) (l : Fin 1024) : k0_pay6 (F := Ideal) X G (ix2 r l) = (hid (x (row r)) g l : EReal) := by
  pointwise [k0_pay6]
  rw [normed_tile ex, eg, ← EReal.coe_mul, hid]

include ed ew in
/-- The derivative by the tile's normed rows. -/
theorem dh_tile (r : Fin 1024) (k : Fin 1024) : k0_pay7 (F := Ideal) DP W (ix2 r k) = (dhP dp w (row r) k : EReal) := by
  pointwise [k0_pay7]
  simp only [ed, ew, ← EReal.coe_mul, sum_coe]
  rfl

include ex eg ed ew in
/-- The stored derivative by the input. -/
theorem dx_tile (r : Fin 1024) (k : Fin 1024) :
    k0_pay1 (F := Ideal) (k0_pay4 X) (k0_pay8 X DP W G) O (ix2 r k) = O (ix2 r k) + (backP x g dp w (row r) k : EReal) := by
  pointwise [k0_pay1, k0_pay8]
  simp only [dh_tile ed ew, normed_tile ex, scale_tile ex, eg, lit_1024, ← EReal.coe_mul, sum_coe,
    div_real _ (by norm_num : (1024 : ℝ) ≠ 0), ← EReal.coe_sub]
  simp only [backP, normBack, Nat.cast_ofNat]

include ed ew ex in
/-- The row of the gains' derivative after this tile's share is added. -/
theorem dg_tile (R : FVec Ideal S1x1024 .f32) (k : Fin 1024) :
    k0_pay2 (F := Ideal) (k0_pay5 X) (k0_pay7 DP W) R (ix2 0 k)
      = R (ix2 0 k) + ((∑ r, dhP dp w (row r) k * (x (row r) k * invRms (x (row r))) : ℝ) : EReal) := by
  pointwise [k0_pay2]
  simp only [dh_tile ed ew, normed_tile ex, ← EReal.coe_mul, sum_coe]

end Cert.ProjKernelIdeal.Proj
-- ==== Proof.ProjArrays.lean ====
module

public import proofs.«01_k».proof.Proof.ProjBlock

/-! The projected norm's backward kernel: its three result arrays after the run, over the reals. -/

@[expose] public section

set_option maxRecDepth 16384
noncomputable section
open Idealize.ShloMosaic Idealize.ShloMosaic.TcCoe Idealize.SL.Sem
open Idealize.ShloMosaic.Pipeline (Dat)
namespace Cert.ProjKernelIdeal.Proj
open Cert.ProjKernelIdeal Cert.ProjKernelIdeal.Gen Cert.Step Cert.ProjReferenceIdeal.Proj

variable (m : (ℓ : Loc nD τ sig) → Buf (Elt Ideal) ℓ) (c : Dev nD)

/-- Which block of its array each window stages at a grid point. -/
theorem maps : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0] ∧ win0_7.index t = ![t.val, 0]
    ∧ t.val < 8 :=
  (by decide +kernel : ∀ t : Fin grid0.N, _)

/-- A grid point's number is below 8. -/
theorem below (t : Fin cfg0.N) : t.val < 8 := (maps t).2.2.2.2.2.2.2.2

variable {x : Fin 8192 → Fin 1024 → ℝ} {g : Fin 1024 → ℝ} {dp : Fin 8192 → Fin 2048 → ℝ} {w : Fin 1024 → Fin 2048 → ℝ}
variable (ex : ∀ r l, (m ((c : Thread nD τ).loc main_arg1) : FVec Ideal S8192x1024 .f32) (ix2 r l) = (x r l : EReal))
variable (eg : ∀ l, (m ((c : Thread nD τ).loc main_arg2) : FVec Ideal S1024 .f32) (ix1 l) = (g l : EReal))
variable (ed : ∀ r f, (m ((c : Thread nD τ).loc main_arg3) : FVec Ideal S8192x2048 .f32) (ix2 r f) = (dp r f : EReal))
variable (ew : ∀ k f, (m ((c : Thread nD τ).loc main_arg4) : FVec Ideal S1024x2048 .f32) (ix2 k f) = (w k f : EReal))

/-- The row of the array that row `r` of tile `n` is. -/
def rowOf (n : Fin cfg0.N) (r : Fin 1024) : Fin 8192 := ⟨n.val * 1024 + r, by have := below n; omega⟩

/-- The derivative that passes the norm by, as a grid point stages it. -/
theorem o_at (n : Fin cfg0.N) (r : Fin 1024) (l : Fin 1024) : (iblk m c 0 n : FVec Ideal S1024x1024 .f32) (ix2 r l)
    = (m ((c : Thread nD τ).loc main_arg0) : FVec Ideal S8192x1024 .f32) (ix2 (rowOf n r) l) := by
  blk_simp [iblk]
  entry_read
  pointwise
  blk_ext [maps n, rowOf]

include ex in
/-- The activations a grid point stages are its tile of rows. -/
theorem x_at (n : Fin cfg0.N) (r : Fin 1024) (l : Fin 1024) : (iblk m c 1 n : FVec Ideal S1024x1024 .f32) (ix2 r l) = (x (rowOf n r) l : EReal) := by
  rw [← ex]
  blk_simp [iblk]
  entry_read
  pointwise
  blk_ext [maps n, rowOf]

include eg in
/-- Every grid point stages the whole row of gains. -/
theorem g_at (n : Fin cfg0.N) (l : Fin 1024) : (iblk m c 2 n : FVec Ideal S1x1024 .f32) (ix2 0 l) = (g l : EReal) := by
  rw [← eg]
  blk_simp [iblk]
  entry_read
  pointwise
  blk_ext [maps n, rowOf]

include ed in
/-- The cotangent a grid point stages is its tile of rows. -/
theorem d_at (n : Fin cfg0.N) (r : Fin 1024) (f : Fin 2048) : (iblk m c 3 n : FVec Ideal S1024x2048 .bf16) (ix2 r f) = (dp (rowOf n r) f : EReal) := by
  rw [← ed]
  blk_simp [iblk]
  entry_read
  pointwise
  blk_ext [maps n, rowOf]

include ew in
/-- Every grid point stages the weights, transposed. -/
theorem w_at (n : Fin cfg0.N) (f : Fin 2048) (k : Fin 1024) : (iblk m c 4 n : FVec Ideal S2048x1024 .bf16) (ix2 f k) = (w k f : EReal) := by
  rw [← ew]
  blk_simp [iblk]
  entry_read
  pointwise
  blk_ext [maps n, rowOf]

include ex eg ed ew in
/-- Every point writes its own tile of the derivative by the input. -/
theorem dx_final : (dats m 0 c).arrAt 5 (cfgs 0).N = ProjReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun n _ y => ?_
  blk_simp
  rw [after0_5]
  have hy : (win0_5.blk n).view.emb y = (ix2 (rowOf n (y 0)) (y 1) : S8192x1024.Idx) := by blk_ext [maps n, rowOf]
  rw [hy]
  refine Eq.trans ?_ ((dx_at ex eg ed ew (rowOf n (y 0)) (y 1)).trans
    (congrArg (fun z : EReal => z + (backP x g dp w (rowOf n (y 0)) (y 1) : EReal)) (o_at m c n (y 0) (y 1)).symm)).symm
  by_cases h : n.val % 8 = 0
  · rw [outsAt0_A m c n h]; frame_out
    exact (congrArg _ (eq_ix2 y)).trans (dx_tile (x_at m c ex n) (g_at m c eg n) (d_at m c ed n) (w_at m c ew n) (y 0) (y 1))
  · rw [outsAt0_B m c n h]; frame_out
    exact (congrArg _ (eq_ix2 y)).trans (dx_tile (x_at m c ex n) (g_at m c eg n) (d_at m c ed n) (w_at m c ew n) (y 0) (y 1))

include ex eg in
/-- Every point writes its own tile of normed, scaled rows. -/
theorem h_final : (dats m 0 c).arrAt 7 (cfgs 0).N = ProjReferenceIdeal.Read.val_main_v54 (F := Ideal) (m ((c : Thread nD τ).loc main_arg1)) (m ((c : Thread nD τ).loc main_arg2)) := by
  refine (dats m 0 c).arrAt_eq_of_covers 7 _ (by decide +kernel) fun n _ y => ?_
  blk_simp
  rw [after0_7]
  have hy : (win0_7.blk n).view.emb y = (ix2 (rowOf n (y 0)) (y 1) : S8192x1024.Idx) := by blk_ext [maps n, rowOf]
  rw [hy]
  refine Eq.trans ?_ (h_at ex eg _ _).symm
  by_cases h : n.val % 8 = 0
  · rw [outsAt0_A m c n h]; frame_out
    exact (congrArg _ (eq_ix2 y)).trans (h_tile (x_at m c ex n) (g_at m c eg n) (y 0) (y 1))
  · rw [outsAt0_B m c n h]; frame_out
    exact (congrArg _ (eq_ix2 y)).trans (h_tile (x_at m c ex n) (g_at m c eg n) (y 0) (y 1))

/-- The rows of the tiles, tile after tile, are the rows of the array. -/
theorem rows_sum (f : Fin 8192 → ℝ) : ∑ n : Fin cfg0.N, ∑ r : Fin 1024, f (rowOf n r) = ∑ R, f R :=
  Fin.sum_mul_add_congr fun _ _ _ => rfl

/-- A tile's share of the gains' derivative. -/
def gainPart (x : Fin 8192 → Fin 1024 → ℝ) (dp : Fin 8192 → Fin 2048 → ℝ) (w : Fin 1024 → Fin 2048 → ℝ)
    (n : Fin cfg0.N) (k : Fin 1024) : EReal :=
  ((∑ r : Fin 1024, dhP dp w (rowOf n r) k * (x (rowOf n r) k * invRms (x (rowOf n r))) : ℝ) : EReal)

/-- The last grid point. -/
def lastPoint : Fin cfg0.N := ⟨7, lt_of_lt_of_eq (by norm_num : 7 < 8) N_0.symm⟩

include ex ed ew in
/-- The gain window holds, in its first row, the sum of the shares of the tiles walked; zero elsewhere. -/
theorem dg_final : (dats m 0 c).arrAt 6 (cfgs 0).N = ProjReferenceIdeal.Read.val_main_v40 (F := Ideal) (m ((c : Thread nD τ).loc main_arg1)) (m ((c : Thread nD τ).loc main_arg3)) (m ((c : Thread nD τ).loc main_arg4)) := by
  refine (dats m 0 c).arrAt_eq_of_after_last 6 lastPoint (by decide +kernel) _ fun j => ?_
  blk_simp
  rw [after0_6]
  have share := fun (n : Fin cfg0.N) (R : FVec Ideal S1x1024 .f32) (k : Fin 1024) =>
    dg_tile (x_at m c ex n) (d_at m c ed n) (w_at m c ew n) R k
  rw [Pipeline.eq_sum_fin_of_reset_step_apply_last (fun n h => (outsAt0 m c n h).2.1) 8 (fun _ => 0)
    (fun n (j : S8x1024.Idx) => if (j 0).val = 0 then gainPart x dp w n (j 1) else 0)
    (fun n h j => by
      rw [outsAt0_A m c n h]; frame_out; idx_vars j
      rw [row_over, View.readCov_fill _ _ _ _ _ (by decide), View.canon_cons_unit_lit _ _ _ (by decide)]
      have hz : ∀ a : Fin 8, k0_pay3 (F := Ideal) (ix2 a j1) = 0 := fun a => by pointwise [k0_pay3]
      split
      · rename_i ha
        refine (share n _ _).trans ?_
        rw [first_row_loaded _ _ j0 ha, hz]
        exact congrArg (fun z : EReal => 0 + z) (if_pos ha).symm
      · rename_i ha
        rw [hz]
        exact ((congrArg (fun z : EReal => 0 + z) (if_neg ha)).trans (add_zero _)).symm)
    (fun n h j => by
      rw [outsAt0_B m c n h]; frame_out; idx_vars j
      rw [row_written]
      split
      · rename_i ha
        refine (share n _ _).trans ?_
        rw [first_row_loaded _ _ j0 ha]
        exact congrArg (fun z : EReal => _ + z) (if_pos ha).symm
      · rename_i ha
        rw [View.writes_nil, Memref.IsWhole.read_unread]
        exact ((congrArg (fun z : EReal => _ + z) (if_neg ha)).trans (add_zero _)).symm)
    (le_of_eq N_0) lastPoint N_0.symm j]
  idx_vars j
  rw [dg_at ex ed ew, zero_add]
  change (∑ p : Fin cfg0.N, if j0.val = 0 then gainPart x dp w p j1 else 0) = _
  by_cases h : j0.val = 0
  · have h' : j0 = 0 := Fin.ext h
    simp only [if_pos h, if_pos h']
    unfold gainPart
    rw [sum_coe, rows_sum fun R => dhP dp w R j1 * (x R j1 * invRms (x R))]
  · have h' : ¬ j0 = 0 := fun e => h (congrArg Fin.val e)
    simp only [if_neg h, if_neg h', Finset.sum_const_zero, EReal.coe_zero]

end Cert.ProjKernelIdeal.Proj
-- ==== Proof.ProjClaim.lean ====
module

public import proofs.«01_k».proof.Defs
public import proofs.«01_k».proof.Proof.Gen.ProjKernel.Frame
public import proofs.«01_k».proof.Proof.ProjArrays
public import Idealize.ShloMosaic.Lib.Quiescent
public import Idealize.ShloMosaic.Lib.Claim

/-! What is claimed of the projected norm's backward call. -/

@[expose] public section

noncomputable section

namespace Cert.Proof

open Idealize.ShloMosaic Idealize.ShloMosaic.TcCoe Idealize.SL.Sem

/-- The side conditions of the precondition's own operations. -/
theorem projPreFacts : Cert.Pre_finite_proj.Facts := by constructor <;> decide

/-- The reference runs, leaves its arguments as they were, and has no semaphore to leave raised. -/
theorem proj_reference_frame (m) (ρ) : θ_run (Cert.ProjReferenceIdeal.defs (F := Ideal)) (onTc (τ := Cert.ProjReferenceIdeal.τ) (Cert.ProjReferenceIdeal.main (F := Ideal))) ⟨m, fun _ => 0, ρ⟩
    (fun r => (∀ c : Dev Cert.ProjReferenceIdeal.nD, r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0) :=
  (θ_run _ _ _).mono (fun r h => ⟨fun c => (h c).2.2.2, sem_eq_zero_of_no_sems rfl _⟩) (Cert.ProjReferenceIdeal.Value.run m ρ)

/-- The reference's run, its results at the stages read elsewhere. -/
theorem proj_reference_run (m) (ρ) : θ_run (Cert.ProjReferenceIdeal.defs (F := Ideal)) (onTc (τ := Cert.ProjReferenceIdeal.τ) (Cert.ProjReferenceIdeal.main (F := Ideal))) ⟨m, fun _ => 0, ρ⟩
    fun r => ∀ c : Dev Cert.ProjReferenceIdeal.nD, r.2.mem ((c.tc : Thread Cert.ProjReferenceIdeal.nD Cert.ProjReferenceIdeal.τ).loc Cert.ProjReferenceIdeal.main_v38) = Cert.ProjReferenceIdeal.Read.val_main_v38 (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))
      ∧ r.2.mem ((c.tc : Thread Cert.ProjReferenceIdeal.nD Cert.ProjReferenceIdeal.τ).loc Cert.ProjReferenceIdeal.main_v40) = Cert.ProjReferenceIdeal.Read.val_main_v40 (F := Ideal) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))
      ∧ r.2.mem ((c.tc : Thread Cert.ProjReferenceIdeal.nD Cert.ProjReferenceIdeal.τ).loc Cert.ProjReferenceIdeal.main_v54) = Cert.ProjReferenceIdeal.Read.val_main_v54 (F := Ideal) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2))
      ∧ r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4) :=
  (θ_run _ _ _).mono (fun r h c => ⟨(h c).1.trans (Cert.ProjReferenceIdeal.Read.val_main_v38_eq m c),
    (h c).2.1,
    (h c).2.2.1, (h c).2.2.2⟩) (Cert.ProjReferenceIdeal.Value.run m ρ)

set_option maxHeartbeats 4000000 in
/-- The kernel and the derivative of the projected norm leave the same three arrays on finite arguments. -/
theorem proj_algebraic : algebraic_ProjKernelIdeal_ProjReferenceIdeal_pre_finite_proj
    (hProjKernelIdeal := Cert.ProjKernelIdeal.Gen.facts) (hProjReferenceIdeal := Cert.ProjReferenceIdeal.Gen.facts) (hPre_finite_proj := projPreFacts) := by
  letI := projPreFacts
  pair_intro
  · run_from Cert.ProjKernelIdeal.Gen.run_main m g
  · refine (θ_run _ _ _).mono (fun r h c => ?_) (proj_reference_run m' g')
    obtain ⟨⟨x, ex⟩, ⟨g, eg⟩, ⟨d, ed⟩, ⟨w, ew⟩⟩ := Cert.ProjReferenceIdeal.Proj.reals_of_pre _ _ _ _ _ (hpre c)
    have e := h c
    rw [(hagree c).1, (hagree c).2.1, (hagree c).2.2.1, (hagree c).2.2.2.1, (hagree c).2.2.2.2] at e
    refine ⟨e.1.trans (Cert.ProjKernelIdeal.Proj.dx_final m c ex eg ed ew).symm,
      e.2.1.trans (Cert.ProjKernelIdeal.Proj.dg_final m c ex ed ew).symm,
      e.2.2.1.trans (Cert.ProjKernelIdeal.Proj.h_final m c ex eg).symm, (h c).2.2.2⟩

end Cert.Proof

end
-- ==== Proof.FwdPure.lean ====
module

public import proofs.«01_k».proof.Proof.Gen.UpReferenceIdeal.Read
public import proofs.«01_k».proof.Proof.Gen.InReferenceIdeal.Read
public import Idealize.ShloMosaic.Lib.Pipeline.ValueKit
public import Idealize.ShloMosaic.Lib.Pointwise

/-! The two forward calls that begin with a root mean square norm, as functions on the extended reals: no finiteness is needed. -/

@[expose] public section

set_option maxRecDepth 16384
noncomputable section
open Idealize.ShloMosaic
namespace Cert.Step

/-- An entry of a normed, scaled row. -/
def hidE (x : Fin 8192 → Fin 1024 → EReal) (g : Fin 1024 → EReal) (r : Fin 8192) (l : Fin 1024) : EReal :=
  x r l * Ideal.rsqrt (Ideal.div (∑ k, x r k * x r k) (Ideal.ofBits .f32 0x44800000#32) + Ideal.ofBits .f32 0x358637BD#32) * g l

/-- An entry of the normed rows times a weight. -/
def preE {w : ℕ} (x : Fin 8192 → Fin 1024 → EReal) (g : Fin 1024 → EReal) (u : Fin 1024 → Fin w → EReal) (r : Fin 8192) (f : Fin w) : EReal :=
  ∑ k, hidE x g r k * u k f

/-- The logistic function. -/
def gateE (v : EReal) : EReal := Ideal.div 1 (1 + Ideal.exp (-v))

/-- An inner activation. -/
def uE (x : Fin 8192 → Fin 1024 → EReal) (g : Fin 1024 → EReal) (w1 w3 : Fin 1024 → Fin 2816 → EReal) (r : Fin 8192) (f : Fin 2816) : EReal :=
  preE x g w1 r f * gateE (preE x g w1 r f) * preE x g w3 r f

/-- An entry of the gated layer's result. -/
def xoE (x : Fin 8192 → Fin 1024 → EReal) (g : Fin 1024 → EReal) (w1 w3 : Fin 1024 → Fin 2816 → EReal) (w2 : Fin 2816 → Fin 1024 → EReal)
    (r : Fin 8192) (k : Fin 1024) : EReal :=
  x r k + Ideal.ofBits .f32 0x3F000000#32 * ∑ f, uE x g w1 w3 r f * w2 f k

end Cert.Step

namespace Cert.UpReferenceIdeal.Up
open Cert.UpReferenceIdeal Cert.UpReferenceIdeal.Read Cert.Step

variable {x : Fin 8192 → Fin 1024 → EReal} {g : Fin 1024 → EReal} {w1 w3 : Fin 1024 → Fin 2816 → EReal} {w2 : Fin 2816 → Fin 1024 → EReal}
variable {X : FVec Ideal S8192x1024 .f32} {G : FVec Ideal S1024 .f32} {W1 W3 : FVec Ideal S1024x2816 .f32} {W2 : FVec Ideal S2816x1024 .f32}
variable (ex : ∀ r l, X (ix2 r l) = x r l) (eg : ∀ l, G (ix1 l) = g l)
variable (e1 : ∀ k f, W1 (ix2 k f) = w1 k f) (e3 : ∀ k f, W3 (ix2 k f) = w3 k f) (e2 : ∀ f k, W2 (ix2 f k) = w2 f k)

include ex in
/-- The reciprocal root mean square of a row. -/
theorem scale_at (r : Fin 8192) : val_main_v7 (F := Ideal) X (ix2 r 0)
    = Ideal.rsqrt (Ideal.div (∑ k, x r k * x r k) (Ideal.ofBits .f32 0x44800000#32) + Ideal.ofBits .f32 0x358637BD#32) := by
  pointwise [val_main_v7, val_main_v6, val_main_v5, val_main_v4, val_main_v3, val_main_v2, val_main_v1, val_main_v0, val_main_cst, val_main_cst_0, val_main_cst_1]
  simp only [ex] <;> rfl

include ex eg in
/-- The normed, scaled rows. -/
theorem hid_at (r : Fin 8192) (l : Fin 1024) : val_main_v12 (F := Ideal) X G (ix2 r l) = hidE x g r l := by
  pointwise [val_main_v12, val_main_v11, val_main_v10, val_main_v9, val_main_v8]
  simp only [ex, eg, scale_at ex] <;> rfl

include ex eg e1 in
/-- The first pre-activations. -/
theorem a_at (r : Fin 8192) (f : Fin 2816) : val_main_v13 (F := Ideal) X G W1 (ix2 r f) = preE x g w1 r f := by
  pointwise [val_main_v13]
  simp only [hid_at ex eg, e1] <;> rfl

include ex eg e3 in
/-- The second pre-activations. -/
theorem b_at (r : Fin 8192) (f : Fin 2816) : val_main_v14 (F := Ideal) X G W3 (ix2 r f) = preE x g w3 r f := by
  pointwise [val_main_v14]
  simp only [hid_at ex eg, e3] <;> rfl

include ex eg e1 in
/-- The gate of the first pre-activations. -/
theorem gate_at (r : Fin 8192) (f : Fin 2816) : val_main_call0_v5 (F := Ideal) X G W1 (ix2 r f) = gateE (preE x g w1 r f) := by
  pointwise [val_main_call0_v5, val_main_call0_v4, val_main_call0_v3, val_main_call0_v2, val_main_call0_v1, val_main_call0_v0, val_main_call0_cst, val_main_call0_cst_0]
  simp only [a_at ex eg e1] <;> rfl

include ex eg e1 e3 in
/-- The inner activations. -/
theorem u_at (r : Fin 8192) (f : Fin 2816) : val_main_v16 (F := Ideal) X G W1 W3 (ix2 r f) = uE x g w1 w3 r f := by
  pointwise [val_main_v16, val_main_v15]
  simp only [a_at ex eg e1, b_at ex eg e3, gate_at ex eg e1] <;> rfl

include ex eg e1 e3 e2 in
/-- The layer's result. -/
theorem xo_at (r : Fin 8192) (k : Fin 1024) : val_main_v20 (F := Ideal) X G W1 W3 W2 (ix2 r k) = xoE x g w1 w3 w2 r k := by
  pointwise [val_main_v20, val_main_v19, val_main_v18, val_main_v17, val_main_cst_2]
  simp only [ex, u_at ex eg e1 e3, e2] <;> rfl

end Cert.UpReferenceIdeal.Up

namespace Cert.InReferenceIdeal.In
open Cert.InReferenceIdeal Cert.InReferenceIdeal.Read Cert.Step

variable {x : Fin 8192 → Fin 1024 → EReal} {g : Fin 1024 → EReal} {w : Fin 1024 → Fin 2048 → EReal}
variable {X : FVec Ideal S8192x1024 .f32} {G : FVec Ideal S1024 .f32} {W : FVec Ideal S1024x2048 .f32}
variable (ex : ∀ r l, X (ix2 r l) = x r l) (eg : ∀ l, G (ix1 l) = g l) (ew : ∀ k f, W (ix2 k f) = w k f)

include ex in
/-- The reciprocal root mean square of a row. -/
theorem scale_at (r : Fin 8192) : val_main_v7 (F := Ideal) X (ix2 r 0)
    = Ideal.rsqrt (Ideal.div (∑ k, x r k * x r k) (Ideal.ofBits .f32 0x44800000#32) + Ideal.ofBits .f32 0x358637BD#32) := by
  pointwise [val_main_v7, val_main_v6, val_main_v5, val_main_v4, val_main_v3, val_main_v2, val_main_v1, val_main_v0, val_main_cst, val_main_cst_0, val_main_cst_1]
  simp only [ex] <;> rfl

include ex eg in
/-- The normed, scaled rows. -/
theorem hid_at (r : Fin 8192) (l : Fin 1024) : val_main_v12 (F := Ideal) X G (ix2 r l) = hidE x g r l := by
  pointwise [val_main_v12, val_main_v11, val_main_v10, val_main_v9, val_main_v8]
  simp only [ex, eg, scale_at ex] <;> rfl

include ex eg ew in
/-- The projected rows. -/
theorem p_at (r : Fin 8192) (f : Fin 2048) : val_main_v13 (F := Ideal) X G W (ix2 r f) = preE x g w r f := by
  pointwise [val_main_v13]
  simp only [hid_at ex eg, ew] <;> rfl

end Cert.InReferenceIdeal.In
-- ==== Proof.UpBlock.lean ====
module

public import proofs.«01_k».proof.Proof.FwdPure
public import proofs.«01_k».proof.Proof.Gen.UpKernelIdeal.Value
public import proofs.«01_k».proof.Proof.Tiles

/-! What the gated layer's forward kernel stores for one tile of rows. -/

@[expose] public section

set_option maxRecDepth 16384
noncomputable section
open Idealize.ShloMosaic Idealize.ShloMosaic.TcCoe Idealize.SL.Sem
namespace Cert.UpKernelIdeal.Up
open Cert.UpKernelIdeal Cert.UpKernelIdeal.Gen Cert.Step

/-- A column of one of the eleven pieces, as a column of the whole tile. -/
def colOf (j : Fin 11) (q : Fin 256) : Fin 2816 := ⟨j.val * 256 + q.val, by omega⟩

/-- A grid point's eleven stores of a hidden tile, 256 columns each. -/
def pieces (P : FVec Ideal S256x1024 .bf16 → FVec Ideal S256x1024 .bf16 → FVec Ideal S512x256 .bf16)
    (W V : FVec Ideal S2816x1024 .bf16) : List (View.Piece (Elt Ideal) S512x2816 .bf16) :=
  [10, 9, 8, 7, 6, 5, 4, 3, 2, 1, 0].map fun j : Fin 11 =>
    ⟨Rect.unit (s := S512x2816) ![0, j.val * 256] ![512, 256] (by intro a; fin_cases a <;> simp <;> omega),
      P (View.ld (Val := Elt Ideal) (e' := .bf16) W (Rect.unit (s := S2816x1024) ![j.val * 256, 0] ![256, 1024] (by intro a; fin_cases a <;> simp <;> omega)))
        (View.ld (Val := Elt Ideal) (e' := .bf16) V (Rect.unit (s := S2816x1024) ![j.val * 256, 0] ![256, 1024] (by intro a; fin_cases a <;> simp <;> omega)))⟩

/-- Where each store computes the matching entry of one function, the eleven stores leave that function. -/
theorem pieces_canon {P : FVec Ideal S256x1024 .bf16 → FVec Ideal S256x1024 .bf16 → FVec Ideal S512x256 .bf16}
    {W V : FVec Ideal S2816x1024 .bf16} {G : Fin 512 → Fin 2816 → EReal}
    (e : ∀ (j : Fin 11) W' V', (∀ q k, W' (ix2 q k) = W (ix2 (colOf j q) k)) → (∀ q k, V' (ix2 q k) = V (ix2 (colOf j q) k))
      → ∀ r q, P W' V' (ix2 r q) = G r (colOf j q)) (r : Fin 512) (f : Fin 2816) :
    View.canon (pieces P W V) (ix2 r f) = G r f := by
  refine View.canon_apply_of_pieces (Val := Elt Ideal) (e := .bf16) (fun y : S512x2816.Idx => G (y 0) (y 1)) _ ?_ _ ?_
  · intro p hp y
    obtain ⟨j, -, rfl⟩ := List.mem_map.mp hp
    obtain ⟨a, b, rfl⟩ : ∃ (a : Fin 512) (b : Fin 256), y = ix2 a b := ⟨y 0, y 1, eq_ix2 y⟩
    refine (e j _ _ (fun q k => loaded_at _ _ _ _ _ _ rfl (Nat.zero_add _).symm) (fun q k => loaded_at _ _ _ _ _ _ rfl (Nat.zero_add _).symm) a b).trans ?_
    refine congrArg₂ G ?_ ?_
    · exact Fin.ext (show a.val = 0 + 1 * a.val by omega)
    · exact Fin.ext (show j.val * 256 + b.val = j.val * 256 + 1 * b.val by omega)
  · refine ⟨_, List.mem_map.mpr ⟨⟨f.val / 256, by omega⟩, ?_, rfl⟩, ?_⟩
    · generalize (⟨f.val / 256, by omega⟩ : Fin 11) = j
      revert j; decide
    · rw [Rect.mem_set_unit]
      intro a
      fin_cases a <;> simp <;> omega

section
variable {x : Fin 8192 → Fin 1024 → EReal} {g : Fin 1024 → EReal} {w1 w3 : Fin 1024 → Fin 2816 → EReal} {w2 : Fin 2816 → Fin 1024 → EReal}
variable {row : Fin 512 → Fin 8192}
variable {X : FVec Ideal S512x1024 .f32} {G : FVec Ideal S1x1024 .f32} {W1 W3 W2 : FVec Ideal S2816x1024 .bf16}
variable (ex : ∀ r l, X (ix2 r l) = x (row r) l) (eg : ∀ l, G (ix2 0 l) = g l)
variable (e1 : ∀ f k, W1 (ix2 f k) = w1 k f) (e3 : ∀ f k, W3 (ix2 f k) = w3 k f) (e2 : ∀ f k, W2 (ix2 f k) = w2 f k)

include ex eg in
/-- The normed, scaled rows of the tile. -/
theorem hid_tile (r : Fin 512) (l : Fin 1024) : k0_pay2 (F := Ideal) X G (ix2 r l) = hidE x g (row r) l := by
  pointwise [k0_pay2]
  simp only [ex, eg] <;> rfl

include ex eg in
/-- A piece of a product of the normed rows. -/
theorem dot_tile {w : Fin 1024 → Fin 2816 → EReal} {W : FVec Ideal S2816x1024 .bf16} (ew : ∀ f k, W (ix2 f k) = w k f)
    (j : Fin 11) (W' : FVec Ideal S256x1024 .bf16) (e' : ∀ q k, W' (ix2 q k) = W (ix2 (colOf j q) k)) (r : Fin 512) (q : Fin 256) :
    k0_pay3 (F := Ideal) X G W' (ix2 r q) = preE x g w (row r) (colOf j q) := by
  pointwise [k0_pay3]
  simp only [hid_tile ex eg, e', ew] <;> rfl

include ex eg e1 in
/-- The stored first pre-activations. -/
theorem a_tile (r : Fin 512) (f : Fin 2816) :
    View.canon (pieces (fun W _ => k0_pay5 (F := Ideal) X G W) W1 W3) (ix2 r f) = preE x g w1 (row r) f := by
  refine pieces_canon (G := fun r f => preE x g w1 (row r) f) (fun j W' _ eW _ r q => ?_) r f
  exact dot_tile ex eg e1 j W' eW r q

include ex eg e3 in
/-- The stored second pre-activations. -/
theorem b_tile (r : Fin 512) (f : Fin 2816) :
    View.canon (pieces (fun _ V => k0_pay6 (F := Ideal) X G V) W1 W3) (ix2 r f) = preE x g w3 (row r) f := by
  refine pieces_canon (G := fun r f => preE x g w3 (row r) f) (fun j _ V' _ eV r q => ?_) r f
  exact dot_tile ex eg e3 j V' eV r q

include ex eg e1 e3 in
/-- The inner activations kept in scratch. -/
theorem u_tile (r : Fin 512) (f : Fin 2816) :
    View.canon (pieces (fun W V => k0_pay8 (F := Ideal) (k0_pay3 X G W) (k0_pay4 X G V) (k0_pay7 X G W)) W1 W3) (ix2 r f) = uE x g w1 w3 (row r) f := by
  refine pieces_canon (G := fun r f => uE x g w1 w3 (row r) f) (fun j W' V' eW eV r q => ?_) r f
  have ea := dot_tile ex eg e1 j W' eW r q
  have eb : k0_pay4 (F := Ideal) X G V' (ix2 r q) = preE x g w3 (row r) (colOf j q) := dot_tile ex eg e3 j V' eV r q
  pointwise [k0_pay8, k0_pay7]
  simp only [ea, eb, zero_sub] <;> rfl

include ex e2 in
/-- The stored result. -/
theorem xo_tile {U : FVec Ideal S512x2816 .bf16} (eu : ∀ r f, U (ix2 r f) = uE x g w1 w3 (row r) f) (r : Fin 512) (k : Fin 1024) :
    k0_pay1 (F := Ideal) X U W2 (ix2 r k) = xoE x g w1 w3 w2 (row r) k := by
  pointwise [k0_pay1]
  simp only [ex, eu, e2] <;> rfl
end

end Cert.UpKernelIdeal.Up
-- ==== Proof.UpArrays.lean ====
module

public import proofs.«01_k».proof.Proof.UpBlock

/-! The gated layer's forward kernel: its four result arrays after the run. -/

@[expose] public section

set_option maxRecDepth 16384
noncomputable section
open Idealize.ShloMosaic Idealize.ShloMosaic.TcCoe Idealize.SL.Sem
open Idealize.ShloMosaic.Pipeline (Dat)
namespace Cert.UpKernelIdeal.Up
open Cert.UpKernelIdeal Cert.UpKernelIdeal.Gen Cert.Step

variable (m : (ℓ : Loc nD τ sig) → Buf (Elt Ideal) ℓ) (c : Dev nD)

/-- Which block of its array each window stages at a grid point. -/
theorem maps : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0]
    ∧ t.val < 16 :=
  (by decide +kernel : ∀ t : Fin grid0.N, _)

/-- A grid point's number is below 16. -/
theorem below (t : Fin cfg0.N) : t.val < 16 := (maps t).2.2.2.2.2.2.2.2.2

/-- The row of the array that row `r` of tile `n` is. -/
def rowOf (n : Fin cfg0.N) (r : Fin 512) : Fin 8192 := ⟨n.val * 512 + r, by have := below n; omega⟩

/-- The entries of the argument arrays. -/
def xA (r : Fin 8192) (l : Fin 1024) : EReal := (m ((c : Thread nD τ).loc main_arg0) : FVec Ideal S8192x1024 .f32) (ix2 r l)
@[inherit_doc xA] def gA (l : Fin 1024) : EReal := (m ((c : Thread nD τ).loc main_arg1) : FVec Ideal S1024 .f32) (ix1 l)
@[inherit_doc xA] def w1A (k : Fin 1024) (f : Fin 2816) : EReal := (m ((c : Thread nD τ).loc main_arg2) : FVec Ideal S1024x2816 .f32) (ix2 k f)
@[inherit_doc xA] def w3A (k : Fin 1024) (f : Fin 2816) : EReal := (m ((c : Thread nD τ).loc main_arg3) : FVec Ideal S1024x2816 .f32) (ix2 k f)
@[inherit_doc xA] def w2A (f : Fin 2816) (k : Fin 1024) : EReal := (m ((c : Thread nD τ).loc main_arg4) : FVec Ideal S2816x1024 .f32) (ix2 f k)

/-- The activations a grid point stages are its tile of rows. -/
theorem x_at (n : Fin cfg0.N) (r : Fin 512) (l : Fin 1024) : (iblk m c 0 n : FVec Ideal S512x1024 .f32) (ix2 r l) = xA m c (rowOf n r) l := by
  unfold xA
  blk_simp [iblk]
  entry_read
  pointwise
  blk_ext [maps n, rowOf]

/-- Every grid point stages the whole row of gains. -/
theorem g_at (n : Fin cfg0.N) (l : Fin 1024) : (iblk m c 1 n : FVec Ideal S1x1024 .f32) (ix2 0 l) = gA m c l := by
  unfold gA
  blk_simp [iblk]
  entry_read
  pointwise
  blk_ext [maps n, rowOf]

/-- Every grid point stages the first weights, transposed. -/
theorem w1_at (n : Fin cfg0.N) (f : Fin 2816) (k : Fin 1024) : (iblk m c 2 n : FVec Ideal S2816x1024 .bf16) (ix2 f k) = w1A m c k f := by
  unfold w1A
  blk_simp [iblk]
  entry_read
  pointwise
  blk_ext [maps n, rowOf]

/-- Every grid point stages the second weights, transposed. -/
theorem w3_at (n : Fin cfg0.N) (f : Fin 2816) (k : Fin 1024) : (iblk m c 3 n : FVec Ideal S2816x1024 .bf16) (ix2 f k) = w3A m c k f := by
  unfold w3A
  blk_simp [iblk]
  entry_read
  pointwise
  blk_ext [maps n, rowOf]

/-- Every grid point stages the third weights. -/
theorem w2_at (n : Fin cfg0.N) (f : Fin 2816) (k : Fin 1024) : (iblk m c 4 n : FVec Ideal S2816x1024 .bf16) (ix2 f k) = w2A m c f k := by
  unfold w2A
  blk_simp [iblk]
  entry_read
  pointwise
  blk_ext [maps n, rowOf]

/-- Every point writes its own tile of the first pre-activations. -/
theorem a_final : (dats m 0 c).arrAt 6 (cfgs 0).N = UpReferenceIdeal.Read.val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun n _ y => ?_
  blk_simp
  rw [after0_6]
  have hy : (win0_6.blk n).view.emb y = (ix2 (rowOf n (y 0)) (y 1) : S8192x2816.Idx) := by blk_ext [maps n, rowOf]
  rw [hy]
  refine Eq.trans ?_ (UpReferenceIdeal.Up.a_at (x := xA m c) (g := gA m c) (w1 := w1A m c) (fun _ _ => rfl) (fun _ => rfl) (fun _ _ => rfl) (rowOf n (y 0)) (y 1)).symm
  refine Eq.trans ?_ (a_tile (W3 := iblk m c 3 n) (x_at m c n) (g_at m c n) (w1_at m c n) (y 0) (y 1))
  unfold outsAt0; frame_out; rw [← eq_ix2]; rfl

/-- Every point writes its own tile of the second pre-activations. -/
theorem b_final : (dats m 0 c).arrAt 7 (cfgs 0).N = UpReferenceIdeal.Read.val_main_v22 (F := Ideal) (m ((c : Thread nD τ).loc main_arg0)) (m ((c : Thread nD τ).loc main_arg1)) (m ((c : Thread nD τ).loc main_arg3)) := by
  refine (dats m 0 c).arrAt_eq_of_covers 7 _ (by decide +kernel) fun n _ y => ?_
  blk_simp
  rw [after0_7]
  have hy : (win0_7.blk n).view.emb y = (ix2 (rowOf n (y 0)) (y 1) : S8192x2816.Idx) := by blk_ext [maps n, rowOf]
  rw [hy]
  refine Eq.trans ?_ (UpReferenceIdeal.Up.b_at (x := xA m c) (g := gA m c) (w3 := w3A m c) (fun _ _ => rfl) (fun _ => rfl) (fun _ _ => rfl) (rowOf n (y 0)) (y 1)).symm
  refine Eq.trans ?_ (b_tile (W1 := iblk m c 2 n) (x_at m c n) (g_at m c n) (w3_at m c n) (y 0) (y 1))
  unfold outsAt0; frame_out; rw [← eq_ix2]; rfl

/-- Every point writes its own tile of the normed rows. -/
theorem hid_final : (dats m 0 c).arrAt 8 (cfgs 0).N = UpReferenceIdeal.Read.val_main_v23 (F := Ideal) (m ((c : Thread nD τ).loc main_arg0)) (m ((c : Thread nD τ).loc main_arg1)) := by
  refine (dats m 0 c).arrAt_eq_of_covers 8 _ (by decide +kernel) fun n _ y => ?_
  blk_simp
  rw [after0_8]
  have hy : (win0_8.blk n).view.emb y = (ix2 (rowOf n (y 0)) (y 1) : S8192x1024.Idx) := by blk_ext [maps n, rowOf]
  rw [hy]
  refine Eq.trans ?_ (UpReferenceIdeal.Up.hid_at (x := xA m c) (g := gA m c) (fun _ _ => rfl) (fun _ => rfl) (rowOf n (y 0)) (y 1)).symm
  refine Eq.trans ?_ (hid_tile (x_at m c n) (g_at m c n) (y 0) (y 1))
  unfold outsAt0; frame_out; rw [← eq_ix2]

/-- The scratch holds the tile's inner activations when it is read back. -/
theorem u_read (n : Fin cfg0.N) (r : Fin 512) (f : Fin 2816) :
    View.canon (pieces (fun W V => k0_pay8 (F := Ideal) (k0_pay3 (iblk m c 0 n) (iblk m c 1 n) W) (k0_pay4 (iblk m c 0 n) (iblk m c 1 n) V) (k0_pay7 (iblk m c 0 n) (iblk m c 1 n) W))
      (iblk m c 2 n) (iblk m c 3 n)) (ix2 r f) = uE (xA m c) (gA m c) (w1A m c) (w3A m c) (rowOf n r) f :=
  u_tile (x_at m c n) (g_at m c n) (w1_at m c n) (w3_at m c n) r f

/-- Every point writes its own tile of the result. -/
theorem xo_final : (dats m 0 c).arrAt 5 (cfgs 0).N = UpReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun n _ y => ?_
  blk_simp
  rw [after0_5]
  have hy : (win0_5.blk n).view.emb y = (ix2 (rowOf n (y 0)) (y 1) : S8192x1024.Idx) := by blk_ext [maps n, rowOf]
  rw [hy]
  refine Eq.trans ?_ (UpReferenceIdeal.Up.xo_at (x := xA m c) (g := gA m c) (w1 := w1A m c) (w3 := w3A m c) (w2 := w2A m c) (fun _ _ => rfl) (fun _ => rfl) (fun _ _ => rfl) (fun _ _ => rfl) (fun _ _ => rfl) (rowOf n (y 0)) (y 1)).symm
  refine Eq.trans ?_ (xo_tile (x_at m c n) (w2_at m c n) (U := fun i => uE (xA m c) (gA m c) (w1A m c) (w3A m c) (rowOf n (i 0)) (i 1)) (fun _ _ => rfl) (y 0) (y 1))
  unfold outsAt0; frame_out
  refine (congrArg _ (eq_ix2 y)).trans ?_
  refine congrArg (fun U => k0_pay1 (F := Ideal) (iblk m c 0 n) U (iblk m c 4 n) (ix2 (y 0) (y 1))) (funext fun i => ?_)
  refine (congrArg _ (eq_ix2 i)).trans ((whole_loaded _ _ _ (i 0) (i 1)).trans ?_)
  exact u_read m c n (i 0) (i 1)

end Cert.UpKernelIdeal.Up
-- ==== Proof.UpClaim.lean ====
module

public import proofs.«01_k».proof.Defs
public import proofs.«01_k».proof.Proof.Gen.UpKernel.Frame
public import proofs.«01_k».proof.Proof.UpArrays
public import Idealize.ShloMosaic.Lib.Quiescent
public import Idealize.ShloMosaic.Lib.Claim

/-! What is claimed of the gated layer's forward call. -/

@[expose] public section

noncomputable section

namespace Cert.Proof

open Idealize.ShloMosaic Idealize.ShloMosaic.TcCoe Idealize.SL.Sem

/-- The reference runs, leaves its arguments as they were, and has no semaphore to leave raised. -/
theorem up_reference_frame (m) (ρ) : θ_run (Cert.UpReferenceIdeal.defs (F := Ideal)) (onTc (τ := Cert.UpReferenceIdeal.τ) (Cert.UpReferenceIdeal.main (F := Ideal))) ⟨m, fun _ => 0, ρ⟩
    (fun r => (∀ c : Dev Cert.UpReferenceIdeal.nD, r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0) :=
  (θ_run _ _ _).mono (fun r h => ⟨fun c => (h c).2.2.2.2, sem_eq_zero_of_no_sems rfl _⟩) (Cert.UpReferenceIdeal.Value.run m ρ)

/-- The reference's run, its results at the stages read elsewhere. -/
theorem up_reference_run (m) (ρ) : θ_run (Cert.UpReferenceIdeal.defs (F := Ideal)) (onTc (τ := Cert.UpReferenceIdeal.τ) (Cert.UpReferenceIdeal.main (F := Ideal))) ⟨m, fun _ => 0, ρ⟩
    fun r => ∀ c : Dev Cert.UpReferenceIdeal.nD, r.2.mem ((c.tc : Thread Cert.UpReferenceIdeal.nD Cert.UpReferenceIdeal.τ).loc Cert.UpReferenceIdeal.main_v20) = Cert.UpReferenceIdeal.Read.val_main_v20 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))
      ∧ r.2.mem ((c.tc : Thread Cert.UpReferenceIdeal.nD Cert.UpReferenceIdeal.τ).loc Cert.UpReferenceIdeal.main_v21) = Cert.UpReferenceIdeal.Read.val_main_v21 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2))
      ∧ r.2.mem ((c.tc : Thread Cert.UpReferenceIdeal.nD Cert.UpReferenceIdeal.τ).loc Cert.UpReferenceIdeal.main_v22) = Cert.UpReferenceIdeal.Read.val_main_v22 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg3))
      ∧ r.2.mem ((c.tc : Thread Cert.UpReferenceIdeal.nD Cert.UpReferenceIdeal.τ).loc Cert.UpReferenceIdeal.main_v23) = Cert.UpReferenceIdeal.Read.val_main_v23 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1))
      ∧ r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4) :=
  (θ_run _ _ _).mono (fun r h c => ⟨(h c).1,
    (h c).2.1,
    (h c).2.2.1,
    (h c).2.2.2.1, (h c).2.2.2.2⟩) (Cert.UpReferenceIdeal.Value.run m ρ)

set_option maxHeartbeats 4000000 in
/-- The kernel and the gated layer leave the same four arrays. -/
theorem up_algebraic : algebraic_UpKernelIdeal_UpReferenceIdeal
    (hUpKernelIdeal := Cert.UpKernelIdeal.Gen.facts) (hUpReferenceIdeal := Cert.UpReferenceIdeal.Gen.facts) := by
  pair_intro
  · run_from Cert.UpKernelIdeal.Gen.run_main m g
  · refine (θ_run _ _ _).mono (fun r h c => ?_) (up_reference_run m' g')
    have e := h c
    rw [(hagree c).1, (hagree c).2.1, (hagree c).2.2.1, (hagree c).2.2.2.1, (hagree c).2.2.2.2] at e
    refine ⟨e.1.trans (Cert.UpKernelIdeal.Up.xo_final m c).symm,
      e.2.1.trans (Cert.UpKernelIdeal.Up.a_final m c).symm,
      e.2.2.1.trans (Cert.UpKernelIdeal.Up.b_final m c).symm,
      e.2.2.2.1.trans (Cert.UpKernelIdeal.Up.hid_final m c).symm, (h c).2.2.2.2⟩

end Cert.Proof

end
-- ==== Proof.InArrays.lean ====
module

public import proofs.«01_k».proof.Proof.FwdPure
public import proofs.«01_k».proof.Proof.Gen.InKernelIdeal.Value

/-! The projecting norm's forward kernel: its result array after the run. -/

@[expose] public section

set_option maxRecDepth 16384
noncomputable section
open Idealize.ShloMosaic Idealize.ShloMosaic.TcCoe Idealize.SL.Sem
open Idealize.ShloMosaic.Pipeline (Dat)
namespace Cert.InKernelIdeal.In
open Cert.InKernelIdeal Cert.InKernelIdeal.Gen Cert.Step

variable (m : (ℓ : Loc nD τ sig) → Buf (Elt Ideal) ℓ) (c : Dev nD)

/-- The projected rows of one tile. -/
theorem p_tile {x : Fin 8192 → Fin 1024 → EReal} {g : Fin 1024 → EReal} {w : Fin 1024 → Fin 2048 → EReal} {row : Fin 1024 → Fin 8192}
    {X : FVec Ideal S1024x1024 .f32} {G : FVec Ideal S1x1024 .f32} {W : FVec Ideal S2048x1024 .bf16}
    (ex : ∀ r l, X (ix2 r l) = x (row r) l) (eg : ∀ l, G (ix2 0 l) = g l) (ew : ∀ f k, W (ix2 f k) = w k f) (r : Fin 1024) (f : Fin 2048) :
    k0_pay1 (F := Ideal) X G W (ix2 r f) = preE x g w (row r) f := by
  pointwise [k0_pay1]
  simp only [ex, eg, ew] <;> rfl

/-- Which block of its array each window stages at a grid point. -/
theorem maps : ∀ t : Fin cfg0.N, win0_0.index t = ![t.val, 0] ∧ win0_1.index t = ![0, 0] ∧ win0_2.index t = ![0, 0] ∧ win0_3.index t = ![t.val, 0]
    ∧ t.val < 8 :=
  (by decide +kernel : ∀ t : Fin grid0.N, _)

/-- A grid point's number is below 8. -/
theorem below (t : Fin cfg0.N) : t.val < 8 := (maps t).2.2.2.2

/-- The row of the array that row `r` of tile `n` is. -/
def rowOf (n : Fin cfg0.N) (r : Fin 1024) : Fin 8192 := ⟨n.val * 1024 + r, by have := below n; omega⟩

/-- The entries of the argument arrays. -/
def xA (r : Fin 8192) (l : Fin 1024) : EReal := (m ((c : Thread nD τ).loc main_arg0) : FVec Ideal S8192x1024 .f32) (ix2 r l)
@[inherit_doc xA] def gA (l : Fin 1024) : EReal := (m ((c : Thread nD τ).loc main_arg1) : FVec Ideal S1024 .f32) (ix1 l)
@[inherit_doc xA] def wA (k : Fin 1024) (f : Fin 2048) : EReal := (m ((c : Thread nD τ).loc main_arg2) : FVec Ideal S1024x2048 .f32) (ix2 k f)

/-- The activations a grid point stages are its tile of rows. -/
theorem x_at (n : Fin cfg0.N) (r : Fin 1024) (l : Fin 1024) : (iblk m c 0 n : FVec Ideal S1024x1024 .f32) (ix2 r l) = xA m c (rowOf n r) l := by
  unfold xA
  blk_simp [iblk]
  entry_read
  pointwise
  blk_ext [maps n, rowOf]

/-- Every grid point stages the whole row of gains. -/
theorem g_at (n : Fin cfg0.N) (l : Fin 1024) : (iblk m c 1 n : FVec Ideal S1x1024 .f32) (ix2 0 l) = gA m c l := by
  unfold gA
  blk_simp [iblk]
  entry_read
  pointwise
  blk_ext [maps n, rowOf]

/-- Every grid point stages the weights, transposed. -/
theorem w_at (n : Fin cfg0.N) (f : Fin 2048) (k : Fin 1024) : (iblk m c 2 n : FVec Ideal S2048x1024 .bf16) (ix2 f k) = wA m c k f := by
  unfold wA
  blk_simp [iblk]
  entry_read
  pointwise
  blk_ext [maps n, rowOf]

/-- Every point writes its own tile of the projected rows. -/
theorem p_final : (dats m 0 c).arrAt 3 (cfgs 0).N = InReferenceIdeal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun n _ y => ?_
  blk_simp
  rw [after0_3]
  have hy : (win0_3.blk n).view.emb y = (ix2 (rowOf n (y 0)) (y 1) : S8192x2048.Idx) := by blk_ext [maps n, rowOf]
  rw [hy]
  refine Eq.trans ?_ (InReferenceIdeal.In.p_at (x := xA m c) (g := gA m c) (w := wA m c) (fun _ _ => rfl) (fun _ => rfl) (fun _ _ => rfl) (rowOf n (y 0)) (y 1)).symm
  refine Eq.trans ?_ (p_tile (x_at m c n) (g_at m c n) (w_at m c n) (y 0) (y 1))
  frame_out
  rw [← eq_ix2]

end Cert.InKernelIdeal.In
-- ==== Proof.InClaim.lean ====
module

public import proofs.«01_k».proof.Defs
public import proofs.«01_k».proof.Proof.Gen.InKernel.Frame
public import proofs.«01_k».proof.Proof.InArrays
public import Idealize.ShloMosaic.Lib.Quiescent
public import Idealize.ShloMosaic.Lib.Claim

/-! What is claimed of the projecting norm's forward call. -/

@[expose] public section

noncomputable section

namespace Cert.Proof

open Idealize.ShloMosaic Idealize.ShloMosaic.TcCoe Idealize.SL.Sem

/-- The reference runs, leaves its arguments as they were, and has no semaphore to leave raised. -/
theorem in_reference_frame (m) (ρ) : θ_run (Cert.InReferenceIdeal.defs (F := Ideal)) (onTc (τ := Cert.InReferenceIdeal.τ) (Cert.InReferenceIdeal.main (F := Ideal))) ⟨m, fun _ => 0, ρ⟩
    (fun r => (∀ c : Dev Cert.InReferenceIdeal.nD, r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0) :=
  (θ_run _ _ _).mono (fun r h => ⟨fun c => (h c).2, sem_eq_zero_of_no_sems rfl _⟩) (Cert.InReferenceIdeal.Value.run m ρ)

/-- The reference's run, its results at the stages read elsewhere. -/
theorem in_reference_run (m) (ρ) : θ_run (Cert.InReferenceIdeal.defs (F := Ideal)) (onTc (τ := Cert.InReferenceIdeal.τ) (Cert.InReferenceIdeal.main (F := Ideal))) ⟨m, fun _ => 0, ρ⟩
    fun r => ∀ c : Dev Cert.InReferenceIdeal.nD, r.2.mem ((c.tc : Thread Cert.InReferenceIdeal.nD Cert.InReferenceIdeal.τ).loc Cert.InReferenceIdeal.main_v13) = Cert.InReferenceIdeal.Read.val_main_v13 (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2))
      ∧ r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2) :=
  (θ_run _ _ _).mono (fun r h c => ⟨(h c).1, (h c).2⟩) (Cert.InReferenceIdeal.Value.run m ρ)

set_option maxHeartbeats 4000000 in
/-- The kernel and the projected norm leave the same array. -/
theorem in_algebraic : algebraic_InKernelIdeal_InReferenceIdeal
    (hInKernelIdeal := Cert.InKernelIdeal.Gen.facts) (hInReferenceIdeal := Cert.InReferenceIdeal.Gen.facts) := by
  pair_intro
  · run_from Cert.InKernelIdeal.Gen.run_main m g
  · refine (θ_run _ _ _).mono (fun r h c => ?_) (in_reference_run m' g')
    have e := h c
    rw [(hagree c).1, (hagree c).2.1, (hagree c).2.2] at e
    refine ⟨e.1.trans (Cert.InKernelIdeal.In.p_final m c).symm, (h c).2⟩

end Cert.Proof

end
-- ==== Proof.DwArrays.lean ====
module

public import proofs.«01_k».proof.Proof.Gen.DwReferenceIdeal.Read
public import proofs.«01_k».proof.Proof.Gen.DwKernelIdeal.Value
public import Idealize.ShloMosaic.Lib.Pipeline.ValueKit
public import Idealize.ShloMosaic.Lib.Pointwise

/-! The product for the weights: its result array after the run. The rows' axis is contracted in four tiles of 2048, added up in a scratch
array that every half of the columns starts from zero; no finiteness is needed. -/

@[expose] public section

set_option maxRecDepth 16384
noncomputable section
open Idealize.ShloMosaic Idealize.ShloMosaic.TcCoe Idealize.SL.Sem
open Idealize.ShloMosaic.Pipeline (Dat)
namespace Cert.DwKernelIdeal.Dw
open Cert.DwKernelIdeal Cert.DwKernelIdeal.Gen

/-- The reference's entries: a column of the first array against a column of the second. -/
theorem product_at (X : FVec Ideal S8192x2816 .f32) (Y : FVec Ideal S8192x1024 .f32) (p : Fin 2816) (q : Fin 1024) :
    DwReferenceIdeal.Read.val_main_v2 (F := Ideal) X Y (ix2 p q) = ∑ r, X (ix2 r p) * Y (ix2 r q) := by
  pointwise [DwReferenceIdeal.Read.val_main_v2, DwReferenceIdeal.Read.val_main_v1, DwReferenceIdeal.Read.val_main_v0]

/-- A tile's rows added to what was there. -/
theorem part_at (O : FVec Ideal S1408x1024 .f32) (X : FVec Ideal S2048x1408 .bf16) (Y : FVec Ideal S2048x1024 .bf16) (p : Fin 1408) (q : Fin 1024) :
    k0_pay2 (F := Ideal) O X Y (ix2 p q) = O (ix2 p q) + ∑ r, X (ix2 r p) * Y (ix2 r q) := by
  pointwise [k0_pay2]

/-- The scratch starts from zero. -/
theorem start_at (p : Fin 1408) (q : Fin 1024) : k0_pay1 (F := Ideal) (ix2 p q) = 0 := by
  pointwise [k0_pay1]

variable (m : (ℓ : Loc nD τ sig) → Buf (Elt Ideal) ℓ) (c : Dev nD)

/-- Which block of its array each window stages at a grid point. -/
theorem maps : ∀ t : Fin cfg0.N, win0_0.index t = ![t.val % 4, t.val / 4] ∧ win0_1.index t = ![t.val % 4, 0] ∧ win0_2.index t = ![t.val / 4, 0]
    ∧ t.val < 8 :=
  (by decide +kernel : ∀ t : Fin grid0.N, _)

/-- A grid point's number is below 8. -/
theorem below (t : Fin cfg0.N) : t.val < 8 := (maps t).2.2.2

/-- The row of the arrays that row `r` of a point's tile is. -/
def rowOf (n : Fin cfg0.N) (r : Fin 2048) : Fin 8192 := ⟨n.val % 4 * 2048 + r, by omega⟩

/-- The column of the first array that column `p` of a point's half is. -/
def colOf (n : Fin cfg0.N) (p : Fin 1408) : Fin 2816 := ⟨n.val / 4 * 1408 + p, by have := below n; omega⟩

/-- The entries of the argument arrays. -/
def aA (r : Fin 8192) (p : Fin 2816) : EReal := (m ((c : Thread nD τ).loc main_arg0) : FVec Ideal S8192x2816 .f32) (ix2 r p)
@[inherit_doc aA] def bA (r : Fin 8192) (q : Fin 1024) : EReal := (m ((c : Thread nD τ).loc main_arg1) : FVec Ideal S8192x1024 .f32) (ix2 r q)

/-- A point stages its rows of its half of the first array's columns. -/
theorem a_at (n : Fin cfg0.N) (r : Fin 2048) (p : Fin 1408) : (iblk m c 0 n : FVec Ideal S2048x1408 .bf16) (ix2 r p) = aA m c (rowOf n r) (colOf n p) := by
  unfold aA
  blk_simp [iblk]
  entry_read
  pointwise
  blk_ext [maps n, rowOf, colOf]

/-- A point stages its rows of the second array. -/
theorem b_at (n : Fin cfg0.N) (r : Fin 2048) (q : Fin 1024) : (iblk m c 1 n : FVec Ideal S2048x1024 .bf16) (ix2 r q) = bA m c (rowOf n r) q := by
  unfold bA
  blk_simp [iblk]
  entry_read
  pointwise
  blk_ext [maps n, rowOf, colOf]

/-- What a point's rows add to an entry of the product. -/
def part (n : Fin cfg0.N) (j : S1408x1024.Idx) : EReal := ∑ r, aA m c (rowOf n r) (colOf n (j 0)) * bA m c (rowOf n r) (j 1)

/-- The body's step at an entry. -/
theorem step_at (n : Fin cfg0.N) (O : FVec Ideal S1408x1024 .f32) (p : Fin 1408) (q : Fin 1024) :
    k0_pay2 (F := Ideal) O (iblk m c 0 n) (iblk m c 1 n) (ix2 p q) = O (ix2 p q) + part m c n (ix2 p q) := by
  rw [part_at]
  simp only [a_at, b_at]
  rfl

/-- The points of the half that a point is in. -/
def pointOf (n : Fin cfg0.N) (s : Fin 4) : Fin cfg0.N :=
  ⟨4 * (n.val / 4) + s.val, lt_of_lt_of_eq (by have := below n; have := s.isLt; omega : 4 * (n.val / 4) + s.val < 8) N_0.symm⟩

/-- After the last of a half's points the scratch is the sum of the four points' parts. -/
theorem scratch_at (n : Fin cfg0.N) (h : n.val % 4 = 4 - 1) (j : S1408x1024.Idx) :
    (outsAt0 m c n.val n.isLt).2 j = (0 : EReal) + ∑ s : Fin 4, part m c (pointOf n s) j :=
  Pipeline.eq_sum_fin_of_reset_step_apply_of_flush (fun n h => (outsAt0 m c n h).2) 4 (fun _ => (0 : EReal)) (part m c)
    (fun n h0 j => by
      rw [outsAt0_A m c n h0 (by omega)]; frame_out; idx_vars j
      exact (step_at m c n _ _ _).trans (congrArg (· + _) (start_at _ _)))
    (fun n h0 j => by
      by_cases h1 : n.val % 4 = 3
      · rw [outsAt0_C m c n h0 h1]; frame_out; idx_vars j
        refine Eq.trans (congrArg (fun O => k0_pay2 (F := Ideal) O (iblk m c 0 n) (iblk m c 1 n) (ix2 j0 j1)) ?_) (step_at m c n _ j0 j1)
        exact Memref.IsWhole.read_unread (Memref.isWhole_whole cc0_scratch0) _
      · rw [outsAt0_B m c n h0 h1]; frame_out; idx_vars j
        refine Eq.trans (congrArg (fun O => k0_pay2 (F := Ideal) O (iblk m c 0 n) (iblk m c 1 n) (ix2 j0 j1)) ?_) (step_at m c n _ j0 j1)
        exact Memref.IsWhole.read_unread (Memref.isWhole_whole cc0_scratch0) _) n h j

/-- The four points' parts are the whole column's. -/
theorem parts_sum (n : Fin cfg0.N) (p : Fin 1408) (q : Fin 1024) :
    ∑ s : Fin 4, part m c (pointOf n s) (ix2 p q)
      = ∑ r, aA m c r (colOf n p) * bA m c r q := by
  unfold part
  refine Fin.sum_mul_add_congr fun s k hl => ?_
  have hs := s.isLt
  have er : rowOf (pointOf n s) k = ⟨s.val * 2048 + k.val, hl⟩ :=
    Fin.ext (by show (4 * (n.val / 4) + s.val) % 4 * 2048 + k.val = s.val * 2048 + k.val; omega)
  have ec : colOf (pointOf n s) p = colOf n p :=
    Fin.ext (by show (4 * (n.val / 4) + s.val) / 4 * 1408 + p.val = n.val / 4 * 1408 + p.val; omega)
  exact congrArg₂ (· * ·) (congrArg₂ (aA m c) er ec) (congrArg (bA m c · q) er)

/-- The last of a half's points writes that half of the product. -/
theorem w_final : (dats m 0 c).arrAt 2 (cfgs 0).N = DwReferenceIdeal.Read.val_main_v2 (F := Ideal) (m ((c : Thread nD τ).loc main_arg0)) (m ((c : Thread nD τ).loc main_arg1)) := by
  refine (dats m 0 c).arrAt_eq_of_covers 2 _ (by decide +kernel) fun n hf y => ?_
  have h1 : n.val % 4 = 3 := (flush0_2 n).mp hf
  blk_simp
  rw [after0_2]
  have hy : (win0_2.blk n).view.emb y = (ix2 (colOf n (y 0)) (y 1) : S2816x1024.Idx) := by blk_ext [maps n, colOf]
  rw [hy]
  refine Eq.trans ?_ (product_at _ _ (colOf n (y 0)) (y 1)).symm
  refine Eq.trans ?_ (parts_sum m c n (y 0) (y 1))
  refine Eq.trans ?_ (((congrArg _ (eq_ix2 y)).trans (scratch_at m c n h1 (ix2 (y 0) (y 1)))).trans (zero_add _))
  rw [outsAt0_C m c n (by omega) h1]; frame_out
  rfl

end Cert.DwKernelIdeal.Dw
-- ==== Proof.DwClaim.lean ====
module

public import proofs.«01_k».proof.Defs
public import proofs.«01_k».proof.Proof.Gen.DwKernel.Frame
public import proofs.«01_k».proof.Proof.DwArrays
public import Idealize.ShloMosaic.Lib.Quiescent
public import Idealize.ShloMosaic.Lib.Claim

/-! What is claimed of the product for the weights. -/

@[expose] public section

noncomputable section

namespace Cert.Proof

open Idealize.ShloMosaic Idealize.ShloMosaic.TcCoe Idealize.SL.Sem

/-- The reference runs, leaves its arguments as they were, and has no semaphore to leave raised. -/
theorem dw_reference_frame (m) (ρ) : θ_run (Cert.DwReferenceIdeal.defs (F := Ideal)) (onTc (τ := Cert.DwReferenceIdeal.τ) (Cert.DwReferenceIdeal.main (F := Ideal))) ⟨m, fun _ => 0, ρ⟩
    (fun r => (∀ c : Dev Cert.DwReferenceIdeal.nD, r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0) :=
  (θ_run _ _ _).mono (fun r h => ⟨fun c => (h c).2, sem_eq_zero_of_no_sems rfl _⟩) (Cert.DwReferenceIdeal.Value.run m ρ)

/-- The reference's run, its results at the stages read elsewhere. -/
theorem dw_reference_run (m) (ρ) : θ_run (Cert.DwReferenceIdeal.defs (F := Ideal)) (onTc (τ := Cert.DwReferenceIdeal.τ) (Cert.DwReferenceIdeal.main (F := Ideal))) ⟨m, fun _ => 0, ρ⟩
    fun r => ∀ c : Dev Cert.DwReferenceIdeal.nD, r.2.mem ((c.tc : Thread Cert.DwReferenceIdeal.nD Cert.DwReferenceIdeal.τ).loc Cert.DwReferenceIdeal.main_v2) = Cert.DwReferenceIdeal.Read.val_main_v2 (F := Ideal) (m ((c.tc : Thread Cert.DwReferenceIdeal.nD Cert.DwReferenceIdeal.τ).loc Cert.DwReferenceIdeal.main_arg0)) (m ((c.tc : Thread Cert.DwReferenceIdeal.nD Cert.DwReferenceIdeal.τ).loc Cert.DwReferenceIdeal.main_arg1))
      ∧ r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1) :=
  (θ_run _ _ _).mono (fun r h c => ⟨(h c).1, (h c).2⟩) (Cert.DwReferenceIdeal.Value.run m ρ)

set_option maxHeartbeats 4000000 in
/-- The kernel and the product of the transposed first argument with the second leave the same array. -/
theorem dw_algebraic : algebraic_DwKernelIdeal_DwReferenceIdeal
    (hDwKernelIdeal := Cert.DwKernelIdeal.Gen.facts) (hDwReferenceIdeal := Cert.DwReferenceIdeal.Gen.facts) := by
  pair_intro
  · run_from Cert.DwKernelIdeal.Gen.run_main m g
  · refine (θ_run _ _ _).mono (fun r h c => ?_) (dw_reference_run m' g')
    have e := h c
    rw [(hagree c).1, (hagree c).2] at e
    refine ⟨e.1.trans (Cert.DwKernelIdeal.Dw.w_final m c).symm, (h c).2⟩

end Cert.Proof

end
-- ==== Proof.AdamArrays.lean ====
module

public import proofs.«01_k».proof.Proof.Gen.AdamReferenceIdeal.Read
public import proofs.«01_k».proof.Proof.Gen.AdamKernelIdeal.Value
public import Idealize.ShloMosaic.Lib.Pipeline.ValueKit
public import Idealize.ShloMosaic.Lib.Pointwise

/-! The optimiser's step: its three result arrays after the run. Every point takes an eighth of the rows, and an entry of a result depends on that
entry of the arguments alone. -/

@[expose] public section

set_option maxRecDepth 16384
noncomputable section
open Idealize.ShloMosaic Idealize.ShloMosaic.TcCoe Idealize.SL.Sem
open Idealize.ShloMosaic.Pipeline (Dat)
namespace Cert.AdamKernelIdeal.Adam
open Cert.AdamKernelIdeal Cert.AdamKernelIdeal.Gen

/-- The first moment after the step. -/
def meanE (g u : EReal) : EReal := Ideal.ofBits .f32 0x3F666666#32 * u + Ideal.ofBits .f32 0x3DCCCCCD#32 * g

/-- The second moment after the step. -/
def squareE (g s : EReal) : EReal := Ideal.ofBits .f32 0x3F7FBE77#32 * s + Ideal.ofBits .f32 0x3A83126F#32 * (g * g)

/-- The change of the weight. -/
def changeE (w g u s : EReal) : EReal :=
  Ideal.ofBits .f32 0xBA83126F#32 * (Ideal.div (Ideal.div (meanE g u) (Ideal.ofBits .f32 0x3F26BD02#32))
    (Ideal.sqrt (Ideal.div (squareE g s) (Ideal.ofBits .f32 0x3C231ACC#32)) + Ideal.ofBits .f32 0x322BCC77#32) + Ideal.ofBits .f32 0x3C23D70A#32 * w)

section
variable (W G U S : FVec Ideal S2816x1024 .f32) (p : Fin 2816) (q : Fin 1024)

/-- The reference's first moment. -/
theorem ref_mean : AdamReferenceIdeal.Read.val_main_v4 (F := Ideal) G U (ix2 p q) = meanE (G (ix2 p q)) (U (ix2 p q)) := by
  pointwise [AdamReferenceIdeal.Read.val_main_v4, AdamReferenceIdeal.Read.val_main_v3, AdamReferenceIdeal.Read.val_main_v2, AdamReferenceIdeal.Read.val_main_v1, AdamReferenceIdeal.Read.val_main_v0, AdamReferenceIdeal.Read.val_main_cst, AdamReferenceIdeal.Read.val_main_cst_0]
  rfl

/-- The reference's second moment. -/
theorem ref_square : AdamReferenceIdeal.Read.val_main_v10 (F := Ideal) G S (ix2 p q) = squareE (G (ix2 p q)) (S (ix2 p q)) := by
  pointwise [AdamReferenceIdeal.Read.val_main_v10, AdamReferenceIdeal.Read.val_main_v9, AdamReferenceIdeal.Read.val_main_v8, AdamReferenceIdeal.Read.val_main_v7, AdamReferenceIdeal.Read.val_main_v6, AdamReferenceIdeal.Read.val_main_v5, AdamReferenceIdeal.Read.val_main_cst_1, AdamReferenceIdeal.Read.val_main_cst_2]
  rfl

/-- The reference's change of the weight. -/
theorem ref_change : AdamReferenceIdeal.Read.val_main_v23 (F := Ideal) W G U S (ix2 p q) = changeE (W (ix2 p q)) (G (ix2 p q)) (U (ix2 p q)) (S (ix2 p q)) := by
  pointwise [AdamReferenceIdeal.Read.val_main_v23, AdamReferenceIdeal.Read.val_main_v22, AdamReferenceIdeal.Read.val_main_v21, AdamReferenceIdeal.Read.val_main_v20, AdamReferenceIdeal.Read.val_main_v19, AdamReferenceIdeal.Read.val_main_v18, AdamReferenceIdeal.Read.val_main_v17, AdamReferenceIdeal.Read.val_main_v16, AdamReferenceIdeal.Read.val_main_v15, AdamReferenceIdeal.Read.val_main_v14, AdamReferenceIdeal.Read.val_main_v13, AdamReferenceIdeal.Read.val_main_v12, AdamReferenceIdeal.Read.val_main_v11, AdamReferenceIdeal.Read.val_main_cst_3, AdamReferenceIdeal.Read.val_main_cst_4, AdamReferenceIdeal.Read.val_main_cst_5, AdamReferenceIdeal.Read.val_main_cst_6, AdamReferenceIdeal.Read.val_main_cst_7]
  simp only [ref_mean, ref_square] <;> rfl

end

section
variable {w g u s : EReal} {W G U S : FVec Ideal S352x1024 .f32} {p : Fin 352} {q : Fin 1024}
variable (ew : W (ix2 p q) = w) (eg : G (ix2 p q) = g) (eu : U (ix2 p q) = u) (es : S (ix2 p q) = s)

include eg eu in
/-- The body's first moment. -/
theorem mean_tile : k0_pay1 (F := Ideal) G U (ix2 p q) = meanE g u := by
  subst eg eu
  pointwise [k0_pay1]
  rfl

include eg es in
/-- The body's second moment. -/
theorem square_tile : k0_pay2 (F := Ideal) G S (ix2 p q) = squareE g s := by
  subst eg es
  pointwise [k0_pay2]
  rfl

include ew eg eu es in
/-- The body's change of the weight. -/
theorem change_tile : k0_pay3 (F := Ideal) G W U S (ix2 p q) = changeE w g u s := by
  pointwise [k0_pay3]
  rw [mean_tile eg eu, square_tile eg es, ew]
  rfl

end

variable (m : (ℓ : Loc nD τ sig) → Buf (Elt Ideal) ℓ) (c : Dev nD)

/-- Which block of its array each window stages at a grid point. -/
theorem maps : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ t.val < 8 :=
  (by decide +kernel : ∀ t : Fin grid0.N, _)

/-- A grid point's number is below 8. -/
theorem below (t : Fin cfg0.N) : t.val < 8 := (maps t).2.2.2.2.2.2.2

/-- The row of the array that row `r` of tile `n` is. -/
def rowOf (n : Fin cfg0.N) (r : Fin 352) : Fin 2816 := ⟨n.val * 352 + r, by have := below n; omega⟩

/-- A grid point stages its rows of the weights. -/
theorem w_at (n : Fin cfg0.N) (r : Fin 352) (l : Fin 1024) : (iblk m c 0 n : FVec Ideal S352x1024 .f32) (ix2 r l)
    = (m ((c : Thread nD τ).loc main_arg0) : FVec Ideal S2816x1024 .f32) (ix2 (rowOf n r) l) := by
  blk_simp [iblk]
  entry_read
  blk_ext [maps n, rowOf]

/-- A grid point stages its rows of the gradient. -/
theorem g_at (n : Fin cfg0.N) (r : Fin 352) (l : Fin 1024) : (iblk m c 1 n : FVec Ideal S352x1024 .f32) (ix2 r l)
    = (m ((c : Thread nD τ).loc main_arg1) : FVec Ideal S2816x1024 .f32) (ix2 (rowOf n r) l) := by
  blk_simp [iblk]
  entry_read
  blk_ext [maps n, rowOf]

/-- A grid point stages its rows of the first moments. -/
theorem u_at (n : Fin cfg0.N) (r : Fin 352) (l : Fin 1024) : (iblk m c 2 n : FVec Ideal S352x1024 .f32) (ix2 r l)
    = (m ((c : Thread nD τ).loc main_arg2) : FVec Ideal S2816x1024 .f32) (ix2 (rowOf n r) l) := by
  blk_simp [iblk]
  entry_read
  blk_ext [maps n, rowOf]

/-- A grid point stages its rows of the second moments. -/
theorem s_at (n : Fin cfg0.N) (r : Fin 352) (l : Fin 1024) : (iblk m c 3 n : FVec Ideal S352x1024 .f32) (ix2 r l)
    = (m ((c : Thread nD τ).loc main_arg3) : FVec Ideal S2816x1024 .f32) (ix2 (rowOf n r) l) := by
  blk_simp [iblk]
  entry_read
  blk_ext [maps n, rowOf]

/-- Every point writes its own rows of the changes of the weights. -/
theorem change_final : (dats m 0 c).arrAt 4 (cfgs 0).N = AdamReferenceIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun n _ y => ?_
  blk_simp
  rw [after0_4]
  have hy : (win0_4.blk n).view.emb y = (ix2 (rowOf n (y 0)) (y 1) : S2816x1024.Idx) := by blk_ext [maps n, rowOf]
  rw [hy]
  refine Eq.trans ?_ (ref_change _ _ _ _ (rowOf n (y 0)) (y 1)).symm
  refine Eq.trans ?_ (change_tile (w_at m c n (y 0) (y 1)) (g_at m c n (y 0) (y 1)) (u_at m c n (y 0) (y 1)) (s_at m c n (y 0) (y 1)))
  frame_out; rw [← eq_ix2]

/-- Every point writes its own rows of the first moments. -/
theorem mean_final : (dats m 0 c).arrAt 5 (cfgs 0).N = AdamReferenceIdeal.Read.val_main_v4 (F := Ideal) (m ((c : Thread nD τ).loc main_arg1)) (m ((c : Thread nD τ).loc main_arg2)) := by
  refine (dats m 0 c).arrAt_eq_of_covers 5 _ (by decide +kernel) fun n _ y => ?_
  blk_simp
  rw [after0_5]
  have hy : (win0_5.blk n).view.emb y = (ix2 (rowOf n (y 0)) (y 1) : S2816x1024.Idx) := by blk_ext [maps n, rowOf]
  rw [hy]
  refine Eq.trans ?_ (ref_mean _ _ (rowOf n (y 0)) (y 1)).symm
  refine Eq.trans ?_ (mean_tile (g_at m c n (y 0) (y 1)) (u_at m c n (y 0) (y 1)))
  frame_out; rw [← eq_ix2]

/-- Every point writes its own rows of the second moments. -/
theorem square_final : (dats m 0 c).arrAt 6 (cfgs 0).N = AdamReferenceIdeal.Read.val_main_v10 (F := Ideal) (m ((c : Thread nD τ).loc main_arg1)) (m ((c : Thread nD τ).loc main_arg3)) := by
  refine (dats m 0 c).arrAt_eq_of_covers 6 _ (by decide +kernel) fun n _ y => ?_
  blk_simp
  rw [after0_6]
  have hy : (win0_6.blk n).view.emb y = (ix2 (rowOf n (y 0)) (y 1) : S2816x1024.Idx) := by blk_ext [maps n, rowOf]
  rw [hy]
  refine Eq.trans ?_ (ref_square _ _ (rowOf n (y 0)) (y 1)).symm
  refine Eq.trans ?_ (square_tile (g_at m c n (y 0) (y 1)) (s_at m c n (y 0) (y 1)))
  frame_out; rw [← eq_ix2]

end Cert.AdamKernelIdeal.Adam
-- ==== Proof.AdamClaim.lean ====
module

public import proofs.«01_k».proof.Defs
public import proofs.«01_k».proof.Proof.Gen.AdamKernel.Frame
public import proofs.«01_k».proof.Proof.AdamArrays
public import Idealize.ShloMosaic.Lib.Quiescent
public import Idealize.ShloMosaic.Lib.Claim

/-! What is claimed of the optimiser's step. -/

@[expose] public section

noncomputable section

namespace Cert.Proof

open Idealize.ShloMosaic Idealize.ShloMosaic.TcCoe Idealize.SL.Sem

/-- The reference's run, its results at the stages read elsewhere. -/
theorem adam_reference_run (m) (ρ) : θ_run (Cert.AdamReferenceIdeal.defs (F := Ideal)) (onTc (τ := Cert.AdamReferenceIdeal.τ) (Cert.AdamReferenceIdeal.main (F := Ideal))) ⟨m, fun _ => 0, ρ⟩
    fun r => ∀ c : Dev Cert.AdamReferenceIdeal.nD, r.2.mem ((c.tc : Thread Cert.AdamReferenceIdeal.nD Cert.AdamReferenceIdeal.τ).loc Cert.AdamReferenceIdeal.main_v23) = Cert.AdamReferenceIdeal.Read.val_main_v23 (F := Ideal) (m ((c.tc : Thread Cert.AdamReferenceIdeal.nD Cert.AdamReferenceIdeal.τ).loc Cert.AdamReferenceIdeal.main_arg0)) (m ((c.tc : Thread Cert.AdamReferenceIdeal.nD Cert.AdamReferenceIdeal.τ).loc Cert.AdamReferenceIdeal.main_arg1)) (m ((c.tc : Thread Cert.AdamReferenceIdeal.nD Cert.AdamReferenceIdeal.τ).loc Cert.AdamReferenceIdeal.main_arg2)) (m ((c.tc : Thread Cert.AdamReferenceIdeal.nD Cert.AdamReferenceIdeal.τ).loc Cert.AdamReferenceIdeal.main_arg3))
      ∧ r.2.mem ((c.tc : Thread Cert.AdamReferenceIdeal.nD Cert.AdamReferenceIdeal.τ).loc Cert.AdamReferenceIdeal.main_v4) = Cert.AdamReferenceIdeal.Read.val_main_v4 (F := Ideal) (m ((c.tc : Thread Cert.AdamReferenceIdeal.nD Cert.AdamReferenceIdeal.τ).loc Cert.AdamReferenceIdeal.main_arg1)) (m ((c.tc : Thread Cert.AdamReferenceIdeal.nD Cert.AdamReferenceIdeal.τ).loc Cert.AdamReferenceIdeal.main_arg2))
      ∧ r.2.mem ((c.tc : Thread Cert.AdamReferenceIdeal.nD Cert.AdamReferenceIdeal.τ).loc Cert.AdamReferenceIdeal.main_v10) = Cert.AdamReferenceIdeal.Read.val_main_v10 (F := Ideal) (m ((c.tc : Thread Cert.AdamReferenceIdeal.nD Cert.AdamReferenceIdeal.τ).loc Cert.AdamReferenceIdeal.main_arg1)) (m ((c.tc : Thread Cert.AdamReferenceIdeal.nD Cert.AdamReferenceIdeal.τ).loc Cert.AdamReferenceIdeal.main_arg3))
      ∧ r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3) :=
  (θ_run _ _ _).mono (fun r h c => ⟨(h c).1, (h c).2.1, (h c).2.2.1, (h c).2.2.2⟩) (Cert.AdamReferenceIdeal.Value.run m ρ)

/-- The reference runs, leaves its arguments as they were, and has no semaphore to leave raised. -/
theorem adam_reference_frame (m) (ρ) : θ_run (Cert.AdamReferenceIdeal.defs (F := Ideal)) (onTc (τ := Cert.AdamReferenceIdeal.τ) (Cert.AdamReferenceIdeal.main (F := Ideal))) ⟨m, fun _ => 0, ρ⟩
    (fun r => (∀ c : Dev Cert.AdamReferenceIdeal.nD, r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0) :=
  (θ_run _ _ _).mono (fun r h => ⟨fun c => (h c).2.2.2, sem_eq_zero_of_no_sems rfl _⟩) (adam_reference_run m ρ)

set_option maxHeartbeats 4000000 in
/-- The kernel and the optimiser's step leave the same three arrays. -/
theorem adam_algebraic : algebraic_AdamKernelIdeal_AdamReferenceIdeal
    (hAdamKernelIdeal := Cert.AdamKernelIdeal.Gen.facts) (hAdamReferenceIdeal := Cert.AdamReferenceIdeal.Gen.facts) := by
  pair_intro
  · run_from Cert.AdamKernelIdeal.Gen.run_main m g
  · refine (θ_run _ _ _).mono (fun r h c => ?_) (adam_reference_run m' g')
    have e := h c
    rw [(hagree c).1, (hagree c).2.1, (hagree c).2.2.1, (hagree c).2.2.2] at e
    refine ⟨e.1.trans (Cert.AdamKernelIdeal.Adam.change_final m c).symm, e.2.1.trans (Cert.AdamKernelIdeal.Adam.mean_final m c).symm,
      e.2.2.1.trans (Cert.AdamKernelIdeal.Adam.square_final m c).symm, (h c).2.2.2⟩

end Cert.Proof

end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.LossClaim
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FfnClaim
public import proofs.«01_k».proof.Proof.Gen.MixerKernel
public import proofs.«01_k».proof.Proof.Gen.MixerKernel.Skeleton
public import proofs.«01_k».proof.Proof.Gen.MixerKernel.Launch
public import proofs.«01_k».proof.Proof.Gen.MixerKernel.Points
public import proofs.«01_k».proof.Proof.Gen.MixerKernel.Frame
public import proofs.«01_k».proof.Proof.Gen.MixerKernelIdeal
public import proofs.«01_k».proof.Proof.Gen.MixerKernelIdeal.Skeleton
public import proofs.«01_k».proof.Proof.Gen.MixerKernelIdeal.Launch
public import proofs.«01_k».proof.Proof.Gen.MixerKernelIdeal.Points
public import proofs.«01_k».proof.Proof.Gen.MixerKernelIdeal.Frame
public import proofs.«01_k».proof.Proof.Gen.MixerKernelIdeal.Value
public import proofs.«01_k».proof.Proof.Gen.MixerReferenceIdeal
public import proofs.«01_k».proof.Proof.Gen.MixerReferenceIdeal.Run
public import proofs.«01_k».proof.Proof.Gen.MixerReferenceIdeal.Read
public import proofs.«01_k».proof.Proof.MixerClaim
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.ProjClaim
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.UpClaim
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.InClaim
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwKernelIdeal.Value
public import proofs.«01_k».proof.Proof.Gen.DwReferenceIdeal
public import proofs.«01_k».proof.Proof.Gen.DwReferenceIdeal.Run
public import proofs.«01_k».proof.Proof.Gen.DwReferenceIdeal.Read
public import proofs.«01_k».proof.Proof.DwClaim
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamKernelIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.AdamClaim
public import Idealize.ShloMosaic.Adequacy
public import Idealize.ShloMosaic.Init

@[expose] public section

noncomputable section

namespace Cert.Proof

open Idealize.ShloMosaic Idealize.SL.Sem

/-- Everything stated holds. -/
theorem claim : Cert.Claim := ⟨Cert.LossKernel.Gen.facts, Cert.LossKernelIdeal.Gen.facts, Cert.LossReferenceIdeal.Gen.facts,
  Cert.FfnKernel.Gen.facts, Cert.FfnKernelIdeal.Gen.facts, Cert.FfnReferenceIdeal.Gen.facts,
  Cert.MixerKernel.Gen.facts, Cert.MixerKernelIdeal.Gen.facts, Cert.MixerReferenceIdeal.Gen.facts,
  Cert.ProjKernel.Gen.facts, Cert.ProjKernelIdeal.Gen.facts, Cert.ProjReferenceIdeal.Gen.facts,
  Cert.UpKernel.Gen.facts, Cert.UpKernelIdeal.Gen.facts, Cert.UpReferenceIdeal.Gen.facts,
  Cert.InKernel.Gen.facts, Cert.InKernelIdeal.Gen.facts, Cert.InReferenceIdeal.Gen.facts,
  Cert.DwKernel.Gen.facts, Cert.DwKernelIdeal.Gen.facts, Cert.DwReferenceIdeal.Gen.facts,
  Cert.AdamKernel.Gen.facts, Cert.AdamKernelIdeal.Gen.facts, Cert.AdamReferenceIdeal.Gen.facts,
  preFacts, ffnPreFacts, mixerPreFacts, projPreFacts,
  fun m ρ _ => Cert.LossKernel.Gen.frame m ρ,
  fun m ρ _ => Cert.LossKernelIdeal.Gen.frame m ρ,
  fun m ρ _ => Cert.LossKernelIdeal.Gen.frame m ρ,
  fun m ρ _ => loss_reference_frame m ρ,
  fun m ρ _ => loss_reference_frame m ρ,
  fun m ρ _ => Cert.FfnKernel.Gen.frame m ρ,
  fun m ρ _ => Cert.FfnKernelIdeal.Gen.frame m ρ,
  fun m ρ _ => Cert.FfnKernelIdeal.Gen.frame m ρ,
  fun m ρ _ => ffn_reference_frame m ρ,
  fun m ρ _ => ffn_reference_frame m ρ,
  fun m ρ _ => Cert.MixerKernel.Gen.frame m ρ,
  fun m ρ _ => Cert.MixerKernelIdeal.Gen.frame m ρ,
  fun m ρ _ => Cert.MixerKernelIdeal.Gen.frame m ρ,
  fun m ρ _ => mixer_reference_frame m ρ,
  fun m ρ _ => mixer_reference_frame m ρ,
  fun m ρ _ => Cert.ProjKernel.Gen.frame m ρ,
  fun m ρ _ => Cert.ProjKernelIdeal.Gen.frame m ρ,
  fun m ρ _ => Cert.ProjKernelIdeal.Gen.frame m ρ,
  fun m ρ _ => proj_reference_frame m ρ,
  fun m ρ _ => proj_reference_frame m ρ,
  fun m ρ _ => Cert.UpKernel.Gen.frame m ρ,
  fun m ρ _ => Cert.UpKernelIdeal.Gen.frame m ρ,
  fun m ρ _ => up_reference_frame m ρ,
  fun m ρ _ => Cert.InKernel.Gen.frame m ρ,
  fun m ρ _ => Cert.InKernelIdeal.Gen.frame m ρ,
  fun m ρ _ => in_reference_frame m ρ,
  fun m ρ _ => Cert.DwKernel.Gen.frame m ρ,
  fun m ρ _ => Cert.DwKernelIdeal.Gen.frame m ρ,
  fun m ρ _ => dw_reference_frame m ρ,
  fun m ρ _ => Cert.AdamKernel.Gen.frame m ρ,
  fun m ρ _ => Cert.AdamKernelIdeal.Gen.frame m ρ,
  fun m ρ _ => adam_reference_frame m ρ,
  trivial,
  loss_algebraic,
  trivial,
  ffn_algebraic,
  trivial,
  mixer_algebraic,
  trivial,
  proj_algebraic,
  trivial,
  up_algebraic,
  trivial,
  in_algebraic,
  trivial,
  dw_algebraic,
  trivial,
  adam_algebraic⟩

end Cert.Proof

end
